-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_UpMm (m : (ℓ : Loc Cert.UpMm.nD Cert.UpMm.τ Cert.UpMm.sig) → Buf (Elt Bits) ℓ) : Prop :=
  True

def Pre_UpMmIdeal (m : (ℓ : Loc Cert.UpMmIdeal.nD Cert.UpMmIdeal.τ Cert.UpMmIdeal.sig) → Buf (Elt Ideal) ℓ) : Prop :=
  True

def Pre_UpMmRefIdeal (m : (ℓ : Loc Cert.UpMmRefIdeal.nD Cert.UpMmRefIdeal.τ Cert.UpMmRefIdeal.sig) → Buf (Elt Ideal) ℓ) : Prop :=
  True

def Pre_DownMm (m : (ℓ : Loc Cert.DownMm.nD Cert.DownMm.τ Cert.DownMm.sig) → Buf (Elt Bits) ℓ) : Prop :=
  True

def Pre_DownMmIdeal (m : (ℓ : Loc Cert.DownMmIdeal.nD Cert.DownMmIdeal.τ Cert.DownMmIdeal.sig) → Buf (Elt Ideal) ℓ) : Prop :=
  True

def Pre_DownMmRefIdeal (m : (ℓ : Loc Cert.DownMmRefIdeal.nD Cert.DownMmRefIdeal.τ Cert.DownMmRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_In0Mm (m : (ℓ : Loc Cert.In0Mm.nD Cert.In0Mm.τ Cert.In0Mm.sig) → Buf (Elt Bits) ℓ) : Prop :=
  True

def Pre_In0MmIdeal (m : (ℓ : Loc Cert.In0MmIdeal.nD Cert.In0MmIdeal.τ Cert.In0MmIdeal.sig) → Buf (Elt Ideal) ℓ) : Prop :=
  True

def Pre_In0MmRefIdeal (m : (ℓ : Loc Cert.In0MmRefIdeal.nD Cert.In0MmRefIdeal.τ Cert.In0MmRefIdeal.sig) → Buf (Elt Ideal) ℓ) : Prop :=
  True

def Pre_In0Dw (m : (ℓ : Loc Cert.In0Dw.nD Cert.In0Dw.τ Cert.In0Dw.sig) → Buf (Elt Bits) ℓ) : Prop :=
  True

def Pre_In0DwIdeal (m : (ℓ : Loc Cert.In0DwIdeal.nD Cert.In0DwIdeal.τ Cert.In0DwIdeal.sig) → Buf (Elt Ideal) ℓ) : Prop :=
  True

def Pre_In0DwRefIdeal (m : (ℓ : Loc Cert.In0DwRefIdeal.nD Cert.In0DwRefIdeal.τ Cert.In0DwRefIdeal.sig) → Buf (Elt Ideal) ℓ) : Prop :=
  True

def Pre_In0Dx (m : (ℓ : Loc Cert.In0Dx.nD Cert.In0Dx.τ Cert.In0Dx.sig) → Buf (Elt Bits) ℓ) : Prop :=
  True

def Pre_In0DxIdeal (m : (ℓ : Loc Cert.In0DxIdeal.nD Cert.In0DxIdeal.τ Cert.In0DxIdeal.sig) → Buf (Elt Ideal) ℓ) : Prop :=
  True

def Pre_In0DxRefIdeal (m : (ℓ : Loc Cert.In0DxRefIdeal.nD Cert.In0DxRefIdeal.τ Cert.In0DxRefIdeal.sig) → Buf (Elt Ideal) ℓ) : Prop :=
  True

def Pre_In1Mm (m : (ℓ : Loc Cert.In1Mm.nD Cert.In1Mm.τ Cert.In1Mm.sig) → Buf (Elt Bits) ℓ) : Prop :=
  True

def Pre_In1MmIdeal (m : (ℓ : Loc Cert.In1MmIdeal.nD Cert.In1MmIdeal.τ Cert.In1MmIdeal.sig) → Buf (Elt Ideal) ℓ) : Prop :=
  True

def Pre_In1MmRefIdeal (m : (ℓ : Loc Cert.In1MmRefIdeal.nD Cert.In1MmRefIdeal.τ Cert.In1MmRefIdeal.sig) → Buf (Elt Ideal) ℓ) : Prop :=
  True

def Pre_In1Dw (m : (ℓ : Loc Cert.In1Dw.nD Cert.In1Dw.τ Cert.In1Dw.sig) → Buf (Elt Bits) ℓ) : Prop :=
  True

def Pre_In1DwIdeal (m : (ℓ : Loc Cert.In1DwIdeal.nD Cert.In1DwIdeal.τ Cert.In1DwIdeal.sig) → Buf (Elt Ideal) ℓ) : Prop :=
  True

def Pre_In1DwRefIdeal (m : (ℓ : Loc Cert.In1DwRefIdeal.nD Cert.In1DwRefIdeal.τ Cert.In1DwRefIdeal.sig) → Buf (Elt Ideal) ℓ) : Prop :=
  True

def Pre_In1Dx (m : (ℓ : Loc Cert.In1Dx.nD Cert.In1Dx.τ Cert.In1Dx.sig) → Buf (Elt Bits) ℓ) : Prop :=
  True

def Pre_In1DxIdeal (m : (ℓ : Loc Cert.In1DxIdeal.nD Cert.In1DxIdeal.τ Cert.In1DxIdeal.sig) → Buf (Elt Ideal) ℓ) : Prop :=
  True

def Pre_In1DxRefIdeal (m : (ℓ : Loc Cert.In1DxRefIdeal.nD Cert.In1DxRefIdeal.τ Cert.In1DxRefIdeal.sig) → Buf (Elt Ideal) ℓ) : Prop :=
  True

def Pre_OutMm (m : (ℓ : Loc Cert.OutMm.nD Cert.OutMm.τ Cert.OutMm.sig) → Buf (Elt Bits) ℓ) : Prop :=
  True

def Pre_OutMmIdeal (m : (ℓ : Loc Cert.OutMmIdeal.nD Cert.OutMmIdeal.τ Cert.OutMmIdeal.sig) → Buf (Elt Ideal) ℓ) : Prop :=
  True

def Pre_OutMmRefIdeal (m : (ℓ : Loc Cert.OutMmRefIdeal.nD Cert.OutMmRefIdeal.τ Cert.OutMmRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_GateMm (m : (ℓ : Loc Cert.GateMm.nD Cert.GateMm.τ Cert.GateMm.sig) → Buf (Elt Bits) ℓ) : Prop :=
  True

def Pre_GateMmIdeal (m : (ℓ : Loc Cert.GateMmIdeal.nD Cert.GateMmIdeal.τ Cert.GateMmIdeal.sig) → Buf (Elt Ideal) ℓ) : Prop :=
  True

def Pre_GateMmRefIdeal (m : (ℓ : Loc Cert.GateMmRefIdeal.nD Cert.GateMmRefIdeal.τ Cert.GateMmRefIdeal.sig) → Buf (Elt Ideal) ℓ) : Prop :=
  True

def Pre_GateDw (m : (ℓ : Loc Cert.GateDw.nD Cert.GateDw.τ Cert.GateDw.sig) → Buf (Elt Bits) ℓ) : Prop :=
  True

def Pre_GateDwIdeal (m : (ℓ : Loc Cert.GateDwIdeal.nD Cert.GateDwIdeal.τ Cert.GateDwIdeal.sig) → Buf (Elt Ideal) ℓ) : Prop :=
  True

def Pre_GateDwRefIdeal (m : (ℓ : Loc Cert.GateDwRefIdeal.nD Cert.GateDwRefIdeal.τ Cert.GateDwRefIdeal.sig) → Buf (Elt Ideal) ℓ) : Prop :=
  True

def Pre_GateDx (m : (ℓ : Loc Cert.GateDx.nD Cert.GateDx.τ Cert.GateDx.sig) → Buf (Elt Bits) ℓ) : Prop :=
  True

def Pre_GateDxIdeal (m : (ℓ : Loc Cert.GateDxIdeal.nD Cert.GateDxIdeal.τ Cert.GateDxIdeal.sig) → Buf (Elt Ideal) ℓ) : Prop :=
  True

def Pre_GateDxRefIdeal (m : (ℓ : Loc Cert.GateDxRefIdeal.nD Cert.GateDxRefIdeal.τ Cert.GateDxRefIdeal.sig) → Buf (Elt Ideal) ℓ) : Prop :=
  True

def Pre_ShortBwd (m : (ℓ : Loc Cert.ShortBwd.nD Cert.ShortBwd.τ Cert.ShortBwd.sig) → Buf (Elt Bits) ℓ) : Prop :=
  True

def Pre_ShortBwdIdeal (m : (ℓ : Loc Cert.ShortBwdIdeal.nD Cert.ShortBwdIdeal.τ Cert.ShortBwdIdeal.sig) → Buf (Elt Ideal) ℓ) : Prop :=
  True

def Pre_ShortBwdRefIdeal (m : (ℓ : Loc Cert.ShortBwdRefIdeal.nD Cert.ShortBwdRefIdeal.τ Cert.ShortBwdRefIdeal.sig) → Buf (Elt Ideal) ℓ) : Prop :=
  True

def Pre_ShortFwd (m : (ℓ : Loc Cert.ShortFwd.nD Cert.ShortFwd.τ Cert.ShortFwd.sig) → Buf (Elt Bits) ℓ) : Prop :=
  True

def Pre_ShortFwdIdeal (m : (ℓ : Loc Cert.ShortFwdIdeal.nD Cert.ShortFwdIdeal.τ Cert.ShortFwdIdeal.sig) → Buf (Elt Ideal) ℓ) : Prop :=
  True

def Pre_ShortFwdRefIdeal (m : (ℓ : Loc Cert.ShortFwdRefIdeal.nD Cert.ShortFwdRefIdeal.τ Cert.ShortFwdRefIdeal.sig) → Buf (Elt Ideal) ℓ) : Prop :=
  True

def Pre_ActBwd (m : (ℓ : Loc Cert.ActBwd.nD Cert.ActBwd.τ Cert.ActBwd.sig) → Buf (Elt Bits) ℓ) : Prop :=
  True

def Pre_ActBwdIdeal (m : (ℓ : Loc Cert.ActBwdIdeal.nD Cert.ActBwdIdeal.τ Cert.ActBwdIdeal.sig) → Buf (Elt Ideal) ℓ) : Prop :=
  True

def Pre_ActBwdIdeal_act_finite [hPre_act_finite : Cert.Pre_act_finite.Facts] (m : (ℓ : Loc Cert.ActBwdIdeal.nD Cert.ActBwdIdeal.τ Cert.ActBwdIdeal.sig) → Buf (Elt Ideal) ℓ) : Prop :=
  ∀ c : Dev Cert.ActBwdIdeal.nD,
    (Cert.Pre_act_finite.fn (F := Ideal) (m ((c.tc : Thread Cert.ActBwdIdeal.nD Cert.ActBwdIdeal.τ).loc Cert.ActBwdIdeal.main_arg0)) (m ((c.tc : Thread Cert.ActBwdIdeal.nD Cert.ActBwdIdeal.τ).loc Cert.ActBwdIdeal.main_arg1)) (m ((c.tc : Thread Cert.ActBwdIdeal.nD Cert.ActBwdIdeal.τ).loc Cert.ActBwdIdeal.main_arg2))).1 = (fun _ => 1#1)
    ∧ (Cert.Pre_act_finite.fn (F := Ideal) (m ((c.tc : Thread Cert.ActBwdIdeal.nD Cert.ActBwdIdeal.τ).loc Cert.ActBwdIdeal.main_arg0)) (m ((c.tc : Thread Cert.ActBwdIdeal.nD Cert.ActBwdIdeal.τ).loc Cert.ActBwdIdeal.main_arg1)) (m ((c.tc : Thread Cert.ActBwdIdeal.nD Cert.ActBwdIdeal.τ).loc Cert.ActBwdIdeal.main_arg2))).2.1 = (fun _ => 1#1)
    ∧ (Cert.Pre_act_finite.fn (F := Ideal) (m ((c.tc : Thread Cert.ActBwdIdeal.nD Cert.ActBwdIdeal.τ).loc Cert.ActBwdIdeal.main_arg0)) (m ((c.tc : Thread Cert.ActBwdIdeal.nD Cert.ActBwdIdeal.τ).loc Cert.ActBwdIdeal.main_arg1)) (m ((c.tc : Thread Cert.ActBwdIdeal.nD Cert.ActBwdIdeal.τ).loc Cert.ActBwdIdeal.main_arg2))).2.2 = (fun _ => 1#1)

def Pre_ActBwdRefIdeal (m : (ℓ : Loc Cert.ActBwdRefIdeal.nD Cert.ActBwdRefIdeal.τ Cert.ActBwdRefIdeal.sig) → Buf (Elt Ideal) ℓ) : Prop :=
  True

def Pre_ActBwdRefIdeal_act_finite [hPre_act_finite : Cert.Pre_act_finite.Facts] (m : (ℓ : Loc Cert.ActBwdRefIdeal.nD Cert.ActBwdRefIdeal.τ Cert.ActBwdRefIdeal.sig) → Buf (Elt Ideal) ℓ) : Prop :=
  ∀ c : Dev Cert.ActBwdRefIdeal.nD,
    (Cert.Pre_act_finite.fn (F := Ideal) (m ((c.tc : Thread Cert.ActBwdRefIdeal.nD Cert.ActBwdRefIdeal.τ).loc Cert.ActBwdRefIdeal.main_arg0)) (m ((c.tc : Thread Cert.ActBwdRefIdeal.nD Cert.ActBwdRefIdeal.τ).loc Cert.ActBwdRefIdeal.main_arg1)) (m ((c.tc : Thread Cert.ActBwdRefIdeal.nD Cert.ActBwdRefIdeal.τ).loc Cert.ActBwdRefIdeal.main_arg2))).1 = (fun _ => 1#1)
    ∧ (Cert.Pre_act_finite.fn (F := Ideal) (m ((c.tc : Thread Cert.ActBwdRefIdeal.nD Cert.ActBwdRefIdeal.τ).loc Cert.ActBwdRefIdeal.main_arg0)) (m ((c.tc : Thread Cert.ActBwdRefIdeal.nD Cert.ActBwdRefIdeal.τ).loc Cert.ActBwdRefIdeal.main_arg1)) (m ((c.tc : Thread Cert.ActBwdRefIdeal.nD Cert.ActBwdRefIdeal.τ).loc Cert.ActBwdRefIdeal.main_arg2))).2.1 = (fun _ => 1#1)
    ∧ (Cert.Pre_act_finite.fn (F := Ideal) (m ((c.tc : Thread Cert.ActBwdRefIdeal.nD Cert.ActBwdRefIdeal.τ).loc Cert.ActBwdRefIdeal.main_arg0)) (m ((c.tc : Thread Cert.ActBwdRefIdeal.nD Cert.ActBwdRefIdeal.τ).loc Cert.ActBwdRefIdeal.main_arg1)) (m ((c.tc : Thread Cert.ActBwdRefIdeal.nD Cert.ActBwdRefIdeal.τ).loc Cert.ActBwdRefIdeal.main_arg2))).2.2 = (fun _ => 1#1)

def Pre_ActFwd (m : (ℓ : Loc Cert.ActFwd.nD Cert.ActFwd.τ Cert.ActFwd.sig) → Buf (Elt Bits) ℓ) : Prop :=
  True

def Pre_ActFwdIdeal (m : (ℓ : Loc Cert.ActFwdIdeal.nD Cert.ActFwdIdeal.τ Cert.ActFwdIdeal.sig) → Buf (Elt Ideal) ℓ) : Prop :=
  True

def Pre_ActFwdRefIdeal (m : (ℓ : Loc Cert.ActFwdRefIdeal.nD Cert.ActFwdRefIdeal.τ Cert.ActFwdRefIdeal.sig) → Buf (Elt Ideal) ℓ) : Prop :=
  True

def Pre_AdamIn0 [hPre_chip_in0 : Cert.Pre_chip_in0.Facts] (m : (ℓ : Loc Cert.AdamIn0.nD Cert.AdamIn0.τ Cert.AdamIn0.sig) → Buf (Elt Bits) ℓ) : Prop :=
  ∀ c : Dev Cert.AdamIn0.nD,
    (Cert.Pre_chip_in0.fn (F := Bits) (m ((c.tc : Thread Cert.AdamIn0.nD Cert.AdamIn0.τ).loc Cert.AdamIn0.main_arg0)) (m ((c.tc : Thread Cert.AdamIn0.nD Cert.AdamIn0.τ).loc Cert.AdamIn0.main_arg1)) (m ((c.tc : Thread Cert.AdamIn0.nD Cert.AdamIn0.τ).loc Cert.AdamIn0.main_arg2)) (m ((c.tc : Thread Cert.AdamIn0.nD Cert.AdamIn0.τ).loc Cert.AdamIn0.main_arg3)) (m ((c.tc : Thread Cert.AdamIn0.nD Cert.AdamIn0.τ).loc Cert.AdamIn0.main_arg4)) (m ((c.tc : Thread Cert.AdamIn0.nD Cert.AdamIn0.τ).loc Cert.AdamIn0.main_arg5))) = (fun _ => 1#1)

def Pre_AdamIn0Ideal [hPre_chip_in0 : Cert.Pre_chip_in0.Facts] (m : (ℓ : Loc Cert.AdamIn0Ideal.nD Cert.AdamIn0Ideal.τ Cert.AdamIn0Ideal.sig) → Buf (Elt Ideal) ℓ) : Prop :=
  ∀ c : Dev Cert.AdamIn0Ideal.nD,
    (Cert.Pre_chip_in0.fn (F := Ideal) (m ((c.tc : Thread Cert.AdamIn0Ideal.nD Cert.AdamIn0Ideal.τ).loc Cert.AdamIn0Ideal.main_arg0)) (m ((c.tc : Thread Cert.AdamIn0Ideal.nD Cert.AdamIn0Ideal.τ).loc Cert.AdamIn0Ideal.main_arg1)) (m ((c.tc : Thread Cert.AdamIn0Ideal.nD Cert.AdamIn0Ideal.τ).loc Cert.AdamIn0Ideal.main_arg2)) (m ((c.tc : Thread Cert.AdamIn0Ideal.nD Cert.AdamIn0Ideal.τ).loc Cert.AdamIn0Ideal.main_arg3)) (m ((c.tc : Thread Cert.AdamIn0Ideal.nD Cert.AdamIn0Ideal.τ).loc Cert.AdamIn0Ideal.main_arg4)) (m ((c.tc : Thread Cert.AdamIn0Ideal.nD Cert.AdamIn0Ideal.τ).loc Cert.AdamIn0Ideal.main_arg5))) = (fun _ => 1#1)

def Pre_AdamIn0RefIdeal (m : (ℓ : Loc Cert.AdamIn0RefIdeal.nD Cert.AdamIn0RefIdeal.τ Cert.AdamIn0RefIdeal.sig) → Buf (Elt Ideal) ℓ) : Prop :=
  True

def Pre_AdamIn0RefIdeal_chip_in0 [hPre_chip_in0 : Cert.Pre_chip_in0.Facts] (m : (ℓ : Loc Cert.AdamIn0RefIdeal.nD Cert.AdamIn0RefIdeal.τ Cert.AdamIn0RefIdeal.sig) → Buf (Elt Ideal) ℓ) : Prop :=
  ∀ c : Dev Cert.AdamIn0RefIdeal.nD,
    (Cert.Pre_chip_in0.fn (F := Ideal) (m ((c.tc : Thread Cert.AdamIn0RefIdeal.nD Cert.AdamIn0RefIdeal.τ).loc Cert.AdamIn0RefIdeal.main_arg0)) (m ((c.tc : Thread Cert.AdamIn0RefIdeal.nD Cert.AdamIn0RefIdeal.τ).loc Cert.AdamIn0RefIdeal.main_arg1)) (m ((c.tc : Thread Cert.AdamIn0RefIdeal.nD Cert.AdamIn0RefIdeal.τ).loc Cert.AdamIn0RefIdeal.main_arg2)) (m ((c.tc : Thread Cert.AdamIn0RefIdeal.nD Cert.AdamIn0RefIdeal.τ).loc Cert.AdamIn0RefIdeal.main_arg3)) (m ((c.tc : Thread Cert.AdamIn0RefIdeal.nD Cert.AdamIn0RefIdeal.τ).loc Cert.AdamIn0RefIdeal.main_arg4)) (m ((c.tc : Thread Cert.AdamIn0RefIdeal.nD Cert.AdamIn0RefIdeal.τ).loc Cert.AdamIn0RefIdeal.main_arg5))) = (fun _ => 1#1)

def Pre_AdamOut [hPre_chip_out : Cert.Pre_chip_out.Facts] (m : (ℓ : Loc Cert.AdamOut.nD Cert.AdamOut.τ Cert.AdamOut.sig) → Buf (Elt Bits) ℓ) : Prop :=
  ∀ c : Dev Cert.AdamOut.nD,
    (Cert.Pre_chip_out.fn (F := Bits) (m ((c.tc : Thread Cert.AdamOut.nD Cert.AdamOut.τ).loc Cert.AdamOut.main_arg0)) (m ((c.tc : Thread Cert.AdamOut.nD Cert.AdamOut.τ).loc Cert.AdamOut.main_arg1)) (m ((c.tc : Thread Cert.AdamOut.nD Cert.AdamOut.τ).loc Cert.AdamOut.main_arg2)) (m ((c.tc : Thread Cert.AdamOut.nD Cert.AdamOut.τ).loc Cert.AdamOut.main_arg3)) (m ((c.tc : Thread Cert.AdamOut.nD Cert.AdamOut.τ).loc Cert.AdamOut.main_arg4)) (m ((c.tc : Thread Cert.AdamOut.nD Cert.AdamOut.τ).loc Cert.AdamOut.main_arg5))) = (fun _ => 1#1)

def Pre_AdamOutIdeal [hPre_chip_out : Cert.Pre_chip_out.Facts] (m : (ℓ : Loc Cert.AdamOutIdeal.nD Cert.AdamOutIdeal.τ Cert.AdamOutIdeal.sig) → Buf (Elt Ideal) ℓ) : Prop :=
  ∀ c : Dev Cert.AdamOutIdeal.nD,
    (Cert.Pre_chip_out.fn (F := Ideal) (m ((c.tc : Thread Cert.AdamOutIdeal.nD Cert.AdamOutIdeal.τ).loc Cert.AdamOutIdeal.main_arg0)) (m ((c.tc : Thread Cert.AdamOutIdeal.nD Cert.AdamOutIdeal.τ).loc Cert.AdamOutIdeal.main_arg1)) (m ((c.tc : Thread Cert.AdamOutIdeal.nD Cert.AdamOutIdeal.τ).loc Cert.AdamOutIdeal.main_arg2)) (m ((c.tc : Thread Cert.AdamOutIdeal.nD Cert.AdamOutIdeal.τ).loc Cert.AdamOutIdeal.main_arg3)) (m ((c.tc : Thread Cert.AdamOutIdeal.nD Cert.AdamOutIdeal.τ).loc Cert.AdamOutIdeal.main_arg4)) (m ((c.tc : Thread Cert.AdamOutIdeal.nD Cert.AdamOutIdeal.τ).loc Cert.AdamOutIdeal.main_arg5))) = (fun _ => 1#1)

def Pre_AdamOutRefIdeal (m : (ℓ : Loc Cert.AdamOutRefIdeal.nD Cert.AdamOutRefIdeal.τ Cert.AdamOutRefIdeal.sig) → Buf (Elt Ideal) ℓ) : Prop :=
  True

def Pre_AdamOutRefIdeal_chip_out [hPre_chip_out : Cert.Pre_chip_out.Facts] (m : (ℓ : Loc Cert.AdamOutRefIdeal.nD Cert.AdamOutRefIdeal.τ Cert.AdamOutRefIdeal.sig) → Buf (Elt Ideal) ℓ) : Prop :=
  ∀ c : Dev Cert.AdamOutRefIdeal.nD,
    (Cert.Pre_chip_out.fn (F := Ideal) (m ((c.tc : Thread Cert.AdamOutRefIdeal.nD Cert.AdamOutRefIdeal.τ).loc Cert.AdamOutRefIdeal.main_arg0)) (m ((c.tc : Thread Cert.AdamOutRefIdeal.nD Cert.AdamOutRefIdeal.τ).loc Cert.AdamOutRefIdeal.main_arg1)) (m ((c.tc : Thread Cert.AdamOutRefIdeal.nD Cert.AdamOutRefIdeal.τ).loc Cert.AdamOutRefIdeal.main_arg2)) (m ((c.tc : Thread Cert.AdamOutRefIdeal.nD Cert.AdamOutRefIdeal.τ).loc Cert.AdamOutRefIdeal.main_arg3)) (m ((c.tc : Thread Cert.AdamOutRefIdeal.nD Cert.AdamOutRefIdeal.τ).loc Cert.AdamOutRefIdeal.main_arg4)) (m ((c.tc : Thread Cert.AdamOutRefIdeal.nD Cert.AdamOutRefIdeal.τ).loc Cert.AdamOutRefIdeal.main_arg5))) = (fun _ => 1#1)

def Pre_AdamUp [hPre_chip_up : Cert.Pre_chip_up.Facts] (m : (ℓ : Loc Cert.AdamUp.nD Cert.AdamUp.τ Cert.AdamUp.sig) → Buf (Elt Bits) ℓ) : Prop :=
  ∀ c : Dev Cert.AdamUp.nD,
    (Cert.Pre_chip_up.fn (F := Bits) (m ((c.tc : Thread Cert.AdamUp.nD Cert.AdamUp.τ).loc Cert.AdamUp.main_arg0)) (m ((c.tc : Thread Cert.AdamUp.nD Cert.AdamUp.τ).loc Cert.AdamUp.main_arg1)) (m ((c.tc : Thread Cert.AdamUp.nD Cert.AdamUp.τ).loc Cert.AdamUp.main_arg2)) (m ((c.tc : Thread Cert.AdamUp.nD Cert.AdamUp.τ).loc Cert.AdamUp.main_arg3)) (m ((c.tc : Thread Cert.AdamUp.nD Cert.AdamUp.τ).loc Cert.AdamUp.main_arg4)) (m ((c.tc : Thread Cert.AdamUp.nD Cert.AdamUp.τ).loc Cert.AdamUp.main_arg5))) = (fun _ => 1#1)

def Pre_AdamUpIdeal [hPre_chip_up : Cert.Pre_chip_up.Facts] (m : (ℓ : Loc Cert.AdamUpIdeal.nD Cert.AdamUpIdeal.τ Cert.AdamUpIdeal.sig) → Buf (Elt Ideal) ℓ) : Prop :=
  ∀ c : Dev Cert.AdamUpIdeal.nD,
    (Cert.Pre_chip_up.fn (F := Ideal) (m ((c.tc : Thread Cert.AdamUpIdeal.nD Cert.AdamUpIdeal.τ).loc Cert.AdamUpIdeal.main_arg0)) (m ((c.tc : Thread Cert.AdamUpIdeal.nD Cert.AdamUpIdeal.τ).loc Cert.AdamUpIdeal.main_arg1)) (m ((c.tc : Thread Cert.AdamUpIdeal.nD Cert.AdamUpIdeal.τ).loc Cert.AdamUpIdeal.main_arg2)) (m ((c.tc : Thread Cert.AdamUpIdeal.nD Cert.AdamUpIdeal.τ).loc Cert.AdamUpIdeal.main_arg3)) (m ((c.tc : Thread Cert.AdamUpIdeal.nD Cert.AdamUpIdeal.τ).loc Cert.AdamUpIdeal.main_arg4)) (m ((c.tc : Thread Cert.AdamUpIdeal.nD Cert.AdamUpIdeal.τ).loc Cert.AdamUpIdeal.main_arg5))) = (fun _ => 1#1)

def Pre_AdamUpRefIdeal (m : (ℓ : Loc Cert.AdamUpRefIdeal.nD Cert.AdamUpRefIdeal.τ Cert.AdamUpRefIdeal.sig) → Buf (Elt Ideal) ℓ) : Prop :=
  True

def Pre_AdamUpRefIdeal_chip_up [hPre_chip_up : Cert.Pre_chip_up.Facts] (m : (ℓ : Loc Cert.AdamUpRefIdeal.nD Cert.AdamUpRefIdeal.τ Cert.AdamUpRefIdeal.sig) → Buf (Elt Ideal) ℓ) : Prop :=
  ∀ c : Dev Cert.AdamUpRefIdeal.nD,
    (Cert.Pre_chip_up.fn (F := Ideal) (m ((c.tc : Thread Cert.AdamUpRefIdeal.nD Cert.AdamUpRefIdeal.τ).loc Cert.AdamUpRefIdeal.main_arg0)) (m ((c.tc : Thread Cert.AdamUpRefIdeal.nD Cert.AdamUpRefIdeal.τ).loc Cert.AdamUpRefIdeal.main_arg1)) (m ((c.tc : Thread Cert.AdamUpRefIdeal.nD Cert.AdamUpRefIdeal.τ).loc Cert.AdamUpRefIdeal.main_arg2)) (m ((c.tc : Thread Cert.AdamUpRefIdeal.nD Cert.AdamUpRefIdeal.τ).loc Cert.AdamUpRefIdeal.main_arg3)) (m ((c.tc : Thread Cert.AdamUpRefIdeal.nD Cert.AdamUpRefIdeal.τ).loc Cert.AdamUpRefIdeal.main_arg4)) (m ((c.tc : Thread Cert.AdamUpRefIdeal.nD Cert.AdamUpRefIdeal.τ).loc Cert.AdamUpRefIdeal.main_arg5))) = (fun _ => 1#1)

def Pre_AdamDown [hPre_chip_down : Cert.Pre_chip_down.Facts] (m : (ℓ : Loc Cert.AdamDown.nD Cert.AdamDown.τ Cert.AdamDown.sig) → Buf (Elt Bits) ℓ) : Prop :=
  ∀ c : Dev Cert.AdamDown.nD,
    (Cert.Pre_chip_down.fn (F := Bits) (m ((c.tc : Thread Cert.AdamDown.nD Cert.AdamDown.τ).loc Cert.AdamDown.main_arg0)) (m ((c.tc : Thread Cert.AdamDown.nD Cert.AdamDown.τ).loc Cert.AdamDown.main_arg1)) (m ((c.tc : Thread Cert.AdamDown.nD Cert.AdamDown.τ).loc Cert.AdamDown.main_arg2)) (m ((c.tc : Thread Cert.AdamDown.nD Cert.AdamDown.τ).loc Cert.AdamDown.main_arg3)) (m ((c.tc : Thread Cert.AdamDown.nD Cert.AdamDown.τ).loc Cert.AdamDown.main_arg4)) (m ((c.tc : Thread Cert.AdamDown.nD Cert.AdamDown.τ).loc Cert.AdamDown.main_arg5))) = (fun _ => 1#1)

def Pre_AdamDownIdeal [hPre_chip_down : Cert.Pre_chip_down.Facts] (m : (ℓ : Loc Cert.AdamDownIdeal.nD Cert.AdamDownIdeal.τ Cert.AdamDownIdeal.sig) → Buf (Elt Ideal) ℓ) : Prop :=
  ∀ c : Dev Cert.AdamDownIdeal.nD,
    (Cert.Pre_chip_down.fn (F := Ideal) (m ((c.tc : Thread Cert.AdamDownIdeal.nD Cert.AdamDownIdeal.τ).loc Cert.AdamDownIdeal.main_arg0)) (m ((c.tc : Thread Cert.AdamDownIdeal.nD Cert.AdamDownIdeal.τ).loc Cert.AdamDownIdeal.main_arg1)) (m ((c.tc : Thread Cert.AdamDownIdeal.nD Cert.AdamDownIdeal.τ).loc Cert.AdamDownIdeal.main_arg2)) (m ((c.tc : Thread Cert.AdamDownIdeal.nD Cert.AdamDownIdeal.τ).loc Cert.AdamDownIdeal.main_arg3)) (m ((c.tc : Thread Cert.AdamDownIdeal.nD Cert.AdamDownIdeal.τ).loc Cert.AdamDownIdeal.main_arg4)) (m ((c.tc : Thread Cert.AdamDownIdeal.nD Cert.AdamDownIdeal.τ).loc Cert.AdamDownIdeal.main_arg5))) = (fun _ => 1#1)

def Pre_AdamDownRefIdeal (m : (ℓ : Loc Cert.AdamDownRefIdeal.nD Cert.AdamDownRefIdeal.τ Cert.AdamDownRefIdeal.sig) → Buf (Elt Ideal) ℓ) : Prop :=
  True

def Pre_AdamDownRefIdeal_chip_down [hPre_chip_down : Cert.Pre_chip_down.Facts] (m : (ℓ : Loc Cert.AdamDownRefIdeal.nD Cert.AdamDownRefIdeal.τ Cert.AdamDownRefIdeal.sig) → Buf (Elt Ideal) ℓ) : Prop :=
  ∀ c : Dev Cert.AdamDownRefIdeal.nD,
    (Cert.Pre_chip_down.fn (F := Ideal) (m ((c.tc : Thread Cert.AdamDownRefIdeal.nD Cert.AdamDownRefIdeal.τ).loc Cert.AdamDownRefIdeal.main_arg0)) (m ((c.tc : Thread Cert.AdamDownRefIdeal.nD Cert.AdamDownRefIdeal.τ).loc Cert.AdamDownRefIdeal.main_arg1)) (m ((c.tc : Thread Cert.AdamDownRefIdeal.nD Cert.AdamDownRefIdeal.τ).loc Cert.AdamDownRefIdeal.main_arg2)) (m ((c.tc : Thread Cert.AdamDownRefIdeal.nD Cert.AdamDownRefIdeal.τ).loc Cert.AdamDownRefIdeal.main_arg3)) (m ((c.tc : Thread Cert.AdamDownRefIdeal.nD Cert.AdamDownRefIdeal.τ).loc Cert.AdamDownRefIdeal.main_arg4)) (m ((c.tc : Thread Cert.AdamDownRefIdeal.nD Cert.AdamDownRefIdeal.τ).loc Cert.AdamDownRefIdeal.main_arg5))) = (fun _ => 1#1)

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_SmallStep (m : (ℓ : Loc Cert.SmallStep.nD Cert.SmallStep.τ Cert.SmallStep.sig) → Buf (Elt Bits) ℓ) : Prop :=
  True

def Pre_SmallStepIdeal (m : (ℓ : Loc Cert.SmallStepIdeal.nD Cert.SmallStepIdeal.τ Cert.SmallStepIdeal.sig) → Buf (Elt Ideal) ℓ) : Prop :=
  True

def Pre_SmallStepRefIdeal (m : (ℓ : Loc Cert.SmallStepRefIdeal.nD Cert.SmallStepRefIdeal.τ Cert.SmallStepRefIdeal.sig) → Buf (Elt Ideal) ℓ) : Prop :=
  True

def Pre_LastStep (m : (ℓ : Loc Cert.LastStep.nD Cert.LastStep.τ Cert.LastStep.sig) → Buf (Elt Bits) ℓ) : Prop :=
  True

def Pre_LastStepIdeal (m : (ℓ : Loc Cert.LastStepIdeal.nD Cert.LastStepIdeal.τ Cert.LastStepIdeal.sig) → Buf (Elt Ideal) ℓ) : Prop :=
  True

def Pre_LastStepRefIdeal (m : (ℓ : Loc Cert.LastStepRefIdeal.nD Cert.LastStepRefIdeal.τ Cert.LastStepRefIdeal.sig) → Buf (Elt Ideal) ℓ) : Prop :=
  True

def Pre_SmallSum (m : (ℓ : Loc Cert.SmallSum.nD Cert.SmallSum.τ Cert.SmallSum.sig) → Buf (Elt Bits) ℓ) : Prop :=
  True

def Pre_SmallSumIdeal (m : (ℓ : Loc Cert.SmallSumIdeal.nD Cert.SmallSumIdeal.τ Cert.SmallSumIdeal.sig) → Buf (Elt Ideal) ℓ) : Prop :=
  True

def Pre_SmallSumRefIdeal (m : (ℓ : Loc Cert.SmallSumRefIdeal.nD Cert.SmallSumRefIdeal.τ Cert.SmallSumRefIdeal.sig) → Buf (Elt Ideal) ℓ) : Prop :=
  True

def Pre_LastSum (m : (ℓ : Loc Cert.LastSum.nD Cert.LastSum.τ Cert.LastSum.sig) → Buf (Elt Bits) ℓ) : Prop :=
  True

def Pre_LastSumIdeal (m : (ℓ : Loc Cert.LastSumIdeal.nD Cert.LastSumIdeal.τ Cert.LastSumIdeal.sig) → Buf (Elt Ideal) ℓ) : Prop :=
  True

def Pre_LastSumRefIdeal (m : (ℓ : Loc Cert.LastSumRefIdeal.nD Cert.LastSumRefIdeal.τ Cert.LastSumRefIdeal.sig) → Buf (Elt Ideal) ℓ) : Prop :=
  True

def Pre_AdamIn1 [hPre_chip_in1 : Cert.Pre_chip_in1.Facts] (m : (ℓ : Loc Cert.AdamIn1.nD Cert.AdamIn1.τ Cert.AdamIn1.sig) → Buf (Elt Bits) ℓ) : Prop :=
  ∀ c : Dev Cert.AdamIn1.nD,
    (Cert.Pre_chip_in1.fn (F := Bits) (m ((c.tc : Thread Cert.AdamIn1.nD Cert.AdamIn1.τ).loc Cert.AdamIn1.main_arg0)) (m ((c.tc : Thread Cert.AdamIn1.nD Cert.AdamIn1.τ).loc Cert.AdamIn1.main_arg1)) (m ((c.tc : Thread Cert.AdamIn1.nD Cert.AdamIn1.τ).loc Cert.AdamIn1.main_arg2)) (m ((c.tc : Thread Cert.AdamIn1.nD Cert.AdamIn1.τ).loc Cert.AdamIn1.main_arg3)) (m ((c.tc : Thread Cert.AdamIn1.nD Cert.AdamIn1.τ).loc Cert.AdamIn1.main_arg4)) (m ((c.tc : Thread Cert.AdamIn1.nD Cert.AdamIn1.τ).loc Cert.AdamIn1.main_arg5))) = (fun _ => 1#1)

def Pre_AdamIn1Ideal [hPre_chip_in1 : Cert.Pre_chip_in1.Facts] (m : (ℓ : Loc Cert.AdamIn1Ideal.nD Cert.AdamIn1Ideal.τ Cert.AdamIn1Ideal.sig) → Buf (Elt Ideal) ℓ) : Prop :=
  ∀ c : Dev Cert.AdamIn1Ideal.nD,
    (Cert.Pre_chip_in1.fn (F := Ideal) (m ((c.tc : Thread Cert.AdamIn1Ideal.nD Cert.AdamIn1Ideal.τ).loc Cert.AdamIn1Ideal.main_arg0)) (m ((c.tc : Thread Cert.AdamIn1Ideal.nD Cert.AdamIn1Ideal.τ).loc Cert.AdamIn1Ideal.main_arg1)) (m ((c.tc : Thread Cert.AdamIn1Ideal.nD Cert.AdamIn1Ideal.τ).loc Cert.AdamIn1Ideal.main_arg2)) (m ((c.tc : Thread Cert.AdamIn1Ideal.nD Cert.AdamIn1Ideal.τ).loc Cert.AdamIn1Ideal.main_arg3)) (m ((c.tc : Thread Cert.AdamIn1Ideal.nD Cert.AdamIn1Ideal.τ).loc Cert.AdamIn1Ideal.main_arg4)) (m ((c.tc : Thread Cert.AdamIn1Ideal.nD Cert.AdamIn1Ideal.τ).loc Cert.AdamIn1Ideal.main_arg5))) = (fun _ => 1#1)

def Pre_AdamIn1RefIdeal (m : (ℓ : Loc Cert.AdamIn1RefIdeal.nD Cert.AdamIn1RefIdeal.τ Cert.AdamIn1RefIdeal.sig) → Buf (Elt Ideal) ℓ) : Prop :=
  True

def Pre_AdamIn1RefIdeal_chip_in1 [hPre_chip_in1 : Cert.Pre_chip_in1.Facts] (m : (ℓ : Loc Cert.AdamIn1RefIdeal.nD Cert.AdamIn1RefIdeal.τ Cert.AdamIn1RefIdeal.sig) → Buf (Elt Ideal) ℓ) : Prop :=
  ∀ c : Dev Cert.AdamIn1RefIdeal.nD,
    (Cert.Pre_chip_in1.fn (F := Ideal) (m ((c.tc : Thread Cert.AdamIn1RefIdeal.nD Cert.AdamIn1RefIdeal.τ).loc Cert.AdamIn1RefIdeal.main_arg0)) (m ((c.tc : Thread Cert.AdamIn1RefIdeal.nD Cert.AdamIn1RefIdeal.τ).loc Cert.AdamIn1RefIdeal.main_arg1)) (m ((c.tc : Thread Cert.AdamIn1RefIdeal.nD Cert.AdamIn1RefIdeal.τ).loc Cert.AdamIn1RefIdeal.main_arg2)) (m ((c.tc : Thread Cert.AdamIn1RefIdeal.nD Cert.AdamIn1RefIdeal.τ).loc Cert.AdamIn1RefIdeal.main_arg3)) (m ((c.tc : Thread Cert.AdamIn1RefIdeal.nD Cert.AdamIn1RefIdeal.τ).loc Cert.AdamIn1RefIdeal.main_arg4)) (m ((c.tc : Thread Cert.AdamIn1RefIdeal.nD Cert.AdamIn1RefIdeal.τ).loc Cert.AdamIn1RefIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_UpMm [hUpMm : Cert.UpMm.Facts] : Prop :=
  ∀ (m : (ℓ : Loc Cert.UpMm.nD Cert.UpMm.τ Cert.UpMm.sig) → Buf (Elt Bits) ℓ) (g : Dev Cert.UpMm.nD → PrngReg), Pre_UpMm m →
    θ_run (Cert.UpMm.defs (F := Bits)) (onTc (τ := Cert.UpMm.τ) (Cert.UpMm.main (F := Bits))) ⟨m, fun _ => 0, g⟩ (fun r => (∀ c : Dev Cert.UpMm.nD,
      r.2.mem ((c.tc : Thread Cert.UpMm.nD Cert.UpMm.τ).loc Cert.UpMm.main_arg0) = m ((c.tc : Thread Cert.UpMm.nD Cert.UpMm.τ).loc Cert.UpMm.main_arg0)
      ∧ r.2.mem ((c.tc : Thread Cert.UpMm.nD Cert.UpMm.τ).loc Cert.UpMm.main_arg1) = m ((c.tc : Thread Cert.UpMm.nD Cert.UpMm.τ).loc Cert.UpMm.main_arg1))
      ∧ r.2.sem = fun _ => 0)

def quiescent_UpMmIdeal [hUpMmIdeal : Cert.UpMmIdeal.Facts] : Prop :=
  ∀ (m : (ℓ : Loc Cert.UpMmIdeal.nD Cert.UpMmIdeal.τ Cert.UpMmIdeal.sig) → Buf (Elt Ideal) ℓ) (g : Dev Cert.UpMmIdeal.nD → PrngReg), Pre_UpMmIdeal m →
    θ_run (Cert.UpMmIdeal.defs (F := Ideal)) (onTc (τ := Cert.UpMmIdeal.τ) (Cert.UpMmIdeal.main (F := Ideal))) ⟨m, fun _ => 0, g⟩ (fun r => (∀ c : Dev Cert.UpMmIdeal.nD,
      r.2.mem ((c.tc : Thread Cert.UpMmIdeal.nD Cert.UpMmIdeal.τ).loc Cert.UpMmIdeal.main_arg0) = m ((c.tc : Thread Cert.UpMmIdeal.nD Cert.UpMmIdeal.τ).loc Cert.UpMmIdeal.main_arg0)
      ∧ r.2.mem ((c.tc : Thread Cert.UpMmIdeal.nD Cert.UpMmIdeal.τ).loc Cert.UpMmIdeal.main_arg1) = m ((c.tc : Thread Cert.UpMmIdeal.nD Cert.UpMmIdeal.τ).loc Cert.UpMmIdeal.main_arg1))
      ∧ r.2.sem = fun _ => 0)

def quiescent_UpMmRefIdeal [hUpMmRefIdeal : Cert.UpMmRefIdeal.Facts] : Prop :=
  ∀ (m : (ℓ : Loc Cert.UpMmRefIdeal.nD Cert.UpMmRefIdeal.τ Cert.UpMmRefIdeal.sig) → Buf (Elt Ideal) ℓ) (g : Dev Cert.UpMmRefIdeal.nD → PrngReg), Pre_UpMmRefIdeal m →
    θ_run (Cert.UpMmRefIdeal.defs (F := Ideal)) (onTc (τ := Cert.UpMmRefIdeal.τ) (Cert.UpMmRefIdeal.main (F := Ideal))) ⟨m, fun _ => 0, g⟩ (fun r => (∀ c : Dev Cert.UpMmRefIdeal.nD,
      r.2.mem ((c.tc : Thread Cert.UpMmRefIdeal.nD Cert.UpMmRefIdeal.τ).loc Cert.UpMmRefIdeal.main_arg0) = m ((c.tc : Thread Cert.UpMmRefIdeal.nD Cert.UpMmRefIdeal.τ).loc Cert.UpMmRefIdeal.main_arg0)
      ∧ r.2.mem ((c.tc : Thread Cert.UpMmRefIdeal.nD Cert.UpMmRefIdeal.τ).loc Cert.UpMmRefIdeal.main_arg1) = m ((c.tc : Thread Cert.UpMmRefIdeal.nD Cert.UpMmRefIdeal.τ).loc Cert.UpMmRefIdeal.main_arg1))
      ∧ r.2.sem = fun _ => 0)

def quiescent_DownMm [hDownMm : Cert.DownMm.Facts] : Prop :=
  ∀ (m : (ℓ : Loc Cert.DownMm.nD Cert.DownMm.τ Cert.DownMm.sig) → Buf (Elt Bits) ℓ) (g : Dev Cert.DownMm.nD → PrngReg), Pre_DownMm m →
    θ_run (Cert.DownMm.defs (F := Bits)) (onTc (τ := Cert.DownMm.τ) (Cert.DownMm.main (F := Bits))) ⟨m, fun _ => 0, g⟩ (fun r => (∀ c : Dev Cert.DownMm.nD,
      r.2.mem ((c.tc : Thread Cert.DownMm.nD Cert.DownMm.τ).loc Cert.DownMm.main_arg0) = m ((c.tc : Thread Cert.DownMm.nD Cert.DownMm.τ).loc Cert.DownMm.main_arg0)
      ∧ r.2.mem ((c.tc : Thread Cert.DownMm.nD Cert.DownMm.τ).loc Cert.DownMm.main_arg1) = m ((c.tc : Thread Cert.DownMm.nD Cert.DownMm.τ).loc Cert.DownMm.main_arg1)
      ∧ r.2.mem ((c.tc : Thread Cert.DownMm.nD Cert.DownMm.τ).loc Cert.DownMm.main_arg2) = m ((c.tc : Thread Cert.DownMm.nD Cert.DownMm.τ).loc Cert.DownMm.main_arg2))
      ∧ r.2.sem = fun _ => 0)

def quiescent_DownMmIdeal [hDownMmIdeal : Cert.DownMmIdeal.Facts] : Prop :=
  ∀ (m : (ℓ : Loc Cert.DownMmIdeal.nD Cert.DownMmIdeal.τ Cert.DownMmIdeal.sig) → Buf (Elt Ideal) ℓ) (g : Dev Cert.DownMmIdeal.nD → PrngReg), Pre_DownMmIdeal m →
    θ_run (Cert.DownMmIdeal.defs (F := Ideal)) (onTc (τ := Cert.DownMmIdeal.τ) (Cert.DownMmIdeal.main (F := Ideal))) ⟨m, fun _ => 0, g⟩ (fun r => (∀ c : Dev Cert.DownMmIdeal.nD,
      r.2.mem ((c.tc : Thread Cert.DownMmIdeal.nD Cert.DownMmIdeal.τ).loc Cert.DownMmIdeal.main_arg0) = m ((c.tc : Thread Cert.DownMmIdeal.nD Cert.DownMmIdeal.τ).loc Cert.DownMmIdeal.main_arg0)
      ∧ r.2.mem ((c.tc : Thread Cert.DownMmIdeal.nD Cert.DownMmIdeal.τ).loc Cert.DownMmIdeal.main_arg1) = m ((c.tc : Thread Cert.DownMmIdeal.nD Cert.DownMmIdeal.τ).loc Cert.DownMmIdeal.main_arg1)
      ∧ r.2.mem ((c.tc : Thread Cert.DownMmIdeal.nD Cert.DownMmIdeal.τ).loc Cert.DownMmIdeal.main_arg2) = m ((c.tc : Thread Cert.DownMmIdeal.nD Cert.DownMmIdeal.τ).loc Cert.DownMmIdeal.main_arg2))
      ∧ r.2.sem = fun _ => 0)

def quiescent_DownMmRefIdeal [hDownMmRefIdeal : Cert.DownMmRefIdeal.Facts] : Prop :=
  ∀ (m : (ℓ : Loc Cert.DownMmRefIdeal.nD Cert.DownMmRefIdeal.τ Cert.DownMmRefIdeal.sig) → Buf (Elt Ideal) ℓ) (g : Dev Cert.DownMmRefIdeal.nD → PrngReg), Pre_DownMmRefIdeal m →
    θ_run (Cert.DownMmRefIdeal.defs (F := Ideal)) (onTc (τ := Cert.DownMmRefIdeal.τ) (Cert.DownMmRefIdeal.main (F := Ideal))) ⟨m, fun _ => 0, g⟩ (fun r => (∀ c : Dev Cert.DownMmRefIdeal.nD,
      r.2.mem ((c.tc : Thread Cert.DownMmRefIdeal.nD Cert.DownMmRefIdeal.τ).loc Cert.DownMmRefIdeal.main_arg0) = m ((c.tc : Thread Cert.DownMmRefIdeal.nD Cert.DownMmRefIdeal.τ).loc Cert.DownMmRefIdeal.main_arg0)
      ∧ r.2.mem ((c.tc : Thread Cert.DownMmRefIdeal.nD Cert.DownMmRefIdeal.τ).loc Cert.DownMmRefIdeal.main_arg1) = m ((c.tc : Thread Cert.DownMmRefIdeal.nD Cert.DownMmRefIdeal.τ).loc Cert.DownMmRefIdeal.main_arg1)
      ∧ r.2.mem ((c.tc : Thread Cert.DownMmRefIdeal.nD Cert.DownMmRefIdeal.τ).loc Cert.DownMmRefIdeal.main_arg2) = m ((c.tc : Thread Cert.DownMmRefIdeal.nD Cert.DownMmRefIdeal.τ).loc Cert.DownMmRefIdeal.main_arg2))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_In0Mm [hIn0Mm : Cert.In0Mm.Facts] : Prop :=
  ∀ (m : (ℓ : Loc Cert.In0Mm.nD Cert.In0Mm.τ Cert.In0Mm.sig) → Buf (Elt Bits) ℓ) (g : Dev Cert.In0Mm.nD → PrngReg), Pre_In0Mm m →
    θ_run (Cert.In0Mm.defs (F := Bits)) (onTc (τ := Cert.In0Mm.τ) (Cert.In0Mm.main (F := Bits))) ⟨m, fun _ => 0, g⟩ (fun r => (∀ c : Dev Cert.In0Mm.nD,
      r.2.mem ((c.tc : Thread Cert.In0Mm.nD Cert.In0Mm.τ).loc Cert.In0Mm.main_arg0) = m ((c.tc : Thread Cert.In0Mm.nD Cert.In0Mm.τ).loc Cert.In0Mm.main_arg0)
      ∧ r.2.mem ((c.tc : Thread Cert.In0Mm.nD Cert.In0Mm.τ).loc Cert.In0Mm.main_arg1) = m ((c.tc : Thread Cert.In0Mm.nD Cert.In0Mm.τ).loc Cert.In0Mm.main_arg1))
      ∧ r.2.sem = fun _ => 0)

def quiescent_In0MmIdeal [hIn0MmIdeal : Cert.In0MmIdeal.Facts] : Prop :=
  ∀ (m : (ℓ : Loc Cert.In0MmIdeal.nD Cert.In0MmIdeal.τ Cert.In0MmIdeal.sig) → Buf (Elt Ideal) ℓ) (g : Dev Cert.In0MmIdeal.nD → PrngReg), Pre_In0MmIdeal m →
    θ_run (Cert.In0MmIdeal.defs (F := Ideal)) (onTc (τ := Cert.In0MmIdeal.τ) (Cert.In0MmIdeal.main (F := Ideal))) ⟨m, fun _ => 0, g⟩ (fun r => (∀ c : Dev Cert.In0MmIdeal.nD,
      r.2.mem ((c.tc : Thread Cert.In0MmIdeal.nD Cert.In0MmIdeal.τ).loc Cert.In0MmIdeal.main_arg0) = m ((c.tc : Thread Cert.In0MmIdeal.nD Cert.In0MmIdeal.τ).loc Cert.In0MmIdeal.main_arg0)
      ∧ r.2.mem ((c.tc : Thread Cert.In0MmIdeal.nD Cert.In0MmIdeal.τ).loc Cert.In0MmIdeal.main_arg1) = m ((c.tc : Thread Cert.In0MmIdeal.nD Cert.In0MmIdeal.τ).loc Cert.In0MmIdeal.main_arg1))
      ∧ r.2.sem = fun _ => 0)

def quiescent_In0MmRefIdeal [hIn0MmRefIdeal : Cert.In0MmRefIdeal.Facts] : Prop :=
  ∀ (m : (ℓ : Loc Cert.In0MmRefIdeal.nD Cert.In0MmRefIdeal.τ Cert.In0MmRefIdeal.sig) → Buf (Elt Ideal) ℓ) (g : Dev Cert.In0MmRefIdeal.nD → PrngReg), Pre_In0MmRefIdeal m →
    θ_run (Cert.In0MmRefIdeal.defs (F := Ideal)) (onTc (τ := Cert.In0MmRefIdeal.τ) (Cert.In0MmRefIdeal.main (F := Ideal))) ⟨m, fun _ => 0, g⟩ (fun r => (∀ c : Dev Cert.In0MmRefIdeal.nD,
      r.2.mem ((c.tc : Thread Cert.In0MmRefIdeal.nD Cert.In0MmRefIdeal.τ).loc Cert.In0MmRefIdeal.main_arg0) = m ((c.tc : Thread Cert.In0MmRefIdeal.nD Cert.In0MmRefIdeal.τ).loc Cert.In0MmRefIdeal.main_arg0)
      ∧ r.2.mem ((c.tc : Thread Cert.In0MmRefIdeal.nD Cert.In0MmRefIdeal.τ).loc Cert.In0MmRefIdeal.main_arg1) = m ((c.tc : Thread Cert.In0MmRefIdeal.nD Cert.In0MmRefIdeal.τ).loc Cert.In0MmRefIdeal.main_arg1))
      ∧ r.2.sem = fun _ => 0)

def quiescent_In0Dw [hIn0Dw : Cert.In0Dw.Facts] : Prop :=
  ∀ (m : (ℓ : Loc Cert.In0Dw.nD Cert.In0Dw.τ Cert.In0Dw.sig) → Buf (Elt Bits) ℓ) (g : Dev Cert.In0Dw.nD → PrngReg), Pre_In0Dw m →
    θ_run (Cert.In0Dw.defs (F := Bits)) (onTc (τ := Cert.In0Dw.τ) (Cert.In0Dw.main (F := Bits))) ⟨m, fun _ => 0, g⟩ (fun r => (∀ c : Dev Cert.In0Dw.nD,
      r.2.mem ((c.tc : Thread Cert.In0Dw.nD Cert.In0Dw.τ).loc Cert.In0Dw.main_arg0) = m ((c.tc : Thread Cert.In0Dw.nD Cert.In0Dw.τ).loc Cert.In0Dw.main_arg0)
      ∧ r.2.mem ((c.tc : Thread Cert.In0Dw.nD Cert.In0Dw.τ).loc Cert.In0Dw.main_arg1) = m ((c.tc : Thread Cert.In0Dw.nD Cert.In0Dw.τ).loc Cert.In0Dw.main_arg1))
      ∧ r.2.sem = fun _ => 0)

def quiescent_In0DwIdeal [hIn0DwIdeal : Cert.In0DwIdeal.Facts] : Prop :=
  ∀ (m : (ℓ : Loc Cert.In0DwIdeal.nD Cert.In0DwIdeal.τ Cert.In0DwIdeal.sig) → Buf (Elt Ideal) ℓ) (g : Dev Cert.In0DwIdeal.nD → PrngReg), Pre_In0DwIdeal m →
    θ_run (Cert.In0DwIdeal.defs (F := Ideal)) (onTc (τ := Cert.In0DwIdeal.τ) (Cert.In0DwIdeal.main (F := Ideal))) ⟨m, fun _ => 0, g⟩ (fun r => (∀ c : Dev Cert.In0DwIdeal.nD,
      r.2.mem ((c.tc : Thread Cert.In0DwIdeal.nD Cert.In0DwIdeal.τ).loc Cert.In0DwIdeal.main_arg0) = m ((c.tc : Thread Cert.In0DwIdeal.nD Cert.In0DwIdeal.τ).loc Cert.In0DwIdeal.main_arg0)
      ∧ r.2.mem ((c.tc : Thread Cert.In0DwIdeal.nD Cert.In0DwIdeal.τ).loc Cert.In0DwIdeal.main_arg1) = m ((c.tc : Thread Cert.In0DwIdeal.nD Cert.In0DwIdeal.τ).loc Cert.In0DwIdeal.main_arg1))
      ∧ r.2.sem = fun _ => 0)

def quiescent_In0DwRefIdeal [hIn0DwRefIdeal : Cert.In0DwRefIdeal.Facts] : Prop :=
  ∀ (m : (ℓ : Loc Cert.In0DwRefIdeal.nD Cert.In0DwRefIdeal.τ Cert.In0DwRefIdeal.sig) → Buf (Elt Ideal) ℓ) (g : Dev Cert.In0DwRefIdeal.nD → PrngReg), Pre_In0DwRefIdeal m →
    θ_run (Cert.In0DwRefIdeal.defs (F := Ideal)) (onTc (τ := Cert.In0DwRefIdeal.τ) (Cert.In0DwRefIdeal.main (F := Ideal))) ⟨m, fun _ => 0, g⟩ (fun r => (∀ c : Dev Cert.In0DwRefIdeal.nD,
      r.2.mem ((c.tc : Thread Cert.In0DwRefIdeal.nD Cert.In0DwRefIdeal.τ).loc Cert.In0DwRefIdeal.main_arg0) = m ((c.tc : Thread Cert.In0DwRefIdeal.nD Cert.In0DwRefIdeal.τ).loc Cert.In0DwRefIdeal.main_arg0)
      ∧ r.2.mem ((c.tc : Thread Cert.In0DwRefIdeal.nD Cert.In0DwRefIdeal.τ).loc Cert.In0DwRefIdeal.main_arg1) = m ((c.tc : Thread Cert.In0DwRefIdeal.nD Cert.In0DwRefIdeal.τ).loc Cert.In0DwRefIdeal.main_arg1))
      ∧ r.2.sem = fun _ => 0)

def quiescent_In0Dx [hIn0Dx : Cert.In0Dx.Facts] : Prop :=
  ∀ (m : (ℓ : Loc Cert.In0Dx.nD Cert.In0Dx.τ Cert.In0Dx.sig) → Buf (Elt Bits) ℓ) (g : Dev Cert.In0Dx.nD → PrngReg), Pre_In0Dx m →
    θ_run (Cert.In0Dx.defs (F := Bits)) (onTc (τ := Cert.In0Dx.τ) (Cert.In0Dx.main (F := Bits))) ⟨m, fun _ => 0, g⟩ (fun r => (∀ c : Dev Cert.In0Dx.nD,
      r.2.mem ((c.tc : Thread Cert.In0Dx.nD Cert.In0Dx.τ).loc Cert.In0Dx.main_arg0) = m ((c.tc : Thread Cert.In0Dx.nD Cert.In0Dx.τ).loc Cert.In0Dx.main_arg0)
      ∧ r.2.mem ((c.tc : Thread Cert.In0Dx.nD Cert.In0Dx.τ).loc Cert.In0Dx.main_arg1) = m ((c.tc : Thread Cert.In0Dx.nD Cert.In0Dx.τ).loc Cert.In0Dx.main_arg1))
      ∧ r.2.sem = fun _ => 0)

def quiescent_In0DxIdeal [hIn0DxIdeal : Cert.In0DxIdeal.Facts] : Prop :=
  ∀ (m : (ℓ : Loc Cert.In0DxIdeal.nD Cert.In0DxIdeal.τ Cert.In0DxIdeal.sig) → Buf (Elt Ideal) ℓ) (g : Dev Cert.In0DxIdeal.nD → PrngReg), Pre_In0DxIdeal m →
    θ_run (Cert.In0DxIdeal.defs (F := Ideal)) (onTc (τ := Cert.In0DxIdeal.τ) (Cert.In0DxIdeal.main (F := Ideal))) ⟨m, fun _ => 0, g⟩ (fun r => (∀ c : Dev Cert.In0DxIdeal.nD,
      r.2.mem ((c.tc : Thread Cert.In0DxIdeal.nD Cert.In0DxIdeal.τ).loc Cert.In0DxIdeal.main_arg0) = m ((c.tc : Thread Cert.In0DxIdeal.nD Cert.In0DxIdeal.τ).loc Cert.In0DxIdeal.main_arg0)
      ∧ r.2.mem ((c.tc : Thread Cert.In0DxIdeal.nD Cert.In0DxIdeal.τ).loc Cert.In0DxIdeal.main_arg1) = m ((c.tc : Thread Cert.In0DxIdeal.nD Cert.In0DxIdeal.τ).loc Cert.In0DxIdeal.main_arg1))
      ∧ r.2.sem = fun _ => 0)

def quiescent_In0DxRefIdeal [hIn0DxRefIdeal : Cert.In0DxRefIdeal.Facts] : Prop :=
  ∀ (m : (ℓ : Loc Cert.In0DxRefIdeal.nD Cert.In0DxRefIdeal.τ Cert.In0DxRefIdeal.sig) → Buf (Elt Ideal) ℓ) (g : Dev Cert.In0DxRefIdeal.nD → PrngReg), Pre_In0DxRefIdeal m →
    θ_run (Cert.In0DxRefIdeal.defs (F := Ideal)) (onTc (τ := Cert.In0DxRefIdeal.τ) (Cert.In0DxRefIdeal.main (F := Ideal))) ⟨m, fun _ => 0, g⟩ (fun r => (∀ c : Dev Cert.In0DxRefIdeal.nD,
      r.2.mem ((c.tc : Thread Cert.In0DxRefIdeal.nD Cert.In0DxRefIdeal.τ).loc Cert.In0DxRefIdeal.main_arg0) = m ((c.tc : Thread Cert.In0DxRefIdeal.nD Cert.In0DxRefIdeal.τ).loc Cert.In0DxRefIdeal.main_arg0)
      ∧ r.2.mem ((c.tc : Thread Cert.In0DxRefIdeal.nD Cert.In0DxRefIdeal.τ).loc Cert.In0DxRefIdeal.main_arg1) = m ((c.tc : Thread Cert.In0DxRefIdeal.nD Cert.In0DxRefIdeal.τ).loc Cert.In0DxRefIdeal.main_arg1))
      ∧ r.2.sem = fun _ => 0)

def quiescent_In1Mm [hIn1Mm : Cert.In1Mm.Facts] : Prop :=
  ∀ (m : (ℓ : Loc Cert.In1Mm.nD Cert.In1Mm.τ Cert.In1Mm.sig) → Buf (Elt Bits) ℓ) (g : Dev Cert.In1Mm.nD → PrngReg), Pre_In1Mm m →
    θ_run (Cert.In1Mm.defs (F := Bits)) (onTc (τ := Cert.In1Mm.τ) (Cert.In1Mm.main (F := Bits))) ⟨m, fun _ => 0, g⟩ (fun r => (∀ c : Dev Cert.In1Mm.nD,
      r.2.mem ((c.tc : Thread Cert.In1Mm.nD Cert.In1Mm.τ).loc Cert.In1Mm.main_arg0) = m ((c.tc : Thread Cert.In1Mm.nD Cert.In1Mm.τ).loc Cert.In1Mm.main_arg0)
      ∧ r.2.mem ((c.tc : Thread Cert.In1Mm.nD Cert.In1Mm.τ).loc Cert.In1Mm.main_arg1) = m ((c.tc : Thread Cert.In1Mm.nD Cert.In1Mm.τ).loc Cert.In1Mm.main_arg1))
      ∧ r.2.sem = fun _ => 0)

def quiescent_In1MmIdeal [hIn1MmIdeal : Cert.In1MmIdeal.Facts] : Prop :=
  ∀ (m : (ℓ : Loc Cert.In1MmIdeal.nD Cert.In1MmIdeal.τ Cert.In1MmIdeal.sig) → Buf (Elt Ideal) ℓ) (g : Dev Cert.In1MmIdeal.nD → PrngReg), Pre_In1MmIdeal m →
    θ_run (Cert.In1MmIdeal.defs (F := Ideal)) (onTc (τ := Cert.In1MmIdeal.τ) (Cert.In1MmIdeal.main (F := Ideal))) ⟨m, fun _ => 0, g⟩ (fun r => (∀ c : Dev Cert.In1MmIdeal.nD,
      r.2.mem ((c.tc : Thread Cert.In1MmIdeal.nD Cert.In1MmIdeal.τ).loc Cert.In1MmIdeal.main_arg0) = m ((c.tc : Thread Cert.In1MmIdeal.nD Cert.In1MmIdeal.τ).loc Cert.In1MmIdeal.main_arg0)
      ∧ r.2.mem ((c.tc : Thread Cert.In1MmIdeal.nD Cert.In1MmIdeal.τ).loc Cert.In1MmIdeal.main_arg1) = m ((c.tc : Thread Cert.In1MmIdeal.nD Cert.In1MmIdeal.τ).loc Cert.In1MmIdeal.main_arg1))
      ∧ r.2.sem = fun _ => 0)

def quiescent_In1MmRefIdeal [hIn1MmRefIdeal : Cert.In1MmRefIdeal.Facts] : Prop :=
  ∀ (m : (ℓ : Loc Cert.In1MmRefIdeal.nD Cert.In1MmRefIdeal.τ Cert.In1MmRefIdeal.sig) → Buf (Elt Ideal) ℓ) (g : Dev Cert.In1MmRefIdeal.nD → PrngReg), Pre_In1MmRefIdeal m →
    θ_run (Cert.In1MmRefIdeal.defs (F := Ideal)) (onTc (τ := Cert.In1MmRefIdeal.τ) (Cert.In1MmRefIdeal.main (F := Ideal))) ⟨m, fun _ => 0, g⟩ (fun r => (∀ c : Dev Cert.In1MmRefIdeal.nD,
      r.2.mem ((c.tc : Thread Cert.In1MmRefIdeal.nD Cert.In1MmRefIdeal.τ).loc Cert.In1MmRefIdeal.main_arg0) = m ((c.tc : Thread Cert.In1MmRefIdeal.nD Cert.In1MmRefIdeal.τ).loc Cert.In1MmRefIdeal.main_arg0)
      ∧ r.2.mem ((c.tc : Thread Cert.In1MmRefIdeal.nD Cert.In1MmRefIdeal.τ).loc Cert.In1MmRefIdeal.main_arg1) = m ((c.tc : Thread Cert.In1MmRefIdeal.nD Cert.In1MmRefIdeal.τ).loc Cert.In1MmRefIdeal.main_arg1))
      ∧ r.2.sem = fun _ => 0)

def quiescent_In1Dw [hIn1Dw : Cert.In1Dw.Facts] : Prop :=
  ∀ (m : (ℓ : Loc Cert.In1Dw.nD Cert.In1Dw.τ Cert.In1Dw.sig) → Buf (Elt Bits) ℓ) (g : Dev Cert.In1Dw.nD → PrngReg), Pre_In1Dw m →
    θ_run (Cert.In1Dw.defs (F := Bits)) (onTc (τ := Cert.In1Dw.τ) (Cert.In1Dw.main (F := Bits))) ⟨m, fun _ => 0, g⟩ (fun r => (∀ c : Dev Cert.In1Dw.nD,
      r.2.mem ((c.tc : Thread Cert.In1Dw.nD Cert.In1Dw.τ).loc Cert.In1Dw.main_arg0) = m ((c.tc : Thread Cert.In1Dw.nD Cert.In1Dw.τ).loc Cert.In1Dw.main_arg0)
      ∧ r.2.mem ((c.tc : Thread Cert.In1Dw.nD Cert.In1Dw.τ).loc Cert.In1Dw.main_arg1) = m ((c.tc : Thread Cert.In1Dw.nD Cert.In1Dw.τ).loc Cert.In1Dw.main_arg1))
      ∧ r.2.sem = fun _ => 0)

def quiescent_In1DwIdeal [hIn1DwIdeal : Cert.In1DwIdeal.Facts] : Prop :=
  ∀ (m : (ℓ : Loc Cert.In1DwIdeal.nD Cert.In1DwIdeal.τ Cert.In1DwIdeal.sig) → Buf (Elt Ideal) ℓ) (g : Dev Cert.In1DwIdeal.nD → PrngReg), Pre_In1DwIdeal m →
    θ_run (Cert.In1DwIdeal.defs (F := Ideal)) (onTc (τ := Cert.In1DwIdeal.τ) (Cert.In1DwIdeal.main (F := Ideal))) ⟨m, fun _ => 0, g⟩ (fun r => (∀ c : Dev Cert.In1DwIdeal.nD,
      r.2.mem ((c.tc : Thread Cert.In1DwIdeal.nD Cert.In1DwIdeal.τ).loc Cert.In1DwIdeal.main_arg0) = m ((c.tc : Thread Cert.In1DwIdeal.nD Cert.In1DwIdeal.τ).loc Cert.In1DwIdeal.main_arg0)
      ∧ r.2.mem ((c.tc : Thread Cert.In1DwIdeal.nD Cert.In1DwIdeal.τ).loc Cert.In1DwIdeal.main_arg1) = m ((c.tc : Thread Cert.In1DwIdeal.nD Cert.In1DwIdeal.τ).loc Cert.In1DwIdeal.main_arg1))
      ∧ r.2.sem = fun _ => 0)

def quiescent_In1DwRefIdeal [hIn1DwRefIdeal : Cert.In1DwRefIdeal.Facts] : Prop :=
  ∀ (m : (ℓ : Loc Cert.In1DwRefIdeal.nD Cert.In1DwRefIdeal.τ Cert.In1DwRefIdeal.sig) → Buf (Elt Ideal) ℓ) (g : Dev Cert.In1DwRefIdeal.nD → PrngReg), Pre_In1DwRefIdeal m →
    θ_run (Cert.In1DwRefIdeal.defs (F := Ideal)) (onTc (τ := Cert.In1DwRefIdeal.τ) (Cert.In1DwRefIdeal.main (F := Ideal))) ⟨m, fun _ => 0, g⟩ (fun r => (∀ c : Dev Cert.In1DwRefIdeal.nD,
      r.2.mem ((c.tc : Thread Cert.In1DwRefIdeal.nD Cert.In1DwRefIdeal.τ).loc Cert.In1DwRefIdeal.main_arg0) = m ((c.tc : Thread Cert.In1DwRefIdeal.nD Cert.In1DwRefIdeal.τ).loc Cert.In1DwRefIdeal.main_arg0)
      ∧ r.2.mem ((c.tc : Thread Cert.In1DwRefIdeal.nD Cert.In1DwRefIdeal.τ).loc Cert.In1DwRefIdeal.main_arg1) = m ((c.tc : Thread Cert.In1DwRefIdeal.nD Cert.In1DwRefIdeal.τ).loc Cert.In1DwRefIdeal.main_arg1))
      ∧ r.2.sem = fun _ => 0)

def quiescent_In1Dx [hIn1Dx : Cert.In1Dx.Facts] : Prop :=
  ∀ (m : (ℓ : Loc Cert.In1Dx.nD Cert.In1Dx.τ Cert.In1Dx.sig) → Buf (Elt Bits) ℓ) (g : Dev Cert.In1Dx.nD → PrngReg), Pre_In1Dx m →
    θ_run (Cert.In1Dx.defs (F := Bits)) (onTc (τ := Cert.In1Dx.τ) (Cert.In1Dx.main (F := Bits))) ⟨m, fun _ => 0, g⟩ (fun r => (∀ c : Dev Cert.In1Dx.nD,
      r.2.mem ((c.tc : Thread Cert.In1Dx.nD Cert.In1Dx.τ).loc Cert.In1Dx.main_arg0) = m ((c.tc : Thread Cert.In1Dx.nD Cert.In1Dx.τ).loc Cert.In1Dx.main_arg0)
      ∧ r.2.mem ((c.tc : Thread Cert.In1Dx.nD Cert.In1Dx.τ).loc Cert.In1Dx.main_arg1) = m ((c.tc : Thread Cert.In1Dx.nD Cert.In1Dx.τ).loc Cert.In1Dx.main_arg1)
      ∧ r.2.mem ((c.tc : Thread Cert.In1Dx.nD Cert.In1Dx.τ).loc Cert.In1Dx.main_arg2) = m ((c.tc : Thread Cert.In1Dx.nD Cert.In1Dx.τ).loc Cert.In1Dx.main_arg2))
      ∧ r.2.sem = fun _ => 0)

def quiescent_In1DxIdeal [hIn1DxIdeal : Cert.In1DxIdeal.Facts] : Prop :=
  ∀ (m : (ℓ : Loc Cert.In1DxIdeal.nD Cert.In1DxIdeal.τ Cert.In1DxIdeal.sig) → Buf (Elt Ideal) ℓ) (g : Dev Cert.In1DxIdeal.nD → PrngReg), Pre_In1DxIdeal m →
    θ_run (Cert.In1DxIdeal.defs (F := Ideal)) (onTc (τ := Cert.In1DxIdeal.τ) (Cert.In1DxIdeal.main (F := Ideal))) ⟨m, fun _ => 0, g⟩ (fun r => (∀ c : Dev Cert.In1DxIdeal.nD,
      r.2.mem ((c.tc : Thread Cert.In1DxIdeal.nD Cert.In1DxIdeal.τ).loc Cert.In1DxIdeal.main_arg0) = m ((c.tc : Thread Cert.In1DxIdeal.nD Cert.In1DxIdeal.τ).loc Cert.In1DxIdeal.main_arg0)
      ∧ r.2.mem ((c.tc : Thread Cert.In1DxIdeal.nD Cert.In1DxIdeal.τ).loc Cert.In1DxIdeal.main_arg1) = m ((c.tc : Thread Cert.In1DxIdeal.nD Cert.In1DxIdeal.τ).loc Cert.In1DxIdeal.main_arg1)
      ∧ r.2.mem ((c.tc : Thread Cert.In1DxIdeal.nD Cert.In1DxIdeal.τ).loc Cert.In1DxIdeal.main_arg2) = m ((c.tc : Thread Cert.In1DxIdeal.nD Cert.In1DxIdeal.τ).loc Cert.In1DxIdeal.main_arg2))
      ∧ r.2.sem = fun _ => 0)

def quiescent_In1DxRefIdeal [hIn1DxRefIdeal : Cert.In1DxRefIdeal.Facts] : Prop :=
  ∀ (m : (ℓ : Loc Cert.In1DxRefIdeal.nD Cert.In1DxRefIdeal.τ Cert.In1DxRefIdeal.sig) → Buf (Elt Ideal) ℓ) (g : Dev Cert.In1DxRefIdeal.nD → PrngReg), Pre_In1DxRefIdeal m →
    θ_run (Cert.In1DxRefIdeal.defs (F := Ideal)) (onTc (τ := Cert.In1DxRefIdeal.τ) (Cert.In1DxRefIdeal.main (F := Ideal))) ⟨m, fun _ => 0, g⟩ (fun r => (∀ c : Dev Cert.In1DxRefIdeal.nD,
      r.2.mem ((c.tc : Thread Cert.In1DxRefIdeal.nD Cert.In1DxRefIdeal.τ).loc Cert.In1DxRefIdeal.main_arg0) = m ((c.tc : Thread Cert.In1DxRefIdeal.nD Cert.In1DxRefIdeal.τ).loc Cert.In1DxRefIdeal.main_arg0)
      ∧ r.2.mem ((c.tc : Thread Cert.In1DxRefIdeal.nD Cert.In1DxRefIdeal.τ).loc Cert.In1DxRefIdeal.main_arg1) = m ((c.tc : Thread Cert.In1DxRefIdeal.nD Cert.In1DxRefIdeal.τ).loc Cert.In1DxRefIdeal.main_arg1)
      ∧ r.2.mem ((c.tc : Thread Cert.In1DxRefIdeal.nD Cert.In1DxRefIdeal.τ).loc Cert.In1DxRefIdeal.main_arg2) = m ((c.tc : Thread Cert.In1DxRefIdeal.nD Cert.In1DxRefIdeal.τ).loc Cert.In1DxRefIdeal.main_arg2))
      ∧ r.2.sem = fun _ => 0)

def quiescent_OutMm [hOutMm : Cert.OutMm.Facts] : Prop :=
  ∀ (m : (ℓ : Loc Cert.OutMm.nD Cert.OutMm.τ Cert.OutMm.sig) → Buf (Elt Bits) ℓ) (g : Dev Cert.OutMm.nD → PrngReg), Pre_OutMm m →
    θ_run (Cert.OutMm.defs (F := Bits)) (onTc (τ := Cert.OutMm.τ) (Cert.OutMm.main (F := Bits))) ⟨m, fun _ => 0, g⟩ (fun r => (∀ c : Dev Cert.OutMm.nD,
      r.2.mem ((c.tc : Thread Cert.OutMm.nD Cert.OutMm.τ).loc Cert.OutMm.main_arg0) = m ((c.tc : Thread Cert.OutMm.nD Cert.OutMm.τ).loc Cert.OutMm.main_arg0)
      ∧ r.2.mem ((c.tc : Thread Cert.OutMm.nD Cert.OutMm.τ).loc Cert.OutMm.main_arg1) = m ((c.tc : Thread Cert.OutMm.nD Cert.OutMm.τ).loc Cert.OutMm.main_arg1)
      ∧ r.2.mem ((c.tc : Thread Cert.OutMm.nD Cert.OutMm.τ).loc Cert.OutMm.main_arg2) = m ((c.tc : Thread Cert.OutMm.nD Cert.OutMm.τ).loc Cert.OutMm.main_arg2))
      ∧ r.2.sem = fun _ => 0)

def quiescent_OutMmIdeal [hOutMmIdeal : Cert.OutMmIdeal.Facts] : Prop :=
  ∀ (m : (ℓ : Loc Cert.OutMmIdeal.nD Cert.OutMmIdeal.τ Cert.OutMmIdeal.sig) → Buf (Elt Ideal) ℓ) (g : Dev Cert.OutMmIdeal.nD → PrngReg), Pre_OutMmIdeal m →
    θ_run (Cert.OutMmIdeal.defs (F := Ideal)) (onTc (τ := Cert.OutMmIdeal.τ) (Cert.OutMmIdeal.main (F := Ideal))) ⟨m, fun _ => 0, g⟩ (fun r => (∀ c : Dev Cert.OutMmIdeal.nD,
      r.2.mem ((c.tc : Thread Cert.OutMmIdeal.nD Cert.OutMmIdeal.τ).loc Cert.OutMmIdeal.main_arg0) = m ((c.tc : Thread Cert.OutMmIdeal.nD Cert.OutMmIdeal.τ).loc Cert.OutMmIdeal.main_arg0)
      ∧ r.2.mem ((c.tc : Thread Cert.OutMmIdeal.nD Cert.OutMmIdeal.τ).loc Cert.OutMmIdeal.main_arg1) = m ((c.tc : Thread Cert.OutMmIdeal.nD Cert.OutMmIdeal.τ).loc Cert.OutMmIdeal.main_arg1)
      ∧ r.2.mem ((c.tc : Thread Cert.OutMmIdeal.nD Cert.OutMmIdeal.τ).loc Cert.OutMmIdeal.main_arg2) = m ((c.tc : Thread Cert.OutMmIdeal.nD Cert.OutMmIdeal.τ).loc Cert.OutMmIdeal.main_arg2))
      ∧ r.2.sem = fun _ => 0)

def quiescent_OutMmRefIdeal [hOutMmRefIdeal : Cert.OutMmRefIdeal.Facts] : Prop :=
  ∀ (m : (ℓ : Loc Cert.OutMmRefIdeal.nD Cert.OutMmRefIdeal.τ Cert.OutMmRefIdeal.sig) → Buf (Elt Ideal) ℓ) (g : Dev Cert.OutMmRefIdeal.nD → PrngReg), Pre_OutMmRefIdeal m →
    θ_run (Cert.OutMmRefIdeal.defs (F := Ideal)) (onTc (τ := Cert.OutMmRefIdeal.τ) (Cert.OutMmRefIdeal.main (F := Ideal))) ⟨m, fun _ => 0, g⟩ (fun r => (∀ c : Dev Cert.OutMmRefIdeal.nD,
      r.2.mem ((c.tc : Thread Cert.OutMmRefIdeal.nD Cert.OutMmRefIdeal.τ).loc Cert.OutMmRefIdeal.main_arg0) = m ((c.tc : Thread Cert.OutMmRefIdeal.nD Cert.OutMmRefIdeal.τ).loc Cert.OutMmRefIdeal.main_arg0)
      ∧ r.2.mem ((c.tc : Thread Cert.OutMmRefIdeal.nD Cert.OutMmRefIdeal.τ).loc Cert.OutMmRefIdeal.main_arg1) = m ((c.tc : Thread Cert.OutMmRefIdeal.nD Cert.OutMmRefIdeal.τ).loc Cert.OutMmRefIdeal.main_arg1)
      ∧ r.2.mem ((c.tc : Thread Cert.OutMmRefIdeal.nD Cert.OutMmRefIdeal.τ).loc Cert.OutMmRefIdeal.main_arg2) = m ((c.tc : Thread Cert.OutMmRefIdeal.nD Cert.OutMmRefIdeal.τ).loc Cert.OutMmRefIdeal.main_arg2))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_GateMm [hGateMm : Cert.GateMm.Facts] : Prop :=
  ∀ (m : (ℓ : Loc Cert.GateMm.nD Cert.GateMm.τ Cert.GateMm.sig) → Buf (Elt Bits) ℓ) (g : Dev Cert.GateMm.nD → PrngReg), Pre_GateMm m →
    θ_run (Cert.GateMm.defs (F := Bits)) (onTc (τ := Cert.GateMm.τ) (Cert.GateMm.main (F := Bits))) ⟨m, fun _ => 0, g⟩ (fun r => (∀ c : Dev Cert.GateMm.nD,
      r.2.mem ((c.tc : Thread Cert.GateMm.nD Cert.GateMm.τ).loc Cert.GateMm.main_arg0) = m ((c.tc : Thread Cert.GateMm.nD Cert.GateMm.τ).loc Cert.GateMm.main_arg0)
      ∧ r.2.mem ((c.tc : Thread Cert.GateMm.nD Cert.GateMm.τ).loc Cert.GateMm.main_arg1) = m ((c.tc : Thread Cert.GateMm.nD Cert.GateMm.τ).loc Cert.GateMm.main_arg1))
      ∧ r.2.sem = fun _ => 0)

def quiescent_GateMmIdeal [hGateMmIdeal : Cert.GateMmIdeal.Facts] : Prop :=
  ∀ (m : (ℓ : Loc Cert.GateMmIdeal.nD Cert.GateMmIdeal.τ Cert.GateMmIdeal.sig) → Buf (Elt Ideal) ℓ) (g : Dev Cert.GateMmIdeal.nD → PrngReg), Pre_GateMmIdeal m →
    θ_run (Cert.GateMmIdeal.defs (F := Ideal)) (onTc (τ := Cert.GateMmIdeal.τ) (Cert.GateMmIdeal.main (F := Ideal))) ⟨m, fun _ => 0, g⟩ (fun r => (∀ c : Dev Cert.GateMmIdeal.nD,
      r.2.mem ((c.tc : Thread Cert.GateMmIdeal.nD Cert.GateMmIdeal.τ).loc Cert.GateMmIdeal.main_arg0) = m ((c.tc : Thread Cert.GateMmIdeal.nD Cert.GateMmIdeal.τ).loc Cert.GateMmIdeal.main_arg0)
      ∧ r.2.mem ((c.tc : Thread Cert.GateMmIdeal.nD Cert.GateMmIdeal.τ).loc Cert.GateMmIdeal.main_arg1) = m ((c.tc : Thread Cert.GateMmIdeal.nD Cert.GateMmIdeal.τ).loc Cert.GateMmIdeal.main_arg1))
      ∧ r.2.sem = fun _ => 0)

def quiescent_GateMmRefIdeal [hGateMmRefIdeal : Cert.GateMmRefIdeal.Facts] : Prop :=
  ∀ (m : (ℓ : Loc Cert.GateMmRefIdeal.nD Cert.GateMmRefIdeal.τ Cert.GateMmRefIdeal.sig) → Buf (Elt Ideal) ℓ) (g : Dev Cert.GateMmRefIdeal.nD → PrngReg), Pre_GateMmRefIdeal m →
    θ_run (Cert.GateMmRefIdeal.defs (F := Ideal)) (onTc (τ := Cert.GateMmRefIdeal.τ) (Cert.GateMmRefIdeal.main (F := Ideal))) ⟨m, fun _ => 0, g⟩ (fun r => (∀ c : Dev Cert.GateMmRefIdeal.nD,
      r.2.mem ((c.tc : Thread Cert.GateMmRefIdeal.nD Cert.GateMmRefIdeal.τ).loc Cert.GateMmRefIdeal.main_arg0) = m ((c.tc : Thread Cert.GateMmRefIdeal.nD Cert.GateMmRefIdeal.τ).loc Cert.GateMmRefIdeal.main_arg0)
      ∧ r.2.mem ((c.tc : Thread Cert.GateMmRefIdeal.nD Cert.GateMmRefIdeal.τ).loc Cert.GateMmRefIdeal.main_arg1) = m ((c.tc : Thread Cert.GateMmRefIdeal.nD Cert.GateMmRefIdeal.τ).loc Cert.GateMmRefIdeal.main_arg1))
      ∧ r.2.sem = fun _ => 0)

def quiescent_GateDw [hGateDw : Cert.GateDw.Facts] : Prop :=
  ∀ (m : (ℓ : Loc Cert.GateDw.nD Cert.GateDw.τ Cert.GateDw.sig) → Buf (Elt Bits) ℓ) (g : Dev Cert.GateDw.nD → PrngReg), Pre_GateDw m →
    θ_run (Cert.GateDw.defs (F := Bits)) (onTc (τ := Cert.GateDw.τ) (Cert.GateDw.main (F := Bits))) ⟨m, fun _ => 0, g⟩ (fun r => (∀ c : Dev Cert.GateDw.nD,
      r.2.mem ((c.tc : Thread Cert.GateDw.nD Cert.GateDw.τ).loc Cert.GateDw.main_arg0) = m ((c.tc : Thread Cert.GateDw.nD Cert.GateDw.τ).loc Cert.GateDw.main_arg0)
      ∧ r.2.mem ((c.tc : Thread Cert.GateDw.nD Cert.GateDw.τ).loc Cert.GateDw.main_arg1) = m ((c.tc : Thread Cert.GateDw.nD Cert.GateDw.τ).loc Cert.GateDw.main_arg1))
      ∧ r.2.sem = fun _ => 0)

def quiescent_GateDwIdeal [hGateDwIdeal : Cert.GateDwIdeal.Facts] : Prop :=
  ∀ (m : (ℓ : Loc Cert.GateDwIdeal.nD Cert.GateDwIdeal.τ Cert.GateDwIdeal.sig) → Buf (Elt Ideal) ℓ) (g : Dev Cert.GateDwIdeal.nD → PrngReg), Pre_GateDwIdeal m →
    θ_run (Cert.GateDwIdeal.defs (F := Ideal)) (onTc (τ := Cert.GateDwIdeal.τ) (Cert.GateDwIdeal.main (F := Ideal))) ⟨m, fun _ => 0, g⟩ (fun r => (∀ c : Dev Cert.GateDwIdeal.nD,
      r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
      ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1))
      ∧ r.2.sem = fun _ => 0)

def quiescent_GateDwRefIdeal [hGateDwRefIdeal : Cert.GateDwRefIdeal.Facts] : Prop :=
  ∀ (m : (ℓ : Loc Cert.GateDwRefIdeal.nD Cert.GateDwRefIdeal.τ Cert.GateDwRefIdeal.sig) → Buf (Elt Ideal) ℓ) (g : Dev Cert.GateDwRefIdeal.nD → PrngReg), Pre_GateDwRefIdeal m →
    θ_run (Cert.GateDwRefIdeal.defs (F := Ideal)) (onTc (τ := Cert.GateDwRefIdeal.τ) (Cert.GateDwRefIdeal.main (F := Ideal))) ⟨m, fun _ => 0, g⟩ (fun r => (∀ c : Dev Cert.GateDwRefIdeal.nD,
      r.2.mem ((c.tc : Thread Cert.GateDwRefIdeal.nD Cert.GateDwRefIdeal.τ).loc Cert.GateDwRefIdeal.main_arg0) = m ((c.tc : Thread Cert.GateDwRefIdeal.nD Cert.GateDwRefIdeal.τ).loc Cert.GateDwRefIdeal.main_arg0)
      ∧ r.2.mem ((c.tc : Thread Cert.GateDwRefIdeal.nD Cert.GateDwRefIdeal.τ).loc Cert.GateDwRefIdeal.main_arg1) = m ((c.tc : Thread Cert.GateDwRefIdeal.nD Cert.GateDwRefIdeal.τ).loc Cert.GateDwRefIdeal.main_arg1))
      ∧ r.2.sem = fun _ => 0)

def quiescent_GateDx [hGateDx : Cert.GateDx.Facts] : Prop :=
  ∀ (m : (ℓ : Loc Cert.GateDx.nD Cert.GateDx.τ Cert.GateDx.sig) → Buf (Elt Bits) ℓ) (g : Dev Cert.GateDx.nD → PrngReg), Pre_GateDx m →
    θ_run (Cert.GateDx.defs (F := Bits)) (onTc (τ := Cert.GateDx.τ) (Cert.GateDx.main (F := Bits))) ⟨m, fun _ => 0, g⟩ (fun r => (∀ c : Dev Cert.GateDx.nD,
      r.2.mem ((c.tc : Thread Cert.GateDx.nD Cert.GateDx.τ).loc Cert.GateDx.main_arg0) = m ((c.tc : Thread Cert.GateDx.nD Cert.GateDx.τ).loc Cert.GateDx.main_arg0)
      ∧ r.2.mem ((c.tc : Thread Cert.GateDx.nD Cert.GateDx.τ).loc Cert.GateDx.main_arg1) = m ((c.tc : Thread Cert.GateDx.nD Cert.GateDx.τ).loc Cert.GateDx.main_arg1))
      ∧ r.2.sem = fun _ => 0)

def quiescent_GateDxIdeal [hGateDxIdeal : Cert.GateDxIdeal.Facts] : Prop :=
  ∀ (m : (ℓ : Loc Cert.GateDxIdeal.nD Cert.GateDxIdeal.τ Cert.GateDxIdeal.sig) → Buf (Elt Ideal) ℓ) (g : Dev Cert.GateDxIdeal.nD → PrngReg), Pre_GateDxIdeal m →
    θ_run (Cert.GateDxIdeal.defs (F := Ideal)) (onTc (τ := Cert.GateDxIdeal.τ) (Cert.GateDxIdeal.main (F := Ideal))) ⟨m, fun _ => 0, g⟩ (fun r => (∀ c : Dev Cert.GateDxIdeal.nD,
      r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
      ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1))
      ∧ r.2.sem = fun _ => 0)

def quiescent_GateDxRefIdeal [hGateDxRefIdeal : Cert.GateDxRefIdeal.Facts] : Prop :=
  ∀ (m : (ℓ : Loc Cert.GateDxRefIdeal.nD Cert.GateDxRefIdeal.τ Cert.GateDxRefIdeal.sig) → Buf (Elt Ideal) ℓ) (g : Dev Cert.GateDxRefIdeal.nD → PrngReg), Pre_GateDxRefIdeal m →
    θ_run (Cert.GateDxRefIdeal.defs (F := Ideal)) (onTc (τ := Cert.GateDxRefIdeal.τ) (Cert.GateDxRefIdeal.main (F := Ideal))) ⟨m, fun _ => 0, g⟩ (fun r => (∀ c : Dev Cert.GateDxRefIdeal.nD,
      r.2.mem ((c.tc : Thread Cert.GateDxRefIdeal.nD Cert.GateDxRefIdeal.τ).loc Cert.GateDxRefIdeal.main_arg0) = m ((c.tc : Thread Cert.GateDxRefIdeal.nD Cert.GateDxRefIdeal.τ).loc Cert.GateDxRefIdeal.main_arg0)
      ∧ r.2.mem ((c.tc : Thread Cert.GateDxRefIdeal.nD Cert.GateDxRefIdeal.τ).loc Cert.GateDxRefIdeal.main_arg1) = m ((c.tc : Thread Cert.GateDxRefIdeal.nD Cert.GateDxRefIdeal.τ).loc Cert.GateDxRefIdeal.main_arg1))
      ∧ r.2.sem = fun _ => 0)

def quiescent_ShortBwd [hShortBwd : Cert.ShortBwd.Facts] : Prop :=
  ∀ (m : (ℓ : Loc Cert.ShortBwd.nD Cert.ShortBwd.τ Cert.ShortBwd.sig) → Buf (Elt Bits) ℓ) (g : Dev Cert.ShortBwd.nD → PrngReg), Pre_ShortBwd m →
    θ_run (Cert.ShortBwd.defs (F := Bits)) (onTc (τ := Cert.ShortBwd.τ) (Cert.ShortBwd.main (F := Bits))) ⟨m, fun _ => 0, g⟩ (fun r => (∀ c : Dev Cert.ShortBwd.nD,
      r.2.mem ((c.tc : Thread Cert.ShortBwd.nD Cert.ShortBwd.τ).loc Cert.ShortBwd.main_arg0) = m ((c.tc : Thread Cert.ShortBwd.nD Cert.ShortBwd.τ).loc Cert.ShortBwd.main_arg0)
      ∧ r.2.mem ((c.tc : Thread Cert.ShortBwd.nD Cert.ShortBwd.τ).loc Cert.ShortBwd.main_arg1) = m ((c.tc : Thread Cert.ShortBwd.nD Cert.ShortBwd.τ).loc Cert.ShortBwd.main_arg1)
      ∧ r.2.mem ((c.tc : Thread Cert.ShortBwd.nD Cert.ShortBwd.τ).loc Cert.ShortBwd.main_arg2) = m ((c.tc : Thread Cert.ShortBwd.nD Cert.ShortBwd.τ).loc Cert.ShortBwd.main_arg2)
      ∧ r.2.mem ((c.tc : Thread Cert.ShortBwd.nD Cert.ShortBwd.τ).loc Cert.ShortBwd.main_arg3) = m ((c.tc : Thread Cert.ShortBwd.nD Cert.ShortBwd.τ).loc Cert.ShortBwd.main_arg3))
      ∧ r.2.sem = fun _ => 0)

def quiescent_ShortBwdIdeal [hShortBwdIdeal : Cert.ShortBwdIdeal.Facts] : Prop :=
  ∀ (m : (ℓ : Loc Cert.ShortBwdIdeal.nD Cert.ShortBwdIdeal.τ Cert.ShortBwdIdeal.sig) → Buf (Elt Ideal) ℓ) (g : Dev Cert.ShortBwdIdeal.nD → PrngReg), Pre_ShortBwdIdeal m →
    θ_run (Cert.ShortBwdIdeal.defs (F := Ideal)) (onTc (τ := Cert.ShortBwdIdeal.τ) (Cert.ShortBwdIdeal.main (F := Ideal))) ⟨m, fun _ => 0, g⟩ (fun r => (∀ c : Dev Cert.ShortBwdIdeal.nD,
      r.2.mem ((c.tc : Thread Cert.ShortBwdIdeal.nD Cert.ShortBwdIdeal.τ).loc Cert.ShortBwdIdeal.main_arg0) = m ((c.tc : Thread Cert.ShortBwdIdeal.nD Cert.ShortBwdIdeal.τ).loc Cert.ShortBwdIdeal.main_arg0)
      ∧ r.2.mem ((c.tc : Thread Cert.ShortBwdIdeal.nD Cert.ShortBwdIdeal.τ).loc Cert.ShortBwdIdeal.main_arg1) = m ((c.tc : Thread Cert.ShortBwdIdeal.nD Cert.ShortBwdIdeal.τ).loc Cert.ShortBwdIdeal.main_arg1)
      ∧ r.2.mem ((c.tc : Thread Cert.ShortBwdIdeal.nD Cert.ShortBwdIdeal.τ).loc Cert.ShortBwdIdeal.main_arg2) = m ((c.tc : Thread Cert.ShortBwdIdeal.nD Cert.ShortBwdIdeal.τ).loc Cert.ShortBwdIdeal.main_arg2)
      ∧ r.2.mem ((c.tc : Thread Cert.ShortBwdIdeal.nD Cert.ShortBwdIdeal.τ).loc Cert.ShortBwdIdeal.main_arg3) = m ((c.tc : Thread Cert.ShortBwdIdeal.nD Cert.ShortBwdIdeal.τ).loc Cert.ShortBwdIdeal.main_arg3))
      ∧ r.2.sem = fun _ => 0)

def quiescent_ShortBwdRefIdeal [hShortBwdRefIdeal : Cert.ShortBwdRefIdeal.Facts] : Prop :=
  ∀ (m : (ℓ : Loc Cert.ShortBwdRefIdeal.nD Cert.ShortBwdRefIdeal.τ Cert.ShortBwdRefIdeal.sig) → Buf (Elt Ideal) ℓ) (g : Dev Cert.ShortBwdRefIdeal.nD → PrngReg), Pre_ShortBwdRefIdeal m →
    θ_run (Cert.ShortBwdRefIdeal.defs (F := Ideal)) (onTc (τ := Cert.ShortBwdRefIdeal.τ) (Cert.ShortBwdRefIdeal.main (F := Ideal))) ⟨m, fun _ => 0, g⟩ (fun r => (∀ c : Dev Cert.ShortBwdRefIdeal.nD,
      r.2.mem ((c.tc : Thread Cert.ShortBwdRefIdeal.nD Cert.ShortBwdRefIdeal.τ).loc Cert.ShortBwdRefIdeal.main_arg0) = m ((c.tc : Thread Cert.ShortBwdRefIdeal.nD Cert.ShortBwdRefIdeal.τ).loc Cert.ShortBwdRefIdeal.main_arg0)
      ∧ r.2.mem ((c.tc : Thread Cert.ShortBwdRefIdeal.nD Cert.ShortBwdRefIdeal.τ).loc Cert.ShortBwdRefIdeal.main_arg1) = m ((c.tc : Thread Cert.ShortBwdRefIdeal.nD Cert.ShortBwdRefIdeal.τ).loc Cert.ShortBwdRefIdeal.main_arg1)
      ∧ r.2.mem ((c.tc : Thread Cert.ShortBwdRefIdeal.nD Cert.ShortBwdRefIdeal.τ).loc Cert.ShortBwdRefIdeal.main_arg2) = m ((c.tc : Thread Cert.ShortBwdRefIdeal.nD Cert.ShortBwdRefIdeal.τ).loc Cert.ShortBwdRefIdeal.main_arg2)
      ∧ r.2.mem ((c.tc : Thread Cert.ShortBwdRefIdeal.nD Cert.ShortBwdRefIdeal.τ).loc Cert.ShortBwdRefIdeal.main_arg3) = m ((c.tc : Thread Cert.ShortBwdRefIdeal.nD Cert.ShortBwdRefIdeal.τ).loc Cert.ShortBwdRefIdeal.main_arg3))
      ∧ r.2.sem = fun _ => 0)

def quiescent_ShortFwd [hShortFwd : Cert.ShortFwd.Facts] : Prop :=
  ∀ (m : (ℓ : Loc Cert.ShortFwd.nD Cert.ShortFwd.τ Cert.ShortFwd.sig) → Buf (Elt Bits) ℓ) (g : Dev Cert.ShortFwd.nD → PrngReg), Pre_ShortFwd m →
    θ_run (Cert.ShortFwd.defs (F := Bits)) (onTc (τ := Cert.ShortFwd.τ) (Cert.ShortFwd.main (F := Bits))) ⟨m, fun _ => 0, g⟩ (fun r => (∀ c : Dev Cert.ShortFwd.nD,
      r.2.mem ((c.tc : Thread Cert.ShortFwd.nD Cert.ShortFwd.τ).loc Cert.ShortFwd.main_arg0) = m ((c.tc : Thread Cert.ShortFwd.nD Cert.ShortFwd.τ).loc Cert.ShortFwd.main_arg0)
      ∧ r.2.mem ((c.tc : Thread Cert.ShortFwd.nD Cert.ShortFwd.τ).loc Cert.ShortFwd.main_arg1) = m ((c.tc : Thread Cert.ShortFwd.nD Cert.ShortFwd.τ).loc Cert.ShortFwd.main_arg1)
      ∧ r.2.mem ((c.tc : Thread Cert.ShortFwd.nD Cert.ShortFwd.τ).loc Cert.ShortFwd.main_arg2) = m ((c.tc : Thread Cert.ShortFwd.nD Cert.ShortFwd.τ).loc Cert.ShortFwd.main_arg2))
      ∧ r.2.sem = fun _ => 0)

def quiescent_ShortFwdIdeal [hShortFwdIdeal : Cert.ShortFwdIdeal.Facts] : Prop :=
  ∀ (m : (ℓ : Loc Cert.ShortFwdIdeal.nD Cert.ShortFwdIdeal.τ Cert.ShortFwdIdeal.sig) → Buf (Elt Ideal) ℓ) (g : Dev Cert.ShortFwdIdeal.nD → PrngReg), Pre_ShortFwdIdeal m →
    θ_run (Cert.ShortFwdIdeal.defs (F := Ideal)) (onTc (τ := Cert.ShortFwdIdeal.τ) (Cert.ShortFwdIdeal.main (F := Ideal))) ⟨m, fun _ => 0, g⟩ (fun r => (∀ c : Dev Cert.ShortFwdIdeal.nD,
      r.2.mem ((c.tc : Thread Cert.ShortFwdIdeal.nD Cert.ShortFwdIdeal.τ).loc Cert.ShortFwdIdeal.main_arg0) = m ((c.tc : Thread Cert.ShortFwdIdeal.nD Cert.ShortFwdIdeal.τ).loc Cert.ShortFwdIdeal.main_arg0)
      ∧ r.2.mem ((c.tc : Thread Cert.ShortFwdIdeal.nD Cert.ShortFwdIdeal.τ).loc Cert.ShortFwdIdeal.main_arg1) = m ((c.tc : Thread Cert.ShortFwdIdeal.nD Cert.ShortFwdIdeal.τ).loc Cert.ShortFwdIdeal.main_arg1)
      ∧ r.2.mem ((c.tc : Thread Cert.ShortFwdIdeal.nD Cert.ShortFwdIdeal.τ).loc Cert.ShortFwdIdeal.main_arg2) = m ((c.tc : Thread Cert.ShortFwdIdeal.nD Cert.ShortFwdIdeal.τ).loc Cert.ShortFwdIdeal.main_arg2))
      ∧ r.2.sem = fun _ => 0)

def quiescent_ShortFwdRefIdeal [hShortFwdRefIdeal : Cert.ShortFwdRefIdeal.Facts] : Prop :=
  ∀ (m : (ℓ : Loc Cert.ShortFwdRefIdeal.nD Cert.ShortFwdRefIdeal.τ Cert.ShortFwdRefIdeal.sig) → Buf (Elt Ideal) ℓ) (g : Dev Cert.ShortFwdRefIdeal.nD → PrngReg), Pre_ShortFwdRefIdeal m →
    θ_run (Cert.ShortFwdRefIdeal.defs (F := Ideal)) (onTc (τ := Cert.ShortFwdRefIdeal.τ) (Cert.ShortFwdRefIdeal.main (F := Ideal))) ⟨m, fun _ => 0, g⟩ (fun r => (∀ c : Dev Cert.ShortFwdRefIdeal.nD,
      r.2.mem ((c.tc : Thread Cert.ShortFwdRefIdeal.nD Cert.ShortFwdRefIdeal.τ).loc Cert.ShortFwdRefIdeal.main_arg0) = m ((c.tc : Thread Cert.ShortFwdRefIdeal.nD Cert.ShortFwdRefIdeal.τ).loc Cert.ShortFwdRefIdeal.main_arg0)
      ∧ r.2.mem ((c.tc : Thread Cert.ShortFwdRefIdeal.nD Cert.ShortFwdRefIdeal.τ).loc Cert.ShortFwdRefIdeal.main_arg1) = m ((c.tc : Thread Cert.ShortFwdRefIdeal.nD Cert.ShortFwdRefIdeal.τ).loc Cert.ShortFwdRefIdeal.main_arg1)
      ∧ r.2.mem ((c.tc : Thread Cert.ShortFwdRefIdeal.nD Cert.ShortFwdRefIdeal.τ).loc Cert.ShortFwdRefIdeal.main_arg2) = m ((c.tc : Thread Cert.ShortFwdRefIdeal.nD Cert.ShortFwdRefIdeal.τ).loc Cert.ShortFwdRefIdeal.main_arg2))
      ∧ r.2.sem = fun _ => 0)

def quiescent_ActBwd [hActBwd : Cert.ActBwd.Facts] : Prop :=
  ∀ (m : (ℓ : Loc Cert.ActBwd.nD Cert.ActBwd.τ Cert.ActBwd.sig) → Buf (Elt Bits) ℓ) (g : Dev Cert.ActBwd.nD → PrngReg), Pre_ActBwd m →
    θ_run (Cert.ActBwd.defs (F := Bits)) (onTc (τ := Cert.ActBwd.τ) (Cert.ActBwd.main (F := Bits))) ⟨m, fun _ => 0, g⟩ (fun r => (∀ c : Dev Cert.ActBwd.nD,
      r.2.mem ((c.tc : Thread Cert.ActBwd.nD Cert.ActBwd.τ).loc Cert.ActBwd.main_arg0) = m ((c.tc : Thread Cert.ActBwd.nD Cert.ActBwd.τ).loc Cert.ActBwd.main_arg0)
      ∧ r.2.mem ((c.tc : Thread Cert.ActBwd.nD Cert.ActBwd.τ).loc Cert.ActBwd.main_arg1) = m ((c.tc : Thread Cert.ActBwd.nD Cert.ActBwd.τ).loc Cert.ActBwd.main_arg1)
      ∧ r.2.mem ((c.tc : Thread Cert.ActBwd.nD Cert.ActBwd.τ).loc Cert.ActBwd.main_arg2) = m ((c.tc : Thread Cert.ActBwd.nD Cert.ActBwd.τ).loc Cert.ActBwd.main_arg2))
      ∧ r.2.sem = fun _ => 0)

def quiescent_ActBwdIdeal [hActBwdIdeal : Cert.ActBwdIdeal.Facts] : Prop :=
  ∀ (m : (ℓ : Loc Cert.ActBwdIdeal.nD Cert.ActBwdIdeal.τ Cert.ActBwdIdeal.sig) → Buf (Elt Ideal) ℓ) (g : Dev Cert.ActBwdIdeal.nD → PrngReg), Pre_ActBwdIdeal m →
    θ_run (Cert.ActBwdIdeal.defs (F := Ideal)) (onTc (τ := Cert.ActBwdIdeal.τ) (Cert.ActBwdIdeal.main (F := Ideal))) ⟨m, fun _ => 0, g⟩ (fun r => (∀ c : Dev Cert.ActBwdIdeal.nD,
      r.2.mem ((c.tc : Thread Cert.ActBwdIdeal.nD Cert.ActBwdIdeal.τ).loc Cert.ActBwdIdeal.main_arg0) = m ((c.tc : Thread Cert.ActBwdIdeal.nD Cert.ActBwdIdeal.τ).loc Cert.ActBwdIdeal.main_arg0)
      ∧ r.2.mem ((c.tc : Thread Cert.ActBwdIdeal.nD Cert.ActBwdIdeal.τ).loc Cert.ActBwdIdeal.main_arg1) = m ((c.tc : Thread Cert.ActBwdIdeal.nD Cert.ActBwdIdeal.τ).loc Cert.ActBwdIdeal.main_arg1)
      ∧ r.2.mem ((c.tc : Thread Cert.ActBwdIdeal.nD Cert.ActBwdIdeal.τ).loc Cert.ActBwdIdeal.main_arg2) = m ((c.tc : Thread Cert.ActBwdIdeal.nD Cert.ActBwdIdeal.τ).loc Cert.ActBwdIdeal.main_arg2))
      ∧ r.2.sem = fun _ => 0)

def quiescent_ActBwdIdeal_pre_act_finite [hActBwdIdeal : Cert.ActBwdIdeal.Facts] [hPre_act_finite : Cert.Pre_act_finite.Facts] : Prop :=
  ∀ (m : (ℓ : Loc Cert.ActBwdIdeal.nD Cert.ActBwdIdeal.τ Cert.ActBwdIdeal.sig) → Buf (Elt Ideal) ℓ) (g : Dev Cert.ActBwdIdeal.nD → PrngReg), Pre_ActBwdIdeal_act_finite m →
    θ_run (Cert.ActBwdIdeal.defs (F := Ideal)) (onTc (τ := Cert.ActBwdIdeal.τ) (Cert.ActBwdIdeal.main (F := Ideal))) ⟨m, fun _ => 0, g⟩ (fun r => (∀ c : Dev Cert.ActBwdIdeal.nD,
      r.2.mem ((c.tc : Thread Cert.ActBwdIdeal.nD Cert.ActBwdIdeal.τ).loc Cert.ActBwdIdeal.main_arg0) = m ((c.tc : Thread Cert.ActBwdIdeal.nD Cert.ActBwdIdeal.τ).loc Cert.ActBwdIdeal.main_arg0)
      ∧ r.2.mem ((c.tc : Thread Cert.ActBwdIdeal.nD Cert.ActBwdIdeal.τ).loc Cert.ActBwdIdeal.main_arg1) = m ((c.tc : Thread Cert.ActBwdIdeal.nD Cert.ActBwdIdeal.τ).loc Cert.ActBwdIdeal.main_arg1)
      ∧ r.2.mem ((c.tc : Thread Cert.ActBwdIdeal.nD Cert.ActBwdIdeal.τ).loc Cert.ActBwdIdeal.main_arg2) = m ((c.tc : Thread Cert.ActBwdIdeal.nD Cert.ActBwdIdeal.τ).loc Cert.ActBwdIdeal.main_arg2))
      ∧ r.2.sem = fun _ => 0)

def quiescent_ActBwdRefIdeal [hActBwdRefIdeal : Cert.ActBwdRefIdeal.Facts] : Prop :=
  ∀ (m : (ℓ : Loc Cert.ActBwdRefIdeal.nD Cert.ActBwdRefIdeal.τ Cert.ActBwdRefIdeal.sig) → Buf (Elt Ideal) ℓ) (g : Dev Cert.ActBwdRefIdeal.nD → PrngReg), Pre_ActBwdRefIdeal m →
    θ_run (Cert.ActBwdRefIdeal.defs (F := Ideal)) (onTc (τ := Cert.ActBwdRefIdeal.τ) (Cert.ActBwdRefIdeal.main (F := Ideal))) ⟨m, fun _ => 0, g⟩ (fun r => (∀ c : Dev Cert.ActBwdRefIdeal.nD,
      r.2.mem ((c.tc : Thread Cert.ActBwdRefIdeal.nD Cert.ActBwdRefIdeal.τ).loc Cert.ActBwdRefIdeal.main_arg0) = m ((c.tc : Thread Cert.ActBwdRefIdeal.nD Cert.ActBwdRefIdeal.τ).loc Cert.ActBwdRefIdeal.main_arg0)
      ∧ r.2.mem ((c.tc : Thread Cert.ActBwdRefIdeal.nD Cert.ActBwdRefIdeal.τ).loc Cert.ActBwdRefIdeal.main_arg1) = m ((c.tc : Thread Cert.ActBwdRefIdeal.nD Cert.ActBwdRefIdeal.τ).loc Cert.ActBwdRefIdeal.main_arg1)
      ∧ r.2.mem ((c.tc : Thread Cert.ActBwdRefIdeal.nD Cert.ActBwdRefIdeal.τ).loc Cert.ActBwdRefIdeal.main_arg2) = m ((c.tc : Thread Cert.ActBwdRefIdeal.nD Cert.ActBwdRefIdeal.τ).loc Cert.ActBwdRefIdeal.main_arg2))
      ∧ r.2.sem = fun _ => 0)

def quiescent_ActBwdRefIdeal_pre_act_finite [hActBwdRefIdeal : Cert.ActBwdRefIdeal.Facts] [hPre_act_finite : Cert.Pre_act_finite.Facts] : Prop :=
  ∀ (m : (ℓ : Loc Cert.ActBwdRefIdeal.nD Cert.ActBwdRefIdeal.τ Cert.ActBwdRefIdeal.sig) → Buf (Elt Ideal) ℓ) (g : Dev Cert.ActBwdRefIdeal.nD → PrngReg), Pre_ActBwdRefIdeal_act_finite m →
    θ_run (Cert.ActBwdRefIdeal.defs (F := Ideal)) (onTc (τ := Cert.ActBwdRefIdeal.τ) (Cert.ActBwdRefIdeal.main (F := Ideal))) ⟨m, fun _ => 0, g⟩ (fun r => (∀ c : Dev Cert.ActBwdRefIdeal.nD,
      r.2.mem ((c.tc : Thread Cert.ActBwdRefIdeal.nD Cert.ActBwdRefIdeal.τ).loc Cert.ActBwdRefIdeal.main_arg0) = m ((c.tc : Thread Cert.ActBwdRefIdeal.nD Cert.ActBwdRefIdeal.τ).loc Cert.ActBwdRefIdeal.main_arg0)
      ∧ r.2.mem ((c.tc : Thread Cert.ActBwdRefIdeal.nD Cert.ActBwdRefIdeal.τ).loc Cert.ActBwdRefIdeal.main_arg1) = m ((c.tc : Thread Cert.ActBwdRefIdeal.nD Cert.ActBwdRefIdeal.τ).loc Cert.ActBwdRefIdeal.main_arg1)
      ∧ r.2.mem ((c.tc : Thread Cert.ActBwdRefIdeal.nD Cert.ActBwdRefIdeal.τ).loc Cert.ActBwdRefIdeal.main_arg2) = m ((c.tc : Thread Cert.ActBwdRefIdeal.nD Cert.ActBwdRefIdeal.τ).loc Cert.ActBwdRefIdeal.main_arg2))
      ∧ r.2.sem = fun _ => 0)

def quiescent_ActFwd [hActFwd : Cert.ActFwd.Facts] : Prop :=
  ∀ (m : (ℓ : Loc Cert.ActFwd.nD Cert.ActFwd.τ Cert.ActFwd.sig) → Buf (Elt Bits) ℓ) (g : Dev Cert.ActFwd.nD → PrngReg), Pre_ActFwd m →
    θ_run (Cert.ActFwd.defs (F := Bits)) (onTc (τ := Cert.ActFwd.τ) (Cert.ActFwd.main (F := Bits))) ⟨m, fun _ => 0, g⟩ (fun r => (∀ c : Dev Cert.ActFwd.nD,
      r.2.mem ((c.tc : Thread Cert.ActFwd.nD Cert.ActFwd.τ).loc Cert.ActFwd.main_arg0) = m ((c.tc : Thread Cert.ActFwd.nD Cert.ActFwd.τ).loc Cert.ActFwd.main_arg0)
      ∧ r.2.mem ((c.tc : Thread Cert.ActFwd.nD Cert.ActFwd.τ).loc Cert.ActFwd.main_arg1) = m ((c.tc : Thread Cert.ActFwd.nD Cert.ActFwd.τ).loc Cert.ActFwd.main_arg1))
      ∧ r.2.sem = fun _ => 0)

def quiescent_ActFwdIdeal [hActFwdIdeal : Cert.ActFwdIdeal.Facts] : Prop :=
  ∀ (m : (ℓ : Loc Cert.ActFwdIdeal.nD Cert.ActFwdIdeal.τ Cert.ActFwdIdeal.sig) → Buf (Elt Ideal) ℓ) (g : Dev Cert.ActFwdIdeal.nD → PrngReg), Pre_ActFwdIdeal m →
    θ_run (Cert.ActFwdIdeal.defs (F := Ideal)) (onTc (τ := Cert.ActFwdIdeal.τ) (Cert.ActFwdIdeal.main (F := Ideal))) ⟨m, fun _ => 0, g⟩ (fun r => (∀ c : Dev Cert.ActFwdIdeal.nD,
      r.2.mem ((c.tc : Thread Cert.ActFwdIdeal.nD Cert.ActFwdIdeal.τ).loc Cert.ActFwdIdeal.main_arg0) = m ((c.tc : Thread Cert.ActFwdIdeal.nD Cert.ActFwdIdeal.τ).loc Cert.ActFwdIdeal.main_arg0)
      ∧ r.2.mem ((c.tc : Thread Cert.ActFwdIdeal.nD Cert.ActFwdIdeal.τ).loc Cert.ActFwdIdeal.main_arg1) = m ((c.tc : Thread Cert.ActFwdIdeal.nD Cert.ActFwdIdeal.τ).loc Cert.ActFwdIdeal.main_arg1))
      ∧ r.2.sem = fun _ => 0)

def quiescent_ActFwdRefIdeal [hActFwdRefIdeal : Cert.ActFwdRefIdeal.Facts] : Prop :=
  ∀ (m : (ℓ : Loc Cert.ActFwdRefIdeal.nD Cert.ActFwdRefIdeal.τ Cert.ActFwdRefIdeal.sig) → Buf (Elt Ideal) ℓ) (g : Dev Cert.ActFwdRefIdeal.nD → PrngReg), Pre_ActFwdRefIdeal m →
    θ_run (Cert.ActFwdRefIdeal.defs (F := Ideal)) (onTc (τ := Cert.ActFwdRefIdeal.τ) (Cert.ActFwdRefIdeal.main (F := Ideal))) ⟨m, fun _ => 0, g⟩ (fun r => (∀ c : Dev Cert.ActFwdRefIdeal.nD,
      r.2.mem ((c.tc : Thread Cert.ActFwdRefIdeal.nD Cert.ActFwdRefIdeal.τ).loc Cert.ActFwdRefIdeal.main_arg0) = m ((c.tc : Thread Cert.ActFwdRefIdeal.nD Cert.ActFwdRefIdeal.τ).loc Cert.ActFwdRefIdeal.main_arg0)
      ∧ r.2.mem ((c.tc : Thread Cert.ActFwdRefIdeal.nD Cert.ActFwdRefIdeal.τ).loc Cert.ActFwdRefIdeal.main_arg1) = m ((c.tc : Thread Cert.ActFwdRefIdeal.nD Cert.ActFwdRefIdeal.τ).loc Cert.ActFwdRefIdeal.main_arg1))
      ∧ r.2.sem = fun _ => 0)

def quiescent_AdamIn0 [hAdamIn0 : Cert.AdamIn0.Facts] [hPre_chip_in0 : Cert.Pre_chip_in0.Facts] : Prop :=
  ∀ (m : (ℓ : Loc Cert.AdamIn0.nD Cert.AdamIn0.τ Cert.AdamIn0.sig) → Buf (Elt Bits) ℓ) (g : Dev Cert.AdamIn0.nD → PrngReg), Pre_AdamIn0 m →
    θ_run (Cert.AdamIn0.defs (F := Bits)) (onTc (τ := Cert.AdamIn0.τ) (Cert.AdamIn0.main (F := Bits))) ⟨m, fun _ => 0, g⟩ (fun r => (∀ c : Dev Cert.AdamIn0.nD,
      r.2.mem ((c.tc : Thread Cert.AdamIn0.nD Cert.AdamIn0.τ).loc Cert.AdamIn0.main_arg0) = m ((c.tc : Thread Cert.AdamIn0.nD Cert.AdamIn0.τ).loc Cert.AdamIn0.main_arg0)
      ∧ r.2.mem ((c.tc : Thread Cert.AdamIn0.nD Cert.AdamIn0.τ).loc Cert.AdamIn0.main_arg1) = m ((c.tc : Thread Cert.AdamIn0.nD Cert.AdamIn0.τ).loc Cert.AdamIn0.main_arg1)
      ∧ r.2.mem ((c.tc : Thread Cert.AdamIn0.nD Cert.AdamIn0.τ).loc Cert.AdamIn0.main_arg2) = m ((c.tc : Thread Cert.AdamIn0.nD Cert.AdamIn0.τ).loc Cert.AdamIn0.main_arg2)
      ∧ r.2.mem ((c.tc : Thread Cert.AdamIn0.nD Cert.AdamIn0.τ).loc Cert.AdamIn0.main_arg3) = m ((c.tc : Thread Cert.AdamIn0.nD Cert.AdamIn0.τ).loc Cert.AdamIn0.main_arg3)
      ∧ r.2.mem ((c.tc : Thread Cert.AdamIn0.nD Cert.AdamIn0.τ).loc Cert.AdamIn0.main_arg4) = m ((c.tc : Thread Cert.AdamIn0.nD Cert.AdamIn0.τ).loc Cert.AdamIn0.main_arg4)
      ∧ r.2.mem ((c.tc : Thread Cert.AdamIn0.nD Cert.AdamIn0.τ).loc Cert.AdamIn0.main_arg5) = m ((c.tc : Thread Cert.AdamIn0.nD Cert.AdamIn0.τ).loc Cert.AdamIn0.main_arg5))
      ∧ r.2.sem = fun _ => 0)

def quiescent_AdamIn0Ideal [hAdamIn0Ideal : Cert.AdamIn0Ideal.Facts] [hPre_chip_in0 : Cert.Pre_chip_in0.Facts] : Prop :=
  ∀ (m : (ℓ : Loc Cert.AdamIn0Ideal.nD Cert.AdamIn0Ideal.τ Cert.AdamIn0Ideal.sig) → Buf (Elt Ideal) ℓ) (g : Dev Cert.AdamIn0Ideal.nD → PrngReg), Pre_AdamIn0Ideal m →
    θ_run (Cert.AdamIn0Ideal.defs (F := Ideal)) (onTc (τ := Cert.AdamIn0Ideal.τ) (Cert.AdamIn0Ideal.main (F := Ideal))) ⟨m, fun _ => 0, g⟩ (fun r => (∀ c : Dev Cert.AdamIn0Ideal.nD,
      r.2.mem ((c.tc : Thread Cert.AdamIn0Ideal.nD Cert.AdamIn0Ideal.τ).loc Cert.AdamIn0Ideal.main_arg0) = m ((c.tc : Thread Cert.AdamIn0Ideal.nD Cert.AdamIn0Ideal.τ).loc Cert.AdamIn0Ideal.main_arg0)
      ∧ r.2.mem ((c.tc : Thread Cert.AdamIn0Ideal.nD Cert.AdamIn0Ideal.τ).loc Cert.AdamIn0Ideal.main_arg1) = m ((c.tc : Thread Cert.AdamIn0Ideal.nD Cert.AdamIn0Ideal.τ).loc Cert.AdamIn0Ideal.main_arg1)
      ∧ r.2.mem ((c.tc : Thread Cert.AdamIn0Ideal.nD Cert.AdamIn0Ideal.τ).loc Cert.AdamIn0Ideal.main_arg2) = m ((c.tc : Thread Cert.AdamIn0Ideal.nD Cert.AdamIn0Ideal.τ).loc Cert.AdamIn0Ideal.main_arg2)
      ∧ r.2.mem ((c.tc : Thread Cert.AdamIn0Ideal.nD Cert.AdamIn0Ideal.τ).loc Cert.AdamIn0Ideal.main_arg3) = m ((c.tc : Thread Cert.AdamIn0Ideal.nD Cert.AdamIn0Ideal.τ).loc Cert.AdamIn0Ideal.main_arg3)
      ∧ r.2.mem ((c.tc : Thread Cert.AdamIn0Ideal.nD Cert.AdamIn0Ideal.τ).loc Cert.AdamIn0Ideal.main_arg4) = m ((c.tc : Thread Cert.AdamIn0Ideal.nD Cert.AdamIn0Ideal.τ).loc Cert.AdamIn0Ideal.main_arg4)
      ∧ r.2.mem ((c.tc : Thread Cert.AdamIn0Ideal.nD Cert.AdamIn0Ideal.τ).loc Cert.AdamIn0Ideal.main_arg5) = m ((c.tc : Thread Cert.AdamIn0Ideal.nD Cert.AdamIn0Ideal.τ).loc Cert.AdamIn0Ideal.main_arg5))
      ∧ r.2.sem = fun _ => 0)

def quiescent_AdamIn0RefIdeal [hAdamIn0RefIdeal : Cert.AdamIn0RefIdeal.Facts] : Prop :=
  ∀ (m : (ℓ : Loc Cert.AdamIn0RefIdeal.nD Cert.AdamIn0RefIdeal.τ Cert.AdamIn0RefIdeal.sig) → Buf (Elt Ideal) ℓ) (g : Dev Cert.AdamIn0RefIdeal.nD → PrngReg), Pre_AdamIn0RefIdeal m →
    θ_run (Cert.AdamIn0RefIdeal.defs (F := Ideal)) (onTc (τ := Cert.AdamIn0RefIdeal.τ) (Cert.AdamIn0RefIdeal.main (F := Ideal))) ⟨m, fun _ => 0, g⟩ (fun r => (∀ c : Dev Cert.AdamIn0RefIdeal.nD,
      r.2.mem ((c.tc : Thread Cert.AdamIn0RefIdeal.nD Cert.AdamIn0RefIdeal.τ).loc Cert.AdamIn0RefIdeal.main_arg0) = m ((c.tc : Thread Cert.AdamIn0RefIdeal.nD Cert.AdamIn0RefIdeal.τ).loc Cert.AdamIn0RefIdeal.main_arg0)
      ∧ r.2.mem ((c.tc : Thread Cert.AdamIn0RefIdeal.nD Cert.AdamIn0RefIdeal.τ).loc Cert.AdamIn0RefIdeal.main_arg1) = m ((c.tc : Thread Cert.AdamIn0RefIdeal.nD Cert.AdamIn0RefIdeal.τ).loc Cert.AdamIn0RefIdeal.main_arg1)
      ∧ r.2.mem ((c.tc : Thread Cert.AdamIn0RefIdeal.nD Cert.AdamIn0RefIdeal.τ).loc Cert.AdamIn0RefIdeal.main_arg2) = m ((c.tc : Thread Cert.AdamIn0RefIdeal.nD Cert.AdamIn0RefIdeal.τ).loc Cert.AdamIn0RefIdeal.main_arg2)
      ∧ r.2.mem ((c.tc : Thread Cert.AdamIn0RefIdeal.nD Cert.AdamIn0RefIdeal.τ).loc Cert.AdamIn0RefIdeal.main_arg3) = m ((c.tc : Thread Cert.AdamIn0RefIdeal.nD Cert.AdamIn0RefIdeal.τ).loc Cert.AdamIn0RefIdeal.main_arg3)
      ∧ r.2.mem ((c.tc : Thread Cert.AdamIn0RefIdeal.nD Cert.AdamIn0RefIdeal.τ).loc Cert.AdamIn0RefIdeal.main_arg4) = m ((c.tc : Thread Cert.AdamIn0RefIdeal.nD Cert.AdamIn0RefIdeal.τ).loc Cert.AdamIn0RefIdeal.main_arg4)
      ∧ r.2.mem ((c.tc : Thread Cert.AdamIn0RefIdeal.nD Cert.AdamIn0RefIdeal.τ).loc Cert.AdamIn0RefIdeal.main_arg5) = m ((c.tc : Thread Cert.AdamIn0RefIdeal.nD Cert.AdamIn0RefIdeal.τ).loc Cert.AdamIn0RefIdeal.main_arg5))
      ∧ r.2.sem = fun _ => 0)

def quiescent_AdamIn0RefIdeal_pre_chip_in0 [hAdamIn0RefIdeal : Cert.AdamIn0RefIdeal.Facts] [hPre_chip_in0 : Cert.Pre_chip_in0.Facts] : Prop :=
  ∀ (m : (ℓ : Loc Cert.AdamIn0RefIdeal.nD Cert.AdamIn0RefIdeal.τ Cert.AdamIn0RefIdeal.sig) → Buf (Elt Ideal) ℓ) (g : Dev Cert.AdamIn0RefIdeal.nD → PrngReg), Pre_AdamIn0RefIdeal_chip_in0 m →
    θ_run (Cert.AdamIn0RefIdeal.defs (F := Ideal)) (onTc (τ := Cert.AdamIn0RefIdeal.τ) (Cert.AdamIn0RefIdeal.main (F := Ideal))) ⟨m, fun _ => 0, g⟩ (fun r => (∀ c : Dev Cert.AdamIn0RefIdeal.nD,
      r.2.mem ((c.tc : Thread Cert.AdamIn0RefIdeal.nD Cert.AdamIn0RefIdeal.τ).loc Cert.AdamIn0RefIdeal.main_arg0) = m ((c.tc : Thread Cert.AdamIn0RefIdeal.nD Cert.AdamIn0RefIdeal.τ).loc Cert.AdamIn0RefIdeal.main_arg0)
      ∧ r.2.mem ((c.tc : Thread Cert.AdamIn0RefIdeal.nD Cert.AdamIn0RefIdeal.τ).loc Cert.AdamIn0RefIdeal.main_arg1) = m ((c.tc : Thread Cert.AdamIn0RefIdeal.nD Cert.AdamIn0RefIdeal.τ).loc Cert.AdamIn0RefIdeal.main_arg1)
      ∧ r.2.mem ((c.tc : Thread Cert.AdamIn0RefIdeal.nD Cert.AdamIn0RefIdeal.τ).loc Cert.AdamIn0RefIdeal.main_arg2) = m ((c.tc : Thread Cert.AdamIn0RefIdeal.nD Cert.AdamIn0RefIdeal.τ).loc Cert.AdamIn0RefIdeal.main_arg2)
      ∧ r.2.mem ((c.tc : Thread Cert.AdamIn0RefIdeal.nD Cert.AdamIn0RefIdeal.τ).loc Cert.AdamIn0RefIdeal.main_arg3) = m ((c.tc : Thread Cert.AdamIn0RefIdeal.nD Cert.AdamIn0RefIdeal.τ).loc Cert.AdamIn0RefIdeal.main_arg3)
      ∧ r.2.mem ((c.tc : Thread Cert.AdamIn0RefIdeal.nD Cert.AdamIn0RefIdeal.τ).loc Cert.AdamIn0RefIdeal.main_arg4) = m ((c.tc : Thread Cert.AdamIn0RefIdeal.nD Cert.AdamIn0RefIdeal.τ).loc Cert.AdamIn0RefIdeal.main_arg4)
      ∧ r.2.mem ((c.tc : Thread Cert.AdamIn0RefIdeal.nD Cert.AdamIn0RefIdeal.τ).loc Cert.AdamIn0RefIdeal.main_arg5) = m ((c.tc : Thread Cert.AdamIn0RefIdeal.nD Cert.AdamIn0RefIdeal.τ).loc Cert.AdamIn0RefIdeal.main_arg5))
      ∧ r.2.sem = fun _ => 0)

def quiescent_AdamOut [hAdamOut : Cert.AdamOut.Facts] [hPre_chip_out : Cert.Pre_chip_out.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4)
      ∧ r.2.mem ((c.tc : Thread Cert.AdamOut.nD Cert.AdamOut.τ).loc Cert.AdamOut.main_arg5) = m ((c.tc : Thread Cert.AdamOut.nD Cert.AdamOut.τ).loc Cert.AdamOut.main_arg5))
      ∧ r.2.sem = fun _ => 0)

def quiescent_AdamOutIdeal [hAdamOutIdeal : Cert.AdamOutIdeal.Facts] [hPre_chip_out : Cert.Pre_chip_out.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
      ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4)
      ∧ r.2.mem ((c.tc : Thread Cert.AdamOutRefIdeal.nD Cert.AdamOutRefIdeal.τ).loc Cert.AdamOutRefIdeal.main_arg5) = m ((c.tc : Thread Cert.AdamOutRefIdeal.nD Cert.AdamOutRefIdeal.τ).loc Cert.AdamOutRefIdeal.main_arg5))
      ∧ r.2.sem = fun _ => 0)

def quiescent_AdamOutRefIdeal_pre_chip_out [hAdamOutRefIdeal : Cert.AdamOutRefIdeal.Facts] [hPre_chip_out : Cert.Pre_chip_out.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal_chip_out m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4)
      ∧ r.2.mem ((c.tc : Thread Cert.AdamOutRefIdeal.nD Cert.AdamOutRefIdeal.τ).loc Cert.AdamOutRefIdeal.main_arg5) = m ((c.tc : Thread Cert.AdamOutRefIdeal.nD Cert.AdamOutRefIdeal.τ).loc Cert.AdamOutRefIdeal.main_arg5))
      ∧ r.2.sem = fun _ => 0)

def quiescent_AdamUp [hAdamUp : Cert.AdamUp.Facts] [hPre_chip_up : Cert.Pre_chip_up.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4)
      ∧ r.2.mem ((c.tc : Thread Cert.AdamUp.nD Cert.AdamUp.τ).loc Cert.AdamUp.main_arg5) = m ((c.tc : Thread Cert.AdamUp.nD Cert.AdamUp.τ).loc Cert.AdamUp.main_arg5))
      ∧ r.2.sem = fun _ => 0)

def quiescent_AdamUpIdeal [hAdamUpIdeal : Cert.AdamUpIdeal.Facts] [hPre_chip_up : Cert.Pre_chip_up.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
      ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4)
      ∧ r.2.mem ((c.tc : Thread Cert.AdamUpRefIdeal.nD Cert.AdamUpRefIdeal.τ).loc Cert.AdamUpRefIdeal.main_arg5) = m ((c.tc : Thread Cert.AdamUpRefIdeal.nD Cert.AdamUpRefIdeal.τ).loc Cert.AdamUpRefIdeal.main_arg5))
      ∧ r.2.sem = fun _ => 0)

def quiescent_AdamUpRefIdeal_pre_chip_up [hAdamUpRefIdeal : Cert.AdamUpRefIdeal.Facts] [hPre_chip_up : Cert.Pre_chip_up.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal_chip_up m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4)
      ∧ r.2.mem ((c.tc : Thread Cert.AdamUpRefIdeal.nD Cert.AdamUpRefIdeal.τ).loc Cert.AdamUpRefIdeal.main_arg5) = m ((c.tc : Thread Cert.AdamUpRefIdeal.nD Cert.AdamUpRefIdeal.τ).loc Cert.AdamUpRefIdeal.main_arg5))
      ∧ r.2.sem = fun _ => 0)

def quiescent_AdamDown [hAdamDown : Cert.AdamDown.Facts] [hPre_chip_down : Cert.Pre_chip_down.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4)
      ∧ r.2.mem ((c.tc : Thread Cert.AdamDown.nD Cert.AdamDown.τ).loc Cert.AdamDown.main_arg5) = m ((c.tc : Thread Cert.AdamDown.nD Cert.AdamDown.τ).loc Cert.AdamDown.main_arg5))
      ∧ r.2.sem = fun _ => 0)

def quiescent_AdamDownIdeal [hAdamDownIdeal : Cert.AdamDownIdeal.Facts] [hPre_chip_down : Cert.Pre_chip_down.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
      ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4)
      ∧ r.2.mem ((c.tc : Thread Cert.AdamDownRefIdeal.nD Cert.AdamDownRefIdeal.τ).loc Cert.AdamDownRefIdeal.main_arg5) = m ((c.tc : Thread Cert.AdamDownRefIdeal.nD Cert.AdamDownRefIdeal.τ).loc Cert.AdamDownRefIdeal.main_arg5))
      ∧ r.2.sem = fun _ => 0)

def quiescent_AdamDownRefIdeal_pre_chip_down [hAdamDownRefIdeal : Cert.AdamDownRefIdeal.Facts] [hPre_chip_down : Cert.Pre_chip_down.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal_chip_down m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4)
      ∧ r.2.mem ((c.tc : Thread Cert.AdamDownRefIdeal.nD Cert.AdamDownRefIdeal.τ).loc Cert.AdamDownRefIdeal.main_arg5) = m ((c.tc : Thread Cert.AdamDownRefIdeal.nD Cert.AdamDownRefIdeal.τ).loc Cert.AdamDownRefIdeal.main_arg5))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_SmallStep [hSmallStep : Cert.SmallStep.Facts] : Prop :=
  ∀ (m : (ℓ : Loc Cert.SmallStep.nD Cert.SmallStep.τ Cert.SmallStep.sig) → Buf (Elt Bits) ℓ) (g : Dev Cert.SmallStep.nD → PrngReg), Pre_SmallStep m →
    θ_run (Cert.SmallStep.defs (F := Bits)) (onTc (τ := Cert.SmallStep.τ) (Cert.SmallStep.main (F := Bits))) ⟨m, fun _ => 0, g⟩ (fun r => (∀ c : Dev Cert.SmallStep.nD,
      r.2.mem ((c.tc : Thread Cert.SmallStep.nD Cert.SmallStep.τ).loc Cert.SmallStep.main_arg0) = m ((c.tc : Thread Cert.SmallStep.nD Cert.SmallStep.τ).loc Cert.SmallStep.main_arg0)
      ∧ r.2.mem ((c.tc : Thread Cert.SmallStep.nD Cert.SmallStep.τ).loc Cert.SmallStep.main_arg1) = m ((c.tc : Thread Cert.SmallStep.nD Cert.SmallStep.τ).loc Cert.SmallStep.main_arg1)
      ∧ r.2.mem ((c.tc : Thread Cert.SmallStep.nD Cert.SmallStep.τ).loc Cert.SmallStep.main_arg2) = m ((c.tc : Thread Cert.SmallStep.nD Cert.SmallStep.τ).loc Cert.SmallStep.main_arg2)
      ∧ r.2.mem ((c.tc : Thread Cert.SmallStep.nD Cert.SmallStep.τ).loc Cert.SmallStep.main_arg3) = m ((c.tc : Thread Cert.SmallStep.nD Cert.SmallStep.τ).loc Cert.SmallStep.main_arg3))
      ∧ r.2.sem = fun _ => 0)

def quiescent_SmallStepIdeal [hSmallStepIdeal : Cert.SmallStepIdeal.Facts] : Prop :=
  ∀ (m : (ℓ : Loc Cert.SmallStepIdeal.nD Cert.SmallStepIdeal.τ Cert.SmallStepIdeal.sig) → Buf (Elt Ideal) ℓ) (g : Dev Cert.SmallStepIdeal.nD → PrngReg), Pre_SmallStepIdeal m →
    θ_run (Cert.SmallStepIdeal.defs (F := Ideal)) (onTc (τ := Cert.SmallStepIdeal.τ) (Cert.SmallStepIdeal.main (F := Ideal))) ⟨m, fun _ => 0, g⟩ (fun r => (∀ c : Dev Cert.SmallStepIdeal.nD,
      r.2.mem ((c.tc : Thread Cert.SmallStepIdeal.nD Cert.SmallStepIdeal.τ).loc Cert.SmallStepIdeal.main_arg0) = m ((c.tc : Thread Cert.SmallStepIdeal.nD Cert.SmallStepIdeal.τ).loc Cert.SmallStepIdeal.main_arg0)
      ∧ r.2.mem ((c.tc : Thread Cert.SmallStepIdeal.nD Cert.SmallStepIdeal.τ).loc Cert.SmallStepIdeal.main_arg1) = m ((c.tc : Thread Cert.SmallStepIdeal.nD Cert.SmallStepIdeal.τ).loc Cert.SmallStepIdeal.main_arg1)
      ∧ r.2.mem ((c.tc : Thread Cert.SmallStepIdeal.nD Cert.SmallStepIdeal.τ).loc Cert.SmallStepIdeal.main_arg2) = m ((c.tc : Thread Cert.SmallStepIdeal.nD Cert.SmallStepIdeal.τ).loc Cert.SmallStepIdeal.main_arg2)
      ∧ r.2.mem ((c.tc : Thread Cert.SmallStepIdeal.nD Cert.SmallStepIdeal.τ).loc Cert.SmallStepIdeal.main_arg3) = m ((c.tc : Thread Cert.SmallStepIdeal.nD Cert.SmallStepIdeal.τ).loc Cert.SmallStepIdeal.main_arg3))
      ∧ r.2.sem = fun _ => 0)

def quiescent_SmallStepRefIdeal [hSmallStepRefIdeal : Cert.SmallStepRefIdeal.Facts] : Prop :=
  ∀ (m : (ℓ : Loc Cert.SmallStepRefIdeal.nD Cert.SmallStepRefIdeal.τ Cert.SmallStepRefIdeal.sig) → Buf (Elt Ideal) ℓ) (g : Dev Cert.SmallStepRefIdeal.nD → PrngReg), Pre_SmallStepRefIdeal m →
    θ_run (Cert.SmallStepRefIdeal.defs (F := Ideal)) (onTc (τ := Cert.SmallStepRefIdeal.τ) (Cert.SmallStepRefIdeal.main (F := Ideal))) ⟨m, fun _ => 0, g⟩ (fun r => (∀ c : Dev Cert.SmallStepRefIdeal.nD,
      r.2.mem ((c.tc : Thread Cert.SmallStepRefIdeal.nD Cert.SmallStepRefIdeal.τ).loc Cert.SmallStepRefIdeal.main_arg0) = m ((c.tc : Thread Cert.SmallStepRefIdeal.nD Cert.SmallStepRefIdeal.τ).loc Cert.SmallStepRefIdeal.main_arg0)
      ∧ r.2.mem ((c.tc : Thread Cert.SmallStepRefIdeal.nD Cert.SmallStepRefIdeal.τ).loc Cert.SmallStepRefIdeal.main_arg1) = m ((c.tc : Thread Cert.SmallStepRefIdeal.nD Cert.SmallStepRefIdeal.τ).loc Cert.SmallStepRefIdeal.main_arg1)
      ∧ r.2.mem ((c.tc : Thread Cert.SmallStepRefIdeal.nD Cert.SmallStepRefIdeal.τ).loc Cert.SmallStepRefIdeal.main_arg2) = m ((c.tc : Thread Cert.SmallStepRefIdeal.nD Cert.SmallStepRefIdeal.τ).loc Cert.SmallStepRefIdeal.main_arg2)
      ∧ r.2.mem ((c.tc : Thread Cert.SmallStepRefIdeal.nD Cert.SmallStepRefIdeal.τ).loc Cert.SmallStepRefIdeal.main_arg3) = m ((c.tc : Thread Cert.SmallStepRefIdeal.nD Cert.SmallStepRefIdeal.τ).loc Cert.SmallStepRefIdeal.main_arg3))
      ∧ r.2.sem = fun _ => 0)

def quiescent_LastStep [hLastStep : Cert.LastStep.Facts] : Prop :=
  ∀ (m : (ℓ : Loc Cert.LastStep.nD Cert.LastStep.τ Cert.LastStep.sig) → Buf (Elt Bits) ℓ) (g : Dev Cert.LastStep.nD → PrngReg), Pre_LastStep m →
    θ_run (Cert.LastStep.defs (F := Bits)) (onTc (τ := Cert.LastStep.τ) (Cert.LastStep.main (F := Bits))) ⟨m, fun _ => 0, g⟩ (fun r => (∀ c : Dev Cert.LastStep.nD,
      r.2.mem ((c.tc : Thread Cert.LastStep.nD Cert.LastStep.τ).loc Cert.LastStep.main_arg0) = m ((c.tc : Thread Cert.LastStep.nD Cert.LastStep.τ).loc Cert.LastStep.main_arg0)
      ∧ r.2.mem ((c.tc : Thread Cert.LastStep.nD Cert.LastStep.τ).loc Cert.LastStep.main_arg1) = m ((c.tc : Thread Cert.LastStep.nD Cert.LastStep.τ).loc Cert.LastStep.main_arg1)
      ∧ r.2.mem ((c.tc : Thread Cert.LastStep.nD Cert.LastStep.τ).loc Cert.LastStep.main_arg2) = m ((c.tc : Thread Cert.LastStep.nD Cert.LastStep.τ).loc Cert.LastStep.main_arg2)
      ∧ r.2.mem ((c.tc : Thread Cert.LastStep.nD Cert.LastStep.τ).loc Cert.LastStep.main_arg3) = m ((c.tc : Thread Cert.LastStep.nD Cert.LastStep.τ).loc Cert.LastStep.main_arg3))
      ∧ r.2.sem = fun _ => 0)

def quiescent_LastStepIdeal [hLastStepIdeal : Cert.LastStepIdeal.Facts] : Prop :=
  ∀ (m : (ℓ : Loc Cert.LastStepIdeal.nD Cert.LastStepIdeal.τ Cert.LastStepIdeal.sig) → Buf (Elt Ideal) ℓ) (g : Dev Cert.LastStepIdeal.nD → PrngReg), Pre_LastStepIdeal m →
    θ_run (Cert.LastStepIdeal.defs (F := Ideal)) (onTc (τ := Cert.LastStepIdeal.τ) (Cert.LastStepIdeal.main (F := Ideal))) ⟨m, fun _ => 0, g⟩ (fun r => (∀ c : Dev Cert.LastStepIdeal.nD,
      r.2.mem ((c.tc : Thread Cert.LastStepIdeal.nD Cert.LastStepIdeal.τ).loc Cert.LastStepIdeal.main_arg0) = m ((c.tc : Thread Cert.LastStepIdeal.nD Cert.LastStepIdeal.τ).loc Cert.LastStepIdeal.main_arg0)
      ∧ r.2.mem ((c.tc : Thread Cert.LastStepIdeal.nD Cert.LastStepIdeal.τ).loc Cert.LastStepIdeal.main_arg1) = m ((c.tc : Thread Cert.LastStepIdeal.nD Cert.LastStepIdeal.τ).loc Cert.LastStepIdeal.main_arg1)
      ∧ r.2.mem ((c.tc : Thread Cert.LastStepIdeal.nD Cert.LastStepIdeal.τ).loc Cert.LastStepIdeal.main_arg2) = m ((c.tc : Thread Cert.LastStepIdeal.nD Cert.LastStepIdeal.τ).loc Cert.LastStepIdeal.main_arg2)
      ∧ r.2.mem ((c.tc : Thread Cert.LastStepIdeal.nD Cert.LastStepIdeal.τ).loc Cert.LastStepIdeal.main_arg3) = m ((c.tc : Thread Cert.LastStepIdeal.nD Cert.LastStepIdeal.τ).loc Cert.LastStepIdeal.main_arg3))
      ∧ r.2.sem = fun _ => 0)

def quiescent_LastStepRefIdeal [hLastStepRefIdeal : Cert.LastStepRefIdeal.Facts] : Prop :=
  ∀ (m : (ℓ : Loc Cert.LastStepRefIdeal.nD Cert.LastStepRefIdeal.τ Cert.LastStepRefIdeal.sig) → Buf (Elt Ideal) ℓ) (g : Dev Cert.LastStepRefIdeal.nD → PrngReg), Pre_LastStepRefIdeal m →
    θ_run (Cert.LastStepRefIdeal.defs (F := Ideal)) (onTc (τ := Cert.LastStepRefIdeal.τ) (Cert.LastStepRefIdeal.main (F := Ideal))) ⟨m, fun _ => 0, g⟩ (fun r => (∀ c : Dev Cert.LastStepRefIdeal.nD,
      r.2.mem ((c.tc : Thread Cert.LastStepRefIdeal.nD Cert.LastStepRefIdeal.τ).loc Cert.LastStepRefIdeal.main_arg0) = m ((c.tc : Thread Cert.LastStepRefIdeal.nD Cert.LastStepRefIdeal.τ).loc Cert.LastStepRefIdeal.main_arg0)
      ∧ r.2.mem ((c.tc : Thread Cert.LastStepRefIdeal.nD Cert.LastStepRefIdeal.τ).loc Cert.LastStepRefIdeal.main_arg1) = m ((c.tc : Thread Cert.LastStepRefIdeal.nD Cert.LastStepRefIdeal.τ).loc Cert.LastStepRefIdeal.main_arg1)
      ∧ r.2.mem ((c.tc : Thread Cert.LastStepRefIdeal.nD Cert.LastStepRefIdeal.τ).loc Cert.LastStepRefIdeal.main_arg2) = m ((c.tc : Thread Cert.LastStepRefIdeal.nD Cert.LastStepRefIdeal.τ).loc Cert.LastStepRefIdeal.main_arg2)
      ∧ r.2.mem ((c.tc : Thread Cert.LastStepRefIdeal.nD Cert.LastStepRefIdeal.τ).loc Cert.LastStepRefIdeal.main_arg3) = m ((c.tc : Thread Cert.LastStepRefIdeal.nD Cert.LastStepRefIdeal.τ).loc Cert.LastStepRefIdeal.main_arg3))
      ∧ r.2.sem = fun _ => 0)

def quiescent_SmallSum [hSmallSum : Cert.SmallSum.Facts] : Prop :=
  ∀ (m : (ℓ : Loc Cert.SmallSum.nD Cert.SmallSum.τ Cert.SmallSum.sig) → Buf (Elt Bits) ℓ) (g : Dev Cert.SmallSum.nD → PrngReg), Pre_SmallSum m →
    θ_run (Cert.SmallSum.defs (F := Bits)) (onTc (τ := Cert.SmallSum.τ) (Cert.SmallSum.main (F := Bits))) ⟨m, fun _ => 0, g⟩ (fun r => (∀ c : Dev Cert.SmallSum.nD,
      r.2.mem ((c.tc : Thread Cert.SmallSum.nD Cert.SmallSum.τ).loc Cert.SmallSum.main_arg0) = m ((c.tc : Thread Cert.SmallSum.nD Cert.SmallSum.τ).loc Cert.SmallSum.main_arg0))
      ∧ r.2.sem = fun _ => 0)

def quiescent_SmallSumIdeal [hSmallSumIdeal : Cert.SmallSumIdeal.Facts] : Prop :=
  ∀ (m : (ℓ : Loc Cert.SmallSumIdeal.nD Cert.SmallSumIdeal.τ Cert.SmallSumIdeal.sig) → Buf (Elt Ideal) ℓ) (g : Dev Cert.SmallSumIdeal.nD → PrngReg), Pre_SmallSumIdeal m →
    θ_run (Cert.SmallSumIdeal.defs (F := Ideal)) (onTc (τ := Cert.SmallSumIdeal.τ) (Cert.SmallSumIdeal.main (F := Ideal))) ⟨m, fun _ => 0, g⟩ (fun r => (∀ c : Dev Cert.SmallSumIdeal.nD,
      r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0))
      ∧ r.2.sem = fun _ => 0)

def quiescent_SmallSumRefIdeal [hSmallSumRefIdeal : Cert.SmallSumRefIdeal.Facts] : Prop :=
  ∀ (m : (ℓ : Loc Cert.SmallSumRefIdeal.nD Cert.SmallSumRefIdeal.τ Cert.SmallSumRefIdeal.sig) → Buf (Elt Ideal) ℓ) (g : Dev Cert.SmallSumRefIdeal.nD → PrngReg), Pre_SmallSumRefIdeal m →
    θ_run (Cert.SmallSumRefIdeal.defs (F := Ideal)) (onTc (τ := Cert.SmallSumRefIdeal.τ) (Cert.SmallSumRefIdeal.main (F := Ideal))) ⟨m, fun _ => 0, g⟩ (fun r => (∀ c : Dev Cert.SmallSumRefIdeal.nD,
      r.2.mem ((c.tc : Thread Cert.SmallSumRefIdeal.nD Cert.SmallSumRefIdeal.τ).loc Cert.SmallSumRefIdeal.main_arg0) = m ((c.tc : Thread Cert.SmallSumRefIdeal.nD Cert.SmallSumRefIdeal.τ).loc Cert.SmallSumRefIdeal.main_arg0))
      ∧ r.2.sem = fun _ => 0)

def quiescent_LastSum [hLastSum : Cert.LastSum.Facts] : Prop :=
  ∀ (m : (ℓ : Loc Cert.LastSum.nD Cert.LastSum.τ Cert.LastSum.sig) → Buf (Elt Bits) ℓ) (g : Dev Cert.LastSum.nD → PrngReg), Pre_LastSum m →
    θ_run (Cert.LastSum.defs (F := Bits)) (onTc (τ := Cert.LastSum.τ) (Cert.LastSum.main (F := Bits))) ⟨m, fun _ => 0, g⟩ (fun r => (∀ c : Dev Cert.LastSum.nD,
      r.2.mem ((c.tc : Thread Cert.LastSum.nD Cert.LastSum.τ).loc Cert.LastSum.main_arg0) = m ((c.tc : Thread Cert.LastSum.nD Cert.LastSum.τ).loc Cert.LastSum.main_arg0))
      ∧ r.2.sem = fun _ => 0)

def quiescent_LastSumIdeal [hLastSumIdeal : Cert.LastSumIdeal.Facts] : Prop :=
  ∀ (m : (ℓ : Loc Cert.LastSumIdeal.nD Cert.LastSumIdeal.τ Cert.LastSumIdeal.sig) → Buf (Elt Ideal) ℓ) (g : Dev Cert.LastSumIdeal.nD → PrngReg), Pre_LastSumIdeal m →
    θ_run (Cert.LastSumIdeal.defs (F := Ideal)) (onTc (τ := Cert.LastSumIdeal.τ) (Cert.LastSumIdeal.main (F := Ideal))) ⟨m, fun _ => 0, g⟩ (fun r => (∀ c : Dev Cert.LastSumIdeal.nD,
      r.2.mem ((c.tc : Thread Cert.LastSumIdeal.nD Cert.LastSumIdeal.τ).loc Cert.LastSumIdeal.main_arg0) = m ((c.tc : Thread Cert.LastSumIdeal.nD Cert.LastSumIdeal.τ).loc Cert.LastSumIdeal.main_arg0))
      ∧ r.2.sem = fun _ => 0)

def quiescent_LastSumRefIdeal [hLastSumRefIdeal : Cert.LastSumRefIdeal.Facts] : Prop :=
  ∀ (m : (ℓ : Loc Cert.LastSumRefIdeal.nD Cert.LastSumRefIdeal.τ Cert.LastSumRefIdeal.sig) → Buf (Elt Ideal) ℓ) (g : Dev Cert.LastSumRefIdeal.nD → PrngReg), Pre_LastSumRefIdeal m →
    θ_run (Cert.LastSumRefIdeal.defs (F := Ideal)) (onTc (τ := Cert.LastSumRefIdeal.τ) (Cert.LastSumRefIdeal.main (F := Ideal))) ⟨m, fun _ => 0, g⟩ (fun r => (∀ c : Dev Cert.LastSumRefIdeal.nD,
      r.2.mem ((c.tc : Thread Cert.LastSumRefIdeal.nD Cert.LastSumRefIdeal.τ).loc Cert.LastSumRefIdeal.main_arg0) = m ((c.tc : Thread Cert.LastSumRefIdeal.nD Cert.LastSumRefIdeal.τ).loc Cert.LastSumRefIdeal.main_arg0))
      ∧ r.2.sem = fun _ => 0)

def quiescent_AdamIn1 [hAdamIn1 : Cert.AdamIn1.Facts] [hPre_chip_in1 : Cert.Pre_chip_in1.Facts] : Prop :=
  ∀ (m : (ℓ : Loc Cert.AdamIn1.nD Cert.AdamIn1.τ Cert.AdamIn1.sig) → Buf (Elt Bits) ℓ) (g : Dev Cert.AdamIn1.nD → PrngReg), Pre_AdamIn1 m →
    θ_run (Cert.AdamIn1.defs (F := Bits)) (onTc (τ := Cert.AdamIn1.τ) (Cert.AdamIn1.main (F := Bits))) ⟨m, fun _ => 0, g⟩ (fun r => (∀ c : Dev Cert.AdamIn1.nD,
      r.2.mem ((c.tc : Thread Cert.AdamIn1.nD Cert.AdamIn1.τ).loc Cert.AdamIn1.main_arg0) = m ((c.tc : Thread Cert.AdamIn1.nD Cert.AdamIn1.τ).loc Cert.AdamIn1.main_arg0)
      ∧ r.2.mem ((c.tc : Thread Cert.AdamIn1.nD Cert.AdamIn1.τ).loc Cert.AdamIn1.main_arg1) = m ((c.tc : Thread Cert.AdamIn1.nD Cert.AdamIn1.τ).loc Cert.AdamIn1.main_arg1)
      ∧ r.2.mem ((c.tc : Thread Cert.AdamIn1.nD Cert.AdamIn1.τ).loc Cert.AdamIn1.main_arg2) = m ((c.tc : Thread Cert.AdamIn1.nD Cert.AdamIn1.τ).loc Cert.AdamIn1.main_arg2)
      ∧ r.2.mem ((c.tc : Thread Cert.AdamIn1.nD Cert.AdamIn1.τ).loc Cert.AdamIn1.main_arg3) = m ((c.tc : Thread Cert.AdamIn1.nD Cert.AdamIn1.τ).loc Cert.AdamIn1.main_arg3)
      ∧ r.2.mem ((c.tc : Thread Cert.AdamIn1.nD Cert.AdamIn1.τ).loc Cert.AdamIn1.main_arg4) = m ((c.tc : Thread Cert.AdamIn1.nD Cert.AdamIn1.τ).loc Cert.AdamIn1.main_arg4)
      ∧ r.2.mem ((c.tc : Thread Cert.AdamIn1.nD Cert.AdamIn1.τ).loc Cert.AdamIn1.main_arg5) = m ((c.tc : Thread Cert.AdamIn1.nD Cert.AdamIn1.τ).loc Cert.AdamIn1.main_arg5))
      ∧ r.2.sem = fun _ => 0)

def quiescent_AdamIn1Ideal [hAdamIn1Ideal : Cert.AdamIn1Ideal.Facts] [hPre_chip_in1 : Cert.Pre_chip_in1.Facts] : Prop :=
  ∀ (m : (ℓ : Loc Cert.AdamIn1Ideal.nD Cert.AdamIn1Ideal.τ Cert.AdamIn1Ideal.sig) → Buf (Elt Ideal) ℓ) (g : Dev Cert.AdamIn1Ideal.nD → PrngReg), Pre_AdamIn1Ideal m →
    θ_run (Cert.AdamIn1Ideal.defs (F := Ideal)) (onTc (τ := Cert.AdamIn1Ideal.τ) (Cert.AdamIn1Ideal.main (F := Ideal))) ⟨m, fun _ => 0, g⟩ (fun r => (∀ c : Dev Cert.AdamIn1Ideal.nD,
      r.2.mem ((c.tc : Thread Cert.AdamIn1Ideal.nD Cert.AdamIn1Ideal.τ).loc Cert.AdamIn1Ideal.main_arg0) = m ((c.tc : Thread Cert.AdamIn1Ideal.nD Cert.AdamIn1Ideal.τ).loc Cert.AdamIn1Ideal.main_arg0)
      ∧ r.2.mem ((c.tc : Thread Cert.AdamIn1Ideal.nD Cert.AdamIn1Ideal.τ).loc Cert.AdamIn1Ideal.main_arg1) = m ((c.tc : Thread Cert.AdamIn1Ideal.nD Cert.AdamIn1Ideal.τ).loc Cert.AdamIn1Ideal.main_arg1)
      ∧ r.2.mem ((c.tc : Thread Cert.AdamIn1Ideal.nD Cert.AdamIn1Ideal.τ).loc Cert.AdamIn1Ideal.main_arg2) = m ((c.tc : Thread Cert.AdamIn1Ideal.nD Cert.AdamIn1Ideal.τ).loc Cert.AdamIn1Ideal.main_arg2)
      ∧ r.2.mem ((c.tc : Thread Cert.AdamIn1Ideal.nD Cert.AdamIn1Ideal.τ).loc Cert.AdamIn1Ideal.main_arg3) = m ((c.tc : Thread Cert.AdamIn1Ideal.nD Cert.AdamIn1Ideal.τ).loc Cert.AdamIn1Ideal.main_arg3)
      ∧ r.2.mem ((c.tc : Thread Cert.AdamIn1Ideal.nD Cert.AdamIn1Ideal.τ).loc Cert.AdamIn1Ideal.main_arg4) = m ((c.tc : Thread Cert.AdamIn1Ideal.nD Cert.AdamIn1Ideal.τ).loc Cert.AdamIn1Ideal.main_arg4)
      ∧ r.2.mem ((c.tc : Thread Cert.AdamIn1Ideal.nD Cert.AdamIn1Ideal.τ).loc Cert.AdamIn1Ideal.main_arg5) = m ((c.tc : Thread Cert.AdamIn1Ideal.nD Cert.AdamIn1Ideal.τ).loc Cert.AdamIn1Ideal.main_arg5))
      ∧ r.2.sem = fun _ => 0)

def quiescent_AdamIn1RefIdeal [hAdamIn1RefIdeal : Cert.AdamIn1RefIdeal.Facts] : Prop :=
  ∀ (m : (ℓ : Loc Cert.AdamIn1RefIdeal.nD Cert.AdamIn1RefIdeal.τ Cert.AdamIn1RefIdeal.sig) → Buf (Elt Ideal) ℓ) (g : Dev Cert.AdamIn1RefIdeal.nD → PrngReg), Pre_AdamIn1RefIdeal m →
    θ_run (Cert.AdamIn1RefIdeal.defs (F := Ideal)) (onTc (τ := Cert.AdamIn1RefIdeal.τ) (Cert.AdamIn1RefIdeal.main (F := Ideal))) ⟨m, fun _ => 0, g⟩ (fun r => (∀ c : Dev Cert.AdamIn1RefIdeal.nD,
      r.2.mem ((c.tc : Thread Cert.AdamIn1RefIdeal.nD Cert.AdamIn1RefIdeal.τ).loc Cert.AdamIn1RefIdeal.main_arg0) = m ((c.tc : Thread Cert.AdamIn1RefIdeal.nD Cert.AdamIn1RefIdeal.τ).loc Cert.AdamIn1RefIdeal.main_arg0)
      ∧ r.2.mem ((c.tc : Thread Cert.AdamIn1RefIdeal.nD Cert.AdamIn1RefIdeal.τ).loc Cert.AdamIn1RefIdeal.main_arg1) = m ((c.tc : Thread Cert.AdamIn1RefIdeal.nD Cert.AdamIn1RefIdeal.τ).loc Cert.AdamIn1RefIdeal.main_arg1)
      ∧ r.2.mem ((c.tc : Thread Cert.AdamIn1RefIdeal.nD Cert.AdamIn1RefIdeal.τ).loc Cert.AdamIn1RefIdeal.main_arg2) = m ((c.tc : Thread Cert.AdamIn1RefIdeal.nD Cert.AdamIn1RefIdeal.τ).loc Cert.AdamIn1RefIdeal.main_arg2)
      ∧ r.2.mem ((c.tc : Thread Cert.AdamIn1RefIdeal.nD Cert.AdamIn1RefIdeal.τ).loc Cert.AdamIn1RefIdeal.main_arg3) = m ((c.tc : Thread Cert.AdamIn1RefIdeal.nD Cert.AdamIn1RefIdeal.τ).loc Cert.AdamIn1RefIdeal.main_arg3)
      ∧ r.2.mem ((c.tc : Thread Cert.AdamIn1RefIdeal.nD Cert.AdamIn1RefIdeal.τ).loc Cert.AdamIn1RefIdeal.main_arg4) = m ((c.tc : Thread Cert.AdamIn1RefIdeal.nD Cert.AdamIn1RefIdeal.τ).loc Cert.AdamIn1RefIdeal.main_arg4)
      ∧ r.2.mem ((c.tc : Thread Cert.AdamIn1RefIdeal.nD Cert.AdamIn1RefIdeal.τ).loc Cert.AdamIn1RefIdeal.main_arg5) = m ((c.tc : Thread Cert.AdamIn1RefIdeal.nD Cert.AdamIn1RefIdeal.τ).loc Cert.AdamIn1RefIdeal.main_arg5))
      ∧ r.2.sem = fun _ => 0)

def quiescent_AdamIn1RefIdeal_pre_chip_in1 [hAdamIn1RefIdeal : Cert.AdamIn1RefIdeal.Facts] [hPre_chip_in1 : Cert.Pre_chip_in1.Facts] : Prop :=
  ∀ (m : (ℓ : Loc Cert.AdamIn1RefIdeal.nD Cert.AdamIn1RefIdeal.τ Cert.AdamIn1RefIdeal.sig) → Buf (Elt Ideal) ℓ) (g : Dev Cert.AdamIn1RefIdeal.nD → PrngReg), Pre_AdamIn1RefIdeal_chip_in1 m →
    θ_run (Cert.AdamIn1RefIdeal.defs (F := Ideal)) (onTc (τ := Cert.AdamIn1RefIdeal.τ) (Cert.AdamIn1RefIdeal.main (F := Ideal))) ⟨m, fun _ => 0, g⟩ (fun r => (∀ c : Dev Cert.AdamIn1RefIdeal.nD,
      r.2.mem ((c.tc : Thread Cert.AdamIn1RefIdeal.nD Cert.AdamIn1RefIdeal.τ).loc Cert.AdamIn1RefIdeal.main_arg0) = m ((c.tc : Thread Cert.AdamIn1RefIdeal.nD Cert.AdamIn1RefIdeal.τ).loc Cert.AdamIn1RefIdeal.main_arg0)
      ∧ r.2.mem ((c.tc : Thread Cert.AdamIn1RefIdeal.nD Cert.AdamIn1RefIdeal.τ).loc Cert.AdamIn1RefIdeal.main_arg1) = m ((c.tc : Thread Cert.AdamIn1RefIdeal.nD Cert.AdamIn1RefIdeal.τ).loc Cert.AdamIn1RefIdeal.main_arg1)
      ∧ r.2.mem ((c.tc : Thread Cert.AdamIn1RefIdeal.nD Cert.AdamIn1RefIdeal.τ).loc Cert.AdamIn1RefIdeal.main_arg2) = m ((c.tc : Thread Cert.AdamIn1RefIdeal.nD Cert.AdamIn1RefIdeal.τ).loc Cert.AdamIn1RefIdeal.main_arg2)
      ∧ r.2.mem ((c.tc : Thread Cert.AdamIn1RefIdeal.nD Cert.AdamIn1RefIdeal.τ).loc Cert.AdamIn1RefIdeal.main_arg3) = m ((c.tc : Thread Cert.AdamIn1RefIdeal.nD Cert.AdamIn1RefIdeal.τ).loc Cert.AdamIn1RefIdeal.main_arg3)
      ∧ r.2.mem ((c.tc : Thread Cert.AdamIn1RefIdeal.nD Cert.AdamIn1RefIdeal.τ).loc Cert.AdamIn1RefIdeal.main_arg4) = m ((c.tc : Thread Cert.AdamIn1RefIdeal.nD Cert.AdamIn1RefIdeal.τ).loc Cert.AdamIn1RefIdeal.main_arg4)
      ∧ r.2.mem ((c.tc : Thread Cert.AdamIn1RefIdeal.nD Cert.AdamIn1RefIdeal.τ).loc Cert.AdamIn1RefIdeal.main_arg5) = m ((c.tc : Thread Cert.AdamIn1RefIdeal.nD Cert.AdamIn1RefIdeal.τ).loc Cert.AdamIn1RefIdeal.main_arg5))
      ∧ r.2.sem = fun _ => 0)

def preserves_Kernel_KernelIdeal : Prop :=
  True

def algebraic_KernelIdeal_ReferenceIdeal_on_written_pre_finite [hKernelIdeal : Cert.KernelIdeal.Facts] [hReferenceIdeal : Cert.ReferenceIdeal.Facts] [hPre_finite : Cert.Pre_finite.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![6, 2048, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![6, 2048, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) i = 1#1 → r.2.mem ((c.tc : Thread Cert.ReferenceIdeal.nD Cert.ReferenceIdeal.τ).loc Cert.ReferenceIdeal.main_v60) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v1)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v1) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v14) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_UpMm_UpMmIdeal : Prop :=
  True

def algebraic_UpMmIdeal_UpMmRefIdeal [hUpMmIdeal : Cert.UpMmIdeal.Facts] [hUpMmRefIdeal : Cert.UpMmRefIdeal.Facts] : Prop :=
  ∀ (m : (ℓ : Loc Cert.UpMmIdeal.nD Cert.UpMmIdeal.τ Cert.UpMmIdeal.sig) → Buf (Elt Ideal) ℓ) (g : Dev Cert.UpMmIdeal.nD → PrngReg)
    (m' : (ℓ : Loc Cert.UpMmRefIdeal.nD Cert.UpMmRefIdeal.τ Cert.UpMmRefIdeal.sig) → Buf (Elt Ideal) ℓ) (g' : Dev Cert.UpMmRefIdeal.nD → PrngReg), Pre_UpMmIdeal m →
    (∀ c : Dev Cert.UpMmIdeal.nD,
      m' ((c.tc : Thread Cert.UpMmRefIdeal.nD Cert.UpMmRefIdeal.τ).loc Cert.UpMmRefIdeal.main_arg0) = m ((c.tc : Thread Cert.UpMmIdeal.nD Cert.UpMmIdeal.τ).loc Cert.UpMmIdeal.main_arg0)
      ∧ m' ((c.tc : Thread Cert.UpMmRefIdeal.nD Cert.UpMmRefIdeal.τ).loc Cert.UpMmRefIdeal.main_arg1) = m ((c.tc : Thread Cert.UpMmIdeal.nD Cert.UpMmIdeal.τ).loc Cert.UpMmIdeal.main_arg1)) →
    ∃ (v0 : (c : Dev Cert.UpMmIdeal.nD) → Buf (Elt Ideal) ((c.tc : Thread Cert.UpMmIdeal.nD Cert.UpMmIdeal.τ).loc Cert.UpMmIdeal.main_v0)),
      θ_run (Cert.UpMmIdeal.defs (F := Ideal)) (onTc (τ := Cert.UpMmIdeal.τ) (Cert.UpMmIdeal.main (F := Ideal))) ⟨m, fun _ => 0, g⟩ (fun r => ∀ c : Dev Cert.UpMmIdeal.nD,
          r.2.mem ((c.tc : Thread Cert.UpMmIdeal.nD Cert.UpMmIdeal.τ).loc Cert.UpMmIdeal.main_v0) = v0 c
          ∧ r.2.mem ((c.tc : Thread Cert.UpMmIdeal.nD Cert.UpMmIdeal.τ).loc Cert.UpMmIdeal.main_arg0) = m ((c.tc : Thread Cert.UpMmIdeal.nD Cert.UpMmIdeal.τ).loc Cert.UpMmIdeal.main_arg0)
          ∧ r.2.mem ((c.tc : Thread Cert.UpMmIdeal.nD Cert.UpMmIdeal.τ).loc Cert.UpMmIdeal.main_arg1) = m ((c.tc : Thread Cert.UpMmIdeal.nD Cert.UpMmIdeal.τ).loc Cert.UpMmIdeal.main_arg1))
      ∧ θ_run (Cert.UpMmRefIdeal.defs (F := Ideal)) (onTc (τ := Cert.UpMmRefIdeal.τ) (Cert.UpMmRefIdeal.main (F := Ideal))) ⟨m', fun _ => 0, g'⟩ (fun r => ∀ c : Dev Cert.UpMmRefIdeal.nD,
          r.2.mem ((c.tc : Thread Cert.UpMmRefIdeal.nD Cert.UpMmRefIdeal.τ).loc Cert.UpMmRefIdeal.main_v6) = v0 c
          ∧ r.2.mem ((c.tc : Thread Cert.UpMmRefIdeal.nD Cert.UpMmRefIdeal.τ).loc Cert.UpMmRefIdeal.main_arg0) = m' ((c.tc : Thread Cert.UpMmRefIdeal.nD Cert.UpMmRefIdeal.τ).loc Cert.UpMmRefIdeal.main_arg0)
          ∧ r.2.mem ((c.tc : Thread Cert.UpMmRefIdeal.nD Cert.UpMmRefIdeal.τ).loc Cert.UpMmRefIdeal.main_arg1) = m' ((c.tc : Thread Cert.UpMmRefIdeal.nD Cert.UpMmRefIdeal.τ).loc Cert.UpMmRefIdeal.main_arg1))

def preserves_DownMm_DownMmIdeal : Prop :=
  True

def algebraic_DownMmIdeal_DownMmRefIdeal [hDownMmIdeal : Cert.DownMmIdeal.Facts] [hDownMmRefIdeal : Cert.DownMmRefIdeal.Facts] : Prop :=
  ∀ (m : (ℓ : Loc Cert.DownMmIdeal.nD Cert.DownMmIdeal.τ Cert.DownMmIdeal.sig) → Buf (Elt Ideal) ℓ) (g : Dev Cert.DownMmIdeal.nD → PrngReg)
    (m' : (ℓ : Loc Cert.DownMmRefIdeal.nD Cert.DownMmRefIdeal.τ Cert.DownMmRefIdeal.sig) → Buf (Elt Ideal) ℓ) (g' : Dev Cert.DownMmRefIdeal.nD → PrngReg), Pre_DownMmIdeal m →
    (∀ c : Dev Cert.DownMmIdeal.nD,
      m' ((c.tc : Thread Cert.DownMmRefIdeal.nD Cert.DownMmRefIdeal.τ).loc Cert.DownMmRefIdeal.main_arg0) = m ((c.tc : Thread Cert.DownMmIdeal.nD Cert.DownMmIdeal.τ).loc Cert.DownMmIdeal.main_arg0)
      ∧ m' ((c.tc : Thread Cert.DownMmRefIdeal.nD Cert.DownMmRefIdeal.τ).loc Cert.DownMmRefIdeal.main_arg1) = m ((c.tc : Thread Cert.DownMmIdeal.nD Cert.DownMmIdeal.τ).loc Cert.DownMmIdeal.main_arg1)
      ∧ m' ((c.tc : Thread Cert.DownMmRefIdeal.nD Cert.DownMmRefIdeal.τ).loc Cert.DownMmRefIdeal.main_arg2) = m ((c.tc : Thread Cert.DownMmIdeal.nD Cert.DownMmIdeal.τ).loc Cert.DownMmIdeal.main_arg2)) →
    ∃ (v0 : (c : Dev Cert.DownMmIdeal.nD) → Buf (Elt Ideal) ((c.tc : Thread Cert.DownMmIdeal.nD Cert.DownMmIdeal.τ).loc Cert.DownMmIdeal.main_v0)),
      θ_run (Cert.DownMmIdeal.defs (F := Ideal)) (onTc (τ := Cert.DownMmIdeal.τ) (Cert.DownMmIdeal.main (F := Ideal))) ⟨m, fun _ => 0, g⟩ (fun r => ∀ c : Dev Cert.DownMmIdeal.nD,
          r.2.mem ((c.tc : Thread Cert.DownMmIdeal.nD Cert.DownMmIdeal.τ).loc Cert.DownMmIdeal.main_v0) = v0 c
          ∧ r.2.mem ((c.tc : Thread Cert.DownMmIdeal.nD Cert.DownMmIdeal.τ).loc Cert.DownMmIdeal.main_arg0) = m ((c.tc : Thread Cert.DownMmIdeal.nD Cert.DownMmIdeal.τ).loc Cert.DownMmIdeal.main_arg0)
          ∧ r.2.mem ((c.tc : Thread Cert.DownMmIdeal.nD Cert.DownMmIdeal.τ).loc Cert.DownMmIdeal.main_arg1) = m ((c.tc : Thread Cert.DownMmIdeal.nD Cert.DownMmIdeal.τ).loc Cert.DownMmIdeal.main_arg1)
          ∧ r.2.mem ((c.tc : Thread Cert.DownMmIdeal.nD Cert.DownMmIdeal.τ).loc Cert.DownMmIdeal.main_arg2) = m ((c.tc : Thread Cert.DownMmIdeal.nD Cert.DownMmIdeal.τ).loc Cert.DownMmIdeal.main_arg2))
      ∧ θ_run (Cert.DownMmRefIdeal.defs (F := Ideal)) (onTc (τ := Cert.DownMmRefIdeal.τ) (Cert.DownMmRefIdeal.main (F := Ideal))) ⟨m', fun _ => 0, g'⟩ (fun r => ∀ c : Dev Cert.DownMmRefIdeal.nD,
          r.2.mem ((c.tc : Thread Cert.DownMmRefIdeal.nD Cert.DownMmRefIdeal.τ).loc Cert.DownMmRefIdeal.main_v3) = v0 c
          ∧ r.2.mem ((c.tc : Thread Cert.DownMmRefIdeal.nD Cert.DownMmRefIdeal.τ).loc Cert.DownMmRefIdeal.main_arg0) = m' ((c.tc : Thread Cert.DownMmRefIdeal.nD Cert.DownMmRefIdeal.τ).loc Cert.DownMmRefIdeal.main_arg0)
          ∧ r.2.mem ((c.tc : Thread Cert.DownMmRefIdeal.nD Cert.DownMmRefIdeal.τ).loc Cert.DownMmRefIdeal.main_arg1) = m' ((c.tc : Thread Cert.DownMmRefIdeal.nD Cert.DownMmRefIdeal.τ).loc Cert.DownMmRefIdeal.main_arg1)
          ∧ r.2.mem ((c.tc : Thread Cert.DownMmRefIdeal.nD Cert.DownMmRefIdeal.τ).loc Cert.DownMmRefIdeal.main_arg2) = m' ((c.tc : Thread Cert.DownMmRefIdeal.nD Cert.DownMmRefIdeal.τ).loc Cert.DownMmRefIdeal.main_arg2))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v5) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v6) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v1)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v1) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v13) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_In0Mm_In0MmIdeal : Prop :=
  True

def algebraic_In0MmIdeal_In0MmRefIdeal [hIn0MmIdeal : Cert.In0MmIdeal.Facts] [hIn0MmRefIdeal : Cert.In0MmRefIdeal.Facts] : Prop :=
  ∀ (m : (ℓ : Loc Cert.In0MmIdeal.nD Cert.In0MmIdeal.τ Cert.In0MmIdeal.sig) → Buf (Elt Ideal) ℓ) (g : Dev Cert.In0MmIdeal.nD → PrngReg)
    (m' : (ℓ : Loc Cert.In0MmRefIdeal.nD Cert.In0MmRefIdeal.τ Cert.In0MmRefIdeal.sig) → Buf (Elt Ideal) ℓ) (g' : Dev Cert.In0MmRefIdeal.nD → PrngReg), Pre_In0MmIdeal m →
    (∀ c : Dev Cert.In0MmIdeal.nD,
      m' ((c.tc : Thread Cert.In0MmRefIdeal.nD Cert.In0MmRefIdeal.τ).loc Cert.In0MmRefIdeal.main_arg0) = m ((c.tc : Thread Cert.In0MmIdeal.nD Cert.In0MmIdeal.τ).loc Cert.In0MmIdeal.main_arg0)
      ∧ m' ((c.tc : Thread Cert.In0MmRefIdeal.nD Cert.In0MmRefIdeal.τ).loc Cert.In0MmRefIdeal.main_arg1) = m ((c.tc : Thread Cert.In0MmIdeal.nD Cert.In0MmIdeal.τ).loc Cert.In0MmIdeal.main_arg1)) →
    ∃ (v0 : (c : Dev Cert.In0MmIdeal.nD) → Buf (Elt Ideal) ((c.tc : Thread Cert.In0MmIdeal.nD Cert.In0MmIdeal.τ).loc Cert.In0MmIdeal.main_v0)),
      θ_run (Cert.In0MmIdeal.defs (F := Ideal)) (onTc (τ := Cert.In0MmIdeal.τ) (Cert.In0MmIdeal.main (F := Ideal))) ⟨m, fun _ => 0, g⟩ (fun r => ∀ c : Dev Cert.In0MmIdeal.nD,
          r.2.mem ((c.tc : Thread Cert.In0MmIdeal.nD Cert.In0MmIdeal.τ).loc Cert.In0MmIdeal.main_v0) = v0 c
          ∧ r.2.mem ((c.tc : Thread Cert.In0MmIdeal.nD Cert.In0MmIdeal.τ).loc Cert.In0MmIdeal.main_arg0) = m ((c.tc : Thread Cert.In0MmIdeal.nD Cert.In0MmIdeal.τ).loc Cert.In0MmIdeal.main_arg0)
          ∧ r.2.mem ((c.tc : Thread Cert.In0MmIdeal.nD Cert.In0MmIdeal.τ).loc Cert.In0MmIdeal.main_arg1) = m ((c.tc : Thread Cert.In0MmIdeal.nD Cert.In0MmIdeal.τ).loc Cert.In0MmIdeal.main_arg1))
      ∧ θ_run (Cert.In0MmRefIdeal.defs (F := Ideal)) (onTc (τ := Cert.In0MmRefIdeal.τ) (Cert.In0MmRefIdeal.main (F := Ideal))) ⟨m', fun _ => 0, g'⟩ (fun r => ∀ c : Dev Cert.In0MmRefIdeal.nD,
          r.2.mem ((c.tc : Thread Cert.In0MmRefIdeal.nD Cert.In0MmRefIdeal.τ).loc Cert.In0MmRefIdeal.main_v6) = v0 c
          ∧ r.2.mem ((c.tc : Thread Cert.In0MmRefIdeal.nD Cert.In0MmRefIdeal.τ).loc Cert.In0MmRefIdeal.main_arg0) = m' ((c.tc : Thread Cert.In0MmRefIdeal.nD Cert.In0MmRefIdeal.τ).loc Cert.In0MmRefIdeal.main_arg0)
          ∧ r.2.mem ((c.tc : Thread Cert.In0MmRefIdeal.nD Cert.In0MmRefIdeal.τ).loc Cert.In0MmRefIdeal.main_arg1) = m' ((c.tc : Thread Cert.In0MmRefIdeal.nD Cert.In0MmRefIdeal.τ).loc Cert.In0MmRefIdeal.main_arg1))

def preserves_In0Dw_In0DwIdeal : Prop :=
  True

def algebraic_In0DwIdeal_In0DwRefIdeal [hIn0DwIdeal : Cert.In0DwIdeal.Facts] [hIn0DwRefIdeal : Cert.In0DwRefIdeal.Facts] : Prop :=
  ∀ (m : (ℓ : Loc Cert.In0DwIdeal.nD Cert.In0DwIdeal.τ Cert.In0DwIdeal.sig) → Buf (Elt Ideal) ℓ) (g : Dev Cert.In0DwIdeal.nD → PrngReg)
    (m' : (ℓ : Loc Cert.In0DwRefIdeal.nD Cert.In0DwRefIdeal.τ Cert.In0DwRefIdeal.sig) → Buf (Elt Ideal) ℓ) (g' : Dev Cert.In0DwRefIdeal.nD → PrngReg), Pre_In0DwIdeal m →
    (∀ c : Dev Cert.In0DwIdeal.nD,
      m' ((c.tc : Thread Cert.In0DwRefIdeal.nD Cert.In0DwRefIdeal.τ).loc Cert.In0DwRefIdeal.main_arg0) = m ((c.tc : Thread Cert.In0DwIdeal.nD Cert.In0DwIdeal.τ).loc Cert.In0DwIdeal.main_arg0)
      ∧ m' ((c.tc : Thread Cert.In0DwRefIdeal.nD Cert.In0DwRefIdeal.τ).loc Cert.In0DwRefIdeal.main_arg1) = m ((c.tc : Thread Cert.In0DwIdeal.nD Cert.In0DwIdeal.τ).loc Cert.In0DwIdeal.main_arg1)) →
    ∃ (v0 : (c : Dev Cert.In0DwIdeal.nD) → Buf (Elt Ideal) ((c.tc : Thread Cert.In0DwIdeal.nD Cert.In0DwIdeal.τ).loc Cert.In0DwIdeal.main_v1)),
      θ_run (Cert.In0DwIdeal.defs (F := Ideal)) (onTc (τ := Cert.In0DwIdeal.τ) (Cert.In0DwIdeal.main (F := Ideal))) ⟨m, fun _ => 0, g⟩ (fun r => ∀ c : Dev Cert.In0DwIdeal.nD,
          r.2.mem ((c.tc : Thread Cert.In0DwIdeal.nD Cert.In0DwIdeal.τ).loc Cert.In0DwIdeal.main_v1) = v0 c
          ∧ r.2.mem ((c.tc : Thread Cert.In0DwIdeal.nD Cert.In0DwIdeal.τ).loc Cert.In0DwIdeal.main_arg0) = m ((c.tc : Thread Cert.In0DwIdeal.nD Cert.In0DwIdeal.τ).loc Cert.In0DwIdeal.main_arg0)
          ∧ r.2.mem ((c.tc : Thread Cert.In0DwIdeal.nD Cert.In0DwIdeal.τ).loc Cert.In0DwIdeal.main_arg1) = m ((c.tc : Thread Cert.In0DwIdeal.nD Cert.In0DwIdeal.τ).loc Cert.In0DwIdeal.main_arg1))
      ∧ θ_run (Cert.In0DwRefIdeal.defs (F := Ideal)) (onTc (τ := Cert.In0DwRefIdeal.τ) (Cert.In0DwRefIdeal.main (F := Ideal))) ⟨m', fun _ => 0, g'⟩ (fun r => ∀ c : Dev Cert.In0DwRefIdeal.nD,
          r.2.mem ((c.tc : Thread Cert.In0DwRefIdeal.nD Cert.In0DwRefIdeal.τ).loc Cert.In0DwRefIdeal.main_v22) = v0 c
          ∧ r.2.mem ((c.tc : Thread Cert.In0DwRefIdeal.nD Cert.In0DwRefIdeal.τ).loc Cert.In0DwRefIdeal.main_arg0) = m' ((c.tc : Thread Cert.In0DwRefIdeal.nD Cert.In0DwRefIdeal.τ).loc Cert.In0DwRefIdeal.main_arg0)
          ∧ r.2.mem ((c.tc : Thread Cert.In0DwRefIdeal.nD Cert.In0DwRefIdeal.τ).loc Cert.In0DwRefIdeal.main_arg1) = m' ((c.tc : Thread Cert.In0DwRefIdeal.nD Cert.In0DwRefIdeal.τ).loc Cert.In0DwRefIdeal.main_arg1))

def preserves_In0Dx_In0DxIdeal : Prop :=
  True

def algebraic_In0DxIdeal_In0DxRefIdeal [hIn0DxIdeal : Cert.In0DxIdeal.Facts] [hIn0DxRefIdeal : Cert.In0DxRefIdeal.Facts] : Prop :=
  ∀ (m : (ℓ : Loc Cert.In0DxIdeal.nD Cert.In0DxIdeal.τ Cert.In0DxIdeal.sig) → Buf (Elt Ideal) ℓ) (g : Dev Cert.In0DxIdeal.nD → PrngReg)
    (m' : (ℓ : Loc Cert.In0DxRefIdeal.nD Cert.In0DxRefIdeal.τ Cert.In0DxRefIdeal.sig) → Buf (Elt Ideal) ℓ) (g' : Dev Cert.In0DxRefIdeal.nD → PrngReg), Pre_In0DxIdeal m →
    (∀ c : Dev Cert.In0DxIdeal.nD,
      m' ((c.tc : Thread Cert.In0DxRefIdeal.nD Cert.In0DxRefIdeal.τ).loc Cert.In0DxRefIdeal.main_arg0) = m ((c.tc : Thread Cert.In0DxIdeal.nD Cert.In0DxIdeal.τ).loc Cert.In0DxIdeal.main_arg0)
      ∧ m' ((c.tc : Thread Cert.In0DxRefIdeal.nD Cert.In0DxRefIdeal.τ).loc Cert.In0DxRefIdeal.main_arg1) = m ((c.tc : Thread Cert.In0DxIdeal.nD Cert.In0DxIdeal.τ).loc Cert.In0DxIdeal.main_arg1)) →
    ∃ (v0 : (c : Dev Cert.In0DxIdeal.nD) → Buf (Elt Ideal) ((c.tc : Thread Cert.In0DxIdeal.nD Cert.In0DxIdeal.τ).loc Cert.In0DxIdeal.main_v1)),
      θ_run (Cert.In0DxIdeal.defs (F := Ideal)) (onTc (τ := Cert.In0DxIdeal.τ) (Cert.In0DxIdeal.main (F := Ideal))) ⟨m, fun _ => 0, g⟩ (fun r => ∀ c : Dev Cert.In0DxIdeal.nD,
          r.2.mem ((c.tc : Thread Cert.In0DxIdeal.nD Cert.In0DxIdeal.τ).loc Cert.In0DxIdeal.main_v1) = v0 c
          ∧ r.2.mem ((c.tc : Thread Cert.In0DxIdeal.nD Cert.In0DxIdeal.τ).loc Cert.In0DxIdeal.main_arg0) = m ((c.tc : Thread Cert.In0DxIdeal.nD Cert.In0DxIdeal.τ).loc Cert.In0DxIdeal.main_arg0)
          ∧ r.2.mem ((c.tc : Thread Cert.In0DxIdeal.nD Cert.In0DxIdeal.τ).loc Cert.In0DxIdeal.main_arg1) = m ((c.tc : Thread Cert.In0DxIdeal.nD Cert.In0DxIdeal.τ).loc Cert.In0DxIdeal.main_arg1))
      ∧ θ_run (Cert.In0DxRefIdeal.defs (F := Ideal)) (onTc (τ := Cert.In0DxRefIdeal.τ) (Cert.In0DxRefIdeal.main (F := Ideal))) ⟨m', fun _ => 0, g'⟩ (fun r => ∀ c : Dev Cert.In0DxRefIdeal.nD,
          r.2.mem ((c.tc : Thread Cert.In0DxRefIdeal.nD Cert.In0DxRefIdeal.τ).loc Cert.In0DxRefIdeal.main_v21) = v0 c
          ∧ r.2.mem ((c.tc : Thread Cert.In0DxRefIdeal.nD Cert.In0DxRefIdeal.τ).loc Cert.In0DxRefIdeal.main_arg0) = m' ((c.tc : Thread Cert.In0DxRefIdeal.nD Cert.In0DxRefIdeal.τ).loc Cert.In0DxRefIdeal.main_arg0)
          ∧ r.2.mem ((c.tc : Thread Cert.In0DxRefIdeal.nD Cert.In0DxRefIdeal.τ).loc Cert.In0DxRefIdeal.main_arg1) = m' ((c.tc : Thread Cert.In0DxRefIdeal.nD Cert.In0DxRefIdeal.τ).loc Cert.In0DxRefIdeal.main_arg1))

def preserves_In1Mm_In1MmIdeal : Prop :=
  True

def algebraic_In1MmIdeal_In1MmRefIdeal [hIn1MmIdeal : Cert.In1MmIdeal.Facts] [hIn1MmRefIdeal : Cert.In1MmRefIdeal.Facts] : Prop :=
  ∀ (m : (ℓ : Loc Cert.In1MmIdeal.nD Cert.In1MmIdeal.τ Cert.In1MmIdeal.sig) → Buf (Elt Ideal) ℓ) (g : Dev Cert.In1MmIdeal.nD → PrngReg)
    (m' : (ℓ : Loc Cert.In1MmRefIdeal.nD Cert.In1MmRefIdeal.τ Cert.In1MmRefIdeal.sig) → Buf (Elt Ideal) ℓ) (g' : Dev Cert.In1MmRefIdeal.nD → PrngReg), Pre_In1MmIdeal m →
    (∀ c : Dev Cert.In1MmIdeal.nD,
      m' ((c.tc : Thread Cert.In1MmRefIdeal.nD Cert.In1MmRefIdeal.τ).loc Cert.In1MmRefIdeal.main_arg0) = m ((c.tc : Thread Cert.In1MmIdeal.nD Cert.In1MmIdeal.τ).loc Cert.In1MmIdeal.main_arg0)
      ∧ m' ((c.tc : Thread Cert.In1MmRefIdeal.nD Cert.In1MmRefIdeal.τ).loc Cert.In1MmRefIdeal.main_arg1) = m ((c.tc : Thread Cert.In1MmIdeal.nD Cert.In1MmIdeal.τ).loc Cert.In1MmIdeal.main_arg1)) →
    ∃ (v0 : (c : Dev Cert.In1MmIdeal.nD) → Buf (Elt Ideal) ((c.tc : Thread Cert.In1MmIdeal.nD Cert.In1MmIdeal.τ).loc Cert.In1MmIdeal.main_v0)),
      θ_run (Cert.In1MmIdeal.defs (F := Ideal)) (onTc (τ := Cert.In1MmIdeal.τ) (Cert.In1MmIdeal.main (F := Ideal))) ⟨m, fun _ => 0, g⟩ (fun r => ∀ c : Dev Cert.In1MmIdeal.nD,
          r.2.mem ((c.tc : Thread Cert.In1MmIdeal.nD Cert.In1MmIdeal.τ).loc Cert.In1MmIdeal.main_v0) = v0 c
          ∧ r.2.mem ((c.tc : Thread Cert.In1MmIdeal.nD Cert.In1MmIdeal.τ).loc Cert.In1MmIdeal.main_arg0) = m ((c.tc : Thread Cert.In1MmIdeal.nD Cert.In1MmIdeal.τ).loc Cert.In1MmIdeal.main_arg0)
          ∧ r.2.mem ((c.tc : Thread Cert.In1MmIdeal.nD Cert.In1MmIdeal.τ).loc Cert.In1MmIdeal.main_arg1) = m ((c.tc : Thread Cert.In1MmIdeal.nD Cert.In1MmIdeal.τ).loc Cert.In1MmIdeal.main_arg1))
      ∧ θ_run (Cert.In1MmRefIdeal.defs (F := Ideal)) (onTc (τ := Cert.In1MmRefIdeal.τ) (Cert.In1MmRefIdeal.main (F := Ideal))) ⟨m', fun _ => 0, g'⟩ (fun r => ∀ c : Dev Cert.In1MmRefIdeal.nD,
          r.2.mem ((c.tc : Thread Cert.In1MmRefIdeal.nD Cert.In1MmRefIdeal.τ).loc Cert.In1MmRefIdeal.main_v5) = v0 c
          ∧ r.2.mem ((c.tc : Thread Cert.In1MmRefIdeal.nD Cert.In1MmRefIdeal.τ).loc Cert.In1MmRefIdeal.main_arg0) = m' ((c.tc : Thread Cert.In1MmRefIdeal.nD Cert.In1MmRefIdeal.τ).loc Cert.In1MmRefIdeal.main_arg0)
          ∧ r.2.mem ((c.tc : Thread Cert.In1MmRefIdeal.nD Cert.In1MmRefIdeal.τ).loc Cert.In1MmRefIdeal.main_arg1) = m' ((c.tc : Thread Cert.In1MmRefIdeal.nD Cert.In1MmRefIdeal.τ).loc Cert.In1MmRefIdeal.main_arg1))

def preserves_In1Dw_In1DwIdeal : Prop :=
  True

def algebraic_In1DwIdeal_In1DwRefIdeal [hIn1DwIdeal : Cert.In1DwIdeal.Facts] [hIn1DwRefIdeal : Cert.In1DwRefIdeal.Facts] : Prop :=
  ∀ (m : (ℓ : Loc Cert.In1DwIdeal.nD Cert.In1DwIdeal.τ Cert.In1DwIdeal.sig) → Buf (Elt Ideal) ℓ) (g : Dev Cert.In1DwIdeal.nD → PrngReg)
    (m' : (ℓ : Loc Cert.In1DwRefIdeal.nD Cert.In1DwRefIdeal.τ Cert.In1DwRefIdeal.sig) → Buf (Elt Ideal) ℓ) (g' : Dev Cert.In1DwRefIdeal.nD → PrngReg), Pre_In1DwIdeal m →
    (∀ c : Dev Cert.In1DwIdeal.nD,
      m' ((c.tc : Thread Cert.In1DwRefIdeal.nD Cert.In1DwRefIdeal.τ).loc Cert.In1DwRefIdeal.main_arg0) = m ((c.tc : Thread Cert.In1DwIdeal.nD Cert.In1DwIdeal.τ).loc Cert.In1DwIdeal.main_arg0)
      ∧ m' ((c.tc : Thread Cert.In1DwRefIdeal.nD Cert.In1DwRefIdeal.τ).loc Cert.In1DwRefIdeal.main_arg1) = m ((c.tc : Thread Cert.In1DwIdeal.nD Cert.In1DwIdeal.τ).loc Cert.In1DwIdeal.main_arg1)) →
    ∃ (v0 : (c : Dev Cert.In1DwIdeal.nD) → Buf (Elt Ideal) ((c.tc : Thread Cert.In1DwIdeal.nD Cert.In1DwIdeal.τ).loc Cert.In1DwIdeal.main_v1)),
      θ_run (Cert.In1DwIdeal.defs (F := Ideal)) (onTc (τ := Cert.In1DwIdeal.τ) (Cert.In1DwIdeal.main (F := Ideal))) ⟨m, fun _ => 0, g⟩ (fun r => ∀ c : Dev Cert.In1DwIdeal.nD,
          r.2.mem ((c.tc : Thread Cert.In1DwIdeal.nD Cert.In1DwIdeal.τ).loc Cert.In1DwIdeal.main_v1) = v0 c
          ∧ r.2.mem ((c.tc : Thread Cert.In1DwIdeal.nD Cert.In1DwIdeal.τ).loc Cert.In1DwIdeal.main_arg0) = m ((c.tc : Thread Cert.In1DwIdeal.nD Cert.In1DwIdeal.τ).loc Cert.In1DwIdeal.main_arg0)
          ∧ r.2.mem ((c.tc : Thread Cert.In1DwIdeal.nD Cert.In1DwIdeal.τ).loc Cert.In1DwIdeal.main_arg1) = m ((c.tc : Thread Cert.In1DwIdeal.nD Cert.In1DwIdeal.τ).loc Cert.In1DwIdeal.main_arg1))
      ∧ θ_run (Cert.In1DwRefIdeal.defs (F := Ideal)) (onTc (τ := Cert.In1DwRefIdeal.τ) (Cert.In1DwRefIdeal.main (F := Ideal))) ⟨m', fun _ => 0, g'⟩ (fun r => ∀ c : Dev Cert.In1DwRefIdeal.nD,
          r.2.mem ((c.tc : Thread Cert.In1DwRefIdeal.nD Cert.In1DwRefIdeal.τ).loc Cert.In1DwRefIdeal.main_v18) = v0 c
          ∧ r.2.mem ((c.tc : Thread Cert.In1DwRefIdeal.nD Cert.In1DwRefIdeal.τ).loc Cert.In1DwRefIdeal.main_arg0) = m' ((c.tc : Thread Cert.In1DwRefIdeal.nD Cert.In1DwRefIdeal.τ).loc Cert.In1DwRefIdeal.main_arg0)
          ∧ r.2.mem ((c.tc : Thread Cert.In1DwRefIdeal.nD Cert.In1DwRefIdeal.τ).loc Cert.In1DwRefIdeal.main_arg1) = m' ((c.tc : Thread Cert.In1DwRefIdeal.nD Cert.In1DwRefIdeal.τ).loc Cert.In1DwRefIdeal.main_arg1))

def preserves_In1Dx_In1DxIdeal : Prop :=
  True

def algebraic_In1DxIdeal_In1DxRefIdeal [hIn1DxIdeal : Cert.In1DxIdeal.Facts] [hIn1DxRefIdeal : Cert.In1DxRefIdeal.Facts] : Prop :=
  ∀ (m : (ℓ : Loc Cert.In1DxIdeal.nD Cert.In1DxIdeal.τ Cert.In1DxIdeal.sig) → Buf (Elt Ideal) ℓ) (g : Dev Cert.In1DxIdeal.nD → PrngReg)
    (m' : (ℓ : Loc Cert.In1DxRefIdeal.nD Cert.In1DxRefIdeal.τ Cert.In1DxRefIdeal.sig) → Buf (Elt Ideal) ℓ) (g' : Dev Cert.In1DxRefIdeal.nD → PrngReg), Pre_In1DxIdeal m →
    (∀ c : Dev Cert.In1DxIdeal.nD,
      m' ((c.tc : Thread Cert.In1DxRefIdeal.nD Cert.In1DxRefIdeal.τ).loc Cert.In1DxRefIdeal.main_arg0) = m ((c.tc : Thread Cert.In1DxIdeal.nD Cert.In1DxIdeal.τ).loc Cert.In1DxIdeal.main_arg0)
      ∧ m' ((c.tc : Thread Cert.In1DxRefIdeal.nD Cert.In1DxRefIdeal.τ).loc Cert.In1DxRefIdeal.main_arg1) = m ((c.tc : Thread Cert.In1DxIdeal.nD Cert.In1DxIdeal.τ).loc Cert.In1DxIdeal.main_arg1)
      ∧ m' ((c.tc : Thread Cert.In1DxRefIdeal.nD Cert.In1DxRefIdeal.τ).loc Cert.In1DxRefIdeal.main_arg2) = m ((c.tc : Thread Cert.In1DxIdeal.nD Cert.In1DxIdeal.τ).loc Cert.In1DxIdeal.main_arg2)) →
    ∃ (v0 : (c : Dev Cert.In1DxIdeal.nD) → Buf (Elt Ideal) ((c.tc : Thread Cert.In1DxIdeal.nD Cert.In1DxIdeal.τ).loc Cert.In1DxIdeal.main_v1)),
      θ_run (Cert.In1DxIdeal.defs (F := Ideal)) (onTc (τ := Cert.In1DxIdeal.τ) (Cert.In1DxIdeal.main (F := Ideal))) ⟨m, fun _ => 0, g⟩ (fun r => ∀ c : Dev Cert.In1DxIdeal.nD,
          r.2.mem ((c.tc : Thread Cert.In1DxIdeal.nD Cert.In1DxIdeal.τ).loc Cert.In1DxIdeal.main_v1) = v0 c
          ∧ r.2.mem ((c.tc : Thread Cert.In1DxIdeal.nD Cert.In1DxIdeal.τ).loc Cert.In1DxIdeal.main_arg0) = m ((c.tc : Thread Cert.In1DxIdeal.nD Cert.In1DxIdeal.τ).loc Cert.In1DxIdeal.main_arg0)
          ∧ r.2.mem ((c.tc : Thread Cert.In1DxIdeal.nD Cert.In1DxIdeal.τ).loc Cert.In1DxIdeal.main_arg1) = m ((c.tc : Thread Cert.In1DxIdeal.nD Cert.In1DxIdeal.τ).loc Cert.In1DxIdeal.main_arg1)
          ∧ r.2.mem ((c.tc : Thread Cert.In1DxIdeal.nD Cert.In1DxIdeal.τ).loc Cert.In1DxIdeal.main_arg2) = m ((c.tc : Thread Cert.In1DxIdeal.nD Cert.In1DxIdeal.τ).loc Cert.In1DxIdeal.main_arg2))
      ∧ θ_run (Cert.In1DxRefIdeal.defs (F := Ideal)) (onTc (τ := Cert.In1DxRefIdeal.τ) (Cert.In1DxRefIdeal.main (F := Ideal))) ⟨m', fun _ => 0, g'⟩ (fun r => ∀ c : Dev Cert.In1DxRefIdeal.nD,
          r.2.mem ((c.tc : Thread Cert.In1DxRefIdeal.nD Cert.In1DxRefIdeal.τ).loc Cert.In1DxRefIdeal.main_v19) = v0 c
          ∧ r.2.mem ((c.tc : Thread Cert.In1DxRefIdeal.nD Cert.In1DxRefIdeal.τ).loc Cert.In1DxRefIdeal.main_arg0) = m' ((c.tc : Thread Cert.In1DxRefIdeal.nD Cert.In1DxRefIdeal.τ).loc Cert.In1DxRefIdeal.main_arg0)
          ∧ r.2.mem ((c.tc : Thread Cert.In1DxRefIdeal.nD Cert.In1DxRefIdeal.τ).loc Cert.In1DxRefIdeal.main_arg1) = m' ((c.tc : Thread Cert.In1DxRefIdeal.nD Cert.In1DxRefIdeal.τ).loc Cert.In1DxRefIdeal.main_arg1)
          ∧ r.2.mem ((c.tc : Thread Cert.In1DxRefIdeal.nD Cert.In1DxRefIdeal.τ).loc Cert.In1DxRefIdeal.main_arg2) = m' ((c.tc : Thread Cert.In1DxRefIdeal.nD Cert.In1DxRefIdeal.τ).loc Cert.In1DxRefIdeal.main_arg2))

def preserves_OutMm_OutMmIdeal : Prop :=
  True

def algebraic_OutMmIdeal_OutMmRefIdeal [hOutMmIdeal : Cert.OutMmIdeal.Facts] [hOutMmRefIdeal : Cert.OutMmRefIdeal.Facts] : Prop :=
  ∀ (m : (ℓ : Loc Cert.OutMmIdeal.nD Cert.OutMmIdeal.τ Cert.OutMmIdeal.sig) → Buf (Elt Ideal) ℓ) (g : Dev Cert.OutMmIdeal.nD → PrngReg)
    (m' : (ℓ : Loc Cert.OutMmRefIdeal.nD Cert.OutMmRefIdeal.τ Cert.OutMmRefIdeal.sig) → Buf (Elt Ideal) ℓ) (g' : Dev Cert.OutMmRefIdeal.nD → PrngReg), Pre_OutMmIdeal m →
    (∀ c : Dev Cert.OutMmIdeal.nD,
      m' ((c.tc : Thread Cert.OutMmRefIdeal.nD Cert.OutMmRefIdeal.τ).loc Cert.OutMmRefIdeal.main_arg0) = m ((c.tc : Thread Cert.OutMmIdeal.nD Cert.OutMmIdeal.τ).loc Cert.OutMmIdeal.main_arg0)
      ∧ m' ((c.tc : Thread Cert.OutMmRefIdeal.nD Cert.OutMmRefIdeal.τ).loc Cert.OutMmRefIdeal.main_arg1) = m ((c.tc : Thread Cert.OutMmIdeal.nD Cert.OutMmIdeal.τ).loc Cert.OutMmIdeal.main_arg1)
      ∧ m' ((c.tc : Thread Cert.OutMmRefIdeal.nD Cert.OutMmRefIdeal.τ).loc Cert.OutMmRefIdeal.main_arg2) = m ((c.tc : Thread Cert.OutMmIdeal.nD Cert.OutMmIdeal.τ).loc Cert.OutMmIdeal.main_arg2)) →
    ∃ (v0 : (c : Dev Cert.OutMmIdeal.nD) → Buf (Elt Ideal) ((c.tc : Thread Cert.OutMmIdeal.nD Cert.OutMmIdeal.τ).loc Cert.OutMmIdeal.main_v0)),
      θ_run (Cert.OutMmIdeal.defs (F := Ideal)) (onTc (τ := Cert.OutMmIdeal.τ) (Cert.OutMmIdeal.main (F := Ideal))) ⟨m, fun _ => 0, g⟩ (fun r => ∀ c : Dev Cert.OutMmIdeal.nD,
          r.2.mem ((c.tc : Thread Cert.OutMmIdeal.nD Cert.OutMmIdeal.τ).loc Cert.OutMmIdeal.main_v0) = v0 c
          ∧ r.2.mem ((c.tc : Thread Cert.OutMmIdeal.nD Cert.OutMmIdeal.τ).loc Cert.OutMmIdeal.main_arg0) = m ((c.tc : Thread Cert.OutMmIdeal.nD Cert.OutMmIdeal.τ).loc Cert.OutMmIdeal.main_arg0)
          ∧ r.2.mem ((c.tc : Thread Cert.OutMmIdeal.nD Cert.OutMmIdeal.τ).loc Cert.OutMmIdeal.main_arg1) = m ((c.tc : Thread Cert.OutMmIdeal.nD Cert.OutMmIdeal.τ).loc Cert.OutMmIdeal.main_arg1)
          ∧ r.2.mem ((c.tc : Thread Cert.OutMmIdeal.nD Cert.OutMmIdeal.τ).loc Cert.OutMmIdeal.main_arg2) = m ((c.tc : Thread Cert.OutMmIdeal.nD Cert.OutMmIdeal.τ).loc Cert.OutMmIdeal.main_arg2))
      ∧ θ_run (Cert.OutMmRefIdeal.defs (F := Ideal)) (onTc (τ := Cert.OutMmRefIdeal.τ) (Cert.OutMmRefIdeal.main (F := Ideal))) ⟨m', fun _ => 0, g'⟩ (fun r => ∀ c : Dev Cert.OutMmRefIdeal.nD,
          r.2.mem ((c.tc : Thread Cert.OutMmRefIdeal.nD Cert.OutMmRefIdeal.τ).loc Cert.OutMmRefIdeal.main_v3) = v0 c
          ∧ r.2.mem ((c.tc : Thread Cert.OutMmRefIdeal.nD Cert.OutMmRefIdeal.τ).loc Cert.OutMmRefIdeal.main_arg0) = m' ((c.tc : Thread Cert.OutMmRefIdeal.nD Cert.OutMmRefIdeal.τ).loc Cert.OutMmRefIdeal.main_arg0)
          ∧ r.2.mem ((c.tc : Thread Cert.OutMmRefIdeal.nD Cert.OutMmRefIdeal.τ).loc Cert.OutMmRefIdeal.main_arg1) = m' ((c.tc : Thread Cert.OutMmRefIdeal.nD Cert.OutMmRefIdeal.τ).loc Cert.OutMmRefIdeal.main_arg1)
          ∧ r.2.mem ((c.tc : Thread Cert.OutMmRefIdeal.nD Cert.OutMmRefIdeal.τ).loc Cert.OutMmRefIdeal.main_arg2) = m' ((c.tc : Thread Cert.OutMmRefIdeal.nD Cert.OutMmRefIdeal.τ).loc Cert.OutMmRefIdeal.main_arg2))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v5) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v6) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_GateMm_GateMmIdeal : Prop :=
  True

def algebraic_GateMmIdeal_GateMmRefIdeal [hGateMmIdeal : Cert.GateMmIdeal.Facts] [hGateMmRefIdeal : Cert.GateMmRefIdeal.Facts] : Prop :=
  ∀ (m : (ℓ : Loc Cert.GateMmIdeal.nD Cert.GateMmIdeal.τ Cert.GateMmIdeal.sig) → Buf (Elt Ideal) ℓ) (g : Dev Cert.GateMmIdeal.nD → PrngReg)
    (m' : (ℓ : Loc Cert.GateMmRefIdeal.nD Cert.GateMmRefIdeal.τ Cert.GateMmRefIdeal.sig) → Buf (Elt Ideal) ℓ) (g' : Dev Cert.GateMmRefIdeal.nD → PrngReg), Pre_GateMmIdeal m →
    (∀ c : Dev Cert.GateMmIdeal.nD,
      m' ((c.tc : Thread Cert.GateMmRefIdeal.nD Cert.GateMmRefIdeal.τ).loc Cert.GateMmRefIdeal.main_arg0) = m ((c.tc : Thread Cert.GateMmIdeal.nD Cert.GateMmIdeal.τ).loc Cert.GateMmIdeal.main_arg0)
      ∧ m' ((c.tc : Thread Cert.GateMmRefIdeal.nD Cert.GateMmRefIdeal.τ).loc Cert.GateMmRefIdeal.main_arg1) = m ((c.tc : Thread Cert.GateMmIdeal.nD Cert.GateMmIdeal.τ).loc Cert.GateMmIdeal.main_arg1)) →
    ∃ (v0 : (c : Dev Cert.GateMmIdeal.nD) → Buf (Elt Ideal) ((c.tc : Thread Cert.GateMmIdeal.nD Cert.GateMmIdeal.τ).loc Cert.GateMmIdeal.main_v0)),
      θ_run (Cert.GateMmIdeal.defs (F := Ideal)) (onTc (τ := Cert.GateMmIdeal.τ) (Cert.GateMmIdeal.main (F := Ideal))) ⟨m, fun _ => 0, g⟩ (fun r => ∀ c : Dev Cert.GateMmIdeal.nD,
          r.2.mem ((c.tc : Thread Cert.GateMmIdeal.nD Cert.GateMmIdeal.τ).loc Cert.GateMmIdeal.main_v0) = v0 c
          ∧ r.2.mem ((c.tc : Thread Cert.GateMmIdeal.nD Cert.GateMmIdeal.τ).loc Cert.GateMmIdeal.main_arg0) = m ((c.tc : Thread Cert.GateMmIdeal.nD Cert.GateMmIdeal.τ).loc Cert.GateMmIdeal.main_arg0)
          ∧ r.2.mem ((c.tc : Thread Cert.GateMmIdeal.nD Cert.GateMmIdeal.τ).loc Cert.GateMmIdeal.main_arg1) = m ((c.tc : Thread Cert.GateMmIdeal.nD Cert.GateMmIdeal.τ).loc Cert.GateMmIdeal.main_arg1))
      ∧ θ_run (Cert.GateMmRefIdeal.defs (F := Ideal)) (onTc (τ := Cert.GateMmRefIdeal.τ) (Cert.GateMmRefIdeal.main (F := Ideal))) ⟨m', fun _ => 0, g'⟩ (fun r => ∀ c : Dev Cert.GateMmRefIdeal.nD,
          r.2.mem ((c.tc : Thread Cert.GateMmRefIdeal.nD Cert.GateMmRefIdeal.τ).loc Cert.GateMmRefIdeal.main_v3) = v0 c
          ∧ r.2.mem ((c.tc : Thread Cert.GateMmRefIdeal.nD Cert.GateMmRefIdeal.τ).loc Cert.GateMmRefIdeal.main_arg0) = m' ((c.tc : Thread Cert.GateMmRefIdeal.nD Cert.GateMmRefIdeal.τ).loc Cert.GateMmRefIdeal.main_arg0)
          ∧ r.2.mem ((c.tc : Thread Cert.GateMmRefIdeal.nD Cert.GateMmRefIdeal.τ).loc Cert.GateMmRefIdeal.main_arg1) = m' ((c.tc : Thread Cert.GateMmRefIdeal.nD Cert.GateMmRefIdeal.τ).loc Cert.GateMmRefIdeal.main_arg1))

def preserves_GateDw_GateDwIdeal : Prop :=
  True

def algebraic_GateDwIdeal_GateDwRefIdeal [hGateDwIdeal : Cert.GateDwIdeal.Facts] [hGateDwRefIdeal : Cert.GateDwRefIdeal.Facts] : Prop :=
  ∀ (m : (ℓ : Loc Cert.GateDwIdeal.nD Cert.GateDwIdeal.τ Cert.GateDwIdeal.sig) → Buf (Elt Ideal) ℓ) (g : Dev Cert.GateDwIdeal.nD → PrngReg)
    (m' : (ℓ : Loc Cert.GateDwRefIdeal.nD Cert.GateDwRefIdeal.τ Cert.GateDwRefIdeal.sig) → Buf (Elt Ideal) ℓ) (g' : Dev Cert.GateDwRefIdeal.nD → PrngReg), Pre_GateDwIdeal m →
    (∀ c : Dev Cert.GateDwIdeal.nD,
      m' ((c.tc : Thread Cert.GateDwRefIdeal.nD Cert.GateDwRefIdeal.τ).loc Cert.GateDwRefIdeal.main_arg0) = m ((c.tc : Thread Cert.GateDwIdeal.nD Cert.GateDwIdeal.τ).loc Cert.GateDwIdeal.main_arg0)
      ∧ m' ((c.tc : Thread Cert.GateDwRefIdeal.nD Cert.GateDwRefIdeal.τ).loc Cert.GateDwRefIdeal.main_arg1) = m ((c.tc : Thread Cert.GateDwIdeal.nD Cert.GateDwIdeal.τ).loc Cert.GateDwIdeal.main_arg1)) →
    ∃ (v0 : (c : Dev Cert.GateDwIdeal.nD) → Buf (Elt Ideal) ((c.tc : Thread Cert.GateDwIdeal.nD Cert.GateDwIdeal.τ).loc Cert.GateDwIdeal.main_v0)),
      θ_run (Cert.GateDwIdeal.defs (F := Ideal)) (onTc (τ := Cert.GateDwIdeal.τ) (Cert.GateDwIdeal.main (F := Ideal))) ⟨m, fun _ => 0, g⟩ (fun r => ∀ c : Dev Cert.GateDwIdeal.nD,
          r.2.mem ((c.tc : Thread Cert.GateDwIdeal.nD Cert.GateDwIdeal.τ).loc Cert.GateDwIdeal.main_v0) = v0 c
          ∧ r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
          ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1))
      ∧ θ_run (Cert.GateDwRefIdeal.defs (F := Ideal)) (onTc (τ := Cert.GateDwRefIdeal.τ) (Cert.GateDwRefIdeal.main (F := Ideal))) ⟨m', fun _ => 0, g'⟩ (fun r => ∀ c : Dev Cert.GateDwRefIdeal.nD,
          r.2.mem ((c.tc : Thread Cert.GateDwRefIdeal.nD Cert.GateDwRefIdeal.τ).loc Cert.GateDwRefIdeal.main_v7) = v0 c
          ∧ r.2.mem ((c.tc : Thread Cert.GateDwRefIdeal.nD Cert.GateDwRefIdeal.τ).loc Cert.GateDwRefIdeal.main_arg0) = m' ((c.tc : Thread Cert.GateDwRefIdeal.nD Cert.GateDwRefIdeal.τ).loc Cert.GateDwRefIdeal.main_arg0)
          ∧ r.2.mem ((c.tc : Thread Cert.GateDwRefIdeal.nD Cert.GateDwRefIdeal.τ).loc Cert.GateDwRefIdeal.main_arg1) = m' ((c.tc : Thread Cert.GateDwRefIdeal.nD Cert.GateDwRefIdeal.τ).loc Cert.GateDwRefIdeal.main_arg1))

def preserves_GateDx_GateDxIdeal : Prop :=
  True

def algebraic_GateDxIdeal_GateDxRefIdeal [hGateDxIdeal : Cert.GateDxIdeal.Facts] [hGateDxRefIdeal : Cert.GateDxRefIdeal.Facts] : Prop :=
  ∀ (m : (ℓ : Loc Cert.GateDxIdeal.nD Cert.GateDxIdeal.τ Cert.GateDxIdeal.sig) → Buf (Elt Ideal) ℓ) (g : Dev Cert.GateDxIdeal.nD → PrngReg)
    (m' : (ℓ : Loc Cert.GateDxRefIdeal.nD Cert.GateDxRefIdeal.τ Cert.GateDxRefIdeal.sig) → Buf (Elt Ideal) ℓ) (g' : Dev Cert.GateDxRefIdeal.nD → PrngReg), Pre_GateDxIdeal m →
    (∀ c : Dev Cert.GateDxIdeal.nD,
      m' ((c.tc : Thread Cert.GateDxRefIdeal.nD Cert.GateDxRefIdeal.τ).loc Cert.GateDxRefIdeal.main_arg0) = m ((c.tc : Thread Cert.GateDxIdeal.nD Cert.GateDxIdeal.τ).loc Cert.GateDxIdeal.main_arg0)
      ∧ m' ((c.tc : Thread Cert.GateDxRefIdeal.nD Cert.GateDxRefIdeal.τ).loc Cert.GateDxRefIdeal.main_arg1) = m ((c.tc : Thread Cert.GateDxIdeal.nD Cert.GateDxIdeal.τ).loc Cert.GateDxIdeal.main_arg1)) →
    ∃ (v0 : (c : Dev Cert.GateDxIdeal.nD) → Buf (Elt Ideal) ((c.tc : Thread Cert.GateDxIdeal.nD Cert.GateDxIdeal.τ).loc Cert.GateDxIdeal.main_v0)),
      θ_run (Cert.GateDxIdeal.defs (F := Ideal)) (onTc (τ := Cert.GateDxIdeal.τ) (Cert.GateDxIdeal.main (F := Ideal))) ⟨m, fun _ => 0, g⟩ (fun r => ∀ c : Dev Cert.GateDxIdeal.nD,
          r.2.mem ((c.tc : Thread Cert.GateDxIdeal.nD Cert.GateDxIdeal.τ).loc Cert.GateDxIdeal.main_v0) = v0 c
          ∧ r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
          ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1))
      ∧ θ_run (Cert.GateDxRefIdeal.defs (F := Ideal)) (onTc (τ := Cert.GateDxRefIdeal.τ) (Cert.GateDxRefIdeal.main (F := Ideal))) ⟨m', fun _ => 0, g'⟩ (fun r => ∀ c : Dev Cert.GateDxRefIdeal.nD,
          r.2.mem ((c.tc : Thread Cert.GateDxRefIdeal.nD Cert.GateDxRefIdeal.τ).loc Cert.GateDxRefIdeal.main_v5) = v0 c
          ∧ r.2.mem ((c.tc : Thread Cert.GateDxRefIdeal.nD Cert.GateDxRefIdeal.τ).loc Cert.GateDxRefIdeal.main_arg0) = m' ((c.tc : Thread Cert.GateDxRefIdeal.nD Cert.GateDxRefIdeal.τ).loc Cert.GateDxRefIdeal.main_arg0)
          ∧ r.2.mem ((c.tc : Thread Cert.GateDxRefIdeal.nD Cert.GateDxRefIdeal.τ).loc Cert.GateDxRefIdeal.main_arg1) = m' ((c.tc : Thread Cert.GateDxRefIdeal.nD Cert.GateDxRefIdeal.τ).loc Cert.GateDxRefIdeal.main_arg1))

def preserves_ShortBwd_ShortBwdIdeal : Prop :=
  True

def algebraic_ShortBwdIdeal_ShortBwdRefIdeal [hShortBwdIdeal : Cert.ShortBwdIdeal.Facts] [hShortBwdRefIdeal : Cert.ShortBwdRefIdeal.Facts] : Prop :=
  ∀ (m : (ℓ : Loc Cert.ShortBwdIdeal.nD Cert.ShortBwdIdeal.τ Cert.ShortBwdIdeal.sig) → Buf (Elt Ideal) ℓ) (g : Dev Cert.ShortBwdIdeal.nD → PrngReg)
    (m' : (ℓ : Loc Cert.ShortBwdRefIdeal.nD Cert.ShortBwdRefIdeal.τ Cert.ShortBwdRefIdeal.sig) → Buf (Elt Ideal) ℓ) (g' : Dev Cert.ShortBwdRefIdeal.nD → PrngReg), Pre_ShortBwdIdeal m →
    (∀ c : Dev Cert.ShortBwdIdeal.nD,
      m' ((c.tc : Thread Cert.ShortBwdRefIdeal.nD Cert.ShortBwdRefIdeal.τ).loc Cert.ShortBwdRefIdeal.main_arg0) = m ((c.tc : Thread Cert.ShortBwdIdeal.nD Cert.ShortBwdIdeal.τ).loc Cert.ShortBwdIdeal.main_arg0)
      ∧ m' ((c.tc : Thread Cert.ShortBwdRefIdeal.nD Cert.ShortBwdRefIdeal.τ).loc Cert.ShortBwdRefIdeal.main_arg1) = m ((c.tc : Thread Cert.ShortBwdIdeal.nD Cert.ShortBwdIdeal.τ).loc Cert.ShortBwdIdeal.main_arg1)
      ∧ m' ((c.tc : Thread Cert.ShortBwdRefIdeal.nD Cert.ShortBwdRefIdeal.τ).loc Cert.ShortBwdRefIdeal.main_arg2) = m ((c.tc : Thread Cert.ShortBwdIdeal.nD Cert.ShortBwdIdeal.τ).loc Cert.ShortBwdIdeal.main_arg2)
      ∧ m' ((c.tc : Thread Cert.ShortBwdRefIdeal.nD Cert.ShortBwdRefIdeal.τ).loc Cert.ShortBwdRefIdeal.main_arg3) = m ((c.tc : Thread Cert.ShortBwdIdeal.nD Cert.ShortBwdIdeal.τ).loc Cert.ShortBwdIdeal.main_arg3)) →
    ∃ (v0 : (c : Dev Cert.ShortBwdIdeal.nD) → Buf (Elt Ideal) ((c.tc : Thread Cert.ShortBwdIdeal.nD Cert.ShortBwdIdeal.τ).loc Cert.ShortBwdIdeal.main_v0_0)) (v1 : (c : Dev Cert.ShortBwdIdeal.nD) → Buf (Elt Ideal) ((c.tc : Thread Cert.ShortBwdIdeal.nD Cert.ShortBwdIdeal.τ).loc Cert.ShortBwdIdeal.main_v0_1)),
      θ_run (Cert.ShortBwdIdeal.defs (F := Ideal)) (onTc (τ := Cert.ShortBwdIdeal.τ) (Cert.ShortBwdIdeal.main (F := Ideal))) ⟨m, fun _ => 0, g⟩ (fun r => ∀ c : Dev Cert.ShortBwdIdeal.nD,
          r.2.mem ((c.tc : Thread Cert.ShortBwdIdeal.nD Cert.ShortBwdIdeal.τ).loc Cert.ShortBwdIdeal.main_v0_0) = v0 c
          ∧ r.2.mem ((c.tc : Thread Cert.ShortBwdIdeal.nD Cert.ShortBwdIdeal.τ).loc Cert.ShortBwdIdeal.main_v0_1) = v1 c
          ∧ r.2.mem ((c.tc : Thread Cert.ShortBwdIdeal.nD Cert.ShortBwdIdeal.τ).loc Cert.ShortBwdIdeal.main_arg0) = m ((c.tc : Thread Cert.ShortBwdIdeal.nD Cert.ShortBwdIdeal.τ).loc Cert.ShortBwdIdeal.main_arg0)
          ∧ r.2.mem ((c.tc : Thread Cert.ShortBwdIdeal.nD Cert.ShortBwdIdeal.τ).loc Cert.ShortBwdIdeal.main_arg1) = m ((c.tc : Thread Cert.ShortBwdIdeal.nD Cert.ShortBwdIdeal.τ).loc Cert.ShortBwdIdeal.main_arg1)
          ∧ r.2.mem ((c.tc : Thread Cert.ShortBwdIdeal.nD Cert.ShortBwdIdeal.τ).loc Cert.ShortBwdIdeal.main_arg2) = m ((c.tc : Thread Cert.ShortBwdIdeal.nD Cert.ShortBwdIdeal.τ).loc Cert.ShortBwdIdeal.main_arg2)
          ∧ r.2.mem ((c.tc : Thread Cert.ShortBwdIdeal.nD Cert.ShortBwdIdeal.τ).loc Cert.ShortBwdIdeal.main_arg3) = m ((c.tc : Thread Cert.ShortBwdIdeal.nD Cert.ShortBwdIdeal.τ).loc Cert.ShortBwdIdeal.main_arg3))
      ∧ θ_run (Cert.ShortBwdRefIdeal.defs (F := Ideal)) (onTc (τ := Cert.ShortBwdRefIdeal.τ) (Cert.ShortBwdRefIdeal.main (F := Ideal))) ⟨m', fun _ => 0, g'⟩ (fun r => ∀ c : Dev Cert.ShortBwdRefIdeal.nD,
          r.2.mem ((c.tc : Thread Cert.ShortBwdRefIdeal.nD Cert.ShortBwdRefIdeal.τ).loc Cert.ShortBwdRefIdeal.main_v75) = v0 c
          ∧ r.2.mem ((c.tc : Thread Cert.ShortBwdRefIdeal.nD Cert.ShortBwdRefIdeal.τ).loc Cert.ShortBwdRefIdeal.main_v62) = v1 c
          ∧ r.2.mem ((c.tc : Thread Cert.ShortBwdRefIdeal.nD Cert.ShortBwdRefIdeal.τ).loc Cert.ShortBwdRefIdeal.main_arg0) = m' ((c.tc : Thread Cert.ShortBwdRefIdeal.nD Cert.ShortBwdRefIdeal.τ).loc Cert.ShortBwdRefIdeal.main_arg0)
          ∧ r.2.mem ((c.tc : Thread Cert.ShortBwdRefIdeal.nD Cert.ShortBwdRefIdeal.τ).loc Cert.ShortBwdRefIdeal.main_arg1) = m' ((c.tc : Thread Cert.ShortBwdRefIdeal.nD Cert.ShortBwdRefIdeal.τ).loc Cert.ShortBwdRefIdeal.main_arg1)
          ∧ r.2.mem ((c.tc : Thread Cert.ShortBwdRefIdeal.nD Cert.ShortBwdRefIdeal.τ).loc Cert.ShortBwdRefIdeal.main_arg2) = m' ((c.tc : Thread Cert.ShortBwdRefIdeal.nD Cert.ShortBwdRefIdeal.τ).loc Cert.ShortBwdRefIdeal.main_arg2)
          ∧ r.2.mem ((c.tc : Thread Cert.ShortBwdRefIdeal.nD Cert.ShortBwdRefIdeal.τ).loc Cert.ShortBwdRefIdeal.main_arg3) = m' ((c.tc : Thread Cert.ShortBwdRefIdeal.nD Cert.ShortBwdRefIdeal.τ).loc Cert.ShortBwdRefIdeal.main_arg3))

def preserves_ShortFwd_ShortFwdIdeal : Prop :=
  True

def algebraic_ShortFwdIdeal_ShortFwdRefIdeal [hShortFwdIdeal : Cert.ShortFwdIdeal.Facts] [hShortFwdRefIdeal : Cert.ShortFwdRefIdeal.Facts] : Prop :=
  ∀ (m : (ℓ : Loc Cert.ShortFwdIdeal.nD Cert.ShortFwdIdeal.τ Cert.ShortFwdIdeal.sig) → Buf (Elt Ideal) ℓ) (g : Dev Cert.ShortFwdIdeal.nD → PrngReg)
    (m' : (ℓ : Loc Cert.ShortFwdRefIdeal.nD Cert.ShortFwdRefIdeal.τ Cert.ShortFwdRefIdeal.sig) → Buf (Elt Ideal) ℓ) (g' : Dev Cert.ShortFwdRefIdeal.nD → PrngReg), Pre_ShortFwdIdeal m →
    (∀ c : Dev Cert.ShortFwdIdeal.nD,
      m' ((c.tc : Thread Cert.ShortFwdRefIdeal.nD Cert.ShortFwdRefIdeal.τ).loc Cert.ShortFwdRefIdeal.main_arg0) = m ((c.tc : Thread Cert.ShortFwdIdeal.nD Cert.ShortFwdIdeal.τ).loc Cert.ShortFwdIdeal.main_arg0)
      ∧ m' ((c.tc : Thread Cert.ShortFwdRefIdeal.nD Cert.ShortFwdRefIdeal.τ).loc Cert.ShortFwdRefIdeal.main_arg1) = m ((c.tc : Thread Cert.ShortFwdIdeal.nD Cert.ShortFwdIdeal.τ).loc Cert.ShortFwdIdeal.main_arg1)
      ∧ m' ((c.tc : Thread Cert.ShortFwdRefIdeal.nD Cert.ShortFwdRefIdeal.τ).loc Cert.ShortFwdRefIdeal.main_arg2) = m ((c.tc : Thread Cert.ShortFwdIdeal.nD Cert.ShortFwdIdeal.τ).loc Cert.ShortFwdIdeal.main_arg2)) →
    ∃ (v0 : (c : Dev Cert.ShortFwdIdeal.nD) → Buf (Elt Ideal) ((c.tc : Thread Cert.ShortFwdIdeal.nD Cert.ShortFwdIdeal.τ).loc Cert.ShortFwdIdeal.main_v0)),
      θ_run (Cert.ShortFwdIdeal.defs (F := Ideal)) (onTc (τ := Cert.ShortFwdIdeal.τ) (Cert.ShortFwdIdeal.main (F := Ideal))) ⟨m, fun _ => 0, g⟩ (fun r => ∀ c : Dev Cert.ShortFwdIdeal.nD,
          r.2.mem ((c.tc : Thread Cert.ShortFwdIdeal.nD Cert.ShortFwdIdeal.τ).loc Cert.ShortFwdIdeal.main_v0) = v0 c
          ∧ r.2.mem ((c.tc : Thread Cert.ShortFwdIdeal.nD Cert.ShortFwdIdeal.τ).loc Cert.ShortFwdIdeal.main_arg0) = m ((c.tc : Thread Cert.ShortFwdIdeal.nD Cert.ShortFwdIdeal.τ).loc Cert.ShortFwdIdeal.main_arg0)
          ∧ r.2.mem ((c.tc : Thread Cert.ShortFwdIdeal.nD Cert.ShortFwdIdeal.τ).loc Cert.ShortFwdIdeal.main_arg1) = m ((c.tc : Thread Cert.ShortFwdIdeal.nD Cert.ShortFwdIdeal.τ).loc Cert.ShortFwdIdeal.main_arg1)
          ∧ r.2.mem ((c.tc : Thread Cert.ShortFwdIdeal.nD Cert.ShortFwdIdeal.τ).loc Cert.ShortFwdIdeal.main_arg2) = m ((c.tc : Thread Cert.ShortFwdIdeal.nD Cert.ShortFwdIdeal.τ).loc Cert.ShortFwdIdeal.main_arg2))
      ∧ θ_run (Cert.ShortFwdRefIdeal.defs (F := Ideal)) (onTc (τ := Cert.ShortFwdRefIdeal.τ) (Cert.ShortFwdRefIdeal.main (F := Ideal))) ⟨m', fun _ => 0, g'⟩ (fun r => ∀ c : Dev Cert.ShortFwdRefIdeal.nD,
          r.2.mem ((c.tc : Thread Cert.ShortFwdRefIdeal.nD Cert.ShortFwdRefIdeal.τ).loc Cert.ShortFwdRefIdeal.main_v31) = v0 c
          ∧ r.2.mem ((c.tc : Thread Cert.ShortFwdRefIdeal.nD Cert.ShortFwdRefIdeal.τ).loc Cert.ShortFwdRefIdeal.main_arg0) = m' ((c.tc : Thread Cert.ShortFwdRefIdeal.nD Cert.ShortFwdRefIdeal.τ).loc Cert.ShortFwdRefIdeal.main_arg0)
          ∧ r.2.mem ((c.tc : Thread Cert.ShortFwdRefIdeal.nD Cert.ShortFwdRefIdeal.τ).loc Cert.ShortFwdRefIdeal.main_arg1) = m' ((c.tc : Thread Cert.ShortFwdRefIdeal.nD Cert.ShortFwdRefIdeal.τ).loc Cert.ShortFwdRefIdeal.main_arg1)
          ∧ r.2.mem ((c.tc : Thread Cert.ShortFwdRefIdeal.nD Cert.ShortFwdRefIdeal.τ).loc Cert.ShortFwdRefIdeal.main_arg2) = m' ((c.tc : Thread Cert.ShortFwdRefIdeal.nD Cert.ShortFwdRefIdeal.τ).loc Cert.ShortFwdRefIdeal.main_arg2))

def preserves_ActBwd_ActBwdIdeal : Prop :=
  True

def algebraic_ActBwdIdeal_ActBwdRefIdeal_pre_act_finite [hActBwdIdeal : Cert.ActBwdIdeal.Facts] [hActBwdRefIdeal : Cert.ActBwdRefIdeal.Facts] [hPre_act_finite : Cert.Pre_act_finite.Facts] : Prop :=
  ∀ (m : (ℓ : Loc Cert.ActBwdIdeal.nD Cert.ActBwdIdeal.τ Cert.ActBwdIdeal.sig) → Buf (Elt Ideal) ℓ) (g : Dev Cert.ActBwdIdeal.nD → PrngReg)
    (m' : (ℓ : Loc Cert.ActBwdRefIdeal.nD Cert.ActBwdRefIdeal.τ Cert.ActBwdRefIdeal.sig) → Buf (Elt Ideal) ℓ) (g' : Dev Cert.ActBwdRefIdeal.nD → PrngReg), Pre_ActBwdIdeal_act_finite m →
    (∀ c : Dev Cert.ActBwdIdeal.nD,
      m' ((c.tc : Thread Cert.ActBwdRefIdeal.nD Cert.ActBwdRefIdeal.τ).loc Cert.ActBwdRefIdeal.main_arg0) = m ((c.tc : Thread Cert.ActBwdIdeal.nD Cert.ActBwdIdeal.τ).loc Cert.ActBwdIdeal.main_arg0)
      ∧ m' ((c.tc : Thread Cert.ActBwdRefIdeal.nD Cert.ActBwdRefIdeal.τ).loc Cert.ActBwdRefIdeal.main_arg1) = m ((c.tc : Thread Cert.ActBwdIdeal.nD Cert.ActBwdIdeal.τ).loc Cert.ActBwdIdeal.main_arg1)
      ∧ m' ((c.tc : Thread Cert.ActBwdRefIdeal.nD Cert.ActBwdRefIdeal.τ).loc Cert.ActBwdRefIdeal.main_arg2) = m ((c.tc : Thread Cert.ActBwdIdeal.nD Cert.ActBwdIdeal.τ).loc Cert.ActBwdIdeal.main_arg2)) →
    ∃ (v0 : (c : Dev Cert.ActBwdIdeal.nD) → Buf (Elt Ideal) ((c.tc : Thread Cert.ActBwdIdeal.nD Cert.ActBwdIdeal.τ).loc Cert.ActBwdIdeal.main_v0_0)) (v1 : (c : Dev Cert.ActBwdIdeal.nD) → Buf (Elt Ideal) ((c.tc : Thread Cert.ActBwdIdeal.nD Cert.ActBwdIdeal.τ).loc Cert.ActBwdIdeal.main_v0_1)),
      θ_run (Cert.ActBwdIdeal.defs (F := Ideal)) (onTc (τ := Cert.ActBwdIdeal.τ) (Cert.ActBwdIdeal.main (F := Ideal))) ⟨m, fun _ => 0, g⟩ (fun r => ∀ c : Dev Cert.ActBwdIdeal.nD,
          r.2.mem ((c.tc : Thread Cert.ActBwdIdeal.nD Cert.ActBwdIdeal.τ).loc Cert.ActBwdIdeal.main_v0_0) = v0 c
          ∧ r.2.mem ((c.tc : Thread Cert.ActBwdIdeal.nD Cert.ActBwdIdeal.τ).loc Cert.ActBwdIdeal.main_v0_1) = v1 c
          ∧ r.2.mem ((c.tc : Thread Cert.ActBwdIdeal.nD Cert.ActBwdIdeal.τ).loc Cert.ActBwdIdeal.main_arg0) = m ((c.tc : Thread Cert.ActBwdIdeal.nD Cert.ActBwdIdeal.τ).loc Cert.ActBwdIdeal.main_arg0)
          ∧ r.2.mem ((c.tc : Thread Cert.ActBwdIdeal.nD Cert.ActBwdIdeal.τ).loc Cert.ActBwdIdeal.main_arg1) = m ((c.tc : Thread Cert.ActBwdIdeal.nD Cert.ActBwdIdeal.τ).loc Cert.ActBwdIdeal.main_arg1)
          ∧ r.2.mem ((c.tc : Thread Cert.ActBwdIdeal.nD Cert.ActBwdIdeal.τ).loc Cert.ActBwdIdeal.main_arg2) = m ((c.tc : Thread Cert.ActBwdIdeal.nD Cert.ActBwdIdeal.τ).loc Cert.ActBwdIdeal.main_arg2))
      ∧ θ_run (Cert.ActBwdRefIdeal.defs (F := Ideal)) (onTc (τ := Cert.ActBwdRefIdeal.τ) (Cert.ActBwdRefIdeal.main (F := Ideal))) ⟨m', fun _ => 0, g'⟩ (fun r => ∀ c : Dev Cert.ActBwdRefIdeal.nD,
          r.2.mem ((c.tc : Thread Cert.ActBwdRefIdeal.nD Cert.ActBwdRefIdeal.τ).loc Cert.ActBwdRefIdeal.main_v71) = v0 c
          ∧ r.2.mem ((c.tc : Thread Cert.ActBwdRefIdeal.nD Cert.ActBwdRefIdeal.τ).loc Cert.ActBwdRefIdeal.main_v76) = v1 c
          ∧ r.2.mem ((c.tc : Thread Cert.ActBwdRefIdeal.nD Cert.ActBwdRefIdeal.τ).loc Cert.ActBwdRefIdeal.main_arg0) = m' ((c.tc : Thread Cert.ActBwdRefIdeal.nD Cert.ActBwdRefIdeal.τ).loc Cert.ActBwdRefIdeal.main_arg0)
          ∧ r.2.mem ((c.tc : Thread Cert.ActBwdRefIdeal.nD Cert.ActBwdRefIdeal.τ).loc Cert.ActBwdRefIdeal.main_arg1) = m' ((c.tc : Thread Cert.ActBwdRefIdeal.nD Cert.ActBwdRefIdeal.τ).loc Cert.ActBwdRefIdeal.main_arg1)
          ∧ r.2.mem ((c.tc : Thread Cert.ActBwdRefIdeal.nD Cert.ActBwdRefIdeal.τ).loc Cert.ActBwdRefIdeal.main_arg2) = m' ((c.tc : Thread Cert.ActBwdRefIdeal.nD Cert.ActBwdRefIdeal.τ).loc Cert.ActBwdRefIdeal.main_arg2))

def preserves_ActFwd_ActFwdIdeal : Prop :=
  True

def algebraic_ActFwdIdeal_ActFwdRefIdeal [hActFwdIdeal : Cert.ActFwdIdeal.Facts] [hActFwdRefIdeal : Cert.ActFwdRefIdeal.Facts] : Prop :=
  ∀ (m : (ℓ : Loc Cert.ActFwdIdeal.nD Cert.ActFwdIdeal.τ Cert.ActFwdIdeal.sig) → Buf (Elt Ideal) ℓ) (g : Dev Cert.ActFwdIdeal.nD → PrngReg)
    (m' : (ℓ : Loc Cert.ActFwdRefIdeal.nD Cert.ActFwdRefIdeal.τ Cert.ActFwdRefIdeal.sig) → Buf (Elt Ideal) ℓ) (g' : Dev Cert.ActFwdRefIdeal.nD → PrngReg), Pre_ActFwdIdeal m →
    (∀ c : Dev Cert.ActFwdIdeal.nD,
      m' ((c.tc : Thread Cert.ActFwdRefIdeal.nD Cert.ActFwdRefIdeal.τ).loc Cert.ActFwdRefIdeal.main_arg0) = m ((c.tc : Thread Cert.ActFwdIdeal.nD Cert.ActFwdIdeal.τ).loc Cert.ActFwdIdeal.main_arg0)
      ∧ m' ((c.tc : Thread Cert.ActFwdRefIdeal.nD Cert.ActFwdRefIdeal.τ).loc Cert.ActFwdRefIdeal.main_arg1) = m ((c.tc : Thread Cert.ActFwdIdeal.nD Cert.ActFwdIdeal.τ).loc Cert.ActFwdIdeal.main_arg1)) →
    ∃ (v0 : (c : Dev Cert.ActFwdIdeal.nD) → Buf (Elt Ideal) ((c.tc : Thread Cert.ActFwdIdeal.nD Cert.ActFwdIdeal.τ).loc Cert.ActFwdIdeal.main_v0)),
      θ_run (Cert.ActFwdIdeal.defs (F := Ideal)) (onTc (τ := Cert.ActFwdIdeal.τ) (Cert.ActFwdIdeal.main (F := Ideal))) ⟨m, fun _ => 0, g⟩ (fun r => ∀ c : Dev Cert.ActFwdIdeal.nD,
          r.2.mem ((c.tc : Thread Cert.ActFwdIdeal.nD Cert.ActFwdIdeal.τ).loc Cert.ActFwdIdeal.main_v0) = v0 c
          ∧ r.2.mem ((c.tc : Thread Cert.ActFwdIdeal.nD Cert.ActFwdIdeal.τ).loc Cert.ActFwdIdeal.main_arg0) = m ((c.tc : Thread Cert.ActFwdIdeal.nD Cert.ActFwdIdeal.τ).loc Cert.ActFwdIdeal.main_arg0)
          ∧ r.2.mem ((c.tc : Thread Cert.ActFwdIdeal.nD Cert.ActFwdIdeal.τ).loc Cert.ActFwdIdeal.main_arg1) = m ((c.tc : Thread Cert.ActFwdIdeal.nD Cert.ActFwdIdeal.τ).loc Cert.ActFwdIdeal.main_arg1))
      ∧ θ_run (Cert.ActFwdRefIdeal.defs (F := Ideal)) (onTc (τ := Cert.ActFwdRefIdeal.τ) (Cert.ActFwdRefIdeal.main (F := Ideal))) ⟨m', fun _ => 0, g'⟩ (fun r => ∀ c : Dev Cert.ActFwdRefIdeal.nD,
          r.2.mem ((c.tc : Thread Cert.ActFwdRefIdeal.nD Cert.ActFwdRefIdeal.τ).loc Cert.ActFwdRefIdeal.main_v27) = v0 c
          ∧ r.2.mem ((c.tc : Thread Cert.ActFwdRefIdeal.nD Cert.ActFwdRefIdeal.τ).loc Cert.ActFwdRefIdeal.main_arg0) = m' ((c.tc : Thread Cert.ActFwdRefIdeal.nD Cert.ActFwdRefIdeal.τ).loc Cert.ActFwdRefIdeal.main_arg0)
          ∧ r.2.mem ((c.tc : Thread Cert.ActFwdRefIdeal.nD Cert.ActFwdRefIdeal.τ).loc Cert.ActFwdRefIdeal.main_arg1) = m' ((c.tc : Thread Cert.ActFwdRefIdeal.nD Cert.ActFwdRefIdeal.τ).loc Cert.ActFwdRefIdeal.main_arg1))

def preserves_AdamIn0_AdamIn0Ideal : Prop :=
  True

def algebraic_AdamIn0Ideal_AdamIn0RefIdeal [hAdamIn0Ideal : Cert.AdamIn0Ideal.Facts] [hAdamIn0RefIdeal : Cert.AdamIn0RefIdeal.Facts] [hPre_chip_in0 : Cert.Pre_chip_in0.Facts] : Prop :=
  ∀ (m : (ℓ : Loc Cert.AdamIn0Ideal.nD Cert.AdamIn0Ideal.τ Cert.AdamIn0Ideal.sig) → Buf (Elt Ideal) ℓ) (g : Dev Cert.AdamIn0Ideal.nD → PrngReg)
    (m' : (ℓ : Loc Cert.AdamIn0RefIdeal.nD Cert.AdamIn0RefIdeal.τ Cert.AdamIn0RefIdeal.sig) → Buf (Elt Ideal) ℓ) (g' : Dev Cert.AdamIn0RefIdeal.nD → PrngReg), Pre_AdamIn0Ideal m →
    (∀ c : Dev Cert.AdamIn0Ideal.nD,
      m' ((c.tc : Thread Cert.AdamIn0RefIdeal.nD Cert.AdamIn0RefIdeal.τ).loc Cert.AdamIn0RefIdeal.main_arg0) = m ((c.tc : Thread Cert.AdamIn0Ideal.nD Cert.AdamIn0Ideal.τ).loc Cert.AdamIn0Ideal.main_arg0)
      ∧ m' ((c.tc : Thread Cert.AdamIn0RefIdeal.nD Cert.AdamIn0RefIdeal.τ).loc Cert.AdamIn0RefIdeal.main_arg1) = m ((c.tc : Thread Cert.AdamIn0Ideal.nD Cert.AdamIn0Ideal.τ).loc Cert.AdamIn0Ideal.main_arg1)
      ∧ m' ((c.tc : Thread Cert.AdamIn0RefIdeal.nD Cert.AdamIn0RefIdeal.τ).loc Cert.AdamIn0RefIdeal.main_arg2) = m ((c.tc : Thread Cert.AdamIn0Ideal.nD Cert.AdamIn0Ideal.τ).loc Cert.AdamIn0Ideal.main_arg2)
      ∧ m' ((c.tc : Thread Cert.AdamIn0RefIdeal.nD Cert.AdamIn0RefIdeal.τ).loc Cert.AdamIn0RefIdeal.main_arg3) = m ((c.tc : Thread Cert.AdamIn0Ideal.nD Cert.AdamIn0Ideal.τ).loc Cert.AdamIn0Ideal.main_arg3)
      ∧ m' ((c.tc : Thread Cert.AdamIn0RefIdeal.nD Cert.AdamIn0RefIdeal.τ).loc Cert.AdamIn0RefIdeal.main_arg4) = m ((c.tc : Thread Cert.AdamIn0Ideal.nD Cert.AdamIn0Ideal.τ).loc Cert.AdamIn0Ideal.main_arg4)
      ∧ m' ((c.tc : Thread Cert.AdamIn0RefIdeal.nD Cert.AdamIn0RefIdeal.τ).loc Cert.AdamIn0RefIdeal.main_arg5) = m ((c.tc : Thread Cert.AdamIn0Ideal.nD Cert.AdamIn0Ideal.τ).loc Cert.AdamIn0Ideal.main_arg5)) →
    ∃ (v0 : (c : Dev Cert.AdamIn0Ideal.nD) → Buf (Elt Ideal) ((c.tc : Thread Cert.AdamIn0Ideal.nD Cert.AdamIn0Ideal.τ).loc Cert.AdamIn0Ideal.main_v0_0)) (v1 : (c : Dev Cert.AdamIn0Ideal.nD) → Buf (Elt Ideal) ((c.tc : Thread Cert.AdamIn0Ideal.nD Cert.AdamIn0Ideal.τ).loc Cert.AdamIn0Ideal.main_v0_1)) (v2 : (c : Dev Cert.AdamIn0Ideal.nD) → Buf (Elt Ideal) ((c.tc : Thread Cert.AdamIn0Ideal.nD Cert.AdamIn0Ideal.τ).loc Cert.AdamIn0Ideal.main_v0_2)) (v3 : (c : Dev Cert.AdamIn0Ideal.nD) → Buf (Elt Ideal) ((c.tc : Thread Cert.AdamIn0Ideal.nD Cert.AdamIn0Ideal.τ).loc Cert.AdamIn0Ideal.main_v0_3)),
      θ_run (Cert.AdamIn0Ideal.defs (F := Ideal)) (onTc (τ := Cert.AdamIn0Ideal.τ) (Cert.AdamIn0Ideal.main (F := Ideal))) ⟨m, fun _ => 0, g⟩ (fun r => ∀ c : Dev Cert.AdamIn0Ideal.nD,
          r.2.mem ((c.tc : Thread Cert.AdamIn0Ideal.nD Cert.AdamIn0Ideal.τ).loc Cert.AdamIn0Ideal.main_v0_0) = v0 c
          ∧ r.2.mem ((c.tc : Thread Cert.AdamIn0Ideal.nD Cert.AdamIn0Ideal.τ).loc Cert.AdamIn0Ideal.main_v0_1) = v1 c
          ∧ r.2.mem ((c.tc : Thread Cert.AdamIn0Ideal.nD Cert.AdamIn0Ideal.τ).loc Cert.AdamIn0Ideal.main_v0_2) = v2 c
          ∧ r.2.mem ((c.tc : Thread Cert.AdamIn0Ideal.nD Cert.AdamIn0Ideal.τ).loc Cert.AdamIn0Ideal.main_v0_3) = v3 c
          ∧ r.2.mem ((c.tc : Thread Cert.AdamIn0Ideal.nD Cert.AdamIn0Ideal.τ).loc Cert.AdamIn0Ideal.main_arg0) = m ((c.tc : Thread Cert.AdamIn0Ideal.nD Cert.AdamIn0Ideal.τ).loc Cert.AdamIn0Ideal.main_arg0)
          ∧ r.2.mem ((c.tc : Thread Cert.AdamIn0Ideal.nD Cert.AdamIn0Ideal.τ).loc Cert.AdamIn0Ideal.main_arg1) = m ((c.tc : Thread Cert.AdamIn0Ideal.nD Cert.AdamIn0Ideal.τ).loc Cert.AdamIn0Ideal.main_arg1)
          ∧ r.2.mem ((c.tc : Thread Cert.AdamIn0Ideal.nD Cert.AdamIn0Ideal.τ).loc Cert.AdamIn0Ideal.main_arg2) = m ((c.tc : Thread Cert.AdamIn0Ideal.nD Cert.AdamIn0Ideal.τ).loc Cert.AdamIn0Ideal.main_arg2)
          ∧ r.2.mem ((c.tc : Thread Cert.AdamIn0Ideal.nD Cert.AdamIn0Ideal.τ).loc Cert.AdamIn0Ideal.main_arg3) = m ((c.tc : Thread Cert.AdamIn0Ideal.nD Cert.AdamIn0Ideal.τ).loc Cert.AdamIn0Ideal.main_arg3)
          ∧ r.2.mem ((c.tc : Thread Cert.AdamIn0Ideal.nD Cert.AdamIn0Ideal.τ).loc Cert.AdamIn0Ideal.main_arg4) = m ((c.tc : Thread Cert.AdamIn0Ideal.nD Cert.AdamIn0Ideal.τ).loc Cert.AdamIn0Ideal.main_arg4)
          ∧ r.2.mem ((c.tc : Thread Cert.AdamIn0Ideal.nD Cert.AdamIn0Ideal.τ).loc Cert.AdamIn0Ideal.main_arg5) = m ((c.tc : Thread Cert.AdamIn0Ideal.nD Cert.AdamIn0Ideal.τ).loc Cert.AdamIn0Ideal.main_arg5))
      ∧ θ_run (Cert.AdamIn0RefIdeal.defs (F := Ideal)) (onTc (τ := Cert.AdamIn0RefIdeal.τ) (Cert.AdamIn0RefIdeal.main (F := Ideal))) ⟨m', fun _ => 0, g'⟩ (fun r => ∀ c : Dev Cert.AdamIn0RefIdeal.nD,
          r.2.mem ((c.tc : Thread Cert.AdamIn0RefIdeal.nD Cert.AdamIn0RefIdeal.τ).loc Cert.AdamIn0RefIdeal.main_v8) = v0 c
          ∧ r.2.mem ((c.tc : Thread Cert.AdamIn0RefIdeal.nD Cert.AdamIn0RefIdeal.τ).loc Cert.AdamIn0RefIdeal.main_v32) = v1 c
          ∧ r.2.mem ((c.tc : Thread Cert.AdamIn0RefIdeal.nD Cert.AdamIn0RefIdeal.τ).loc Cert.AdamIn0RefIdeal.main_v13) = v2 c
          ∧ r.2.mem ((c.tc : Thread Cert.AdamIn0RefIdeal.nD Cert.AdamIn0RefIdeal.τ).loc Cert.AdamIn0RefIdeal.main_v19) = v3 c
          ∧ r.2.mem ((c.tc : Thread Cert.AdamIn0RefIdeal.nD Cert.AdamIn0RefIdeal.τ).loc Cert.AdamIn0RefIdeal.main_arg0) = m' ((c.tc : Thread Cert.AdamIn0RefIdeal.nD Cert.AdamIn0RefIdeal.τ).loc Cert.AdamIn0RefIdeal.main_arg0)
          ∧ r.2.mem ((c.tc : Thread Cert.AdamIn0RefIdeal.nD Cert.AdamIn0RefIdeal.τ).loc Cert.AdamIn0RefIdeal.main_arg1) = m' ((c.tc : Thread Cert.AdamIn0RefIdeal.nD Cert.AdamIn0RefIdeal.τ).loc Cert.AdamIn0RefIdeal.main_arg1)
          ∧ r.2.mem ((c.tc : Thread Cert.AdamIn0RefIdeal.nD Cert.AdamIn0RefIdeal.τ).loc Cert.AdamIn0RefIdeal.main_arg2) = m' ((c.tc : Thread Cert.AdamIn0RefIdeal.nD Cert.AdamIn0RefIdeal.τ).loc Cert.AdamIn0RefIdeal.main_arg2)
          ∧ r.2.mem ((c.tc : Thread Cert.AdamIn0RefIdeal.nD Cert.AdamIn0RefIdeal.τ).loc Cert.AdamIn0RefIdeal.main_arg3) = m' ((c.tc : Thread Cert.AdamIn0RefIdeal.nD Cert.AdamIn0RefIdeal.τ).loc Cert.AdamIn0RefIdeal.main_arg3)
          ∧ r.2.mem ((c.tc : Thread Cert.AdamIn0RefIdeal.nD Cert.AdamIn0RefIdeal.τ).loc Cert.AdamIn0RefIdeal.main_arg4) = m' ((c.tc : Thread Cert.AdamIn0RefIdeal.nD Cert.AdamIn0RefIdeal.τ).loc Cert.AdamIn0RefIdeal.main_arg4)
          ∧ r.2.mem ((c.tc : Thread Cert.AdamIn0RefIdeal.nD Cert.AdamIn0RefIdeal.τ).loc Cert.AdamIn0RefIdeal.main_arg5) = m' ((c.tc : Thread Cert.AdamIn0RefIdeal.nD Cert.AdamIn0RefIdeal.τ).loc Cert.AdamIn0RefIdeal.main_arg5))

def preserves_AdamOut_AdamOutIdeal : Prop :=
  True

def algebraic_AdamOutIdeal_AdamOutRefIdeal [hAdamOutIdeal : Cert.AdamOutIdeal.Facts] [hAdamOutRefIdeal : Cert.AdamOutRefIdeal.Facts] [hPre_chip_out : Cert.Pre_chip_out.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)
      ∧ m' ((c.tc : Thread Cert.AdamOutRefIdeal.nD Cert.AdamOutRefIdeal.τ).loc Cert.AdamOutRefIdeal.main_arg5) = m ((c.tc : Thread Cert.AdamOutIdeal.nD Cert.AdamOutIdeal.τ).loc Cert.AdamOutIdeal.main_arg5)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
          ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v8) = v0 c
          ∧ r.2.mem ((c.tc : Thread Cert.AdamOutRefIdeal.nD Cert.AdamOutRefIdeal.τ).loc Cert.AdamOutRefIdeal.main_v32) = v1 c
          ∧ r.2.mem ((c.tc : Thread Cert.AdamOutRefIdeal.nD Cert.AdamOutRefIdeal.τ).loc Cert.AdamOutRefIdeal.main_v13) = v2 c
          ∧ r.2.mem ((c.tc : Thread Cert.AdamOutRefIdeal.nD Cert.AdamOutRefIdeal.τ).loc Cert.AdamOutRefIdeal.main_v19) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4)
          ∧ r.2.mem ((c.tc : Thread Cert.AdamOutRefIdeal.nD Cert.AdamOutRefIdeal.τ).loc Cert.AdamOutRefIdeal.main_arg5) = m' ((c.tc : Thread Cert.AdamOutRefIdeal.nD Cert.AdamOutRefIdeal.τ).loc Cert.AdamOutRefIdeal.main_arg5))

def preserves_AdamUp_AdamUpIdeal : Prop :=
  True

def algebraic_AdamUpIdeal_AdamUpRefIdeal [hAdamUpIdeal : Cert.AdamUpIdeal.Facts] [hAdamUpRefIdeal : Cert.AdamUpRefIdeal.Facts] [hPre_chip_up : Cert.Pre_chip_up.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)
      ∧ m' ((c.tc : Thread Cert.AdamUpRefIdeal.nD Cert.AdamUpRefIdeal.τ).loc Cert.AdamUpRefIdeal.main_arg5) = m ((c.tc : Thread Cert.AdamUpIdeal.nD Cert.AdamUpIdeal.τ).loc Cert.AdamUpIdeal.main_arg5)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
          ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v8) = v0 c
          ∧ r.2.mem ((c.tc : Thread Cert.AdamUpRefIdeal.nD Cert.AdamUpRefIdeal.τ).loc Cert.AdamUpRefIdeal.main_v32) = v1 c
          ∧ r.2.mem ((c.tc : Thread Cert.AdamUpRefIdeal.nD Cert.AdamUpRefIdeal.τ).loc Cert.AdamUpRefIdeal.main_v13) = v2 c
          ∧ r.2.mem ((c.tc : Thread Cert.AdamUpRefIdeal.nD Cert.AdamUpRefIdeal.τ).loc Cert.AdamUpRefIdeal.main_v19) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4)
          ∧ r.2.mem ((c.tc : Thread Cert.AdamUpRefIdeal.nD Cert.AdamUpRefIdeal.τ).loc Cert.AdamUpRefIdeal.main_arg5) = m' ((c.tc : Thread Cert.AdamUpRefIdeal.nD Cert.AdamUpRefIdeal.τ).loc Cert.AdamUpRefIdeal.main_arg5))

def preserves_AdamDown_AdamDownIdeal : Prop :=
  True

def algebraic_AdamDownIdeal_AdamDownRefIdeal [hAdamDownIdeal : Cert.AdamDownIdeal.Facts] [hAdamDownRefIdeal : Cert.AdamDownRefIdeal.Facts] [hPre_chip_down : Cert.Pre_chip_down.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)
      ∧ m' ((c.tc : Thread Cert.AdamDownRefIdeal.nD Cert.AdamDownRefIdeal.τ).loc Cert.AdamDownRefIdeal.main_arg5) = m ((c.tc : Thread Cert.AdamDownIdeal.nD Cert.AdamDownIdeal.τ).loc Cert.AdamDownIdeal.main_arg5)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
          ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v8) = v0 c
          ∧ r.2.mem ((c.tc : Thread Cert.AdamDownRefIdeal.nD Cert.AdamDownRefIdeal.τ).loc Cert.AdamDownRefIdeal.main_v32) = v1 c
          ∧ r.2.mem ((c.tc : Thread Cert.AdamDownRefIdeal.nD Cert.AdamDownRefIdeal.τ).loc Cert.AdamDownRefIdeal.main_v13) = v2 c
          ∧ r.2.mem ((c.tc : Thread Cert.AdamDownRefIdeal.nD Cert.AdamDownRefIdeal.τ).loc Cert.AdamDownRefIdeal.main_v19) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4)
          ∧ r.2.mem ((c.tc : Thread Cert.AdamDownRefIdeal.nD Cert.AdamDownRefIdeal.τ).loc Cert.AdamDownRefIdeal.main_arg5) = m' ((c.tc : Thread Cert.AdamDownRefIdeal.nD Cert.AdamDownRefIdeal.τ).loc Cert.AdamDownRefIdeal.main_arg5))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v1_0)) (v1 : (c : Dev Cert.NormBwdIdeal.nD) → Buf (Elt Ideal) ((c.tc : Thread Cert.NormBwdIdeal.nD Cert.NormBwdIdeal.τ).loc Cert.NormBwdIdeal.main_v1_1)) (v2 : (c : Dev Cert.NormBwdIdeal.nD) → Buf (Elt Ideal) ((c.tc : Thread Cert.NormBwdIdeal.nD Cert.NormBwdIdeal.τ).loc Cert.NormBwdIdeal.main_v1_2)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v1_0) = v0 c
          ∧ r.2.mem ((c.tc : Thread Cert.NormBwdIdeal.nD Cert.NormBwdIdeal.τ).loc Cert.NormBwdIdeal.main_v1_1) = v1 c
          ∧ r.2.mem ((c.tc : Thread Cert.NormBwdIdeal.nD Cert.NormBwdIdeal.τ).loc Cert.NormBwdIdeal.main_v1_2) = v2 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v37) = v0 c
          ∧ r.2.mem ((c.tc : Thread Cert.NormBwdRefIdeal.nD Cert.NormBwdRefIdeal.τ).loc Cert.NormBwdRefIdeal.main_v38) = v1 c
          ∧ r.2.mem ((c.tc : Thread Cert.NormBwdRefIdeal.nD Cert.NormBwdRefIdeal.τ).loc Cert.NormBwdRefIdeal.main_v39) = v2 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v1)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v1) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v13) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v1_0)) (v1 : (c : Dev Cert.LossHeadIdeal.nD) → Buf (Elt Ideal) ((c.tc : Thread Cert.LossHeadIdeal.nD Cert.LossHeadIdeal.τ).loc Cert.LossHeadIdeal.main_v1_1)) (v2 : (c : Dev Cert.LossHeadIdeal.nD) → Buf (Elt Ideal) ((c.tc : Thread Cert.LossHeadIdeal.nD Cert.LossHeadIdeal.τ).loc Cert.LossHeadIdeal.main_v1_2)) (v3 : (c : Dev Cert.LossHeadIdeal.nD) → Buf (Elt Ideal) ((c.tc : Thread Cert.LossHeadIdeal.nD Cert.LossHeadIdeal.τ).loc Cert.LossHeadIdeal.main_v1_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v1_0) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_v1_2) = v2 c
          ∧ r.2.mem ((c.tc : Thread Cert.LossHeadIdeal.nD Cert.LossHeadIdeal.τ).loc Cert.LossHeadIdeal.main_v1_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v50) = v0 c
          ∧ r.2.mem ((c.tc : Thread Cert.LossHeadRefIdeal.nD Cert.LossHeadRefIdeal.τ).loc Cert.LossHeadRefIdeal.main_v51) = v1 c
          ∧ r.2.mem ((c.tc : Thread Cert.LossHeadRefIdeal.nD Cert.LossHeadRefIdeal.τ).loc Cert.LossHeadRefIdeal.main_v52) = v2 c
          ∧ r.2.mem ((c.tc : Thread Cert.LossHeadRefIdeal.nD Cert.LossHeadRefIdeal.τ).loc Cert.LossHeadRefIdeal.main_v73) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_SmallStep_SmallStepIdeal : Prop :=
  True

def algebraic_SmallStepIdeal_SmallStepRefIdeal [hSmallStepIdeal : Cert.SmallStepIdeal.Facts] [hSmallStepRefIdeal : Cert.SmallStepRefIdeal.Facts] : Prop :=
  ∀ (m : (ℓ : Loc Cert.SmallStepIdeal.nD Cert.SmallStepIdeal.τ Cert.SmallStepIdeal.sig) → Buf (Elt Ideal) ℓ) (g : Dev Cert.SmallStepIdeal.nD → PrngReg)
    (m' : (ℓ : Loc Cert.SmallStepRefIdeal.nD Cert.SmallStepRefIdeal.τ Cert.SmallStepRefIdeal.sig) → Buf (Elt Ideal) ℓ) (g' : Dev Cert.SmallStepRefIdeal.nD → PrngReg), Pre_SmallStepIdeal m →
    (∀ c : Dev Cert.SmallStepIdeal.nD,
      m' ((c.tc : Thread Cert.SmallStepRefIdeal.nD Cert.SmallStepRefIdeal.τ).loc Cert.SmallStepRefIdeal.main_arg0) = m ((c.tc : Thread Cert.SmallStepIdeal.nD Cert.SmallStepIdeal.τ).loc Cert.SmallStepIdeal.main_arg0)
      ∧ m' ((c.tc : Thread Cert.SmallStepRefIdeal.nD Cert.SmallStepRefIdeal.τ).loc Cert.SmallStepRefIdeal.main_arg1) = m ((c.tc : Thread Cert.SmallStepIdeal.nD Cert.SmallStepIdeal.τ).loc Cert.SmallStepIdeal.main_arg1)
      ∧ m' ((c.tc : Thread Cert.SmallStepRefIdeal.nD Cert.SmallStepRefIdeal.τ).loc Cert.SmallStepRefIdeal.main_arg2) = m ((c.tc : Thread Cert.SmallStepIdeal.nD Cert.SmallStepIdeal.τ).loc Cert.SmallStepIdeal.main_arg2)
      ∧ m' ((c.tc : Thread Cert.SmallStepRefIdeal.nD Cert.SmallStepRefIdeal.τ).loc Cert.SmallStepRefIdeal.main_arg3) = m ((c.tc : Thread Cert.SmallStepIdeal.nD Cert.SmallStepIdeal.τ).loc Cert.SmallStepIdeal.main_arg3)) →
    ∃ (v0 : (c : Dev Cert.SmallStepIdeal.nD) → Buf (Elt Ideal) ((c.tc : Thread Cert.SmallStepIdeal.nD Cert.SmallStepIdeal.τ).loc Cert.SmallStepIdeal.main_v0_0)) (v1 : (c : Dev Cert.SmallStepIdeal.nD) → Buf (Elt Ideal) ((c.tc : Thread Cert.SmallStepIdeal.nD Cert.SmallStepIdeal.τ).loc Cert.SmallStepIdeal.main_v0_1)) (v2 : (c : Dev Cert.SmallStepIdeal.nD) → Buf (Elt Ideal) ((c.tc : Thread Cert.SmallStepIdeal.nD Cert.SmallStepIdeal.τ).loc Cert.SmallStepIdeal.main_v0_2)) (v3 : (c : Dev Cert.SmallStepIdeal.nD) → Buf (Elt Ideal) ((c.tc : Thread Cert.SmallStepIdeal.nD Cert.SmallStepIdeal.τ).loc Cert.SmallStepIdeal.main_v0_3)),
      θ_run (Cert.SmallStepIdeal.defs (F := Ideal)) (onTc (τ := Cert.SmallStepIdeal.τ) (Cert.SmallStepIdeal.main (F := Ideal))) ⟨m, fun _ => 0, g⟩ (fun r => ∀ c : Dev Cert.SmallStepIdeal.nD,
          r.2.mem ((c.tc : Thread Cert.SmallStepIdeal.nD Cert.SmallStepIdeal.τ).loc Cert.SmallStepIdeal.main_v0_0) = v0 c
          ∧ r.2.mem ((c.tc : Thread Cert.SmallStepIdeal.nD Cert.SmallStepIdeal.τ).loc Cert.SmallStepIdeal.main_v0_1) = v1 c
          ∧ r.2.mem ((c.tc : Thread Cert.SmallStepIdeal.nD Cert.SmallStepIdeal.τ).loc Cert.SmallStepIdeal.main_v0_2) = v2 c
          ∧ r.2.mem ((c.tc : Thread Cert.SmallStepIdeal.nD Cert.SmallStepIdeal.τ).loc Cert.SmallStepIdeal.main_v0_3) = v3 c
          ∧ r.2.mem ((c.tc : Thread Cert.SmallStepIdeal.nD Cert.SmallStepIdeal.τ).loc Cert.SmallStepIdeal.main_arg0) = m ((c.tc : Thread Cert.SmallStepIdeal.nD Cert.SmallStepIdeal.τ).loc Cert.SmallStepIdeal.main_arg0)
          ∧ r.2.mem ((c.tc : Thread Cert.SmallStepIdeal.nD Cert.SmallStepIdeal.τ).loc Cert.SmallStepIdeal.main_arg1) = m ((c.tc : Thread Cert.SmallStepIdeal.nD Cert.SmallStepIdeal.τ).loc Cert.SmallStepIdeal.main_arg1)
          ∧ r.2.mem ((c.tc : Thread Cert.SmallStepIdeal.nD Cert.SmallStepIdeal.τ).loc Cert.SmallStepIdeal.main_arg2) = m ((c.tc : Thread Cert.SmallStepIdeal.nD Cert.SmallStepIdeal.τ).loc Cert.SmallStepIdeal.main_arg2)
          ∧ r.2.mem ((c.tc : Thread Cert.SmallStepIdeal.nD Cert.SmallStepIdeal.τ).loc Cert.SmallStepIdeal.main_arg3) = m ((c.tc : Thread Cert.SmallStepIdeal.nD Cert.SmallStepIdeal.τ).loc Cert.SmallStepIdeal.main_arg3))
      ∧ θ_run (Cert.SmallStepRefIdeal.defs (F := Ideal)) (onTc (τ := Cert.SmallStepRefIdeal.τ) (Cert.SmallStepRefIdeal.main (F := Ideal))) ⟨m', fun _ => 0, g'⟩ (fun r => ∀ c : Dev Cert.SmallStepRefIdeal.nD,
          r.2.mem ((c.tc : Thread Cert.SmallStepRefIdeal.nD Cert.SmallStepRefIdeal.τ).loc Cert.SmallStepRefIdeal.main_v0) = v0 c
          ∧ r.2.mem ((c.tc : Thread Cert.SmallStepRefIdeal.nD Cert.SmallStepRefIdeal.τ).loc Cert.SmallStepRefIdeal.main_v24) = v1 c
          ∧ r.2.mem ((c.tc : Thread Cert.SmallStepRefIdeal.nD Cert.SmallStepRefIdeal.τ).loc Cert.SmallStepRefIdeal.main_v5) = v2 c
          ∧ r.2.mem ((c.tc : Thread Cert.SmallStepRefIdeal.nD Cert.SmallStepRefIdeal.τ).loc Cert.SmallStepRefIdeal.main_v11) = v3 c
          ∧ r.2.mem ((c.tc : Thread Cert.SmallStepRefIdeal.nD Cert.SmallStepRefIdeal.τ).loc Cert.SmallStepRefIdeal.main_arg0) = m' ((c.tc : Thread Cert.SmallStepRefIdeal.nD Cert.SmallStepRefIdeal.τ).loc Cert.SmallStepRefIdeal.main_arg0)
          ∧ r.2.mem ((c.tc : Thread Cert.SmallStepRefIdeal.nD Cert.SmallStepRefIdeal.τ).loc Cert.SmallStepRefIdeal.main_arg1) = m' ((c.tc : Thread Cert.SmallStepRefIdeal.nD Cert.SmallStepRefIdeal.τ).loc Cert.SmallStepRefIdeal.main_arg1)
          ∧ r.2.mem ((c.tc : Thread Cert.SmallStepRefIdeal.nD Cert.SmallStepRefIdeal.τ).loc Cert.SmallStepRefIdeal.main_arg2) = m' ((c.tc : Thread Cert.SmallStepRefIdeal.nD Cert.SmallStepRefIdeal.τ).loc Cert.SmallStepRefIdeal.main_arg2)
          ∧ r.2.mem ((c.tc : Thread Cert.SmallStepRefIdeal.nD Cert.SmallStepRefIdeal.τ).loc Cert.SmallStepRefIdeal.main_arg3) = m' ((c.tc : Thread Cert.SmallStepRefIdeal.nD Cert.SmallStepRefIdeal.τ).loc Cert.SmallStepRefIdeal.main_arg3))

def preserves_LastStep_LastStepIdeal : Prop :=
  True

def algebraic_LastStepIdeal_LastStepRefIdeal [hLastStepIdeal : Cert.LastStepIdeal.Facts] [hLastStepRefIdeal : Cert.LastStepRefIdeal.Facts] : Prop :=
  ∀ (m : (ℓ : Loc Cert.LastStepIdeal.nD Cert.LastStepIdeal.τ Cert.LastStepIdeal.sig) → Buf (Elt Ideal) ℓ) (g : Dev Cert.LastStepIdeal.nD → PrngReg)
    (m' : (ℓ : Loc Cert.LastStepRefIdeal.nD Cert.LastStepRefIdeal.τ Cert.LastStepRefIdeal.sig) → Buf (Elt Ideal) ℓ) (g' : Dev Cert.LastStepRefIdeal.nD → PrngReg), Pre_LastStepIdeal m →
    (∀ c : Dev Cert.LastStepIdeal.nD,
      m' ((c.tc : Thread Cert.LastStepRefIdeal.nD Cert.LastStepRefIdeal.τ).loc Cert.LastStepRefIdeal.main_arg0) = m ((c.tc : Thread Cert.LastStepIdeal.nD Cert.LastStepIdeal.τ).loc Cert.LastStepIdeal.main_arg0)
      ∧ m' ((c.tc : Thread Cert.LastStepRefIdeal.nD Cert.LastStepRefIdeal.τ).loc Cert.LastStepRefIdeal.main_arg1) = m ((c.tc : Thread Cert.LastStepIdeal.nD Cert.LastStepIdeal.τ).loc Cert.LastStepIdeal.main_arg1)
      ∧ m' ((c.tc : Thread Cert.LastStepRefIdeal.nD Cert.LastStepRefIdeal.τ).loc Cert.LastStepRefIdeal.main_arg2) = m ((c.tc : Thread Cert.LastStepIdeal.nD Cert.LastStepIdeal.τ).loc Cert.LastStepIdeal.main_arg2)
      ∧ m' ((c.tc : Thread Cert.LastStepRefIdeal.nD Cert.LastStepRefIdeal.τ).loc Cert.LastStepRefIdeal.main_arg3) = m ((c.tc : Thread Cert.LastStepIdeal.nD Cert.LastStepIdeal.τ).loc Cert.LastStepIdeal.main_arg3)) →
    ∃ (v0 : (c : Dev Cert.LastStepIdeal.nD) → Buf (Elt Ideal) ((c.tc : Thread Cert.LastStepIdeal.nD Cert.LastStepIdeal.τ).loc Cert.LastStepIdeal.main_v0_0)) (v1 : (c : Dev Cert.LastStepIdeal.nD) → Buf (Elt Ideal) ((c.tc : Thread Cert.LastStepIdeal.nD Cert.LastStepIdeal.τ).loc Cert.LastStepIdeal.main_v0_1)) (v2 : (c : Dev Cert.LastStepIdeal.nD) → Buf (Elt Ideal) ((c.tc : Thread Cert.LastStepIdeal.nD Cert.LastStepIdeal.τ).loc Cert.LastStepIdeal.main_v0_2)) (v3 : (c : Dev Cert.LastStepIdeal.nD) → Buf (Elt Ideal) ((c.tc : Thread Cert.LastStepIdeal.nD Cert.LastStepIdeal.τ).loc Cert.LastStepIdeal.main_v0_3)),
      θ_run (Cert.LastStepIdeal.defs (F := Ideal)) (onTc (τ := Cert.LastStepIdeal.τ) (Cert.LastStepIdeal.main (F := Ideal))) ⟨m, fun _ => 0, g⟩ (fun r => ∀ c : Dev Cert.LastStepIdeal.nD,
          r.2.mem ((c.tc : Thread Cert.LastStepIdeal.nD Cert.LastStepIdeal.τ).loc Cert.LastStepIdeal.main_v0_0) = v0 c
          ∧ r.2.mem ((c.tc : Thread Cert.LastStepIdeal.nD Cert.LastStepIdeal.τ).loc Cert.LastStepIdeal.main_v0_1) = v1 c
          ∧ r.2.mem ((c.tc : Thread Cert.LastStepIdeal.nD Cert.LastStepIdeal.τ).loc Cert.LastStepIdeal.main_v0_2) = v2 c
          ∧ r.2.mem ((c.tc : Thread Cert.LastStepIdeal.nD Cert.LastStepIdeal.τ).loc Cert.LastStepIdeal.main_v0_3) = v3 c
          ∧ r.2.mem ((c.tc : Thread Cert.LastStepIdeal.nD Cert.LastStepIdeal.τ).loc Cert.LastStepIdeal.main_arg0) = m ((c.tc : Thread Cert.LastStepIdeal.nD Cert.LastStepIdeal.τ).loc Cert.LastStepIdeal.main_arg0)
          ∧ r.2.mem ((c.tc : Thread Cert.LastStepIdeal.nD Cert.LastStepIdeal.τ).loc Cert.LastStepIdeal.main_arg1) = m ((c.tc : Thread Cert.LastStepIdeal.nD Cert.LastStepIdeal.τ).loc Cert.LastStepIdeal.main_arg1)
          ∧ r.2.mem ((c.tc : Thread Cert.LastStepIdeal.nD Cert.LastStepIdeal.τ).loc Cert.LastStepIdeal.main_arg2) = m ((c.tc : Thread Cert.LastStepIdeal.nD Cert.LastStepIdeal.τ).loc Cert.LastStepIdeal.main_arg2)
          ∧ r.2.mem ((c.tc : Thread Cert.LastStepIdeal.nD Cert.LastStepIdeal.τ).loc Cert.LastStepIdeal.main_arg3) = m ((c.tc : Thread Cert.LastStepIdeal.nD Cert.LastStepIdeal.τ).loc Cert.LastStepIdeal.main_arg3))
      ∧ θ_run (Cert.LastStepRefIdeal.defs (F := Ideal)) (onTc (τ := Cert.LastStepRefIdeal.τ) (Cert.LastStepRefIdeal.main (F := Ideal))) ⟨m', fun _ => 0, g'⟩ (fun r => ∀ c : Dev Cert.LastStepRefIdeal.nD,
          r.2.mem ((c.tc : Thread Cert.LastStepRefIdeal.nD Cert.LastStepRefIdeal.τ).loc Cert.LastStepRefIdeal.main_v0) = v0 c
          ∧ r.2.mem ((c.tc : Thread Cert.LastStepRefIdeal.nD Cert.LastStepRefIdeal.τ).loc Cert.LastStepRefIdeal.main_v24) = v1 c
          ∧ r.2.mem ((c.tc : Thread Cert.LastStepRefIdeal.nD Cert.LastStepRefIdeal.τ).loc Cert.LastStepRefIdeal.main_v5) = v2 c
          ∧ r.2.mem ((c.tc : Thread Cert.LastStepRefIdeal.nD Cert.LastStepRefIdeal.τ).loc Cert.LastStepRefIdeal.main_v11) = v3 c
          ∧ r.2.mem ((c.tc : Thread Cert.LastStepRefIdeal.nD Cert.LastStepRefIdeal.τ).loc Cert.LastStepRefIdeal.main_arg0) = m' ((c.tc : Thread Cert.LastStepRefIdeal.nD Cert.LastStepRefIdeal.τ).loc Cert.LastStepRefIdeal.main_arg0)
          ∧ r.2.mem ((c.tc : Thread Cert.LastStepRefIdeal.nD Cert.LastStepRefIdeal.τ).loc Cert.LastStepRefIdeal.main_arg1) = m' ((c.tc : Thread Cert.LastStepRefIdeal.nD Cert.LastStepRefIdeal.τ).loc Cert.LastStepRefIdeal.main_arg1)
          ∧ r.2.mem ((c.tc : Thread Cert.LastStepRefIdeal.nD Cert.LastStepRefIdeal.τ).loc Cert.LastStepRefIdeal.main_arg2) = m' ((c.tc : Thread Cert.LastStepRefIdeal.nD Cert.LastStepRefIdeal.τ).loc Cert.LastStepRefIdeal.main_arg2)
          ∧ r.2.mem ((c.tc : Thread Cert.LastStepRefIdeal.nD Cert.LastStepRefIdeal.τ).loc Cert.LastStepRefIdeal.main_arg3) = m' ((c.tc : Thread Cert.LastStepRefIdeal.nD Cert.LastStepRefIdeal.τ).loc Cert.LastStepRefIdeal.main_arg3))

def preserves_SmallSum_SmallSumIdeal : Prop :=
  True

def algebraic_SmallSumIdeal_SmallSumRefIdeal [hSmallSumIdeal : Cert.SmallSumIdeal.Facts] [hSmallSumRefIdeal : Cert.SmallSumRefIdeal.Facts] : Prop :=
  ∀ (m : (ℓ : Loc Cert.SmallSumIdeal.nD Cert.SmallSumIdeal.τ Cert.SmallSumIdeal.sig) → Buf (Elt Ideal) ℓ) (g : Dev Cert.SmallSumIdeal.nD → PrngReg)
    (m' : (ℓ : Loc Cert.SmallSumRefIdeal.nD Cert.SmallSumRefIdeal.τ Cert.SmallSumRefIdeal.sig) → Buf (Elt Ideal) ℓ) (g' : Dev Cert.SmallSumRefIdeal.nD → PrngReg), Pre_SmallSumIdeal m →
    (∀ c : Dev Cert.SmallSumIdeal.nD,
      m' ((c.tc : Thread Cert.SmallSumRefIdeal.nD Cert.SmallSumRefIdeal.τ).loc Cert.SmallSumRefIdeal.main_arg0) = m ((c.tc : Thread Cert.SmallSumIdeal.nD Cert.SmallSumIdeal.τ).loc Cert.SmallSumIdeal.main_arg0)) →
    ∃ (v0 : (c : Dev Cert.SmallSumIdeal.nD) → Buf (Elt Ideal) ((c.tc : Thread Cert.SmallSumIdeal.nD Cert.SmallSumIdeal.τ).loc Cert.SmallSumIdeal.main_v0)),
      θ_run (Cert.SmallSumIdeal.defs (F := Ideal)) (onTc (τ := Cert.SmallSumIdeal.τ) (Cert.SmallSumIdeal.main (F := Ideal))) ⟨m, fun _ => 0, g⟩ (fun r => ∀ c : Dev Cert.SmallSumIdeal.nD,
          r.2.mem ((c.tc : Thread Cert.SmallSumIdeal.nD Cert.SmallSumIdeal.τ).loc Cert.SmallSumIdeal.main_v0) = v0 c
          ∧ r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0))
      ∧ θ_run (Cert.SmallSumRefIdeal.defs (F := Ideal)) (onTc (τ := Cert.SmallSumRefIdeal.τ) (Cert.SmallSumRefIdeal.main (F := Ideal))) ⟨m', fun _ => 0, g'⟩ (fun r => ∀ c : Dev Cert.SmallSumRefIdeal.nD,
          r.2.mem ((c.tc : Thread Cert.SmallSumRefIdeal.nD Cert.SmallSumRefIdeal.τ).loc Cert.SmallSumRefIdeal.main_v0) = v0 c
          ∧ r.2.mem ((c.tc : Thread Cert.SmallSumRefIdeal.nD Cert.SmallSumRefIdeal.τ).loc Cert.SmallSumRefIdeal.main_arg0) = m' ((c.tc : Thread Cert.SmallSumRefIdeal.nD Cert.SmallSumRefIdeal.τ).loc Cert.SmallSumRefIdeal.main_arg0))

def preserves_LastSum_LastSumIdeal : Prop :=
  True

def algebraic_LastSumIdeal_LastSumRefIdeal [hLastSumIdeal : Cert.LastSumIdeal.Facts] [hLastSumRefIdeal : Cert.LastSumRefIdeal.Facts] : Prop :=
  ∀ (m : (ℓ : Loc Cert.LastSumIdeal.nD Cert.LastSumIdeal.τ Cert.LastSumIdeal.sig) → Buf (Elt Ideal) ℓ) (g : Dev Cert.LastSumIdeal.nD → PrngReg)
    (m' : (ℓ : Loc Cert.LastSumRefIdeal.nD Cert.LastSumRefIdeal.τ Cert.LastSumRefIdeal.sig) → Buf (Elt Ideal) ℓ) (g' : Dev Cert.LastSumRefIdeal.nD → PrngReg), Pre_LastSumIdeal m →
    (∀ c : Dev Cert.LastSumIdeal.nD,
      m' ((c.tc : Thread Cert.LastSumRefIdeal.nD Cert.LastSumRefIdeal.τ).loc Cert.LastSumRefIdeal.main_arg0) = m ((c.tc : Thread Cert.LastSumIdeal.nD Cert.LastSumIdeal.τ).loc Cert.LastSumIdeal.main_arg0)) →
    ∃ (v0 : (c : Dev Cert.LastSumIdeal.nD) → Buf (Elt Ideal) ((c.tc : Thread Cert.LastSumIdeal.nD Cert.LastSumIdeal.τ).loc Cert.LastSumIdeal.main_v0)),
      θ_run (Cert.LastSumIdeal.defs (F := Ideal)) (onTc (τ := Cert.LastSumIdeal.τ) (Cert.LastSumIdeal.main (F := Ideal))) ⟨m, fun _ => 0, g⟩ (fun r => ∀ c : Dev Cert.LastSumIdeal.nD,
          r.2.mem ((c.tc : Thread Cert.LastSumIdeal.nD Cert.LastSumIdeal.τ).loc Cert.LastSumIdeal.main_v0) = v0 c
          ∧ r.2.mem ((c.tc : Thread Cert.LastSumIdeal.nD Cert.LastSumIdeal.τ).loc Cert.LastSumIdeal.main_arg0) = m ((c.tc : Thread Cert.LastSumIdeal.nD Cert.LastSumIdeal.τ).loc Cert.LastSumIdeal.main_arg0))
      ∧ θ_run (Cert.LastSumRefIdeal.defs (F := Ideal)) (onTc (τ := Cert.LastSumRefIdeal.τ) (Cert.LastSumRefIdeal.main (F := Ideal))) ⟨m', fun _ => 0, g'⟩ (fun r => ∀ c : Dev Cert.LastSumRefIdeal.nD,
          r.2.mem ((c.tc : Thread Cert.LastSumRefIdeal.nD Cert.LastSumRefIdeal.τ).loc Cert.LastSumRefIdeal.main_v0) = v0 c
          ∧ r.2.mem ((c.tc : Thread Cert.LastSumRefIdeal.nD Cert.LastSumRefIdeal.τ).loc Cert.LastSumRefIdeal.main_arg0) = m' ((c.tc : Thread Cert.LastSumRefIdeal.nD Cert.LastSumRefIdeal.τ).loc Cert.LastSumRefIdeal.main_arg0))

def preserves_AdamIn1_AdamIn1Ideal : Prop :=
  True

def algebraic_AdamIn1Ideal_AdamIn1RefIdeal [hAdamIn1Ideal : Cert.AdamIn1Ideal.Facts] [hAdamIn1RefIdeal : Cert.AdamIn1RefIdeal.Facts] [hPre_chip_in1 : Cert.Pre_chip_in1.Facts] : Prop :=
  ∀ (m : (ℓ : Loc Cert.AdamIn1Ideal.nD Cert.AdamIn1Ideal.τ Cert.AdamIn1Ideal.sig) → Buf (Elt Ideal) ℓ) (g : Dev Cert.AdamIn1Ideal.nD → PrngReg)
    (m' : (ℓ : Loc Cert.AdamIn1RefIdeal.nD Cert.AdamIn1RefIdeal.τ Cert.AdamIn1RefIdeal.sig) → Buf (Elt Ideal) ℓ) (g' : Dev Cert.AdamIn1RefIdeal.nD → PrngReg), Pre_AdamIn1Ideal m →
    (∀ c : Dev Cert.AdamIn1Ideal.nD,
      m' ((c.tc : Thread Cert.AdamIn1RefIdeal.nD Cert.AdamIn1RefIdeal.τ).loc Cert.AdamIn1RefIdeal.main_arg0) = m ((c.tc : Thread Cert.AdamIn1Ideal.nD Cert.AdamIn1Ideal.τ).loc Cert.AdamIn1Ideal.main_arg0)
      ∧ m' ((c.tc : Thread Cert.AdamIn1RefIdeal.nD Cert.AdamIn1RefIdeal.τ).loc Cert.AdamIn1RefIdeal.main_arg1) = m ((c.tc : Thread Cert.AdamIn1Ideal.nD Cert.AdamIn1Ideal.τ).loc Cert.AdamIn1Ideal.main_arg1)
      ∧ m' ((c.tc : Thread Cert.AdamIn1RefIdeal.nD Cert.AdamIn1RefIdeal.τ).loc Cert.AdamIn1RefIdeal.main_arg2) = m ((c.tc : Thread Cert.AdamIn1Ideal.nD Cert.AdamIn1Ideal.τ).loc Cert.AdamIn1Ideal.main_arg2)
      ∧ m' ((c.tc : Thread Cert.AdamIn1RefIdeal.nD Cert.AdamIn1RefIdeal.τ).loc Cert.AdamIn1RefIdeal.main_arg3) = m ((c.tc : Thread Cert.AdamIn1Ideal.nD Cert.AdamIn1Ideal.τ).loc Cert.AdamIn1Ideal.main_arg3)
      ∧ m' ((c.tc : Thread Cert.AdamIn1RefIdeal.nD Cert.AdamIn1RefIdeal.τ).loc Cert.AdamIn1RefIdeal.main_arg4) = m ((c.tc : Thread Cert.AdamIn1Ideal.nD Cert.AdamIn1Ideal.τ).loc Cert.AdamIn1Ideal.main_arg4)
      ∧ m' ((c.tc : Thread Cert.AdamIn1RefIdeal.nD Cert.AdamIn1RefIdeal.τ).loc Cert.AdamIn1RefIdeal.main_arg5) = m ((c.tc : Thread Cert.AdamIn1Ideal.nD Cert.AdamIn1Ideal.τ).loc Cert.AdamIn1Ideal.main_arg5)) →
    ∃ (v0 : (c : Dev Cert.AdamIn1Ideal.nD) → Buf (Elt Ideal) ((c.tc : Thread Cert.AdamIn1Ideal.nD Cert.AdamIn1Ideal.τ).loc Cert.AdamIn1Ideal.main_v4)) (v1 : (c : Dev Cert.AdamIn1Ideal.nD) → Buf (Elt Ideal) ((c.tc : Thread Cert.AdamIn1Ideal.nD Cert.AdamIn1Ideal.τ).loc Cert.AdamIn1Ideal.main_v5)) (v2 : (c : Dev Cert.AdamIn1Ideal.nD) → Buf (Elt Ideal) ((c.tc : Thread Cert.AdamIn1Ideal.nD Cert.AdamIn1Ideal.τ).loc Cert.AdamIn1Ideal.main_v6)) (v3 : (c : Dev Cert.AdamIn1Ideal.nD) → Buf (Elt Ideal) ((c.tc : Thread Cert.AdamIn1Ideal.nD Cert.AdamIn1Ideal.τ).loc Cert.AdamIn1Ideal.main_v7)),
      θ_run (Cert.AdamIn1Ideal.defs (F := Ideal)) (onTc (τ := Cert.AdamIn1Ideal.τ) (Cert.AdamIn1Ideal.main (F := Ideal))) ⟨m, fun _ => 0, g⟩ (fun r => ∀ c : Dev Cert.AdamIn1Ideal.nD,
          r.2.mem ((c.tc : Thread Cert.AdamIn1Ideal.nD Cert.AdamIn1Ideal.τ).loc Cert.AdamIn1Ideal.main_v4) = v0 c
          ∧ r.2.mem ((c.tc : Thread Cert.AdamIn1Ideal.nD Cert.AdamIn1Ideal.τ).loc Cert.AdamIn1Ideal.main_v5) = v1 c
          ∧ r.2.mem ((c.tc : Thread Cert.AdamIn1Ideal.nD Cert.AdamIn1Ideal.τ).loc Cert.AdamIn1Ideal.main_v6) = v2 c
          ∧ r.2.mem ((c.tc : Thread Cert.AdamIn1Ideal.nD Cert.AdamIn1Ideal.τ).loc Cert.AdamIn1Ideal.main_v7) = v3 c
          ∧ r.2.mem ((c.tc : Thread Cert.AdamIn1Ideal.nD Cert.AdamIn1Ideal.τ).loc Cert.AdamIn1Ideal.main_arg0) = m ((c.tc : Thread Cert.AdamIn1Ideal.nD Cert.AdamIn1Ideal.τ).loc Cert.AdamIn1Ideal.main_arg0)
          ∧ r.2.mem ((c.tc : Thread Cert.AdamIn1Ideal.nD Cert.AdamIn1Ideal.τ).loc Cert.AdamIn1Ideal.main_arg1) = m ((c.tc : Thread Cert.AdamIn1Ideal.nD Cert.AdamIn1Ideal.τ).loc Cert.AdamIn1Ideal.main_arg1)
          ∧ r.2.mem ((c.tc : Thread Cert.AdamIn1Ideal.nD Cert.AdamIn1Ideal.τ).loc Cert.AdamIn1Ideal.main_arg2) = m ((c.tc : Thread Cert.AdamIn1Ideal.nD Cert.AdamIn1Ideal.τ).loc Cert.AdamIn1Ideal.main_arg2)
          ∧ r.2.mem ((c.tc : Thread Cert.AdamIn1Ideal.nD Cert.AdamIn1Ideal.τ).loc Cert.AdamIn1Ideal.main_arg3) = m ((c.tc : Thread Cert.AdamIn1Ideal.nD Cert.AdamIn1Ideal.τ).loc Cert.AdamIn1Ideal.main_arg3)
          ∧ r.2.mem ((c.tc : Thread Cert.AdamIn1Ideal.nD Cert.AdamIn1Ideal.τ).loc Cert.AdamIn1Ideal.main_arg4) = m ((c.tc : Thread Cert.AdamIn1Ideal.nD Cert.AdamIn1Ideal.τ).loc Cert.AdamIn1Ideal.main_arg4)
          ∧ r.2.mem ((c.tc : Thread Cert.AdamIn1Ideal.nD Cert.AdamIn1Ideal.τ).loc Cert.AdamIn1Ideal.main_arg5) = m ((c.tc : Thread Cert.AdamIn1Ideal.nD Cert.AdamIn1Ideal.τ).loc Cert.AdamIn1Ideal.main_arg5))
      ∧ θ_run (Cert.AdamIn1RefIdeal.defs (F := Ideal)) (onTc (τ := Cert.AdamIn1RefIdeal.τ) (Cert.AdamIn1RefIdeal.main (F := Ideal))) ⟨m', fun _ => 0, g'⟩ (fun r => ∀ c : Dev Cert.AdamIn1RefIdeal.nD,
          r.2.mem ((c.tc : Thread Cert.AdamIn1RefIdeal.nD Cert.AdamIn1RefIdeal.τ).loc Cert.AdamIn1RefIdeal.main_v10) = v0 c
          ∧ r.2.mem ((c.tc : Thread Cert.AdamIn1RefIdeal.nD Cert.AdamIn1RefIdeal.τ).loc Cert.AdamIn1RefIdeal.main_v34) = v1 c
          ∧ r.2.mem ((c.tc : Thread Cert.AdamIn1RefIdeal.nD Cert.AdamIn1RefIdeal.τ).loc Cert.AdamIn1RefIdeal.main_v15) = v2 c
          ∧ r.2.mem ((c.tc : Thread Cert.AdamIn1RefIdeal.nD Cert.AdamIn1RefIdeal.τ).loc Cert.AdamIn1RefIdeal.main_v21) = v3 c
          ∧ r.2.mem ((c.tc : Thread Cert.AdamIn1RefIdeal.nD Cert.AdamIn1RefIdeal.τ).loc Cert.AdamIn1RefIdeal.main_arg0) = m' ((c.tc : Thread Cert.AdamIn1RefIdeal.nD Cert.AdamIn1RefIdeal.τ).loc Cert.AdamIn1RefIdeal.main_arg0)
          ∧ r.2.mem ((c.tc : Thread Cert.AdamIn1RefIdeal.nD Cert.AdamIn1RefIdeal.τ).loc Cert.AdamIn1RefIdeal.main_arg1) = m' ((c.tc : Thread Cert.AdamIn1RefIdeal.nD Cert.AdamIn1RefIdeal.τ).loc Cert.AdamIn1RefIdeal.main_arg1)
          ∧ r.2.mem ((c.tc : Thread Cert.AdamIn1RefIdeal.nD Cert.AdamIn1RefIdeal.τ).loc Cert.AdamIn1RefIdeal.main_arg2) = m' ((c.tc : Thread Cert.AdamIn1RefIdeal.nD Cert.AdamIn1RefIdeal.τ).loc Cert.AdamIn1RefIdeal.main_arg2)
          ∧ r.2.mem ((c.tc : Thread Cert.AdamIn1RefIdeal.nD Cert.AdamIn1RefIdeal.τ).loc Cert.AdamIn1RefIdeal.main_arg3) = m' ((c.tc : Thread Cert.AdamIn1RefIdeal.nD Cert.AdamIn1RefIdeal.τ).loc Cert.AdamIn1RefIdeal.main_arg3)
          ∧ r.2.mem ((c.tc : Thread Cert.AdamIn1RefIdeal.nD Cert.AdamIn1RefIdeal.τ).loc Cert.AdamIn1RefIdeal.main_arg4) = m' ((c.tc : Thread Cert.AdamIn1RefIdeal.nD Cert.AdamIn1RefIdeal.τ).loc Cert.AdamIn1RefIdeal.main_arg4)
          ∧ r.2.mem ((c.tc : Thread Cert.AdamIn1RefIdeal.nD Cert.AdamIn1RefIdeal.τ).loc Cert.AdamIn1RefIdeal.main_arg5) = m' ((c.tc : Thread Cert.AdamIn1RefIdeal.nD Cert.AdamIn1RefIdeal.τ).loc Cert.AdamIn1RefIdeal.main_arg5))

def Claim : Prop :=
  ∃ (hKernel : Cert.Kernel.Facts) (hKernelIdeal : Cert.KernelIdeal.Facts) (hReferenceIdeal : Cert.ReferenceIdeal.Facts) (hUpDw : Cert.UpDw.Facts) (hUpDwIdeal : Cert.UpDwIdeal.Facts) (hUpDwRefIdeal : Cert.UpDwRefIdeal.Facts) (hUpMm : Cert.UpMm.Facts) (hUpMmIdeal : Cert.UpMmIdeal.Facts) (hUpMmRefIdeal : Cert.UpMmRefIdeal.Facts) (hDownMm : Cert.DownMm.Facts) (hDownMmIdeal : Cert.DownMmIdeal.Facts) (hDownMmRefIdeal : Cert.DownMmRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hUpDx : Cert.UpDx.Facts) (hUpDxIdeal : Cert.UpDxIdeal.Facts) (hUpDxRefIdeal : Cert.UpDxRefIdeal.Facts) (hIn0Mm : Cert.In0Mm.Facts) (hIn0MmIdeal : Cert.In0MmIdeal.Facts) (hIn0MmRefIdeal : Cert.In0MmRefIdeal.Facts) (hIn0Dw : Cert.In0Dw.Facts) (hIn0DwIdeal : Cert.In0DwIdeal.Facts) (hIn0DwRefIdeal : Cert.In0DwRefIdeal.Facts) (hIn0Dx : Cert.In0Dx.Facts) (hIn0DxIdeal : Cert.In0DxIdeal.Facts) (hIn0DxRefIdeal : Cert.In0DxRefIdeal.Facts) (hIn1Mm : Cert.In1Mm.Facts) (hIn1MmIdeal : Cert.In1MmIdeal.Facts) (hIn1MmRefIdeal : Cert.In1MmRefIdeal.Facts) (hIn1Dw : Cert.In1Dw.Facts) (hIn1DwIdeal : Cert.In1DwIdeal.Facts) (hIn1DwRefIdeal : Cert.In1DwRefIdeal.Facts) (hIn1Dx : Cert.In1Dx.Facts) (hIn1DxIdeal : Cert.In1DxIdeal.Facts) (hIn1DxRefIdeal : Cert.In1DxRefIdeal.Facts) (hOutMm : Cert.OutMm.Facts) (hOutMmIdeal : Cert.OutMmIdeal.Facts) (hOutMmRefIdeal : Cert.OutMmRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hGateMm : Cert.GateMm.Facts) (hGateMmIdeal : Cert.GateMmIdeal.Facts) (hGateMmRefIdeal : Cert.GateMmRefIdeal.Facts) (hGateDw : Cert.GateDw.Facts) (hGateDwIdeal : Cert.GateDwIdeal.Facts) (hGateDwRefIdeal : Cert.GateDwRefIdeal.Facts) (hGateDx : Cert.GateDx.Facts) (hGateDxIdeal : Cert.GateDxIdeal.Facts) (hGateDxRefIdeal : Cert.GateDxRefIdeal.Facts) (hShortBwd : Cert.ShortBwd.Facts) (hShortBwdIdeal : Cert.ShortBwdIdeal.Facts) (hShortBwdRefIdeal : Cert.ShortBwdRefIdeal.Facts) (hShortFwd : Cert.ShortFwd.Facts) (hShortFwdIdeal : Cert.ShortFwdIdeal.Facts) (hShortFwdRefIdeal : Cert.ShortFwdRefIdeal.Facts) (hActBwd : Cert.ActBwd.Facts) (hActBwdIdeal : Cert.ActBwdIdeal.Facts) (hActBwdRefIdeal : Cert.ActBwdRefIdeal.Facts) (hActFwd : Cert.ActFwd.Facts) (hActFwdIdeal : Cert.ActFwdIdeal.Facts) (hActFwdRefIdeal : Cert.ActFwdRefIdeal.Facts) (hAdamIn0 : Cert.AdamIn0.Facts) (hAdamIn0Ideal : Cert.AdamIn0Ideal.Facts) (hAdamIn0RefIdeal : Cert.AdamIn0RefIdeal.Facts) (hAdamOut : Cert.AdamOut.Facts) (hAdamOutIdeal : Cert.AdamOutIdeal.Facts) (hAdamOutRefIdeal : Cert.AdamOutRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hNormBwd : Cert.NormBwd.Facts) (hNormBwdIdeal : Cert.NormBwdIdeal.Facts) (hNormBwdRefIdeal : Cert.NormBwdRefIdeal.Facts) (hNormFwd : Cert.NormFwd.Facts) (hNormFwdIdeal : Cert.NormFwdIdeal.Facts) (hNormFwdRefIdeal : Cert.NormFwdRefIdeal.Facts) (hLossHead : Cert.LossHead.Facts) (hLossHeadIdeal : Cert.LossHeadIdeal.Facts) (hLossHeadRefIdeal : Cert.LossHeadRefIdeal.Facts) (hSmallStep : Cert.SmallStep.Facts) (hSmallStepIdeal : Cert.SmallStepIdeal.Facts) (hSmallStepRefIdeal : Cert.SmallStepRefIdeal.Facts) (hLastStep : Cert.LastStep.Facts) (hLastStepIdeal : Cert.LastStepIdeal.Facts) (hLastStepRefIdeal : Cert.LastStepRefIdeal.Facts) (hSmallSum : Cert.SmallSum.Facts) (hSmallSumIdeal : Cert.SmallSumIdeal.Facts) (hSmallSumRefIdeal : Cert.SmallSumRefIdeal.Facts) (hLastSum : Cert.LastSum.Facts) (hLastSumIdeal : Cert.LastSumIdeal.Facts) (hLastSumRefIdeal : Cert.LastSumRefIdeal.Facts) (hAdamIn1 : Cert.AdamIn1.Facts) (hAdamIn1Ideal : Cert.AdamIn1Ideal.Facts) (hAdamIn1RefIdeal : Cert.AdamIn1RefIdeal.Facts) (hPre_finite : Cert.Pre_finite.Facts) (hPre_act_finite : Cert.Pre_act_finite.Facts) (hPre_chip_in0 : Cert.Pre_chip_in0.Facts) (hPre_chip_out : Cert.Pre_chip_out.Facts) (hPre_chip_up : Cert.Pre_chip_up.Facts) (hPre_chip_down : Cert.Pre_chip_down.Facts) (hPre_chip_in1 : Cert.Pre_chip_in1.Facts) (hOn_written : Cert.On_written.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_UpMm (hUpMm := hUpMm)
    ∧ quiescent_UpMmIdeal (hUpMmIdeal := hUpMmIdeal)
    ∧ quiescent_UpMmRefIdeal (hUpMmRefIdeal := hUpMmRefIdeal)
    ∧ quiescent_DownMm (hDownMm := hDownMm)
    ∧ quiescent_DownMmIdeal (hDownMmIdeal := hDownMmIdeal)
    ∧ quiescent_DownMmRefIdeal (hDownMmRefIdeal := hDownMmRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_In0Mm (hIn0Mm := hIn0Mm)
    ∧ quiescent_In0MmIdeal (hIn0MmIdeal := hIn0MmIdeal)
    ∧ quiescent_In0MmRefIdeal (hIn0MmRefIdeal := hIn0MmRefIdeal)
    ∧ quiescent_In0Dw (hIn0Dw := hIn0Dw)
    ∧ quiescent_In0DwIdeal (hIn0DwIdeal := hIn0DwIdeal)
    ∧ quiescent_In0DwRefIdeal (hIn0DwRefIdeal := hIn0DwRefIdeal)
    ∧ quiescent_In0Dx (hIn0Dx := hIn0Dx)
    ∧ quiescent_In0DxIdeal (hIn0DxIdeal := hIn0DxIdeal)
    ∧ quiescent_In0DxRefIdeal (hIn0DxRefIdeal := hIn0DxRefIdeal)
    ∧ quiescent_In1Mm (hIn1Mm := hIn1Mm)
    ∧ quiescent_In1MmIdeal (hIn1MmIdeal := hIn1MmIdeal)
    ∧ quiescent_In1MmRefIdeal (hIn1MmRefIdeal := hIn1MmRefIdeal)
    ∧ quiescent_In1Dw (hIn1Dw := hIn1Dw)
    ∧ quiescent_In1DwIdeal (hIn1DwIdeal := hIn1DwIdeal)
    ∧ quiescent_In1DwRefIdeal (hIn1DwRefIdeal := hIn1DwRefIdeal)
    ∧ quiescent_In1Dx (hIn1Dx := hIn1Dx)
    ∧ quiescent_In1DxIdeal (hIn1DxIdeal := hIn1DxIdeal)
    ∧ quiescent_In1DxRefIdeal (hIn1DxRefIdeal := hIn1DxRefIdeal)
    ∧ quiescent_OutMm (hOutMm := hOutMm)
    ∧ quiescent_OutMmIdeal (hOutMmIdeal := hOutMmIdeal)
    ∧ quiescent_OutMmRefIdeal (hOutMmRefIdeal := hOutMmRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_GateMm (hGateMm := hGateMm)
    ∧ quiescent_GateMmIdeal (hGateMmIdeal := hGateMmIdeal)
    ∧ quiescent_GateMmRefIdeal (hGateMmRefIdeal := hGateMmRefIdeal)
    ∧ quiescent_GateDw (hGateDw := hGateDw)
    ∧ quiescent_GateDwIdeal (hGateDwIdeal := hGateDwIdeal)
    ∧ quiescent_GateDwRefIdeal (hGateDwRefIdeal := hGateDwRefIdeal)
    ∧ quiescent_GateDx (hGateDx := hGateDx)
    ∧ quiescent_GateDxIdeal (hGateDxIdeal := hGateDxIdeal)
    ∧ quiescent_GateDxRefIdeal (hGateDxRefIdeal := hGateDxRefIdeal)
    ∧ quiescent_ShortBwd (hShortBwd := hShortBwd)
    ∧ quiescent_ShortBwdIdeal (hShortBwdIdeal := hShortBwdIdeal)
    ∧ quiescent_ShortBwdRefIdeal (hShortBwdRefIdeal := hShortBwdRefIdeal)
    ∧ quiescent_ShortFwd (hShortFwd := hShortFwd)
    ∧ quiescent_ShortFwdIdeal (hShortFwdIdeal := hShortFwdIdeal)
    ∧ quiescent_ShortFwdRefIdeal (hShortFwdRefIdeal := hShortFwdRefIdeal)
    ∧ quiescent_ActBwd (hActBwd := hActBwd)
    ∧ quiescent_ActBwdIdeal (hActBwdIdeal := hActBwdIdeal)
    ∧ quiescent_ActBwdIdeal_pre_act_finite (hActBwdIdeal := hActBwdIdeal) (hPre_act_finite := hPre_act_finite)
    ∧ quiescent_ActBwdRefIdeal (hActBwdRefIdeal := hActBwdRefIdeal)
    ∧ quiescent_ActBwdRefIdeal_pre_act_finite (hActBwdRefIdeal := hActBwdRefIdeal) (hPre_act_finite := hPre_act_finite)
    ∧ quiescent_ActFwd (hActFwd := hActFwd)
    ∧ quiescent_ActFwdIdeal (hActFwdIdeal := hActFwdIdeal)
    ∧ quiescent_ActFwdRefIdeal (hActFwdRefIdeal := hActFwdRefIdeal)
    ∧ quiescent_AdamIn0 (hAdamIn0 := hAdamIn0) (hPre_chip_in0 := hPre_chip_in0)
    ∧ quiescent_AdamIn0Ideal (hAdamIn0Ideal := hAdamIn0Ideal) (hPre_chip_in0 := hPre_chip_in0)
    ∧ quiescent_AdamIn0RefIdeal (hAdamIn0RefIdeal := hAdamIn0RefIdeal)
    ∧ quiescent_AdamIn0RefIdeal_pre_chip_in0 (hAdamIn0RefIdeal := hAdamIn0RefIdeal) (hPre_chip_in0 := hPre_chip_in0)
    ∧ quiescent_AdamOut (hAdamOut := hAdamOut) (hPre_chip_out := hPre_chip_out)
    ∧ quiescent_AdamOutIdeal (hAdamOutIdeal := hAdamOutIdeal) (hPre_chip_out := hPre_chip_out)
    ∧ quiescent_AdamOutRefIdeal (hAdamOutRefIdeal := hAdamOutRefIdeal)
    ∧ quiescent_AdamOutRefIdeal_pre_chip_out (hAdamOutRefIdeal := hAdamOutRefIdeal) (hPre_chip_out := hPre_chip_out)
    ∧ quiescent_AdamUp (hAdamUp := hAdamUp) (hPre_chip_up := hPre_chip_up)
    ∧ quiescent_AdamUpIdeal (hAdamUpIdeal := hAdamUpIdeal) (hPre_chip_up := hPre_chip_up)
    ∧ quiescent_AdamUpRefIdeal (hAdamUpRefIdeal := hAdamUpRefIdeal)
    ∧ quiescent_AdamUpRefIdeal_pre_chip_up (hAdamUpRefIdeal := hAdamUpRefIdeal) (hPre_chip_up := hPre_chip_up)
    ∧ quiescent_AdamDown (hAdamDown := hAdamDown) (hPre_chip_down := hPre_chip_down)
    ∧ quiescent_AdamDownIdeal (hAdamDownIdeal := hAdamDownIdeal) (hPre_chip_down := hPre_chip_down)
    ∧ quiescent_AdamDownRefIdeal (hAdamDownRefIdeal := hAdamDownRefIdeal)
    ∧ quiescent_AdamDownRefIdeal_pre_chip_down (hAdamDownRefIdeal := hAdamDownRefIdeal) (hPre_chip_down := hPre_chip_down)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_SmallStep (hSmallStep := hSmallStep)
    ∧ quiescent_SmallStepIdeal (hSmallStepIdeal := hSmallStepIdeal)
    ∧ quiescent_SmallStepRefIdeal (hSmallStepRefIdeal := hSmallStepRefIdeal)
    ∧ quiescent_LastStep (hLastStep := hLastStep)
    ∧ quiescent_LastStepIdeal (hLastStepIdeal := hLastStepIdeal)
    ∧ quiescent_LastStepRefIdeal (hLastStepRefIdeal := hLastStepRefIdeal)
    ∧ quiescent_SmallSum (hSmallSum := hSmallSum)
    ∧ quiescent_SmallSumIdeal (hSmallSumIdeal := hSmallSumIdeal)
    ∧ quiescent_SmallSumRefIdeal (hSmallSumRefIdeal := hSmallSumRefIdeal)
    ∧ quiescent_LastSum (hLastSum := hLastSum)
    ∧ quiescent_LastSumIdeal (hLastSumIdeal := hLastSumIdeal)
    ∧ quiescent_LastSumRefIdeal (hLastSumRefIdeal := hLastSumRefIdeal)
    ∧ quiescent_AdamIn1 (hAdamIn1 := hAdamIn1) (hPre_chip_in1 := hPre_chip_in1)
    ∧ quiescent_AdamIn1Ideal (hAdamIn1Ideal := hAdamIn1Ideal) (hPre_chip_in1 := hPre_chip_in1)
    ∧ quiescent_AdamIn1RefIdeal (hAdamIn1RefIdeal := hAdamIn1RefIdeal)
    ∧ quiescent_AdamIn1RefIdeal_pre_chip_in1 (hAdamIn1RefIdeal := hAdamIn1RefIdeal) (hPre_chip_in1 := hPre_chip_in1)
    ∧ preserves_Kernel_KernelIdeal
    ∧ algebraic_KernelIdeal_ReferenceIdeal_on_written_pre_finite (hKernelIdeal := hKernelIdeal) (hReferenceIdeal := hReferenceIdeal) (hPre_finite := hPre_finite) (hOn_written := hOn_written)
    ∧ preserves_UpDw_UpDwIdeal
    ∧ algebraic_UpDwIdeal_UpDwRefIdeal (hUpDwIdeal := hUpDwIdeal) (hUpDwRefIdeal := hUpDwRefIdeal)
    ∧ preserves_UpMm_UpMmIdeal
    ∧ algebraic_UpMmIdeal_UpMmRefIdeal (hUpMmIdeal := hUpMmIdeal) (hUpMmRefIdeal := hUpMmRefIdeal)
    ∧ preserves_DownMm_DownMmIdeal
    ∧ algebraic_DownMmIdeal_DownMmRefIdeal (hDownMmIdeal := hDownMmIdeal) (hDownMmRefIdeal := hDownMmRefIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_UpDx_UpDxIdeal
    ∧ algebraic_UpDxIdeal_UpDxRefIdeal (hUpDxIdeal := hUpDxIdeal) (hUpDxRefIdeal := hUpDxRefIdeal)
    ∧ preserves_In0Mm_In0MmIdeal
    ∧ algebraic_In0MmIdeal_In0MmRefIdeal (hIn0MmIdeal := hIn0MmIdeal) (hIn0MmRefIdeal := hIn0MmRefIdeal)
    ∧ preserves_In0Dw_In0DwIdeal
    ∧ algebraic_In0DwIdeal_In0DwRefIdeal (hIn0DwIdeal := hIn0DwIdeal) (hIn0DwRefIdeal := hIn0DwRefIdeal)
    ∧ preserves_In0Dx_In0DxIdeal
    ∧ algebraic_In0DxIdeal_In0DxRefIdeal (hIn0DxIdeal := hIn0DxIdeal) (hIn0DxRefIdeal := hIn0DxRefIdeal)
    ∧ preserves_In1Mm_In1MmIdeal
    ∧ algebraic_In1MmIdeal_In1MmRefIdeal (hIn1MmIdeal := hIn1MmIdeal) (hIn1MmRefIdeal := hIn1MmRefIdeal)
    ∧ preserves_In1Dw_In1DwIdeal
    ∧ algebraic_In1DwIdeal_In1DwRefIdeal (hIn1DwIdeal := hIn1DwIdeal) (hIn1DwRefIdeal := hIn1DwRefIdeal)
    ∧ preserves_In1Dx_In1DxIdeal
    ∧ algebraic_In1DxIdeal_In1DxRefIdeal (hIn1DxIdeal := hIn1DxIdeal) (hIn1DxRefIdeal := hIn1DxRefIdeal)
    ∧ preserves_OutMm_OutMmIdeal
    ∧ algebraic_OutMmIdeal_OutMmRefIdeal (hOutMmIdeal := hOutMmIdeal) (hOutMmRefIdeal := hOutMmRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_GateMm_GateMmIdeal
    ∧ algebraic_GateMmIdeal_GateMmRefIdeal (hGateMmIdeal := hGateMmIdeal) (hGateMmRefIdeal := hGateMmRefIdeal)
    ∧ preserves_GateDw_GateDwIdeal
    ∧ algebraic_GateDwIdeal_GateDwRefIdeal (hGateDwIdeal := hGateDwIdeal) (hGateDwRefIdeal := hGateDwRefIdeal)
    ∧ preserves_GateDx_GateDxIdeal
    ∧ algebraic_GateDxIdeal_GateDxRefIdeal (hGateDxIdeal := hGateDxIdeal) (hGateDxRefIdeal := hGateDxRefIdeal)
    ∧ preserves_ShortBwd_ShortBwdIdeal
    ∧ algebraic_ShortBwdIdeal_ShortBwdRefIdeal (hShortBwdIdeal := hShortBwdIdeal) (hShortBwdRefIdeal := hShortBwdRefIdeal)
    ∧ preserves_ShortFwd_ShortFwdIdeal
    ∧ algebraic_ShortFwdIdeal_ShortFwdRefIdeal (hShortFwdIdeal := hShortFwdIdeal) (hShortFwdRefIdeal := hShortFwdRefIdeal)
    ∧ preserves_ActBwd_ActBwdIdeal
    ∧ algebraic_ActBwdIdeal_ActBwdRefIdeal_pre_act_finite (hActBwdIdeal := hActBwdIdeal) (hActBwdRefIdeal := hActBwdRefIdeal) (hPre_act_finite := hPre_act_finite)
    ∧ preserves_ActFwd_ActFwdIdeal
    ∧ algebraic_ActFwdIdeal_ActFwdRefIdeal (hActFwdIdeal := hActFwdIdeal) (hActFwdRefIdeal := hActFwdRefIdeal)
    ∧ preserves_AdamIn0_AdamIn0Ideal
    ∧ algebraic_AdamIn0Ideal_AdamIn0RefIdeal (hAdamIn0Ideal := hAdamIn0Ideal) (hAdamIn0RefIdeal := hAdamIn0RefIdeal) (hPre_chip_in0 := hPre_chip_in0)
    ∧ preserves_AdamOut_AdamOutIdeal
    ∧ algebraic_AdamOutIdeal_AdamOutRefIdeal (hAdamOutIdeal := hAdamOutIdeal) (hAdamOutRefIdeal := hAdamOutRefIdeal) (hPre_chip_out := hPre_chip_out)
    ∧ preserves_AdamUp_AdamUpIdeal
    ∧ algebraic_AdamUpIdeal_AdamUpRefIdeal (hAdamUpIdeal := hAdamUpIdeal) (hAdamUpRefIdeal := hAdamUpRefIdeal) (hPre_chip_up := hPre_chip_up)
    ∧ preserves_AdamDown_AdamDownIdeal
    ∧ algebraic_AdamDownIdeal_AdamDownRefIdeal (hAdamDownIdeal := hAdamDownIdeal) (hAdamDownRefIdeal := hAdamDownRefIdeal) (hPre_chip_down := hPre_chip_down)
    ∧ preserves_NormBwd_NormBwdIdeal
    ∧ algebraic_NormBwdIdeal_NormBwdRefIdeal (hNormBwdIdeal := hNormBwdIdeal) (hNormBwdRefIdeal := hNormBwdRefIdeal)
    ∧ preserves_NormFwd_NormFwdIdeal
    ∧ algebraic_NormFwdIdeal_NormFwdRefIdeal (hNormFwdIdeal := hNormFwdIdeal) (hNormFwdRefIdeal := hNormFwdRefIdeal)
    ∧ preserves_LossHead_LossHeadIdeal
    ∧ algebraic_LossHeadIdeal_LossHeadRefIdeal (hLossHeadIdeal := hLossHeadIdeal) (hLossHeadRefIdeal := hLossHeadRefIdeal)
    ∧ preserves_SmallStep_SmallStepIdeal
    ∧ algebraic_SmallStepIdeal_SmallStepRefIdeal (hSmallStepIdeal := hSmallStepIdeal) (hSmallStepRefIdeal := hSmallStepRefIdeal)
    ∧ preserves_LastStep_LastStepIdeal
    ∧ algebraic_LastStepIdeal_LastStepRefIdeal (hLastStepIdeal := hLastStepIdeal) (hLastStepRefIdeal := hLastStepRefIdeal)
    ∧ preserves_SmallSum_SmallSumIdeal
    ∧ algebraic_SmallSumIdeal_SmallSumRefIdeal (hSmallSumIdeal := hSmallSumIdeal) (hSmallSumRefIdeal := hSmallSumRefIdeal)
    ∧ preserves_LastSum_LastSumIdeal
    ∧ algebraic_LastSumIdeal_LastSumRefIdeal (hLastSumIdeal := hLastSumIdeal) (hLastSumRefIdeal := hLastSumRefIdeal)
    ∧ preserves_AdamIn1_AdamIn1Ideal
    ∧ algebraic_AdamIn1Ideal_AdamIn1RefIdeal (hAdamIn1Ideal := hAdamIn1Ideal) (hAdamIn1RefIdeal := hAdamIn1RefIdeal) (hPre_chip_in1 := hPre_chip_in1)
-- ==== On_written.lean ====
abbrev S2048x6144 : Shape := ⟨2, ![2048, 6144]⟩
abbrev S2048x2048 : Shape := ⟨2, ![2048, 2048]⟩
abbrev S6x2048x1024 : Shape := ⟨3, ![6, 2048, 1024]⟩
abbrev S_ : Shape := ⟨0, ![]⟩

class Facts : Prop where
  bcast_S_S6x2048x1024 : S_.BroadcastsInDim S6x2048x1024 (![] : Fin 0 → Fin S6x2048x1024.rank)

variable [Facts]

def fn {F : FTy → Type} [FloatOps F] (main_arg0 : FVec F S2048x6144 .bf16) (main_arg1 : FVec F S2048x2048 .bf16) : IVec S6x2048x1024 1 :=
  let main_v0 : IVec S6x2048x1024 32 := iotaInDim S6x2048x1024 32 0
  let main_c : IVec S_ 32 := constantI S_ 32 3#32
  let main_v1 : IVec S6x2048x1024 32 := broadcastInDim S6x2048x1024 ![] bcast_S_S6x2048x1024 main_c
  let main_v2 : IVec S6x2048x1024 1 := cmpi .slt main_v0 main_v1
  main_v2
-- ==== Pre_act_finite.lean ====
abbrev S2048x11264 : Shape := ⟨2, ![2048, 11264]⟩
abbrev S3x11264 : Shape := ⟨2, ![3, 11264]⟩
abbrev S2048x5632 : Shape := ⟨2, ![2048, 5632]⟩
abbrev S_ : Shape := ⟨0, ![]⟩
abbrev S3x5632 : Shape := ⟨2, ![3, 5632]⟩

class Facts : Prop where
  slices_S2048x11264_S2048x5632_0_5632 : S2048x11264.Slices ![0, 5632] S2048x5632
  bitsLt_bf16_f32 : FTy.bits .bf16 < FTy.bits .f32
  bcast_S_S2048x5632 : S_.BroadcastsInDim S2048x5632 (![] : Fin 0 → Fin S2048x5632.rank)
  slices_S3x11264_S3x5632_0_5632 : S3x11264.Slices ![0, 5632] S3x5632
  bcast_S_S3x5632 : S_.BroadcastsInDim S3x5632 (![] : Fin 0 → Fin S3x5632.rank)

variable [Facts]

def fn {F : FTy → Type} [FloatOps F] (main_arg0 : FVec F S2048x11264 .bf16) (main_arg1 : FVec F S3x11264 .f32) (main_arg2 : FVec F S2048x5632 .bf16) : IVec S2048x5632 1 × IVec S3x5632 1 × IVec S2048x5632 1 :=
  let main_v0 : FVec F S2048x5632 .bf16 := (extractStridedSlice S2048x5632 ![0, 5632] · slices_S2048x11264_S2048x5632_0_5632) main_arg0
  let main_v1 : FVec F S2048x5632 .f32 := (extf .f32 · bitsLt_bf16_f32) main_v0
  let main_v2 : FVec F S2048x5632 .f32 := Host.absf main_v1
  let main_cst : FVec F S_ .f32 := constant S_ .f32 0x7F800000#32
  let main_v3 : FVec F S2048x5632 .f32 := broadcastInDim S2048x5632 ![] bcast_S_S2048x5632 main_cst
  let main_v4 : IVec S2048x5632 1 := cmpf .olt main_v2 main_v3
  let main_v5 : FVec F S3x5632 .f32 := (extractStridedSlice S3x5632 ![0, 5632] · slices_S3x11264_S3x5632_0_5632) main_arg1
  let main_v6 : FVec F S3x5632 .f32 := Host.absf main_v5
  let main_cst_0 : FVec F S_ .f32 := constant S_ .f32 0x7F800000#32
  let main_v7 : FVec F S3x5632 .f32 := broadcastInDim S3x5632 ![] bcast_S_S3x5632 main_cst_0
  let main_v8 : IVec S3x5632 1 := cmpf .olt main_v6 main_v7
  let main_v9 : FVec F S2048x5632 .f32 := (extf .f32 · bitsLt_bf16_f32) main_arg2
  let main_v10 : FVec F S2048x5632 .f32 := Host.absf main_v9
  let main_cst_1 : FVec F S_ .f32 := constant S_ .f32 0x7F800000#32
  let main_v11 : FVec F S2048x5632 .f32 := broadcastInDim S2048x5632 ![] bcast_S_S2048x5632 main_cst_1
  let main_v12 : IVec S2048x5632 1 := cmpf .olt main_v10 main_v11
  (main_v4, main_v8, main_v12)
-- ==== Pre_chip_down.lean ====
abbrev S704x2048 : Shape := ⟨2, ![704, 2048]⟩
abbrev S4x704x2048 : Shape := ⟨3, ![4, 704, 2048]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S704x2048 .f32) (main_arg1 : FVec F S704x2048 .f32) (main_arg2 : FVec F S704x2048 .f32) (main_arg3 : FVec F S4x704x2048 .bf16) (main_arg4 : FVec F S4x704x2048 .bf16) (main_arg5 : IVec S1 32) : IVec S1 1 :=
  let main_c : IVec S_ 32 := constantI S_ 32 0#32
  let main_v0 : IVec S1 32 := broadcastInDim S1 ![] bcast_S_S1 main_c
  let main_v1 : IVec S1 1 := cmpi .sge main_arg5 main_v0
  let main_c_0 : IVec S_ 32 := constantI S_ 32 4#32
  let main_v2 : IVec S1 32 := broadcastInDim S1 ![] bcast_S_S1 main_c_0
  let main_v3 : IVec S1 1 := cmpi .slt main_arg5 main_v2
  let main_v4 : IVec S1 1 := andi main_v1 main_v3
  main_v4
-- ==== Pre_chip_in0.lean ====
abbrev S2048x768 : Shape := ⟨2, ![2048, 768]⟩
abbrev S4x2048x768 : Shape := ⟨3, ![4, 2048, 768]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S2048x768 .f32) (main_arg1 : FVec F S2048x768 .f32) (main_arg2 : FVec F S2048x768 .f32) (main_arg3 : FVec F S4x2048x768 .bf16) (main_arg4 : FVec F S4x2048x768 .bf16) (main_arg5 : IVec S1 32) : IVec S1 1 :=
  let main_c : IVec S_ 32 := constantI S_ 32 0#32
  let main_v0 : IVec S1 32 := broadcastInDim S1 ![] bcast_S_S1 main_c
  let main_v1 : IVec S1 1 := cmpi .sge main_arg5 main_v0
  let main_c_0 : IVec S_ 32 := constantI S_ 32 4#32
  let main_v2 : IVec S1 32 := broadcastInDim S1 ![] bcast_S_S1 main_c_0
  let main_v3 : IVec S1 1 := cmpi .slt main_arg5 main_v2
  let main_v4 : IVec S1 1 := andi main_v1 main_v3
  main_v4
-- ==== Pre_chip_in1.lean ====
abbrev S2048x641 : Shape := ⟨2, ![2048, 641]⟩
abbrev S4x641x2048 : Shape := ⟨3, ![4, 641, 2048]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S2048x641 .f32) (main_arg1 : FVec F S2048x641 .f32) (main_arg2 : FVec F S2048x641 .f32) (main_arg3 : FVec F S4x641x2048 .bf16) (main_arg4 : FVec F S4x641x2048 .bf16) (main_arg5 : IVec S1 32) : IVec S1 1 :=
  let main_c : IVec S_ 32 := constantI S_ 32 0#32
  let main_v0 : IVec S1 32 := broadcastInDim S1 ![] bcast_S_S1 main_c
  let main_v1 : IVec S1 1 := cmpi .sge main_arg5 main_v0
  let main_c_0 : IVec S_ 32 := constantI S_ 32 4#32
  let main_v2 : IVec S1 32 := broadcastInDim S1 ![] bcast_S_S1 main_c_0
  let main_v3 : IVec S1 1 := cmpi .slt main_arg5 main_v2
  let main_v4 : IVec S1 1 := andi main_v1 main_v3
  main_v4
-- ==== Pre_chip_out.lean ====
abbrev S256x2048 : Shape := ⟨2, ![256, 2048]⟩
abbrev S4x256x2048 : Shape := ⟨3, ![4, 256, 2048]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S256x2048 .f32) (main_arg1 : FVec F S256x2048 .f32) (main_arg2 : FVec F S256x2048 .f32) (main_arg3 : FVec F S4x256x2048 .bf16) (main_arg4 : FVec F S4x256x2048 .bf16) (main_arg5 : IVec S1 32) : IVec S1 1 :=
  let main_c : IVec S_ 32 := constantI S_ 32 0#32
  let main_v0 : IVec S1 32 := broadcastInDim S1 ![] bcast_S_S1 main_c
  let main_v1 : IVec S1 1 := cmpi .sge main_arg5 main_v0
  let main_c_0 : IVec S_ 32 := constantI S_ 32 4#32
  let main_v2 : IVec S1 32 := broadcastInDim S1 ![] bcast_S_S1 main_c_0
  let main_v3 : IVec S1 1 := cmpi .slt main_arg5 main_v2
  let main_v4 : IVec S1 1 := andi main_v1 main_v3
  main_v4
-- ==== Pre_chip_up.lean ====
abbrev S2048x1408 : Shape := ⟨2, ![2048, 1408]⟩
abbrev S4x2048x1408 : Shape := ⟨3, ![4, 2048, 1408]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S2048x1408 .f32) (main_arg1 : FVec F S2048x1408 .f32) (main_arg2 : FVec F S2048x1408 .f32) (main_arg3 : FVec F S4x2048x1408 .bf16) (main_arg4 : FVec F S4x2048x1408 .bf16) (main_arg5 : IVec S1 32) : IVec S1 1 :=
  let main_c : IVec S_ 32 := constantI S_ 32 0#32
  let main_v0 : IVec S1 32 := broadcastInDim S1 ![] bcast_S_S1 main_c
  let main_v1 : IVec S1 1 := cmpi .sge main_arg5 main_v0
  let main_c_0 : IVec S_ 32 := constantI S_ 32 4#32
  let main_v2 : IVec S1 32 := broadcastInDim S1 ![] bcast_S_S1 main_c_0
  let main_v3 : IVec S1 1 := cmpi .slt main_arg5 main_v2
  let main_v4 : IVec S1 1 := andi main_v1 main_v3
  main_v4
-- ==== Pre_finite.lean ====
abbrev S2048x6144 : Shape := ⟨2, ![2048, 6144]⟩
abbrev S2048x2048 : Shape := ⟨2, ![2048, 2048]⟩
abbrev S2048x3072 : Shape := ⟨2, ![2048, 3072]⟩
abbrev S_ : Shape := ⟨0, ![]⟩
abbrev S2048x1024 : Shape := ⟨2, ![2048, 1024]⟩

class Facts : Prop where
  slices_S2048x6144_S2048x3072_0_0 : S2048x6144.Slices ![0, 0] S2048x3072
  bitsLt_bf16_f32 : FTy.bits .bf16 < FTy.bits .f32
  bcast_S_S2048x3072 : S_.BroadcastsInDim S2048x3072 (![] : Fin 0 → Fin S2048x3072.rank)
  slices_S2048x2048_S2048x1024_0_0 : S2048x2048.Slices ![0, 0] S2048x1024
  bcast_S_S2048x1024 : S_.BroadcastsInDim S2048x1024 (![] : Fin 0 → Fin S2048x1024.rank)

variable [Facts]

def fn {F : FTy → Type} [FloatOps F] (main_arg0 : FVec F S2048x6144 .bf16) (main_arg1 : FVec F S2048x2048 .bf16) : IVec S2048x3072 1 × IVec S2048x1024 1 :=
  let main_v0 : FVec F S2048x3072 .bf16 := (extractStridedSlice S2048x3072 ![0, 0] · slices_S2048x6144_S2048x3072_0_0) main_arg0
  let main_v1 : FVec F S2048x3072 .f32 := (extf .f32 · bitsLt_bf16_f32) main_v0
  let main_v2 : FVec F S2048x3072 .f32 := Host.absf main_v1
  let main_cst : FVec F S_ .f32 := constant S_ .f32 0x7F800000#32
  let main_v3 : FVec F S2048x3072 .f32 := broadcastInDim S2048x3072 ![] bcast_S_S2048x3072 main_cst
  let main_v4 : IVec S2048x3072 1 := cmpf .olt main_v2 main_v3
  let main_v5 : FVec F S2048x1024 .bf16 := (extractStridedSlice S2048x1024 ![0, 0] · slices_S2048x2048_S2048x1024_0_0) main_arg1
  let main_v6 : FVec F S2048x1024 .f32 := (extf .f32 · bitsLt_bf16_f32) main_v5
  let main_v7 : FVec F S2048x1024 .f32 := Host.absf main_v6
  let main_cst_0 : FVec F S_ .f32 := constant S_ .f32 0x7F800000#32
  let main_v8 : FVec F S2048x1024 .f32 := broadcastInDim S2048x1024 ![] bcast_S_S2048x1024 main_cst_0
  let main_v9 : IVec S2048x1024 1 := cmpf .olt main_v7 main_v8
  (main_v4, main_v9)
-- ==== Kernel.lean ====
abbrev S2048x6144 : Shape := ⟨2, ![2048, 6144]⟩
abbrev S2048x2048 : Shape := ⟨2, ![2048, 2048]⟩
abbrev S6x2048x1024 : Shape := ⟨3, ![6, 2048, 1024]⟩
abbrev S512x128 : Shape := ⟨2, ![512, 128]⟩
abbrev S2048x128 : Shape := ⟨2, ![2048, 128]⟩
abbrev S3x2048x128 : Shape := ⟨3, ![3, 2048, 128]⟩
abbrev S4x512x512 : Shape := ⟨3, ![4, 512, 512]⟩
abbrev S128x128 : Shape := ⟨2, ![128, 128]⟩
abbrev S512x1 : Shape := ⟨2, ![512, 1]⟩
abbrev S512x512 : Shape := ⟨2, ![512, 512]⟩
abbrev S512 : Shape := ⟨1, ![512]⟩
abbrev S1x512x512 : Shape := ⟨3, ![1, 512, 512]⟩
abbrev S1x512x128 : Shape := ⟨3, ![1, 512, 128]⟩
abbrev S1x2048x128 : Shape := ⟨3, ![1, 2048, 128]⟩

abbrev nBuf : Space → Nat
  | .hbm => 3
  | .vmem => 14
  | .smem => 0
  | _ => 0

abbrev bufTy : (tb : Table) → Fin (tcTables nBuf tb) → BufTy
  | .hbm, ⟨0, _⟩ => ⟨S2048x6144, .bf16⟩
  | .hbm, ⟨1, _⟩ => ⟨S2048x2048, .bf16⟩
  | .hbm, ⟨2, _⟩ => ⟨S6x2048x1024, .bf16⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S512x128, .bf16⟩
  | .local _ .vmem, ⟨7, _⟩ => ⟨S512x128, .bf16⟩
  | .local _ .vmem, ⟨8, _⟩ => ⟨S3x2048x128, .bf16⟩
  | .local _ .vmem, ⟨9, _⟩ => ⟨S3x2048x128, .bf16⟩
  | .local _ .vmem, ⟨10, _⟩ => ⟨S2048x128, .f32⟩
  | .local _ .vmem, ⟨11, _⟩ => ⟨S2048x128, .f32⟩
  | .local _ .vmem, ⟨12, _⟩ => ⟨S4x512x512, .f32⟩
  | .local _ .vmem, ⟨13, _⟩ => ⟨S4x512x512, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c512_i32 : BitVec 32 := 512#32
  let v14 : BitVec 32 := Scalar.muli arg1 c512_i32
  let c512_i32_3 : BitVec 32 := 512#32
  let v15 : BitVec 32 := Scalar.addi v14 c512_i32_3
  let c1_i32 : BitVec 32 := 1#32
  let v16 : BitVec 32 := Scalar.subi v15 c1_i32
  let c0_i32 : BitVec 32 := 0#32
  let v18 : BitVec 1 := Scalar.cmpi .sgt v16 c0_i32
  let v19 : BitVec 32 := Scalar.extui v18
  let c0_i32_5 : BitVec 32 := 0#32
  let v20 : BitVec 1 := Scalar.cmpi .slt v16 c0_i32_5
  let v21 : BitVec 32 := Scalar.extui v20
  let v22 : BitVec 32 := Scalar.subi v19 v21
  let c512_i32_4 : BitVec 32 := 512#32
  let c0_i32_6 : BitVec 32 := 0#32
  let v23 : BitVec 1 := Scalar.cmpi .sgt c512_i32_4 c0_i32_6
  let v24 : BitVec 32 := Scalar.extui v23
  let c0_i32_7 : BitVec 32 := 0#32
  let v25 : BitVec 1 := Scalar.cmpi .slt c512_i32_4 c0_i32_7
  let v26 : BitVec 32 := Scalar.extui v25
  let v27 : BitVec 32 := Scalar.subi v24 v26
  let v28 : BitVec 1 := Scalar.cmpi .ne v22 v27
  let v29 : BitVec 32 := Scalar.remsi v16 c512_i32_4
  let c0_i32_8 : BitVec 32 := 0#32
  let v30 : BitVec 1 := Scalar.cmpi .ne v29 c0_i32_8
  let v31 : BitVec 1 := Scalar.andi v28 v30
  let v17 : BitVec 32 := Scalar.divsi v16 c512_i32_4
  let c1_i32_9 : BitVec 32 := 1#32
  let v32 : BitVec 32 := Scalar.subi v17 c1_i32_9
  let v33 : BitVec 32 := Scalar.select v31 v32 v17
  let c512_i32_12 : BitVec 32 := 512#32
  let v38 : BitVec 32 := Scalar.muli v33 c512_i32_12
  v38
def k0_off1 (i : grid0.Coords) : Fin 2 → Nat :=
  let arg1 : BitVec 32 := BitVec.ofNat 32 (i 1).val
  let c512_i32 : BitVec 32 := 512#32
  let v14 : BitVec 32 := Scalar.muli arg1 c512_i32
  let c512_i32_3 : BitVec 32 := 512#32
  let v15 : BitVec 32 := Scalar.addi v14 c512_i32_3
  let c1_i32 : BitVec 32 := 1#32
  let v16 : BitVec 32 := Scalar.subi v15 c1_i32
  let c0_i32 : BitVec 32 := 0#32
  let v18 : BitVec 1 := Scalar.cmpi .sgt v16 c0_i32
  let v19 : BitVec 32 := Scalar.extui v18
  let c0_i32_5 : BitVec 32 := 0#32
  let v20 : BitVec 1 := Scalar.cmpi .slt v16 c0_i32_5
  let v21 : BitVec 32 := Scalar.extui v20
  let v22 : BitVec 32 := Scalar.subi v19 v21
  let c512_i32_4 : BitVec 32 := 512#32
  let c0_i32_6 : BitVec 32 := 0#32
  let v23 : BitVec 1 := Scalar.cmpi .sgt c512_i32_4 c0_i32_6
  let v24 : BitVec 32 := Scalar.extui v23
  let c0_i32_7 : BitVec 32 := 0#32
  let v25 : BitVec 1 := Scalar.cmpi .slt c512_i32_4 c0_i32_7
  let v26 : BitVec 32 := Scalar.extui v25
  let v27 : BitVec 32 := Scalar.subi v24 v26
  let v28 : BitVec 1 := Scalar.cmpi .ne v22 v27
  let v29 : BitVec 32 := Scalar.remsi v16 c512_i32_4
  let c0_i32_8 : BitVec 32 := 0#32
  let v30 : BitVec 1 := Scalar.cmpi .ne v29 c0_i32_8
  let v31 : BitVec 1 := Scalar.andi v28 v30
  let v17 : BitVec 32 := Scalar.divsi v16 c512_i32_4
  let c1_i32_9 : BitVec 32 := 1#32
  let v32 : BitVec 32 := Scalar.subi v17 c1_i32_9
  let v33 : BitVec 32 := Scalar.select v31 v32 v17
  let c512_i32_12 : BitVec 32 := 512#32
  let v38 : BitVec 32 := Scalar.muli v33 c512_i32_12
  let v39 : BitVec 32 := v38
  let v40 : Index := Scalar.indexCast v39
  let c0_13 : Index := 0#32
  ![v40.toNat, 0]
def k0_off2 (i : grid0.Coords) : Fin 3 → Nat :=
  let arg1 : BitVec 32 := BitVec.ofNat 32 (i 1).val
  let c512_i32 : BitVec 32 := 512#32
  let v14 : BitVec 32 := Scalar.muli arg1 c512_i32
  let c512_i32_3 : BitVec 32 := 512#32
  let v15 : BitVec 32 := Scalar.addi v14 c512_i32_3
  let c1_i32 : BitVec 32 := 1#32
  let v16 : BitVec 32 := Scalar.subi v15 c1_i32
  let c0_i32 : BitVec 32 := 0#32
  let v18 : BitVec 1 := Scalar.cmpi .sgt v16 c0_i32
  let v19 : BitVec 32 := Scalar.extui v18
  let c0_i32_5 : BitVec 32 := 0#32
  let v20 : BitVec 1 := Scalar.cmpi .slt v16 c0_i32_5
  let v21 : BitVec 32 := Scalar.extui v20
  let v22 : BitVec 32 := Scalar.subi v19 v21
  let c512_i32_4 : BitVec 32 := 512#32
  let c0_i32_6 : BitVec 32 := 0#32
  let v23 : BitVec 1 := Scalar.cmpi .sgt c512_i32_4 c0_i32_6
  let v24 : BitVec 32 := Scalar.extui v23
  let c0_i32_7 : BitVec 32 := 0#32
  let v25 : BitVec 1 := Scalar.cmpi .slt c512_i32_4 c0_i32_7
  let v26 : BitVec 32 := Scalar.extui v25
  let v27 : BitVec 32 := Scalar.subi v24 v26
  let v28 : BitVec 1 := Scalar.cmpi .ne v22 v27
  let v29 : BitVec 32 := Scalar.remsi v16 c512_i32_4
  let c0_i32_8 : BitVec 32 := 0#32
  let v30 : BitVec 1 := Scalar.cmpi .ne v29 c0_i32_8
  let v31 : BitVec 1 := Scalar.andi v28 v30
  let v17 : BitVec 32 := Scalar.divsi v16 c512_i32_4
  let c1_i32_9 : BitVec 32 := 1#32
  let v32 : BitVec 32 := Scalar.subi v17 c1_i32_9
  let v33 : BitVec 32 := Scalar.select v31 v32 v17
  let v125 : Index := Scalar.indexCast v33
  let c0_37 : Index := 0#32
  let c0_38 : Index := 0#32
  ![v125.toNat, 0, 0]
@[reducible] def k0_t1_loop (i : grid0.Coords) : Scf.Loop 32 :=
  let c0_i32_44 : BitVec 32 := 0#32
  let arg1 : BitVec 32 := BitVec.ofNat 32 (i 1).val
  let c512_i32 : BitVec 32 := 512#32
  let v14 : BitVec 32 := Scalar.muli arg1 c512_i32
  let c512_i32_3 : BitVec 32 := 512#32
  let v15 : BitVec 32 := Scalar.addi v14 c512_i32_3
  let c1_i32 : BitVec 32 := 1#32
  let v16 : BitVec 32 := Scalar.subi v15 c1_i32
  let c0_i32 : BitVec 32 := 0#32
  let v18 : BitVec 1 := Scalar.cmpi .sgt v16 c0_i32
  let v19 : BitVec 32 := Scalar.extui v18
  let c0_i32_5 : BitVec 32 := 0#32
  let v20 : BitVec 1 := Scalar.cmpi .slt v16 c0_i32_5
  let v21 : BitVec 32 := Scalar.extui v20
  let v22 : BitVec 32 := Scalar.subi v19 v21
  let c512_i32_4 : BitVec 32 := 512#32
  let c0_i32_6 : BitVec 32 := 0#32
  let v23 : BitVec 1 := Scalar.cmpi .sgt c512_i32_4 c0_i32_6
  let v24 : BitVec 32 := Scalar.extui v23
  let c0_i32_7 : BitVec 32 := 0#32
  let v25 : BitVec 1 := Scalar.cmpi .slt c512_i32_4 c0_i32_7
  let v26 : BitVec 32 := Scalar.extui v25
  let v27 : BitVec 32 := Scalar.subi v24 v26
  let v28 : BitVec 1 := Scalar.cmpi .ne v22 v27
  let v29 : BitVec 32 := Scalar.remsi v16 c512_i32_4
  let c0_i32_8 : BitVec 32 := 0#32
  let v30 : BitVec 1 := Scalar.cmpi .ne v29 c0_i32_8
  let v31 : BitVec 1 := Scalar.andi v28 v30
  let v17 : BitVec 32 := Scalar.divsi v16 c512_i32_4
  let c1_i32_9 : BitVec 32 := 1#32
  let v32 : BitVec 32 := Scalar.subi v17 c1_i32_9
  let v33 : BitVec 32 := Scalar.select v31 v32 v17
  let v142 : BitVec 32 := Scalar.subi v33 c0_i32_44
  let c1_i32_45 : BitVec 32 := 1#32
  let v144 : BitVec 32 := Scalar.divsi v142 c1_i32_45
  let v145 : BitVec 32 := Scalar.muli v144 c1_i32_45
  let v146 : BitVec 32 := Scalar.addi c0_i32_44 v145
  let c1_i32_46 : BitVec 32 := 1#32
  ⟨c0_i32_44, v146, c1_i32_46⟩
def k0_mult2 (i : grid0.Coords) (k0_t1 : Fin (k0_t1_loop i).trips) : BitVec 32 :=
  let arg1 : BitVec 32 := BitVec.ofNat 32 (i 1).val
  let c512_i32 : BitVec 32 := 512#32
  let v14 : BitVec 32 := Scalar.muli arg1 c512_i32
  let c512_i32_3 : BitVec 32 := 512#32
  let v15 : BitVec 32 := Scalar.addi v14 c512_i32_3
  let c1_i32 : BitVec 32 := 1#32
  let v16 : BitVec 32 := Scalar.subi v15 c1_i32
  let c0_i32 : BitVec 32 := 0#32
  let v18 : BitVec 1 := Scalar.cmpi .sgt v16 c0_i32
  let v19 : BitVec 32 := Scalar.extui v18
  let c0_i32_5 : BitVec 32 := 0#32
  let v20 : BitVec 1 := Scalar.cmpi .slt v16 c0_i32_5
  let v21 : BitVec 32 := Scalar.extui v20
  let v22 : BitVec 32 := Scalar.subi v19 v21
  let c512_i32_4 : BitVec 32 := 512#32
  let c0_i32_6 : BitVec 32 := 0#32
  let v23 : BitVec 1 := Scalar.cmpi .sgt c512_i32_4 c0_i32_6
  let v24 : BitVec 32 := Scalar.extui v23
  let c0_i32_7 : BitVec 32 := 0#32
  let v25 : BitVec 1 := Scalar.cmpi .slt c512_i32_4 c0_i32_7
  let v26 : BitVec 32 := Scalar.extui v25
  let v27 : BitVec 32 := Scalar.subi v24 v26
  let v28 : BitVec 1 := Scalar.cmpi .ne v22 v27
  let v29 : BitVec 32 := Scalar.remsi v16 c512_i32_4
  let c0_i32_8 : BitVec 32 := 0#32
  let v30 : BitVec 1 := Scalar.cmpi .ne v29 c0_i32_8
  let v31 : BitVec 1 := Scalar.andi v28 v30
  let v17 : BitVec 32 := Scalar.divsi v16 c512_i32_4
  let c1_i32_9 : BitVec 32 := 1#32
  let v32 : BitVec 32 := Scalar.subi v17 c1_i32_9
  let v33 : BitVec 32 := Scalar.select v31 v32 v17
  let c1_i32_86 : BitVec 32 := 1#32
  let v258 : BitVec 32 := Scalar.subi v33 c1_i32_86
  let c0_i32_44 : BitVec 32 := 0#32
  let c1_i32_46 : BitVec 32 := 1#32
  let arg11 : BitVec 32 := Scf.iv c0_i32_44 c1_i32_46 k0_t1
  let v259 : BitVec 32 := Scalar.subi v258 arg11
  let c512_i32_87 : BitVec 32 := 512#32
  let v260 : BitVec 32 := Scalar.muli v259 c512_i32_87
  v260
def k0_off3 (i : grid0.Coords) (k0_t1 : Fin (k0_t1_loop i).trips) : Fin 2 → Nat :=
  let arg1 : BitVec 32 := BitVec.ofNat 32 (i 1).val
  let c512_i32 : BitVec 32 := 512#32
  let v14 : BitVec 32 := Scalar.muli arg1 c512_i32
  let c512_i32_3 : BitVec 32 := 512#32
  let v15 : BitVec 32 := Scalar.addi v14 c512_i32_3
  let c1_i32 : BitVec 32 := 1#32
  let v16 : BitVec 32 := Scalar.subi v15 c1_i32
  let c0_i32 : BitVec 32 := 0#32
  let v18 : BitVec 1 := Scalar.cmpi .sgt v16 c0_i32
  let v19 : BitVec 32 := Scalar.extui v18
  let c0_i32_5 : BitVec 32 := 0#32
  let v20 : BitVec 1 := Scalar.cmpi .slt v16 c0_i32_5
  let v21 : BitVec 32 := Scalar.extui v20
  let v22 : BitVec 32 := Scalar.subi v19 v21
  let c512_i32_4 : BitVec 32 := 512#32
  let c0_i32_6 : BitVec 32 := 0#32
  let v23 : BitVec 1 := Scalar.cmpi .sgt c512_i32_4 c0_i32_6
  let v24 : BitVec 32 := Scalar.extui v23
  let c0_i32_7 : BitVec 32 := 0#32
  let v25 : BitVec 1 := Scalar.cmpi .slt c512_i32_4 c0_i32_7
  let v26 : BitVec 32 := Scalar.extui v25
  let v27 : BitVec 32 := Scalar.subi v24 v26
  let v28 : BitVec 1 := Scalar.cmpi .ne v22 v27
  let v29 : BitVec 32 := Scalar.remsi v16 c512_i32_4
  let c0_i32_8 : BitVec 32 := 0#32
  let v30 : BitVec 1 := Scalar.cmpi .ne v29 c0_i32_8
  let v31 : BitVec 1 := Scalar.andi v28 v30
  let v17 : BitVec 32 := Scalar.divsi v16 c512_i32_4
  let c1_i32_9 : BitVec 32 := 1#32
  let v32 : BitVec 32 := Scalar.subi v17 c1_i32_9
  let v33 : BitVec 32 := Scalar.select v31 v32 v17
  let c1_i32_86 : BitVec 32 := 1#32
  let v258 : BitVec 32 := Scalar.subi v33 c1_i32_86
  let c0_i32_44 : BitVec 32 := 0#32
  let c1_i32_46 : BitVec 32 := 1#32
  let arg11 : BitVec 32 := Scf.iv c0_i32_44 c1_i32_46 k0_t1
  let v259 : BitVec 32 := Scalar.subi v258 arg11
  let c512_i32_87 : BitVec 32 := 512#32
  let v260 : BitVec 32 := Scalar.muli v259 c512_i32_87
  let v261 : BitVec 32 := v260
  let v262 : Index := Scalar.indexCast v261
  let c0_88 : Index := 0#32
  ![v262.toNat, 0]
def k0_off4 (i : grid0.Coords) (k0_t1 : Fin (k0_t1_loop i).trips) : Fin 3 → Nat :=
  let arg1 : BitVec 32 := BitVec.ofNat 32 (i 1).val
  let c512_i32 : BitVec 32 := 512#32
  let v14 : BitVec 32 := Scalar.muli arg1 c512_i32
  let c512_i32_3 : BitVec 32 := 512#32
  let v15 : BitVec 32 := Scalar.addi v14 c512_i32_3
  let c1_i32 : BitVec 32 := 1#32
  let v16 : BitVec 32 := Scalar.subi v15 c1_i32
  let c0_i32 : BitVec 32 := 0#32
  let v18 : BitVec 1 := Scalar.cmpi .sgt v16 c0_i32
  let v19 : BitVec 32 := Scalar.extui v18
  let c0_i32_5 : BitVec 32 := 0#32
  let v20 : BitVec 1 := Scalar.cmpi .slt v16 c0_i32_5
  let v21 : BitVec 32 := Scalar.extui v20
  let v22 : BitVec 32 := Scalar.subi v19 v21
  let c512_i32_4 : BitVec 32 := 512#32
  let c0_i32_6 : BitVec 32 := 0#32
  let v23 : BitVec 1 := Scalar.cmpi .sgt c512_i32_4 c0_i32_6
  let v24 : BitVec 32 := Scalar.extui v23
  let c0_i32_7 : BitVec 32 := 0#32
  let v25 : BitVec 1 := Scalar.cmpi .slt c512_i32_4 c0_i32_7
  let v26 : BitVec 32 := Scalar.extui v25
  let v27 : BitVec 32 := Scalar.subi v24 v26
  let v28 : BitVec 1 := Scalar.cmpi .ne v22 v27
  let v29 : BitVec 32 := Scalar.remsi v16 c512_i32_4
  let c0_i32_8 : BitVec 32 := 0#32
  let v30 : BitVec 1 := Scalar.cmpi .ne v29 c0_i32_8
  let v31 : BitVec 1 := Scalar.andi v28 v30
  let v17 : BitVec 32 := Scalar.divsi v16 c512_i32_4
  let c1_i32_9 : BitVec 32 := 1#32
  let v32 : BitVec 32 := Scalar.subi v17 c1_i32_9
  let v33 : BitVec 32 := Scalar.select v31 v32 v17
  let c1_i32_86 : BitVec 32 := 1#32
  let v258 : BitVec 32 := Scalar.subi v33 c1_i32_86
  let c0_i32_44 : BitVec 32 := 0#32
  let c1_i32_46 : BitVec 32 := 1#32
  let arg11 : BitVec 32 := Scf.iv c0_i32_44 c1_i32_46 k0_t1
  let v259 : BitVec 32 := Scalar.subi v258 arg11
  let v336 : Index := Scalar.indexCast v259
  let c0_110 : Index := 0#32
  let c0_111 : Index := 0#32
  ![v336.toNat, 0, 0]
@[reducible] def k0_t2_loop (i : grid0.Coords) : Scf.Loop 32 :=
  let c0_i32_44 : BitVec 32 := 0#32
  let arg1 : BitVec 32 := BitVec.ofNat 32 (i 1).val
  let c512_i32 : BitVec 32 := 512#32
  let v14 : BitVec 32 := Scalar.muli arg1 c512_i32
  let c512_i32_3 : BitVec 32 := 512#32
  let v15 : BitVec 32 := Scalar.addi v14 c512_i32_3
  let c1_i32 : BitVec 32 := 1#32
  let v16 : BitVec 32 := Scalar.subi v15 c1_i32
  let c0_i32 : BitVec 32 := 0#32
  let v18 : BitVec 1 := Scalar.cmpi .sgt v16 c0_i32
  let v19 : BitVec 32 := Scalar.extui v18
  let c0_i32_5 : BitVec 32 := 0#32
  let v20 : BitVec 1 := Scalar.cmpi .slt v16 c0_i32_5
  let v21 : BitVec 32 := Scalar.extui v20
  let v22 : BitVec 32 := Scalar.subi v19 v21
  let c512_i32_4 : BitVec 32 := 512#32
  let c0_i32_6 : BitVec 32 := 0#32
  let v23 : BitVec 1 := Scalar.cmpi .sgt c512_i32_4 c0_i32_6
  let v24 : BitVec 32 := Scalar.extui v23
  let c0_i32_7 : BitVec 32 := 0#32
  let v25 : BitVec 1 := Scalar.cmpi .slt c512_i32_4 c0_i32_7
  let v26 : BitVec 32 := Scalar.extui v25
  let v27 : BitVec 32 := Scalar.subi v24 v26
  let v28 : BitVec 1 := Scalar.cmpi .ne v22 v27
  let v29 : BitVec 32 := Scalar.remsi v16 c512_i32_4
  let c0_i32_8 : BitVec 32 := 0#32
  let v30 : BitVec 1 := Scalar.cmpi .ne v29 c0_i32_8
  let v31 : BitVec 1 := Scalar.andi v28 v30
  let v17 : BitVec 32 := Scalar.divsi v16 c512_i32_4
  let c1_i32_9 : BitVec 32 := 1#32
  let v32 : BitVec 32 := Scalar.subi v17 c1_i32_9
  let v33 : BitVec 32 := Scalar.select v31 v32 v17
  let v142 : BitVec 32 := Scalar.subi v33 c0_i32_44
  let c1_i32_45 : BitVec 32 := 1#32
  let v144 : BitVec 32 := Scalar.divsi v142 c1_i32_45
  let v145 : BitVec 32 := Scalar.muli v144 c1_i32_45
  let v146 : BitVec 32 := Scalar.addi c0_i32_44 v145
  let v143 : BitVec 32 := Scalar.addi c0_i32_44 v142
  let c1_i32_47 : BitVec 32 := 1#32
  ⟨v146, v143, c1_i32_47⟩
def k0_mult3 (i : grid0.Coords) (k0_t2 : Fin (k0_t2_loop i).trips) : BitVec 32 :=
  let arg1 : BitVec 32 := BitVec.ofNat 32 (i 1).val
  let c512_i32 : BitVec 32 := 512#32
  let v14 : BitVec 32 := Scalar.muli arg1 c512_i32
  let c512_i32_3 : BitVec 32 := 512#32
  let v15 : BitVec 32 := Scalar.addi v14 c512_i32_3
  let c1_i32 : BitVec 32 := 1#32
  let v16 : BitVec 32 := Scalar.subi v15 c1_i32
  let c0_i32 : BitVec 32 := 0#32
  let v18 : BitVec 1 := Scalar.cmpi .sgt v16 c0_i32
  let v19 : BitVec 32 := Scalar.extui v18
  let c0_i32_5 : BitVec 32 := 0#32
  let v20 : BitVec 1 := Scalar.cmpi .slt v16 c0_i32_5
  let v21 : BitVec 32 := Scalar.extui v20
  let v22 : BitVec 32 := Scalar.subi v19 v21
  let c512_i32_4 : BitVec 32 := 512#32
  let c0_i32_6 : BitVec 32 := 0#32
  let v23 : BitVec 1 := Scalar.cmpi .sgt c512_i32_4 c0_i32_6
  let v24 : BitVec 32 := Scalar.extui v23
  let c0_i32_7 : BitVec 32 := 0#32
  let v25 : BitVec 1 := Scalar.cmpi .slt c512_i32_4 c0_i32_7
  let v26 : BitVec 32 := Scalar.extui v25
  let v27 : BitVec 32 := Scalar.subi v24 v26
  let v28 : BitVec 1 := Scalar.cmpi .ne v22 v27
  let v29 : BitVec 32 := Scalar.remsi v16 c512_i32_4
  let c0_i32_8 : BitVec 32 := 0#32
  let v30 : BitVec 1 := Scalar.cmpi .ne v29 c0_i32_8
  let v31 : BitVec 1 := Scalar.andi v28 v30
  let v17 : BitVec 32 := Scalar.divsi v16 c512_i32_4
  let c1_i32_9 : BitVec 32 := 1#32
  let v32 : BitVec 32 := Scalar.subi v17 c1_i32_9
  let v33 : BitVec 32 := Scalar.select v31 v32 v17
  let c1_i32_86 : BitVec 32 := 1#32
  let v258 : BitVec 32 := Scalar.subi v33 c1_i32_86
  let c0_i32_44 : BitVec 32 := 0#32
  let v142 : BitVec 32 := Scalar.subi v33 c0_i32_44
  let c1_i32_45 : BitVec 32 := 1#32
  let v144 : BitVec 32 := Scalar.divsi v142 c1_i32_45
  let v145 : BitVec 32 := Scalar.muli v144 c1_i32_45
  let v146 : BitVec 32 := Scalar.addi c0_i32_44 v145
  let c1_i32_47 : BitVec 32 := 1#32
  let arg11 : BitVec 32 := Scf.iv v146 c1_i32_47 k0_t2
  let v259 : BitVec 32 := Scalar.subi v258 arg11
  let c512_i32_87 : BitVec 32 := 512#32
  let v260 : BitVec 32 := Scalar.muli v259 c512_i32_87
  v260
def k0_off5 (i : grid0.Coords) (k0_t2 : Fin (k0_t2_loop i).trips) : Fin 2 → Nat :=
  let arg1 : BitVec 32 := BitVec.ofNat 32 (i 1).val
  let c512_i32 : BitVec 32 := 512#32
  let v14 : BitVec 32 := Scalar.muli arg1 c512_i32
  let c512_i32_3 : BitVec 32 := 512#32
  let v15 : BitVec 32 := Scalar.addi v14 c512_i32_3
  let c1_i32 : BitVec 32 := 1#32
  let v16 : BitVec 32 := Scalar.subi v15 c1_i32
  let c0_i32 : BitVec 32 := 0#32
  let v18 : BitVec 1 := Scalar.cmpi .sgt v16 c0_i32
  let v19 : BitVec 32 := Scalar.extui v18
  let c0_i32_5 : BitVec 32 := 0#32
  let v20 : BitVec 1 := Scalar.cmpi .slt v16 c0_i32_5
  let v21 : BitVec 32 := Scalar.extui v20
  let v22 : BitVec 32 := Scalar.subi v19 v21
  let c512_i32_4 : BitVec 32 := 512#32
  let c0_i32_6 : BitVec 32 := 0#32
  let v23 : BitVec 1 := Scalar.cmpi .sgt c512_i32_4 c0_i32_6
  let v24 : BitVec 32 := Scalar.extui v23
  let c0_i32_7 : BitVec 32 := 0#32
  let v25 : BitVec 1 := Scalar.cmpi .slt c512_i32_4 c0_i32_7
  let v26 : BitVec 32 := Scalar.extui v25
  let v27 : BitVec 32 := Scalar.subi v24 v26
  let v28 : BitVec 1 := Scalar.cmpi .ne v22 v27
  let v29 : BitVec 32 := Scalar.remsi v16 c512_i32_4
  let c0_i32_8 : BitVec 32 := 0#32
  let v30 : BitVec 1 := Scalar.cmpi .ne v29 c0_i32_8
  let v31 : BitVec 1 := Scalar.andi v28 v30
  let v17 : BitVec 32 := Scalar.divsi v16 c512_i32_4
  let c1_i32_9 : BitVec 32 := 1#32
  let v32 : BitVec 32 := Scalar.subi v17 c1_i32_9
  let v33 : BitVec 32 := Scalar.select v31 v32 v17
  let c1_i32_86 : BitVec 32 := 1#32
  let v258 : BitVec 32 := Scalar.subi v33 c1_i32_86
  let c0_i32_44 : BitVec 32 := 0#32
  let v142 : BitVec 32 := Scalar.subi v33 c0_i32_44
  let c1_i32_45 : BitVec 32 := 1#32
  let v144 : BitVec 32 := Scalar.divsi v142 c1_i32_45
  let v145 : BitVec 32 := Scalar.muli v144 c1_i32_45
  let v146 : BitVec 32 := Scalar.addi c0_i32_44 v145
  let c1_i32_47 : BitVec 32 := 1#32
  let arg11 : BitVec 32 := Scf.iv v146 c1_i32_47 k0_t2
  let v259 : BitVec 32 := Scalar.subi v258 arg11
  let c512_i32_87 : BitVec 32 := 512#32
  let v260 : BitVec 32 := Scalar.muli v259 c512_i32_87
  let v261 : BitVec 32 := v260
  let v262 : Index := Scalar.indexCast v261
  let c0_88 : Index := 0#32
  ![v262.toNat, 0]
def k0_off6 (i : grid0.Coords) (k0_t2 : Fin (k0_t2_loop i).trips) : Fin 3 → Nat :=
  let arg1 : BitVec 32 := BitVec.ofNat 32 (i 1).val
  let c512_i32 : BitVec 32 := 512#32
  let v14 : BitVec 32 := Scalar.muli arg1 c512_i32
  let c512_i32_3 : BitVec 32 := 512#32
  let v15 : BitVec 32 := Scalar.addi v14 c512_i32_3
  let c1_i32 : BitVec 32 := 1#32
  let v16 : BitVec 32 := Scalar.subi v15 c1_i32
  let c0_i32 : BitVec 32 := 0#32
  let v18 : BitVec 1 := Scalar.cmpi .sgt v16 c0_i32
  let v19 : BitVec 32 := Scalar.extui v18
  let c0_i32_5 : BitVec 32 := 0#32
  let v20 : BitVec 1 := Scalar.cmpi .slt v16 c0_i32_5
  let v21 : BitVec 32 := Scalar.extui v20
  let v22 : BitVec 32 := Scalar.subi v19 v21
  let c512_i32_4 : BitVec 32 := 512#32
  let c0_i32_6 : BitVec 32 := 0#32
  let v23 : BitVec 1 := Scalar.cmpi .sgt c512_i32_4 c0_i32_6
  let v24 : BitVec 32 := Scalar.extui v23
  let c0_i32_7 : BitVec 32 := 0#32
  let v25 : BitVec 1 := Scalar.cmpi .slt c512_i32_4 c0_i32_7
  let v26 : BitVec 32 := Scalar.extui v25
  let v27 : BitVec 32 := Scalar.subi v24 v26
  let v28 : BitVec 1 := Scalar.cmpi .ne v22 v27
  let v29 : BitVec 32 := Scalar.remsi v16 c512_i32_4
  let c0_i32_8 : BitVec 32 := 0#32
  let v30 : BitVec 1 := Scalar.cmpi .ne v29 c0_i32_8
  let v31 : BitVec 1 := Scalar.andi v28 v30
  let v17 : BitVec 32 := Scalar.divsi v16 c512_i32_4
  let c1_i32_9 : BitVec 32 := 1#32
  let v32 : BitVec 32 := Scalar.subi v17 c1_i32_9
  let v33 : BitVec 32 := Scalar.select v31 v32 v17
  let c1_i32_86 : BitVec 32 := 1#32
  let v258 : BitVec 32 := Scalar.subi v33 c1_i32_86
  let c0_i32_44 : BitVec 32 := 0#32
  let v142 : BitVec 32 := Scalar.subi v33 c0_i32_44
  let c1_i32_45 : BitVec 32 := 1#32
  let v144 : BitVec 32 := Scalar.divsi v142 c1_i32_45
  let v145 : BitVec 32 := Scalar.muli v144 c1_i32_45
  let v146 : BitVec 32 := Scalar.addi c0_i32_44 v145
  let c1_i32_47 : BitVec 32 := 1#32
  let arg11 : BitVec 32 := Scf.iv v146 c1_i32_47 k0_t2
  let v259 : BitVec 32 := Scalar.subi v258 arg11
  let v336 : Index := Scalar.indexCast v259
  let c0_110 : Index := 0#32
  let c0_111 : Index := 0#32
  ![v336.toNat, 0, 0]
@[reducible] def k0_t3_loop (i : grid0.Coords) : Scf.Loop 32 :=
  let c0_i32_50 : BitVec 32 := 0#32
  let arg1 : BitVec 32 := BitVec.ofNat 32 (i 1).val
  let c512_i32 : BitVec 32 := 512#32
  let v14 : BitVec 32 := Scalar.muli arg1 c512_i32
  let c512_i32_3 : BitVec 32 := 512#32
  let v15 : BitVec 32 := Scalar.addi v14 c512_i32_3
  let c1_i32 : BitVec 32 := 1#32
  let v16 : BitVec 32 := Scalar.subi v15 c1_i32
  let c0_i32 : BitVec 32 := 0#32
  let v18 : BitVec 1 := Scalar.cmpi .sgt v16 c0_i32
  let v19 : BitVec 32 := Scalar.extui v18
  let c0_i32_5 : BitVec 32 := 0#32
  let v20 : BitVec 1 := Scalar.cmpi .slt v16 c0_i32_5
  let v21 : BitVec 32 := Scalar.extui v20
  let v22 : BitVec 32 := Scalar.subi v19 v21
  let c512_i32_4 : BitVec 32 := 512#32
  let c0_i32_6 : BitVec 32 := 0#32
  let v23 : BitVec 1 := Scalar.cmpi .sgt c512_i32_4 c0_i32_6
  let v24 : BitVec 32 := Scalar.extui v23
  let c0_i32_7 : BitVec 32 := 0#32
  let v25 : BitVec 1 := Scalar.cmpi .slt c512_i32_4 c0_i32_7
  let v26 : BitVec 32 := Scalar.extui v25
  let v27 : BitVec 32 := Scalar.subi v24 v26
  let v28 : BitVec 1 := Scalar.cmpi .ne v22 v27
  let v29 : BitVec 32 := Scalar.remsi v16 c512_i32_4
  let c0_i32_8 : BitVec 32 := 0#32
  let v30 : BitVec 1 := Scalar.cmpi .ne v29 c0_i32_8
  let v31 : BitVec 1 := Scalar.andi v28 v30
  let v17 : BitVec 32 := Scalar.divsi v16 c512_i32_4
  let c1_i32_9 : BitVec 32 := 1#32
  let v32 : BitVec 32 := Scalar.subi v17 c1_i32_9
  let v33 : BitVec 32 := Scalar.select v31 v32 v17
  let v151 : BitVec 32 := Scalar.subi v33 c0_i32_50
  let c1_i32_51 : BitVec 32 := 1#32
  let v153 : BitVec 32 := Scalar.divsi v151 c1_i32_51
  let v154 : BitVec 32 := Scalar.muli v153 c1_i32_51
  let v155 : BitVec 32 := Scalar.addi c0_i32_50 v154
  let c1_i32_52 : BitVec 32 := 1#32
  ⟨c0_i32_50, v155, c1_i32_52⟩
def k0_mult4 (i : grid0.Coords) (k0_t3 : Fin (k0_t3_loop i).trips) : BitVec 32 :=
  let c0_i32_50 : BitVec 32 := 0#32
  let c1_i32_52 : BitVec 32 := 1#32
  let arg11 : BitVec 32 := Scf.iv c0_i32_50 c1_i32_52 k0_t3
  let c512_i32_86 : BitVec 32 := 512#32
  let v258 : BitVec 32 := Scalar.muli arg11 c512_i32_86
  v258
def k0_off7 (i : grid0.Coords) (k0_t3 : Fin (k0_t3_loop i).trips) : Fin 3 → Nat :=
  let c0_i32_50 : BitVec 32 := 0#32
  let c1_i32_52 : BitVec 32 := 1#32
  let arg11 : BitVec 32 := Scf.iv c0_i32_50 c1_i32_52 k0_t3
  let v260 : Index := Scalar.indexCast arg11
  let c0_87 : Index := 0#32
  let c0_88 : Index := 0#32
  ![v260.toNat, 0, 0]
def k0_off8 (i : grid0.Coords) (k0_t3 : Fin (k0_t3_loop i).trips) : Fin 2 → Nat :=
  let c0_i32_50 : BitVec 32 := 0#32
  let c1_i32_52 : BitVec 32 := 1#32
  let arg11 : BitVec 32 := Scf.iv c0_i32_50 c1_i32_52 k0_t3
  let c512_i32_86 : BitVec 32 := 512#32
  let v258 : BitVec 32 := Scalar.muli arg11 c512_i32_86
  let v259 : BitVec 32 := v258
  let v330 : Index := Scalar.indexCast v259
  let c0_108 : Index := 0#32
  ![v330.toNat, 0]
@[reducible] def k0_t4_loop (i : grid0.Coords) : Scf.Loop 32 :=
  let c0_i32_50 : BitVec 32 := 0#32
  let arg1 : BitVec 32 := BitVec.ofNat 32 (i 1).val
  let c512_i32 : BitVec 32 := 512#32
  let v14 : BitVec 32 := Scalar.muli arg1 c512_i32
  let c512_i32_3 : BitVec 32 := 512#32
  let v15 : BitVec 32 := Scalar.addi v14 c512_i32_3
  let c1_i32 : BitVec 32 := 1#32
  let v16 : BitVec 32 := Scalar.subi v15 c1_i32
  let c0_i32 : BitVec 32 := 0#32
  let v18 : BitVec 1 := Scalar.cmpi .sgt v16 c0_i32
  let v19 : BitVec 32 := Scalar.extui v18
  let c0_i32_5 : BitVec 32 := 0#32
  let v20 : BitVec 1 := Scalar.cmpi .slt v16 c0_i32_5
  let v21 : BitVec 32 := Scalar.extui v20
  let v22 : BitVec 32 := Scalar.subi v19 v21
  let c512_i32_4 : BitVec 32 := 512#32
  let c0_i32_6 : BitVec 32 := 0#32
  let v23 : BitVec 1 := Scalar.cmpi .sgt c512_i32_4 c0_i32_6
  let v24 : BitVec 32 := Scalar.extui v23
  let c0_i32_7 : BitVec 32 := 0#32
  let v25 : BitVec 1 := Scalar.cmpi .slt c512_i32_4 c0_i32_7
  let v26 : BitVec 32 := Scalar.extui v25
  let v27 : BitVec 32 := Scalar.subi v24 v26
  let v28 : BitVec 1 := Scalar.cmpi .ne v22 v27
  let v29 : BitVec 32 := Scalar.remsi v16 c512_i32_4
  let c0_i32_8 : BitVec 32 := 0#32
  let v30 : BitVec 1 := Scalar.cmpi .ne v29 c0_i32_8
  let v31 : BitVec 1 := Scalar.andi v28 v30
  let v17 : BitVec 32 := Scalar.divsi v16 c512_i32_4
  let c1_i32_9 : BitVec 32 := 1#32
  let v32 : BitVec 32 := Scalar.subi v17 c1_i32_9
  let v33 : BitVec 32 := Scalar.select v31 v32 v17
  let v151 : BitVec 32 := Scalar.subi v33 c0_i32_50
  let c1_i32_51 : BitVec 32 := 1#32
  let v153 : BitVec 32 := Scalar.divsi v151 c1_i32_51
  let v154 : BitVec 32 := Scalar.muli v153 c1_i32_51
  let v155 : BitVec 32 := Scalar.addi c0_i32_50 v154
  let v152 : BitVec 32 := Scalar.addi c0_i32_50 v151
  let c1_i32_53 : BitVec 32 := 1#32
  ⟨v155, v152, c1_i32_53⟩
def k0_mult5 (i : grid0.Coords) (k0_t4 : Fin (k0_t4_loop i).trips) : BitVec 32 :=
  let c0_i32_50 : BitVec 32 := 0#32
  let arg1 : BitVec 32 := BitVec.ofNat 32 (i 1).val
  let c512_i32 : BitVec 32 := 512#32
  let v14 : BitVec 32 := Scalar.muli arg1 c512_i32
  let c512_i32_3 : BitVec 32 := 512#32
  let v15 : BitVec 32 := Scalar.addi v14 c512_i32_3
  let c1_i32 : BitVec 32 := 1#32
  let v16 : BitVec 32 := Scalar.subi v15 c1_i32
  let c0_i32 : BitVec 32 := 0#32
  let v18 : BitVec 1 := Scalar.cmpi .sgt v16 c0_i32
  let v19 : BitVec 32 := Scalar.extui v18
  let c0_i32_5 : BitVec 32 := 0#32
  let v20 : BitVec 1 := Scalar.cmpi .slt v16 c0_i32_5
  let v21 : BitVec 32 := Scalar.extui v20
  let v22 : BitVec 32 := Scalar.subi v19 v21
  let c512_i32_4 : BitVec 32 := 512#32
  let c0_i32_6 : BitVec 32 := 0#32
  let v23 : BitVec 1 := Scalar.cmpi .sgt c512_i32_4 c0_i32_6
  let v24 : BitVec 32 := Scalar.extui v23
  let c0_i32_7 : BitVec 32 := 0#32
  let v25 : BitVec 1 := Scalar.cmpi .slt c512_i32_4 c0_i32_7
  let v26 : BitVec 32 := Scalar.extui v25
  let v27 : BitVec 32 := Scalar.subi v24 v26
  let v28 : BitVec 1 := Scalar.cmpi .ne v22 v27
  let v29 : BitVec 32 := Scalar.remsi v16 c512_i32_4
  let c0_i32_8 : BitVec 32 := 0#32
  let v30 : BitVec 1 := Scalar.cmpi .ne v29 c0_i32_8
  let v31 : BitVec 1 := Scalar.andi v28 v30
  let v17 : BitVec 32 := Scalar.divsi v16 c512_i32_4
  let c1_i32_9 : BitVec 32 := 1#32
  let v32 : BitVec 32 := Scalar.subi v17 c1_i32_9
  let v33 : BitVec 32 := Scalar.select v31 v32 v17
  let v151 : BitVec 32 := Scalar.subi v33 c0_i32_50
  let c1_i32_51 : BitVec 32 := 1#32
  let v153 : BitVec 32 := Scalar.divsi v151 c1_i32_51
  let v154 : BitVec 32 := Scalar.muli v153 c1_i32_51
  let v155 : BitVec 32 := Scalar.addi c0_i32_50 v154
  let c1_i32_53 : BitVec 32 := 1#32
  let arg11 : BitVec 32 := Scf.iv v155 c1_i32_53 k0_t4
  let c512_i32_86 : BitVec 32 := 512#32
  let v258 : BitVec 32 := Scalar.muli arg11 c512_i32_86
  v258
def k0_off9 (i : grid0.Coords) (k0_t4 : Fin (k0_t4_loop i).trips) : Fin 3 → Nat :=
  let c0_i32_50 : BitVec 32 := 0#32
  let arg1 : BitVec 32 := BitVec.ofNat 32 (i 1).val
  let c512_i32 : BitVec 32 := 512#32
  let v14 : BitVec 32 := Scalar.muli arg1 c512_i32
  let c512_i32_3 : BitVec 32 := 512#32
  let v15 : BitVec 32 := Scalar.addi v14 c512_i32_3
  let c1_i32 : BitVec 32 := 1#32
  let v16 : BitVec 32 := Scalar.subi v15 c1_i32
  let c0_i32 : BitVec 32 := 0#32
  let v18 : BitVec 1 := Scalar.cmpi .sgt v16 c0_i32
  let v19 : BitVec 32 := Scalar.extui v18
  let c0_i32_5 : BitVec 32 := 0#32
  let v20 : BitVec 1 := Scalar.cmpi .slt v16 c0_i32_5
  let v21 : BitVec 32 := Scalar.extui v20
  let v22 : BitVec 32 := Scalar.subi v19 v21
  let c512_i32_4 : BitVec 32 := 512#32
  let c0_i32_6 : BitVec 32 := 0#32
  let v23 : BitVec 1 := Scalar.cmpi .sgt c512_i32_4 c0_i32_6
  let v24 : BitVec 32 := Scalar.extui v23
  let c0_i32_7 : BitVec 32 := 0#32
  let v25 : BitVec 1 := Scalar.cmpi .slt c512_i32_4 c0_i32_7
  let v26 : BitVec 32 := Scalar.extui v25
  let v27 : BitVec 32 := Scalar.subi v24 v26
  let v28 : BitVec 1 := Scalar.cmpi .ne v22 v27
  let v29 : BitVec 32 := Scalar.remsi v16 c512_i32_4
  let c0_i32_8 : BitVec 32 := 0#32
  let v30 : BitVec 1 := Scalar.cmpi .ne v29 c0_i32_8
  let v31 : BitVec 1 := Scalar.andi v28 v30
  let v17 : BitVec 32 := Scalar.divsi v16 c512_i32_4
  let c1_i32_9 : BitVec 32 := 1#32
  let v32 : BitVec 32 := Scalar.subi v17 c1_i32_9
  let v33 : BitVec 32 := Scalar.select v31 v32 v17
  let v151 : BitVec 32 := Scalar.subi v33 c0_i32_50
  let c1_i32_51 : BitVec 32 := 1#32
  let v153 : BitVec 32 := Scalar.divsi v151 c1_i32_51
  let v154 : BitVec 32 := Scalar.muli v153 c1_i32_51
  let v155 : BitVec 32 := Scalar.addi c0_i32_50 v154
  let c1_i32_53 : BitVec 32 := 1#32
  let arg11 : BitVec 32 := Scf.iv v155 c1_i32_53 k0_t4
  let v260 : Index := Scalar.indexCast arg11
  let c0_87 : Index := 0#32
  let c0_88 : Index := 0#32
  ![v260.toNat, 0, 0]
def k0_off10 (i : grid0.Coords) (k0_t4 : Fin (k0_t4_loop i).trips) : Fin 2 → Nat :=
  let c0_i32_50 : BitVec 32 := 0#32
  let arg1 : BitVec 32 := BitVec.ofNat 32 (i 1).val
  let c512_i32 : BitVec 32 := 512#32
  let v14 : BitVec 32 := Scalar.muli arg1 c512_i32
  let c512_i32_3 : BitVec 32 := 512#32
  let v15 : BitVec 32 := Scalar.addi v14 c512_i32_3
  let c1_i32 : BitVec 32 := 1#32
  let v16 : BitVec 32 := Scalar.subi v15 c1_i32
  let c0_i32 : BitVec 32 := 0#32
  let v18 : BitVec 1 := Scalar.cmpi .sgt v16 c0_i32
  let v19 : BitVec 32 := Scalar.extui v18
  let c0_i32_5 : BitVec 32 := 0#32
  let v20 : BitVec 1 := Scalar.cmpi .slt v16 c0_i32_5
  let v21 : BitVec 32 := Scalar.extui v20
  let v22 : BitVec 32 := Scalar.subi v19 v21
  let c512_i32_4 : BitVec 32 := 512#32
  let c0_i32_6 : BitVec 32 := 0#32
  let v23 : BitVec 1 := Scalar.cmpi .sgt c512_i32_4 c0_i32_6
  let v24 : BitVec 32 := Scalar.extui v23
  let c0_i32_7 : BitVec 32 := 0#32
  let v25 : BitVec 1 := Scalar.cmpi .slt c512_i32_4 c0_i32_7
  let v26 : BitVec 32 := Scalar.extui v25
  let v27 : BitVec 32 := Scalar.subi v24 v26
  let v28 : BitVec 1 := Scalar.cmpi .ne v22 v27
  let v29 : BitVec 32 := Scalar.remsi v16 c512_i32_4
  let c0_i32_8 : BitVec 32 := 0#32
  let v30 : BitVec 1 := Scalar.cmpi .ne v29 c0_i32_8
  let v31 : BitVec 1 := Scalar.andi v28 v30
  let v17 : BitVec 32 := Scalar.divsi v16 c512_i32_4
  let c1_i32_9 : BitVec 32 := 1#32
  let v32 : BitVec 32 := Scalar.subi v17 c1_i32_9
  let v33 : BitVec 32 := Scalar.select v31 v32 v17
  let v151 : BitVec 32 := Scalar.subi v33 c0_i32_50
  let c1_i32_51 : BitVec 32 := 1#32
  let v153 : BitVec 32 := Scalar.divsi v151 c1_i32_51
  let v154 : BitVec 32 := Scalar.muli v153 c1_i32_51
  let v155 : BitVec 32 := Scalar.addi c0_i32_50 v154
  let c1_i32_53 : BitVec 32 := 1#32
  let arg11 : BitVec 32 := Scf.iv v155 c1_i32_53 k0_t4
  let c512_i32_86 : BitVec 32 := 512#32
  let v258 : BitVec 32 := Scalar.muli arg11 c512_i32_86
  let v259 : BitVec 32 := v258
  let v330 : Index := Scalar.indexCast v259
  let c0_108 : Index := 0#32
  ![v330.toNat, 0]
def k0_mult6 (i : grid0.Coords) : BitVec 32 :=
  let arg1 : BitVec 32 := BitVec.ofNat 32 (i 1).val
  let c512_i32 : BitVec 32 := 512#32
  let v14 : BitVec 32 := Scalar.muli arg1 c512_i32
  let c512_i32_3 : BitVec 32 := 512#32
  let v15 : BitVec 32 := Scalar.addi v14 c512_i32_3
  let c1_i32 : BitVec 32 := 1#32
  let v16 : BitVec 32 := Scalar.subi v15 c1_i32
  let c0_i32 : BitVec 32 := 0#32
  let v18 : BitVec 1 := Scalar.cmpi .sgt v16 c0_i32
  let v19 : BitVec 32 := Scalar.extui v18
  let c0_i32_5 : BitVec 32 := 0#32
  let v20 : BitVec 1 := Scalar.cmpi .slt v16 c0_i32_5
  let v21 : BitVec 32 := Scalar.extui v20
  let v22 : BitVec 32 := Scalar.subi v19 v21
  let c512_i32_4 : BitVec 32 := 512#32
  let c0_i32_6 : BitVec 32 := 0#32
  let v23 : BitVec 1 := Scalar.cmpi .sgt c512_i32_4 c0_i32_6
  let v24 : BitVec 32 := Scalar.extui v23
  let c0_i32_7 : BitVec 32 := 0#32
  let v25 : BitVec 1 := Scalar.cmpi .slt c512_i32_4 c0_i32_7
  let v26 : BitVec 32 := Scalar.extui v25
  let v27 : BitVec 32 := Scalar.subi v24 v26
  let v28 : BitVec 1 := Scalar.cmpi .ne v22 v27
  let v29 : BitVec 32 := Scalar.remsi v16 c512_i32_4
  let c0_i32_8 : BitVec 32 := 0#32
  let v30 : BitVec 1 := Scalar.cmpi .ne v29 c0_i32_8
  let v31 : BitVec 1 := Scalar.andi v28 v30
  let v17 : BitVec 32 := Scalar.divsi v16 c512_i32_4
  let c1_i32_9 : BitVec 32 := 1#32
  let v32 : BitVec 32 := Scalar.subi v17 c1_i32_9
  let v33 : BitVec 32 := Scalar.select v31 v32 v17
  let c512_i32_54 : BitVec 32 := 512#32
  let v158 : BitVec 32 := Scalar.muli v33 c512_i32_54
  v158
def k0_mult7 (i : grid0.Coords) : BitVec 32 :=
  let arg1 : BitVec 32 := BitVec.ofNat 32 (i 1).val
  let c512_i32_82 : BitVec 32 := 512#32
  let v249 : BitVec 32 := Scalar.muli arg1 c512_i32_82
  v249
def k0_off11 (i : grid0.Coords) : Fin 3 → Nat :=
  let c0_83 : Index := 0#32
  let arg1 : BitVec 32 := BitVec.ofNat 32 (i 1).val
  let c512_i32_82 : BitVec 32 := 512#32
  let v249 : BitVec 32 := Scalar.muli arg1 c512_i32_82
  let v250 : BitVec 32 := v249
  let v251 : Index := Scalar.indexCast v250
  let c0_84 : Index := 0#32
  ![0, v251.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S2048x6144 : Shape := ⟨2, ![2048, 6144]⟩
abbrev S2048x2048 : Shape := ⟨2, ![2048, 2048]⟩
abbrev S2048x1024 : Shape := ⟨2, ![2048, 1024]⟩
abbrev S2048x8x128 : Shape := ⟨3, ![2048, 8, 128]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S8x128x2048 : Shape := ⟨3, ![8, 128, 2048]⟩
abbrev S8x2048x128 : Shape := ⟨3, ![8, 2048, 128]⟩
abbrev S1x2048x1024 : Shape := ⟨3, ![1, 2048, 1024]⟩
abbrev S3x2048x1024 : Shape := ⟨3, ![3, 2048, 1024]⟩
abbrev S6x2048x1024 : Shape := ⟨3, ![6, 2048, 1024]⟩

abbrev nBuf : Space → Nat
  | .hbm => 184
  | .vmem => 0
  | .smem => 0
  | _ => 0

abbrev hbmTy0_0 (i : Nat) : BufTy := match i % 128 with
  | 0 => ⟨S2048x6144, .bf16⟩
  | 1 => ⟨S2048x2048, .bf16⟩
  | 2 => ⟨S2048x6144, .f32⟩
  | 3 => ⟨S2048x1024, .f32⟩
  | 4 => ⟨S2048x8x128, .f32⟩
  | 5 => ⟨S2048x1024, .f32⟩
  | 6 => ⟨S2048x8x128, .f32⟩
  | 7 => ⟨S2048x1024, .f32⟩
  | 8 => ⟨S2048x8x128, .f32⟩
  | 9 => ⟨S2048x1024, .bf16⟩
  | 10 => ⟨S2048x1024, .f32⟩
  | 11 => ⟨S2048x8x128, .f32⟩
  | 12 => ⟨S8x2048x2048, .f32⟩
  | 13 => ⟨S_, .f32⟩
  | 14 => ⟨S8x2048x2048, .f32⟩
  | 15 => ⟨S8x2048x2048, .f32⟩
  | 16 => ⟨S2048, .i32⟩
  | 17 => ⟨S1x2048, .i32⟩
  | 18 => ⟨S2048, .i32⟩
  | 19 => ⟨S2048x1, .i32⟩
  | 20 => ⟨S2048x2048, .i32⟩
  | 21 => ⟨S2048x2048, .i32⟩
  | 22 => ⟨S2048x2048, .i1⟩
  | 23 => ⟨S8x2048x2048, .f32⟩
  | 24 => ⟨S8x2048x2048, .f32⟩
  | 25 => ⟨S_, .f32⟩
  | 26 => ⟨S8x2048x2048, .f32⟩
  | 27 => ⟨S8x2048x2048, .f32⟩
  | 28 => ⟨S8x2048x2048, .f32⟩
  | 29 => ⟨S8x2048x2048, .f32⟩
  | 30 => ⟨S8x2048x2048, .i1⟩
  | 31 => ⟨S8x2048x2048, .f32⟩
  | 32 => ⟨S8x2048x2048, .f32⟩
  | 33 => ⟨S8x2048x2048, .f32⟩
  | 34 => ⟨S8x2048x2048, .f32⟩
  | 35 => ⟨S8x2048x2048, .f32⟩
  | 36 => ⟨S8x2048x2048, .f32⟩
  | 37 => ⟨S8x2048x2048, .f32⟩
  | 38 => ⟨S8x2048x2048, .f32⟩
  | 39 => ⟨S_, .f32⟩
  | 40 => ⟨S8x2048x2048, .f32⟩
  | 41 => ⟨S8x2048x2048, .i1⟩
  | 42 => ⟨S_, .f32⟩
  | 43 => ⟨S8x2048x2048, .f32⟩
  | 44 => ⟨S8x2048x2048, .f32⟩
  | 45 => ⟨S_, .f32⟩
  | 46 => ⟨S8x2048x2048, .f32⟩
  | 47 => ⟨S8x2048x2048, .i1⟩
  | 48 => ⟨S_, .f32⟩
  | 49 => ⟨S8x2048x2048, .f32⟩
  | 50 => ⟨S8x2048x2048, .f32⟩
  | 51 => ⟨S8x2048x2048, .f32⟩
  | 52 => ⟨S8x2048x2048, .f32⟩
  | 53 => ⟨S_, .f32⟩
  | 54 => ⟨S_, .f32⟩
  | 55 => ⟨S_, .i1⟩
  | 56 => ⟨S_, .f32⟩
  | 57 => ⟨S_, .f32⟩
  | 58 => ⟨S_, .f32⟩
  | 59 => ⟨S_, .f32⟩
  | 60 => ⟨S8x2048x2048, .f32⟩
  | 61 => ⟨S8x2048x2048, .i1⟩
  | 62 => ⟨S_, .f32⟩
  | 63 => ⟨S8x2048x2048, .f32⟩
  | 64 => ⟨S8x2048x2048, .f32⟩
  | 65 => ⟨S8x2048x2048, .f32⟩
  | 66 => ⟨S8x2048x2048, .f32⟩
  | 67 => ⟨S8x2048x2048, .f32⟩
  | 68 => ⟨S_, .f32⟩
  | 69 => ⟨S8x2048x2048, .f32⟩
  | 70 => ⟨S8x2048x2048, .f32⟩
  | 71 => ⟨S8x2048x2048, .f32⟩
  | 72 => ⟨S_, .f32⟩
  | 73 => ⟨S_, .f32⟩
  | 74 => ⟨S8x2048x2048, .i1⟩
  | 75 => ⟨S8x2048x2048, .f32⟩
  | 76 => ⟨S8x2048x2048, .f32⟩
  | 77 => ⟨S_, .f32⟩
  | 78 => ⟨S8x2048x2048, .f32⟩
  | 79 => ⟨S_, .f32⟩
  | 80 => ⟨S_, .f32⟩
  | 81 => ⟨S8x2048x2048, .f32⟩
  | 82 => ⟨S8x2048x2048, .f32⟩
  | 83 => ⟨S8x2048x2048, .f32⟩
  | 84 => ⟨S_, .f32⟩
  | 85 => ⟨S8x2048x2048, .f32⟩
  | 86 => ⟨S8x2048x2048, .f32⟩
  | 87 => ⟨S8x2048x2048, .f32⟩
  | 88 => ⟨S8x2048x2048, .f32⟩
  | 89 => ⟨S8x2048x2048, .i1⟩
  | 90 => ⟨S8x2048x2048, .f32⟩
  | 91 => ⟨S8x2048x2048, .f32⟩
  | 92 => ⟨S8x2048x2048, .f32⟩
  | 93 => ⟨S8x2048x2048, .f32⟩
  | 94 => ⟨S8x2048x2048, .f32⟩
  | 95 => ⟨S8x2048x2048, .f32⟩
  | 96 => ⟨S8x2048x2048, .f32⟩
  | 97 => ⟨S8x2048x2048, .f32⟩
  | 98 => ⟨S_, .f32⟩
  | 99 => ⟨S8x2048x2048, .f32⟩
  | 100 => ⟨S8x2048x2048, .i1⟩
  | 101 => ⟨S_, .f32⟩
  | 102 => ⟨S8x2048x2048, .f32⟩
  | 103 => ⟨S8x2048x2048, .f32⟩
  | 104 => ⟨S_, .f32⟩
  | 105 => ⟨S8x2048x2048, .f32⟩
  | 106 => ⟨S8x2048x2048, .i1⟩
  | 107 => ⟨S_, .f32⟩
  | 108 => ⟨S8x2048x2048, .f32⟩
  | 109 => ⟨S8x2048x2048, .f32⟩
  | 110 => ⟨S8x2048x2048, .f32⟩
  | 111 => ⟨S8x2048x2048, .f32⟩
  | 112 => ⟨S_, .f32⟩
  | 113 => ⟨S_, .f32⟩
  | 114 => ⟨S_, .i1⟩
  | 115 => ⟨S_, .f32⟩
  | 116 => ⟨S_, .f32⟩
  | 117 => ⟨S_, .f32⟩
  | 118 => ⟨S_, .f32⟩
  | 119 => ⟨S8x2048x2048, .f32⟩
  | 120 => ⟨S8x2048x2048, .i1⟩
  | 121 => ⟨S_, .f32⟩
  | 122 => ⟨S8x2048x2048, .f32⟩
  | 123 => ⟨S8x2048x2048, .f32⟩
  | 124 => ⟨S8x2048x2048, .f32⟩
  | 125 => ⟨S8x2048x2048, .f32⟩
  | 126 => ⟨S8x2048x2048, .f32⟩
  | 127 => ⟨S_, .f32⟩
  | _ => ⟨S2048x6144, .bf16⟩

abbrev hbmTy0_1 (i : Nat) : BufTy := match i % 128 with
  | 0 => ⟨S8x2048x2048, .f32⟩
  | 1 => ⟨S8x2048x2048, .f32⟩
  | 2 => ⟨S8x2048x2048, .f32⟩
  | 3 => ⟨S8x2048x2048, .f32⟩
  | 4 => ⟨S8x2048x2048, .f32⟩
  | 5 => ⟨S_, .f32⟩
  | 6 => ⟨S_, .f32⟩
  | 7 => ⟨S8x2048x2048, .i1⟩
  | 8 => ⟨S8x2048x2048, .f32⟩
  | 9 => ⟨S8x2048x2048, .f32⟩
  | 10 => ⟨S_, .f32⟩
  | 11 => ⟨S8x2048x2048, .f32⟩
  | 12 => ⟨S8x128x2048, .f32⟩
  | 13 => ⟨S2048x8x128, .f32⟩
  | 14 => ⟨S8x128x2048, .f32⟩
  | 15 => ⟨S8x2048x2048, .f32⟩
  | 16 => ⟨S8x128x2048, .f32⟩
  | 17 => ⟨S2048x8x128, .f32⟩
  | 18 => ⟨S_, .f32⟩
  | 19 => ⟨S8x2048x2048, .f32⟩
  | 20 => ⟨S8x2048x2048, .f32⟩
  | 21 => ⟨S8x2048x2048, .f32⟩
  | 22 => ⟨S8x2048x2048, .f32⟩
  | 23 => ⟨S8x2048x2048, .f32⟩
  | 24 => ⟨S8x2048x2048, .f32⟩
  | 25 => ⟨S8x2048x2048, .f32⟩
  | 26 => ⟨S_, .f32⟩
  | 27 => ⟨S_, .f32⟩
  | 28 => ⟨S8x2048x2048, .f32⟩
  | 29 => ⟨S8x2048x2048, .f32⟩
  | 30 => ⟨S_, .f32⟩
  | 31 => ⟨S8x2048x2048, .f32⟩
  | 32 => ⟨S8x2048x2048, .f32⟩
  | 33 => ⟨S8x2048x2048, .f32⟩
  | 34 => ⟨S8x2048x2048, .f32⟩
  | 35 => ⟨S8x2048x2048, .f32⟩
  | 36 => ⟨S8x2048x2048, .f32⟩
  | 37 => ⟨S8x2048x2048, .f32⟩
  | 38 => ⟨S_, .f32⟩
  | 39 => ⟨S8x2048x2048, .f32⟩
  | 40 => ⟨S8x2048x2048, .f32⟩
  | 41 => ⟨S8x2048x128, .f32⟩
  | 42 => ⟨S2048x8x128, .f32⟩
  | 43 => ⟨S8x2048x128, .f32⟩
  | 44 => ⟨S2048x8x128, .f32⟩
  | 45 => ⟨S2048x1024, .f32⟩
  | 46 => ⟨S2048x1024, .f32⟩
  | 47 => ⟨S2048x1024, .f32⟩
  | 48 => ⟨S1x2048x1024, .f32⟩
  | 49 => ⟨S1x2048x1024, .f32⟩
  | 50 => ⟨S1x2048x1024, .f32⟩
  | 51 => ⟨S3x2048x1024, .f32⟩
  | 52 => ⟨S_, .f32⟩
  | 53 => ⟨S3x2048x1024, .f32⟩
  | 54 => ⟨S6x2048x1024, .f32⟩
  | 55 => ⟨S6x2048x1024, .bf16⟩
  | _ => ⟨S2048x6144, .bf16⟩

abbrev hbmTy (i : Nat) : BufTy := match i / 128 with
  | 0 => hbmTy0_0 i
  | 1 => hbmTy0_1 i
  | _ => ⟨S2048x6144, .bf16⟩

abbrev bufTy : (tb : Table) → Fin (tcTables nBuf tb) → BufTy
  | .hbm, ⟨i, _⟩ => hbmTy i
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1_0 : Ref sig .tc := ⟨.hbm, 38, rfl⟩
abbrev main_call0_call0_cst_0 : Ref sig .tc := ⟨.hbm, 39, rfl⟩
abbrev main_call0_call0_v13 : Ref sig .tc := ⟨.hbm, 40, rfl⟩
abbrev main_call0_call0_v14 : Ref sig .tc := ⟨.hbm, 41, rfl⟩
abbrev main_call0_call0_cst_1 : Ref sig .tc := ⟨.hbm, 42, rfl⟩
abbrev main_call0_call0_v15 : Ref sig .tc := ⟨.hbm, 43, rfl⟩
abbrev main_call0_call0_v16 : Ref sig .tc := ⟨.hbm, 44, rfl⟩
abbrev main_call0_call0_cst_2 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_cst_3 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_v21 : Ref sig .tc := ⟨.hbm, 51, rfl⟩
abbrev main_v21_1 : Ref sig .tc := ⟨.hbm, 52, rfl⟩
abbrev main_call0_call0_cst_4 : Ref sig .tc := ⟨.hbm, 53, rfl⟩
abbrev main_call0_call0_cst_5 : Ref sig .tc := ⟨.hbm, 54, rfl⟩
abbrev main_call0_call0_v23 : Ref sig .tc := ⟨.hbm, 55, rfl⟩
abbrev main_call0_call0_cst_6 : Ref sig .tc := ⟨.hbm, 56, rfl⟩
abbrev main_call0_call0_cst_7 : Ref sig .tc := ⟨.hbm, 57, rfl⟩
abbrev main_call0_call0_v24 : Ref sig .tc := ⟨.hbm, 58, rfl⟩
abbrev main_call0_call0_cst_8 : Ref sig .tc := ⟨.hbm, 59, rfl⟩
abbrev main_call0_call0_v25 : Ref sig .tc := ⟨.hbm, 60, rfl⟩
abbrev main_call0_call0_v26 : Ref sig .tc := ⟨.hbm, 61, rfl⟩
abbrev main_call0_call0_cst_9 : Ref sig .tc := ⟨.hbm, 62, rfl⟩
abbrev main_call0_call0_v27 : Ref sig .tc := ⟨.hbm, 63, rfl⟩
abbrev main_call0_call0_v28 : Ref sig .tc := ⟨.hbm, 64, rfl⟩
abbrev main_call0_call0_v29 : Ref sig .tc := ⟨.hbm, 65, rfl⟩
abbrev main_call0_call0_v30 : Ref sig .tc := ⟨.hbm, 66, rfl⟩
abbrev main_call0_call0_v31 : Ref sig .tc := ⟨.hbm, 67, rfl⟩
abbrev main_call0_call0_cst_10 : Ref sig .tc := ⟨.hbm, 68, rfl⟩
abbrev main_call0_call0_v32 : Ref sig .tc := ⟨.hbm, 69, rfl⟩
abbrev main_v21_2 : Ref sig .tc := ⟨.hbm, 70, rfl⟩
abbrev main_v21_0 : Ref sig .tc := ⟨.hbm, 71, rfl⟩
abbrev main_cst_0 : Ref sig .tc := ⟨.hbm, 72, rfl⟩
abbrev main_call1_v0 : Ref sig .tc := ⟨.hbm, 73, rfl⟩
abbrev main_v22_1 : Ref sig .tc := ⟨.hbm, 74, rfl⟩
abbrev main_call1_v2 : Ref sig .tc := ⟨.hbm, 75, rfl⟩
abbrev main_v22_0 : Ref sig .tc := ⟨.hbm, 76, rfl⟩
abbrev main_call1_cst : Ref sig .tc := ⟨.hbm, 77, rfl⟩
abbrev main_v22_2 : Ref sig .tc := ⟨.hbm, 78, rfl⟩
abbrev main_call2_cst : Ref sig .tc := ⟨.hbm, 79, rfl⟩
abbrev main_call2_v0 : Ref sig .tc := ⟨.hbm, 80, rfl⟩
abbrev main_v23 : Ref sig .tc := ⟨.hbm, 81, rfl⟩
abbrev main_v24 : Ref sig .tc := ⟨.hbm, 82, rfl⟩
abbrev main_call3_v0 : Ref sig .tc := ⟨.hbm, 83, rfl⟩
abbrev main_call3_call0_cst : Ref sig .tc := ⟨.hbm, 84, rfl⟩
abbrev main_call3_call0_v0 : Ref sig .tc := ⟨.hbm, 85, rfl⟩
abbrev main_call3_call0_v1 : Ref sig .tc := ⟨.hbm, 86, rfl⟩
abbrev main_call3_call0_v2 : Ref sig .tc := ⟨.hbm, 87, rfl⟩
abbrev main_call3_call0_v3 : Ref sig .tc := ⟨.hbm, 88, rfl⟩
abbrev main_call3_call0_v4 : Ref sig .tc := ⟨.hbm, 89, rfl⟩
abbrev main_call3_call0_v5 : Ref sig .tc := ⟨.hbm, 90, rfl⟩
abbrev main_call3_call0_v6 : Ref sig .tc := ⟨.hbm, 91, rfl⟩
abbrev main_call3_call0_v7 : Ref sig .tc := ⟨.hbm, 92, rfl⟩
abbrev main_call3_call0_v8 : Ref sig .tc := ⟨.hbm, 93, rfl⟩
abbrev main_call3_call0_v9 : Ref sig .tc := ⟨.hbm, 94, rfl⟩
abbrev main_call3_call0_v10 : Ref sig .tc := ⟨.hbm, 95, rfl⟩
abbrev main_call3_call0_v11 : Ref sig .tc := ⟨.hbm, 96, rfl⟩
abbrev main_call3_v1_0 : Ref sig .tc := ⟨.hbm, 97, rfl⟩
abbrev main_call3_call0_cst_0 : Ref sig .tc := ⟨.hbm, 98, rfl⟩
abbrev main_call3_call0_v13 : Ref sig .tc := ⟨.hbm, 99, rfl⟩
abbrev main_call3_call0_v14 : Ref sig .tc := ⟨.hbm, 100, rfl⟩
abbrev main_call3_call0_cst_1 : Ref sig .tc := ⟨.hbm, 101, rfl⟩
abbrev main_call3_call0_v15 : Ref sig .tc := ⟨.hbm, 102, rfl⟩
abbrev main_call3_call0_v16 : Ref sig .tc := ⟨.hbm, 103, rfl⟩
abbrev main_call3_call0_cst_2 : Ref sig .tc := ⟨.hbm, 104, rfl⟩
abbrev main_call3_call0_v17 : Ref sig .tc := ⟨.hbm, 105, rfl⟩
abbrev main_call3_call0_v18 : Ref sig .tc := ⟨.hbm, 106, rfl⟩
abbrev main_call3_call0_cst_3 : Ref sig .tc := ⟨.hbm, 107, rfl⟩
abbrev main_call3_call0_v19 : Ref sig .tc := ⟨.hbm, 108, rfl⟩
abbrev main_call3_call0_v20 : Ref sig .tc := ⟨.hbm, 109, rfl⟩
abbrev main_call3_call0_v21 : Ref sig .tc := ⟨.hbm, 110, rfl⟩
abbrev main_v25_1 : Ref sig .tc := ⟨.hbm, 111, rfl⟩
abbrev main_call3_call0_cst_4 : Ref sig .tc := ⟨.hbm, 112, rfl⟩
abbrev main_call3_call0_cst_5 : Ref sig .tc := ⟨.hbm, 113, rfl⟩
abbrev main_call3_call0_v23 : Ref sig .tc := ⟨.hbm, 114, rfl⟩
abbrev main_call3_call0_cst_6 : Ref sig .tc := ⟨.hbm, 115, rfl⟩
abbrev main_call3_call0_cst_7 : Ref sig .tc := ⟨.hbm, 116, rfl⟩
abbrev main_call3_call0_v24 : Ref sig .tc := ⟨.hbm, 117, rfl⟩
abbrev main_call3_call0_cst_8 : Ref sig .tc := ⟨.hbm, 118, rfl⟩
abbrev main_call3_call0_v25 : Ref sig .tc := ⟨.hbm, 119, rfl⟩
abbrev main_call3_call0_v26 : Ref sig .tc := ⟨.hbm, 120, rfl⟩
abbrev main_call3_call0_cst_9 : Ref sig .tc := ⟨.hbm, 121, rfl⟩
abbrev main_call3_call0_v27 : Ref sig .tc := ⟨.hbm, 122, rfl⟩
abbrev main_call3_call0_v28 : Ref sig .tc := ⟨.hbm, 123, rfl⟩
abbrev main_call3_call0_v29 : Ref sig .tc := ⟨.hbm, 124, rfl⟩
abbrev main_call3_call0_v30 : Ref sig .tc := ⟨.hbm, 125, rfl⟩
abbrev main_call3_call0_v31 : Ref sig .tc := ⟨.hbm, 126, rfl⟩
abbrev main_call3_call0_cst_10 : Ref sig .tc := ⟨.hbm, 127, rfl⟩
abbrev main_call3_call0_v32 : Ref sig .tc := ⟨.hbm, 128, rfl⟩
abbrev main_v25_2 : Ref sig .tc := ⟨.hbm, 129, rfl⟩
abbrev main_v25_0 : Ref sig .tc := ⟨.hbm, 130, rfl⟩
abbrev main_v26 : Ref sig .tc := ⟨.hbm, 131, rfl⟩
abbrev main_v27 : Ref sig .tc := ⟨.hbm, 132, rfl⟩
abbrev main_cst_1 : Ref sig .tc := ⟨.hbm, 133, rfl⟩
abbrev main_call4_v0 : Ref sig .tc := ⟨.hbm, 134, rfl⟩
abbrev main_v28_1 : Ref sig .tc := ⟨.hbm, 135, rfl⟩
abbrev main_call4_v2 : Ref sig .tc := ⟨.hbm, 136, rfl⟩
abbrev main_v28_0 : Ref sig .tc := ⟨.hbm, 137, rfl⟩
abbrev main_call4_cst : Ref sig .tc := ⟨.hbm, 138, rfl⟩
abbrev main_v28_2 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_call5_cst : Ref sig .tc := ⟨.hbm, 146, rfl⟩
abbrev main_call5_v0 : Ref sig .tc := ⟨.hbm, 147, rfl⟩
abbrev main_v35 : Ref sig .tc := ⟨.hbm, 148, rfl⟩
abbrev main_v36 : Ref sig .tc := ⟨.hbm, 149, rfl⟩
abbrev main_call6_v0 : Ref sig .tc := ⟨.hbm, 150, rfl⟩
abbrev main_call6_v1 : Ref sig .tc := ⟨.hbm, 151, rfl⟩
abbrev main_v37 : Ref sig .tc := ⟨.hbm, 152, rfl⟩
abbrev main_v38 : Ref sig .tc := ⟨.hbm, 153, rfl⟩
abbrev main_call7_cst : Ref sig .tc := ⟨.hbm, 154, rfl⟩
abbrev main_call7_v0 : Ref sig .tc := ⟨.hbm, 155, rfl⟩
abbrev main_v39 : Ref sig .tc := ⟨.hbm, 156, rfl⟩
abbrev main_v40 : Ref sig .tc := ⟨.hbm, 157, rfl⟩
abbrev main_call8_cst : Ref sig .tc := ⟨.hbm, 158, rfl⟩
abbrev main_call8_v0 : Ref sig .tc := ⟨.hbm, 159, rfl⟩
abbrev main_v41 : Ref sig .tc := ⟨.hbm, 160, rfl⟩
abbrev main_call9_v0 : Ref sig .tc := ⟨.hbm, 161, rfl⟩
abbrev main_call9_v1 : Ref sig .tc := ⟨.hbm, 162, rfl⟩
abbrev main_v42 : Ref sig .tc := ⟨.hbm, 163, rfl⟩
abbrev main_v43 : Ref sig .tc := ⟨.hbm, 164, rfl⟩
abbrev main_v44 : Ref sig .tc := ⟨.hbm, 165, rfl⟩
abbrev main_cst_2 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_cst_3 : Ref sig .tc := ⟨.hbm, 180, rfl⟩
abbrev main_v58 : Ref sig .tc := ⟨.hbm, 181, rfl⟩
abbrev main_v59 : Ref sig .tc := ⟨.hbm, 182, rfl⟩
abbrev main_v60 : Ref sig .tc := ⟨.hbm, 183, rfl⟩

abbrev nD : Nat := 1
abbrev τ : Topo := Topo.v7x

variable {F : FTy → Type} [FloatOps F]
-- ==== UpDw.lean ====
abbrev S2048x2048 : Shape := ⟨2, ![2048, 2048]⟩
abbrev S2x2048x5632 : Shape := ⟨3, ![2, 2048, 5632]⟩
abbrev S4096x5632 : Shape := ⟨2, ![4096, 5632]⟩
abbrev S16384x1408 : Shape := ⟨2, ![16384, 1408]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2x2048x5632, .bf16⟩
  | .hbm, ⟨2, _⟩ => ⟨S4096x5632, .bf16⟩
  | .hbm, ⟨3, _⟩ => ⟨S16384x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v18.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg0
  let c0_i32 : BitVec 32 := 0#32
  ![v1.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== UpDwRefIdeal.lean ====
abbrev S2048x2048 : Shape := ⟨2, ![2048, 2048]⟩
abbrev S2x2048x5632 : Shape := ⟨3, ![2, 2048, 5632]⟩
abbrev S1x2048x5632 : Shape := ⟨3, ![1, 2048, 5632]⟩
abbrev S2048x5632 : Shape := ⟨2, ![2048, 5632]⟩
abbrev S2048x11264 : Shape := ⟨2, ![2048, 11264]⟩
abbrev S_ : Shape := ⟨0, ![]⟩
abbrev S11264x2048 : Shape := ⟨2, ![11264, 2048]⟩
abbrev S2048x8x1408 : Shape := ⟨3, ![2048, 8, 1408]⟩
abbrev S8x2048x1408 : Shape := ⟨3, ![8, 2048, 1408]⟩
abbrev S16384x1408 : Shape := ⟨2, ![16384, 1408]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2x2048x5632, .bf16⟩
  | .hbm, ⟨2, _⟩ => ⟨S1x2048x5632, .bf16⟩
  | .hbm, ⟨3, _⟩ => ⟨S2048x5632, .bf16⟩
  | .hbm, ⟨4, _⟩ => ⟨S1x2048x5632, .bf16⟩
  | .hbm, ⟨5, _⟩ => ⟨S2048x5632, .bf16⟩
  | .hbm, ⟨6, _⟩ => ⟨S2048x11264, .bf16⟩
  | .hbm, ⟨7, _⟩ => ⟨S_, .f32⟩
  | .hbm, ⟨8, _⟩ => ⟨S2048x11264, .f32⟩
  | .hbm, ⟨9, _⟩ => ⟨S2048x2048, .f32⟩
  | .hbm, ⟨10, _⟩ => ⟨S2048x11264, .f32⟩
  | .hbm, ⟨11, _⟩ => ⟨S2048x11264, .f32⟩
  | .hbm, ⟨12, _⟩ => ⟨S11264x2048, .f32⟩
  | .hbm, ⟨13, _⟩ => ⟨S2048x11264, .f32⟩
  | .hbm, ⟨14, _⟩ => ⟨S2048x8x1408, .f32⟩
  | .hbm, ⟨15, _⟩ => ⟨S8x2048x1408, .f32⟩
  | .hbm, ⟨16, _⟩ => ⟨S16384x1408, .f32⟩
  | .hbm, ⟨17, _⟩ => ⟨S16384x1408, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== UpMm.lean ====
abbrev S2048x2048 : Shape := ⟨2, ![2048, 2048]⟩
abbrev S16384x1408 : Shape := ⟨2, ![16384, 1408]⟩
abbrev S2048x11264 : Shape := ⟨2, ![2048, 11264]⟩
abbrev S1024x2048 : Shape := ⟨2, ![1024, 2048]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S16384x1408, .bf16⟩
  | .hbm, ⟨2, _⟩ => ⟨S2048x11264, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 8, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg3
  let c0_i32 : BitVec 32 := 0#32
  ![v1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== UpMmRefIdeal.lean ====
abbrev S2048x2048 : Shape := ⟨2, ![2048, 2048]⟩
abbrev S16384x1408 : Shape := ⟨2, ![16384, 1408]⟩
abbrev S8x2048x1408 : Shape := ⟨3, ![8, 2048, 1408]⟩
abbrev S2048x8x1408 : Shape := ⟨3, ![2048, 8, 1408]⟩
abbrev S2048x11264 : Shape := ⟨2, ![2048, 11264]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S16384x1408, .bf16⟩
  | .hbm, ⟨2, _⟩ => ⟨S8x2048x1408, .bf16⟩
  | .hbm, ⟨3, _⟩ => ⟨S2048x8x1408, .bf16⟩
  | .hbm, ⟨4, _⟩ => ⟨S2048x11264, .bf16⟩
  | .hbm, ⟨5, _⟩ => ⟨S2048x2048, .f32⟩
  | .hbm, ⟨6, _⟩ => ⟨S2048x11264, .f32⟩
  | .hbm, ⟨7, _⟩ => ⟨S2048x11264, .f32⟩
  | .hbm, ⟨8, _⟩ => ⟨S2048x11264, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== DownMm.lean ====
abbrev S2048x5632 : Shape := ⟨2, ![2048, 5632]⟩
abbrev S5632x2048 : Shape := ⟨2, ![5632, 2048]⟩
abbrev S2048x2048 : Shape := ⟨2, ![2048, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![2, 1, 4, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg3
  let c0_i32 : BitVec 32 := 0#32
  ![v1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg1 c4_i32
  let v1 : BitVec 32 := Scalar.addi v0 arg2
  let c0_i32 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg1 c4_i32
  let v1 : BitVec 32 := Scalar.addi v0 arg2
  let c0_i32 : BitVec 32 := 0#32
  ![arg0.toNat, v1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== DownMmRefIdeal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x5632, .f32⟩
  | .hbm, ⟨4, _⟩ => ⟨S5632x2048, .f32⟩
  | .hbm, ⟨5, _⟩ => ⟨S2048x2048, .f32⟩
  | .hbm, ⟨6, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DownDx.lean ====
abbrev S2048x2048 : Shape := ⟨2, ![2048, 2048]⟩
abbrev S5632x2048 : Shape := ⟨2, ![5632, 2048]⟩
abbrev S2048x5632 : Shape := ⟨2, ![2048, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 11, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg2 c1_i32
  let v1 : BitVec 32 := Scalar.addi v0 arg3
  let c0_i32 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c11_i32 : BitVec 32 := 11#32
  let v0 : BitVec 32 := Scalar.muli arg2 c11_i32
  let v1 : BitVec 32 := Scalar.addi v0 arg1
  let c0_i32 : BitVec 32 := 0#32
  ![v1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== DownDxRefIdeal.lean ====
abbrev S2048x2048 : Shape := ⟨2, ![2048, 2048]⟩
abbrev S5632x2048 : Shape := ⟨2, ![5632, 2048]⟩
abbrev S_ : Shape := ⟨0, ![]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S_, .f32⟩
  | .hbm, ⟨3, _⟩ => ⟨S2048x5632, .f32⟩
  | .hbm, ⟨4, _⟩ => ⟨S5632x2048, .f32⟩
  | .hbm, ⟨5, _⟩ => ⟨S2048x2048, .f32⟩
  | .hbm, ⟨6, _⟩ => ⟨S2048x2048, .f32⟩
  | .hbm, ⟨7, _⟩ => ⟨S2048x5632, .f32⟩
  | .hbm, ⟨8, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownDw.lean ====
abbrev S2048x5632 : Shape := ⟨2, ![2048, 5632]⟩
abbrev S2048x2048 : Shape := ⟨2, ![2048, 2048]⟩
abbrev S5632x2048 : Shape := ⟨2, ![5632, 2048]⟩
abbrev S2048x512 : Shape := ⟨2, ![2048, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.muli arg1 c11_i32
  let v1 : BitVec 32 := Scalar.addi v0 arg0
  let c0_i32 : BitVec 32 := 0#32
  ![v1.toNat, arg2.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== DownDwRefIdeal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S_, .f32⟩
  | .hbm, ⟨3, _⟩ => ⟨S5632x2048, .f32⟩
  | .hbm, ⟨4, _⟩ => ⟨S2048x5632, .f32⟩
  | .hbm, ⟨5, _⟩ => ⟨S2048x2048, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpDx.lean ====
abbrev S2x2048x5632 : Shape := ⟨3, ![2, 2048, 5632]⟩
abbrev S16384x1408 : Shape := ⟨2, ![16384, 1408]⟩
abbrev S4096x5632 : Shape := ⟨2, ![4096, 5632]⟩
abbrev S2048x2048 : Shape := ⟨2, ![2048, 2048]⟩
abbrev S1024x1408 : Shape := ⟨2, ![1024, 1408]⟩
abbrev S2048x1408 : Shape := ⟨2, ![2048, 1408]⟩
abbrev S1024x2048 : Shape := ⟨2, ![1024, 2048]⟩

abbrev nBuf : Space → Nat
  | .hbm => 4
  | .vmem => 7
  | .smem => 0
  | _ => 0

abbrev bufTy : (tb : Table) → Fin (tcTables nBuf tb) → BufTy
  | .hbm, ⟨0, _⟩ => ⟨S2x2048x5632, .bf16⟩
  | .hbm, ⟨1, _⟩ => ⟨S16384x1408, .bf16⟩
  | .hbm, ⟨2, _⟩ => ⟨S4096x5632, .bf16⟩
  | .hbm, ⟨3, _⟩ => ⟨S2048x2048, .bf16⟩
  | .local _ .vmem, ⟨0, _⟩ => ⟨S1024x1408, .bf16⟩
  | .local _ .vmem, ⟨1, _⟩ => ⟨S1024x1408, .bf16⟩
  | .local _ .vmem, ⟨2, _⟩ => ⟨S2048x1408, .bf16⟩
  | .local _ .vmem, ⟨3, _⟩ => ⟨S2048x1408, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S2x2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 1, 8, 1], ![false, false, false, false]⟩

def k0_cond3 (i : grid0.Coords) : BitVec 1 :=
  let arg2 : BitVec 32 := BitVec.ofNat 32 (i 2).val
  let c7_i32 : BitVec 32 := 7#32
  let v7 : BitVec 1 := Scalar.cmpi .eq arg2 c7_i32
  let arg3 : BitVec 32 := BitVec.ofNat 32 (i 3).val
  let c0_i32_4 : BitVec 32 := 0#32
  let v8 : BitVec 1 := Scalar.cmpi .eq arg3 c0_i32_4
  let v9 : BitVec 1 := Scalar.andi v7 v8
  let v15 : BitVec 32 := Scalar.extui v9
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg2 c1_i32
  let v1 : BitVec 32 := Scalar.addi v0 arg3
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c2_i32 : BitVec 32 := 2#32
  let v29 : BitVec 32 := Scalar.muli v18 c2_i32
  let v30 : BitVec 32 := Scalar.addi v29 arg0
  let c0_i32_11 : BitVec 32 := 0#32
  ![v30.toNat, v28.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg2 c1_i32
  let v1 : BitVec 32 := Scalar.addi v0 arg1
  let c0_i32 : BitVec 32 := 0#32
  ![v1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== UpDxRefIdeal.lean ====
abbrev S2x2048x5632 : Shape := ⟨3, ![2, 2048, 5632]⟩
abbrev S16384x1408 : Shape := ⟨2, ![16384, 1408]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S1x2048x5632 : Shape := ⟨3, ![1, 2048, 5632]⟩
abbrev S2048x5632 : Shape := ⟨2, ![2048, 5632]⟩
abbrev S_ : Shape := ⟨0, ![]⟩
abbrev S2048x2048 : Shape := ⟨2, ![2048, 2048]⟩

abbrev nBuf : Space → Nat
  | .hbm => 17
  | .vmem => 0
  | .smem => 0
  | _ => 0

abbrev bufTy : (tb : Table) → Fin (tcTables nBuf tb) → BufTy
  | .hbm, ⟨0, _⟩ => ⟨S2x2048x5632, .bf16⟩
  | .hbm, ⟨1, _⟩ => ⟨S16384x1408, .bf16⟩
  | .hbm, ⟨2, _⟩ => ⟨S8x2048x1408, .bf16⟩
  | .hbm, ⟨3, _⟩ => ⟨S2048x8x1408, .bf16⟩
  | .hbm, ⟨4, _⟩ => ⟨S2048x11264, .bf16⟩
  | .hbm, ⟨5, _⟩ => ⟨S1x2048x5632, .bf16⟩
  | .hbm, ⟨6, _⟩ => ⟨S2048x5632, .bf16⟩
  | .hbm, ⟨7, _⟩ => ⟨S1x2048x5632, .bf16⟩
  | .hbm, ⟨8, _⟩ => ⟨S2048x5632, .bf16⟩
  | .hbm, ⟨9, _⟩ => ⟨S2048x11264, .bf16⟩
  | .hbm, ⟨10, _⟩ => ⟨S_, .f32⟩
  | .hbm, ⟨11, _⟩ => ⟨S2048x2048, .f32⟩
  | .hbm, ⟨12, _⟩ => ⟨S2048x11264, .f32⟩
  | .hbm, ⟨13, _⟩ => ⟨S2048x11264, .f32⟩
  | .hbm, ⟨14, _⟩ => ⟨S2048x11264, .f32⟩
  | .hbm, ⟨15, _⟩ => ⟨S2048x2048, .f32⟩
  | .hbm, ⟨16, _⟩ => ⟨S2048x2048, .bf16⟩
  | _, _ => ⟨S2x2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== In0Mm.lean ====
abbrev S2048x2048 : Shape := ⟨2, ![2048, 2048]⟩
abbrev S16384x768 : Shape := ⟨2, ![16384, 768]⟩
abbrev S2048x6144 : Shape := ⟨2, ![2048, 6144]⟩
abbrev S1024x2048 : Shape := ⟨2, ![1024, 2048]⟩
abbrev S2048x768 : Shape := ⟨2, ![2048, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S16384x768, .bf16⟩
  | .hbm, ⟨2, _⟩ => ⟨S2048x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .bf16⟩
  | .local _ .vmem, ⟨5, _⟩ => ⟨S1024x768, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 8, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg3
  let c0_i32 : BitVec 32 := 0#32
  ![v1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== In0MmRefIdeal.lean ====
abbrev S2048x2048 : Shape := ⟨2, ![2048, 2048]⟩
abbrev S16384x768 : Shape := ⟨2, ![16384, 768]⟩
abbrev S8x2048x768 : Shape := ⟨3, ![8, 2048, 768]⟩
abbrev S2048x8x768 : Shape := ⟨3, ![2048, 8, 768]⟩
abbrev S2048x6144 : Shape := ⟨2, ![2048, 6144]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S16384x768, .bf16⟩
  | .hbm, ⟨2, _⟩ => ⟨S8x2048x768, .bf16⟩
  | .hbm, ⟨3, _⟩ => ⟨S2048x8x768, .bf16⟩
  | .hbm, ⟨4, _⟩ => ⟨S2048x6144, .bf16⟩
  | .hbm, ⟨5, _⟩ => ⟨S2048x2048, .f32⟩
  | .hbm, ⟨6, _⟩ => ⟨S2048x6144, .f32⟩
  | .hbm, ⟨7, _⟩ => ⟨S2048x6144, .f32⟩
  | .hbm, ⟨8, _⟩ => ⟨S2048x6144, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== In0Dw.lean ====
abbrev S2048x2048 : Shape := ⟨2, ![2048, 2048]⟩
abbrev S6x2048x1024 : Shape := ⟨3, ![6, 2048, 1024]⟩
abbrev S12288x1024 : Shape := ⟨2, ![12288, 1024]⟩
abbrev S16384x768 : Shape := ⟨2, ![16384, 768]⟩
abbrev S2048x1024 : Shape := ⟨2, ![2048, 1024]⟩
abbrev S2048x256 : Shape := ⟨2, ![2048, 256]⟩
abbrev S1024x768 : Shape := ⟨2, ![1024, 768]⟩
abbrev S2048x768 : Shape := ⟨2, ![2048, 768]⟩

abbrev nBuf : Space → Nat
  | .hbm => 4
  | .vmem => 10
  | .smem => 0
  | _ => 0

abbrev bufTy : (tb : Table) → Fin (tcTables nBuf tb) → BufTy
  | .hbm, ⟨0, _⟩ => ⟨S2048x2048, .bf16⟩
  | .hbm, ⟨1, _⟩ => ⟨S6x2048x1024, .bf16⟩
  | .hbm, ⟨2, _⟩ => ⟨S12288x1024, .bf16⟩
  | .hbm, ⟨3, _⟩ => ⟨S16384x768, .bf16⟩
  | .local _ .vmem, ⟨0, _⟩ => ⟨S2048x1024, .bf16⟩
  | .local _ .vmem, ⟨1, _⟩ => ⟨S2048x1024, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S1024x768, .bf16⟩
  | .local _ .vmem, ⟨9, _⟩ => ⟨S1024x768, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg1 c3_i32
  let c0_i32 : BitVec 32 := 0#32
  let v1 : BitVec 32 := Scalar.addi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v18.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg1 c3_i32
  let c1_i32 : BitVec 32 := 1#32
  let v1 : BitVec 32 := Scalar.addi v0 c1_i32
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v18.toNat, v28.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg1 c3_i32
  let c2_i32 : BitVec 32 := 2#32
  let v1 : BitVec 32 := Scalar.addi v0 c2_i32
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  ![v18.toNat, v28.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg0
  let c0_i32 : BitVec 32 := 0#32
  ![v1.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== In0DwRefIdeal.lean ====
abbrev S2048x2048 : Shape := ⟨2, ![2048, 2048]⟩
abbrev S6x2048x1024 : Shape := ⟨3, ![6, 2048, 1024]⟩
abbrev S1x2048x1024 : Shape := ⟨3, ![1, 2048, 1024]⟩
abbrev S2048x1024 : Shape := ⟨2, ![2048, 1024]⟩
abbrev S2048x6144 : Shape := ⟨2, ![2048, 6144]⟩
abbrev S_ : Shape := ⟨0, ![]⟩
abbrev S6144x2048 : Shape := ⟨2, ![6144, 2048]⟩
abbrev S2048x8x768 : Shape := ⟨3, ![2048, 8, 768]⟩
abbrev S8x2048x768 : Shape := ⟨3, ![8, 2048, 768]⟩
abbrev S16384x768 : Shape := ⟨2, ![16384, 768]⟩

abbrev nBuf : Space → Nat
  | .hbm => 26
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S6x2048x1024, .bf16⟩
  | .hbm, ⟨2, _⟩ => ⟨S1x2048x1024, .bf16⟩
  | .hbm, ⟨3, _⟩ => ⟨S2048x1024, .bf16⟩
  | .hbm, ⟨4, _⟩ => ⟨S1x2048x1024, .bf16⟩
  | .hbm, ⟨5, _⟩ => ⟨S2048x1024, .bf16⟩
  | .hbm, ⟨6, _⟩ => ⟨S1x2048x1024, .bf16⟩
  | .hbm, ⟨7, _⟩ => ⟨S2048x1024, .bf16⟩
  | .hbm, ⟨8, _⟩ => ⟨S1x2048x1024, .bf16⟩
  | .hbm, ⟨9, _⟩ => ⟨S2048x1024, .bf16⟩
  | .hbm, ⟨10, _⟩ => ⟨S1x2048x1024, .bf16⟩
  | .hbm, ⟨11, _⟩ => ⟨S2048x1024, .bf16⟩
  | .hbm, ⟨12, _⟩ => ⟨S1x2048x1024, .bf16⟩
  | .hbm, ⟨13, _⟩ => ⟨S2048x1024, .bf16⟩
  | .hbm, ⟨14, _⟩ => ⟨S2048x6144, .bf16⟩
  | .hbm, ⟨15, _⟩ => ⟨S_, .f32⟩
  | .hbm, ⟨16, _⟩ => ⟨S2048x6144, .f32⟩
  | .hbm, ⟨17, _⟩ => ⟨S2048x2048, .f32⟩
  | .hbm, ⟨18, _⟩ => ⟨S2048x6144, .f32⟩
  | .hbm, ⟨19, _⟩ => ⟨S2048x6144, .f32⟩
  | .hbm, ⟨20, _⟩ => ⟨S6144x2048, .f32⟩
  | .hbm, ⟨21, _⟩ => ⟨S2048x6144, .f32⟩
  | .hbm, ⟨22, _⟩ => ⟨S2048x8x768, .f32⟩
  | .hbm, ⟨23, _⟩ => ⟨S8x2048x768, .f32⟩
  | .hbm, ⟨24, _⟩ => ⟨S16384x768, .f32⟩
  | .hbm, ⟨25, _⟩ => ⟨S16384x768, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩

abbrev nD : Nat := 1
abbrev τ : Topo := Topo.v7x

variable {F : FTy → Type} [FloatOps F]
-- ==== In0Dx.lean ====
abbrev S6x2048x1024 : Shape := ⟨3, ![6, 2048, 1024]⟩
abbrev S16384x768 : Shape := ⟨2, ![16384, 768]⟩
abbrev S12288x1024 : Shape := ⟨2, ![12288, 1024]⟩
abbrev S2048x2048 : Shape := ⟨2, ![2048, 2048]⟩
abbrev S1024x256 : Shape := ⟨2, ![1024, 256]⟩
abbrev S2048x768 : Shape := ⟨2, ![2048, 768]⟩
abbrev S1024x2048 : Shape := ⟨2, ![1024, 2048]⟩
abbrev S1024x768 : Shape := ⟨2, ![1024, 768]⟩

abbrev nBuf : Space → Nat
  | .hbm => 4
  | .vmem => 11
  | .smem => 0
  | _ => 0

abbrev bufTy : (tb : Table) → Fin (tcTables nBuf tb) → BufTy
  | .hbm, ⟨0, _⟩ => ⟨S6x2048x1024, .bf16⟩
  | .hbm, ⟨1, _⟩ => ⟨S16384x768, .bf16⟩
  | .hbm, ⟨2, _⟩ => ⟨S12288x1024, .bf16⟩
  | .hbm, ⟨3, _⟩ => ⟨S2048x2048, .bf16⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S2048x768, .bf16⟩
  | .local _ .vmem, ⟨7, _⟩ => ⟨S2048x768, .bf16⟩
  | .local _ .vmem, ⟨8, _⟩ => ⟨S1024x2048, .bf16⟩
  | .local _ .vmem, ⟨9, _⟩ => ⟨S1024x2048, .bf16⟩
  | .local _ .vmem, ⟨10, _⟩ => ⟨S1024x2048, .f32⟩
  | _, _ => ⟨S6x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨4, ![2, 1, 8, 1], ![false, false, false, false]⟩

def k0_cond3 (i : grid0.Coords) : BitVec 1 :=
  let arg2 : BitVec 32 := BitVec.ofNat 32 (i 2).val
  let c7_i32 : BitVec 32 := 7#32
  let v12 : BitVec 1 := Scalar.cmpi .eq arg2 c7_i32
  let arg3 : BitVec 32 := BitVec.ofNat 32 (i 3).val
  let c0_i32_8 : BitVec 32 := 0#32
  let v13 : BitVec 1 := Scalar.cmpi .eq arg3 c0_i32_8
  let v14 : BitVec 1 := Scalar.andi v12 v13
  let v20 : BitVec 32 := Scalar.extui v14
  let c0_i32_11 : BitVec 32 := 0#32
  let v21 : BitVec 1 := Scalar.cmpi .ne v20 c0_i32_11
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c3_i32 : BitVec 32 := 3#32
  let v0 : BitVec 32 := Scalar.muli arg2 c3_i32
  let c0_i32 : BitVec 32 := 0#32
  let v1 : BitVec 32 := Scalar.addi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2_i32 : BitVec 32 := 2#32
  let v19 : BitVec 32 := Scalar.muli v18 c2_i32
  let v20 : BitVec 32 := Scalar.addi v19 arg0
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v1 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  ![v20.toNat, v30.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c3_i32 : BitVec 32 := 3#32
  let v0 : BitVec 32 := Scalar.muli arg2 c3_i32
  let c1_i32 : BitVec 32 := 1#32
  let v1 : BitVec 32 := Scalar.addi v0 c1_i32
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c2_i32 : BitVec 32 := 2#32
  let v19 : BitVec 32 := Scalar.muli v18 c2_i32
  let v20 : BitVec 32 := Scalar.addi v19 arg0
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v1 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  ![v20.toNat, v30.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c3_i32 : BitVec 32 := 3#32
  let v0 : BitVec 32 := Scalar.muli arg2 c3_i32
  let c2_i32 : BitVec 32 := 2#32
  let v1 : BitVec 32 := Scalar.addi v0 c2_i32
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c2_i32_4 : BitVec 32 := 2#32
  let v19 : BitVec 32 := Scalar.muli v18 c2_i32_4
  let v20 : BitVec 32 := Scalar.addi v19 arg0
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v1 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  ![v20.toNat, v30.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg2 c1_i32
  let v1 : BitVec 32 := Scalar.addi v0 arg1
  let c0_i32 : BitVec 32 := 0#32
  ![v1.toNat, arg3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true, false]

abbrev stage0_3 : Fin 2 → Memref sig .tc .vmem S2048x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false, false]
-- ==== In0DxRefIdeal.lean ====
abbrev S6x2048x1024 : Shape := ⟨3, ![6, 2048, 1024]⟩
abbrev S16384x768 : Shape := ⟨2, ![16384, 768]⟩
abbrev S8x2048x768 : Shape := ⟨3, ![8, 2048, 768]⟩
abbrev S2048x8x768 : Shape := ⟨3, ![2048, 8, 768]⟩
abbrev S2048x6144 : Shape := ⟨2, ![2048, 6144]⟩
abbrev S1x2048x1024 : Shape := ⟨3, ![1, 2048, 1024]⟩
abbrev S2048x1024 : Shape := ⟨2, ![2048, 1024]⟩
abbrev S_ : Shape := ⟨0, ![]⟩
abbrev S2048x2048 : Shape := ⟨2, ![2048, 2048]⟩

abbrev nBuf : Space → Nat
  | .hbm => 25
  | .vmem => 0
  | .smem => 0
  | _ => 0

abbrev bufTy : (tb : Table) → Fin (tcTables nBuf tb) → BufTy
  | .hbm, ⟨0, _⟩ => ⟨S6x2048x1024, .bf16⟩
  | .hbm, ⟨1, _⟩ => ⟨S16384x768, .bf16⟩
  | .hbm, ⟨2, _⟩ => ⟨S8x2048x768, .bf16⟩
  | .hbm, ⟨3, _⟩ => ⟨S2048x8x768, .bf16⟩
  | .hbm, ⟨4, _⟩ => ⟨S2048x6144, .bf16⟩
  | .hbm, ⟨5, _⟩ => ⟨S1x2048x1024, .bf16⟩
  | .hbm, ⟨6, _⟩ => ⟨S2048x1024, .bf16⟩
  | .hbm, ⟨7, _⟩ => ⟨S1x2048x1024, .bf16⟩
  | .hbm, ⟨8, _⟩ => ⟨S2048x1024, .bf16⟩
  | .hbm, ⟨9, _⟩ => ⟨S1x2048x1024, .bf16⟩
  | .hbm, ⟨10, _⟩ => ⟨S2048x1024, .bf16⟩
  | .hbm, ⟨11, _⟩ => ⟨S1x2048x1024, .bf16⟩
  | .hbm, ⟨12, _⟩ => ⟨S2048x1024, .bf16⟩
  | .hbm, ⟨13, _⟩ => ⟨S1x2048x1024, .bf16⟩
  | .hbm, ⟨14, _⟩ => ⟨S2048x1024, .bf16⟩
  | .hbm, ⟨15, _⟩ => ⟨S1x2048x1024, .bf16⟩
  | .hbm, ⟨16, _⟩ => ⟨S2048x1024, .bf16⟩
  | .hbm, ⟨17, _⟩ => ⟨S2048x6144, .bf16⟩
  | .hbm, ⟨18, _⟩ => ⟨S_, .f32⟩
  | .hbm, ⟨19, _⟩ => ⟨S2048x2048, .f32⟩
  | .hbm, ⟨20, _⟩ => ⟨S2048x6144, .f32⟩
  | .hbm, ⟨21, _⟩ => ⟨S2048x6144, .f32⟩
  | .hbm, ⟨22, _⟩ => ⟨S2048x6144, .f32⟩
  | .hbm, ⟨23, _⟩ => ⟨S2048x2048, .f32⟩
  | .hbm, ⟨24, _⟩ => ⟨S2048x2048, .bf16⟩
  | _, _ => ⟨S6x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩

abbrev nD : Nat := 1
abbrev τ : Topo := Topo.v7x

variable {F : FTy → Type} [FloatOps F]
-- ==== In1Mm.lean ====
abbrev S2048x2048 : Shape := ⟨2, ![2048, 2048]⟩
abbrev S5128x2048 : Shape := ⟨2, ![5128, 2048]⟩
abbrev S2048x5120 : Shape := ⟨2, ![2048, 5120]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S5128x2048, .bf16⟩
  | .hbm, ⟨2, _⟩ => ⟨S2048x5120, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 5, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg2 c1_i32
  let v1 : BitVec 32 := Scalar.addi v0 arg3
  let c0_i32 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c5_i32 : BitVec 32 := 5#32
  let v0 : BitVec 32 := Scalar.muli arg2 c5_i32
  let v1 : BitVec 32 := Scalar.addi v0 arg1
  let c0_i32 : BitVec 32 := 0#32
  ![v1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== In1MmRefIdeal.lean ====
abbrev S2048x2048 : Shape := ⟨2, ![2048, 2048]⟩
abbrev S5128x2048 : Shape := ⟨2, ![5128, 2048]⟩
abbrev S2048x5128 : Shape := ⟨2, ![2048, 5128]⟩
abbrev S2048x5120 : Shape := ⟨2, ![2048, 5120]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S5128x2048, .bf16⟩
  | .hbm, ⟨2, _⟩ => ⟨S2048x5128, .bf16⟩
  | .hbm, ⟨3, _⟩ => ⟨S2048x5120, .bf16⟩
  | .hbm, ⟨4, _⟩ => ⟨S2048x2048, .f32⟩
  | .hbm, ⟨5, _⟩ => ⟨S2048x5120, .f32⟩
  | .hbm, ⟨6, _⟩ => ⟨S2048x5120, .f32⟩
  | .hbm, ⟨7, _⟩ => ⟨S2048x5120, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== In1Dw.lean ====
abbrev S6x2048x1024 : Shape := ⟨3, ![6, 2048, 1024]⟩
abbrev S2048x2048 : Shape := ⟨2, ![2048, 2048]⟩
abbrev S12288x1024 : Shape := ⟨2, ![12288, 1024]⟩
abbrev S5120x2048 : Shape := ⟨2, ![5120, 2048]⟩
abbrev S2048x512 : Shape := ⟨2, ![2048, 512]⟩
abbrev S512x2048 : Shape := ⟨2, ![512, 2048]⟩

abbrev nBuf : Space → Nat
  | .hbm => 4
  | .vmem => 5
  | .smem => 0
  | _ => 0

abbrev bufTy : (tb : Table) → Fin (tcTables nBuf tb) → BufTy
  | .hbm, ⟨0, _⟩ => ⟨S6x2048x1024, .bf16⟩
  | .hbm, ⟨1, _⟩ => ⟨S2048x2048, .bf16⟩
  | .hbm, ⟨2, _⟩ => ⟨S12288x1024, .bf16⟩
  | .hbm, ⟨3, _⟩ => ⟨S5120x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S6x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![10, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.divsi v16 c2_i32_4
  let c0_i32_5 : BitVec 32 := 0#32
  let v18 : BitVec 1 := Scalar.cmpi .sgt v16 c0_i32_5
  let v19 : BitVec 32 := Scalar.extui v18
  let c0_i32_6 : BitVec 32 := 0#32
  let v20 : BitVec 1 := Scalar.cmpi .slt v16 c0_i32_6
  let v21 : BitVec 32 := Scalar.extui v20
  let v22 : BitVec 32 := Scalar.subi v19 v21
  let c0_i32_7 : BitVec 32 := 0#32
  let v23 : BitVec 1 := Scalar.cmpi .sgt c2_i32_4 c0_i32_7
  let v24 : BitVec 32 := Scalar.extui v23
  let c0_i32_8 : BitVec 32 := 0#32
  let v25 : BitVec 1 := Scalar.cmpi .slt c2_i32_4 c0_i32_8
  let v26 : BitVec 32 := Scalar.extui v25
  let v27 : BitVec 32 := Scalar.subi v24 v26
  let v28 : BitVec 1 := Scalar.cmpi .ne v22 v27
  let v29 : BitVec 32 := Scalar.remsi v16 c2_i32_4
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let v34 : BitVec 32 := Scalar.addi v16 v33
  let c4_i32 : BitVec 32 := 4#32
  let v35 : BitVec 32 := Scalar.divsi v16 c4_i32
  let c0_i32_11 : BitVec 32 := 0#32
  let v36 : BitVec 1 := Scalar.cmpi .sgt v16 c0_i32_11
  let v37 : BitVec 32 := Scalar.extui v36
  let c0_i32_12 : BitVec 32 := 0#32
  let v38 : BitVec 1 := Scalar.cmpi .slt v16 c0_i32_12
  let v39 : BitVec 32 := Scalar.extui v38
  let v40 : BitVec 32 := Scalar.subi v37 v39
  let c0_i32_13 : BitVec 32 := 0#32
  let v41 : BitVec 1 := Scalar.cmpi .sgt c4_i32 c0_i32_13
  let v42 : BitVec 32 := Scalar.extui v41
  let c0_i32_14 : BitVec 32 := 0#32
  let v43 : BitVec 1 := Scalar.cmpi .slt c4_i32 c0_i32_14
  let v44 : BitVec 32 := Scalar.extui v43
  let v45 : BitVec 32 := Scalar.subi v42 v44
  let v46 : BitVec 1 := Scalar.cmpi .ne v40 v45
  let v47 : BitVec 32 := Scalar.remsi v16 c4_i32
  let c0_i32_15 : BitVec 32 := 0#32
  let v48 : BitVec 1 := Scalar.cmpi .ne v47 c0_i32_15
  let v49 : BitVec 1 := Scalar.andi v46 v48
  let c1_i32_16 : BitVec 32 := 1#32
  let v50 : BitVec 32 := Scalar.subi v35 c1_i32_16
  let v51 : BitVec 32 := Scalar.select v49 v50 v35
  let v52 : BitVec 32 := Scalar.subi v34 v51
  let c2_i32_17 : BitVec 32 := 2#32
  let c0_i32_18 : BitVec 32 := 0#32
  let v53 : BitVec 1 := Scalar.cmpi .eq c2_i32_17 c0_i32_18
  let c1_i32_19 : BitVec 32 := 1#32
  let v54 : BitVec 32 := Scalar.select v53 c1_i32_19 c2_i32_17
  let v55 : BitVec 32 := Scalar.remsi arg0 v54
  let c0_i32_20 : BitVec 32 := 0#32
  let v56 : BitVec 1 := Scalar.cmpi .ne v55 c0_i32_20
  let c0_i32_21 : BitVec 32 := 0#32
  let v57 : BitVec 1 := Scalar.cmpi .slt v55 c0_i32_21
  let c0_i32_22 : BitVec 32 := 0#32
  let v58 : BitVec 1 := Scalar.cmpi .slt v54 c0_i32_22
  let v59 : BitVec 1 := Scalar.xori v57 v58
  let v60 : BitVec 1 := Scalar.andi v59 v56
  let v61 : BitVec 32 := Scalar.addi v55 v54
  let v62 : BitVec 32 := Scalar.select v60 v61 v55
  let c0_i32_23 : BitVec 32 := 0#32
  ![v52.toNat, v62.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.muli arg1 c10_i32
  let v1 : BitVec 32 := Scalar.addi v0 arg0
  let c0_i32 : BitVec 32 := 0#32
  ![v1.toNat, arg2.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== In1DwRefIdeal.lean ====
abbrev S6x2048x1024 : Shape := ⟨3, ![6, 2048, 1024]⟩
abbrev S2048x2048 : Shape := ⟨2, ![2048, 2048]⟩
abbrev S1x2048x1024 : Shape := ⟨3, ![1, 2048, 1024]⟩
abbrev S2048x1024 : Shape := ⟨2, ![2048, 1024]⟩
abbrev S2048x5120 : Shape := ⟨2, ![2048, 5120]⟩
abbrev S_ : Shape := ⟨0, ![]⟩
abbrev S5120x2048 : Shape := ⟨2, ![5120, 2048]⟩

abbrev nBuf : Space → Nat
  | .hbm => 22
  | .vmem => 0
  | .smem => 0
  | _ => 0

abbrev bufTy : (tb : Table) → Fin (tcTables nBuf tb) → BufTy
  | .hbm, ⟨0, _⟩ => ⟨S6x2048x1024, .bf16⟩
  | .hbm, ⟨1, _⟩ => ⟨S2048x2048, .bf16⟩
  | .hbm, ⟨2, _⟩ => ⟨S1x2048x1024, .bf16⟩
  | .hbm, ⟨3, _⟩ => ⟨S2048x1024, .bf16⟩
  | .hbm, ⟨4, _⟩ => ⟨S1x2048x1024, .bf16⟩
  | .hbm, ⟨5, _⟩ => ⟨S2048x1024, .bf16⟩
  | .hbm, ⟨6, _⟩ => ⟨S1x2048x1024, .bf16⟩
  | .hbm, ⟨7, _⟩ => ⟨S2048x1024, .bf16⟩
  | .hbm, ⟨8, _⟩ => ⟨S1x2048x1024, .bf16⟩
  | .hbm, ⟨9, _⟩ => ⟨S2048x1024, .bf16⟩
  | .hbm, ⟨10, _⟩ => ⟨S1x2048x1024, .bf16⟩
  | .hbm, ⟨11, _⟩ => ⟨S2048x1024, .bf16⟩
  | .hbm, ⟨12, _⟩ => ⟨S2048x5120, .bf16⟩
  | .hbm, ⟨13, _⟩ => ⟨S_, .f32⟩
  | .hbm, ⟨14, _⟩ => ⟨S2048x5120, .f32⟩
  | .hbm, ⟨15, _⟩ => ⟨S2048x2048, .f32⟩
  | .hbm, ⟨16, _⟩ => ⟨S2048x5120, .f32⟩
  | .hbm, ⟨17, _⟩ => ⟨S2048x5120, .f32⟩
  | .hbm, ⟨18, _⟩ => ⟨S5120x2048, .f32⟩
  | .hbm, ⟨19, _⟩ => ⟨S2048x5120, .f32⟩
  | .hbm, ⟨20, _⟩ => ⟨S5120x2048, .f32⟩
  | .hbm, ⟨21, _⟩ => ⟨S5120x2048, .bf16⟩
  | _, _ => ⟨S6x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩

abbrev nD : Nat := 1
abbrev τ : Topo := Topo.v7x

variable {F : FTy → Type} [FloatOps F]
-- ==== In1Dx.lean ====
abbrev S6x2048x1024 : Shape := ⟨3, ![6, 2048, 1024]⟩
abbrev S5128x2048 : Shape := ⟨2, ![5128, 2048]⟩
abbrev S2048x2048 : Shape := ⟨2, ![2048, 2048]⟩
abbrev S12288x1024 : Shape := ⟨2, ![12288, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S6x2048x1024, .bf16⟩
  | .hbm, ⟨1, _⟩ => ⟨S5128x2048, .bf16⟩
  | .hbm, ⟨2, _⟩ => ⟨S2048x2048, .f32⟩
  | .hbm, ⟨3, _⟩ => ⟨S12288x1024, .bf16⟩
  | .hbm, ⟨4, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S6x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![2, 1, 2, 5], ![false, false, false, false]⟩

def k0_cond3 (i : grid0.Coords) : BitVec 1 :=
  let arg3 : BitVec 32 := BitVec.ofNat 32 (i 3).val
  let c4_i32 : BitVec 32 := 4#32
  let v10 : BitVec 1 := Scalar.cmpi .eq arg3 c4_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.divsi arg3 c1_i32
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg3 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.divsi v16 c2_i32
  let c0_i32_5 : BitVec 32 := 0#32
  let v18 : BitVec 1 := Scalar.cmpi .sgt v16 c0_i32_5
  let v19 : BitVec 32 := Scalar.extui v18
  let c0_i32_6 : BitVec 32 := 0#32
  let v20 : BitVec 1 := Scalar.cmpi .slt v16 c0_i32_6
  let v21 : BitVec 32 := Scalar.extui v20
  let v22 : BitVec 32 := Scalar.subi v19 v21
  let c0_i32_7 : BitVec 32 := 0#32
  let v23 : BitVec 1 := Scalar.cmpi .sgt c2_i32 c0_i32_7
  let v24 : BitVec 32 := Scalar.extui v23
  let c0_i32_8 : BitVec 32 := 0#32
  let v25 : BitVec 1 := Scalar.cmpi .slt c2_i32 c0_i32_8
  let v26 : BitVec 32 := Scalar.extui v25
  let v27 : BitVec 32 := Scalar.subi v24 v26
  let v28 : BitVec 1 := Scalar.cmpi .ne v22 v27
  let v29 : BitVec 32 := Scalar.remsi v16 c2_i32
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let v34 : BitVec 32 := Scalar.addi v16 v33
  let c4_i32 : BitVec 32 := 4#32
  let v35 : BitVec 32 := Scalar.divsi v16 c4_i32
  let c0_i32_11 : BitVec 32 := 0#32
  let v36 : BitVec 1 := Scalar.cmpi .sgt v16 c0_i32_11
  let v37 : BitVec 32 := Scalar.extui v36
  let c0_i32_12 : BitVec 32 := 0#32
  let v38 : BitVec 1 := Scalar.cmpi .slt v16 c0_i32_12
  let v39 : BitVec 32 := Scalar.extui v38
  let v40 : BitVec 32 := Scalar.subi v37 v39
  let c0_i32_13 : BitVec 32 := 0#32
  let v41 : BitVec 1 := Scalar.cmpi .sgt c4_i32 c0_i32_13
  let v42 : BitVec 32 := Scalar.extui v41
  let c0_i32_14 : BitVec 32 := 0#32
  let v43 : BitVec 1 := Scalar.cmpi .slt c4_i32 c0_i32_14
  let v44 : BitVec 32 := Scalar.extui v43
  let v45 : BitVec 32 := Scalar.subi v42 v44
  let v46 : BitVec 1 := Scalar.cmpi .ne v40 v45
  let v47 : BitVec 32 := Scalar.remsi v16 c4_i32
  let c0_i32_15 : BitVec 32 := 0#32
  let v48 : BitVec 1 := Scalar.cmpi .ne v47 c0_i32_15
  let v49 : BitVec 1 := Scalar.andi v46 v48
  let c1_i32_16 : BitVec 32 := 1#32
  let v50 : BitVec 32 := Scalar.subi v35 c1_i32_16
  let v51 : BitVec 32 := Scalar.select v49 v50 v35
  let v52 : BitVec 32 := Scalar.subi v34 v51
  let c2_i32_17 : BitVec 32 := 2#32
  let v53 : BitVec 32 := Scalar.muli v52 c2_i32_17
  let v54 : BitVec 32 := Scalar.addi v53 arg0
  let c1_i32_18 : BitVec 32 := 1#32
  let c0_i32_19 : BitVec 32 := 0#32
  let v55 : BitVec 1 := Scalar.cmpi .eq c1_i32_18 c0_i32_19
  let c1_i32_20 : BitVec 32 := 1#32
  let v56 : BitVec 32 := Scalar.select v55 c1_i32_20 c1_i32_18
  let v57 : BitVec 32 := Scalar.remsi arg3 v56
  let c0_i32_21 : BitVec 32 := 0#32
  let v58 : BitVec 1 := Scalar.cmpi .ne v57 c0_i32_21
  let c0_i32_22 : BitVec 32 := 0#32
  let v59 : BitVec 1 := Scalar.cmpi .slt v57 c0_i32_22
  let c0_i32_23 : BitVec 32 := 0#32
  let v60 : BitVec 1 := Scalar.cmpi .slt v56 c0_i32_23
  let v61 : BitVec 1 := Scalar.xori v59 v60
  let v62 : BitVec 1 := Scalar.andi v61 v58
  let v63 : BitVec 32 := Scalar.addi v57 v56
  let v64 : BitVec 32 := Scalar.select v62 v63 v57
  let c0_i32_24 : BitVec 32 := 0#32
  ![v54.toNat, v64.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c5_i32 : BitVec 32 := 5#32
  let v0 : BitVec 32 := Scalar.muli arg1 c5_i32
  let v1 : BitVec 32 := Scalar.addi v0 arg3
  let c0_i32 : BitVec 32 := 0#32
  ![v1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg2
  let c0_i32 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg2
  let c0_i32 : BitVec 32 := 0#32
  ![arg0.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== In1DxRefIdeal.lean ====
abbrev S6x2048x1024 : Shape := ⟨3, ![6, 2048, 1024]⟩
abbrev S5128x2048 : Shape := ⟨2, ![5128, 2048]⟩
abbrev S2048x2048 : Shape := ⟨2, ![2048, 2048]⟩
abbrev S2048x5128 : Shape := ⟨2, ![2048, 5128]⟩
abbrev S2048x5120 : Shape := ⟨2, ![2048, 5120]⟩
abbrev S1x2048x1024 : Shape := ⟨3, ![1, 2048, 1024]⟩
abbrev S2048x1024 : Shape := ⟨2, ![2048, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S6x2048x1024, .bf16⟩
  | .hbm, ⟨1, _⟩ => ⟨S5128x2048, .bf16⟩
  | .hbm, ⟨2, _⟩ => ⟨S2048x2048, .f32⟩
  | .hbm, ⟨3, _⟩ => ⟨S2048x5128, .bf16⟩
  | .hbm, ⟨4, _⟩ => ⟨S2048x5120, .bf16⟩
  | .hbm, ⟨5, _⟩ => ⟨S1x2048x1024, .bf16⟩
  | .hbm, ⟨6, _⟩ => ⟨S2048x1024, .bf16⟩
  | .hbm, ⟨7, _⟩ => ⟨S1x2048x1024, .bf16⟩
  | .hbm, ⟨8, _⟩ => ⟨S2048x1024, .bf16⟩
  | .hbm, ⟨9, _⟩ => ⟨S1x2048x1024, .bf16⟩
  | .hbm, ⟨10, _⟩ => ⟨S2048x1024, .bf16⟩
  | .hbm, ⟨11, _⟩ => ⟨S1x2048x1024, .bf16⟩
  | .hbm, ⟨12, _⟩ => ⟨S2048x1024, .bf16⟩
  | .hbm, ⟨13, _⟩ => ⟨S1x2048x1024, .bf16⟩
  | .hbm, ⟨14, _⟩ => ⟨S2048x1024, .bf16⟩
  | .hbm, ⟨15, _⟩ => ⟨S2048x5120, .bf16⟩
  | .hbm, ⟨16, _⟩ => ⟨S_, .f32⟩
  | .hbm, ⟨17, _⟩ => ⟨S2048x2048, .f32⟩
  | .hbm, ⟨18, _⟩ => ⟨S2048x5120, .f32⟩
  | .hbm, ⟨19, _⟩ => ⟨S2048x5120, .f32⟩
  | .hbm, ⟨20, _⟩ => ⟨S2048x5120, .f32⟩
  | .hbm, ⟨21, _⟩ => ⟨S2048x2048, .f32⟩
  | .hbm, ⟨22, _⟩ => ⟨S2048x2048, .f32⟩
  | .hbm, ⟨23, _⟩ => ⟨S2048x2048, .bf16⟩
  | _, _ => ⟨S6x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩

abbrev nD : Nat := 1
abbrev τ : Topo := Topo.v7x

variable {F : FTy → Type} [FloatOps F]
-- ==== OutMm.lean ====
abbrev S2048x2048 : Shape := ⟨2, ![2048, 2048]⟩
abbrev S2048x512 : Shape := ⟨2, ![2048, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨4, ![1, 1, 4, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg3
  let c0_i32 : BitVec 32 := 0#32
  ![v1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg1 c4_i32
  let v1 : BitVec 32 := Scalar.addi v0 arg2
  let c0_i32 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg1 c4_i32
  let v1 : BitVec 32 := Scalar.addi v0 arg2
  let c0_i32 : BitVec 32 := 0#32
  ![arg0.toNat, v1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== OutMmRefIdeal.lean ====
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDx.lean ====
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 2, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg2 c1_i32
  let v1 : BitVec 32 := Scalar.addi v0 arg3
  let c0_i32 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg2 c2_i32
  let v1 : BitVec 32 := Scalar.addi v0 arg1
  let c0_i32 : BitVec 32 := 0#32
  ![v1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== OutDxRefIdeal.lean ====
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutDw.lean ====
abbrev S2048x2048 : Shape := ⟨2, ![2048, 2048]⟩
abbrev S2048x512 : Shape := ⟨2, ![2048, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg0
  let c0_i32 : BitVec 32 := 0#32
  ![v1.toNat, arg2.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== OutDwRefIdeal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GateMm.lean ====
abbrev S2048x2048 : Shape := ⟨2, ![2048, 2048]⟩
abbrev S128x2048 : Shape := ⟨2, ![128, 2048]⟩
abbrev S2048x128 : Shape := ⟨2, ![2048, 128]⟩
abbrev S1024x2048 : Shape := ⟨2, ![1024, 2048]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S128x2048, .bf16⟩
  | .hbm, ⟨2, _⟩ => ⟨S2048x128, .f32⟩
  | .local _ .vmem, ⟨0, _⟩ => ⟨S1024x2048, .bf16⟩
  | .local _ .vmem, ⟨1, _⟩ => ⟨S1024x2048, .bf16⟩
  | .local _ .vmem, ⟨2, _⟩ => ⟨S128x2048, .bf16⟩
  | .local _ .vmem, ⟨3, _⟩ => ⟨S1024x128, .f32⟩
  | .local _ .vmem, ⟨4, _⟩ => ⟨S1024x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![2, 1, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg2 c1_i32
  let v1 : BitVec 32 := Scalar.addi v0 arg3
  let c0_i32 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg2 c1_i32
  let v1 : BitVec 32 := Scalar.addi v0 arg1
  let c0_i32 : BitVec 32 := 0#32
  ![v1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== GateMmRefIdeal.lean ====
abbrev S2048x2048 : Shape := ⟨2, ![2048, 2048]⟩
abbrev S128x2048 : Shape := ⟨2, ![128, 2048]⟩
abbrev S2048x128 : Shape := ⟨2, ![2048, 128]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S128x2048, .bf16⟩
  | .hbm, ⟨2, _⟩ => ⟨S2048x128, .bf16⟩
  | .hbm, ⟨3, _⟩ => ⟨S2048x2048, .f32⟩
  | .hbm, ⟨4, _⟩ => ⟨S2048x128, .f32⟩
  | .hbm, ⟨5, _⟩ => ⟨S2048x128, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GateDw.lean ====
abbrev S2048x128 : Shape := ⟨2, ![2048, 128]⟩
abbrev S2048x2048 : Shape := ⟨2, ![2048, 2048]⟩
abbrev S128x2048 : Shape := ⟨2, ![128, 2048]⟩

abbrev nBuf : Space → Nat
  | .hbm => 3
  | .vmem => 3
  | .smem => 0
  | _ => 0

abbrev bufTy : (tb : Table) → Fin (tcTables nBuf tb) → BufTy
  | .hbm, ⟨0, _⟩ => ⟨S2048x128, .bf16⟩
  | .hbm, ⟨1, _⟩ => ⟨S2048x2048, .bf16⟩
  | .hbm, ⟨2, _⟩ => ⟨S128x2048, .bf16⟩
  | .local _ .vmem, ⟨0, _⟩ => ⟨S2048x128, .bf16⟩
  | .local _ .vmem, ⟨1, _⟩ => ⟨S2048x2048, .bf16⟩
  | .local _ .vmem, ⟨2, _⟩ => ⟨S128x2048, .bf16⟩
  | _, _ => ⟨S2048x128, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg0
  let c0_i32 : BitVec 32 := 0#32
  ![v1.toNat, arg2.toNat]

abbrev stage0_0 : Fin 1 → Memref sig .tc .vmem S2048x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true]
-- ==== GateDwRefIdeal.lean ====
abbrev S2048x128 : Shape := ⟨2, ![2048, 128]⟩
abbrev S2048x2048 : Shape := ⟨2, ![2048, 2048]⟩
abbrev S_ : Shape := ⟨0, ![]⟩
abbrev S128x2048 : Shape := ⟨2, ![128, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x128, .bf16⟩
  | .hbm, ⟨1, _⟩ => ⟨S2048x2048, .bf16⟩
  | .hbm, ⟨2, _⟩ => ⟨S_, .f32⟩
  | .hbm, ⟨3, _⟩ => ⟨S2048x128, .f32⟩
  | .hbm, ⟨4, _⟩ => ⟨S2048x2048, .f32⟩
  | .hbm, ⟨5, _⟩ => ⟨S2048x128, .f32⟩
  | .hbm, ⟨6, _⟩ => ⟨S2048x128, .f32⟩
  | .hbm, ⟨7, _⟩ => ⟨S128x2048, .f32⟩
  | .hbm, ⟨8, _⟩ => ⟨S2048x128, .f32⟩
  | .hbm, ⟨9, _⟩ => ⟨S128x2048, .f32⟩
  | .hbm, ⟨10, _⟩ => ⟨S128x2048, .bf16⟩
  | _, _ => ⟨S2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GateDx.lean ====
abbrev S2048x128 : Shape := ⟨2, ![2048, 128]⟩
abbrev S128x2048 : Shape := ⟨2, ![128, 2048]⟩
abbrev S2048x2048 : Shape := ⟨2, ![2048, 2048]⟩
abbrev S1024x128 : Shape := ⟨2, ![1024, 128]⟩
abbrev S128x1024 : Shape := ⟨2, ![128, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x128, .bf16⟩
  | .hbm, ⟨1, _⟩ => ⟨S128x2048, .bf16⟩
  | .hbm, ⟨2, _⟩ => ⟨S2048x2048, .f32⟩
  | .local _ .vmem, ⟨0, _⟩ => ⟨S1024x128, .bf16⟩
  | .local _ .vmem, ⟨1, _⟩ => ⟨S1024x128, .bf16⟩
  | .local _ .vmem, ⟨2, _⟩ => ⟨S128x1024, .bf16⟩
  | .local _ .vmem, ⟨3, _⟩ => ⟨S128x1024, .bf16⟩
  | .local _ .vmem, ⟨4, _⟩ => ⟨S1024x1024, .f32⟩
  | .local _ .vmem, ⟨5, _⟩ => ⟨S1024x1024, .f32⟩
  | _, _ => ⟨S2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 1, 2, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg3
  let c0_i32 : BitVec 32 := 0#32
  ![v1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg2
  let c0_i32 : BitVec 32 := 0#32
  ![arg0.toNat, v1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== GateDxRefIdeal.lean ====
abbrev S2048x128 : Shape := ⟨2, ![2048, 128]⟩
abbrev S128x2048 : Shape := ⟨2, ![128, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x128, .bf16⟩
  | .hbm, ⟨1, _⟩ => ⟨S128x2048, .bf16⟩
  | .hbm, ⟨2, _⟩ => ⟨S2048x128, .bf16⟩
  | .hbm, ⟨3, _⟩ => ⟨S_, .f32⟩
  | .hbm, ⟨4, _⟩ => ⟨S2048x2048, .f32⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S2048x2048, .f32⟩
  | _, _ => ⟨S2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ShortBwd.lean ====
abbrev S2048x6144 : Shape := ⟨2, ![2048, 6144]⟩
abbrev S3x1024 : Shape := ⟨2, ![3, 1024]⟩
abbrev S2048x2048 : Shape := ⟨2, ![2048, 2048]⟩
abbrev S6x2048x1024 : Shape := ⟨3, ![6, 2048, 1024]⟩
abbrev S2048x256 : Shape := ⟨2, ![2048, 256]⟩
abbrev S3x256 : Shape := ⟨2, ![3, 256]⟩
abbrev S3x2048x256 : Shape := ⟨3, ![3, 2048, 256]⟩
abbrev S1x256 : Shape := ⟨2, ![1, 256]⟩
abbrev S1x2048x256 : Shape := ⟨3, ![1, 2048, 256]⟩
abbrev S256 : Shape := ⟨1, ![256]⟩

abbrev nBuf : Space → Nat
  | .hbm => 6
  | .vmem => 14
  | .smem => 0
  | _ => 0

abbrev bufTy : (tb : Table) → Fin (tcTables nBuf tb) → BufTy
  | .hbm, ⟨0, _⟩ => ⟨S2048x6144, .bf16⟩
  | .hbm, ⟨1, _⟩ => ⟨S3x1024, .f32⟩
  | .hbm, ⟨2, _⟩ => ⟨S2048x2048, .bf16⟩
  | .hbm, ⟨3, _⟩ => ⟨S6x2048x1024, .bf16⟩
  | .hbm, ⟨4, _⟩ => ⟨S6x2048x1024, .bf16⟩
  | .hbm, ⟨5, _⟩ => ⟨S3x1024, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S3x256, .f32⟩
  | .local _ .vmem, ⟨7, _⟩ => ⟨S3x256, .f32⟩
  | .local _ .vmem, ⟨8, _⟩ => ⟨S2048x256, .bf16⟩
  | .local _ .vmem, ⟨9, _⟩ => ⟨S2048x256, .bf16⟩
  | .local _ .vmem, ⟨10, _⟩ => ⟨S3x2048x256, .bf16⟩
  | .local _ .vmem, ⟨11, _⟩ => ⟨S3x2048x256, .bf16⟩
  | .local _ .vmem, ⟨12, _⟩ => ⟨S3x256, .f32⟩
  | .local _ .vmem, ⟨13, _⟩ => ⟨S3x256, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ShortBwdRefIdeal.lean ====
abbrev S2048x6144 : Shape := ⟨2, ![2048, 6144]⟩
abbrev S3x1024 : Shape := ⟨2, ![3, 1024]⟩
abbrev S2048x2048 : Shape := ⟨2, ![2048, 2048]⟩
abbrev S6x2048x1024 : Shape := ⟨3, ![6, 2048, 1024]⟩
abbrev S2048x3072 : Shape := ⟨2, ![2048, 3072]⟩
abbrev S2048x1024 : Shape := ⟨2, ![2048, 1024]⟩
abbrev S_ : Shape := ⟨0, ![]⟩
abbrev S2x1024 : Shape := ⟨2, ![2, 1024]⟩
abbrev S2050x1024 : Shape := ⟨2, ![2050, 1024]⟩
abbrev S1x1024 : Shape := ⟨2, ![1, 1024]⟩
abbrev S1024 : Shape := ⟨1, ![1024]⟩
abbrev S3x2048x1024 : Shape := ⟨3, ![3, 2048, 1024]⟩
abbrev S1x2048x1024 : Shape := ⟨3, ![1, 2048, 1024]⟩

abbrev nBuf : Space → Nat
  | .hbm => 94
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S3x1024, .f32⟩
  | .hbm, ⟨2, _⟩ => ⟨S2048x2048, .bf16⟩
  | .hbm, ⟨3, _⟩ => ⟨S6x2048x1024, .bf16⟩
  | .hbm, ⟨4, _⟩ => ⟨S2048x3072, .bf16⟩
  | .hbm, ⟨5, _⟩ => ⟨S2048x3072, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2x1024, .f32⟩
  | .hbm, ⟨12, _⟩ => ⟨S2050x1024, .f32⟩
  | .hbm, ⟨13, _⟩ => ⟨S_, .f32⟩
  | .hbm, ⟨14, _⟩ => ⟨S2x1024, .f32⟩
  | .hbm, ⟨15, _⟩ => ⟨S2048x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .bf16⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S_, .f32⟩
  | .hbm, ⟨50, _⟩ => ⟨S3x1024, .f32⟩
  | .hbm, ⟨51, _⟩ => ⟨S_, .f32⟩
  | .hbm, ⟨52, _⟩ => ⟨S2050x1024, .f32⟩
  | .hbm, ⟨53, _⟩ => ⟨S2048x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S2048x1024, .f32⟩
  | .hbm, ⟨58, _⟩ => ⟨S2048x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S_, .f32⟩
  | .hbm, ⟨63, _⟩ => ⟨S3x1024, .f32⟩
  | .hbm, ⟨64, _⟩ => ⟨S3x1024, .f32⟩
  | .hbm, ⟨65, _⟩ => ⟨S_, .f32⟩
  | .hbm, ⟨66, _⟩ => ⟨S2050x1024, .f32⟩
  | .hbm, ⟨67, _⟩ => ⟨S2050x1024, .f32⟩
  | .hbm, ⟨68, _⟩ => ⟨S2048x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S2048x1024, .f32⟩
  | .hbm, ⟨73, _⟩ => ⟨S2048x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S_, .f32⟩
  | .hbm, ⟨78, _⟩ => ⟨S3x1024, .f32⟩
  | .hbm, ⟨79, _⟩ => ⟨S3x1024, .f32⟩
  | .hbm, ⟨80, _⟩ => ⟨S_, .f32⟩
  | .hbm, ⟨81, _⟩ => ⟨S2050x1024, .f32⟩
  | .hbm, ⟨82, _⟩ => ⟨S2050x1024, .f32⟩
  | .hbm, ⟨83, _⟩ => ⟨S2x1024, .f32⟩
  | .hbm, ⟨84, _⟩ => ⟨S2048x1024, .f32⟩
  | .hbm, ⟨85, _⟩ => ⟨S2048x1024, .f32⟩
  | .hbm, ⟨86, _⟩ => ⟨S2048x1024, .f32⟩
  | .hbm, ⟨87, _⟩ => ⟨S3x2048x1024, .bf16⟩
  | .hbm, ⟨88, _⟩ => ⟨S1x2048x1024, .f32⟩
  | .hbm, ⟨89, _⟩ => ⟨S1x2048x1024, .f32⟩
  | .hbm, ⟨90, _⟩ => ⟨S1x2048x1024, .f32⟩
  | .hbm, ⟨91, _⟩ => ⟨S3x2048x1024, .f32⟩
  | .hbm, ⟨92, _⟩ => ⟨S3x2048x1024, .bf16⟩
  | .hbm, ⟨93, _⟩ => ⟨S6x2048x1024, .bf16⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_1 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_2 : Ref sig .tc := ⟨.hbm, 46, rfl⟩
abbrev main_v39 : Ref sig .tc := ⟨.hbm, 47, rfl⟩
abbrev main_v40 : Ref sig .tc := ⟨.hbm, 48, rfl⟩
abbrev main_cst_3 : Ref sig .tc := ⟨.hbm, 49, rfl⟩
abbrev main_v41 : Ref sig .tc := ⟨.hbm, 50, rfl⟩
abbrev main_cst_4 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_6 : Ref sig .tc := ⟨.hbm, 59, rfl⟩
abbrev main_v48 : Ref sig .tc := ⟨.hbm, 60, rfl⟩
abbrev main_v49 : Ref sig .tc := ⟨.hbm, 61, rfl⟩
abbrev main_cst_7 : Ref sig .tc := ⟨.hbm, 62, rfl⟩
abbrev main_v50 : Ref sig .tc := ⟨.hbm, 63, rfl⟩
abbrev main_v51 : Ref sig .tc := ⟨.hbm, 64, rfl⟩
abbrev main_cst_8 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_9 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_10 : Ref sig .tc := ⟨.hbm, 74, rfl⟩
abbrev main_v59 : Ref sig .tc := ⟨.hbm, 75, rfl⟩
abbrev main_v60 : Ref sig .tc := ⟨.hbm, 76, rfl⟩
abbrev main_cst_11 : Ref sig .tc := ⟨.hbm, 77, rfl⟩
abbrev main_v61 : Ref sig .tc := ⟨.hbm, 78, rfl⟩
abbrev main_v62 : Ref sig .tc := ⟨.hbm, 79, rfl⟩
abbrev main_cst_12 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩

abbrev nD : Nat := 1
abbrev τ : Topo := Topo.v7x

variable {F : FTy → Type} [FloatOps F]
-- ==== ShortFwd.lean ====
abbrev S2048x6144 : Shape := ⟨2, ![2048, 6144]⟩
abbrev S3x1024 : Shape := ⟨2, ![3, 1024]⟩
abbrev S2048x2048 : Shape := ⟨2, ![2048, 2048]⟩
abbrev S2048x256 : Shape := ⟨2, ![2048, 256]⟩
abbrev S3x256 : Shape := ⟨2, ![3, 256]⟩
abbrev S1x256 : Shape := ⟨2, ![1, 256]⟩

abbrev nBuf : Space → Nat
  | .hbm => 4
  | .vmem => 10
  | .smem => 0
  | _ => 0

abbrev bufTy : (tb : Table) → Fin (tcTables nBuf tb) → BufTy
  | .hbm, ⟨0, _⟩ => ⟨S2048x6144, .bf16⟩
  | .hbm, ⟨1, _⟩ => ⟨S3x1024, .f32⟩
  | .hbm, ⟨2, _⟩ => ⟨S2048x2048, .bf16⟩
  | .hbm, ⟨3, _⟩ => ⟨S2048x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S3x256, .f32⟩
  | .local _ .vmem, ⟨7, _⟩ => ⟨S3x256, .f32⟩
  | .local _ .vmem, ⟨8, _⟩ => ⟨S2048x256, .bf16⟩
  | .local _ .vmem, ⟨9, _⟩ => ⟨S2048x256, .bf16⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ShortFwdRefIdeal.lean ====
abbrev S2048x6144 : Shape := ⟨2, ![2048, 6144]⟩
abbrev S3x1024 : Shape := ⟨2, ![3, 1024]⟩
abbrev S2048x2048 : Shape := ⟨2, ![2048, 2048]⟩
abbrev S2048x3072 : Shape := ⟨2, ![2048, 3072]⟩
abbrev S2048x1024 : Shape := ⟨2, ![2048, 1024]⟩
abbrev S_ : Shape := ⟨0, ![]⟩
abbrev S2x1024 : Shape := ⟨2, ![2, 1024]⟩
abbrev S2050x1024 : Shape := ⟨2, ![2050, 1024]⟩
abbrev S1x1024 : Shape := ⟨2, ![1, 1024]⟩
abbrev S1024 : Shape := ⟨1, ![1024]⟩

abbrev nBuf : Space → Nat
  | .hbm => 36
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S3x1024, .f32⟩
  | .hbm, ⟨2, _⟩ => ⟨S2048x2048, .bf16⟩
  | .hbm, ⟨3, _⟩ => ⟨S2048x3072, .bf16⟩
  | .hbm, ⟨4, _⟩ => ⟨S2048x3072, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .bf16⟩
  | .hbm, ⟨9, _⟩ => ⟨S2048x1024, .f32⟩
  | .hbm, ⟨10, _⟩ => ⟨S_, .f32⟩
  | .hbm, ⟨11, _⟩ => ⟨S2x1024, .f32⟩
  | .hbm, ⟨12, _⟩ => ⟨S2050x1024, .f32⟩
  | .hbm, ⟨13, _⟩ => ⟨S2048x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .bf16⟩
  | .hbm, ⟨35, _⟩ => ⟨S2048x2048, .bf16⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩

abbrev nD : Nat := 1
abbrev τ : Topo := Topo.v7x

variable {F : FTy → Type} [FloatOps F]
-- ==== ActBwd.lean ====
abbrev S2048x11264 : Shape := ⟨2, ![2048, 11264]⟩
abbrev S3x11264 : Shape := ⟨2, ![3, 11264]⟩
abbrev S2048x5632 : Shape := ⟨2, ![2048, 5632]⟩
abbrev S2x2048x5632 : Shape := ⟨3, ![2, 2048, 5632]⟩
abbrev S2x3x5632 : Shape := ⟨3, ![2, 3, 5632]⟩
abbrev S2048x128 : Shape := ⟨2, ![2048, 128]⟩
abbrev S3x128 : Shape := ⟨2, ![3, 128]⟩
abbrev S2x2048x128 : Shape := ⟨3, ![2, 2048, 128]⟩
abbrev S2x3x128 : Shape := ⟨3, ![2, 3, 128]⟩
abbrev S1x128 : Shape := ⟨2, ![1, 128]⟩
abbrev S1x2048x128 : Shape := ⟨3, ![1, 2048, 128]⟩
abbrev S128 : Shape := ⟨1, ![128]⟩
abbrev S1x1x128 : Shape := ⟨3, ![1, 1, 128]⟩

abbrev nBuf : Space → Nat
  | .hbm => 5
  | .vmem => 14
  | .smem => 0
  | _ => 0

abbrev bufTy : (tb : Table) → Fin (tcTables nBuf tb) → BufTy
  | .hbm, ⟨0, _⟩ => ⟨S2048x11264, .bf16⟩
  | .hbm, ⟨1, _⟩ => ⟨S3x11264, .f32⟩
  | .hbm, ⟨2, _⟩ => ⟨S2048x5632, .bf16⟩
  | .hbm, ⟨3, _⟩ => ⟨S2x2048x5632, .bf16⟩
  | .hbm, ⟨4, _⟩ => ⟨S2x3x5632, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S3x128, .f32⟩
  | .local _ .vmem, ⟨5, _⟩ => ⟨S3x128, .f32⟩
  | .local _ .vmem, ⟨6, _⟩ => ⟨S3x128, .f32⟩
  | .local _ .vmem, ⟨7, _⟩ => ⟨S3x128, .f32⟩
  | .local _ .vmem, ⟨8, _⟩ => ⟨S2048x128, .bf16⟩
  | .local _ .vmem, ⟨9, _⟩ => ⟨S2048x128, .bf16⟩
  | .local _ .vmem, ⟨10, _⟩ => ⟨S2x2048x128, .bf16⟩
  | .local _ .vmem, ⟨11, _⟩ => ⟨S2x2048x128, .bf16⟩
  | .local _ .vmem, ⟨12, _⟩ => ⟨S2x3x128, .f32⟩
  | .local _ .vmem, ⟨13, _⟩ => ⟨S2x3x128, .f32⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![44], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c44_i32 : BitVec 32 := 44#32
  let v0 : BitVec 32 := Scalar.addi c44_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c44_i32 : BitVec 32 := 44#32
  let v0 : BitVec 32 := Scalar.addi c44_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x3x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ActBwdRefIdeal.lean ====
abbrev S2048x11264 : Shape := ⟨2, ![2048, 11264]⟩
abbrev S3x11264 : Shape := ⟨2, ![3, 11264]⟩
abbrev S2048x5632 : Shape := ⟨2, ![2048, 5632]⟩
abbrev S_ : Shape := ⟨0, ![]⟩
abbrev S2x11264 : Shape := ⟨2, ![2, 11264]⟩
abbrev S2050x11264 : Shape := ⟨2, ![2050, 11264]⟩
abbrev S1x11264 : Shape := ⟨2, ![1, 11264]⟩
abbrev S11264 : Shape := ⟨1, ![11264]⟩
abbrev S1x2048x5632 : Shape := ⟨3, ![1, 2048, 5632]⟩
abbrev S2x2048x5632 : Shape := ⟨3, ![2, 2048, 5632]⟩
abbrev S3x5632 : Shape := ⟨2, ![3, 5632]⟩
abbrev S1x3x5632 : Shape := ⟨3, ![1, 3, 5632]⟩
abbrev S2x3x5632 : Shape := ⟨3, ![2, 3, 5632]⟩

abbrev nBuf : Space → Nat
  | .hbm => 109
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S3x11264, .f32⟩
  | .hbm, ⟨2, _⟩ => ⟨S2048x5632, .bf16⟩
  | .hbm, ⟨3, _⟩ => ⟨S2048x11264, .f32⟩
  | .hbm, ⟨4, _⟩ => ⟨S_, .f32⟩
  | .hbm, ⟨5, _⟩ => ⟨S2x11264, .f32⟩
  | .hbm, ⟨6, _⟩ => ⟨S2050x11264, .f32⟩
  | .hbm, ⟨7, _⟩ => ⟨S_, .f32⟩
  | .hbm, ⟨8, _⟩ => ⟨S2x11264, .f32⟩
  | .hbm, ⟨9, _⟩ => ⟨S2048x11264, .f32⟩
  | .hbm, ⟨10, _⟩ => ⟨S1x11264, .f32⟩
  | .hbm, ⟨11, _⟩ => ⟨S11264, .f32⟩
  | .hbm, ⟨12, _⟩ => ⟨S1x11264, .f32⟩
  | .hbm, ⟨13, _⟩ => ⟨S2048x11264, .f32⟩
  | .hbm, ⟨14, _⟩ => ⟨S2048x11264, .f32⟩
  | .hbm, ⟨15, _⟩ => ⟨S2048x11264, .f32⟩
  | .hbm, ⟨16, _⟩ => ⟨S1x11264, .f32⟩
  | .hbm, ⟨17, _⟩ => ⟨S11264, .f32⟩
  | .hbm, ⟨18, _⟩ => ⟨S1x11264, .f32⟩
  | .hbm, ⟨19, _⟩ => ⟨S2048x11264, .f32⟩
  | .hbm, ⟨20, _⟩ => ⟨S2048x11264, .f32⟩
  | .hbm, ⟨21, _⟩ => ⟨S2048x11264, .f32⟩
  | .hbm, ⟨22, _⟩ => ⟨S2048x11264, .f32⟩
  | .hbm, ⟨23, _⟩ => ⟨S1x11264, .f32⟩
  | .hbm, ⟨24, _⟩ => ⟨S11264, .f32⟩
  | .hbm, ⟨25, _⟩ => ⟨S1x11264, .f32⟩
  | .hbm, ⟨26, _⟩ => ⟨S2048x11264, .f32⟩
  | .hbm, ⟨27, _⟩ => ⟨S2048x11264, .f32⟩
  | .hbm, ⟨28, _⟩ => ⟨S2048x11264, .f32⟩
  | .hbm, ⟨29, _⟩ => ⟨S2048x5632, .f32⟩
  | .hbm, ⟨30, _⟩ => ⟨S2048x5632, .f32⟩
  | .hbm, ⟨31, _⟩ => ⟨S2048x5632, .f32⟩
  | .hbm, ⟨32, _⟩ => ⟨S2048x5632, .f32⟩
  | .hbm, ⟨33, _⟩ => ⟨S_, .f32⟩
  | .hbm, ⟨34, _⟩ => ⟨S2048x5632, .f32⟩
  | .hbm, ⟨35, _⟩ => ⟨S2048x5632, .f32⟩
  | .hbm, ⟨36, _⟩ => ⟨S_, .f32⟩
  | .hbm, ⟨37, _⟩ => ⟨S2048x5632, .f32⟩
  | .hbm, ⟨38, _⟩ => ⟨S2048x5632, .f32⟩
  | .hbm, ⟨39, _⟩ => ⟨S_, .f32⟩
  | .hbm, ⟨40, _⟩ => ⟨S2048x5632, .f32⟩
  | .hbm, ⟨41, _⟩ => ⟨S2048x5632, .f32⟩
  | .hbm, ⟨42, _⟩ => ⟨S2048x5632, .f32⟩
  | .hbm, ⟨43, _⟩ => ⟨S2048x5632, .f32⟩
  | .hbm, ⟨44, _⟩ => ⟨S2048x5632, .f32⟩
  | .hbm, ⟨45, _⟩ => ⟨S2048x5632, .f32⟩
  | .hbm, ⟨46, _⟩ => ⟨S2048x5632, .f32⟩
  | .hbm, ⟨47, _⟩ => ⟨S2048x5632, .f32⟩
  | .hbm, ⟨48, _⟩ => ⟨S2048x5632, .f32⟩
  | .hbm, ⟨49, _⟩ => ⟨S2048x5632, .f32⟩
  | .hbm, ⟨50, _⟩ => ⟨S2048x5632, .f32⟩
  | .hbm, ⟨51, _⟩ => ⟨S2048x5632, .f32⟩
  | .hbm, ⟨52, _⟩ => ⟨S2048x11264, .f32⟩
  | .hbm, ⟨53, _⟩ => ⟨S2048x11264, .f32⟩
  | .hbm, ⟨54, _⟩ => ⟨S_, .f32⟩
  | .hbm, ⟨55, _⟩ => ⟨S11264, .f32⟩
  | .hbm, ⟨56, _⟩ => ⟨S1x11264, .f32⟩
  | .hbm, ⟨57, _⟩ => ⟨S2048x11264, .f32⟩
  | .hbm, ⟨58, _⟩ => ⟨S2048x11264, .f32⟩
  | .hbm, ⟨59, _⟩ => ⟨S_, .f32⟩
  | .hbm, ⟨60, _⟩ => ⟨S11264, .f32⟩
  | .hbm, ⟨61, _⟩ => ⟨S1x11264, .f32⟩
  | .hbm, ⟨62, _⟩ => ⟨S_, .f32⟩
  | .hbm, ⟨63, _⟩ => ⟨S3x11264, .f32⟩
  | .hbm, ⟨64, _⟩ => ⟨S_, .f32⟩
  | .hbm, ⟨65, _⟩ => ⟨S2050x11264, .f32⟩
  | .hbm, ⟨66, _⟩ => ⟨S2048x11264, .f32⟩
  | .hbm, ⟨67, _⟩ => ⟨S_, .f32⟩
  | .hbm, ⟨68, _⟩ => ⟨S11264, .f32⟩
  | .hbm, ⟨69, _⟩ => ⟨S1x11264, .f32⟩
  | .hbm, ⟨70, _⟩ => ⟨S2048x11264, .f32⟩
  | .hbm, ⟨71, _⟩ => ⟨S2048x11264, .f32⟩
  | .hbm, ⟨72, _⟩ => ⟨S_, .f32⟩
  | .hbm, ⟨73, _⟩ => ⟨S11264, .f32⟩
  | .hbm, ⟨74, _⟩ => ⟨S1x11264, .f32⟩
  | .hbm, ⟨75, _⟩ => ⟨S_, .f32⟩
  | .hbm, ⟨76, _⟩ => ⟨S3x11264, .f32⟩
  | .hbm, ⟨77, _⟩ => ⟨S3x11264, .f32⟩
  | .hbm, ⟨78, _⟩ => ⟨S_, .f32⟩
  | .hbm, ⟨79, _⟩ => ⟨S2050x11264, .f32⟩
  | .hbm, ⟨80, _⟩ => ⟨S2050x11264, .f32⟩
  | .hbm, ⟨81, _⟩ => ⟨S2048x11264, .f32⟩
  | .hbm, ⟨82, _⟩ => ⟨S_, .f32⟩
  | .hbm, ⟨83, _⟩ => ⟨S11264, .f32⟩
  | .hbm, ⟨84, _⟩ => ⟨S1x11264, .f32⟩
  | .hbm, ⟨85, _⟩ => ⟨S2048x11264, .f32⟩
  | .hbm, ⟨86, _⟩ => ⟨S2048x11264, .f32⟩
  | .hbm, ⟨87, _⟩ => ⟨S_, .f32⟩
  | .hbm, ⟨88, _⟩ => ⟨S11264, .f32⟩
  | .hbm, ⟨89, _⟩ => ⟨S1x11264, .f32⟩
  | .hbm, ⟨90, _⟩ => ⟨S_, .f32⟩
  | .hbm, ⟨91, _⟩ => ⟨S3x11264, .f32⟩
  | .hbm, ⟨92, _⟩ => ⟨S3x11264, .f32⟩
  | .hbm, ⟨93, _⟩ => ⟨S_, .f32⟩
  | .hbm, ⟨94, _⟩ => ⟨S2050x11264, .f32⟩
  | .hbm, ⟨95, _⟩ => ⟨S2050x11264, .f32⟩
  | .hbm, ⟨96, _⟩ => ⟨S2x11264, .f32⟩
  | .hbm, ⟨97, _⟩ => ⟨S2048x11264, .f32⟩
  | .hbm, ⟨98, _⟩ => ⟨S2048x5632, .f32⟩
  | .hbm, ⟨99, _⟩ => ⟨S2048x5632, .f32⟩
  | .hbm, ⟨100, _⟩ => ⟨S1x2048x5632, .f32⟩
  | .hbm, ⟨101, _⟩ => ⟨S1x2048x5632, .f32⟩
  | .hbm, ⟨102, _⟩ => ⟨S2x2048x5632, .f32⟩
  | .hbm, ⟨103, _⟩ => ⟨S2x2048x5632, .bf16⟩
  | .hbm, ⟨104, _⟩ => ⟨S3x5632, .f32⟩
  | .hbm, ⟨105, _⟩ => ⟨S3x5632, .f32⟩
  | .hbm, ⟨106, _⟩ => ⟨S1x3x5632, .f32⟩
  | .hbm, ⟨107, _⟩ => ⟨S1x3x5632, .f32⟩
  | .hbm, ⟨108, _⟩ => ⟨S2x3x5632, .f32⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v26_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v26_1 : Ref sig .tc := ⟨.hbm, 42, rfl⟩
abbrev main_v26_0 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_1 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_2 : Ref sig .tc := ⟨.hbm, 59, rfl⟩
abbrev main_v38 : Ref sig .tc := ⟨.hbm, 60, rfl⟩
abbrev main_v39 : Ref sig .tc := ⟨.hbm, 61, rfl⟩
abbrev main_cst_3 : Ref sig .tc := ⟨.hbm, 62, rfl⟩
abbrev main_v40 : Ref sig .tc := ⟨.hbm, 63, rfl⟩
abbrev main_cst_4 : Ref sig .tc := ⟨.hbm, 64, rfl⟩
abbrev main_v41 : Ref sig .tc := ⟨.hbm, 65, rfl⟩
abbrev main_v42 : Ref sig .tc := ⟨.hbm, 66, rfl⟩
abbrev main_cst_5 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_6 : Ref sig .tc := ⟨.hbm, 72, rfl⟩
abbrev main_v47 : Ref sig .tc := ⟨.hbm, 73, rfl⟩
abbrev main_v48 : Ref sig .tc := ⟨.hbm, 74, rfl⟩
abbrev main_cst_7 : Ref sig .tc := ⟨.hbm, 75, rfl⟩
abbrev main_v49 : Ref sig .tc := ⟨.hbm, 76, rfl⟩
abbrev main_v50 : Ref sig .tc := ⟨.hbm, 77, rfl⟩
abbrev main_cst_8 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_9 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_10 : Ref sig .tc := ⟨.hbm, 87, rfl⟩
abbrev main_v58 : Ref sig .tc := ⟨.hbm, 88, rfl⟩
abbrev main_v59 : Ref sig .tc := ⟨.hbm, 89, rfl⟩
abbrev main_cst_11 : Ref sig .tc := ⟨.hbm, 90, rfl⟩
abbrev main_v60 : Ref sig .tc := ⟨.hbm, 91, rfl⟩
abbrev main_v61 : Ref sig .tc := ⟨.hbm, 92, rfl⟩
abbrev main_cst_12 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩

abbrev nD : Nat := 1
abbrev τ : Topo := Topo.v7x

variable {F : FTy → Type} [FloatOps F]
-- ==== ActFwd.lean ====
abbrev S2048x11264 : Shape := ⟨2, ![2048, 11264]⟩
abbrev S3x11264 : Shape := ⟨2, ![3, 11264]⟩
abbrev S2048x5632 : Shape := ⟨2, ![2048, 5632]⟩
abbrev S2048x256 : Shape := ⟨2, ![2048, 256]⟩
abbrev S3x256 : Shape := ⟨2, ![3, 256]⟩
abbrev S1x256 : Shape := ⟨2, ![1, 256]⟩

abbrev nBuf : Space → Nat
  | .hbm => 3
  | .vmem => 10
  | .smem => 0
  | _ => 0

abbrev bufTy : (tb : Table) → Fin (tcTables nBuf tb) → BufTy
  | .hbm, ⟨0, _⟩ => ⟨S2048x11264, .bf16⟩
  | .hbm, ⟨1, _⟩ => ⟨S3x11264, .f32⟩
  | .hbm, ⟨2, _⟩ => ⟨S2048x5632, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .vmem, ⟨8, _⟩ => ⟨S2048x256, .bf16⟩
  | .local _ .vmem, ⟨9, _⟩ => ⟨S2048x256, .bf16⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ActFwdRefIdeal.lean ====
abbrev S2048x11264 : Shape := ⟨2, ![2048, 11264]⟩
abbrev S3x11264 : Shape := ⟨2, ![3, 11264]⟩
abbrev S_ : Shape := ⟨0, ![]⟩
abbrev S2x11264 : Shape := ⟨2, ![2, 11264]⟩
abbrev S2050x11264 : Shape := ⟨2, ![2050, 11264]⟩
abbrev S1x11264 : Shape := ⟨2, ![1, 11264]⟩
abbrev S11264 : Shape := ⟨1, ![11264]⟩
abbrev S2048x5632 : Shape := ⟨2, ![2048, 5632]⟩

abbrev nBuf : Space → Nat
  | .hbm => 39
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S3x11264, .f32⟩
  | .hbm, ⟨2, _⟩ => ⟨S2048x11264, .f32⟩
  | .hbm, ⟨3, _⟩ => ⟨S_, .f32⟩
  | .hbm, ⟨4, _⟩ => ⟨S2x11264, .f32⟩
  | .hbm, ⟨5, _⟩ => ⟨S2050x11264, .f32⟩
  | .hbm, ⟨6, _⟩ => ⟨S2048x11264, .f32⟩
  | .hbm, ⟨7, _⟩ => ⟨S1x11264, .f32⟩
  | .hbm, ⟨8, _⟩ => ⟨S11264, .f32⟩
  | .hbm, ⟨9, _⟩ => ⟨S1x11264, .f32⟩
  | .hbm, ⟨10, _⟩ => ⟨S2048x11264, .f32⟩
  | .hbm, ⟨11, _⟩ => ⟨S2048x11264, .f32⟩
  | .hbm, ⟨12, _⟩ => ⟨S2048x11264, .f32⟩
  | .hbm, ⟨13, _⟩ => ⟨S1x11264, .f32⟩
  | .hbm, ⟨14, _⟩ => ⟨S11264, .f32⟩
  | .hbm, ⟨15, _⟩ => ⟨S1x11264, .f32⟩
  | .hbm, ⟨16, _⟩ => ⟨S2048x11264, .f32⟩
  | .hbm, ⟨17, _⟩ => ⟨S2048x11264, .f32⟩
  | .hbm, ⟨18, _⟩ => ⟨S2048x11264, .f32⟩
  | .hbm, ⟨19, _⟩ => ⟨S2048x11264, .f32⟩
  | .hbm, ⟨20, _⟩ => ⟨S1x11264, .f32⟩
  | .hbm, ⟨21, _⟩ => ⟨S11264, .f32⟩
  | .hbm, ⟨22, _⟩ => ⟨S1x11264, .f32⟩
  | .hbm, ⟨23, _⟩ => ⟨S2048x11264, .f32⟩
  | .hbm, ⟨24, _⟩ => ⟨S2048x11264, .f32⟩
  | .hbm, ⟨25, _⟩ => ⟨S2048x11264, .f32⟩
  | .hbm, ⟨26, _⟩ => ⟨S2048x5632, .f32⟩
  | .hbm, ⟨27, _⟩ => ⟨S2048x5632, .f32⟩
  | .hbm, ⟨28, _⟩ => ⟨S2048x5632, .f32⟩
  | .hbm, ⟨29, _⟩ => ⟨S2048x5632, .f32⟩
  | .hbm, ⟨30, _⟩ => ⟨S_, .f32⟩
  | .hbm, ⟨31, _⟩ => ⟨S2048x5632, .f32⟩
  | .hbm, ⟨32, _⟩ => ⟨S2048x5632, .f32⟩
  | .hbm, ⟨33, _⟩ => ⟨S_, .f32⟩
  | .hbm, ⟨34, _⟩ => ⟨S2048x5632, .f32⟩
  | .hbm, ⟨35, _⟩ => ⟨S2048x5632, .f32⟩
  | .hbm, ⟨36, _⟩ => ⟨S2048x5632, .f32⟩
  | .hbm, ⟨37, _⟩ => ⟨S2048x5632, .f32⟩
  | .hbm, ⟨38, _⟩ => ⟨S2048x5632, .bf16⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== AdamIn0.lean ====
abbrev S2048x768 : Shape := ⟨2, ![2048, 768]⟩
abbrev S4x2048x768 : Shape := ⟨3, ![4, 2048, 768]⟩
abbrev S1 : Shape := ⟨1, ![1]⟩
abbrev S256x768 : Shape := ⟨2, ![256, 768]⟩
abbrev S1x256x768 : Shape := ⟨3, ![1, 256, 768]⟩
abbrev S4x256x768 : Shape := ⟨3, ![4, 256, 768]⟩

abbrev nBuf : Space → Nat
  | .hbm => 9
  | .vmem => 18
  | .smem => 1
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S4x2048x768, .bf16⟩
  | .hbm, ⟨4, _⟩ => ⟨S4x2048x768, .bf16⟩
  | .hbm, ⟨5, _⟩ => ⟨S2048x768, .f32⟩
  | .hbm, ⟨6, _⟩ => ⟨S2048x768, .f32⟩
  | .hbm, ⟨7, _⟩ => ⟨S2048x768, .f32⟩
  | .hbm, ⟨8, _⟩ => ⟨S2048x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S1x256x768, .bf16⟩
  | .local _ .vmem, ⟨7, _⟩ => ⟨S1x256x768, .bf16⟩
  | .local _ .vmem, ⟨8, _⟩ => ⟨S4x256x768, .bf16⟩
  | .local _ .vmem, ⟨9, _⟩ => ⟨S4x256x768, .bf16⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | .local _ .vmem, ⟨16, _⟩ => ⟨S256x768, .f32⟩
  | .local _ .vmem, ⟨17, _⟩ => ⟨S256x768, .f32⟩
  | .local _ .smem, ⟨0, _⟩ => ⟨S1, .i32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 1], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x256x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamIn0Ideal.lean ====
abbrev S2048x768 : Shape := ⟨2, ![2048, 768]⟩
abbrev S4x2048x768 : Shape := ⟨3, ![4, 2048, 768]⟩
abbrev S1 : Shape := ⟨1, ![1]⟩
abbrev S256x768 : Shape := ⟨2, ![256, 768]⟩
abbrev S1x256x768 : Shape := ⟨3, ![1, 256, 768]⟩
abbrev S4x256x768 : Shape := ⟨3, ![4, 256, 768]⟩

abbrev nBuf : Space → Nat
  | .hbm => 9
  | .vmem => 18
  | .smem => 1
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S4x2048x768, .bf16⟩
  | .hbm, ⟨4, _⟩ => ⟨S4x2048x768, .bf16⟩
  | .hbm, ⟨5, _⟩ => ⟨S2048x768, .f32⟩
  | .hbm, ⟨6, _⟩ => ⟨S2048x768, .f32⟩
  | .hbm, ⟨7, _⟩ => ⟨S2048x768, .f32⟩
  | .hbm, ⟨8, _⟩ => ⟨S2048x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S1x256x768, .bf16⟩
  | .local _ .vmem, ⟨7, _⟩ => ⟨S1x256x768, .bf16⟩
  | .local _ .vmem, ⟨8, _⟩ => ⟨S4x256x768, .bf16⟩
  | .local _ .vmem, ⟨9, _⟩ => ⟨S4x256x768, .bf16⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | .local _ .vmem, ⟨16, _⟩ => ⟨S256x768, .f32⟩
  | .local _ .vmem, ⟨17, _⟩ => ⟨S256x768, .f32⟩
  | .local _ .smem, ⟨0, _⟩ => ⟨S1, .i32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 1], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x256x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamIn0RefIdeal.lean ====
abbrev S2048x768 : Shape := ⟨2, ![2048, 768]⟩
abbrev S4x2048x768 : Shape := ⟨3, ![4, 2048, 768]⟩
abbrev S1 : Shape := ⟨1, ![1]⟩
abbrev S4 : Shape := ⟨1, ![4]⟩
abbrev S_ : Shape := ⟨0, ![]⟩
abbrev S4x1x1 : Shape := ⟨3, ![4, 1, 1]⟩

abbrev nBuf : Space → Nat
  | .hbm => 50
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S4x2048x768, .bf16⟩
  | .hbm, ⟨4, _⟩ => ⟨S4x2048x768, .bf16⟩
  | .hbm, ⟨5, _⟩ => ⟨S1, .i32⟩
  | .hbm, ⟨6, _⟩ => ⟨S4, .i32⟩
  | .hbm, ⟨7, _⟩ => ⟨S_, .i32⟩
  | .hbm, ⟨8, _⟩ => ⟨S4, .i32⟩
  | .hbm, ⟨9, _⟩ => ⟨S4, .i1⟩
  | .hbm, ⟨10, _⟩ => ⟨S4x1x1, .i1⟩
  | .hbm, ⟨11, _⟩ => ⟨S4x2048x768, .f32⟩
  | .hbm, ⟨12, _⟩ => ⟨S4x2048x768, .f32⟩
  | .hbm, ⟨13, _⟩ => ⟨S4x2048x768, .i1⟩
  | .hbm, ⟨14, _⟩ => ⟨S4x2048x768, .f32⟩
  | .hbm, ⟨15, _⟩ => ⟨S_, .f32⟩
  | .hbm, ⟨16, _⟩ => ⟨S2048x768, .f32⟩
  | .hbm, ⟨17, _⟩ => ⟨S_, .f32⟩
  | .hbm, ⟨18, _⟩ => ⟨S2048x768, .f32⟩
  | .hbm, ⟨19, _⟩ => ⟨S2048x768, .f32⟩
  | .hbm, ⟨20, _⟩ => ⟨S_, .f32⟩
  | .hbm, ⟨21, _⟩ => ⟨S2048x768, .f32⟩
  | .hbm, ⟨22, _⟩ => ⟨S2048x768, .f32⟩
  | .hbm, ⟨23, _⟩ => ⟨S2048x768, .f32⟩
  | .hbm, ⟨24, _⟩ => ⟨S_, .f32⟩
  | .hbm, ⟨25, _⟩ => ⟨S2048x768, .f32⟩
  | .hbm, ⟨26, _⟩ => ⟨S2048x768, .f32⟩
  | .hbm, ⟨27, _⟩ => ⟨S2048x768, .f32⟩
  | .hbm, ⟨28, _⟩ => ⟨S_, .f32⟩
  | .hbm, ⟨29, _⟩ => ⟨S2048x768, .f32⟩
  | .hbm, ⟨30, _⟩ => ⟨S2048x768, .f32⟩
  | .hbm, ⟨31, _⟩ => ⟨S2048x768, .f32⟩
  | .hbm, ⟨32, _⟩ => ⟨S_, .f32⟩
  | .hbm, ⟨33, _⟩ => ⟨S2048x768, .f32⟩
  | .hbm, ⟨34, _⟩ => ⟨S2048x768, .f32⟩
  | .hbm, ⟨35, _⟩ => ⟨S_, .f32⟩
  | .hbm, ⟨36, _⟩ => ⟨S2048x768, .f32⟩
  | .hbm, ⟨37, _⟩ => ⟨S2048x768, .f32⟩
  | .hbm, ⟨38, _⟩ => ⟨S2048x768, .f32⟩
  | .hbm, ⟨39, _⟩ => ⟨S_, .f32⟩
  | .hbm, ⟨40, _⟩ => ⟨S2048x768, .f32⟩
  | .hbm, ⟨41, _⟩ => ⟨S2048x768, .f32⟩
  | .hbm, ⟨42, _⟩ => ⟨S2048x768, .f32⟩
  | .hbm, ⟨43, _⟩ => ⟨S_, .f32⟩
  | .hbm, ⟨44, _⟩ => ⟨S2048x768, .f32⟩
  | .hbm, ⟨45, _⟩ => ⟨S2048x768, .f32⟩
  | .hbm, ⟨46, _⟩ => ⟨S2048x768, .f32⟩
  | .hbm, ⟨47, _⟩ => ⟨S_, .f32⟩
  | .hbm, ⟨48, _⟩ => ⟨S2048x768, .f32⟩
  | .hbm, ⟨49, _⟩ => ⟨S2048x768, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== AdamOut.lean ====
abbrev S256x2048 : Shape := ⟨2, ![256, 2048]⟩
abbrev S4x256x2048 : Shape := ⟨3, ![4, 256, 2048]⟩
abbrev S1 : Shape := ⟨1, ![1]⟩
abbrev S1x256x2048 : Shape := ⟨3, ![1, 256, 2048]⟩

abbrev nBuf : Space → Nat
  | .hbm => 9
  | .vmem => 9
  | .smem => 1
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S4x256x2048, .bf16⟩
  | .hbm, ⟨4, _⟩ => ⟨S4x256x2048, .bf16⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S256x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S1x256x2048, .bf16⟩
  | .local _ .vmem, ⟨4, _⟩ => ⟨S4x256x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .smem, ⟨0, _⟩ => ⟨S1, .i32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S4x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== AdamOutIdeal.lean ====
abbrev S256x2048 : Shape := ⟨2, ![256, 2048]⟩
abbrev S4x256x2048 : Shape := ⟨3, ![4, 256, 2048]⟩
abbrev S1 : Shape := ⟨1, ![1]⟩
abbrev S1x256x2048 : Shape := ⟨3, ![1, 256, 2048]⟩

abbrev nBuf : Space → Nat
  | .hbm => 9
  | .vmem => 9
  | .smem => 1
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S4x256x2048, .bf16⟩
  | .hbm, ⟨4, _⟩ => ⟨S4x256x2048, .bf16⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S256x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S1x256x2048, .bf16⟩
  | .local _ .vmem, ⟨4, _⟩ => ⟨S4x256x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .smem, ⟨0, _⟩ => ⟨S1, .i32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S4x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== AdamOutRefIdeal.lean ====
abbrev S256x2048 : Shape := ⟨2, ![256, 2048]⟩
abbrev S4x256x2048 : Shape := ⟨3, ![4, 256, 2048]⟩
abbrev S1 : Shape := ⟨1, ![1]⟩
abbrev S4 : Shape := ⟨1, ![4]⟩
abbrev S_ : Shape := ⟨0, ![]⟩
abbrev S4x1x1 : Shape := ⟨3, ![4, 1, 1]⟩

abbrev nBuf : Space → Nat
  | .hbm => 50
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S4x256x2048, .bf16⟩
  | .hbm, ⟨4, _⟩ => ⟨S4x256x2048, .bf16⟩
  | .hbm, ⟨5, _⟩ => ⟨S1, .i32⟩
  | .hbm, ⟨6, _⟩ => ⟨S4, .i32⟩
  | .hbm, ⟨7, _⟩ => ⟨S_, .i32⟩
  | .hbm, ⟨8, _⟩ => ⟨S4, .i32⟩
  | .hbm, ⟨9, _⟩ => ⟨S4, .i1⟩
  | .hbm, ⟨10, _⟩ => ⟨S4x1x1, .i1⟩
  | .hbm, ⟨11, _⟩ => ⟨S4x256x2048, .f32⟩
  | .hbm, ⟨12, _⟩ => ⟨S4x256x2048, .f32⟩
  | .hbm, ⟨13, _⟩ => ⟨S4x256x2048, .i1⟩
  | .hbm, ⟨14, _⟩ => ⟨S4x256x2048, .f32⟩
  | .hbm, ⟨15, _⟩ => ⟨S_, .f32⟩
  | .hbm, ⟨16, _⟩ => ⟨S256x2048, .f32⟩
  | .hbm, ⟨17, _⟩ => ⟨S_, .f32⟩
  | .hbm, ⟨18, _⟩ => ⟨S256x2048, .f32⟩
  | .hbm, ⟨19, _⟩ => ⟨S256x2048, .f32⟩
  | .hbm, ⟨20, _⟩ => ⟨S_, .f32⟩
  | .hbm, ⟨21, _⟩ => ⟨S256x2048, .f32⟩
  | .hbm, ⟨22, _⟩ => ⟨S256x2048, .f32⟩
  | .hbm, ⟨23, _⟩ => ⟨S256x2048, .f32⟩
  | .hbm, ⟨24, _⟩ => ⟨S_, .f32⟩
  | .hbm, ⟨25, _⟩ => ⟨S256x2048, .f32⟩
  | .hbm, ⟨26, _⟩ => ⟨S256x2048, .f32⟩
  | .hbm, ⟨27, _⟩ => ⟨S256x2048, .f32⟩
  | .hbm, ⟨28, _⟩ => ⟨S_, .f32⟩
  | .hbm, ⟨29, _⟩ => ⟨S256x2048, .f32⟩
  | .hbm, ⟨30, _⟩ => ⟨S256x2048, .f32⟩
  | .hbm, ⟨31, _⟩ => ⟨S256x2048, .f32⟩
  | .hbm, ⟨32, _⟩ => ⟨S_, .f32⟩
  | .hbm, ⟨33, _⟩ => ⟨S256x2048, .f32⟩
  | .hbm, ⟨34, _⟩ => ⟨S256x2048, .f32⟩
  | .hbm, ⟨35, _⟩ => ⟨S_, .f32⟩
  | .hbm, ⟨36, _⟩ => ⟨S256x2048, .f32⟩
  | .hbm, ⟨37, _⟩ => ⟨S256x2048, .f32⟩
  | .hbm, ⟨38, _⟩ => ⟨S256x2048, .f32⟩
  | .hbm, ⟨39, _⟩ => ⟨S_, .f32⟩
  | .hbm, ⟨40, _⟩ => ⟨S256x2048, .f32⟩
  | .hbm, ⟨41, _⟩ => ⟨S256x2048, .f32⟩
  | .hbm, ⟨42, _⟩ => ⟨S256x2048, .f32⟩
  | .hbm, ⟨43, _⟩ => ⟨S_, .f32⟩
  | .hbm, ⟨44, _⟩ => ⟨S256x2048, .f32⟩
  | .hbm, ⟨45, _⟩ => ⟨S256x2048, .f32⟩
  | .hbm, ⟨46, _⟩ => ⟨S256x2048, .f32⟩
  | .hbm, ⟨47, _⟩ => ⟨S_, .f32⟩
  | .hbm, ⟨48, _⟩ => ⟨S256x2048, .f32⟩
  | .hbm, ⟨49, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== AdamUp.lean ====
abbrev S2048x1408 : Shape := ⟨2, ![2048, 1408]⟩
abbrev S4x2048x1408 : Shape := ⟨3, ![4, 2048, 1408]⟩
abbrev S1 : Shape := ⟨1, ![1]⟩
abbrev S256x1408 : Shape := ⟨2, ![256, 1408]⟩
abbrev S1x256x1408 : Shape := ⟨3, ![1, 256, 1408]⟩
abbrev S4x256x1408 : Shape := ⟨3, ![4, 256, 1408]⟩

abbrev nBuf : Space → Nat
  | .hbm => 9
  | .vmem => 18
  | .smem => 1
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S4x2048x1408, .bf16⟩
  | .hbm, ⟨4, _⟩ => ⟨S4x2048x1408, .bf16⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S1x256x1408, .bf16⟩
  | .local _ .vmem, ⟨7, _⟩ => ⟨S1x256x1408, .bf16⟩
  | .local _ .vmem, ⟨8, _⟩ => ⟨S4x256x1408, .bf16⟩
  | .local _ .vmem, ⟨9, _⟩ => ⟨S4x256x1408, .bf16⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | .local _ .smem, ⟨0, _⟩ => ⟨S1, .i32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 1], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x256x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamUpIdeal.lean ====
abbrev S2048x1408 : Shape := ⟨2, ![2048, 1408]⟩
abbrev S4x2048x1408 : Shape := ⟨3, ![4, 2048, 1408]⟩
abbrev S1 : Shape := ⟨1, ![1]⟩
abbrev S256x1408 : Shape := ⟨2, ![256, 1408]⟩
abbrev S1x256x1408 : Shape := ⟨3, ![1, 256, 1408]⟩
abbrev S4x256x1408 : Shape := ⟨3, ![4, 256, 1408]⟩

abbrev nBuf : Space → Nat
  | .hbm => 9
  | .vmem => 18
  | .smem => 1
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S4x2048x1408, .bf16⟩
  | .hbm, ⟨4, _⟩ => ⟨S4x2048x1408, .bf16⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S1x256x1408, .bf16⟩
  | .local _ .vmem, ⟨7, _⟩ => ⟨S1x256x1408, .bf16⟩
  | .local _ .vmem, ⟨8, _⟩ => ⟨S4x256x1408, .bf16⟩
  | .local _ .vmem, ⟨9, _⟩ => ⟨S4x256x1408, .bf16⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | .local _ .smem, ⟨0, _⟩ => ⟨S1, .i32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 1], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x256x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamUpRefIdeal.lean ====
abbrev S2048x1408 : Shape := ⟨2, ![2048, 1408]⟩
abbrev S4x2048x1408 : Shape := ⟨3, ![4, 2048, 1408]⟩
abbrev S1 : Shape := ⟨1, ![1]⟩
abbrev S4 : Shape := ⟨1, ![4]⟩
abbrev S_ : Shape := ⟨0, ![]⟩
abbrev S4x1x1 : Shape := ⟨3, ![4, 1, 1]⟩

abbrev nBuf : Space → Nat
  | .hbm => 50
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S4x2048x1408, .bf16⟩
  | .hbm, ⟨4, _⟩ => ⟨S4x2048x1408, .bf16⟩
  | .hbm, ⟨5, _⟩ => ⟨S1, .i32⟩
  | .hbm, ⟨6, _⟩ => ⟨S4, .i32⟩
  | .hbm, ⟨7, _⟩ => ⟨S_, .i32⟩
  | .hbm, ⟨8, _⟩ => ⟨S4, .i32⟩
  | .hbm, ⟨9, _⟩ => ⟨S4, .i1⟩
  | .hbm, ⟨10, _⟩ => ⟨S4x1x1, .i1⟩
  | .hbm, ⟨11, _⟩ => ⟨S4x2048x1408, .f32⟩
  | .hbm, ⟨12, _⟩ => ⟨S4x2048x1408, .f32⟩
  | .hbm, ⟨13, _⟩ => ⟨S4x2048x1408, .i1⟩
  | .hbm, ⟨14, _⟩ => ⟨S4x2048x1408, .f32⟩
  | .hbm, ⟨15, _⟩ => ⟨S_, .f32⟩
  | .hbm, ⟨16, _⟩ => ⟨S2048x1408, .f32⟩
  | .hbm, ⟨17, _⟩ => ⟨S_, .f32⟩
  | .hbm, ⟨18, _⟩ => ⟨S2048x1408, .f32⟩
  | .hbm, ⟨19, _⟩ => ⟨S2048x1408, .f32⟩
  | .hbm, ⟨20, _⟩ => ⟨S_, .f32⟩
  | .hbm, ⟨21, _⟩ => ⟨S2048x1408, .f32⟩
  | .hbm, ⟨22, _⟩ => ⟨S2048x1408, .f32⟩
  | .hbm, ⟨23, _⟩ => ⟨S2048x1408, .f32⟩
  | .hbm, ⟨24, _⟩ => ⟨S_, .f32⟩
  | .hbm, ⟨25, _⟩ => ⟨S2048x1408, .f32⟩
  | .hbm, ⟨26, _⟩ => ⟨S2048x1408, .f32⟩
  | .hbm, ⟨27, _⟩ => ⟨S2048x1408, .f32⟩
  | .hbm, ⟨28, _⟩ => ⟨S_, .f32⟩
  | .hbm, ⟨29, _⟩ => ⟨S2048x1408, .f32⟩
  | .hbm, ⟨30, _⟩ => ⟨S2048x1408, .f32⟩
  | .hbm, ⟨31, _⟩ => ⟨S2048x1408, .f32⟩
  | .hbm, ⟨32, _⟩ => ⟨S_, .f32⟩
  | .hbm, ⟨33, _⟩ => ⟨S2048x1408, .f32⟩
  | .hbm, ⟨34, _⟩ => ⟨S2048x1408, .f32⟩
  | .hbm, ⟨35, _⟩ => ⟨S_, .f32⟩
  | .hbm, ⟨36, _⟩ => ⟨S2048x1408, .f32⟩
  | .hbm, ⟨37, _⟩ => ⟨S2048x1408, .f32⟩
  | .hbm, ⟨38, _⟩ => ⟨S2048x1408, .f32⟩
  | .hbm, ⟨39, _⟩ => ⟨S_, .f32⟩
  | .hbm, ⟨40, _⟩ => ⟨S2048x1408, .f32⟩
  | .hbm, ⟨41, _⟩ => ⟨S2048x1408, .f32⟩
  | .hbm, ⟨42, _⟩ => ⟨S2048x1408, .f32⟩
  | .hbm, ⟨43, _⟩ => ⟨S_, .f32⟩
  | .hbm, ⟨44, _⟩ => ⟨S2048x1408, .f32⟩
  | .hbm, ⟨45, _⟩ => ⟨S2048x1408, .f32⟩
  | .hbm, ⟨46, _⟩ => ⟨S2048x1408, .f32⟩
  | .hbm, ⟨47, _⟩ => ⟨S_, .f32⟩
  | .hbm, ⟨48, _⟩ => ⟨S2048x1408, .f32⟩
  | .hbm, ⟨49, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== AdamDown.lean ====
abbrev S704x2048 : Shape := ⟨2, ![704, 2048]⟩
abbrev S4x704x2048 : Shape := ⟨3, ![4, 704, 2048]⟩
abbrev S1 : Shape := ⟨1, ![1]⟩
abbrev S64x2048 : Shape := ⟨2, ![64, 2048]⟩
abbrev S1x64x2048 : Shape := ⟨3, ![1, 64, 2048]⟩
abbrev S4x64x2048 : Shape := ⟨3, ![4, 64, 2048]⟩

abbrev nBuf : Space → Nat
  | .hbm => 9
  | .vmem => 18
  | .smem => 1
  | _ => 0

abbrev bufTy : (tb : Table) → Fin (tcTables nBuf tb) → BufTy
  | .hbm, ⟨0, _⟩ => ⟨S704x2048, .f32⟩
  | .hbm, ⟨1, _⟩ => ⟨S704x2048, .f32⟩
  | .hbm, ⟨2, _⟩ => ⟨S704x2048, .f32⟩
  | .hbm, ⟨3, _⟩ => ⟨S4x704x2048, .bf16⟩
  | .hbm, ⟨4, _⟩ => ⟨S4x704x2048, .bf16⟩
  | .hbm, ⟨5, _⟩ => ⟨S704x2048, .f32⟩
  | .hbm, ⟨6, _⟩ => ⟨S704x2048, .f32⟩
  | .hbm, ⟨7, _⟩ => ⟨S704x2048, .f32⟩
  | .hbm, ⟨8, _⟩ => ⟨S704x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S1x64x2048, .bf16⟩
  | .local _ .vmem, ⟨7, _⟩ => ⟨S1x64x2048, .bf16⟩
  | .local _ .vmem, ⟨8, _⟩ => ⟨S4x64x2048, .bf16⟩
  | .local _ .vmem, ⟨9, _⟩ => ⟨S4x64x2048, .bf16⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | .local _ .vmem, ⟨16, _⟩ => ⟨S64x2048, .f32⟩
  | .local _ .vmem, ⟨17, _⟩ => ⟨S64x2048, .f32⟩
  | .local _ .smem, ⟨0, _⟩ => ⟨S1, .i32⟩
  | _, _ => ⟨S704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![11, 1], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x64x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamDownRefIdeal.lean ====
abbrev S704x2048 : Shape := ⟨2, ![704, 2048]⟩
abbrev S4x704x2048 : Shape := ⟨3, ![4, 704, 2048]⟩
abbrev S1 : Shape := ⟨1, ![1]⟩
abbrev S4 : Shape := ⟨1, ![4]⟩
abbrev S_ : Shape := ⟨0, ![]⟩
abbrev S4x1x1 : Shape := ⟨3, ![4, 1, 1]⟩

abbrev nBuf : Space → Nat
  | .hbm => 50
  | .vmem => 0
  | .smem => 0
  | _ => 0

abbrev bufTy : (tb : Table) → Fin (tcTables nBuf tb) → BufTy
  | .hbm, ⟨0, _⟩ => ⟨S704x2048, .f32⟩
  | .hbm, ⟨1, _⟩ => ⟨S704x2048, .f32⟩
  | .hbm, ⟨2, _⟩ => ⟨S704x2048, .f32⟩
  | .hbm, ⟨3, _⟩ => ⟨S4x704x2048, .bf16⟩
  | .hbm, ⟨4, _⟩ => ⟨S4x704x2048, .bf16⟩
  | .hbm, ⟨5, _⟩ => ⟨S1, .i32⟩
  | .hbm, ⟨6, _⟩ => ⟨S4, .i32⟩
  | .hbm, ⟨7, _⟩ => ⟨S_, .i32⟩
  | .hbm, ⟨8, _⟩ => ⟨S4, .i32⟩
  | .hbm, ⟨9, _⟩ => ⟨S4, .i1⟩
  | .hbm, ⟨10, _⟩ => ⟨S4x1x1, .i1⟩
  | .hbm, ⟨11, _⟩ => ⟨S4x704x2048, .f32⟩
  | .hbm, ⟨12, _⟩ => ⟨S4x704x2048, .f32⟩
  | .hbm, ⟨13, _⟩ => ⟨S4x704x2048, .i1⟩
  | .hbm, ⟨14, _⟩ => ⟨S4x704x2048, .f32⟩
  | .hbm, ⟨15, _⟩ => ⟨S_, .f32⟩
  | .hbm, ⟨16, _⟩ => ⟨S704x2048, .f32⟩
  | .hbm, ⟨17, _⟩ => ⟨S_, .f32⟩
  | .hbm, ⟨18, _⟩ => ⟨S704x2048, .f32⟩
  | .hbm, ⟨19, _⟩ => ⟨S704x2048, .f32⟩
  | .hbm, ⟨20, _⟩ => ⟨S_, .f32⟩
  | .hbm, ⟨21, _⟩ => ⟨S704x2048, .f32⟩
  | .hbm, ⟨22, _⟩ => ⟨S704x2048, .f32⟩
  | .hbm, ⟨23, _⟩ => ⟨S704x2048, .f32⟩
  | .hbm, ⟨24, _⟩ => ⟨S_, .f32⟩
  | .hbm, ⟨25, _⟩ => ⟨S704x2048, .f32⟩
  | .hbm, ⟨26, _⟩ => ⟨S704x2048, .f32⟩
  | .hbm, ⟨27, _⟩ => ⟨S704x2048, .f32⟩
  | .hbm, ⟨28, _⟩ => ⟨S_, .f32⟩
  | .hbm, ⟨29, _⟩ => ⟨S704x2048, .f32⟩
  | .hbm, ⟨30, _⟩ => ⟨S704x2048, .f32⟩
  | .hbm, ⟨31, _⟩ => ⟨S704x2048, .f32⟩
  | .hbm, ⟨32, _⟩ => ⟨S_, .f32⟩
  | .hbm, ⟨33, _⟩ => ⟨S704x2048, .f32⟩
  | .hbm, ⟨34, _⟩ => ⟨S704x2048, .f32⟩
  | .hbm, ⟨35, _⟩ => ⟨S_, .f32⟩
  | .hbm, ⟨36, _⟩ => ⟨S704x2048, .f32⟩
  | .hbm, ⟨37, _⟩ => ⟨S704x2048, .f32⟩
  | .hbm, ⟨38, _⟩ => ⟨S704x2048, .f32⟩
  | .hbm, ⟨39, _⟩ => ⟨S_, .f32⟩
  | .hbm, ⟨40, _⟩ => ⟨S704x2048, .f32⟩
  | .hbm, ⟨41, _⟩ => ⟨S704x2048, .f32⟩
  | .hbm, ⟨42, _⟩ => ⟨S704x2048, .f32⟩
  | .hbm, ⟨43, _⟩ => ⟨S_, .f32⟩
  | .hbm, ⟨44, _⟩ => ⟨S704x2048, .f32⟩
  | .hbm, ⟨45, _⟩ => ⟨S704x2048, .f32⟩
  | .hbm, ⟨46, _⟩ => ⟨S704x2048, .f32⟩
  | .hbm, ⟨47, _⟩ => ⟨S_, .f32⟩
  | .hbm, ⟨48, _⟩ => ⟨S704x2048, .f32⟩
  | .hbm, ⟨49, _⟩ => ⟨S704x2048, .f32⟩
  | _, _ => ⟨S704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== NormBwd.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .bf16⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v38 : BitVec 1 := Scalar.cmpi .eq arg0 c0_i32
  let v39 : BitVec 32 := Scalar.extui v38
  let c0_i32_16 : BitVec 32 := 0#32
  let v40 : BitVec 1 := Scalar.cmpi .ne v39 c0_i32_16
  v40

def k0_cond2 (i : grid0.Coords) : BitVec 1 :=
  let arg0 : BitVec 32 := BitVec.ofNat 32 (i 0).val
  let c0_i32_17 : BitVec 32 := 0#32
  let v41 : BitVec 1 := Scalar.cmpi .sgt arg0 c0_i32_17
  let v42 : BitVec 32 := Scalar.extui v41
  let c0_i32_18 : BitVec 32 := 0#32
  let v43 : BitVec 1 := Scalar.cmpi .ne v42 c0_i32_18
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormBwdRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .bf16⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048, .f32⟩
  | .hbm, ⟨33, _⟩ => ⟨S2048x2048, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S2048x2048, .f32⟩
  | .hbm, ⟨38, _⟩ => ⟨S2048x2048, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .bf16⟩
  | .hbm, ⟨52, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== NormFwd.lean ====
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S1x2048, .f32⟩
  | .hbm, ⟨3, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S1x2048, .f32⟩
  | .hbm, ⟨16, _⟩ => ⟨S2048x2048, .f32⟩
  | .hbm, ⟨17, _⟩ => ⟨S2048x2048, .f32⟩
  | .hbm, ⟨18, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== LossHead.lean ====
abbrev S2048x2048 : Shape := ⟨2, ![2048, 2048]⟩
abbrev S2048 : Shape := ⟨1, ![2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1x256x2048 : Shape := ⟨3, ![1, 256, 2048]⟩
abbrev S1 : Shape := ⟨1, ![1]⟩
abbrev S1x1x1 : Shape := ⟨3, ![1, 1, 1]⟩

abbrev nBuf : Space → Nat
  | .hbm => 8
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .hbm, ⟨7, _⟩ => ⟨S8x128, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S1x2048, .f32⟩
  | .local _ .vmem, ⟨10, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v47 : BitVec 1 := Scalar.cmpi .eq arg0 c0_i32
  let v48 : BitVec 32 := Scalar.extui v47
  let c0_i32_17 : BitVec 32 := 0#32
  let v49 : BitVec 1 := Scalar.cmpi .ne v48 c0_i32_17
  v49

def k0_cond2 (i : grid0.Coords) : BitVec 1 :=
  let arg0 : BitVec 32 := BitVec.ofNat 32 (i 0).val
  let c0_i32_18 : BitVec 32 := 0#32
  let v50 : BitVec 1 := Scalar.cmpi .sgt arg0 c0_i32_18
  let v51 : BitVec 32 := Scalar.extui v50
  let c0_i32_19 : BitVec 32 := 0#32
  let v52 : BitVec 1 := Scalar.cmpi .ne v51 c0_i32_19
  v52

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossHeadRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S8x128 : Shape := ⟨2, ![8, 128]⟩

abbrev nBuf : Space → Nat
  | .hbm => 101
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S1x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2048, .f32⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048, .f32⟩
  | .hbm, ⟨54, _⟩ => ⟨S2048x2048, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S2048x2048, .f32⟩
  | .hbm, ⟨59, _⟩ => ⟨S2048x2048, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S_, .f32⟩
  | .hbm, ⟨65, _⟩ => ⟨S2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .bf16⟩
  | .hbm, ⟨72, _⟩ => ⟨S1x2048, .f32⟩
  | .hbm, ⟨73, _⟩ => ⟨S2048x2048, .f32⟩
  | .hbm, ⟨74, _⟩ => ⟨S_, .f32⟩
  | .hbm, ⟨75, _⟩ => ⟨S2048, .f32⟩
  | .hbm, ⟨76, _⟩ => ⟨S2048x1, .f32⟩
  | .hbm, ⟨77, _⟩ => ⟨S_, .f32⟩
  | .hbm, ⟨78, _⟩ => ⟨S2048x1, .f32⟩
  | .hbm, ⟨79, _⟩ => ⟨S2048x1, .f32⟩
  | .hbm, ⟨80, _⟩ => ⟨S_, .f32⟩
  | .hbm, ⟨81, _⟩ => ⟨S2048x1, .f32⟩
  | .hbm, ⟨82, _⟩ => ⟨S2048x1, .f32⟩
  | .hbm, ⟨83, _⟩ => ⟨S2048x1, .f32⟩
  | .hbm, ⟨84, _⟩ => ⟨S2048x2048, .f32⟩
  | .hbm, ⟨85, _⟩ => ⟨S2048x2048, .f32⟩
  | .hbm, ⟨86, _⟩ => ⟨S1x2048, .f32⟩
  | .hbm, ⟨87, _⟩ => ⟨S2048x2048, .f32⟩
  | .hbm, ⟨88, _⟩ => ⟨S2048x2048, .f32⟩
  | .hbm, ⟨89, _⟩ => ⟨S2048x2048, .f32⟩
  | .hbm, ⟨90, _⟩ => ⟨S2048x2048, .f32⟩
  | .hbm, ⟨91, _⟩ => ⟨S_, .f32⟩
  | .hbm, ⟨92, _⟩ => ⟨S2048, .f32⟩
  | .hbm, ⟨93, _⟩ => ⟨S_, .f32⟩
  | .hbm, ⟨94, _⟩ => ⟨S2048, .f32⟩
  | .hbm, ⟨95, _⟩ => ⟨S2048, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S8x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_16 : Ref sig .tc := ⟨.hbm, 74, rfl⟩
abbrev main_v54 : Ref sig .tc := ⟨.hbm, 75, rfl⟩
abbrev main_v55 : Ref sig .tc := ⟨.hbm, 76, rfl⟩
abbrev main_cst_17 : Ref sig .tc := ⟨.hbm, 77, rfl⟩
abbrev main_v56 : Ref sig .tc := ⟨.hbm, 78, rfl⟩
abbrev main_v57 : Ref sig .tc := ⟨.hbm, 79, rfl⟩
abbrev main_cst_18 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_19 : Ref sig .tc := ⟨.hbm, 91, rfl⟩
abbrev main_v68 : Ref sig .tc := ⟨.hbm, 92, rfl⟩
abbrev main_cst_20 : Ref sig .tc := ⟨.hbm, 93, rfl⟩
abbrev main_v69 : Ref sig .tc := ⟨.hbm, 94, rfl⟩
abbrev main_v70 : Ref sig .tc := ⟨.hbm, 95, rfl⟩
abbrev main_cst_21 : Ref sig .tc := ⟨.hbm, 96, rfl⟩
abbrev main_v71 : Ref sig .tc := ⟨.hbm, 97, rfl⟩
abbrev main_cst_22 : Ref sig .tc := ⟨.hbm, 98, rfl⟩
abbrev main_v72 : Ref sig .tc := ⟨.hbm, 99, rfl⟩
abbrev main_v73 : Ref sig .tc := ⟨.hbm, 100, rfl⟩

abbrev nD : Nat := 1
abbrev τ : Topo := Topo.v7x

variable {F : FTy → Type} [FloatOps F]
-- ==== SmallStep.lean ====
abbrev S1200x128 : Shape := ⟨2, ![1200, 128]⟩
abbrev S1x1200x128 : Shape := ⟨3, ![1, 1200, 128]⟩
abbrev S16x128 : Shape := ⟨2, ![16, 128]⟩
abbrev S1x16x128 : Shape := ⟨3, ![1, 16, 128]⟩

abbrev nBuf : Space → Nat
  | .hbm => 8
  | .vmem => 16
  | .smem => 0
  | _ => 0

abbrev bufTy : (tb : Table) → Fin (tcTables nBuf tb) → BufTy
  | .hbm, ⟨0, _⟩ => ⟨S1200x128, .f32⟩
  | .hbm, ⟨1, _⟩ => ⟨S1200x128, .f32⟩
  | .hbm, ⟨2, _⟩ => ⟨S1200x128, .f32⟩
  | .hbm, ⟨3, _⟩ => ⟨S1x1200x128, .f32⟩
  | .hbm, ⟨4, _⟩ => ⟨S1200x128, .f32⟩
  | .hbm, ⟨5, _⟩ => ⟨S1200x128, .f32⟩
  | .hbm, ⟨6, _⟩ => ⟨S1200x128, .f32⟩
  | .hbm, ⟨7, _⟩ => ⟨S1200x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S1x16x128, .f32⟩
  | .local _ .vmem, ⟨7, _⟩ => ⟨S1x16x128, .f32⟩
  | .local _ .vmem, ⟨8, _⟩ => ⟨S16x128, .f32⟩
  | .local _ .vmem, ⟨9, _⟩ => ⟨S16x128, .f32⟩
  | .local _ .vmem, ⟨10, _⟩ => ⟨S16x128, .f32⟩
  | .local _ .vmem, ⟨11, _⟩ => ⟨S16x128, .f32⟩
  | .local _ .vmem, ⟨12, _⟩ => ⟨S16x128, .f32⟩
  | .local _ .vmem, ⟨13, _⟩ => ⟨S16x128, .f32⟩
  | .local _ .vmem, ⟨14, _⟩ => ⟨S16x128, .f32⟩
  | .local _ .vmem, ⟨15, _⟩ => ⟨S16x128, .f32⟩
  | _, _ => ⟨S1200x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![75], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SmallStepIdeal.lean ====
abbrev S1200x128 : Shape := ⟨2, ![1200, 128]⟩
abbrev S1x1200x128 : Shape := ⟨3, ![1, 1200, 128]⟩
abbrev S16x128 : Shape := ⟨2, ![16, 128]⟩
abbrev S1x16x128 : Shape := ⟨3, ![1, 16, 128]⟩

abbrev nBuf : Space → Nat
  | .hbm => 8
  | .vmem => 16
  | .smem => 0
  | _ => 0

abbrev bufTy : (tb : Table) → Fin (tcTables nBuf tb) → BufTy
  | .hbm, ⟨0, _⟩ => ⟨S1200x128, .f32⟩
  | .hbm, ⟨1, _⟩ => ⟨S1200x128, .f32⟩
  | .hbm, ⟨2, _⟩ => ⟨S1200x128, .f32⟩
  | .hbm, ⟨3, _⟩ => ⟨S1x1200x128, .f32⟩
  | .hbm, ⟨4, _⟩ => ⟨S1200x128, .f32⟩
  | .hbm, ⟨5, _⟩ => ⟨S1200x128, .f32⟩
  | .hbm, ⟨6, _⟩ => ⟨S1200x128, .f32⟩
  | .hbm, ⟨7, _⟩ => ⟨S1200x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S1x16x128, .f32⟩
  | .local _ .vmem, ⟨7, _⟩ => ⟨S1x16x128, .f32⟩
  | .local _ .vmem, ⟨8, _⟩ => ⟨S16x128, .f32⟩
  | .local _ .vmem, ⟨9, _⟩ => ⟨S16x128, .f32⟩
  | .local _ .vmem, ⟨10, _⟩ => ⟨S16x128, .f32⟩
  | .local _ .vmem, ⟨11, _⟩ => ⟨S16x128, .f32⟩
  | .local _ .vmem, ⟨12, _⟩ => ⟨S16x128, .f32⟩
  | .local _ .vmem, ⟨13, _⟩ => ⟨S16x128, .f32⟩
  | .local _ .vmem, ⟨14, _⟩ => ⟨S16x128, .f32⟩
  | .local _ .vmem, ⟨15, _⟩ => ⟨S16x128, .f32⟩
  | _, _ => ⟨S1200x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![75], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SmallStepRefIdeal.lean ====
abbrev S1200x128 : Shape := ⟨2, ![1200, 128]⟩
abbrev S1x1200x128 : Shape := ⟨3, ![1, 1200, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1200x128, .f32⟩
  | .hbm, ⟨1, _⟩ => ⟨S1200x128, .f32⟩
  | .hbm, ⟨2, _⟩ => ⟨S1200x128, .f32⟩
  | .hbm, ⟨3, _⟩ => ⟨S1x1200x128, .f32⟩
  | .hbm, ⟨4, _⟩ => ⟨S_, .f32⟩
  | .hbm, ⟨5, _⟩ => ⟨S1200x128, .f32⟩
  | .hbm, ⟨6, _⟩ => ⟨S_, .f32⟩
  | .hbm, ⟨7, _⟩ => ⟨S1200x128, .f32⟩
  | .hbm, ⟨8, _⟩ => ⟨S1200x128, .f32⟩
  | .hbm, ⟨9, _⟩ => ⟨S_, .f32⟩
  | .hbm, ⟨10, _⟩ => ⟨S1200x128, .f32⟩
  | .hbm, ⟨11, _⟩ => ⟨S1200x128, .f32⟩
  | .hbm, ⟨12, _⟩ => ⟨S1200x128, .f32⟩
  | .hbm, ⟨13, _⟩ => ⟨S_, .f32⟩
  | .hbm, ⟨14, _⟩ => ⟨S1200x128, .f32⟩
  | .hbm, ⟨15, _⟩ => ⟨S1200x128, .f32⟩
  | .hbm, ⟨16, _⟩ => ⟨S1200x128, .f32⟩
  | .hbm, ⟨17, _⟩ => ⟨S_, .f32⟩
  | .hbm, ⟨18, _⟩ => ⟨S1200x128, .f32⟩
  | .hbm, ⟨19, _⟩ => ⟨S1200x128, .f32⟩
  | .hbm, ⟨20, _⟩ => ⟨S1200x128, .f32⟩
  | .hbm, ⟨21, _⟩ => ⟨S_, .f32⟩
  | .hbm, ⟨22, _⟩ => ⟨S1200x128, .f32⟩
  | .hbm, ⟨23, _⟩ => ⟨S1200x128, .f32⟩
  | .hbm, ⟨24, _⟩ => ⟨S_, .f32⟩
  | .hbm, ⟨25, _⟩ => ⟨S1200x128, .f32⟩
  | .hbm, ⟨26, _⟩ => ⟨S1200x128, .f32⟩
  | .hbm, ⟨27, _⟩ => ⟨S1200x128, .f32⟩
  | .hbm, ⟨28, _⟩ => ⟨S_, .f32⟩
  | .hbm, ⟨29, _⟩ => ⟨S1200x128, .f32⟩
  | .hbm, ⟨30, _⟩ => ⟨S1200x128, .f32⟩
  | .hbm, ⟨31, _⟩ => ⟨S1200x128, .f32⟩
  | .hbm, ⟨32, _⟩ => ⟨S_, .f32⟩
  | .hbm, ⟨33, _⟩ => ⟨S1200x128, .f32⟩
  | .hbm, ⟨34, _⟩ => ⟨S1200x128, .f32⟩
  | .hbm, ⟨35, _⟩ => ⟨S1200x128, .f32⟩
  | .hbm, ⟨36, _⟩ => ⟨S_, .f32⟩
  | .hbm, ⟨37, _⟩ => ⟨S1200x128, .f32⟩
  | .hbm, ⟨38, _⟩ => ⟨S1200x128, .f32⟩
  | _, _ => ⟨S1200x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== LastStep.lean ====
abbrev S16x128 : Shape := ⟨2, ![16, 128]⟩
abbrev S1x16x128 : Shape := ⟨3, ![1, 16, 128]⟩

abbrev nBuf : Space → Nat
  | .hbm => 8
  | .vmem => 8
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S1x16x128, .f32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S1x16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== LastStepRefIdeal.lean ====
abbrev S16x128 : Shape := ⟨2, ![16, 128]⟩
abbrev S1x16x128 : Shape := ⟨3, ![1, 16, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S1x16x128, .f32⟩
  | .hbm, ⟨4, _⟩ => ⟨S_, .f32⟩
  | .hbm, ⟨5, _⟩ => ⟨S16x128, .f32⟩
  | .hbm, ⟨6, _⟩ => ⟨S_, .f32⟩
  | .hbm, ⟨7, _⟩ => ⟨S16x128, .f32⟩
  | .hbm, ⟨8, _⟩ => ⟨S16x128, .f32⟩
  | .hbm, ⟨9, _⟩ => ⟨S_, .f32⟩
  | .hbm, ⟨10, _⟩ => ⟨S16x128, .f32⟩
  | .hbm, ⟨11, _⟩ => ⟨S16x128, .f32⟩
  | .hbm, ⟨12, _⟩ => ⟨S16x128, .f32⟩
  | .hbm, ⟨13, _⟩ => ⟨S_, .f32⟩
  | .hbm, ⟨14, _⟩ => ⟨S16x128, .f32⟩
  | .hbm, ⟨15, _⟩ => ⟨S16x128, .f32⟩
  | .hbm, ⟨16, _⟩ => ⟨S16x128, .f32⟩
  | .hbm, ⟨17, _⟩ => ⟨S_, .f32⟩
  | .hbm, ⟨18, _⟩ => ⟨S16x128, .f32⟩
  | .hbm, ⟨19, _⟩ => ⟨S16x128, .f32⟩
  | .hbm, ⟨20, _⟩ => ⟨S16x128, .f32⟩
  | .hbm, ⟨21, _⟩ => ⟨S_, .f32⟩
  | .hbm, ⟨22, _⟩ => ⟨S16x128, .f32⟩
  | .hbm, ⟨23, _⟩ => ⟨S16x128, .f32⟩
  | .hbm, ⟨24, _⟩ => ⟨S_, .f32⟩
  | .hbm, ⟨25, _⟩ => ⟨S16x128, .f32⟩
  | .hbm, ⟨26, _⟩ => ⟨S16x128, .f32⟩
  | .hbm, ⟨27, _⟩ => ⟨S16x128, .f32⟩
  | .hbm, ⟨28, _⟩ => ⟨S_, .f32⟩
  | .hbm, ⟨29, _⟩ => ⟨S16x128, .f32⟩
  | .hbm, ⟨30, _⟩ => ⟨S16x128, .f32⟩
  | .hbm, ⟨31, _⟩ => ⟨S16x128, .f32⟩
  | .hbm, ⟨32, _⟩ => ⟨S_, .f32⟩
  | .hbm, ⟨33, _⟩ => ⟨S16x128, .f32⟩
  | .hbm, ⟨34, _⟩ => ⟨S16x128, .f32⟩
  | .hbm, ⟨35, _⟩ => ⟨S16x128, .f32⟩
  | .hbm, ⟨36, _⟩ => ⟨S_, .f32⟩
  | .hbm, ⟨37, _⟩ => ⟨S16x128, .f32⟩
  | .hbm, ⟨38, _⟩ => ⟨S16x128, .f32⟩
  | _, _ => ⟨S16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== SmallSum.lean ====
abbrev S8x1672x128 : Shape := ⟨3, ![8, 1672, 128]⟩
abbrev S1672x128 : Shape := ⟨2, ![1672, 128]⟩
abbrev S1x1672x128 : Shape := ⟨3, ![1, 1672, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x1672x128, .f32⟩
  | .hbm, ⟨1, _⟩ => ⟨S1672x128, .f32⟩
  | .local _ .vmem, ⟨0, _⟩ => ⟨S8x1672x128, .f32⟩
  | .local _ .vmem, ⟨1, _⟩ => ⟨S1672x128, .f32⟩
  | _, _ => ⟨S8x1672x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1672x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1672x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SmallSumIdeal.lean ====
abbrev S8x1672x128 : Shape := ⟨3, ![8, 1672, 128]⟩
abbrev S1672x128 : Shape := ⟨2, ![1672, 128]⟩
abbrev S1x1672x128 : Shape := ⟨3, ![1, 1672, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x1672x128, .f32⟩
  | .hbm, ⟨1, _⟩ => ⟨S1672x128, .f32⟩
  | .local _ .vmem, ⟨0, _⟩ => ⟨S8x1672x128, .f32⟩
  | .local _ .vmem, ⟨1, _⟩ => ⟨S1672x128, .f32⟩
  | _, _ => ⟨S8x1672x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1672x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1672x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SmallSumRefIdeal.lean ====
abbrev S8x1672x128 : Shape := ⟨3, ![8, 1672, 128]⟩
abbrev S_ : Shape := ⟨0, ![]⟩
abbrev S1672x128 : Shape := ⟨2, ![1672, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1672x128, .f32⟩
  | .hbm, ⟨1, _⟩ => ⟨S_, .f32⟩
  | .hbm, ⟨2, _⟩ => ⟨S1672x128, .f32⟩
  | _, _ => ⟨S8x1672x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== LastSum.lean ====
abbrev S8x16x128 : Shape := ⟨3, ![8, 16, 128]⟩
abbrev S16x128 : Shape := ⟨2, ![16, 128]⟩
abbrev S1x16x128 : Shape := ⟨3, ![1, 16, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x16x128, .f32⟩
  | .hbm, ⟨1, _⟩ => ⟨S16x128, .f32⟩
  | .local _ .vmem, ⟨0, _⟩ => ⟨S8x16x128, .f32⟩
  | .local _ .vmem, ⟨1, _⟩ => ⟨S16x128, .f32⟩
  | _, _ => ⟨S8x16x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== LastSumRefIdeal.lean ====
abbrev S8x16x128 : Shape := ⟨3, ![8, 16, 128]⟩
abbrev S_ : Shape := ⟨0, ![]⟩
abbrev S16x128 : Shape := ⟨2, ![16, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x16x128, .f32⟩
  | .hbm, ⟨1, _⟩ => ⟨S_, .f32⟩
  | .hbm, ⟨2, _⟩ => ⟨S16x128, .f32⟩
  | _, _ => ⟨S8x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdamIn1.lean ====
abbrev S2048x641 : Shape := ⟨2, ![2048, 641]⟩
abbrev S4x641x2048 : Shape := ⟨3, ![4, 641, 2048]⟩
abbrev S1 : Shape := ⟨1, ![1]⟩
abbrev S641x2048 : Shape := ⟨2, ![641, 2048]⟩
abbrev S641x256 : Shape := ⟨2, ![641, 256]⟩
abbrev S1x641x256 : Shape := ⟨3, ![1, 641, 256]⟩
abbrev S4x641x256 : Shape := ⟨3, ![4, 641, 256]⟩

abbrev nBuf : Space → Nat
  | .hbm => 16
  | .vmem => 18
  | .smem => 1
  | _ => 0

abbrev bufTy : (tb : Table) → Fin (tcTables nBuf tb) → BufTy
  | .hbm, ⟨0, _⟩ => ⟨S2048x641, .f32⟩
  | .hbm, ⟨1, _⟩ => ⟨S2048x641, .f32⟩
  | .hbm, ⟨2, _⟩ => ⟨S2048x641, .f32⟩
  | .hbm, ⟨3, _⟩ => ⟨S4x641x2048, .bf16⟩
  | .hbm, ⟨4, _⟩ => ⟨S4x641x2048, .bf16⟩
  | .hbm, ⟨5, _⟩ => ⟨S641x2048, .f32⟩
  | .hbm, ⟨6, _⟩ => ⟨S641x2048, .f32⟩
  | .hbm, ⟨7, _⟩ => ⟨S641x2048, .f32⟩
  | .hbm, ⟨8, _⟩ => ⟨S641x2048, .f32⟩
  | .hbm, ⟨9, _⟩ => ⟨S641x2048, .f32⟩
  | .hbm, ⟨10, _⟩ => ⟨S641x2048, .f32⟩
  | .hbm, ⟨11, _⟩ => ⟨S641x2048, .f32⟩
  | .hbm, ⟨12, _⟩ => ⟨S2048x641, .f32⟩
  | .hbm, ⟨13, _⟩ => ⟨S2048x641, .f32⟩
  | .hbm, ⟨14, _⟩ => ⟨S2048x641, .f32⟩
  | .hbm, ⟨15, _⟩ => ⟨S2048x641, .f32⟩
  | .local _ .vmem, ⟨0, _⟩ => ⟨S641x256, .f32⟩
  | .local _ .vmem, ⟨1, _⟩ => ⟨S641x256, .f32⟩
  | .local _ .vmem, ⟨2, _⟩ => ⟨S641x256, .f32⟩
  | .local _ .vmem, ⟨3, _⟩ => ⟨S641x256, .f32⟩
  | .local _ .vmem, ⟨4, _⟩ => ⟨S641x256, .f32⟩
  | .local _ .vmem, ⟨5, _⟩ => ⟨S641x256, .f32⟩
  | .local _ .vmem, ⟨6, _⟩ => ⟨S1x641x256, .bf16⟩
  | .local _ .vmem, ⟨7, _⟩ => ⟨S1x641x256, .bf16⟩
  | .local _ .vmem, ⟨8, _⟩ => ⟨S4x641x256, .bf16⟩
  | .local _ .vmem, ⟨9, _⟩ => ⟨S4x641x256, .bf16⟩
  | .local _ .vmem, ⟨10, _⟩ => ⟨S641x256, .f32⟩
  | .local _ .vmem, ⟨11, _⟩ => ⟨S641x256, .f32⟩
  | .local _ .vmem, ⟨12, _⟩ => ⟨S641x256, .f32⟩
  | .local _ .vmem, ⟨13, _⟩ => ⟨S641x256, .f32⟩
  | .local _ .vmem, ⟨14, _⟩ => ⟨S641x256, .f32⟩
  | .local _ .vmem, ⟨15, _⟩ => ⟨S641x256, .f32⟩
  | .local _ .vmem, ⟨16, _⟩ => ⟨S641x256, .f32⟩
  | .local _ .vmem, ⟨17, _⟩ => ⟨S641x256, .f32⟩
  | .local _ .smem, ⟨0, _⟩ => ⟨S1, .i32⟩
  | _, _ => ⟨S2048x641, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 8], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S641x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S641x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S641x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x641x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x641x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S641x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S641x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S641x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S641x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamIn1RefIdeal.lean ====
abbrev S2048x641 : Shape := ⟨2, ![2048, 641]⟩
abbrev S4x641x2048 : Shape := ⟨3, ![4, 641, 2048]⟩
abbrev S1 : Shape := ⟨1, ![1]⟩
abbrev S4x2048x641 : Shape := ⟨3, ![4, 2048, 641]⟩
abbrev S4 : Shape := ⟨1, ![4]⟩
abbrev S_ : Shape := ⟨0, ![]⟩
abbrev S4x1x1 : Shape := ⟨3, ![4, 1, 1]⟩

abbrev nBuf : Space → Nat
  | .hbm => 52
  | .vmem => 0
  | .smem => 0
  | _ => 0

abbrev bufTy : (tb : Table) → Fin (tcTables nBuf tb) → BufTy
  | .hbm, ⟨0, _⟩ => ⟨S2048x641, .f32⟩
  | .hbm, ⟨1, _⟩ => ⟨S2048x641, .f32⟩
  | .hbm, ⟨2, _⟩ => ⟨S2048x641, .f32⟩
  | .hbm, ⟨3, _⟩ => ⟨S4x641x2048, .bf16⟩
  | .hbm, ⟨4, _⟩ => ⟨S4x641x2048, .bf16⟩
  | .hbm, ⟨5, _⟩ => ⟨S1, .i32⟩
  | .hbm, ⟨6, _⟩ => ⟨S4x2048x641, .bf16⟩
  | .hbm, ⟨7, _⟩ => ⟨S4x2048x641, .bf16⟩
  | .hbm, ⟨8, _⟩ => ⟨S4, .i32⟩
  | .hbm, ⟨9, _⟩ => ⟨S_, .i32⟩
  | .hbm, ⟨10, _⟩ => ⟨S4, .i32⟩
  | .hbm, ⟨11, _⟩ => ⟨S4, .i1⟩
  | .hbm, ⟨12, _⟩ => ⟨S4x1x1, .i1⟩
  | .hbm, ⟨13, _⟩ => ⟨S4x2048x641, .f32⟩
  | .hbm, ⟨14, _⟩ => ⟨S4x2048x641, .f32⟩
  | .hbm, ⟨15, _⟩ => ⟨S4x2048x641, .i1⟩
  | .hbm, ⟨16, _⟩ => ⟨S4x2048x641, .f32⟩
  | .hbm, ⟨17, _⟩ => ⟨S_, .f32⟩
  | .hbm, ⟨18, _⟩ => ⟨S2048x641, .f32⟩
  | .hbm, ⟨19, _⟩ => ⟨S_, .f32⟩
  | .hbm, ⟨20, _⟩ => ⟨S2048x641, .f32⟩
  | .hbm, ⟨21, _⟩ => ⟨S2048x641, .f32⟩
  | .hbm, ⟨22, _⟩ => ⟨S_, .f32⟩
  | .hbm, ⟨23, _⟩ => ⟨S2048x641, .f32⟩
  | .hbm, ⟨24, _⟩ => ⟨S2048x641, .f32⟩
  | .hbm, ⟨25, _⟩ => ⟨S2048x641, .f32⟩
  | .hbm, ⟨26, _⟩ => ⟨S_, .f32⟩
  | .hbm, ⟨27, _⟩ => ⟨S2048x641, .f32⟩
  | .hbm, ⟨28, _⟩ => ⟨S2048x641, .f32⟩
  | .hbm, ⟨29, _⟩ => ⟨S2048x641, .f32⟩
  | .hbm, ⟨30, _⟩ => ⟨S_, .f32⟩
  | .hbm, ⟨31, _⟩ => ⟨S2048x641, .f32⟩
  | .hbm, ⟨32, _⟩ => ⟨S2048x641, .f32⟩
  | .hbm, ⟨33, _⟩ => ⟨S2048x641, .f32⟩
  | .hbm, ⟨34, _⟩ => ⟨S_, .f32⟩
  | .hbm, ⟨35, _⟩ => ⟨S2048x641, .f32⟩
  | .hbm, ⟨36, _⟩ => ⟨S2048x641, .f32⟩
  | .hbm, ⟨37, _⟩ => ⟨S_, .f32⟩
  | .hbm, ⟨38, _⟩ => ⟨S2048x641, .f32⟩
  | .hbm, ⟨39, _⟩ => ⟨S2048x641, .f32⟩
  | .hbm, ⟨40, _⟩ => ⟨S2048x641, .f32⟩
  | .hbm, ⟨41, _⟩ => ⟨S_, .f32⟩
  | .hbm, ⟨42, _⟩ => ⟨S2048x641, .f32⟩
  | .hbm, ⟨43, _⟩ => ⟨S2048x641, .f32⟩
  | .hbm, ⟨44, _⟩ => ⟨S2048x641, .f32⟩
  | .hbm, ⟨45, _⟩ => ⟨S_, .f32⟩
  | .hbm, ⟨46, _⟩ => ⟨S2048x641, .f32⟩
  | .hbm, ⟨47, _⟩ => ⟨S2048x641, .f32⟩
  | .hbm, ⟨48, _⟩ => ⟨S2048x641, .f32⟩
  | .hbm, ⟨49, _⟩ => ⟨S_, .f32⟩
  | .hbm, ⟨50, _⟩ => ⟨S2048x641, .f32⟩
  | .hbm, ⟨51, _⟩ => ⟨S2048x641, .f32⟩
  | _, _ => ⟨S2048x641, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_v0 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]
-- ==== Proof.Sb.Run.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The first guard of the body holds: the point is the first of its head. -/
abbrev First (i : grid0.Coords) : Prop :=
  Scalar.cmpi .ne (Scalar.extui (Scalar.cmpi .eq (BitVec.ofNat 32 (i 1).val) 0#32) : BitVec 32) 0#32 = 1#1
/-- The second guard of the body holds: the point is the last of its head. -/
abbrev Last (i : grid0.Coords) : Prop :=
  Scalar.cmpi .ne (Scalar.extui (Scalar.cmpi .eq (BitVec.ofNat 32 (i 1).val) 3#32) : BitVec 32) 0#32 = 1#1

/-- The nine buffers the body touches, at given contents. -/
abbrev Res (c : Dev nD) (arg2 : Memref sig .tc .vmem S512x128 .bf16) (arg3 : Memref sig .tc .vmem S2048x128 .bf16)
    (arg4 : Memref sig .tc .vmem S2048x128 .bf16) (arg5 : Memref sig .tc .vmem S512x128 .bf16)
    (arg6 : Memref sig .tc .vmem S3x2048x128 .bf16) (arg7 arg8 : Memref sig .tc .vmem S2048x128 .f32)
    (arg9 arg10 : Memref sig .tc .vmem S4x512x512 .f32)
    (X2 : BufTy.Contents (Elt F) arg2.view.ty) (X3 : BufTy.Contents (Elt F) arg3.view.ty)
    (X4 : BufTy.Contents (Elt F) arg4.view.ty) (X5 : BufTy.Contents (Elt F) arg5.view.ty)
    (f6 : BufTy.Contents (Elt F) arg6.view.ty) (f7 : BufTy.Contents (Elt F) arg7.view.ty)
    (f8 : BufTy.Contents (Elt F) arg8.view.ty) (f9 : BufTy.Contents (Elt F) arg9.view.ty)
    (f10 : BufTy.Contents (Elt F) arg10.view.ty) : sProp 𝕄 :=
  iprop((arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} f6)
    ∗ (arg7.view.loc (c : Thread nD τ) ↦[arg7.view.set]{fullShare} f7)
    ∗ (arg8.view.loc (c : Thread nD τ) ↦[arg8.view.set]{fullShare} f8)
    ∗ (arg9.view.loc (c : Thread nD τ) ↦[arg9.view.set]{fullShare} f9)
    ∗ (arg10.view.loc (c : Thread nD τ) ↦[arg10.view.set]{fullShare} f10))

set_option maxHeartbeats 4000000 in
/-- The body at the first point of a head, which begins by clearing both accumulators. -/
@[irreducible] def runFirst (c : Dev nD) (i : grid0.Coords) (h1 : First i) (h2 : ¬ Last i)
    (arg2 : Memref sig .tc .vmem S512x128 .bf16) (harg2 : arg2.IsWhole) (arg3 : Memref sig .tc .vmem S2048x128 .bf16) (harg3 : arg3.IsWhole)
    (arg4 : Memref sig .tc .vmem S2048x128 .bf16) (harg4 : arg4.IsWhole) (arg5 : Memref sig .tc .vmem S512x128 .bf16) (harg5 : arg5.IsWhole)
    (arg6 : Memref sig .tc .vmem S3x2048x128 .bf16) (harg6 : arg6.IsWhole) (arg7 : Memref sig .tc .vmem S2048x128 .f32) (harg7 : arg7.IsWhole)
    (arg8 : Memref sig .tc .vmem S2048x128 .f32) (harg8 : arg8.IsWhole) (arg9 : Memref sig .tc .vmem S4x512x512 .f32) (harg9 : arg9.IsWhole)
    (arg10 : Memref sig .tc .vmem S4x512x512 .f32) (harg10 : arg10.IsWhole)
    (X2 : BufTy.Contents (Elt F) arg2.view.ty) (X3 : BufTy.Contents (Elt F) arg3.view.ty)
    (X4 : BufTy.Contents (Elt F) arg4.view.ty) (X5 : BufTy.Contents (Elt F) arg5.view.ty)
    (f9 : BufTy.Contents (Elt F) arg9.view.ty)
    (f10 : BufTy.Contents (Elt F) arg10.view.ty) :
    Σ' (L6 : List (View.Piece (Elt F) S3x2048x128 .bf16)) (L7 : List (View.Piece (Elt F) S2048x128 .f32))
      (L8 : List (View.Piece (Elt F) S2048x128 .f32)) (L9 : List (View.Piece (Elt F) S4x512x512 .f32)),
      { L10 : List (View.Piece (Elt F) S4x512x512 .f32) // ∀ (f6 : BufTy.Contents (Elt F) arg6.view.ty) (f7 : BufTy.Contents (Elt F) arg7.view.ty)
          (f8 : BufTy.Contents (Elt F) arg8.view.ty),
        Res (F := F) c arg2 arg3 arg4 arg5 arg6 arg7 arg8 arg9 arg10 X2 X3 X4 X5 f6 f7 f8 f9 f10
        ⊢ wp frame (wpE (defs₀ (F := F)) Variants.none (c : Thread nD τ) none) Set.univ
            (cc0_l0_sb_bwd (F := F) i arg2 harg2 arg3 harg3 arg4 harg4 arg5 harg5 arg6 harg6 arg7 harg7 arg8 harg8 arg9 harg9 arg10 harg10)
            (fun _ => Res (F := F) c arg2 arg3 arg4 arg5 arg6 arg7 arg8 arg9 arg10 X2 X3 X4 X5
              (arg6.view.writes (Elt F) f6 L6) (arg7.view.writes (Elt F) arg7.view.junk L7) (arg8.view.writes (Elt F) arg8.view.junk L8)
              (arg9.view.writes (Elt F) f9 L9) (arg10.view.writes (Elt F) f10 L10)) } := by
  refine ⟨?_, ?_, ?_, ?_, ?_, fun f6 f7 f8 => ?run⟩
  case run =>
    simp only [cc0_l0_sb_bwd_eq_skeleton]; unfold cc0_l0_sb_bwd_skel
    iintro ⟨H2, H3, H4, H5, H6, H7, H8, H9, H10⟩
    sl_exec
    sl_step
    sl_close

set_option maxHeartbeats 4000000 in
/-- The body at a point neither first nor last of its head: the pieces it leaves in each buffer, with the run. -/
@[irreducible] def runMid (c : Dev nD) (i : grid0.Coords) (h1 : ¬ First i) (h2 : ¬ Last i)
    (arg2 : Memref sig .tc .vmem S512x128 .bf16) (harg2 : arg2.IsWhole) (arg3 : Memref sig .tc .vmem S2048x128 .bf16) (harg3 : arg3.IsWhole)
    (arg4 : Memref sig .tc .vmem S2048x128 .bf16) (harg4 : arg4.IsWhole) (arg5 : Memref sig .tc .vmem S512x128 .bf16) (harg5 : arg5.IsWhole)
    (arg6 : Memref sig .tc .vmem S3x2048x128 .bf16) (harg6 : arg6.IsWhole) (arg7 : Memref sig .tc .vmem S2048x128 .f32) (harg7 : arg7.IsWhole)
    (arg8 : Memref sig .tc .vmem S2048x128 .f32) (harg8 : arg8.IsWhole) (arg9 : Memref sig .tc .vmem S4x512x512 .f32) (harg9 : arg9.IsWhole)
    (arg10 : Memref sig .tc .vmem S4x512x512 .f32) (harg10 : arg10.IsWhole)
    (X2 : BufTy.Contents (Elt F) arg2.view.ty) (X3 : BufTy.Contents (Elt F) arg3.view.ty)
    (X4 : BufTy.Contents (Elt F) arg4.view.ty) (X5 : BufTy.Contents (Elt F) arg5.view.ty)
    (f7 : BufTy.Contents (Elt F) arg7.view.ty)
    (f8 : BufTy.Contents (Elt F) arg8.view.ty) (f9 : BufTy.Contents (Elt F) arg9.view.ty)
    (f10 : BufTy.Contents (Elt F) arg10.view.ty) :
    Σ' (L6 : List (View.Piece (Elt F) S3x2048x128 .bf16)) (L7 : List (View.Piece (Elt F) S2048x128 .f32))
      (L8 : List (View.Piece (Elt F) S2048x128 .f32)) (L9 : List (View.Piece (Elt F) S4x512x512 .f32)),
      { L10 : List (View.Piece (Elt F) S4x512x512 .f32) // ∀ (f6 : BufTy.Contents (Elt F) arg6.view.ty),
        Res (F := F) c arg2 arg3 arg4 arg5 arg6 arg7 arg8 arg9 arg10 X2 X3 X4 X5 f6 f7 f8 f9 f10
        ⊢ wp frame (wpE (defs₀ (F := F)) Variants.none (c : Thread nD τ) none) Set.univ
            (cc0_l0_sb_bwd (F := F) i arg2 harg2 arg3 harg3 arg4 harg4 arg5 harg5 arg6 harg6 arg7 harg7 arg8 harg8 arg9 harg9 arg10 harg10)
            (fun _ => Res (F := F) c arg2 arg3 arg4 arg5 arg6 arg7 arg8 arg9 arg10 X2 X3 X4 X5
              (arg6.view.writes (Elt F) f6 L6) (arg7.view.writes (Elt F) f7 L7) (arg8.view.writes (Elt F) f8 L8)
              (arg9.view.writes (Elt F) f9 L9) (arg10.view.writes (Elt F) f10 L10)) } := by
  refine ⟨?_, ?_, ?_, ?_, ?_, fun f6 => ?run⟩
  case run =>
    simp only [cc0_l0_sb_bwd_eq_skeleton]; unfold cc0_l0_sb_bwd_skel
    iintro ⟨H2, H3, H4, H5, H6, H7, H8, H9, H10⟩
    sl_exec
    sl_step
    sl_close

set_option maxHeartbeats 4000000 in
/-- The body at the last point of a head, which ends by copying both accumulators out. -/
@[irreducible] def runLast (c : Dev nD) (i : grid0.Coords) (h1 : ¬ First i) (h2 : Last i)
    (arg2 : Memref sig .tc .vmem S512x128 .bf16) (harg2 : arg2.IsWhole) (arg3 : Memref sig .tc .vmem S2048x128 .bf16) (harg3 : arg3.IsWhole)
    (arg4 : Memref sig .tc .vmem S2048x128 .bf16) (harg4 : arg4.IsWhole) (arg5 : Memref sig .tc .vmem S512x128 .bf16) (harg5 : arg5.IsWhole)
    (arg6 : Memref sig .tc .vmem S3x2048x128 .bf16) (harg6 : arg6.IsWhole) (arg7 : Memref sig .tc .vmem S2048x128 .f32) (harg7 : arg7.IsWhole)
    (arg8 : Memref sig .tc .vmem S2048x128 .f32) (harg8 : arg8.IsWhole) (arg9 : Memref sig .tc .vmem S4x512x512 .f32) (harg9 : arg9.IsWhole)
    (arg10 : Memref sig .tc .vmem S4x512x512 .f32) (harg10 : arg10.IsWhole)
    (X2 : BufTy.Contents (Elt F) arg2.view.ty) (X3 : BufTy.Contents (Elt F) arg3.view.ty)
    (X4 : BufTy.Contents (Elt F) arg4.view.ty) (X5 : BufTy.Contents (Elt F) arg5.view.ty)
    (f7 : BufTy.Contents (Elt F) arg7.view.ty)
    (f8 : BufTy.Contents (Elt F) arg8.view.ty) (f9 : BufTy.Contents (Elt F) arg9.view.ty)
    (f10 : BufTy.Contents (Elt F) arg10.view.ty) :
    Σ' (L6 : List (View.Piece (Elt F) S3x2048x128 .bf16)) (L7 : List (View.Piece (Elt F) S2048x128 .f32))
      (L8 : List (View.Piece (Elt F) S2048x128 .f32)) (L9 : List (View.Piece (Elt F) S4x512x512 .f32)),
      { L10 : List (View.Piece (Elt F) S4x512x512 .f32) // ∀ (f6 : BufTy.Contents (Elt F) arg6.view.ty),
        Res (F := F) c arg2 arg3 arg4 arg5 arg6 arg7 arg8 arg9 arg10 X2 X3 X4 X5 f6 f7 f8 f9 f10
        ⊢ wp frame (wpE (defs₀ (F := F)) Variants.none (c : Thread nD τ) none) Set.univ
            (cc0_l0_sb_bwd (F := F) i arg2 harg2 arg3 harg3 arg4 harg4 arg5 harg5 arg6 harg6 arg7 harg7 arg8 harg8 arg9 harg9 arg10 harg10)
            (fun _ => Res (F := F) c arg2 arg3 arg4 arg5 arg6 arg7 arg8 arg9 arg10 X2 X3 X4 X5
              (arg6.view.writes (Elt F) f6 L6) (arg7.view.writes (Elt F) f7 L7) (arg8.view.writes (Elt F) f8 L8)
              (arg9.view.writes (Elt F) f9 L9) (arg10.view.writes (Elt F) f10 L10)) } := by
  refine ⟨?_, ?_, ?_, ?_, ?_, fun f6 => ?run⟩
  case run =>
    simp only [cc0_l0_sb_bwd_eq_skeleton]; unfold cc0_l0_sb_bwd_skel
    iintro ⟨H2, H3, H4, H5, H6, H7, H8, H9, H10⟩
    sl_exec
    sl_step
    sl_close

end Cert.KernelIdeal.Sb

end
-- ==== Proof.Sb.Launch.lean ====
module

public import proofs.«01_k».proof.Proof.Sb.Run

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window cellOf)

variable {F : FTy → Type} [FloatOps F]

local notation "𝕄" => MT nD τ sig Unit (Elt F) ℕ (UR sig nD τ) ℕ

/-- No point is both the first and the last of its head. -/
theorem not_last_of_first : ∀ i : grid0.Coords, First i → ¬ Last i := by decide +kernel

/-! ## One point, whatever its case -/

section Body

variable (c : Dev nD) (i : grid0.Coords)
    (arg2 : Memref sig .tc .vmem S512x128 .bf16) (harg2 : arg2.IsWhole) (arg3 : Memref sig .tc .vmem S2048x128 .bf16) (harg3 : arg3.IsWhole)
    (arg4 : Memref sig .tc .vmem S2048x128 .bf16) (harg4 : arg4.IsWhole) (arg5 : Memref sig .tc .vmem S512x128 .bf16) (harg5 : arg5.IsWhole)
    (arg6 : Memref sig .tc .vmem S3x2048x128 .bf16) (harg6 : arg6.IsWhole) (arg7 : Memref sig .tc .vmem S2048x128 .f32) (harg7 : arg7.IsWhole)
    (arg8 : Memref sig .tc .vmem S2048x128 .f32) (harg8 : arg8.IsWhole) (arg9 : Memref sig .tc .vmem S4x512x512 .f32) (harg9 : arg9.IsWhole)
    (arg10 : Memref sig .tc .vmem S4x512x512 .f32) (harg10 : arg10.IsWhole)
    (X2 : BufTy.Contents (Elt F) arg2.view.ty) (X3 : BufTy.Contents (Elt F) arg3.view.ty)
    (X4 : BufTy.Contents (Elt F) arg4.view.ty) (X5 : BufTy.Contents (Elt F) arg5.view.ty)
    (f6 : BufTy.Contents (Elt F) arg6.view.ty) (f7 : BufTy.Contents (Elt F) arg7.view.ty)
    (f8 : BufTy.Contents (Elt F) arg8.view.ty) (f9 : BufTy.Contents (Elt F) arg9.view.ty)
    (f10 : BufTy.Contents (Elt F) arg10.view.ty)
    (R : BufTy.Contents (Elt F) arg6.view.ty → BufTy.Contents (Elt F) arg7.view.ty → BufTy.Contents (Elt F) arg8.view.ty → Prop)

/-- What each of the three cases leaves in the output block and the two accumulators satisfies `R`. -/
structure Leaves : Prop where
  first : ∀ (h1 : First i) (h2 : ¬ Last i),
    let r := runFirst c i h1 h2 arg2 harg2 arg3 harg3 arg4 harg4 arg5 harg5 arg6 harg6 arg7 harg7 arg8 harg8 arg9 harg9 arg10 harg10 X2 X3 X4 X5 f9 f10
    R (arg6.view.writes (Elt F) f6 r.1) (arg7.view.writes (Elt F) arg7.view.junk r.2.1) (arg8.view.writes (Elt F) arg8.view.junk r.2.2.1)
  mid : ∀ (h1 : ¬ First i) (h2 : ¬ Last i),
    let r := runMid c i h1 h2 arg2 harg2 arg3 harg3 arg4 harg4 arg5 harg5 arg6 harg6 arg7 harg7 arg8 harg8 arg9 harg9 arg10 harg10 X2 X3 X4 X5 f7 f8 f9 f10
    R (arg6.view.writes (Elt F) f6 r.1) (arg7.view.writes (Elt F) f7 r.2.1) (arg8.view.writes (Elt F) f8 r.2.2.1)
  last : ∀ (h1 : ¬ First i) (h2 : Last i),
    let r := runLast c i h1 h2 arg2 harg2 arg3 harg3 arg4 harg4 arg5 harg5 arg6 harg6 arg7 harg7 arg8 harg8 arg9 harg9 arg10 harg10 X2 X3 X4 X5 f7 f8 f9 f10
    R (arg6.view.writes (Elt F) f6 r.1) (arg7.view.writes (Elt F) f7 r.2.1) (arg8.view.writes (Elt F) f8 r.2.2.1)

/-- The body at a point: the nine buffers come back, the output block and the accumulators at contents that satisfy `R`. -/
theorem body_run (h : Leaves c i arg2 harg2 arg3 harg3 arg4 harg4 arg5 harg5 arg6 harg6 arg7 harg7 arg8 harg8 arg9 harg9 arg10 harg10 X2 X3 X4 X5 f6 f7 f8 f9 f10 R) :
    Res (F := F) c arg2 arg3 arg4 arg5 arg6 arg7 arg8 arg9 arg10 X2 X3 X4 X5 f6 f7 f8 f9 f10
    ⊢ wp frame (wpE (defs₀ (F := F)) Variants.none (c : Thread nD τ) none) Set.univ
        (cc0_l0_sb_bwd (F := F) i arg2 harg2 arg3 harg3 arg4 harg4 arg5 harg5 arg6 harg6 arg7 harg7 arg8 harg8 arg9 harg9 arg10 harg10)
        (fun _ => iprop(∃ f6' f7' f8' f9' f10', ⌜R f6' f7' f8'⌝
          ∗ Res (F := F) c arg2 arg3 arg4 arg5 arg6 arg7 arg8 arg9 arg10 X2 X3 X4 X5 f6' f7' f8' f9' f10')) := by
  by_cases h1 : First i
  · refine triple_restated ((runFirst c i h1 (not_last_of_first i h1) arg2 harg2 arg3 harg3 arg4 harg4 arg5 harg5 arg6 harg6 arg7 harg7 arg8 harg8 arg9 harg9 arg10 harg10 X2 X3 X4 X5 f9 f10).2.2.2.2.2 f6 f7 f8) rfl .rfl fun _ => ?_
    iintro H
    iexists _, _, _, _, _
    isplitr; swap; · iexact H
    ipureintro; exact h.first h1 _
  · by_cases h2 : Last i
    · refine triple_restated ((runLast c i h1 h2 arg2 harg2 arg3 harg3 arg4 harg4 arg5 harg5 arg6 harg6 arg7 harg7 arg8 harg8 arg9 harg9 arg10 harg10 X2 X3 X4 X5 f7 f8 f9 f10).2.2.2.2.2 f6) rfl .rfl fun _ => ?_
      iintro H
      iexists _, _, _, _, _
      isplitr; swap; · iexact H
      ipureintro; exact h.last h1 h2
    · refine triple_restated ((runMid c i h1 h2 arg2 harg2 arg3 harg3 arg4 harg4 arg5 harg5 arg6 harg6 arg7 harg7 arg8 harg8 arg9 harg9 arg10 harg10 X2 X3 X4 X5 f7 f8 f9 f10).2.2.2.2.2 f6) rfl .rfl fun _ => ?_
      iintro H
      iexists _, _, _, _, _
      isplitr; swap; · iexact H
      ipureintro; exact h.mid h1 h2

end Body

/-! ## What is tracked from point to point -/

variable (m : (ℓ : Loc nD τ sig) → Buf (Elt F) ℓ) (ρ : Dev nD → PrngReg)

/-- The contents of an accumulator. -/
abbrev Acc (F : FTy → Type) := BufTy.Contents (Elt F) (Memref.whole (sig := sig) (κ := .tc) cc0_scratch0).view.ty
/-- The contents of the output's staging block. -/
abbrev OutBlk (F : FTy → Type) := S3x2048x128.Idx → Elt F .bf16

/-- A property of the accumulators before each point and a relation between what a point finds and leaves in the output block. -/
structure Track (F : FTy → Type) where
  acc : Dev nD → ℕ → (f7 : BufTy.Contents (Elt F) (Memref.whole (sig := sig) (κ := .tc) cc0_scratch0).view.ty) →
    (f8 : BufTy.Contents (Elt F) (Memref.whole (sig := sig) (κ := .tc) cc0_scratch1).view.ty) → Prop
  out : Dev nD → Fin cfg0.N → (Y X : OutBlk F) → Prop

variable (T : Track F)

/-- Every point, from input blocks as launched and accumulators as tracked, leaves the accumulators and the output block as tracked. -/
def Track.Holds : Prop :=
  ∀ (c : Dev nD) (t : Fin cfg0.N) X2 X3 X4 X5 f6 f7 f8 f9 f10,
    (st0_0 t).view.read (Elt F) X2 = iblk m c 0 t → (st0_1 t).view.read (Elt F) X3 = iblk m c 1 t →
    (st0_2 t).view.read (Elt F) X4 = iblk m c 2 t → (st0_3 t).view.read (Elt F) X5 = iblk m c 3 t →
    T.acc c t.val f7 f8 →
    Leaves c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4)) (Memref.whole cc0_scratch0) (Memref.isWhole_whole _)
      (Memref.whole cc0_scratch1) (Memref.isWhole_whole _) (Memref.whole cc0_scratch2) (Memref.isWhole_whole _)
      (Memref.whole cc0_scratch3) (Memref.isWhole_whole _) X2 X3 X4 X5 f6 f7 f8 f9 f10
      (fun f6' f7' f8' => T.acc c (t.val + 1) f7' f8' ∧ T.out c t ((st0_4 t).view.read (Elt F) f6) ((st0_4 t).view.read (Elt F) f6'))

/-- The buffer `b` of core `c` at contents `f`, as the body holds it. -/
abbrev pt (c : Dev nD) (b : Ref sig .tc) (f : Buf (Elt F) ((c : Thread nD τ).loc b)) : sProp 𝕄 :=
  (Memref.whole (sig := sig) (κ := .tc) b).view.loc (c : Thread nD τ) ↦[(Memref.whole (sig := sig) (κ := .tc) b).view.set]{fullShare} f

theorem pt_eq (c : Dev nD) (b : Ref sig .tc) (f : Buf (Elt F) ((c : Thread nD τ).loc b)) :
    (pt c b f : sProp 𝕄) = ((c : Thread nD τ).loc b ↦{fullShare} f) := by
  unfold pt; simp only [Memref.view_whole, View.set_whole]

/-- Before point `k`: the four scratches at some contents, the accumulators among them as tracked, and the generator register. -/
def inv (c : Dev nD) (k : ℕ) : sProp 𝕄 :=
  iprop((∃ f7 f8 f9 f10, ⌜T.acc c k f7 f8⌝ ∗ pt c cc0_scratch0 f7 ∗ pt c cc0_scratch1 f8 ∗ pt c cc0_scratch2 f9 ∗ pt c cc0_scratch3 f10)
    ∗ ∃ r, prngReg c r)

/-- The proof data on core `c`: the inputs stay, the output block moves as tracked. -/
def rdat (c : Dev nD) : RDat τ (Elt F) Unit ℕ (UR sig nD τ) ℕ cfg0 c where
  A w := V m c (Pipeline.arrRef spec0 w)
  after w t := match w with
    | 0 => fun Y X => X = Y
    | 1 => fun Y X => X = Y
    | 2 => fun Y X => X = Y
    | 3 => fun Y X => X = Y
    | 4 => fun Y X => T.out c t Y X
  Φ k := inv T c k.val
  q w := Pipeline.shareOf spec0 w
  owed _ := 0

theorem A_eq (c : Dev nD) (w : Fin cfg0.W) : (rdat m T c).A w = V m c (Pipeline.arrRef spec0 w) := by dsimp only [rdat]

/-- An input's current buffer holds its block of the launched array. -/
theorem finds_0 (c : Dev nD) (t : Fin cfg0.N) (Y) (h : (rdat m T c).Finds 0 t Y) : Y = iblk m c 0 t := by
  obtain ⟨d, hd⟩ := (rdat m T c).finds_in_eq_fetched 0 rfl (fun _ _ _ => rfl) (fun _ _ _ h => h) t Y h
  exact hd.trans (by unfold RDat.fetched RDat.blockOf iblk; rw [A_eq]; try rfl)
theorem finds_1 (c : Dev nD) (t : Fin cfg0.N) (Y) (h : (rdat m T c).Finds 1 t Y) : Y = iblk m c 1 t := by
  obtain ⟨d, hd⟩ := (rdat m T c).finds_in_eq_fetched 1 rfl (fun _ _ _ => rfl) (fun _ _ _ h => h) t Y h
  exact hd.trans (by unfold RDat.fetched RDat.blockOf iblk; rw [A_eq]; try rfl)
theorem finds_2 (c : Dev nD) (t : Fin cfg0.N) (Y) (h : (rdat m T c).Finds 2 t Y) : Y = iblk m c 2 t := by
  obtain ⟨d, hd⟩ := (rdat m T c).finds_in_eq_fetched 2 rfl (fun _ _ _ => rfl) (fun _ _ _ h => h) t Y h
  exact hd.trans (by unfold RDat.fetched RDat.blockOf iblk; rw [A_eq]; try rfl)
theorem finds_3 (c : Dev nD) (t : Fin cfg0.N) (Y) (h : (rdat m T c).Finds 3 t Y) : Y = iblk m c 3 t := by
  obtain ⟨d, hd⟩ := (rdat m T c).finds_in_eq_fetched 3 rfl (fun _ _ _ => rfl) (fun _ _ _ h => h) t Y h
  exact hd.trans (by unfold RDat.fetched RDat.blockOf iblk; rw [A_eq]; try rfl)

/-- What the body is called with at point `t` and what it returns. -/
def bodyPre (c : Dev nD) (t : Fin cfg0.N) (Y4 : OutBlk F) : sProp 𝕄 :=
  iprop((rdat m T c).Φ t.castSucc ∗ (rdat m T c).owesAt () t.castSucc
    ∗ (owns (c : Thread nD τ) (st0_0 t) fullShare (iblk m c 0 t))
    ∗ (owns (c : Thread nD τ) (st0_1 t) fullShare (iblk m c 1 t))
    ∗ (owns (c : Thread nD τ) (st0_2 t) fullShare (iblk m c 2 t))
    ∗ (owns (c : Thread nD τ) (st0_3 t) fullShare (iblk m c 3 t))
    ∗ (owns (c : Thread nD τ) (st0_4 t) fullShare Y4))
def bodyPost (c : Dev nD) (t : Fin cfg0.N) (Y4 : OutBlk F) : sProp 𝕄 :=
  iprop((rdat m T c).Φ t.succ ∗ (rdat m T c).owesAt () t.succ
    ∗ (owns (c : Thread nD τ) (st0_0 t) fullShare (iblk m c 0 t))
    ∗ (owns (c : Thread nD τ) (st0_1 t) fullShare (iblk m c 1 t))
    ∗ (owns (c : Thread nD τ) (st0_2 t) fullShare (iblk m c 2 t))
    ∗ (owns (c : Thread nD τ) (st0_3 t) fullShare (iblk m c 3 t))
    ∗ (∃ X, ⌜T.out c t Y4 X⌝ ∗ owns (c : Thread nD τ) (st0_4 t) fullShare X))

variable {m T}

theorem sound_body (hT : T.Holds m) (c : Dev nD) (t : Fin cfg0.N) (Y4 : OutBlk F) :
    bodyPre m T c t Y4 ⊢ wp frame (wpE (defs₀ (F := F)) Variants.none (c : Thread nD τ) none) Set.univ (bodyAt0 t)
      (fun _ => bodyPost m T c t Y4) := by
  unfold bodyPre bodyPost bodyAt0
  rw [show (rdat m T c).Φ t.succ = inv T c (t.val + 1) from rfl,
    show (rdat m T c).owesAt () t.succ = (rdat m T c).owesAt () t.castSucc from rfl,
    show (rdat m T c).Φ t.castSucc = inv T c t.val from rfl]
  unfold inv owns
  iintro ⟨⟨⟨%f7, %f8, %f9, %f10, %hJ, H7, H8, H9, H10⟩, Hg⟩, HO, ⟨%X2, %h2, H2⟩, ⟨%X3, %h3, H3⟩, ⟨%X4, %h4, H4⟩, ⟨%X5, %h5, H5⟩, ⟨%f6, %h6, H6⟩⟩
  iapply (wp_wand_r Idealize.ShloMosaic.frame (wpE (defs₀ (F := F)) Variants.none (c : Thread nD τ) none) Set.univ)
  isplitl [H2 H3 H4 H5 H6 H7 H8 H9 H10]
  · iapply (body_run c (grid0.coords t) _ _ _ _ _ _ _ _ _ _ _ _ _ _ (Memref.whole cc0_scratch2) (Memref.isWhole_whole _) (Memref.whole cc0_scratch3) (Memref.isWhole_whole _) X2 X3 X4 X5 f6 f7 f8 f9 f10 _ (hT c t X2 X3 X4 X5 f6 f7 f8 f9 f10 h2 h3 h4 h5 hJ))
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iintro %a ⟨%f6', %f7', %f8', %f9', %f10', %hR, H2, H3, H4, H5, H6, H7, H8, H9, H10⟩
  isplitl [H7 H8 H9 H10 Hg]
  · isplitr [Hg]; swap; · iexact Hg
    iexists f7', f8', f9', f10'
    isplitr; · ipureintro; exact hR.1
    isplitl [H7]; · iexact H7
    isplitl [H8]; · iexact H8
    isplitl [H9]; · iexact H9
    iexact H10
  isplitl [HO]; · iexact HO
  isplitl [H2]; · iexists X2; isplitr; swap; · iexact H2
                  ipureintro; exact h2
  isplitl [H3]; · iexists X3; isplitr; swap; · iexact H3
                  ipureintro; exact h3
  isplitl [H4]; · iexists X4; isplitr; swap; · iexact H4
                  ipureintro; exact h4
  isplitl [H5]; · iexists X5; isplitr; swap; · iexact H5
                  ipureintro; exact h5
  iexists ((st0_4 t).view.read (Elt F) f6')
  isplitr; · ipureintro; rw [← h6]; exact hR.2
  iexists f6'; isplitr; swap; · iexact H6
  ipureintro; rfl

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (hT : T.Holds m) (c : Dev nD) :
    (rdat m T c).BodyObligation (defs₀ (F := F)) Variants.none () Set.univ := fun t Y hY => by
  rw [bigSep_W0, bigSep_W0, defs₀_row, finds_0 m T c t _ (hY 0), finds_1 m T c t _ (hY 1), finds_2 m T c t _ (hY 2), finds_3 m T c t _ (hY 3)]
  refine triple_restated (sound_body hT c t (Y 4)) rfl .rfl fun _ => ?_
  unfold bodyPost
  iintro ⟨HΦ, HO, H0, H1, H2, H3, H4⟩
  isplitl [HΦ]; · iexact HΦ
  isplitl [HO]; · iexact HO
  isplitl [H0]; · iexists _; isplitr; swap; · iexact H0
                  ipureintro; rfl
  isplitl [H1]; · iexists _; isplitr; swap; · iexact H1
                  ipureintro; rfl
  isplitl [H2]; · iexists _; isplitr; swap; · iexact H2
                  ipureintro; rfl
  isplitl [H3]; · iexists _; isplitr; swap; · iexact H3
                  ipureintro; rfl
  iexact H4

variable (m T)

set_option backward.isDefEq.respectTransparency.types false in
/-- At any value instance, from any memory with zero counters: the run terminates, every array at contents the tracked relation allows. -/
theorem run_main (hT : T.Holds m) (h0 : ∀ c f7 f8, T.acc c 0 f7 f8) :
    θ_run defs (onTc (τ := τ) (main (F := F))) (s₀ m ρ)
      (fun r => Pipeline.RDat.FramePost (cfgs 0) (rdat m T) (V m) r ∧ r.2.sem = fun _ => 0) :=
  Pipeline.RDat.θ_run_frame_track_shared (Q' := _) cfgs (0 : Fin 1) launch₀0 defs₀ Variants.none (rdat m T) m ρ main
    (hbody := fun c => body_obligation hT c) (hq := fun _ _ _ => rfl) (howed := fun _ _ => rfl) (V := V m)
    (hmain := hmain m Variants.none) (hA := A_eq m T)
    (hin := fun c => by
      unfold Pipeline.ΦA
      rw [scopedRest0_eq, show (rdat m T c).Φ 0 = inv T c 0 from rfl]; unfold inv; simp only [pt_eq]
      iintro ⟨⟨⟨%f7, H7⟩, ⟨%f8, H8⟩, ⟨%f9, H9⟩, ⟨%f10, H10⟩⟩, Hg⟩
      isplitr [Hg]; swap; · iexact Hg
      iexists f7, f8, f9, f10
      isplitr; · ipureintro; exact h0 c f7 f8
      isplitl [H7]; · iexact H7
      isplitl [H8]; · iexact H8
      isplitl [H9]; · iexact H9
      iexact H10)
    (hout := fun c => by
      unfold Pipeline.ΦA
      rw [scopedRest0_eq, show (rdat m T c).Φ (Fin.last cfg0.N) = inv T c cfg0.N from rfl]; unfold inv; simp only [pt_eq]
      iintro ⟨⟨%f7, %f8, %f9, %f10, -, H7, H8, H9, H10⟩, Hg⟩
      isplitr [Hg]; swap; · iexact Hg
      isplitl [H7]; · iexists _; iexact H7
      isplitl [H8]; · iexists _; iexact H8
      isplitl [H9]; · iexists _; iexact H9
      iexists _; iexact H10)

/-- Nothing tracked. -/
def Track.none : Track F := ⟨fun _ _ _ _ => True, fun _ _ _ _ => True⟩

theorem Track.none_holds : (Track.none (F := F)).Holds m := fun _ _ _ _ _ _ _ _ _ _ _ _ _ _ _ _ =>
  ⟨fun _ _ => ⟨trivial, trivial⟩, fun _ _ => ⟨trivial, trivial⟩, fun _ _ => ⟨trivial, trivial⟩⟩

variable {m T} in
/-- The arguments after a run, read back. -/
theorem args_of {r : PUnit × MemSt nD τ sig (Elt F)} (h : Pipeline.RDat.FramePost (cfgs 0) (rdat m T) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1) :=
  ⟨(h.arr_in c 2 rfl).trans (A_eq m T c 2), (h.arr_in c 3 rfl).trans (A_eq m T c 3)⟩

/-- At any value instance: the run terminates with the arguments unchanged and every counter at zero. -/
theorem run_frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨args_of h.1, h.2⟩) (run_main m ρ Track.none (Track.none_holds m) fun _ _ _ => trivial)

end Cert.KernelIdeal.Sb

end
-- ==== Proof.Sb.Spec.lean ====
module

public import Idealize.ShloMosaic.Lib.Pointwise

/-!
The gradient of stick-breaking attention over the real numbers, and the small facts about reals inside the
extended reals by which a program's vectors are recognised as these functions.
-/

@[expose] public section

noncomputable section

namespace Cert.Sb

open Idealize.ShloMosaic

/-! ### Vectors of reals -/

/-- The matrix `v` holds the reals `f r c`. -/
abbrev Mat {n m : ℕ} (v : (⟨2, ![n, m]⟩ : Shape).Idx → EReal) (f : ℕ → ℕ → ℝ) : Prop :=
  ∀ (r : Fin n) (c : Fin m), v (ix2 r c) = ((f r c : ℝ) : EReal)

/-- The stack `v` of one matrix holds the reals `f r c`. -/
abbrev Mat1 {n m : ℕ} (v : (⟨3, ![1, n, m]⟩ : Shape).Idx → EReal) (f : ℕ → ℕ → ℝ) : Prop :=
  ∀ (r : Fin n) (c : Fin m), v (ix3 0 r c) = ((f r c : ℝ) : EReal)

/-- The column `v` holds the reals `f r`. -/
abbrev Col {n : ℕ} (v : (⟨2, ![n, 1]⟩ : Shape).Idx → EReal) (f : ℕ → ℝ) : Prop :=
  ∀ r : Fin n, v (ix2 r 0) = ((f r : ℝ) : EReal)

theorem coe_sum {n : ℕ} (f : Fin n → ℝ) : ∑ x : Fin n, ((f x : ℝ) : EReal) = ((∑ x : Fin n, f x : ℝ) : EReal) :=
  (map_sum (⟨⟨Real.toEReal, EReal.coe_zero⟩, EReal.coe_add⟩ : ℝ →+ EReal) f Finset.univ).symm

theorem coe_max (x y : ℝ) : max (x : EReal) (y : EReal) = ((max x y : ℝ) : EReal) :=
  (EReal.coe_strictMono.monotone.map_max).symm

theorem coe_abs (φ : FTy) (x : ℝ) : (FloatOps.absf (F := Ideal) (φ := φ) (x : EReal) : EReal) = ((|x| : ℝ) : EReal) := by
  change max (x : EReal) (-(x : EReal)) = _
  rw [← EReal.coe_neg, coe_max]; rfl

theorem coe_log {x : ℝ} (h : 0 < x) : Ideal.log (x : EReal) = ((Real.log x : ℝ) : EReal) := by
  rw [Ideal.log_coe, if_neg (not_le.mpr h)]

theorem coe_div (x : ℝ) {y : ℝ} (h : y ≠ 0) : Ideal.div (x : EReal) (y : EReal) = ((x / y : ℝ) : EReal) := by
  rw [Ideal.div_coe h, ← EReal.coe_mul]; congr 1; ring

/-! ### The attention's weights and their gradient -/

/-- The scale of the scores: the number that the printed constant denotes. -/
def scale : ℝ := (Ideal.ofBits .f32 0x3DB504F3#32).toReal

theorem coe_scale : Ideal.ofBits .f32 0x3DB504F3#32 = ((scale : ℝ) : EReal) := by
  unfold scale
  simp only [Ideal.ofBits, Ideal.ieee]
  rw [if_neg (by decide), if_neg (by decide), EReal.toReal_coe]

/-- `log (1 + e^x)`, as both programs compute it. -/
def sp (x : ℝ) : ℝ := max x 0 + Real.log (1 + Real.exp (-|x|))

theorem one_add_exp_pos (x : ℝ) : 0 < 1 + Real.exp x := by positivity

/-- `1 / (1 + e^(-x))`. -/
def sgm (x : ℝ) : ℝ := 1 / (1 + Real.exp (-x))

section
variable (q k v w : ℕ → ℕ → ℝ)

/-- The score of row `t` against column `s`. -/
def z (t s : ℕ) : ℝ := (∑ d ∈ Finset.range 128, q t d * k s d) * scale

/-- The logarithm of what a column leaves of the stick, on the columns before the row. -/
def lm (t s : ℕ) : ℝ := if s < t then -sp (z q k t s) else 0

/-- The weight of column `s` in row `t`. -/
def am (t s : ℕ) : ℝ :=
  if s < t then Real.exp (z q k t s - sp (z q k t s) + ∑ j ∈ Finset.Ico (s + 1) 2048, lm q k t j) else 0

/-- The weight times the gradient that reaches it. -/
def eg (t s : ℕ) : ℝ := am q k t s * ∑ d ∈ Finset.range 128, w t d * v s d

/-- The gradient of the score, times the scale. -/
def dz (t s : ℕ) : ℝ :=
  (if s < t then eg q k v w t s * (1 - sgm (z q k t s)) - (∑ j ∈ Finset.Ico 0 s, eg q k v w t j) * sgm (z q k t s)
    else 0) * scale

/-- The gradient of the queries. -/
def dq (t d : ℕ) : ℝ := ∑ s ∈ Finset.Ico 0 2048, dz q k v w t s * k s d

/-- The part that the rows `a ≤ t < b` add to the gradient of the keys. -/
def dk (a b s d : ℕ) : ℝ := ∑ t ∈ Finset.Ico a b, dz q k v w t s * q t d

/-- The part that the rows `a ≤ t < b` add to the gradient of the values. -/
def dv (a b s d : ℕ) : ℝ := ∑ t ∈ Finset.Ico a b, am q k t s * w t d

end

/-! ### Sums over a block of columns -/

theorem sum_block (f : ℕ → ℝ) (o n : ℕ) : ∑ x ∈ Finset.range n, f (o + x) = ∑ j ∈ Finset.Ico o (o + n), f j := by
  rw [Finset.sum_Ico_eq_sum_range, Nat.add_sub_cancel_left]

theorem sum_after (f : ℕ → ℝ) (o : ℕ) {n c : ℕ} (h : c < n) :
    ∑ x ∈ Finset.range n, f (o + x) * (if c < x then 1 else 0) = ∑ j ∈ Finset.Ico (o + c + 1) (o + n), f j := by
  obtain ⟨m, rfl⟩ : ∃ m, n = (c + 1) + m := ⟨n - (c + 1), by omega⟩
  rw [Finset.sum_range_add, Finset.sum_eq_zero, zero_add, ← add_assoc, ← add_assoc, ← sum_block]
  · refine Finset.sum_congr rfl fun x _ => ?_
    rw [if_pos (by omega), mul_one]; congr 1; omega
  · intro x hx
    rw [if_neg (by have := Finset.mem_range.1 hx; omega), mul_zero]

theorem sum_before (f : ℕ → ℝ) (o : ℕ) {n c : ℕ} (h : c < n) :
    ∑ x ∈ Finset.range n, f (o + x) * (if x < c then 1 else 0) = ∑ j ∈ Finset.Ico o (o + c), f j := by
  obtain ⟨m, rfl⟩ : ∃ m, n = c + m := ⟨n - c, by omega⟩
  rw [Finset.sum_range_add, Finset.sum_eq_zero (s := Finset.range m), add_zero, ← sum_block]
  · refine Finset.sum_congr rfl fun x hx => ?_
    rw [if_pos (Finset.mem_range.1 hx), mul_one]
  · intro x _
    rw [if_neg (by omega), mul_zero]

/-- Consecutive stretches of columns add up. -/
theorem sum_join (f : ℕ → ℝ) {a b c : ℕ} (h : a ≤ b) (h' : b ≤ c) :
    ∑ j ∈ Finset.Ico a b, f j + ∑ j ∈ Finset.Ico b c, f j = ∑ j ∈ Finset.Ico a c, f j :=
  Finset.sum_Ico_consecutive f h h'

/-! ### Head by head -/

/-- The columns of `P` from column `o` on. -/
def cols (P : ℕ → ℕ → ℝ) (o : ℕ) : ℕ → ℕ → ℝ := fun r d => P r (o + d)

/-- The gradients of head `h` with respect to its queries, keys and values; `P` holds the three matrices side by side and `C` what
    comes back from the output. -/
def gq (P C : ℕ → ℕ → ℝ) (h x d : ℕ) : ℝ := dq (cols P (128 * h)) (cols P (1024 + 128 * h)) (cols P (2048 + 128 * h)) (cols C (128 * h)) x d
def gk (P C : ℕ → ℕ → ℝ) (h a b x d : ℕ) : ℝ := dk (cols P (128 * h)) (cols P (1024 + 128 * h)) (cols P (2048 + 128 * h)) (cols C (128 * h)) a b x d
def gv (P C : ℕ → ℕ → ℝ) (h a b x d : ℕ) : ℝ := dv (cols P (128 * h)) (cols P (1024 + 128 * h)) (cols C (128 * h)) a b x d

theorem gk_join (P C : ℕ → ℕ → ℝ) (h x d b : ℕ) : gk P C h 0 (512 * b) x d + gk P C h (512 * b) (512 * b + 512) x d = gk P C h 0 (512 * (b + 1)) x d := by
  unfold gk dk; rw [show 512 * (b + 1) = 512 * b + 512 by ring]; exact sum_join _ (Nat.zero_le _) (Nat.le_add_right _ _)
theorem gv_join (P C : ℕ → ℕ → ℝ) (h x d b : ℕ) : gv P C h 0 (512 * b) x d + gv P C h (512 * b) (512 * b + 512) x d = gv P C h 0 (512 * (b + 1)) x d := by
  unfold gv dv; rw [show 512 * (b + 1) = 512 * b + 512 by ring]; exact sum_join _ (Nat.zero_le _) (Nat.le_add_right _ _)

/-- The gradient that plane `p`, row `x`, column `s` of the result holds. -/
def grad (P C : ℕ → ℕ → ℝ) (p x s : ℕ) : ℝ :=
  if p = 0 then gq P C (s / 128) x (s % 128) else if p = 1 then gk P C (s / 128) 0 2048 x (s % 128) else gv P C (s / 128) 0 2048 x (s % 128)

end Cert.Sb
-- ==== Proof.Sb.PassA.lean ====
module

public import proofs.«01_k».proof.Proof.Gen.KernelIdeal.Skeleton
public import proofs.«01_k».proof.Proof.Sb.Spec

/-!
The first pass over one strip of 512 columns, read over the reals: the weights of the strip, what they give to
the gradient of the values, and the running logarithm of the stick that is left.
-/

@[expose] public section

set_option maxRecDepth 16384

noncomputable section

namespace Cert.KernelIdeal.Sb

open Cert.KernelIdeal Cert.KernelIdeal.Gen Cert.Sb
open Idealize.ShloMosaic

/-! ### The two strictly triangular matrices of ones -/

theorem word_lt {a b : ℕ} (ha : a < 4096) (hb : b < 4096) :
    IntOp.cmpi .slt (BitVec.ofNat 32 a) (BitVec.ofNat 32 b) = if a < b then 1#1 else 0#1 := by
  have h : (BitVec.ofNat 32 a).slt (BitVec.ofNat 32 b) = decide (a < b) := by
    rw [BitVec.slt_eq_decide, BitVec.toInt_eq_toNat_of_lt (by rw [BitVec.toNat_ofNat]; omega),
      BitVec.toInt_eq_toNat_of_lt (by rw [BitVec.toNat_ofNat]; omega), BitVec.toNat_ofNat, BitVec.toNat_ofNat,
      Nat.mod_eq_of_lt (by omega), Nat.mod_eq_of_lt (by omega)]
    simp
  by_cases hab : a < b <;> simp [IntOp.cmpi, h, hab]

theorem word_real (P : Prop) [Decidable P] :
    (FloatOps.sitofp (F := Ideal) .f32 (BitVec.setWidth 32 (if P then 1#1 else 0#1)) : EReal)
      = ((if P then 1 else 0 : ℝ) : EReal) := by
  change (((BitVec.setWidth 32 (if P then 1#1 else 0#1)).toInt : ℝ) : EReal) = _
  by_cases h : P
  · rw [if_pos h, if_pos h]; norm_num
  · rw [if_neg h, if_neg h]; norm_num

theorem pay55_mat : Mat (n := 128) (m := 128) (k0_pay55 (F := Ideal)) (fun a b => if b < a then 1 else 0) := by
  intro a b
  pointwise [k0_pay55]
  have h : IntOp.cmpi .sgt (BitVec.ofNat 32 ↑a) (BitVec.ofNat 32 ↑b)
      = IntOp.cmpi .slt (BitVec.ofNat 32 ↑b) (BitVec.ofNat 32 ↑a) := rfl
  rw [h, word_lt (by omega) (by omega)]
  exact word_real _

theorem pay56_mat : Mat (n := 128) (m := 128) (k0_pay56 (F := Ideal)) (fun a b => if a < b then 1 else 0) := by
  intro a b
  pointwise [k0_pay56]
  rw [word_lt (by omega) (by omega)]
  exact word_real _

section
variable {q k v w : ℕ → ℕ → ℝ} {o p : ℕ}
variable {v0 v1 v263 v333 : Vec Ideal S512x128 .bf16} {v7 : FVec Ideal S128x128 .bf16}

/-! ### A strip before the diagonal -/

theorem pay3_mat (hq : Mat (n := 512) (m := 128) v0 (fun r d => q (o + r) d))
    (hk : Mat (n := 512) (m := 128) v263 (fun c d => k (p + c) d)) :
    Mat (n := 512) (m := 512) (k0_pay3 v0 v263) (fun r c => z q k (o + r) (p + c)) := by
  intro r c
  pointwise [k0_pay3]
  simp only [hq _ _, hk _ _, coe_scale, ← EReal.coe_mul, coe_sum, z, Finset.sum_range]

theorem pay4_mat {f : ℕ → ℕ → ℝ} (h : Mat (n := 512) (m := 512) (k0_pay3 v0 v263) f) :
    Mat (n := 512) (m := 512) (k0_pay4 v0 v263) (fun r c => sp (f r c)) := by
  intro r c
  pointwise [k0_pay4]
  simp only [h _ _, coe_abs, ← EReal.coe_zero, ← EReal.coe_one, ← EReal.coe_sub, zero_sub, Ideal.exp_coe, ← EReal.coe_add,
    coe_log (one_add_exp_pos _), coe_max, sp]

theorem pay5_mat {f : ℕ → ℕ → ℝ} (h : Mat (n := 512) (m := 512) (k0_pay4 v0 v263) f) :
    Mat (n := 512) (m := 512) (k0_pay5 v0 v263) (fun r c => -f r c) := by
  intro r c
  pointwise [k0_pay5]
  simp only [h _ _, ← EReal.coe_zero, ← EReal.coe_sub, zero_sub]

theorem lm_of_lt {t s : ℕ} (h : s < t) : lm q k t s = -sp (z q k t s) := if_pos h

/-- The hypotheses on a strip before the diagonal. -/
structure Below (q k : ℕ → ℕ → ℝ) (o p : ℕ) (v0 v263 : Vec Ideal S512x128 .bf16) (v7 : FVec Ideal S128x128 .bf16) : Prop where
  lt : p + 512 ≤ o
  q : Mat (n := 512) (m := 128) v0 (fun r d => q (o + r) d)
  k : Mat (n := 512) (m := 128) v263 (fun c d => k (p + c) d)
  su : Mat (n := 128) (m := 128) v7 (fun a b => if b < a then 1 else 0)

theorem Below.l (H : Below q k o p v0 v263 v7) :
    Mat (n := 512) (m := 512) (k0_pay5 v0 v263) (fun r c => lm q k (o + r) (p + c)) := by
  intro r c
  have h := pay5_mat (pay4_mat (pay3_mat H.q H.k)) r c
  rw [h]
  exact congrArg _ (lm_of_lt (by have := H.lt; omega)).symm

/-- What the columns after column `c` of block `b` of the strip, in the block, leave of the stick. -/
abbrev rest (q k : ℕ → ℕ → ℝ) (o p b r c : ℕ) : ℝ := ∑ j ∈ Finset.Ico (p + b + c + 1) (p + b + 128), lm q k (o + r) j

theorem Below.w0 (H : Below q k o p v0 v263 v7) :
    Mat (n := 512) (m := 128) (k0_pay8 v0 v7 v263) (rest q k o p 0) := by
  intro r c
  pointwise [k0_pay8, k0_pay7, k0_pay6]
  simp only [H.l _ _, H.su _ _, ← EReal.coe_sub, sub_self, ← EReal.coe_mul, zero_mul, coe_sum, ← EReal.coe_add,
    Finset.sum_const_zero, add_zero]
  rw [← Finset.sum_range (fun x => lm q k (o + ↑r) (p + x) * (if ↑c < x then 1 else 0)), sum_after _ _ c.isLt]
  simp only [rest, add_zero]

theorem Below.w1 (H : Below q k o p v0 v263 v7) :
    Mat (n := 512) (m := 128) (k0_pay9 v0 v7 v263) (rest q k o p 128) := by
  intro r c
  pointwise [k0_pay9, k0_pay7, k0_pay6]
  simp only [H.l _ _, H.su _ _, ← EReal.coe_sub, sub_self, ← EReal.coe_mul, zero_mul, coe_sum, ← EReal.coe_add,
    Finset.sum_const_zero, add_zero, ← add_assoc]
  rw [← Finset.sum_range (fun x => lm q k (o + ↑r) (p + 128 + x) * (if ↑c < x then 1 else 0)), sum_after _ _ c.isLt]

theorem Below.w2 (H : Below q k o p v0 v263 v7) :
    Mat (n := 512) (m := 128) (k0_pay10 v0 v7 v263) (rest q k o p 256) := by
  intro r c
  pointwise [k0_pay10, k0_pay7, k0_pay6]
  simp only [H.l _ _, H.su _ _, ← EReal.coe_sub, sub_self, ← EReal.coe_mul, zero_mul, coe_sum, ← EReal.coe_add,
    Finset.sum_const_zero, add_zero, ← add_assoc]
  rw [← Finset.sum_range (fun x => lm q k (o + ↑r) (p + 256 + x) * (if ↑c < x then 1 else 0)), sum_after _ _ c.isLt]

/-- The running logarithm when the columns from `a` on have been taken. -/
abbrev run (q k : ℕ → ℕ → ℝ) (o a r : ℕ) : ℝ := ∑ j ∈ Finset.Ico a 2048, lm q k (o + r) j

end

section
variable {q k v w : ℕ → ℕ → ℝ} {o p : ℕ} {acc : FVec Ideal S512x1 .f32} {l : FVec Ideal S512x512 .f32}

theorem sum_fin (f : ℕ → ℝ) (a : ℕ) : ∑ x : Fin 128, f (a + ↑x) = ∑ j ∈ Finset.Ico a (a + 128), f j := by
  rw [← Finset.sum_range (fun x => f (a + x)), sum_block]

theorem run_step (hp : p + 128 ≤ 2048) (r : ℕ) :
    run q k o (p + 128) r + ∑ x : Fin 128, lm q k (o + r) (p + ↑x) = run q k o p r := by
  rw [sum_fin, add_comm]; exact sum_join _ (by omega) (by omega)

theorem pay12_col (hp : p + 512 ≤ 2048) (ha : Col (n := 512) acc (run q k o (p + 512)))
    (hl : Mat (n := 512) (m := 512) l (fun r c => lm q k (o + r) (p + c))) :
    Col (n := 512) (k0_pay12 acc l) (run q k o (p + 384)) := by
  intro r
  pointwise [k0_pay12]
  simp only [hl _ _, ha _, coe_sum, ← EReal.coe_add, ← add_assoc]
  rw [run_step (p := p + 384) (by omega)]

theorem pay13_col (hp : p + 512 ≤ 2048) (ha : Col (n := 512) acc (run q k o (p + 512)))
    (hl : Mat (n := 512) (m := 512) l (fun r c => lm q k (o + r) (p + c))) :
    Col (n := 512) (k0_pay13 acc l) (run q k o (p + 256)) := by
  intro r
  pointwise [k0_pay13]
  simp only [hl _ _, pay12_col hp ha hl _, coe_sum, ← EReal.coe_add, ← add_assoc]
  rw [run_step (p := p + 256) (by omega)]

theorem pay14_col (hp : p + 512 ≤ 2048) (ha : Col (n := 512) acc (run q k o (p + 512)))
    (hl : Mat (n := 512) (m := 512) l (fun r c => lm q k (o + r) (p + c))) :
    Col (n := 512) (k0_pay14 acc l) (run q k o (p + 128)) := by
  intro r
  pointwise [k0_pay14]
  simp only [hl _ _, pay13_col hp ha hl _, coe_sum, ← EReal.coe_add, ← add_assoc]
  rw [run_step (p := p + 128) (by omega)]

theorem pay15_col (hp : p + 512 ≤ 2048) (ha : Col (n := 512) acc (run q k o (p + 512)))
    (hl : Mat (n := 512) (m := 512) l (fun r c => lm q k (o + r) (p + c))) :
    Col (n := 512) (k0_pay15 acc l) (run q k o p) := by
  intro r
  pointwise [k0_pay15]
  simp only [hl _ _, pay14_col hp ha hl _, coe_sum, ← EReal.coe_add, ← add_assoc]
  rw [run_step (p := p) (by omega)]

end

section
variable {q k v w : ℕ → ℕ → ℝ} {o p : ℕ} {acc : FVec Ideal S512x1 .f32}
variable {v0 v1 v263 v333 : Vec Ideal S512x128 .bf16} {v7 : FVec Ideal S128x128 .bf16}

/-- The logarithms after a column of block `b`, in the block and from the next block on. -/
theorem rest_run {b r c : ℕ} (hc : c < 128) (hp : p + b + 128 ≤ 2048) :
    rest q k o p b r c + run q k o (p + b + 128) r = ∑ j ∈ Finset.Ico (p + (b + c) + 1) 2048, lm q k (o + r) j := by
  rw [← add_assoc]; exact sum_join _ (by omega) (by omega)

/-- The logarithms after a column of a block, as the product with the triangular matrix gives them. -/
theorem block_after {t a c : ℕ} (hc : c < 128) :
    ∑ x : Fin 128, lm q k t (a + ↑x) * (if c < ↑x then 1 else 0) = ∑ j ∈ Finset.Ico (a + c + 1) (a + 128), lm q k t j := by
  rw [← Finset.sum_range (fun x => lm q k t (a + x) * (if c < x then 1 else 0)), sum_after _ _ hc]

/-- The logarithms after a column of the strip, put together from its four blocks. -/
theorem later_cases {r c : ℕ} (hc : c < 512) (hp : p + 512 ≤ 2048) :
    (if h : c < 128 then ((rest q k o p 0 r c + run q k o (p + 128) r : ℝ) : EReal)
      else if h : c - 128 < 128 then ((rest q k o p 128 r (c - 128) + run q k o (p + 256) r : ℝ) : EReal)
      else if h : c - 128 - 128 < 128 then ((rest q k o p 256 r (c - 128 - 128) + run q k o (p + 384) r : ℝ) : EReal)
      else ((∑ x : Fin 128, lm q k (o + r) (p + 384 + ↑x) * (if c - 128 - 128 - 128 < ↑x then 1 else 0)
        + run q k o (p + 512) r : ℝ) : EReal))
      = ((∑ j ∈ Finset.Ico (p + c + 1) 2048, lm q k (o + r) j : ℝ) : EReal) := by
  split_ifs with h0 h1 h2
  · have h := rest_run (q := q) (k := k) (o := o) (p := p) (b := 0) (r := r) h0 (by omega)
    rw [add_zero, Nat.zero_add] at h
    rw [h]
  · rw [rest_run h1 (by omega)]; congr 3; omega
  · rw [rest_run h2 (by omega)]; congr 3; omega
  · rw [block_after (by omega), rest_run (c := c - 128 - 128 - 128) (by omega) (by omega)]; congr 3; omega

/-- The weights of a strip before the diagonal. -/
theorem Below.a (H : Below q k o p v0 v263 v7) (hp : p + 512 ≤ 2048) (ha : Col (n := 512) acc (run q k o (p + 512))) :
    Mat (n := 512) (m := 512)
      (k0_pay16 v7 acc (k0_pay3 v0 v263) (k0_pay4 v0 v263) (k0_pay5 v0 v263) (k0_pay7 v0 v263) (k0_pay8 v0 v7 v263)
        (k0_pay9 v0 v7 v263) (k0_pay10 v0 v7 v263) (k0_pay11 v0 v263) (constant S512x128 .f32 0x00000000#32))
      (fun r c => am q k (o + r) (p + c)) := by
  intro r c
  have hlt : p + ↑c < o + ↑r := by have := H.lt; omega
  pointwise [k0_pay16]
  pointwise [k0_pay11, k0_pay7, k0_pay6]
  simp only [pay3_mat H.q H.k _ _, pay4_mat (pay3_mat H.q H.k) _ _, H.l _ _, H.su _ _, H.w0 _ _, H.w1 _ _, H.w2 _ _, ha _,
    pay14_col hp ha H.l _, pay13_col hp ha H.l _, pay12_col hp ha H.l _, ← EReal.coe_sub, sub_self, ← EReal.coe_mul, zero_mul,
    coe_sum, ← EReal.coe_add, Finset.sum_const_zero, add_zero, ← add_assoc]
  rw [later_cases c.isLt hp, ← EReal.coe_add, Ideal.exp_coe, am, if_pos hlt]

/-- The weights of a strip times the gradient that reaches them. -/
theorem pay17_mat {x2 x3 x4 : FVec Ideal S512x512 .f32} {x6 x7 x8 : FVec Ideal S512x128 .f32}
    {x9 : FVec Ideal S512x128 .f32} {y5 : FVec Ideal S512x512 .bf16} {y8 : FVec Ideal S512x128 .bf16}
    (h : Mat (n := 512) (m := 512) (k0_pay16 v7 acc x2 x3 x4 y5 x6 x7 x8 y8 x9) (fun r c => am q k (o + r) (p + c)))
    (hw : Mat (n := 512) (m := 128) v1 (fun r d => w (o + r) d))
    (hv : Mat (n := 512) (m := 128) v333 (fun c d => v (p + c) d)) :
    Mat1 (n := 512) (m := 512) (k0_pay17 v1 v7 acc x2 x3 x4 y5 x6 x7 x8 y8 x9 v333) (fun r c => eg q k v w (o + r) (p + c)) := by
  intro r c
  pointwise [k0_pay17]
  simp only [h _ _, hw _ _, hv _ _, ← EReal.coe_mul, coe_sum, eg, Finset.sum_range]

theorem pay18_mat {f : ℕ → ℕ → ℝ} {x : FVec Ideal S512x512 .f32} (h : Mat (n := 512) (m := 512) x f) :
    Mat1 (n := 512) (m := 512) (k0_pay18 x) f := by
  intro r c
  pointwise [k0_pay18]
  exact h r c

/-- What the rows add to the gradient of the values, on a strip. -/
theorem pay78_at {x : FVec Ideal S512x512 .f32} {y : FVec Ideal S512x128 .f32}
    (h : Mat (n := 512) (m := 512) x (fun r c => am q k (o + r) (p + c)))
    (hw : Mat (n := 512) (m := 128) v1 (fun r d => w (o + r) d)) (c : Fin 512) (d : Fin 128) :
    (k0_pay78 v1 x y (ix2 c d) : EReal) = y (ix2 c d) + ((dv q k w o (o + 512) (p + ↑c) ↑d : ℝ) : EReal) := by
  pointwise [k0_pay78]
  simp only [h _ _, hw _ _, ← EReal.coe_mul, coe_sum, dv]
  rw [← Finset.sum_range (fun x => am q k (o + x) (p + ↑c) * w (o + x) ↑d), ← sum_block]

theorem pay77_at {x : FVec Ideal S512x512 .f32} {y : FVec Ideal S512x128 .f32}
    (h : Mat (n := 512) (m := 512) x (fun r c => am q k (o + r) (p + c)))
    (hw : Mat (n := 512) (m := 128) v1 (fun r d => w (o + r) d)) (c : Fin 512) (d : Fin 128) :
    (k0_pay77 v1 x y (ix2 c d) : EReal) = y (ix2 c d) + ((dv q k w o (o + 512) (p + ↑c) ↑d : ℝ) : EReal) :=
  pay78_at h hw c d

end

/-! ### The strip on the diagonal -/

section
variable {q k v w : ℕ → ℕ → ℝ} {o : ℕ} {acc : FVec Ideal S512x1 .f32} {a1 a38 : BitVec 32}
variable {v0 v1 v41 v122 : Vec Ideal S512x128 .bf16} {v7 : FVec Ideal S128x128 .bf16}

/-- The hypotheses on the strip on the diagonal. -/
structure Diag (q k : ℕ → ℕ → ℝ) (o : ℕ) (a1 a38 : BitVec 32) (v0 v41 : Vec Ideal S512x128 .bf16)
    (v7 : FVec Ideal S128x128 .bf16) : Prop where
  q : Mat (n := 512) (m := 128) v0 (fun r d => q (o + r) d)
  k : Mat (n := 512) (m := 128) v41 (fun c d => k (o + c) d)
  su : Mat (n := 128) (m := 128) v7 (fun a b => if b < a then 1 else 0)
  mask : ∀ r c : Fin 512, k0_pay62 a1 a38 (ix2 r c) = if (c : ℕ) < (r : ℕ) then 1#1 else 0#1

theorem Diag.z (H : Diag q k o a1 a38 v0 v41 v7) :
    Mat (n := 512) (m := 512) (k0_pay60 v0 v41) (fun r c => Cert.Sb.z q k (o + r) (o + c)) := pay3_mat H.q H.k

theorem Diag.sp (H : Diag q k o a1 a38 v0 v41 v7) :
    Mat (n := 512) (m := 512) (k0_pay61 v0 v41) (fun r c => Cert.Sb.sp (Cert.Sb.z q k (o + r) (o + c))) :=
  pay4_mat (pay3_mat H.q H.k)

theorem select_coe (P : Prop) [Decidable P] (x y : EReal) :
    Scalar.select (if P then 1#1 else 0#1) x y = if P then x else y := by
  by_cases h : P
  · rw [if_pos h, if_pos h]; rfl
  · rw [if_neg h, if_neg h]; rfl

theorem ite_coe (P : Prop) [Decidable P] (x y : ℝ) :
    (if P then (x : EReal) else (y : EReal)) = ((if P then x else y : ℝ) : EReal) := by
  split_ifs <;> rfl

theorem Diag.l (H : Diag q k o a1 a38 v0 v41 v7) :
    Mat (n := 512) (m := 512) (k0_pay63 a1 v0 a38 v41) (fun r c => lm q k (o + r) (o + c)) := by
  intro r c
  pointwise [k0_pay63]
  simp only [H.mask _ _, H.sp _ _, select_coe, ← EReal.coe_zero, ← EReal.coe_sub, zero_sub, ite_coe, lm, add_lt_add_iff_left]

theorem Diag.w0 (H : Diag q k o a1 a38 v0 v41 v7) :
    Mat (n := 512) (m := 128) (k0_pay66 a1 v0 v7 a38 v41) (rest q k o o 0) := by
  intro r c
  pointwise [k0_pay66, k0_pay65, k0_pay64]
  simp only [H.l _ _, H.su _ _, ← EReal.coe_sub, sub_self, ← EReal.coe_mul, zero_mul, coe_sum, ← EReal.coe_add,
    Finset.sum_const_zero, add_zero]
  rw [block_after c.isLt, rest, add_zero]

theorem Diag.w1 (H : Diag q k o a1 a38 v0 v41 v7) :
    Mat (n := 512) (m := 128) (k0_pay67 a1 v0 v7 a38 v41) (rest q k o o 128) := by
  intro r c
  pointwise [k0_pay67, k0_pay65, k0_pay64]
  simp only [H.l _ _, H.su _ _, ← EReal.coe_sub, sub_self, ← EReal.coe_mul, zero_mul, coe_sum, ← EReal.coe_add,
    Finset.sum_const_zero, add_zero, ← add_assoc]
  rw [block_after c.isLt]

theorem Diag.w2 (H : Diag q k o a1 a38 v0 v41 v7) :
    Mat (n := 512) (m := 128) (k0_pay68 a1 v0 v7 a38 v41) (rest q k o o 256) := by
  intro r c
  pointwise [k0_pay68, k0_pay64]
  simp only [H.l _ _, H.su _ _, ← EReal.coe_mul, coe_sum, ← add_assoc]
  rw [block_after c.isLt]

/-- Before the diagonal nothing has been taken from a row: the columns from the diagonal on leave the stick whole. -/
theorem run_diag (r : ℕ) (hr : r < 512) : run q k o (o + 512) r = 0 :=
  Finset.sum_eq_zero fun j hj => if_neg (by have := (Finset.mem_Ico.1 hj).1; omega)

theorem pay59_col (hp : o + 512 ≤ 2048) : Col (n := 512) (k0_pay59 (F := Ideal)) (run q k o (o + 512)) := by
  intro r
  pointwise [k0_pay59]
  rw [run_diag _ r.isLt, EReal.coe_zero]

/-- The running logarithm after the strip on the diagonal. -/
theorem Diag.run (H : Diag q k o a1 a38 v0 v41 v7) (hp : o + 512 ≤ 2048) :
    Col (n := 512) (k0_pay73 k0_pay59 (k0_pay63 a1 v0 a38 v41)) (Sb.run q k o o) :=
  pay15_col hp (pay59_col hp) H.l

/-- The weights of the strip on the diagonal. -/
theorem Diag.a (H : Diag q k o a1 a38 v0 v41 v7) (hp : o + 512 ≤ 2048) :
    Mat (n := 512) (m := 512)
      (k0_pay74 v7 k0_pay59 (k0_pay60 v0 v41) (k0_pay61 v0 v41) (k0_pay62 a1 a38) (k0_pay63 a1 v0 a38 v41)
        (k0_pay64 a1 v0 a38 v41) (k0_pay65 a1 v0 a38 v41) (k0_pay66 a1 v0 v7 a38 v41) (k0_pay67 a1 v0 v7 a38 v41)
        (k0_pay68 a1 v0 v7 a38 v41) (k0_pay69 a1 v0 a38 v41) (constant S512x128 .f32 0x00000000#32))
      (fun r c => am q k (o + r) (o + c)) := by
  intro r c
  pointwise [k0_pay74]
  pointwise [k0_pay69, k0_pay65, k0_pay64]
  have h72 : Col (n := 512) (k0_pay72 k0_pay59 (k0_pay63 a1 v0 a38 v41)) (Sb.run q k o (o + 128)) :=
    pay14_col hp (pay59_col hp) H.l
  have h71 : Col (n := 512) (k0_pay71 k0_pay59 (k0_pay63 a1 v0 a38 v41)) (Sb.run q k o (o + 256)) :=
    pay13_col hp (pay59_col hp) H.l
  have h70 : Col (n := 512) (k0_pay70 k0_pay59 (k0_pay63 a1 v0 a38 v41)) (Sb.run q k o (o + 384)) :=
    pay12_col hp (pay59_col hp) H.l
  simp only [H.z _ _, H.sp _ _, H.l _ _, H.su _ _, H.w0 _ _, H.w1 _ _, H.w2 _ _, H.mask _ _, pay59_col (q := q) (k := k) hp _,
    h72 _, h71 _, h70 _, ← EReal.coe_sub, sub_self, ← EReal.coe_mul, zero_mul,
    coe_sum, ← EReal.coe_add, Finset.sum_const_zero, add_zero, ← add_assoc]
  rw [later_cases c.isLt hp, ← EReal.coe_add, Ideal.exp_coe, select_coe, ← EReal.coe_zero, ite_coe, am]
  simp only [add_lt_add_iff_left]

theorem pay75_mat {x2 x3 x4 : FVec Ideal S512x512 .f32} {x8 x9 x10 c0 : FVec Ideal S512x128 .f32} {m : IVec S512x512 1}
    {y5 y6 : FVec Ideal S512x512 .bf16} {y8 : FVec Ideal S512x128 .bf16} {run0 : FVec Ideal S512x1 .f32}
    (h : Mat (n := 512) (m := 512) (k0_pay74 v7 run0 x2 x3 m x4 y5 y6 x8 x9 x10 y8 c0) (fun r c => am q k (o + r) (o + c)))
    (hw : Mat (n := 512) (m := 128) v1 (fun r d => w (o + r) d))
    (hv : Mat (n := 512) (m := 128) v122 (fun c d => v (o + c) d)) :
    Mat1 (n := 512) (m := 512) (k0_pay75 v1 v7 run0 x2 x3 m x4 y5 y6 x8 x9 x10 y8 c0 v122) (fun r c => eg q k v w (o + r) (o + c)) := by
  intro r c
  pointwise [k0_pay75]
  simp only [h _ _, hw _ _, hv _ _, ← EReal.coe_mul, coe_sum, eg, Finset.sum_range]

end

end Cert.KernelIdeal.Sb
-- ==== Proof.Sb.PassB.lean ====
module

public import proofs.«01_k».proof.Proof.Gen.KernelIdeal.Skeleton
public import proofs.«01_k».proof.Proof.Sb.PassA

/-!
The second pass over one strip of 512 columns, read over the reals: the gradient of the strip's scores, what it
gives to the gradients of the queries and of the keys, and the running sum of the weights' gradients.
-/

@[expose] public section

set_option maxRecDepth 16384

noncomputable section

namespace Cert.KernelIdeal.Sb

open Cert.KernelIdeal Cert.KernelIdeal.Gen Cert.Sb
open Idealize.ShloMosaic

section
variable {q k v w : ℕ → ℕ → ℝ} {o p : ℕ}

/-- The sum of a row's weighted gradients over the columns before `s`. -/
abbrev bef (q k v w : ℕ → ℕ → ℝ) (t s : ℕ) : ℝ := ∑ j ∈ Finset.Ico 0 s, eg q k v w t j

/-- Those of the columns of a block before its column `c`. -/
abbrev befIn (q k v w : ℕ → ℕ → ℝ) (t a c : ℕ) : ℝ := ∑ j ∈ Finset.Ico a (a + c), eg q k v w t j

theorem bef_in (t a c : ℕ) : befIn q k v w t a c + bef q k v w t a = bef q k v w t (a + c) := by
  rw [add_comm]; exact sum_join _ (by omega) (by omega)

theorem block_before {t a c : ℕ} (hc : c < 128) :
    ∑ x : Fin 128, eg q k v w t (a + ↑x) * (if ↑x < c then 1 else 0) = befIn q k v w t a c := by
  rw [← Finset.sum_range (fun x => eg q k v w t (a + x) * (if x < c then 1 else 0)), sum_before _ _ hc]

theorem bef_step (t a : ℕ) : bef q k v w t a + ∑ x : Fin 128, eg q k v w t (a + ↑x) = bef q k v w t (a + 128) := by
  rw [← Finset.sum_range (fun x => eg q k v w t (a + x)), sum_block]; exact sum_join _ (by omega) (by omega)

/-- What the four blocks of a strip have before each column. -/
theorem before_cases {t c : ℕ} (hc : c < 512) :
    (if h : c < 128 then ((bef q k v w t (p + c) : ℝ) : EReal)
      else if h : c - 128 < 128 then ((bef q k v w t (p + 128 + (c - 128)) : ℝ) : EReal)
      else if h : c - 128 - 128 < 128 then ((bef q k v w t (p + 256 + (c - 128 - 128)) : ℝ) : EReal)
      else ((bef q k v w t (p + 384 + (c - 128 - 128 - 128)) : ℝ) : EReal))
      = ((bef q k v w t (p + c) : ℝ) : EReal) := by
  split_ifs <;> congr 2 <;> omega

theorem coe_sgm (x : ℝ) : Ideal.div ((1 : ℝ) : EReal) ((1 + Real.exp (-x) : ℝ) : EReal) = ((sgm x : ℝ) : EReal) :=
  coe_div _ (one_add_exp_pos _).ne'

end

section
variable {q k v w : ℕ → ℕ → ℝ} {o p : ℕ} {acc : FVec Ideal S512x1 .f32} {e : FVec Ideal S512x512 .f32}
variable {v0 v331 : Vec Ideal S512x128 .bf16} {v13 : FVec Ideal S128x128 .bf16} {v261 v264 : Vec Ideal S1x512x512 .f32}

/-- The hypotheses on a strip of the second pass. -/
structure Strip (q k v w : ℕ → ℕ → ℝ) (o p : ℕ) (acc : FVec Ideal S512x1 .f32) (v13 : FVec Ideal S128x128 .bf16)
    (v261 v264 : Vec Ideal S1x512x512 .f32) : Prop where
  e : Mat1 (n := 512) (m := 512) v261 (fun r c => eg q k v w (o + r) (p + c))
  z : Mat1 (n := 512) (m := 512) v264 (fun r c => z q k (o + r) (p + c))
  sl : Mat (n := 128) (m := 128) v13 (fun a b => if a < b then 1 else 0)
  run : Col (n := 512) acc (fun r => bef q k v w (o + r) p)

variable (H : Strip q k v w o p acc v13 v261 v264)
include H

theorem Strip.e2 : Mat (n := 512) (m := 512) (k0_pay35 v261) (fun r c => eg q k v w (o + r) (p + c)) := by
  intro r c
  pointwise [k0_pay35]
  exact H.e r c

theorem Strip.z2 : Mat (n := 512) (m := 512) (k0_pay36 v264) (fun r c => Cert.Sb.z q k (o + r) (p + c)) := by
  intro r c
  pointwise [k0_pay36]
  exact H.z r c

theorem Strip.b2 : Mat (n := 512) (m := 128) (k0_pay39 v13 v261) (fun r c => befIn q k v w (o + r) (p + 256) c) := by
  intro r c
  pointwise [k0_pay39, k0_pay38, k0_pay37]
  simp only [H.e2 _ _, H.sl _ _, ← EReal.coe_sub, sub_self, ← EReal.coe_mul, zero_mul, coe_sum, ← EReal.coe_add,
    Finset.sum_const_zero, add_zero, ← add_assoc]
  rw [block_before c.isLt]

theorem Strip.b3 : Mat (n := 512) (m := 128) (k0_pay40 v13 v261) (fun r c => befIn q k v w (o + r) (p + 384) c) := by
  intro r c
  pointwise [k0_pay40, k0_pay38, k0_pay37]
  simp only [H.e2 _ _, H.sl _ _, ← EReal.coe_sub, sub_self, ← EReal.coe_mul, zero_mul, coe_sum, ← EReal.coe_add,
    Finset.sum_const_zero, add_zero, ← add_assoc]
  rw [block_before c.isLt]

theorem Strip.b0 : Mat (n := 512) (m := 128) (k0_pay41 v13 acc v261) (fun r c => bef q k v w (o + r) (p + c)) := by
  intro r c
  pointwise [k0_pay41, k0_pay38, k0_pay37]
  simp only [H.e2 _ _, H.sl _ _, H.run _, ← EReal.coe_sub, sub_self, ← EReal.coe_mul, zero_mul, coe_sum, ← EReal.coe_add,
    Finset.sum_const_zero, add_zero, ← add_assoc]
  rw [block_before c.isLt, bef_in]

theorem Strip.r0 : Col (n := 512) (k0_pay42 acc v261) (fun r => bef q k v w (o + r) (p + 128)) := by
  intro r
  pointwise [k0_pay42]
  simp only [H.e2 _ _, H.run _, coe_sum, ← EReal.coe_add, bef_step]

theorem Strip.b1 : Mat (n := 512) (m := 128) (k0_pay43 v13 acc v261) (fun r c => bef q k v w (o + r) (p + 128 + c)) := by
  intro r c
  pointwise [k0_pay43, k0_pay38, k0_pay37]
  simp only [H.e2 _ _, H.sl _ _, H.r0 _, ← EReal.coe_sub, sub_self, ← EReal.coe_mul, zero_mul, coe_sum, ← EReal.coe_add,
    Finset.sum_const_zero, add_zero, ← add_assoc]
  rw [block_before c.isLt, bef_in]

theorem Strip.r1 : Col (n := 512) (k0_pay44 acc v261) (fun r => bef q k v w (o + r) (p + 256)) := by
  intro r
  pointwise [k0_pay44]
  simp only [H.e2 _ _, H.r0 _, coe_sum, ← EReal.coe_add, ← add_assoc, bef_step]

theorem Strip.r2 : Col (n := 512) (k0_pay82 (k0_pay35 v261) (k0_pay44 acc v261)) (fun r => bef q k v w (o + r) (p + 384)) := by
  intro r
  pointwise [k0_pay82]
  simp only [H.e2 _ _, H.r1 _, coe_sum, ← EReal.coe_add, ← add_assoc, bef_step]

/-- The running sum after the strip. -/
theorem Strip.r3 : Col (n := 512) (k0_pay83 (k0_pay35 v261) (k0_pay44 acc v261)) (fun r => bef q k v w (o + r) (p + 512)) := by
  intro r
  pointwise [k0_pay83]
  simp only [H.e2 _ _, H.r2 _, coe_sum, ← EReal.coe_add, ← add_assoc, bef_step]

/-- The gradient of the scores of a strip before the diagonal. -/
theorem Strip.dz (hlt : p + 512 ≤ o) :
    Mat (n := 512) (m := 512)
      (k0_pay84 (k0_pay35 v261) (k0_pay36 v264) (k0_pay39 v13 v261) (k0_pay40 v13 v261) (k0_pay41 v13 acc v261)
        (k0_pay43 v13 acc v261) (k0_pay44 acc v261))
      (fun r c => dz q k v w (o + r) (p + c)) := by
  intro r c
  pointwise [k0_pay84]
  simp only [H.e2 _ _, H.z2 _ _, H.b0 _ _, H.b1 _ _, H.b2 _ _, H.b3 _ _, H.r1 _, H.r2 _, ← EReal.coe_add, bef_in]
  rw [before_cases c.isLt]
  simp only [← EReal.coe_zero, ← EReal.coe_one, ← EReal.coe_sub, zero_sub, Ideal.exp_coe, ← EReal.coe_add, coe_sgm,
    ← EReal.coe_mul, coe_scale]
  rw [Cert.Sb.dz, if_pos (by omega)]

/-- What a strip adds to the gradient of the queries. -/
theorem Strip.dq (hlt : p + 512 ≤ o) {a : FVec Ideal S512x128 .f32}
    (ha : Mat (n := 512) (m := 128) a (fun r d => ∑ s ∈ Finset.Ico 0 p, Cert.Sb.dz q k v w (o + r) s * k s d))
    (hk : Mat (n := 512) (m := 128) v331 (fun c d => k (p + c) d)) :
    Mat (n := 512) (m := 128)
      (k0_pay85 a (k0_pay35 v261) (k0_pay36 v264) (k0_pay39 v13 v261) (k0_pay40 v13 v261) (k0_pay41 v13 acc v261)
        (k0_pay43 v13 acc v261) (k0_pay44 acc v261) v331)
      (fun r d => ∑ s ∈ Finset.Ico 0 (p + 512), Cert.Sb.dz q k v w (o + r) s * k s d) := by
  intro r d
  pointwise [k0_pay85]
  simp only [H.dz hlt _ _, ha _ _, hk _ _, ← EReal.coe_mul, coe_sum, ← EReal.coe_add]
  rw [← Finset.sum_range (fun x => Cert.Sb.dz q k v w (o + ↑r) (p + x) * k (p + x) ↑d),
    sum_block (fun s => Cert.Sb.dz q k v w (o + ↑r) s * k s ↑d), sum_join _ (by omega) (by omega)]

/-- What the rows add to the gradient of the keys, on a strip. -/
theorem Strip.dk (hlt : p + 512 ≤ o) {y : FVec Ideal S512x128 .f32}
    (hq : Mat (n := 512) (m := 128) v0 (fun r d => q (o + r) d)) (c : Fin 512) (d : Fin 128) :
    (k0_pay86 v0 (k0_pay35 v261) (k0_pay36 v264) (k0_pay39 v13 v261) (k0_pay40 v13 v261) (k0_pay41 v13 acc v261)
        (k0_pay43 v13 acc v261) (k0_pay44 acc v261) y (ix2 c d) : EReal)
      = y (ix2 c d) + ((dk q k v w o (o + 512) (p + ↑c) ↑d : ℝ) : EReal) := by
  pointwise [k0_pay86]
  simp only [H.dz hlt _ _, hq _ _, ← EReal.coe_mul, coe_sum, Cert.Sb.dk]
  rw [← Finset.sum_range (fun x => Cert.Sb.dz q k v w (o + x) (p + ↑c) * q (o + x) ↑d),
    sum_block (fun t => Cert.Sb.dz q k v w t (p + ↑c) * q t ↑d)]

end

/-! ### The strip on the diagonal -/

section
variable {q k v w : ℕ → ℕ → ℝ} {o : ℕ} {acc : FVec Ideal S512x1 .f32}
variable {v0 v237 : Vec Ideal S512x128 .bf16} {v13 : FVec Ideal S128x128 .bf16} {v161 v164 : Vec Ideal S1x512x512 .f32}
variable {a1 a159 : BitVec 32}
variable (H : Strip q k v w o o acc v13 v161 v164)
include H

theorem Strip.d0 : Mat (n := 512) (m := 128) (k0_pay96 v13 acc (k0_pay94 v161) (k0_pay95 v161))
    (fun r c => bef q k v w (o + r) (o + c)) := H.b0

theorem Strip.d1 : Mat (n := 512) (m := 128) (k0_pay98 v13 acc (k0_pay92 v161) (k0_pay94 v161) (k0_pay95 v161))
    (fun r c => bef q k v w (o + r) (o + 128 + c)) := H.b1

theorem Strip.d2 : Mat (n := 512) (m := 128) (k0_pay100 v13 acc (k0_pay92 v161) (k0_pay94 v161) (k0_pay95 v161))
    (fun r c => bef q k v w (o + r) (o + 256 + c)) := by
  intro r c
  have h1 : Col (n := 512) (k0_pay99 acc (k0_pay92 v161)) (fun r => bef q k v w (o + r) (o + 256)) := H.r1
  have he : Mat (n := 512) (m := 512) (k0_pay92 v161) (fun r c => eg q k v w (o + r) (o + c)) := H.e2
  pointwise [k0_pay100, k0_pay95, k0_pay94]
  simp only [he _ _, H.sl _ _, h1 _, ← EReal.coe_sub, sub_self, ← EReal.coe_mul, zero_mul, coe_sum, ← EReal.coe_add,
    Finset.sum_const_zero, add_zero, ← add_assoc]
  rw [block_before c.isLt, bef_in]

theorem Strip.d3 : Mat (n := 512) (m := 128) (k0_pay101 v13 acc (k0_pay92 v161) (k0_pay94 v161) (k0_pay95 v161))
    (fun r c => bef q k v w (o + r) (o + 384 + c)) := by
  intro r c
  have h1 : Col (n := 512) (k0_pay99 acc (k0_pay92 v161)) (fun r => bef q k v w (o + r) (o + 256)) := H.r1
  have he : Mat (n := 512) (m := 512) (k0_pay92 v161) (fun r c => eg q k v w (o + r) (o + c)) := H.e2
  pointwise [k0_pay101, k0_pay95, k0_pay94]
  simp only [he _ _, H.sl _ _, h1 _, ← EReal.coe_sub, sub_self, ← EReal.coe_mul, zero_mul, coe_sum, ← EReal.coe_add,
    Finset.sum_const_zero, add_zero, ← add_assoc]
  rw [block_before c.isLt, add_assoc, bef_step, add_assoc o 256 128, bef_in]

/-- The gradient of the scores of the strip on the diagonal, as the tail of the body computes it. -/
abbrev tailDz (a1 a159 : BitVec 32) (acc : FVec Ideal S512x1 .f32) (v13 : FVec Ideal S128x128 .bf16)
    (v161 v164 : Vec Ideal S1x512x512 .f32) : FVec Ideal S512x512 .bf16 :=
  k0_pay104 a1 a159 (k0_pay92 v161) (k0_pay96 v13 acc (k0_pay94 v161) (k0_pay95 v161))
    (k0_pay98 v13 acc (k0_pay92 v161) (k0_pay94 v161) (k0_pay95 v161))
    (k0_pay100 v13 acc (k0_pay92 v161) (k0_pay94 v161) (k0_pay95 v161))
    (k0_pay101 v13 acc (k0_pay92 v161) (k0_pay94 v161) (k0_pay95 v161)) (k0_pay102 (k0_pay93 v164)) k0_pay103

theorem Strip.ddz
    (hm : ∀ r c : Fin 512, IntOp.cmpi .slt (IntOp.addi (BitVec.ofNat 32 ↑c) a159)
        (IntOp.addi (BitVec.ofNat 32 ↑r) (Scalar.muli a1 512#32))
      = if (c : ℕ) < (r : ℕ) then 1#1 else 0#1) :
    Mat (n := 512) (m := 512) (tailDz a1 a159 acc v13 v161 v164) (fun r c => Cert.Sb.dz q k v w (o + r) (o + c)) := by
  intro r c
  have he : Mat (n := 512) (m := 512) (k0_pay92 v161) (fun r c => eg q k v w (o + r) (o + c)) := H.e2
  have hz : Mat (n := 512) (m := 512) (k0_pay93 v164) (fun r c => Cert.Sb.z q k (o + r) (o + c)) := H.z2
  pointwise [k0_pay104, k0_pay102, k0_pay103]
  simp only [he _ _, hz _ _, H.d0 _ _, H.d1 _ _, H.d2 _ _, H.d3 _ _]
  rw [before_cases c.isLt]
  simp only [← EReal.coe_zero, ← EReal.coe_one, ← EReal.coe_sub, zero_sub, Ideal.exp_coe, ← EReal.coe_add, coe_sgm,
    ← EReal.coe_mul, hm _ _, select_coe, ite_coe, coe_scale, Cert.Sb.dz,
    add_lt_add_iff_left, ite_mul, zero_mul]

omit H in
/-- The gradient of the queries, whole after the strip on the diagonal: the later columns add nothing. -/
theorem dq_diag {t d : ℕ} (ho : o + 512 ≤ 2048) (ht : t < o + 512) :
    ∑ s ∈ Finset.Ico 0 (o + 512), Cert.Sb.dz q k v w t s * k s d = Cert.Sb.dq q k v w t d := by
  rw [Cert.Sb.dq, ← sum_join _ (Nat.zero_le (o + 512)) ho, Finset.sum_eq_zero (s := Finset.Ico (o + 512) 2048), add_zero]
  intro s hs
  rw [Cert.Sb.dz, if_neg (by have := (Finset.mem_Ico.1 hs).1; omega), zero_mul, zero_mul]

end

section
variable {q k v w : ℕ → ℕ → ℝ} {o : ℕ} {acc : FVec Ideal S512x1 .f32}
variable {v0 v237 : Vec Ideal S512x128 .bf16} {v13 : FVec Ideal S128x128 .bf16} {v161 v164 : Vec Ideal S1x512x512 .f32}
variable {a1 a159 : BitVec 32} {x : FVec Ideal S512x512 .f32}
  {y1 y2 y3 y4 : FVec Ideal S512x128 .f32} {x5 x6 : FVec Ideal S512x512 .f32}

/-- What the rows add to the gradient of the keys, on the strip on the diagonal. -/
theorem pay105_at (h : Mat (n := 512) (m := 512) (k0_pay104 a1 a159 x y1 y2 y3 y4 x5 x6)
      (fun r c => Cert.Sb.dz q k v w (o + r) (o + c))) {y : FVec Ideal S512x128 .f32}
    (hq : Mat (n := 512) (m := 128) v0 (fun r d => q (o + r) d)) (c : Fin 512) (d : Fin 128) :
    (k0_pay105 a1 v0 a159 x y1 y2 y3 y4 x5 x6 y (ix2 c d) : EReal)
      = y (ix2 c d) + ((dk q k v w o (o + 512) (o + ↑c) ↑d : ℝ) : EReal) := by
  pointwise [k0_pay105]
  simp only [h _ _, hq _ _, ← EReal.coe_mul, coe_sum, Cert.Sb.dk]
  rw [← Finset.sum_range (fun x => Cert.Sb.dz q k v w (o + x) (o + ↑c) * q (o + x) ↑d),
    sum_block (fun t => Cert.Sb.dz q k v w t (o + ↑c) * q t ↑d)]

/-- The gradient of the queries, at the end of the second pass. -/
theorem pay106_mat (h : Mat (n := 512) (m := 512) (k0_pay104 a1 a159 x y1 y2 y3 y4 x5 x6)
      (fun r c => Cert.Sb.dz q k v w (o + r) (o + c))) {a : FVec Ideal S512x128 .f32} (ho : o + 512 ≤ 2048)
    (ha : Mat (n := 512) (m := 128) a (fun r d => ∑ s ∈ Finset.Ico 0 o, Cert.Sb.dz q k v w (o + r) s * k s d))
    (hk : Mat (n := 512) (m := 128) v237 (fun c d => k (o + c) d)) :
    Mat1 (n := 512) (m := 128) (k0_pay106 a1 a a159 x y1 y2 y3 y4 x5 x6 v237) (fun r d => dq q k v w (o + r) d) := by
  intro r d
  pointwise [k0_pay106]
  simp only [h _ _, ha _ _, hk _ _, ← EReal.coe_mul, coe_sum, ← EReal.coe_add]
  rw [← Finset.sum_range (fun x => Cert.Sb.dz q k v w (o + ↑r) (o + x) * k (o + x) ↑d),
    sum_block (fun s => Cert.Sb.dz q k v w (o + ↑r) s * k s ↑d), sum_join _ (by omega) (by omega), dq_diag ho (by omega)]

end

end Cert.KernelIdeal.Sb
-- ==== Proof.Sb.Cells.lean ====
module

public import proofs.«01_k».proof.Proof.Gen.KernelIdeal.Frame
public import Idealize.ShloMosaic.Lib.WritesUnit
public import Idealize.ShloMosaic.Lib.Pointwise

/-!
Loads and stores of strips of 512 rows and of slots, read at an index; and where the loops' strips lie.
-/

@[expose] public section

set_option maxRecDepth 16384

noncomputable section

namespace Cert.KernelIdeal.Sb

open Cert.KernelIdeal Cert.KernelIdeal.Gen
open Idealize.ShloMosaic

variable {F : FTy → Type} [FloatOps F]

/-! ### The loops' trips and offsets -/

/-- The row block of a grid point. -/
abbrev blk (i : grid0.Coords) : ℕ := (i 1).val

theorem blk_lt (i : grid0.Coords) : blk i < 4 := (i 1).isLt

theorem t1_trips : ∀ i : grid0.Coords, (k0_t1_loop i).trips = blk i := by decide +kernel
theorem t2_trips : ∀ i : grid0.Coords, (k0_t2_loop i).trips = 0 := by decide +kernel
theorem t3_trips : ∀ i : grid0.Coords, (k0_t3_loop i).trips = blk i := by decide +kernel
theorem t4_trips : ∀ i : grid0.Coords, (k0_t4_loop i).trips = 0 := by decide +kernel

theorem off3_eq : ∀ (i : grid0.Coords) (k : Fin (k0_t1_loop i).trips), k0_off3 i k = ![512 * (blk i - 1 - k.val), 0] := by
  decide +kernel
theorem off4_eq : ∀ (i : grid0.Coords) (k : Fin (k0_t1_loop i).trips), k0_off4 i k = ![blk i - 1 - k.val, 0, 0] := by
  decide +kernel

/-! ### Strips of rows -/

theorem load_rows {e : EltTy} (m : Memref sig .tc .vmem S2048x128 e) (f : m.view.ty.Contents (Elt F)) {off : Fin 2 → ℕ}
    (inb : ∀ a, off a + S512x128.size a ≤ S2048x128.size a) {p : ℕ} (h : off = ![p, 0]) (r : Fin 512) (d : Fin 128)
    (hp : p + r.val < 2048) :
    m.view.readAt (Elt F) (Rect.unit (s := S2048x128) off S512x128.size inb).toLoadRect f (ix2 r d)
      = m.view.read (Elt F) f (ix2 ⟨p + r.val, hp⟩ d) := by
  subst h
  refine congrArg (m.view.read (Elt F) f) (funext (Fin.forall_fin_two.mpr ⟨Fin.ext ?_, Fin.ext ?_⟩))
  · show p + 1 * r.val = p + r.val
    omega
  · show 0 + 1 * d.val = d.val
    omega

theorem store_rows {e : EltTy} (m : Memref sig .tc .vmem S2048x128 e) (f : m.view.ty.Contents (Elt F)) {off : Fin 2 → ℕ}
    (inb : ∀ a, off a + S512x128.size a ≤ S2048x128.size a) {p : ℕ} (h : off = ![p, 0])
    (w : S512x128.Idx → Elt F e) (L : List (View.Piece (Elt F) S2048x128 e)) (x : Fin 2048) (d : Fin 128) :
    m.view.read (Elt F) (m.view.writes (Elt F) f (⟨Rect.unit off S512x128.size inb, w⟩ :: L)) (ix2 x d)
      = if h : p ≤ x.val ∧ x.val < p + 512 then w (ix2 ⟨x.val - p, by omega⟩ d)
        else m.view.read (Elt F) (m.view.writes (Elt F) f L) (ix2 x d) := by
  by_cases hx : p ≤ x.val ∧ x.val < p + 512
  · rw [dif_pos hx]
    refine View.read_writes_cons_unit_of_mem m.view f inb w L _ (ix2 ⟨x.val - p, by omega⟩ d) h
      (Fin.forall_fin_two.mpr ⟨?_, ?_⟩)
    · show x.val = p + (x.val - p)
      omega
    · show d.val = 0 + d.val
      omega
  · rw [dif_neg hx]
    refine View.read_writes_cons_unit_of_not_mem m.view f inb w L _ h 0 ?_
    show x.val < p ∨ p + 512 ≤ x.val
    omega

/-! ### Slots -/

theorem load_slot {e : EltTy} (m : Memref sig .tc .vmem S4x512x512 e) (f : m.view.ty.Contents (Elt F)) {off : Fin 3 → ℕ}
    (inb : ∀ a, off a + S1x512x512.size a ≤ S4x512x512.size a) {g : ℕ} (h : off = ![g, 0, 0]) (hg : g < 4) (r c : Fin 512) :
    m.view.readAt (Elt F) (Rect.unit (s := S4x512x512) off S1x512x512.size inb).toLoadRect f (ix3 0 r c)
      = m.view.read (Elt F) f (ix3 ⟨g, hg⟩ r c) := by
  subst h
  refine congrArg (m.view.read (Elt F) f) (funext fun a => Fin.ext ?_)
  fin_cases a
  · show g + 1 * 0 = g
    omega
  · show 0 + 1 * r.val = r.val
    omega
  · show 0 + 1 * c.val = c.val
    omega

theorem store_slot {e : EltTy} (m : Memref sig .tc .vmem S4x512x512 e) (f : m.view.ty.Contents (Elt F)) {off : Fin 3 → ℕ}
    (inb : ∀ a, off a + S1x512x512.size a ≤ S4x512x512.size a) {g : ℕ} (h : off = ![g, 0, 0])
    (w : S1x512x512.Idx → Elt F e) (L : List (View.Piece (Elt F) S4x512x512 e)) (x : Fin 4) (r c : Fin 512) :
    m.view.read (Elt F) (m.view.writes (Elt F) f (⟨Rect.unit off S1x512x512.size inb, w⟩ :: L)) (ix3 x r c)
      = if x.val = g then w (ix3 0 r c) else m.view.read (Elt F) (m.view.writes (Elt F) f L) (ix3 x r c) := by
  by_cases hx : x.val = g
  · rw [if_pos hx]
    refine View.read_writes_cons_unit_of_mem m.view f inb w L _ (ix3 0 r c) h fun a => ?_
    fin_cases a
    · show x.val = g + 0
      omega
    · show r.val = 0 + r.val
      omega
    · show c.val = 0 + c.val
      omega
  · rw [if_neg hx]
    refine View.read_writes_cons_unit_of_not_mem m.view f inb w L _ h 0 ?_
    show x.val < g ∨ g + 1 ≤ x.val
    omega

/-! ### The planes of the output -/

theorem store_plane {e : EltTy} (m : Memref sig .tc .vmem S3x2048x128 e) (f : m.view.ty.Contents (Elt F)) {off : Fin 3 → ℕ}
    (inb : ∀ a, off a + S1x512x128.size a ≤ S3x2048x128.size a) {p : ℕ} (h : off = ![0, p, 0])
    (w : S1x512x128.Idx → Elt F e) (L : List (View.Piece (Elt F) S3x2048x128 e)) (x : Fin 2048) (d : Fin 128) :
    m.view.read (Elt F) (m.view.writes (Elt F) f (⟨Rect.unit off S1x512x128.size inb, w⟩ :: L)) (ix3 0 x d)
      = if h : p ≤ x.val ∧ x.val < p + 512 then w (ix3 0 ⟨x.val - p, by omega⟩ d)
        else m.view.read (Elt F) (m.view.writes (Elt F) f L) (ix3 0 x d) := by
  by_cases hx : p ≤ x.val ∧ x.val < p + 512
  · rw [dif_pos hx]
    refine View.read_writes_cons_unit_of_mem m.view f inb w L _ (ix3 0 ⟨x.val - p, by omega⟩ d) h fun a => ?_
    fin_cases a
    · rfl
    · show x.val = p + (x.val - p)
      omega
    · show d.val = 0 + d.val
      omega
  · rw [dif_neg hx]
    refine View.read_writes_cons_unit_of_not_mem m.view f inb w L _ h 1 ?_
    show x.val < p ∨ p + 512 ≤ x.val
    omega

theorem store_whole_plane {e : EltTy} (m : Memref sig .tc .vmem S3x2048x128 e) (f : m.view.ty.Contents (Elt F)) {g : ℕ}
    (inb : ∀ a, (![g, 0, 0] : Fin 3 → ℕ) a + S1x2048x128.size a ≤ S3x2048x128.size a)
    (w : S1x2048x128.Idx → Elt F e) (L : List (View.Piece (Elt F) S3x2048x128 e)) (j : Fin 3) (x : Fin 2048) (d : Fin 128) :
    m.view.read (Elt F) (m.view.writes (Elt F) f (⟨Rect.unit ![g, 0, 0] S1x2048x128.size inb, w⟩ :: L)) (ix3 j x d)
      = if j.val = g then w (ix3 0 x d) else m.view.read (Elt F) (m.view.writes (Elt F) f L) (ix3 j x d) := by
  by_cases hx : j.val = g
  · rw [if_pos hx]
    refine View.read_writes_cons_unit_of_mem m.view f inb w L _ (ix3 0 x d) rfl fun a => ?_
    fin_cases a
    · show j.val = g + 0
      omega
    · show x.val = 0 + x.val
      omega
    · show d.val = 0 + d.val
      omega
  · rw [if_neg hx]
    refine View.read_writes_cons_unit_of_not_mem m.view f inb w L _ rfl 0 ?_
    show j.val < g ∨ g + 1 ≤ j.val
    omega

end Cert.KernelIdeal.Sb

end
-- ==== Proof.Sb.LoopA.lean ====
module

public import proofs.«01_k».proof.Proof.Gen.KernelIdeal.Loops
public import proofs.«01_k».proof.Proof.Sb.PassA
public import proofs.«01_k».proof.Proof.Sb.Cells

/-!
The first loop over the strips before the diagonal, last strip first: what its trips leave in the values' gradient
and in the two buffers of strips.
-/

@[expose] public section

set_option maxRecDepth 16384

noncomputable section

namespace Cert.KernelIdeal.Sb

open Cert.KernelIdeal Cert.KernelIdeal.Gen Cert.Sb
open Idealize.ShloMosaic Idealize.ShloMosaic.TcCoe

/-- A buffer of 2048 rows, read. -/
abbrev rd {e : EltTy} {s : Shape} (m : Memref sig .tc .vmem s e) (f : m.view.ty.Contents (Elt Ideal)) : s.Idx → Elt Ideal e :=
  m.view.read (Elt Ideal) f

section
variable {q k v w : ℕ → ℕ → ℝ}
variable (c : Dev nD) (i : grid0.Coords)
  (arg2 : Memref sig .tc .vmem S512x128 .bf16) (harg2 : arg2.IsWhole) (arg3 : Memref sig .tc .vmem S2048x128 .bf16) (harg3 : arg3.IsWhole)
  (arg4 : Memref sig .tc .vmem S2048x128 .bf16) (harg4 : arg4.IsWhole) (arg5 : Memref sig .tc .vmem S512x128 .bf16) (harg5 : arg5.IsWhole)
  (arg6 : Memref sig .tc .vmem S3x2048x128 .bf16) (harg6 : arg6.IsWhole) (arg7 : Memref sig .tc .vmem S2048x128 .f32) (harg7 : arg7.IsWhole)
  (arg8 : Memref sig .tc .vmem S2048x128 .f32) (harg8 : arg8.IsWhole) (arg9 : Memref sig .tc .vmem S4x512x512 .f32) (harg9 : arg9.IsWhole)
  (arg10 : Memref sig .tc .vmem S4x512x512 .f32) (harg10 : arg10.IsWhole)
  (a1 : BitVec 32) (v0 v1 : Vec Ideal S512x128 .bf16) (v7 v13 : FVec Ideal S128x128 .bf16) (v33 v39 : BitVec 32)
  (v45 : FVec Ideal S512x512 .f32) (v114 : FVec Ideal S512x1 .f32) (v120 : FVec Ideal S512x512 .f32)
  (X3 : BufTy.Contents (Elt Ideal) arg3.view.ty) (X4 : BufTy.Contents (Elt Ideal) arg4.view.ty)
  (G8 : BufTy.Contents (Elt Ideal) arg8.view.ty) (G9 : BufTy.Contents (Elt Ideal) arg9.view.ty)
  (G10 : BufTy.Contents (Elt Ideal) arg10.view.ty) (init : FVec Ideal S512x1 .f32)

/-- What the first `n` trips leave: the running logarithm, the values' gradient with the strips taken added, and
their slots filled. -/
structure LeftA (q k v w : ℕ → ℕ → ℝ) (b n : ℕ) (R : FVec Ideal S512x1 .f32) (g8 g8' : S2048x128.Idx → EReal)
    (g9 g9' g10 g10' : S4x512x512.Idx → EReal) : Prop where
  run : Col (n := 512) R (run q k (512 * b) (512 * (b - n)))
  dv : ∀ (x : Fin 2048) (d : Fin 128), g8' (ix2 x d) = if 512 * (b - n) ≤ x.val ∧ x.val < 512 * b then
    g8 (ix2 x d) + ((dv q k w (512 * b) (512 * b + 512) x d : ℝ) : EReal) else g8 (ix2 x d)
  eg : ∀ (g : Fin 4) (r s : Fin 512), g9' (ix3 g r s) = if b - n ≤ g.val ∧ g.val < b then
    ((eg q k v w (512 * b + r) (512 * g + s) : ℝ) : EReal) else g9 (ix3 g r s)
  z : ∀ (g : Fin 4) (r s : Fin 512), g10' (ix3 g r s) = if b - n ≤ g.val ∧ g.val < b then
    ((z q k (512 * b + r) (512 * g + s) : ℝ) : EReal) else g10 (ix3 g r s)

variable (hq : Mat (n := 512) (m := 128) v0 (fun r d => q (512 * blk i + r) d))
  (hw : Mat (n := 512) (m := 128) v1 (fun r d => w (512 * blk i + r) d))
  (hsu : Mat (n := 128) (m := 128) v7 (fun a b => if b < a then 1 else 0))
  (hk : Mat (n := 2048) (m := 128) (rd arg3 X3) k) (hv : Mat (n := 2048) (m := 128) (rd arg4 X4) v)
  (h0 : Col (n := 512) init (run q k (512 * blk i) (512 * blk i)))
include hq hw hsu hk hv h0

set_option maxHeartbeats 1000000 in
theorem loopA (n : ℕ) (hn : n ≤ blk i) :
    LeftA q k v w (blk i) n
      (st_k0_t1 Variants.none c none i arg2 harg2 arg3 harg3 arg4 harg4 arg5 harg5 arg6 harg6 arg7 harg7 arg8 harg8 arg9 harg9
        arg10 harg10 a1 v0 v1 v7 v13 v33 v39 v45 v114 v120 X3 X4 G8 G9 G10 init n).1
      (rd arg8 G8) (rd arg8 (arg8.view.writes (Elt Ideal) G8 (st_k0_t1 Variants.none c none i arg2 harg2 arg3 harg3 arg4 harg4 arg5
        harg5 arg6 harg6 arg7 harg7 arg8 harg8 arg9 harg9 arg10 harg10 a1 v0 v1 v7 v13 v33 v39 v45 v114 v120 X3 X4 G8 G9 G10 init n).2.1))
      (rd arg9 G9) (rd arg9 (arg9.view.writes (Elt Ideal) G9 (st_k0_t1 Variants.none c none i arg2 harg2 arg3 harg3 arg4 harg4 arg5
        harg5 arg6 harg6 arg7 harg7 arg8 harg8 arg9 harg9 arg10 harg10 a1 v0 v1 v7 v13 v33 v39 v45 v114 v120 X3 X4 G8 G9 G10 init n).2.2.1))
      (rd arg10 G10) (rd arg10 (arg10.view.writes (Elt Ideal) G10 (st_k0_t1 Variants.none c none i arg2 harg2 arg3 harg3 arg4 harg4
        arg5 harg5 arg6 harg6 arg7 harg7 arg8 harg8 arg9 harg9 arg10 harg10 a1 v0 v1 v7 v13 v33 v39 v45 v114 v120 X3 X4 G8 G9 G10 init
        n).2.2.2)) := by
  induction n with
  | zero =>
    refine ⟨h0, fun x d => ?_, fun g r s => ?_, fun g r s => ?_⟩
    · rw [if_neg (by omega)]; rfl
    · rw [if_neg (by omega)]; rfl
    · rw [if_neg (by omega)]; rfl
  | succ n ih =>
    have hlt : n < (k0_t1_loop i).trips := by rw [t1_trips]; omega
    have hb := blk_lt i
    obtain ⟨ir, iv, ie, iz⟩ := ih (by omega)
    rw [st_k0_t1_succ Variants.none c none i arg2 harg2 arg3 harg3 arg4 harg4 arg5 harg5 arg6 harg6 arg7 harg7 arg8 harg8 arg9 harg9
        arg10 harg10 a1 v0 v1 v7 v13 v33 v39 v45 v114 v120 X3 X4 G8 G9 G10 init ⟨n, hlt⟩]
    dsimp only
    generalize st_k0_t1 Variants.none c none i arg2 harg2 arg3 harg3 arg4 harg4 arg5 harg5 arg6 harg6 arg7 harg7 arg8 harg8 arg9 harg9
        arg10 harg10 a1 v0 v1 v7 v13 v33 v39 v45 v114 v120 X3 X4 G8 G9 G10 init n = st at *
    obtain ⟨R, L8, L9, L10⟩ := st
    dsimp only at ir iv ie iz ⊢
    have e3 := off3_eq i ⟨n, hlt⟩
    have e4 := off4_eq i ⟨n, hlt⟩
    obtain ⟨g, hg⟩ : ∃ g, g = blk i - 1 - n := ⟨_, rfl⟩
    rw [← hg] at e3 e4
    have hK : Mat (n := 512) (m := 128) (arg3.view.readAt (Elt Ideal) (Rect.unit (s := S2048x128) (k0_off3 i ⟨n, hlt⟩) S512x128.size
        (k0_off3_inb i ⟨n, hlt⟩)).toLoadRect X3) (fun s d => k (512 * g + s) d) := fun s d => by
      rw [load_rows arg3 X3 _ e3 s d (by omega)]; exact hk _ _
    have hV : Mat (n := 512) (m := 128) (arg4.view.readAt (Elt Ideal) (Rect.unit (s := S2048x128) (k0_off3 i ⟨n, hlt⟩) S512x128.size
        (k0_off3_inb i ⟨n, hlt⟩)).toLoadRect X4) (fun s d => v (512 * g + s) d) := fun s d => by
      rw [load_rows arg4 X4 _ e3 s d (by omega)]; exact hv _ _
    have HB : Below q k (512 * blk i) (512 * g) v0 _ v7 := ⟨by omega, hq, hK, hsu⟩
    have hR : Col (n := 512) R (run q k (512 * blk i) (512 * g + 512)) := by
      have : 512 * (blk i - n) = 512 * g + 512 := by omega
      rw [← this]; exact ir
    have hA := HB.a (by omega) hR
    unfold tripR_k0_t1 trip_k0_t1
    dsimp only
    refine ⟨?_, fun x d => ?_, fun a r s => ?_, fun a r s => ?_⟩
    · have : blk i - (n + 1) = g := by omega
      rw [this]
      exact pay15_col (by omega) hR HB.l
    · refine (store_rows arg8 G8 _ e3 _ L8 x d).trans ?_
      by_cases hx : 512 * g ≤ x.val ∧ x.val < 512 * g + 512
      · rw [dif_pos hx, if_pos (by omega)]
        refine (pay78_at hA hw _ _).trans ?_
        have h1 := load_rows arg8 (arg8.view.writes (Elt Ideal) G8 L8) (k0_off3_inb i ⟨n, hlt⟩) e3 ⟨x.val - 512 * g, by omega⟩ d
          (by show 512 * g + (x.val - 512 * g) < 2048; omega)
        have h2 : (⟨512 * g + (x.val - 512 * g), by omega⟩ : Fin 2048) = x := Fin.ext (by show 512 * g + (x.val - 512 * g) = x.val; omega)
        have h3 := iv x d
        rw [if_neg (by omega)] at h3
        have h4 : 512 * g + (x.val - 512 * g) = x.val := by omega
        dsimp only at h1 ⊢
        rw [h4]
        refine congrArg (· + _) (h1.trans ?_)
        rw [h2]; exact h3
      · rw [dif_neg hx]
        refine (iv x d).trans ?_
        by_cases hy : 512 * (blk i - n) ≤ x.val ∧ x.val < 512 * blk i
        · rw [if_pos hy, if_pos (by omega)]
        · rw [if_neg hy, if_neg (by omega)]
    · refine (store_slot arg9 G9 _ e4 _ L9 a r s).trans ?_
      by_cases hx : a.val = g
      · rw [if_pos hx, if_pos (by omega), hx]
        exact pay17_mat hA hw hV r s
      · rw [if_neg hx]
        refine (ie a r s).trans ?_
        by_cases hy : blk i - n ≤ a.val ∧ a.val < blk i
        · rw [if_pos hy, if_pos (by omega)]
        · rw [if_neg hy, if_neg (by omega)]
    · refine (store_slot arg10 G10 _ e4 _ L10 a r s).trans ?_
      by_cases hx : a.val = g
      · rw [if_pos hx, if_pos (by omega), hx]
        exact pay18_mat (pay3_mat hq hK) r s
      · rw [if_neg hx]
        refine (iz a r s).trans ?_
        by_cases hy : blk i - n ≤ a.val ∧ a.val < blk i
        · rw [if_pos hy, if_pos (by omega)]
        · rw [if_neg hy, if_neg (by omega)]

end

end Cert.KernelIdeal.Sb

end
-- ==== Proof.Sb.LoopB.lean ====
module

public import proofs.«01_k».proof.Proof.Gen.KernelIdeal.Loops
public import proofs.«01_k».proof.Proof.Sb.PassB
public import proofs.«01_k».proof.Proof.Sb.LoopA

/-!
The second loop over the strips before the diagonal, first strip first: what its trips leave in the keys' gradient,
and the queries' gradient and the running sum that they carry.
-/

@[expose] public section

set_option maxRecDepth 16384

noncomputable section

namespace Cert.KernelIdeal.Sb

open Cert.KernelIdeal Cert.KernelIdeal.Gen Cert.Sb
open Idealize.ShloMosaic Idealize.ShloMosaic.TcCoe

section
variable {q k v w : ℕ → ℕ → ℝ}
variable (c : Dev nD) (i : grid0.Coords)
  (arg2 : Memref sig .tc .vmem S512x128 .bf16) (harg2 : arg2.IsWhole) (arg3 : Memref sig .tc .vmem S2048x128 .bf16) (harg3 : arg3.IsWhole)
  (arg4 : Memref sig .tc .vmem S2048x128 .bf16) (harg4 : arg4.IsWhole) (arg5 : Memref sig .tc .vmem S512x128 .bf16) (harg5 : arg5.IsWhole)
  (arg6 : Memref sig .tc .vmem S3x2048x128 .bf16) (harg6 : arg6.IsWhole) (arg7 : Memref sig .tc .vmem S2048x128 .f32) (harg7 : arg7.IsWhole)
  (arg8 : Memref sig .tc .vmem S2048x128 .f32) (harg8 : arg8.IsWhole) (arg9 : Memref sig .tc .vmem S4x512x512 .f32) (harg9 : arg9.IsWhole)
  (arg10 : Memref sig .tc .vmem S4x512x512 .f32) (harg10 : arg10.IsWhole)
  (a1 : BitVec 32) (v0 v1 : Vec Ideal S512x128 .bf16) (v7 v13 : FVec Ideal S128x128 .bf16) (v33 v39 : BitVec 32)
  (v45 : FVec Ideal S512x512 .f32) (v114 : FVec Ideal S512x1 .f32) (v120 : FVec Ideal S512x512 .f32)
  (X3 : BufTy.Contents (Elt Ideal) arg3.view.ty) (X9 : BufTy.Contents (Elt Ideal) arg9.view.ty)
  (X10 : BufTy.Contents (Elt Ideal) arg10.view.ty) (G7 : BufTy.Contents (Elt Ideal) arg7.view.ty)
  (init : FVec Ideal S512x128 .f32 × FVec Ideal S512x1 .f32)

/-- What the first `n` trips leave: the queries' gradient over the strips taken, the running sum, and the keys'
gradient with the strips taken added. -/
structure LeftB (q k v w : ℕ → ℕ → ℝ) (b n : ℕ) (R : FVec Ideal S512x128 .f32 × FVec Ideal S512x1 .f32)
    (g7 g7' : S2048x128.Idx → EReal) : Prop where
  dq : Mat (n := 512) (m := 128) R.1 (fun r d => ∑ s ∈ Finset.Ico 0 (512 * n), dz q k v w (512 * b + r) s * k s d)
  run : Col (n := 512) R.2 (fun r => bef q k v w (512 * b + r) (512 * n))
  dk : ∀ (x : Fin 2048) (d : Fin 128), g7' (ix2 x d) = if x.val < 512 * n then
    g7 (ix2 x d) + ((dk q k v w (512 * b) (512 * b + 512) x d : ℝ) : EReal) else g7 (ix2 x d)

variable (hq : Mat (n := 512) (m := 128) v0 (fun r d => q (512 * blk i + r) d))
  (hsl : Mat (n := 128) (m := 128) v13 (fun a b => if a < b then 1 else 0))
  (hk : Mat (n := 2048) (m := 128) (rd arg3 X3) k)
  (h9 : ∀ (g : Fin 4) (r s : Fin 512), g.val < blk i → (rd arg9 X9 (ix3 g r s) : EReal)
    = ((eg q k v w (512 * blk i + r) (512 * g + s) : ℝ) : EReal))
  (h10 : ∀ (g : Fin 4) (r s : Fin 512), g.val < blk i → (rd arg10 X10 (ix3 g r s) : EReal)
    = ((z q k (512 * blk i + r) (512 * g + s) : ℝ) : EReal))
  (h1 : Mat (n := 512) (m := 128) init.1 (fun _ _ => 0)) (h2 : Col (n := 512) init.2 (fun _ => 0))
include hq hsl hk h9 h10 h1 h2

set_option maxHeartbeats 1000000 in
theorem loopB (n : ℕ) (hn : n ≤ blk i) :
    LeftB q k v w (blk i) n
      (st_k0_t3 Variants.none c none i arg2 harg2 arg3 harg3 arg4 harg4 arg5 harg5 arg6 harg6 arg7 harg7 arg8 harg8 arg9 harg9
        arg10 harg10 a1 v0 v1 v7 v13 v33 v39 v45 v114 v120 X3 X9 X10 G7 init n).1
      (rd arg7 G7) (rd arg7 (arg7.view.writes (Elt Ideal) G7 (st_k0_t3 Variants.none c none i arg2 harg2 arg3 harg3 arg4 harg4 arg5
        harg5 arg6 harg6 arg7 harg7 arg8 harg8 arg9 harg9 arg10 harg10 a1 v0 v1 v7 v13 v33 v39 v45 v114 v120 X3 X9 X10 G7 init n).2)) := by
  induction n with
  | zero =>
    refine ⟨fun r d => ?_, fun r => ?_, fun x d => ?_⟩
    · simp only [mul_zero, Finset.Ico_self, Finset.sum_empty]; exact h1 r d
    · simp only [bef, mul_zero, Finset.Ico_self, Finset.sum_empty]; exact h2 r
    · rw [if_neg (by omega)]; rfl
  | succ n ih =>
    have hlt : n < (k0_t3_loop i).trips := by rw [t3_trips]; omega
    have hb := blk_lt i
    obtain ⟨iq, ir, ik⟩ := ih (by omega)
    rw [st_k0_t3_succ Variants.none c none i arg2 harg2 arg3 harg3 arg4 harg4 arg5 harg5 arg6 harg6 arg7 harg7 arg8 harg8 arg9 harg9
        arg10 harg10 a1 v0 v1 v7 v13 v33 v39 v45 v114 v120 X3 X9 X10 G7 init ⟨n, hlt⟩]
    dsimp only
    generalize st_k0_t3 Variants.none c none i arg2 harg2 arg3 harg3 arg4 harg4 arg5 harg5 arg6 harg6 arg7 harg7 arg8 harg8 arg9 harg9
        arg10 harg10 a1 v0 v1 v7 v13 v33 v39 v45 v114 v120 X3 X9 X10 G7 init n = st at *
    obtain ⟨⟨R1, R2⟩, L7⟩ := st
    dsimp only at iq ir ik ⊢
    have e7 := k0_off7_eq i ⟨n, hlt⟩
    have e8 := k0_off8_eq i ⟨n, hlt⟩
    dsimp only at e7 e8
    have hK : Mat (n := 512) (m := 128) (arg3.view.readAt (Elt Ideal) (Rect.unit (s := S2048x128) (k0_off8 i ⟨n, hlt⟩) S512x128.size
        (k0_off8_inb i ⟨n, hlt⟩)).toLoadRect X3) (fun s d => k (512 * n + s) d) := fun s d => by
      rw [load_rows arg3 X3 _ e8 s d (by omega)]; exact hk _ _
    have hE : Mat1 (n := 512) (m := 512) (arg9.view.readAt (Elt Ideal) (Rect.unit (s := S4x512x512) (k0_off7 i ⟨n, hlt⟩)
        S1x512x512.size (k0_off7_inb i ⟨n, hlt⟩)).toLoadRect X9) (fun r s => eg q k v w (512 * blk i + r) (512 * n + s)) := fun r s => by
      rw [load_slot arg9 X9 _ e7 (by omega) r s]; exact h9 _ r s (by show n < blk i; omega)
    have hZ : Mat1 (n := 512) (m := 512) (arg10.view.readAt (Elt Ideal) (Rect.unit (s := S4x512x512) (k0_off7 i ⟨n, hlt⟩)
        S1x512x512.size (k0_off7_inb i ⟨n, hlt⟩)).toLoadRect X10) (fun r s => z q k (512 * blk i + r) (512 * n + s)) := fun r s => by
      rw [load_slot arg10 X10 _ e7 (by omega) r s]; exact h10 _ r s (by show n < blk i; omega)
    have HS : Strip q k v w (512 * blk i) (512 * n) R2 v13 _ _ := ⟨hE, hZ, hsl, ir⟩
    unfold tripR_k0_t3 tripL_k0_t3 trip_k0_t3
    dsimp only
    refine ⟨?_, ?_, fun x d => ?_⟩
    · exact HS.dq (by omega) iq hK
    · exact HS.r3
    · refine (store_rows arg7 G7 _ e8 _ L7 x d).trans ?_
      by_cases hx : 512 * n ≤ x.val ∧ x.val < 512 * n + 512
      · rw [dif_pos hx, if_pos (by omega)]
        refine (HS.dk (by omega) hq _ _).trans ?_
        have h1 := load_rows arg7 (arg7.view.writes (Elt Ideal) G7 L7) (k0_off8_inb i ⟨n, hlt⟩) e8 ⟨x.val - 512 * n, by omega⟩ d
          (by show 512 * n + (x.val - 512 * n) < 2048; omega)
        have h2 : (⟨512 * n + (x.val - 512 * n), by omega⟩ : Fin 2048) = x := Fin.ext (by show 512 * n + (x.val - 512 * n) = x.val; omega)
        have h3 := ik x d
        rw [if_neg (by omega)] at h3
        have h4 : 512 * n + (x.val - 512 * n) = x.val := by omega
        dsimp only at h1 ⊢
        rw [h4]
        refine congrArg (· + _) (h1.trans ?_)
        rw [h2]; exact h3
      · rw [dif_neg hx]
        refine (ik x d).trans ?_
        by_cases hy : x.val < 512 * n
        · rw [if_pos hy, if_pos (by omega)]
        · rw [if_neg hy, if_neg (by omega)]

end

end Cert.KernelIdeal.Sb

end
-- ==== Proof.Sb.Point.lean ====
module

public import proofs.«01_k».proof.Proof.Sb.Run
public import Idealize.ShloMosaic.Lib.LoopRemainder
public import Idealize.ShloMosaic.Lib.VecWindow
public import proofs.«01_k».proof.Proof.Sb.LoopB

/-!
What one grid point leaves, read over the reals: the queries' gradient of its rows, and what its rows add to the
gradients of the keys and of the values.
-/

@[expose] public section

set_option maxRecDepth 16384

noncomputable section

namespace Cert.KernelIdeal.Sb

open Cert.KernelIdeal Cert.KernelIdeal.Gen Cert.Sb
open Idealize.ShloMosaic Idealize.ShloMosaic.TcCoe

section
variable {q k v w : ℕ → ℕ → ℝ}
variable (c : Dev nD) (i : grid0.Coords)
  (arg2 : Memref sig .tc .vmem S512x128 .bf16) (harg2 : arg2.IsWhole) (arg3 : Memref sig .tc .vmem S2048x128 .bf16) (harg3 : arg3.IsWhole)
  (arg4 : Memref sig .tc .vmem S2048x128 .bf16) (harg4 : arg4.IsWhole) (arg5 : Memref sig .tc .vmem S512x128 .bf16) (harg5 : arg5.IsWhole)
  (arg6 : Memref sig .tc .vmem S3x2048x128 .bf16) (harg6 : arg6.IsWhole) (arg7 : Memref sig .tc .vmem S2048x128 .f32) (harg7 : arg7.IsWhole)
  (arg8 : Memref sig .tc .vmem S2048x128 .f32) (harg8 : arg8.IsWhole) (arg9 : Memref sig .tc .vmem S4x512x512 .f32) (harg9 : arg9.IsWhole)
  (arg10 : Memref sig .tc .vmem S4x512x512 .f32) (harg10 : arg10.IsWhole)
  (X2 : BufTy.Contents (Elt Ideal) arg2.view.ty) (X3 : BufTy.Contents (Elt Ideal) arg3.view.ty)
  (X4 : BufTy.Contents (Elt Ideal) arg4.view.ty) (X5 : BufTy.Contents (Elt Ideal) arg5.view.ty)
  (f6 : BufTy.Contents (Elt Ideal) arg6.view.ty) (f7 : BufTy.Contents (Elt Ideal) arg7.view.ty)
  (f8 : BufTy.Contents (Elt Ideal) arg8.view.ty) (f9 : BufTy.Contents (Elt Ideal) arg9.view.ty)
  (f10 : BufTy.Contents (Elt Ideal) arg10.view.ty)

/-- What a grid point of row block `b` leaves: its rows of the queries' gradient, and the other two gradients with
what its rows give added. -/
structure Left (q k v w : ℕ → ℕ → ℝ) (b : ℕ) (y y' : S3x2048x128.Idx → EReal) (g7 g7' g8 g8' : S2048x128.Idx → EReal) : Prop where
  dq : ∀ (x : Fin 2048) (d : Fin 128), y' (ix3 0 x d) = if 512 * b ≤ x.val ∧ x.val < 512 * b + 512 then
    ((dq q k v w x d : ℝ) : EReal) else y (ix3 0 x d)
  dk : ∀ (x : Fin 2048) (d : Fin 128), g7' (ix2 x d) = g7 (ix2 x d) + ((dk q k v w (512 * b) (512 * b + 512) x d : ℝ) : EReal)
  dv : ∀ (x : Fin 2048) (d : Fin 128), g8' (ix2 x d) = g8 (ix2 x d) + ((dv q k w (512 * b) (512 * b + 512) x d : ℝ) : EReal)

/-- The rows of a block give nothing to the keys after it. -/
theorem dk_late {b s d : ℕ} (h : 512 * b + 512 ≤ s) : Cert.Sb.dk q k v w (512 * b) (512 * b + 512) s d = 0 :=
  Finset.sum_eq_zero fun t ht => by
    rw [Cert.Sb.dz, if_neg (by have := (Finset.mem_Ico.1 ht).2; omega), zero_mul, zero_mul]

/-- The rows of a block give nothing to the values after it. -/
theorem dv_late {b s d : ℕ} (h : 512 * b + 512 ≤ s) : Cert.Sb.dv q k w (512 * b) (512 * b + 512) s d = 0 :=
  Finset.sum_eq_zero fun t ht => by
    rw [Cert.Sb.am, if_neg (by have := (Finset.mem_Ico.1 ht).2; omega), zero_mul]

theorem mask1 : ∀ i : grid0.Coords, runMid.sl.v38 i = Scalar.muli (BitVec.ofNat 32 (blk i)) 512#32 := by decide +kernel

theorem word_mask (x : BitVec 32) (hx : ∃ b : ℕ, b < 4 ∧ x = BitVec.ofNat 32 (512 * b)) (r c : Fin 512) :
    IntOp.cmpi .slt (IntOp.addi (BitVec.ofNat 32 ↑c) x) (IntOp.addi (BitVec.ofNat 32 ↑r) x)
      = if (c : ℕ) < (r : ℕ) then 1#1 else 0#1 := by
  obtain ⟨b, hb, rfl⟩ := hx
  rw [show IntOp.addi (BitVec.ofNat 32 ↑c) (BitVec.ofNat 32 (512 * b)) = BitVec.ofNat 32 (↑c + 512 * b) from
      (BitVec.ofNat_add ..).symm,
    show IntOp.addi (BitVec.ofNat 32 ↑r) (BitVec.ofNat 32 (512 * b)) = BitVec.ofNat 32 (↑r + 512 * b) from
      (BitVec.ofNat_add ..).symm, word_lt (by omega) (by omega)]
  simp only [add_lt_add_iff_right]

theorem word_blk : ∀ i : grid0.Coords, Scalar.muli (BitVec.ofNat 32 (blk i)) 512#32 = BitVec.ofNat 32 (512 * blk i) := by
  decide +kernel

theorem pay76_mat {f : ℕ → ℕ → ℝ} {x : FVec Ideal S512x512 .f32} (h : Mat (n := 512) (m := 512) x f) :
    Mat1 (n := 512) (m := 512) (k0_pay76 x) f := pay18_mat h

theorem pay80_mat : Mat (n := 512) (m := 128) (k0_pay80 (F := Ideal)) (fun _ _ => 0) := by
  intro r d
  pointwise [k0_pay80]
  rfl

theorem pay81_col : Col (n := 512) (k0_pay81 (F := Ideal)) (fun _ => 0) := by
  intro r
  pointwise [k0_pay81]
  rfl

section core
variable (v0 v1 K1 V1 : Vec Ideal S512x128 .bf16) (v33 : BitVec 32) (a38 a158 : BitVec 32)
  (hq : Mat (n := 512) (m := 128) v0 (fun r d => q (512 * blk i + r) d))
  (hw : Mat (n := 512) (m := 128) v1 (fun r d => w (512 * blk i + r) d))
  (hk : Mat (n := 2048) (m := 128) (rd arg3 X3) k) (hv : Mat (n := 2048) (m := 128) (rd arg4 X4) v)
  (hK : Mat (n := 512) (m := 128) K1 (fun s d => k (512 * blk i + s) d))
  (hV : Mat (n := 512) (m := 128) V1 (fun s d => v (512 * blk i + s) d))
  (h38 : a38 = Scalar.muli (BitVec.ofNat 32 (blk i)) 512#32) (h158 : a158 = Scalar.muli (BitVec.ofNat 32 (blk i)) 512#32)
  (z : FVec Ideal S512x512 .f32) (hz : z = k0_pay60 v0 K1)
  (x12 : FVec Ideal S512x1 .f32) (h12 : x12 = k0_pay73 k0_pay59 (k0_pay63 (BitVec.ofNat 32 (blk i)) v0 a38 K1))
  (x13 : FVec Ideal S512x512 .f32)
  (h13 : x13 = k0_pay74 k0_pay55 k0_pay59 (k0_pay60 v0 K1) (k0_pay61 v0 K1) (k0_pay62 (BitVec.ofNat 32 (blk i)) a38)
    (k0_pay63 (BitVec.ofNat 32 (blk i)) v0 a38 K1) (k0_pay64 (BitVec.ofNat 32 (blk i)) v0 a38 K1)
    (k0_pay65 (BitVec.ofNat 32 (blk i)) v0 a38 K1) (k0_pay66 (BitVec.ofNat 32 (blk i)) v0 k0_pay55 a38 K1)
    (k0_pay67 (BitVec.ofNat 32 (blk i)) v0 k0_pay55 a38 K1) (k0_pay68 (BitVec.ofNat 32 (blk i)) v0 k0_pay55 a38 K1)
    (k0_pay69 (BitVec.ofNat 32 (blk i)) v0 a38 K1) (constant S512x128 .f32 0x00000000#32))
  (x75 : Vec Ideal S1x512x512 .f32)
  (h75 : x75 = k0_pay75 v1 k0_pay55 k0_pay59 (k0_pay60 v0 K1) (k0_pay61 v0 K1) (k0_pay62 (BitVec.ofNat 32 (blk i)) a38)
    (k0_pay63 (BitVec.ofNat 32 (blk i)) v0 a38 K1) (k0_pay64 (BitVec.ofNat 32 (blk i)) v0 a38 K1)
    (k0_pay65 (BitVec.ofNat 32 (blk i)) v0 a38 K1) (k0_pay66 (BitVec.ofNat 32 (blk i)) v0 k0_pay55 a38 K1)
    (k0_pay67 (BitVec.ofNat 32 (blk i)) v0 k0_pay55 a38 K1) (k0_pay68 (BitVec.ofNat 32 (blk i)) v0 k0_pay55 a38 K1)
    (k0_pay69 (BitVec.ofNat 32 (blk i)) v0 a38 K1) (constant S512x128 .f32 0x00000000#32) V1)
  (A8 : BufTy.Contents (Elt Ideal) arg8.view.ty)
  (hA8 : A8 = arg8.view.writes (Elt Ideal) f8 [⟨Rect.unit (k0_off1 i) S512x128.size (k0_off1_inb i), k0_pay77 v1 x13
    (arg8.view.readAt (Elt Ideal) (Rect.unit (s := S2048x128) (k0_off1 i) S512x128.size (k0_off1_inb i)).toLoadRect f8)⟩])
  (A9 : BufTy.Contents (Elt Ideal) arg9.view.ty)
  (hA9 : A9 = arg9.view.writes (Elt Ideal) f9 [⟨Rect.unit (k0_off2 i) S1x512x512.size (k0_off2_inb i), x75⟩])
  (A10 : BufTy.Contents (Elt Ideal) arg10.view.ty)
  (hA10 : A10 = arg10.view.writes (Elt Ideal) f10 [⟨Rect.unit (k0_off2 i) S1x512x512.size (k0_off2_inb i), k0_pay76 z⟩])
  (n1 n3 : ℕ) (hn1 : n1 = blk i) (hn3 : n3 = blk i)
  (S1 : FVec Ideal S512x1 .f32 × List (View.Piece (Elt Ideal) S2048x128 .f32) × List (View.Piece (Elt Ideal) S4x512x512 .f32) ×
    List (View.Piece (Elt Ideal) S4x512x512 .f32))
  (S3 : (FVec Ideal S512x128 .f32 × FVec Ideal S512x1 .f32) × List (View.Piece (Elt Ideal) S2048x128 .f32))
  (hS1 : S1 = st_k0_t1 Variants.none c none i arg2 harg2 arg3 harg3 arg4 harg4 arg5 harg5 arg6 harg6 arg7 harg7 arg8 harg8 arg9 harg9
    arg10 harg10 (BitVec.ofNat 32 (blk i)) v0 v1 k0_pay55 k0_pay56 v33 a38 z x12 x13 X3 X4 A8 A9 A10 x12 n1)
  (X9 : BufTy.Contents (Elt Ideal) arg9.view.ty) (hX9 : X9 = arg9.view.writes (Elt Ideal) A9 S1.2.2.1)
  (X10 : BufTy.Contents (Elt Ideal) arg10.view.ty) (hX10 : X10 = arg10.view.writes (Elt Ideal) A10 S1.2.2.2)
  (hS3 : S3 = st_k0_t3 Variants.none c none i arg2 harg2 arg3 harg3 arg4 harg4 arg5 harg5 arg6 harg6 arg7 harg7 arg8 harg8 arg9 harg9
    arg10 harg10 (BitVec.ofNat 32 (blk i)) v0 v1 k0_pay55 k0_pay56 v33 a38 z x12 x13 X3 X9 X10 f7 (k0_pay80, k0_pay81) n3)
  (A7 : BufTy.Contents (Elt Ideal) arg7.view.ty) (hA7 : A7 = arg7.view.writes (Elt Ideal) f7 S3.2)
  (E Z : Vec Ideal S1x512x512 .f32)
  (hE : E = arg9.view.readAt (Elt Ideal) (Rect.unit (s := S4x512x512) (k0_off2 i) S1x512x512.size (k0_off2_inb i)).toLoadRect X9)
  (hZ : Z = arg10.view.readAt (Elt Ideal) (Rect.unit (s := S4x512x512) (k0_off2 i) S1x512x512.size (k0_off2_inb i)).toLoadRect X10)

include hq hw hk hv hK hV h38 h158 hz h12 h13 h75 hA8 hA9 hA10 hn1 hn3 hS1 hX9 hX10 hS3 hA7 hE hZ

/-- One point's stores, from the values they are made of. -/
theorem point :
    Left q k v w (blk i) (rd arg6 f6)
      (rd arg6 (arg6.view.writes (Elt Ideal) f6 [⟨Rect.unit (k0_off11 i) S1x512x128.size (k0_off11_inb i),
        k0_pay106 (BitVec.ofNat 32 (blk i)) S3.1.1 a158 (k0_pay92 E) (k0_pay96 k0_pay56 S3.1.2 (k0_pay94 E) (k0_pay95 E))
          (k0_pay98 k0_pay56 S3.1.2 (k0_pay92 E) (k0_pay94 E) (k0_pay95 E))
          (k0_pay100 k0_pay56 S3.1.2 (k0_pay92 E) (k0_pay94 E) (k0_pay95 E))
          (k0_pay101 k0_pay56 S3.1.2 (k0_pay92 E) (k0_pay94 E) (k0_pay95 E)) (k0_pay102 (k0_pay93 Z)) k0_pay103 K1⟩]))
      (rd arg7 f7)
      (rd arg7 (arg7.view.writes (Elt Ideal) A7 [⟨Rect.unit (k0_off1 i) S512x128.size (k0_off1_inb i),
        k0_pay105 (BitVec.ofNat 32 (blk i)) v0 a158 (k0_pay92 E) (k0_pay96 k0_pay56 S3.1.2 (k0_pay94 E) (k0_pay95 E))
          (k0_pay98 k0_pay56 S3.1.2 (k0_pay92 E) (k0_pay94 E) (k0_pay95 E))
          (k0_pay100 k0_pay56 S3.1.2 (k0_pay92 E) (k0_pay94 E) (k0_pay95 E))
          (k0_pay101 k0_pay56 S3.1.2 (k0_pay92 E) (k0_pay94 E) (k0_pay95 E)) (k0_pay102 (k0_pay93 Z)) k0_pay103
          (arg7.view.readAt (Elt Ideal) (Rect.unit (s := S2048x128) (k0_off1 i) S512x128.size (k0_off1_inb i)).toLoadRect A7)⟩]))
      (rd arg8 f8) (rd arg8 (arg8.view.writes (Elt Ideal) A8 S1.2.1)) := by
  have hb := blk_lt i
  have e1 := k0_off1_eq i
  have e2 := k0_off2_eq i
  have e11 := k0_off11_eq i
  have hD : Diag q k (512 * blk i) (BitVec.ofNat 32 (blk i)) a38 v0 K1 k0_pay55 := ⟨hq, hK, pay55_mat, fun r s => by
    subst h38
    pointwise [k0_pay62]
    exact word_mask _ ⟨blk i, hb, word_blk i⟩ r s⟩
  have hm : ∀ r c : Fin 512, IntOp.cmpi .slt (IntOp.addi (BitVec.ofNat 32 ↑c) a158)
        (IntOp.addi (BitVec.ofNat 32 ↑r) (Scalar.muli (BitVec.ofNat 32 (blk i)) 512#32))
      = if (c : ℕ) < (r : ℕ) then 1#1 else 0#1 := fun r s => by
    subst h158
    exact word_mask _ ⟨blk i, hb, word_blk i⟩ r s
  have hA : Mat (n := 512) (m := 512) x13 (fun r c => am q k (512 * blk i + r) (512 * blk i + c)) := by
    subst h13; exact hD.a (by omega)
  have hE1 : Mat1 (n := 512) (m := 512) x75 (fun r c => eg q k v w (512 * blk i + r) (512 * blk i + c)) := by
    subst h75; exact pay75_mat (hD.a (by omega)) hw hV
  have hZ1 : Mat1 (n := 512) (m := 512) (k0_pay76 z) (fun r c => Cert.Sb.z q k (512 * blk i + r) (512 * blk i + c)) := by
    subst hz; exact pay76_mat hD.z
  have hR : Col (n := 512) x12 (run q k (512 * blk i) (512 * blk i)) := by subst h12; exact hD.run (by omega)
  have LA := loopA c i arg2 harg2 arg3 harg3 arg4 harg4 arg5 harg5 arg6 harg6 arg7 harg7 arg8 harg8 arg9 harg9 arg10 harg10
    (BitVec.ofNat 32 (blk i)) v0 v1 k0_pay55 k0_pay56 v33 a38 z x12 x13 X3 X4 A8 A9 A10 x12 hq hw pay55_mat hk hv hR n1 (by omega)
  rw [← hS1, ← hX9, ← hX10] at LA
  obtain ⟨lr, lv, le, lz⟩ := LA
  rw [hn1, Nat.sub_self] at lv le lz
  have hE9 : ∀ (g : Fin 4) (r s : Fin 512), g.val ≤ blk i → (rd arg9 X9 (ix3 g r s) : EReal)
      = ((eg q k v w (512 * blk i + r) (512 * g + s) : ℝ) : EReal) := fun g r s hg => by
    rw [le g r s]
    by_cases h : g.val < blk i
    · rw [if_pos ⟨Nat.zero_le _, h⟩]
    · rw [if_neg (by omega), hA9]
      refine (store_slot arg9 f9 _ e2 x75 [] g r s).trans ?_
      have hgb : g.val = blk i := by omega
      rw [if_pos hgb, hgb]
      exact hE1 r s
  have hZ9 : ∀ (g : Fin 4) (r s : Fin 512), g.val ≤ blk i → (rd arg10 X10 (ix3 g r s) : EReal)
      = ((Cert.Sb.z q k (512 * blk i + r) (512 * g + s) : ℝ) : EReal) := fun g r s hg => by
    rw [lz g r s]
    by_cases h : g.val < blk i
    · rw [if_pos ⟨Nat.zero_le _, h⟩]
    · rw [if_neg (by omega), hA10]
      refine (store_slot arg10 f10 _ e2 (k0_pay76 z) [] g r s).trans ?_
      have hgb : g.val = blk i := by omega
      rw [if_pos hgb, hgb]
      exact hZ1 r s
  have LB := loopB (w := w) (v := v) (q := q) (k := k) c i arg2 harg2 arg3 harg3 arg4 harg4 arg5 harg5 arg6 harg6 arg7 harg7 arg8 harg8 arg9 harg9 arg10 harg10
    (BitVec.ofNat 32 (blk i)) v0 v1 k0_pay55 k0_pay56 v33 a38 z x12 x13 X3 X9 X10 f7 (k0_pay80, k0_pay81) hq pay56_mat hk
    (fun g r s h => hE9 g r s h.le) (fun g r s h => hZ9 g r s h.le) pay80_mat pay81_col n3 (by omega)
  rw [← hS3, ← hA7] at LB
  obtain ⟨bq, br, bk⟩ := LB
  rw [hn3] at bq br bk
  have HS : Strip q k v w (512 * blk i) (512 * blk i) S3.1.2 k0_pay56 E Z := ⟨fun r s => by
      rw [hE]; exact (load_slot arg9 X9 _ e2 hb r s).trans (hE9 ⟨blk i, hb⟩ r s le_rfl), fun r s => by
      rw [hZ]; exact (load_slot arg10 X10 _ e2 hb r s).trans (hZ9 ⟨blk i, hb⟩ r s le_rfl), pay56_mat, br⟩
  refine ⟨fun x d => ?_, fun x d => ?_, fun x d => ?_⟩
  · refine (store_plane arg6 f6 _ e11 _ [] x d).trans ?_
    by_cases hx : 512 * blk i ≤ x.val ∧ x.val < 512 * blk i + 512
    · rw [dif_pos hx, if_pos hx]
      refine (pay106_mat (HS.ddz hm) (by omega) bq hK _ _).trans ?_
      have h4 : 512 * blk i + (x.val - 512 * blk i) = x.val := by omega
      dsimp only
      rw [h4]
    · rw [dif_neg hx, if_neg hx]; rfl
  · refine (store_rows arg7 A7 _ e1 _ [] x d).trans ?_
    by_cases hx : 512 * blk i ≤ x.val ∧ x.val < 512 * blk i + 512
    · rw [dif_pos hx]
      refine (pay105_at (HS.ddz hm) hq _ _).trans ?_
      have h1 := load_rows arg7 A7 (k0_off1_inb i) e1 ⟨x.val - 512 * blk i, by omega⟩ d
          (by show 512 * blk i + (x.val - 512 * blk i) < 2048; omega)
      have h2 : (⟨512 * blk i + (x.val - 512 * blk i), by omega⟩ : Fin 2048) = x :=
        Fin.ext (by show 512 * blk i + (x.val - 512 * blk i) = x.val; omega)
      have h3 := bk x d
      rw [if_neg (by omega)] at h3
      have h4 : 512 * blk i + (x.val - 512 * blk i) = x.val := by omega
      dsimp only at h1 ⊢
      rw [h4]
      refine congrArg (· + _) (h1.trans ?_)
      rw [h2]; exact h3
    · rw [dif_neg hx]
      refine (bk x d).trans ?_
      by_cases hy : x.val < 512 * blk i
      · rw [if_pos hy]
      · rw [if_neg hy, dk_late (by omega), EReal.coe_zero, add_zero]
  · refine (lv x d).trans ?_
    have h8 : rd arg8 A8 (ix2 x d) = if 512 * blk i ≤ x.val ∧ x.val < 512 * blk i + 512 then
        (rd arg8 f8 (ix2 x d) : EReal) + ((Cert.Sb.dv q k w (512 * blk i) (512 * blk i + 512) x d : ℝ) : EReal) else rd arg8 f8 (ix2 x d) := by
      rw [hA8]
      refine (store_rows arg8 f8 _ e1 _ [] x d).trans ?_
      by_cases hx : 512 * blk i ≤ x.val ∧ x.val < 512 * blk i + 512
      · rw [dif_pos hx, if_pos hx]
        refine (pay77_at hA hw _ _).trans ?_
        have h1 := load_rows arg8 f8 (k0_off1_inb i) e1 ⟨x.val - 512 * blk i, by omega⟩ d
            (by show 512 * blk i + (x.val - 512 * blk i) < 2048; omega)
        have h2 : (⟨512 * blk i + (x.val - 512 * blk i), by omega⟩ : Fin 2048) = x :=
          Fin.ext (by show 512 * blk i + (x.val - 512 * blk i) = x.val; omega)
        have h4 : 512 * blk i + (x.val - 512 * blk i) = x.val := by omega
        dsimp only at h1 ⊢
        rw [h4]
        refine congrArg (· + _) (h1.trans ?_)
        rw [h2]
      · rw [dif_neg hx, if_neg hx]; rfl
    rw [h8]
    by_cases hy : x.val < 512 * blk i
    · rw [if_pos ⟨by omega, hy⟩, if_neg (by omega)]
    · rw [if_neg (by omega)]
      by_cases hx : 512 * blk i ≤ x.val ∧ x.val < 512 * blk i + 512
      · rw [if_pos hx]
      · rw [if_neg hx, dv_late (by omega), EReal.coe_zero, add_zero]

end core

section runs
variable (hq : Mat (n := 512) (m := 128) (rd arg2 X2) (fun r d => q (512 * blk i + r) d))
  (hw : Mat (n := 512) (m := 128) (rd arg5 X5) (fun r d => w (512 * blk i + r) d))
  (hk : Mat (n := 2048) (m := 128) (rd arg3 X3) k) (hv : Mat (n := 2048) (m := 128) (rd arg4 X4) v)

theorem load_whole (m : Memref sig .tc .vmem S512x128 .bf16) (X : BufTy.Contents (Elt Ideal) m.view.ty) :
    m.view.readAt (Elt Ideal) (Rect.unit (s := S512x128) ![0, 0] S512x128.size inb_S512x128_S512x128_0_0).toLoadRect X = rd m X :=
  View.readAt_full m.view X inb_S512x128_S512x128_0_0

include hq hw hk hv

set_option maxHeartbeats 1000000 in
theorem mid_left (h1 : ¬ First i) (h2 : ¬ Last i) :
    Left q k v w (blk i) (rd arg6 f6)
      (rd arg6 (arg6.view.writes (Elt Ideal) f6 (runMid c i h1 h2 arg2 harg2 arg3 harg3 arg4 harg4 arg5 harg5 arg6 harg6 arg7 harg7
        arg8 harg8 arg9 harg9 arg10 harg10 X2 X3 X4 X5 f7 f8 f9 f10).1))
      (rd arg7 f7)
      (rd arg7 (arg7.view.writes (Elt Ideal) f7 (runMid c i h1 h2 arg2 harg2 arg3 harg3 arg4 harg4 arg5 harg5 arg6 harg6 arg7 harg7
        arg8 harg8 arg9 harg9 arg10 harg10 X2 X3 X4 X5 f7 f8 f9 f10).2.1))
      (rd arg8 f8)
      (rd arg8 (arg8.view.writes (Elt Ideal) f8 (runMid c i h1 h2 arg2 harg2 arg3 harg3 arg4 harg4 arg5 harg5 arg6 harg6 arg7 harg7
        arg8 harg8 arg9 harg9 arg10 harg10 X2 X3 X4 X5 f7 f8 f9 f10).2.2.1)) := by
  unfold runMid
  dsimp only
  simp only [runMid.sl.r_14, runMid.sl.r_15, runMid.sl.r_16, runMid.sl.r_17, runMid.sl.r_18, runMid.sl.r_19, runMid.sl.r_20,
    runMid.sl.r_21, runMid.sl.r_22, runMid.sl.r_23, runMid.sl.r_24, runMid.sl.v161, runMid.sl.v164, runMid.sl.v241,
    Scf.rem_trips, st_k0_t2, st_k0_t4, List.nil_append, List.append_nil, View.writes_append]
  have hK : Mat (n := 512) (m := 128) (arg3.view.readAt (Elt Ideal) (Rect.unit (s := S2048x128) (k0_off1 i) S512x128.size
      (k0_off1_inb i)).toLoadRect X3) (fun s d => k (512 * blk i + s) d) := fun s d => by
    rw [load_rows arg3 X3 _ (k0_off1_eq i) s d (by have h : (i 1).val < 4 := blk_lt i; omega)]; exact hk _ _
  have hV : Mat (n := 512) (m := 128) (arg4.view.readAt (Elt Ideal) (Rect.unit (s := S2048x128) (k0_off1 i) S512x128.size
      (k0_off1_inb i)).toLoadRect X4) (fun s d => v (512 * blk i + s) d) := fun s d => by
    rw [load_rows arg4 X4 _ (k0_off1_eq i) s d (by have h : (i 1).val < 4 := blk_lt i; omega)]; exact hv _ _
  rw [← load_whole] at hq hw
  exact point c i arg2 harg2 arg3 harg3 arg4 harg4 arg5 harg5 arg6 harg6 arg7 harg7 arg8 harg8 arg9 harg9 arg10 harg10
    X3 X4 f6 f7 f8 f9 f10 _ _ _ _ (runMid.sl.v33 i) (runMid.sl.v38 i) (runMid.sl.v158 i) hq hw hk hv hK hV (mask1 i) (mask1 i)
    _ rfl _ rfl _ rfl _ rfl _ rfl _ rfl _ rfl _ _ (t1_trips i) (t3_trips i) _ _ rfl _ rfl _ rfl rfl _ rfl _ _ rfl rfl

end runs

end

end Cert.KernelIdeal.Sb

end
-- ==== Proof.Sb.PointFirst.lean ====
module

public import Idealize.ShloMosaic.Lib.LoopRemainder
public import Idealize.ShloMosaic.Lib.VecWindow
public import proofs.«01_k».proof.Proof.Sb.Point

/-!
What the first grid point of a head leaves: it clears both sums before adding to them.
-/

@[expose] public section

set_option maxRecDepth 16384

noncomputable section

namespace Cert.KernelIdeal.Sb

open Cert.KernelIdeal Cert.KernelIdeal.Gen Cert.Sb
open Idealize.ShloMosaic Idealize.ShloMosaic.TcCoe

section
variable {q k v w : ℕ → ℕ → ℝ}
variable (c : Dev nD) (i : grid0.Coords)
  (arg2 : Memref sig .tc .vmem S512x128 .bf16) (harg2 : arg2.IsWhole) (arg3 : Memref sig .tc .vmem S2048x128 .bf16) (harg3 : arg3.IsWhole)
  (arg4 : Memref sig .tc .vmem S2048x128 .bf16) (harg4 : arg4.IsWhole) (arg5 : Memref sig .tc .vmem S512x128 .bf16) (harg5 : arg5.IsWhole)
  (arg6 : Memref sig .tc .vmem S3x2048x128 .bf16) (harg6 : arg6.IsWhole) (arg7 : Memref sig .tc .vmem S2048x128 .f32) (harg7 : arg7.IsWhole)
  (arg8 : Memref sig .tc .vmem S2048x128 .f32) (harg8 : arg8.IsWhole) (arg9 : Memref sig .tc .vmem S4x512x512 .f32) (harg9 : arg9.IsWhole)
  (arg10 : Memref sig .tc .vmem S4x512x512 .f32) (harg10 : arg10.IsWhole)
  (X2 : BufTy.Contents (Elt Ideal) arg2.view.ty) (X3 : BufTy.Contents (Elt Ideal) arg3.view.ty)
  (X4 : BufTy.Contents (Elt Ideal) arg4.view.ty) (X5 : BufTy.Contents (Elt Ideal) arg5.view.ty)
  (f6 : BufTy.Contents (Elt Ideal) arg6.view.ty) (f7 : BufTy.Contents (Elt Ideal) arg7.view.ty)
  (f8 : BufTy.Contents (Elt Ideal) arg8.view.ty) (f9 : BufTy.Contents (Elt Ideal) arg9.view.ty)
  (f10 : BufTy.Contents (Elt Ideal) arg10.view.ty)

section runs
variable (hq : Mat (n := 512) (m := 128) (rd arg2 X2) (fun r d => q (512 * blk i + r) d))
  (hw : Mat (n := 512) (m := 128) (rd arg5 X5) (fun r d => w (512 * blk i + r) d))
  (hk : Mat (n := 2048) (m := 128) (rd arg3 X3) k) (hv : Mat (n := 2048) (m := 128) (rd arg4 X4) v)

theorem cons_junk (m : Memref sig .tc .vmem S2048x128 .f32) (p : View.Piece (Elt Ideal) S2048x128 .f32)
    (L : List (View.Piece (Elt Ideal) S2048x128 .f32)) :
    m.view.writes (Elt Ideal) m.view.junk (p :: L) = m.view.writes (Elt Ideal) (m.view.writes (Elt Ideal) m.view.junk L) [p] := rfl

theorem cleared7 : rd arg7 (arg7.view.writes (Elt Ideal) arg7.view.junk (runFirst.sl.H7_1 (F := Ideal))) = fun _ => (0 : EReal) := by
  refine (View.read_writes_full (Val := Elt Ideal) arg7.view arg7.view.junk inb_S2048x128_S2048x128_0_0 (k0_pay57 (F := Ideal)) []).trans ?_
  funext y
  show Ideal.ofBits .f32 0x00000000#32 = 0
  simp [Ideal.ofBits, Ideal.ieee]

theorem cleared8 : rd arg8 (arg8.view.writes (Elt Ideal) arg8.view.junk (runFirst.sl.H8_1 (F := Ideal))) = fun _ => (0 : EReal) := by
  refine (View.read_writes_full (Val := Elt Ideal) arg8.view arg8.view.junk inb_S2048x128_S2048x128_0_0 (k0_pay58 (F := Ideal)) []).trans ?_
  funext y
  show Ideal.ofBits .f32 0x00000000#32 = 0
  simp [Ideal.ofBits, Ideal.ieee]

include hq hw hk hv

set_option maxHeartbeats 1000000 in
theorem first_left (h1 : First i) (h2 : ¬ Last i) :
    Left q k v w (blk i) (rd arg6 f6)
      (rd arg6 (arg6.view.writes (Elt Ideal) f6 (runFirst c i h1 h2 arg2 harg2 arg3 harg3 arg4 harg4 arg5 harg5 arg6 harg6 arg7 harg7
        arg8 harg8 arg9 harg9 arg10 harg10 X2 X3 X4 X5 f9 f10).1))
      (fun _ => 0)
      (rd arg7 (arg7.view.writes (Elt Ideal) arg7.view.junk (runFirst c i h1 h2 arg2 harg2 arg3 harg3 arg4 harg4 arg5 harg5 arg6 harg6
        arg7 harg7 arg8 harg8 arg9 harg9 arg10 harg10 X2 X3 X4 X5 f9 f10).2.1))
      (fun _ => 0)
      (rd arg8 (arg8.view.writes (Elt Ideal) arg8.view.junk (runFirst c i h1 h2 arg2 harg2 arg3 harg3 arg4 harg4 arg5 harg5 arg6 harg6
        arg7 harg7 arg8 harg8 arg9 harg9 arg10 harg10 X2 X3 X4 X5 f9 f10).2.2.1)) := by
  unfold runFirst
  dsimp only
  simp only [runFirst.sl.r_14, runFirst.sl.r_15, runFirst.sl.r_16, runFirst.sl.r_17, runFirst.sl.r_18, runFirst.sl.r_19, runFirst.sl.r_20, runFirst.sl.r_21, runFirst.sl.r_22, runFirst.sl.r_23, runFirst.sl.r_24, runFirst.sl.v161, runFirst.sl.v164, runFirst.sl.v241,
    Scf.rem_trips, st_k0_t2, st_k0_t4, List.nil_append, List.append_nil, View.writes_append, cons_junk]
  have c7 := cleared7 arg7
  have c8 := cleared8 arg8
  generalize arg7.view.writes (Elt Ideal) arg7.view.junk runFirst.sl.H7_1 = B7 at c7 ⊢
  generalize arg8.view.writes (Elt Ideal) arg8.view.junk runFirst.sl.H8_1 = B8 at c8 ⊢
  have hK : Mat (n := 512) (m := 128) (arg3.view.readAt (Elt Ideal) (Rect.unit (s := S2048x128) (k0_off1 i) S512x128.size
      (k0_off1_inb i)).toLoadRect X3) (fun s d => k (512 * blk i + s) d) := fun s d => by
    rw [load_rows arg3 X3 _ (k0_off1_eq i) s d (by have h : (i 1).val < 4 := blk_lt i; omega)]; exact hk _ _
  have hV : Mat (n := 512) (m := 128) (arg4.view.readAt (Elt Ideal) (Rect.unit (s := S2048x128) (k0_off1 i) S512x128.size
      (k0_off1_inb i)).toLoadRect X4) (fun s d => v (512 * blk i + s) d) := fun s d => by
    rw [load_rows arg4 X4 _ (k0_off1_eq i) s d (by have h : (i 1).val < 4 := blk_lt i; omega)]; exact hv _ _
  rw [← load_whole] at hq hw
  have HP := point c i arg2 harg2 arg3 harg3 arg4 harg4 arg5 harg5 arg6 harg6 arg7 harg7 arg8 harg8 arg9 harg9 arg10 harg10
    X3 X4 f6 B7 B8 f9 f10 _ _ _ _ (runFirst.sl.v33 i) (runFirst.sl.v38 i) (runFirst.sl.v158 i) hq hw hk hv hK hV (mask1 i) (mask1 i)
    _ rfl _ rfl _ rfl _ rfl _ rfl _ rfl _ rfl _ _ (t1_trips i) (t3_trips i) _ _ rfl _ rfl _ rfl rfl _ rfl _ _ rfl rfl

  rw [c7, c8] at HP
  exact HP

end runs

end

end Cert.KernelIdeal.Sb

end
-- ==== Proof.Sb.PointLast.lean ====
module

public import Idealize.ShloMosaic.Lib.LoopRemainder
public import Idealize.ShloMosaic.Lib.VecWindow
public import proofs.«01_k».proof.Proof.Sb.Point

/-!
What the last grid point of a head leaves: it copies both sums into the output.
-/

@[expose] public section

set_option maxRecDepth 16384

noncomputable section

namespace Cert.KernelIdeal.Sb

open Cert.KernelIdeal Cert.KernelIdeal.Gen Cert.Sb
open Idealize.ShloMosaic Idealize.ShloMosaic.TcCoe

section
variable {q k v w : ℕ → ℕ → ℝ}
variable (c : Dev nD) (i : grid0.Coords)
  (arg2 : Memref sig .tc .vmem S512x128 .bf16) (harg2 : arg2.IsWhole) (arg3 : Memref sig .tc .vmem S2048x128 .bf16) (harg3 : arg3.IsWhole)
  (arg4 : Memref sig .tc .vmem S2048x128 .bf16) (harg4 : arg4.IsWhole) (arg5 : Memref sig .tc .vmem S512x128 .bf16) (harg5 : arg5.IsWhole)
  (arg6 : Memref sig .tc .vmem S3x2048x128 .bf16) (harg6 : arg6.IsWhole) (arg7 : Memref sig .tc .vmem S2048x128 .f32) (harg7 : arg7.IsWhole)
  (arg8 : Memref sig .tc .vmem S2048x128 .f32) (harg8 : arg8.IsWhole) (arg9 : Memref sig .tc .vmem S4x512x512 .f32) (harg9 : arg9.IsWhole)
  (arg10 : Memref sig .tc .vmem S4x512x512 .f32) (harg10 : arg10.IsWhole)
  (X2 : BufTy.Contents (Elt Ideal) arg2.view.ty) (X3 : BufTy.Contents (Elt Ideal) arg3.view.ty)
  (X4 : BufTy.Contents (Elt Ideal) arg4.view.ty) (X5 : BufTy.Contents (Elt Ideal) arg5.view.ty)
  (f6 : BufTy.Contents (Elt Ideal) arg6.view.ty) (f7 : BufTy.Contents (Elt Ideal) arg7.view.ty)
  (f8 : BufTy.Contents (Elt Ideal) arg8.view.ty) (f9 : BufTy.Contents (Elt Ideal) arg9.view.ty)
  (f10 : BufTy.Contents (Elt Ideal) arg10.view.ty)

section runs
variable (hq : Mat (n := 512) (m := 128) (rd arg2 X2) (fun r d => q (512 * blk i + r) d))
  (hw : Mat (n := 512) (m := 128) (rd arg5 X5) (fun r d => w (512 * blk i + r) d))
  (hk : Mat (n := 2048) (m := 128) (rd arg3 X3) k) (hv : Mat (n := 2048) (m := 128) (rd arg4 X4) v)

/-- A point that also copies the two sums out. -/
structure LeftLast (q k v w : ℕ → ℕ → ℝ) (b : ℕ) (y y' : S3x2048x128.Idx → EReal) (g7 g7' g8 g8' : S2048x128.Idx → EReal) : Prop where
  left : Left q k v w b y y' g7 g7' g8 g8'
  dk : ∀ (x : Fin 2048) (d : Fin 128), y' (ix3 1 x d) = g7' (ix2 x d)
  dv : ∀ (x : Fin 2048) (d : Fin 128), y' (ix3 2 x d) = g8' (ix2 x d)

theorem pay1_at (x : Vec Ideal S2048x128 .f32) (r : Fin 2048) (d : Fin 128) : (k0_pay1 x (ix3 0 r d) : EReal) = x (ix2 r d) := by
  pointwise [k0_pay1]

theorem pay2_at (x : Vec Ideal S2048x128 .f32) (r : Fin 2048) (d : Fin 128) : (k0_pay2 x (ix3 0 r d) : EReal) = x (ix2 r d) := by
  pointwise [k0_pay2]

theorem load_sum (m : Memref sig .tc .vmem S2048x128 .f32) (X : BufTy.Contents (Elt Ideal) m.view.ty) :
    m.view.readAt (Elt Ideal) (Rect.unit (s := S2048x128) ![0, 0] S2048x128.size inb_S2048x128_S2048x128_0_0).toLoadRect X = rd m X :=
  View.readAt_full m.view X inb_S2048x128_S2048x128_0_0

include hq hw hk hv

set_option maxHeartbeats 1000000 in
theorem last_left (h1 : ¬ First i) (h2 : Last i) :
    LeftLast q k v w (blk i) (rd arg6 f6)
      (rd arg6 (arg6.view.writes (Elt Ideal) f6 (runLast c i h1 h2 arg2 harg2 arg3 harg3 arg4 harg4 arg5 harg5 arg6 harg6 arg7 harg7
        arg8 harg8 arg9 harg9 arg10 harg10 X2 X3 X4 X5 f7 f8 f9 f10).1))
      (rd arg7 f7)
      (rd arg7 (arg7.view.writes (Elt Ideal) f7 (runLast c i h1 h2 arg2 harg2 arg3 harg3 arg4 harg4 arg5 harg5 arg6 harg6 arg7 harg7
        arg8 harg8 arg9 harg9 arg10 harg10 X2 X3 X4 X5 f7 f8 f9 f10).2.1))
      (rd arg8 f8)
      (rd arg8 (arg8.view.writes (Elt Ideal) f8 (runLast c i h1 h2 arg2 harg2 arg3 harg3 arg4 harg4 arg5 harg5 arg6 harg6 arg7 harg7
        arg8 harg8 arg9 harg9 arg10 harg10 X2 X3 X4 X5 f7 f8 f9 f10).2.2.1)) := by
  unfold runLast
  dsimp only
  simp only [runLast.sl.H7_1, runLast.sl.r_14, runLast.sl.r_15, runLast.sl.r_16, runLast.sl.r_17, runLast.sl.r_18, runLast.sl.r_19, runLast.sl.r_20, runLast.sl.r_21, runLast.sl.r_22, runLast.sl.r_23, runLast.sl.r_24, runLast.sl.v161, runLast.sl.v164, runLast.sl.v241, runLast.sl.v263,
    Scf.rem_trips, st_k0_t2, st_k0_t4, List.nil_append, List.append_nil, View.writes_append]
  have hK : Mat (n := 512) (m := 128) (arg3.view.readAt (Elt Ideal) (Rect.unit (s := S2048x128) (k0_off1 i) S512x128.size
      (k0_off1_inb i)).toLoadRect X3) (fun s d => k (512 * blk i + s) d) := fun s d => by
    rw [load_rows arg3 X3 _ (k0_off1_eq i) s d (by have h : (i 1).val < 4 := blk_lt i; omega)]; exact hk _ _
  have hV : Mat (n := 512) (m := 128) (arg4.view.readAt (Elt Ideal) (Rect.unit (s := S2048x128) (k0_off1 i) S512x128.size
      (k0_off1_inb i)).toLoadRect X4) (fun s d => v (512 * blk i + s) d) := fun s d => by
    rw [load_rows arg4 X4 _ (k0_off1_eq i) s d (by have h : (i 1).val < 4 := blk_lt i; omega)]; exact hv _ _
  rw [← load_whole] at hq hw
  have HP := point c i arg2 harg2 arg3 harg3 arg4 harg4 arg5 harg5 arg6 harg6 arg7 harg7 arg8 harg8 arg9 harg9 arg10 harg10
    X3 X4 f6 f7 f8 f9 f10 _ _ _ _ (runLast.sl.v33 i) (runLast.sl.v38 i) (runLast.sl.v158 i) hq hw hk hv hK hV (mask1 i) (mask1 i)
    _ rfl _ rfl _ rfl _ rfl _ rfl _ rfl _ rfl _ _ (t1_trips i) (t3_trips i) _ _ rfl _ rfl _ rfl rfl _ rfl _ _ rfl rfl
  refine ⟨⟨fun x d => ?_, HP.dk, HP.dv⟩, fun x d => ?_, fun x d => ?_⟩
  · refine (store_whole_plane arg6 f6 inb_S3x2048x128_S1x2048x128_2_0_0 _ _ 0 x d).trans ((if_neg (by decide)).trans ?_)
    refine (store_whole_plane arg6 f6 inb_S3x2048x128_S1x2048x128_1_0_0 _ _ 0 x d).trans ((if_neg (by decide)).trans ?_)
    exact HP.dq x d
  · refine (store_whole_plane arg6 f6 inb_S3x2048x128_S1x2048x128_2_0_0 _ _ 1 x d).trans ((if_neg (by decide)).trans ?_)
    refine (store_whole_plane arg6 f6 inb_S3x2048x128_S1x2048x128_1_0_0 _ _ 1 x d).trans ((if_pos rfl).trans ?_)
    refine (pay1_at _ x d).trans ?_
    exact congrFun (load_sum arg7 _) (ix2 x d)
  · refine (store_whole_plane arg6 f6 inb_S3x2048x128_S1x2048x128_2_0_0 _ _ 2 x d).trans ((if_pos rfl).trans ?_)
    refine (pay2_at _ x d).trans ?_
    exact congrFun (load_sum arg8 _) (ix2 x d)

end runs

end

end Cert.KernelIdeal.Sb

end
-- ==== Proof.Sb.Value.lean ====
module

public import proofs.«01_k».proof.Proof.Sb.Launch
public import proofs.«01_k».proof.Proof.Sb.PointFirst
public import proofs.«01_k».proof.Proof.Sb.PointLast
public import Idealize.ShloMosaic.Lib.Pipeline.ArrRel

/-!
The array that the call leaves: the gradients of the queries, the keys and the values, head by head.
-/

@[expose] public section

set_option maxRecDepth 16384

noncomputable section

namespace Cert.KernelIdeal.Sb

open Cert.KernelIdeal Cert.KernelIdeal.Gen Cert.Sb
open Idealize.ShloMosaic Idealize.ShloMosaic.TcCoe
open Idealize.SL Idealize.SL.Sem
open Idealize.ShloMosaic.Pipeline (RDat Cfg Window)

/-! ### Where a point's blocks lie -/

theorem coords_head : ∀ t : Fin grid0.N, (grid0.coords t 0).val = t.val / 4 := by decide +kernel
theorem coords_blk : ∀ t : Fin grid0.N, blk (grid0.coords t) = t.val % 4 := by decide +kernel
theorem first_iff : ∀ t : Fin grid0.N, First (grid0.coords t) ↔ t.val % 4 = 0 := by decide +kernel
theorem last_iff : ∀ t : Fin grid0.N, Last (grid0.coords t) ↔ t.val % 4 = 3 := by decide +kernel

theorem idx_0 : ∀ t : Fin grid0.N, win0_0.index t = ![t.val % 4, t.val / 4] := by decide +kernel
theorem idx_1 : ∀ t : Fin grid0.N, win0_1.index t = ![0, 8 + t.val / 4] := by decide +kernel
theorem idx_2 : ∀ t : Fin grid0.N, win0_2.index t = ![0, 16 + t.val / 4] := by decide +kernel
theorem idx_3 : ∀ t : Fin grid0.N, win0_3.index t = ![t.val % 4, t.val / 4] := by decide +kernel
theorem idx_4 : ∀ t : Fin grid0.N, win0_4.index t = ![0, 0, t.val / 4] := by decide +kernel

theorem n_eq : cfg0.N = 32 := by decide +kernel

variable (m : (ℓ : Loc nD τ sig) → Buf (Elt Ideal) ℓ) (ρ : Dev nD → PrngReg)
variable (P C : Dev nD → ℕ → ℕ → ℝ)

/-- The parts of the arguments that the call reads hold the reals `P` and `C`. -/
structure Reals : Prop where
  arg0 : ∀ (c : Dev nD) (r : Fin 2048) (s : Fin 6144), s.val < 3072 →
    (m ((c.tc : Thread nD τ).loc main_arg0) : S2048x6144.Idx → EReal) (ix2 r s) = ((P c r s : ℝ) : EReal)
  arg1 : ∀ (c : Dev nD) (r : Fin 2048) (s : Fin 2048), s.val < 1024 →
    (m ((c.tc : Thread nD τ).loc main_arg1) : S2048x2048.Idx → EReal) (ix2 r s) = ((C c r s : ℝ) : EReal)

variable {m P C}

section blocks
variable (hR : Reals m P C) (c : Dev nD) (t : Fin cfg0.N)
include hR

theorem blk_q : Mat (n := 512) (m := 128) (iblk m c 0 t) (fun r d => cols (P c) (128 * (t.val / 4)) (512 * blk (grid0.coords t) + r) d) := fun r d => by
  have ht : t.val < 32 := lt_of_lt_of_eq t.isLt n_eq
  rw [coords_blk]
  unfold cols
  refine Eq.trans ?_ (hR.arg0 c ⟨512 * (t.val % 4) + r, by omega⟩ ⟨128 * (t.val / 4) + d, by omega⟩ (by show 128 * (t.val / 4) + d.val < 3072; omega))
  blk_ext [iblk, V, idx_0 t]

theorem blk_k : Mat (n := 2048) (m := 128) (iblk m c 1 t) (cols (P c) (1024 + 128 * (t.val / 4))) := fun r d => by
  have ht : t.val < 32 := lt_of_lt_of_eq t.isLt n_eq
  unfold cols
  refine Eq.trans ?_ (hR.arg0 c r ⟨1024 + 128 * (t.val / 4) + d, by omega⟩ (by show 1024 + 128 * (t.val / 4) + d.val < 3072; omega))
  blk_ext [iblk, V, idx_1 t]

theorem blk_v : Mat (n := 2048) (m := 128) (iblk m c 2 t) (cols (P c) (2048 + 128 * (t.val / 4))) := fun r d => by
  have ht : t.val < 32 := lt_of_lt_of_eq t.isLt n_eq
  unfold cols
  refine Eq.trans ?_ (hR.arg0 c r ⟨2048 + 128 * (t.val / 4) + d, by omega⟩ (by show 2048 + 128 * (t.val / 4) + d.val < 3072; omega))
  blk_ext [iblk, V, idx_2 t]

theorem blk_w : Mat (n := 512) (m := 128) (iblk m c 3 t) (fun r d => cols (C c) (128 * (t.val / 4)) (512 * blk (grid0.coords t) + r) d) := fun r d => by
  have ht : t.val < 32 := lt_of_lt_of_eq t.isLt n_eq
  rw [coords_blk]
  unfold cols
  refine Eq.trans ?_ (hR.arg1 c ⟨512 * (t.val % 4) + r, by omega⟩ ⟨128 * (t.val / 4) + d, by omega⟩ (by show 128 * (t.val / 4) + d.val < 1024; omega))
  blk_ext [iblk, V, idx_3 t]

end blocks

/-! ### What is tracked -/

/-- Before point `n` of a head the two sums are over the rows seen so far; at a head's first point they are anything. -/
def sums (P C : ℕ → ℕ → ℝ) (n : ℕ) (g7 g8 : S2048x128.Idx → EReal) : Prop :=
  n % 4 = 0 ∨ ∀ (x : Fin 2048) (d : Fin 128), g7 (ix2 x d) = ((gk P C (n / 4) 0 (512 * (n % 4)) x d : ℝ) : EReal)
    ∧ g8 (ix2 x d) = ((gv P C (n / 4) 0 (512 * (n % 4)) x d : ℝ) : EReal)

/-- What point `n` makes of the output block. -/
structure Made (P C : ℕ → ℕ → ℝ) (n : ℕ) (y y' : S3x2048x128.Idx → EReal) : Prop where
  dq : ∀ (x : Fin 2048) (d : Fin 128), y' (ix3 0 x d) = if 512 * (n % 4) ≤ x.val ∧ x.val < 512 * (n % 4) + 512 then
    ((gq P C (n / 4) x d : ℝ) : EReal) else y (ix3 0 x d)
  dk : n % 4 = 3 → ∀ (x : Fin 2048) (d : Fin 128), y' (ix3 1 x d) = ((gk P C (n / 4) 0 2048 x d : ℝ) : EReal)
  dv : n % 4 = 3 → ∀ (x : Fin 2048) (d : Fin 128), y' (ix3 2 x d) = ((gv P C (n / 4) 0 2048 x d : ℝ) : EReal)

/-- A point's additions carry the sums on. -/
theorem sums_step {P C : ℕ → ℕ → ℝ} {n : ℕ} {y y' : S3x2048x128.Idx → EReal} {g7 g7' g8 g8' : S2048x128.Idx → EReal}
    (hL : Left (cols P (128 * (n / 4))) (cols P (1024 + 128 * (n / 4))) (cols P (2048 + 128 * (n / 4))) (cols C (128 * (n / 4))) (n % 4) y y' g7 g7' g8 g8')
    (h7 : ∀ (x : Fin 2048) (d : Fin 128), g7 (ix2 x d) = ((gk P C (n / 4) 0 (512 * (n % 4)) x d : ℝ) : EReal))
    (h8 : ∀ (x : Fin 2048) (d : Fin 128), g8 (ix2 x d) = ((gv P C (n / 4) 0 (512 * (n % 4)) x d : ℝ) : EReal)) :
    ∀ (x : Fin 2048) (d : Fin 128), g7' (ix2 x d) = ((gk P C (n / 4) 0 (512 * (n % 4 + 1)) x d : ℝ) : EReal)
    ∧ g8' (ix2 x d) = ((gv P C (n / 4) 0 (512 * (n % 4 + 1)) x d : ℝ) : EReal) := fun x d =>
  ⟨by rw [hL.dk, h7, ← EReal.coe_add, ← gk_join]; rfl, by rw [hL.dv, h8, ← EReal.coe_add, ← gv_join]; rfl⟩

theorem sums_next {P C : ℕ → ℕ → ℝ} {n : ℕ} {g7 g8 : S2048x128.Idx → EReal}
    (h : ∀ (x : Fin 2048) (d : Fin 128), g7 (ix2 x d) = ((gk P C (n / 4) 0 (512 * (n % 4 + 1)) x d : ℝ) : EReal)
    ∧ g8 (ix2 x d) = ((gv P C (n / 4) 0 (512 * (n % 4 + 1)) x d : ℝ) : EReal)) : sums P C (n + 1) g7 g8 := by
  by_cases hn : n % 4 = 3
  · exact Or.inl (by omega)
  · refine Or.inr ?_
    rw [show (n + 1) / 4 = n / 4 by omega, show (n + 1) % 4 = n % 4 + 1 by omega]
    exact h

theorem made_of {P C : ℕ → ℕ → ℝ} {n : ℕ} {y y' : S3x2048x128.Idx → EReal} {g7 g7' g8 g8' : S2048x128.Idx → EReal} (hn : n % 4 ≠ 3)
    (hL : Left (cols P (128 * (n / 4))) (cols P (1024 + 128 * (n / 4))) (cols P (2048 + 128 * (n / 4))) (cols C (128 * (n / 4))) (n % 4) y y' g7 g7' g8 g8') :
    Made P C n y y' := ⟨fun x d => hL.dq x d, fun h => absurd h hn, fun h => absurd h hn⟩

/-- The tracked facts of the ideal run. -/
def track (P C : Dev nD → ℕ → ℕ → ℝ) : Track Ideal where
  acc c n f7 f8 := sums (P c) (C c) n (rd (Memref.whole cc0_scratch0) f7) (rd (Memref.whole cc0_scratch1) f8)
  out c t Y X := Made (P c) (C c) t.val Y X

theorem zero_sum (P C : ℕ → ℕ → ℝ) {n : ℕ} (hn : n % 4 = 0) (x d : ℕ) :
    (0 : EReal) = ((gk P C (n / 4) 0 (512 * (n % 4)) x d : ℝ) : EReal) ∧ (0 : EReal) = ((gv P C (n / 4) 0 (512 * (n % 4)) x d : ℝ) : EReal) := by
  rw [hn]; unfold gk gv dk dv; simp

theorem track_holds (hR : Reals m P C) : (track P C).Holds m := fun c t X2 X3 X4 X5 f6 f7 f8 f9 f10 h2 h3 h4 h5 hacc => by
  have hq := blk_q hR c t; rw [← h2] at hq
  have hk := blk_k hR c t; rw [← h3] at hk
  have hv := blk_v hR c t; rw [← h4] at hv
  have hw := blk_w hR c t; rw [← h5] at hw
  refine ⟨fun i1 i2 => ?_, fun i1 i2 => ?_, fun i1 i2 => ?_⟩
  · have hn := (first_iff t).mp i1
    have hL := first_left c (grid0.coords t) _ (hstage0_0 ((cfg0.slots t 0).cast nbuf0_0)) _ (hstage0_1 ((cfg0.slots t 1).cast nbuf0_1))
      _ (hstage0_2 ((cfg0.slots t 2).cast nbuf0_2)) _ (hstage0_3 ((cfg0.slots t 3).cast nbuf0_3)) _ (hstage0_4 ((cfg0.slots t 4).cast nbuf0_4))
      (Memref.whole cc0_scratch0) (Memref.isWhole_whole _) (Memref.whole cc0_scratch1) (Memref.isWhole_whole _)
      (Memref.whole cc0_scratch2) (Memref.isWhole_whole _) (Memref.whole cc0_scratch3) (Memref.isWhole_whole _) X2 X3 X4 X5 f6 f9 f10 hq hw hk hv i1 i2
    rw [coords_blk] at hL
    exact ⟨sums_next (sums_step hL (fun x d => (zero_sum _ _ hn x d).1) (fun x d => (zero_sum _ _ hn x d).2)), made_of (by omega) hL⟩
  · have hn0 : t.val % 4 ≠ 0 := fun h => i1 ((first_iff t).mpr h)
    have hn : t.val % 4 ≠ 3 := fun h => i2 ((last_iff t).mpr h)
    have hL := mid_left c (grid0.coords t) _ (hstage0_0 ((cfg0.slots t 0).cast nbuf0_0)) _ (hstage0_1 ((cfg0.slots t 1).cast nbuf0_1))
      _ (hstage0_2 ((cfg0.slots t 2).cast nbuf0_2)) _ (hstage0_3 ((cfg0.slots t 3).cast nbuf0_3)) _ (hstage0_4 ((cfg0.slots t 4).cast nbuf0_4))
      (Memref.whole cc0_scratch0) (Memref.isWhole_whole _) (Memref.whole cc0_scratch1) (Memref.isWhole_whole _)
      (Memref.whole cc0_scratch2) (Memref.isWhole_whole _) (Memref.whole cc0_scratch3) (Memref.isWhole_whole _) X2 X3 X4 X5 f6 f7 f8 f9 f10 hq hw hk hv i1 i2
    rw [coords_blk] at hL
    have ha := hacc.resolve_left hn0
    exact ⟨sums_next (sums_step hL (fun x d => (ha x d).1) (fun x d => (ha x d).2)), made_of hn hL⟩
  · have hn0 : t.val % 4 ≠ 0 := fun h => i1 ((first_iff t).mpr h)
    have hn : t.val % 4 = 3 := (last_iff t).mp i2
    have hLL := last_left c (grid0.coords t) _ (hstage0_0 ((cfg0.slots t 0).cast nbuf0_0)) _ (hstage0_1 ((cfg0.slots t 1).cast nbuf0_1))
      _ (hstage0_2 ((cfg0.slots t 2).cast nbuf0_2)) _ (hstage0_3 ((cfg0.slots t 3).cast nbuf0_3)) _ (hstage0_4 ((cfg0.slots t 4).cast nbuf0_4))
      (Memref.whole cc0_scratch0) (Memref.isWhole_whole _) (Memref.whole cc0_scratch1) (Memref.isWhole_whole _)
      (Memref.whole cc0_scratch2) (Memref.isWhole_whole _) (Memref.whole cc0_scratch3) (Memref.isWhole_whole _) X2 X3 X4 X5 f6 f7 f8 f9 f10 hq hw hk hv i1 i2
    rw [coords_blk] at hLL
    have ha := hacc.resolve_left hn0
    have hS := sums_step hLL.left (fun x d => (ha x d).1) (fun x d => (ha x d).2)
    refine ⟨sums_next hS, fun x d => hLL.left.dq x d, fun _ x d => ?_, fun _ x d => ?_⟩
    · refine (hLL.dk x d).trans ((hS x d).1.trans ?_); rw [hn]
    · refine (hLL.dv x d).trans ((hS x d).2.trans ?_); rw [hn]

/-! ### The output block at the end of a head -/

theorem leaves_rows (c : Dev nD) : ∀ (n : ℕ) (hn : n < cfg0.N) (X : OutBlk Ideal), (rdat m (track P C) c).Leaves 4 ⟨n, hn⟩ X →
    ∀ (x : Fin 2048) (d : Fin 128), x.val < 512 * (n % 4 + 1) → X (ix3 0 x d) = ((gq (P c) (C c) (n / 4) x d : ℝ) : EReal) := by
  intro n
  induction n with
  | zero =>
    rintro hn X ⟨Y, hY, hM⟩ x d hx
    have hd := Made.dq hM x d
    dsimp only at hd
    rw [hd, if_pos (by omega)]
  | succ n ih =>
    rintro hn X ⟨Y, hY, hM⟩ x d hx
    have hd := Made.dq hM x d
    dsimp only at hd
    rw [hd]
    split
    · rfl
    · next hlt =>
      have h4 : (n + 1) % 4 = n % 4 + 1 ∧ (n + 1) / 4 = n / 4 := by omega
      have hf := (RDat.finds_of_pos _ (w := 4) rfl (Nat.succ_ne_zero n) Y).mp hY
      rcases hf with hf | hf
      · exact absurd ((flush0_4 _).mp hf) (by show ¬ (n + 1 - 1) % 4 = 3; omega)
      · rw [ih (by omega) Y hf x d (by omega), h4.2]

/-- At the end of a head the block holds the head's three gradients. -/
theorem leaves_head (c : Dev nD) (t : Fin cfg0.N) (ht : t.val % 4 = 3) (X : OutBlk Ideal) (hX : (rdat m (track P C) c).Leaves 4 t X)
    (x : Fin 2048) (d : Fin 128) : X (ix3 0 x d) = ((gq (P c) (C c) (t.val / 4) x d : ℝ) : EReal)
      ∧ X (ix3 1 x d) = ((gk (P c) (C c) (t.val / 4) 0 2048 x d : ℝ) : EReal)
      ∧ X (ix3 2 x d) = ((gv (P c) (C c) (t.val / 4) 0 2048 x d : ℝ) : EReal) := by
  refine ⟨leaves_rows c t.val t.isLt X hX x d (by omega), ?_, ?_⟩
  · obtain ⟨Y, -, hM⟩ := hX; exact Made.dk hM ht x d
  · obtain ⟨Y, -, hM⟩ := hX; exact Made.dv hM ht x d

/-- The first three planes of the result. -/
theorem out_at {r : PUnit × MemSt nD τ sig (Elt Ideal)} (h : Pipeline.RDat.FramePost (cfgs 0) (rdat m (track P C)) (V m) r) (c : Dev nD)
    (p : Fin 6) (hp : p.val < 3) (x : Fin 2048) (s : Fin 1024) :
    (r.2.mem ((c.tc : Thread nD τ).loc main_v0) : S6x2048x1024.Idx → EReal) (ix3 p x s) = ((grad (P c) (C c) p x s : ℝ) : EReal) := by
  obtain ⟨after, hL, hA⟩ := h.exists_exact c
  have e : r.2.mem ((c.tc : Thread nD τ).loc main_v0) = ((rdat m (track P C) c).withAfter after).arrAt 4 cfg0.N := hA 4
  have hlt : 4 * (s.val / 128) + 3 < cfg0.N := by rw [n_eq]; omega
  have hfl : (cfg0.win 4).flush ⟨4 * (s.val / 128) + 3, hlt⟩ = true := (flush0_4 _).mpr (by show (4 * (s.val / 128) + 3) % 4 = 3; omega)
  have hdisj := Pipeline.Window.hdisj_of_index_inj (cfg0.win 4) (by decide +kernel)
  have hE := ((rdat m (track P C) c).withAfter after).arrAt_emb_eq_flushed 4 hdisj ⟨4 * (s.val / 128) + 3, hlt⟩ hfl
    (ix3 (⟨p.val, hp⟩ : Fin 3) x (⟨s.val % 128, Nat.mod_lt _ (by norm_num)⟩ : Fin 128))
  rw [e]
  have hi : (ix3 p x s : S6x2048x1024.Idx) = ((cfg0.win 4).blk ⟨4 * (s.val / 128) + 3, hlt⟩).view.emb
      (ix3 (⟨p.val, hp⟩ : Fin 3) x (⟨s.val % 128, Nat.mod_lt _ (by norm_num)⟩ : Fin 128)) := by
    blk_ext [idx_4]
  rw [hi, hE]
  have hX := leaves_head c ⟨4 * (s.val / 128) + 3, hlt⟩ (by show (4 * (s.val / 128) + 3) % 4 = 3; omega) _ (hL 4 _ hfl) x ⟨s.val % 128, Nat.mod_lt _ (by norm_num)⟩
  rw [show (4 * (s.val / 128) + 3) / 4 = s.val / 128 by omega] at hX
  unfold grad
  obtain ⟨p, hp6⟩ := p
  interval_cases p
  · exact hX.1
  · exact hX.2.1
  · exact hX.2.2

/-- The ideal run: it ends, the first three planes of the result are the gradients, and the arguments are unchanged. -/
theorem run_value (hR : Reals m P C) :
    θ_run defs (onTc (τ := τ) (main (F := Ideal))) ⟨m, fun _ => 0, ρ⟩ (fun r => ∀ c : Dev nD,
      (∀ (p : Fin 6) (_ : p.val < 3) (x : Fin 2048) (s : Fin 1024),
        (r.2.mem ((c.tc : Thread nD τ).loc main_v0) : S6x2048x1024.Idx → EReal) (ix3 p x s) = ((grad (P c) (C c) p x s : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨out_at h.1 c, args_of h.1 c⟩) (run_main m ρ (track P C) (track_holds hR) fun _ _ _ => Or.inl rfl)

end Cert.KernelIdeal.Sb

end
-- ==== Proof.Sb.RunningSum.lean ====
module

public import proofs.«01_k».proof.Proof.Sb.Spec
public import Idealize.ShloMosaic.Lib.ShapeFacts

/-!
The running sums along the last axis of a stack of matrices, from the front and from the back, over real entries.
-/

@[expose] public section

noncomputable section

namespace Cert.Sb

open Idealize.ShloMosaic

theorem foldl_add {ι : Type} (g : ι → EReal) (l : List ι) (v : EReal) :
    l.foldl (fun r n => r + g n) v = v + (l.map g).sum := by
  induction l generalizing v with
  | nil => simp
  | cons a l ih => rw [List.foldl_cons, ih, List.map_cons, List.sum_cons, add_assoc]

theorem sum_finRange (f : ℕ → ℝ) (M : ℕ) (g : Fin M → EReal) (hg : ∀ n : Fin M, g n = ((f n.val : ℝ) : EReal)) :
    ((List.finRange M).map g).sum = ((∑ n ∈ Finset.range M, f n : ℝ) : EReal) := by
  rw [← List.ofFn_eq_map, List.sum_ofFn, Finset.sum_congr rfl fun n _ => hg n, coe_sum, Finset.sum_range]

section
variable {A B N : ℕ}

theorem numel_last (N : ℕ) : (⟨3, ![1, 1, N]⟩ : Shape).numel = N := by
  rw [Shape.numel_rank3]; show 1 * 1 * N = N; ring

theorem last_pos {N : ℕ} (n : Fin (⟨3, ![1, 1, N]⟩ : Shape).numel) (a : Fin 3) :
    ((⟨3, ![1, 1, N]⟩ : Shape).rowMajor.symm n a).val = if a = 2 then n.val else 0 := by
  have h : (⟨3, ![1, 1, N]⟩ : Shape).rowMajor.symm n = ix3 (0 : Fin 1) (0 : Fin 1) (n.cast (numel_last N)) :=
    ((⟨3, ![1, 1, N]⟩ : Shape).rowMajor.symm_apply_eq).2 (Fin.ext (by
      rw [Shape.rowMajor_val_three]
      show n.val = (0 * 1 + 0) * N + n.val
      omega))
  rw [h]
  match a with
  | 0 => rfl
  | 1 => rfl
  | 2 => rfl

/-- A window as long as the last axis, the axis padded by `lo` in front and `hi` behind: the entries the window covers, summed. -/
theorem window_sum (lo hi : ℕ) (x : (⟨3, ![A, B, N]⟩ : Shape).Idx → EReal) (f : ℕ → ℕ → ℕ → ℝ)
    (hx : ∀ (a : Fin A) (b : Fin B) (c : Fin N), x (ix3 a b c) = ((f a b c : ℝ) : EReal))
    (h : (⟨3, ![A, B, N]⟩ : Shape).ReduceWindows (![1, 1, N] : Fin 3 → ℕ) ![1, 1, 1] ![0, 0, lo] ![0, 0, hi] ⟨3, ![A, B, N]⟩)
    (init : (⟨0, ![]⟩ : Shape).Idx → EReal) (hu : 0 < (⟨0, ![]⟩ : Shape).numel) (h0 : init (Shape.Idx.first hu) = 0)
    (a : Fin A) (b : Fin B) (c : Fin N) :
    Host.reduceWindowAdd (F := Ideal) (φ := .f32) ![1, 1, N] ![1, 1, 1] ![0, 0, lo] ![0, 0, hi] x init h hu (ix3 a b c)
      = ((∑ n ∈ Finset.range N, (if lo ≤ c.val + n ∧ c.val + n - lo < N then f a b (c.val + n - lo) else 0) : ℝ) : EReal) := by
  unfold Host.reduceWindowAdd
  rw [Ideal.hostReduceWindowAdd_def, h0]
  unfold Ideal.hostReduceWindowAdd Host.reduceWindow
  dsimp only
  rw [foldl_add, zero_add, sum_finRange (fun n => if lo ≤ c.val + n ∧ c.val + n - lo < N then f a b (c.val + n - lo) else 0), numel_last]
  intro n
  have e0 : ((⟨3, ![1, 1, N]⟩ : Shape).rowMajor.symm n 0).val = 0 := (last_pos n 0).trans (if_neg (by decide))
  have e1 : ((⟨3, ![1, 1, N]⟩ : Shape).rowMajor.symm n 1).val = 0 := (last_pos n 1).trans (if_neg (by decide))
  have e2 : ((⟨3, ![1, 1, N]⟩ : Shape).rowMajor.symm n 2).val = n.val := (last_pos n 2).trans (if_pos rfl)
  have ha := a.isLt
  have hb := b.isLt
  by_cases hc : lo ≤ c.val + n.val ∧ c.val + n.val - lo < N
  · rw [if_pos hc, dif_pos]
    · refine Eq.trans (congrArg x (funext fun k => Fin.ext ?_)) (hx a b ⟨c.val + n.val - lo, hc.2⟩)
      match k with
      | 0 => show a.val * 1 + ((⟨3, ![1, 1, N]⟩ : Shape).rowMajor.symm n 0).val - 0 = a.val; omega
      | 1 => show b.val * 1 + ((⟨3, ![1, 1, N]⟩ : Shape).rowMajor.symm n 1).val - 0 = b.val; omega
      | 2 => show c.val * 1 + ((⟨3, ![1, 1, N]⟩ : Shape).rowMajor.symm n 2).val - lo = c.val + n.val - lo; omega
    · intro k
      match k with
      | 0 => show 0 ≤ a.val * 1 + ((⟨3, ![1, 1, N]⟩ : Shape).rowMajor.symm n 0).val ∧ a.val * 1 + ((⟨3, ![1, 1, N]⟩ : Shape).rowMajor.symm n 0).val - 0 < A; omega
      | 1 => show 0 ≤ b.val * 1 + ((⟨3, ![1, 1, N]⟩ : Shape).rowMajor.symm n 1).val ∧ b.val * 1 + ((⟨3, ![1, 1, N]⟩ : Shape).rowMajor.symm n 1).val - 0 < B; omega
      | 2 => show lo ≤ c.val * 1 + ((⟨3, ![1, 1, N]⟩ : Shape).rowMajor.symm n 2).val ∧ c.val * 1 + ((⟨3, ![1, 1, N]⟩ : Shape).rowMajor.symm n 2).val - lo < N; omega
  · rw [if_neg hc, dif_neg, EReal.coe_zero]
    intro hk
    have h2 : lo ≤ c.val * 1 + ((⟨3, ![1, 1, N]⟩ : Shape).rowMajor.symm n 2).val ∧ c.val * 1 + ((⟨3, ![1, 1, N]⟩ : Shape).rowMajor.symm n 2).val - lo < N := hk 2
    omega

end

/-- The window that reaches forward: the sum of the entries from `c` on. -/
theorem sum_from (f : ℕ → ℝ) {N c : ℕ} (hc : c < N) :
    ∑ n ∈ Finset.range N, (if 0 ≤ c + n ∧ c + n - 0 < N then f (c + n - 0) else 0) = ∑ j ∈ Finset.Ico c N, f j := by
  obtain ⟨e, rfl⟩ : ∃ e, N = c + e := ⟨N - c, by omega⟩
  rw [← sum_block f c e, ← Finset.sum_filter]
  refine Finset.sum_congr (Finset.ext fun n => ?_) fun n _ => by rw [Nat.sub_zero]
  simp only [Finset.mem_filter, Finset.mem_range]; omega

/-- The window that reaches back: the sum of the entries up to `c`. -/
theorem sum_to (f : ℕ → ℝ) {M c : ℕ} (hc : c ≤ M) :
    ∑ n ∈ Finset.range (M + 1), (if M ≤ c + n ∧ c + n - M < M + 1 then f (c + n - M) else 0) = ∑ j ∈ Finset.range (c + 1), f j := by
  obtain ⟨e, rfl⟩ : ∃ e, M = c + e := ⟨M - c, by omega⟩
  rw [show c + e + 1 = e + (c + 1) by ring, Finset.sum_range_add, Finset.sum_eq_zero fun n hn => if_neg (by have := Finset.mem_range.1 hn; omega), zero_add]
  refine Finset.sum_congr rfl fun n hn => ?_
  have := Finset.mem_range.1 hn
  rw [if_pos (by omega), show c + (e + n) - (c + e) = n by omega]

end Cert.Sb

end
-- ==== Proof.Sb.Reference.lean ====
module

public import proofs.«01_k».proof.Proof.Gen.ReferenceIdeal.Run
public import proofs.«01_k».proof.Proof.Sb.RunningSum
public import proofs.«01_k».proof.Proof.Sb.PassA
public import Idealize.ShloMosaic.Lib.Pointwise

/-!
What the reference computes: the same gradients, head by head.
-/

@[expose] public section

set_option maxRecDepth 16384

noncomputable section

namespace Cert.ReferenceIdeal.Sb

open Cert.ReferenceIdeal Cert.ReferenceIdeal.Gen Cert.ReferenceIdeal.Value Cert.Sb Cert.KernelIdeal.Sb
open Idealize.ShloMosaic Idealize.ShloMosaic.TcCoe
open Idealize.SL.Sem

variable {V0 : Valuation τ sig (Elt Ideal)} {P C : ℕ → ℕ → ℝ}

/-- The parts of the arguments that the reference reads hold the reals `P` and `C`. -/
structure Reals (V0 : Valuation τ sig (Elt Ideal)) (P C : ℕ → ℕ → ℝ) : Prop where
  arg0 : ∀ (r : Fin 2048) (s : Fin 6144), s.val < 3072 →
    (V0 (Proc.devRef .tc main_arg0) : S2048x6144.Idx → EReal) (ix2 r s) = ((P r s : ℝ) : EReal)
  arg1 : ∀ (r : Fin 2048) (s : Fin 2048), s.val < 1024 →
    (V0 (Proc.devRef .tc main_arg1) : S2048x2048.Idx → EReal) (ix2 r s) = ((C r s : ℝ) : EReal)

/-! ### The softplus and the logistic function -/

theorem softplus_at (x : ℝ) :
    (if (x : EReal) ≠ (x : EReal) then (x : EReal)
      else max (x : EReal) 0 + Ideal.log1p (Ideal.exp (-(FloatOps.absf (F := Ideal) (φ := .f32) (x : EReal) : EReal)))) = ((sp x : ℝ) : EReal) := by
  rw [if_neg (by simp), coe_abs, ← EReal.coe_neg, Ideal.exp_coe, show (0 : EReal) = ((0 : ℝ) : EReal) from rfl, coe_max]
  unfold Ideal.log1p
  rw [show (1 : EReal) = ((1 : ℝ) : EReal) from rfl, ← EReal.coe_add, coe_log (one_add_exp_pos _), ← EReal.coe_add]
  rfl

theorem ofBits_top : Ideal.ofBits .f32 0x7F800000#32 = ⊤ := by simp [Ideal.ofBits, Ideal.ieee]

theorem exp_sp (x : ℝ) : Real.exp (sp x) = 1 + Real.exp x := by
  unfold sp
  rw [Real.exp_add, Real.exp_log (one_add_exp_pos _)]
  rcases le_total 0 x with h | h
  · rw [max_eq_left h, abs_of_nonneg h, mul_add, ← Real.exp_add]; simp [add_comm]
  · rw [max_eq_right h, abs_of_nonpos h]; simp

theorem sp_neg (x : ℝ) : sp (-x) = sp x - x := by
  unfold sp
  rw [abs_neg]
  have : max (-x) 0 = max x 0 - x := by
    rcases le_total 0 x with h | h
    · rw [max_eq_left h, max_eq_right (by linarith)]; ring
    · rw [max_eq_right h, max_eq_left (by linarith)]; ring
  rw [this]; ring

theorem exp_sub_sp (x : ℝ) : Real.exp (x - sp x) = sgm x := by
  unfold sgm
  rw [Real.exp_sub, exp_sp, Real.exp_neg]
  have := Real.exp_pos x
  field_simp
  ring

theorem exp_neg_sub_sp (x : ℝ) : Real.exp (-x - sp (-x)) = 1 - sgm x := by
  unfold sgm
  rw [sp_neg, show -x - (sp x - x) = -sp x by ring, Real.exp_neg, exp_sp, Real.exp_neg]
  have := Real.exp_pos x
  field_simp
  ring

theorem sgm_neg (x : ℝ) : sgm (-x) = 1 - sgm x := by
  rw [← exp_sub_sp, exp_neg_sub_sp]

/-! ### The reference's arrays, index by index -/

section
variable (hR : Reals V0 P C)
include hR

theorem v2_at (r : Fin 2048) (h : Fin 8) (d : Fin 128) :
    (res_main_v2 (F := Ideal) V0 : S2048x8x128.Idx → EReal) (ix3 r h d) = ((cols P (128 * h) r d : ℝ) : EReal) := by
  unfold res_main_v2 res_main_v0 cols
  refine Eq.trans ?_ (hR.arg0 r ⟨128 * h.val + d.val, by omega⟩ (by show 128 * h.val + d.val < 3072; omega))
  pointwise
  simp only [mul_comm]

theorem v4_at (r : Fin 2048) (h : Fin 8) (d : Fin 128) :
    (res_main_v4 (F := Ideal) V0 : S2048x8x128.Idx → EReal) (ix3 r h d) = ((cols P (1024 + 128 * h) r d : ℝ) : EReal) := by
  unfold res_main_v4 res_main_v0 cols
  refine Eq.trans ?_ (hR.arg0 r ⟨1024 + 128 * h.val + d.val, by omega⟩ (by show 1024 + 128 * h.val + d.val < 3072; omega))
  pointwise
  congr 3; omega

theorem v6_at (r : Fin 2048) (h : Fin 8) (d : Fin 128) :
    (res_main_v6 (F := Ideal) V0 : S2048x8x128.Idx → EReal) (ix3 r h d) = ((cols P (2048 + 128 * h) r d : ℝ) : EReal) := by
  unfold res_main_v6 res_main_v0 cols
  refine Eq.trans ?_ (hR.arg0 r ⟨2048 + 128 * h.val + d.val, by omega⟩ (by show 2048 + 128 * h.val + d.val < 3072; omega))
  pointwise
  congr 3; omega

theorem v31_at (h : Fin 8) (d : Fin 128) (r : Fin 2048) :
    (res_main_v31 (F := Ideal) V0 : S8x128x2048.Idx → EReal) (ix3 h d r) = ((cols C (128 * h) r d : ℝ) : EReal) := by
  unfold res_main_v31 cols
  refine Eq.trans ?_ (hR.arg1 r ⟨128 * h.val + d.val, by omega⟩ (by show 128 * h.val + d.val < 1024; omega))
  pointwise
  congr 3; omega

/-- The scores of head `h`. -/
abbrev zh (P : ℕ → ℕ → ℝ) (h t s : ℕ) : ℝ := z (cols P (128 * h)) (cols P (1024 + 128 * h)) t s

theorem v12_at (h : Fin 8) (t s : Fin 2048) :
    (res_main_v12 (F := Ideal) V0 : S8x2048x2048.Idx → EReal) (ix3 h t s) = ((zh P h t s : ℝ) : EReal) := by
  unfold res_main_v12 zh z
  pointwise
  simp only [v2_at hR, v4_at hR]
  rw [Finset.sum_congr rfl fun x _ => (EReal.coe_mul _ _).symm, coe_sum, coe_scale, ← EReal.coe_mul,
    Finset.sum_range fun d => cols P (128 * h) t d * cols P (1024 + 128 * h) s d]

theorem v19_at (t s : Fin 2048) :
    (res_main_v19 (F := Ideal) V0 : S2048x2048.Idx → BitVec 1) (ix2 t s) = if s.val < t.val then 1#1 else 0#1 := by
  unfold res_main_v19
  pointwise
  exact word_lt (by omega) (by omega)

theorem call0_v1_at (h : Fin 8) (t s : Fin 2048) :
    (res_main_call0_v1_0 (F := Ideal) V0 : S8x2048x2048.Idx → EReal) (ix3 h t s) = ((sp (zh P h t s) : ℝ) : EReal) := by
  unfold res_main_call0_v1_0 res_main_call0_call0_v3 res_main_call0_v0 res_main_call0_call0_cst
  pointwise
  simp only [v12_at hR, neg_neg]
  exact softplus_at _

theorem call3_v1_at (h : Fin 8) (t s : Fin 2048) :
    (res_main_call3_v1_0 (F := Ideal) V0 : S8x2048x2048.Idx → EReal) (ix3 h t s) = ((sp (-zh P h t s) : ℝ) : EReal) := by
  unfold res_main_call3_v1_0 res_main_call3_call0_v3 res_main_call3_v0 res_main_call3_call0_cst
  pointwise
  simp only [v12_at hR, ← EReal.coe_neg]
  exact softplus_at _

/-- The logarithms, weights and gradients of head `h`. -/
abbrev lh (P : ℕ → ℕ → ℝ) (h t s : ℕ) : ℝ := lm (cols P (128 * h)) (cols P (1024 + 128 * h)) t s
abbrev ah (P : ℕ → ℕ → ℝ) (h t s : ℕ) : ℝ := am (cols P (128 * h)) (cols P (1024 + 128 * h)) t s
abbrev eh (P C : ℕ → ℕ → ℝ) (h t s : ℕ) : ℝ := eg (cols P (128 * h)) (cols P (1024 + 128 * h)) (cols P (2048 + 128 * h)) (cols C (128 * h)) t s
abbrev dh (P C : ℕ → ℕ → ℝ) (h t s : ℕ) : ℝ := dz (cols P (128 * h)) (cols P (1024 + 128 * h)) (cols P (2048 + 128 * h)) (cols C (128 * h)) t s

theorem v22_1_at (h : Fin 8) (t s : Fin 2048) :
    (res_main_v22_1 (F := Ideal) V0 : S8x2048x2048.Idx → BitVec 1) (ix3 h t s) = if s.val < t.val then 1#1 else 0#1 := by
  unfold res_main_v22_1
  pointwise
  exact v19_at hR t s

theorem v28_1_at (h : Fin 8) (t s : Fin 2048) :
    (res_main_v28_1 (F := Ideal) V0 : S8x2048x2048.Idx → BitVec 1) (ix3 h t s) = if s.val < t.val then 1#1 else 0#1 := by
  unfold res_main_v28_1
  pointwise
  exact v19_at hR t s

theorem v22_0_at (h : Fin 8) (t s : Fin 2048) :
    (res_main_v22_0 (F := Ideal) V0 : S8x2048x2048.Idx → EReal) (ix3 h t s) = ((lh P h t s : ℝ) : EReal) := by
  unfold res_main_v22_0 lh lm
  simp only [id_eq]
  pointwise
  simp only [v22_1_at hR, call0_v1_at hR]
  split
  · rw [← EReal.coe_neg]; rfl
  · rfl

/-- The weight of a column, the mask left aside. -/
def wt (P : ℕ → ℕ → ℝ) (h t s : ℕ) : ℝ :=
  Real.exp (zh P h t s - sp (zh P h t s) + ∑ j ∈ Finset.Ico (s + 1) 2048, lh P h t j)

theorem v27_at (h : Fin 8) (t s : Fin 2048) :
    (res_main_v27 (F := Ideal) V0 : S8x2048x2048.Idx → EReal) (ix3 h t s) = ((wt P h t s : ℝ) : EReal) := by
  have hw := window_sum (A := 8) (B := 2048) (N := 2048) 0 2047 (res_main_v22_0 (F := Ideal) V0) (fun a b c => lh P a b c) (v22_0_at hR)
    reduceWindows_S8x2048x2048_S8x2048x2048_w1s1p0_0_w1s1p0_0_w2048s1p0_2047
    (broadcastInDim S_ ![] bcast_S_S_ (constant (F := Ideal) S_ .f32 0x00000000#32)) h_S_ (by pointwise) h t s
  rw [sum_from (fun j => lh P h t j) s.isLt] at hw
  unfold res_main_v27 wt
  pointwise
  simp only [v22_0_at hR, call3_v1_at hR]
  have hs : ∑ j ∈ Finset.Ico s.val 2048, lh P h t j = lh P h t s + ∑ j ∈ Finset.Ico (s.val + 1) 2048, lh P h t j :=
    Finset.sum_eq_sum_Ico_succ_bot s.isLt _
  rw [hw, hs, sp_neg]
  generalize ∑ j ∈ Finset.Ico (s.val + 1) 2048, lh P h t j = R
  rw [← EReal.coe_sub, ← EReal.coe_neg, ← EReal.coe_add, Ideal.exp_coe]
  generalize zh P h t s = y
  generalize lh P h t s = l
  exact congrArg (fun r : ℝ => ((Real.exp r : ℝ) : EReal)) (by ring)

theorem v28_0_at (h : Fin 8) (t s : Fin 2048) :
    (res_main_v28_0 (F := Ideal) V0 : S8x2048x2048.Idx → EReal) (ix3 h t s) = ((ah P h t s : ℝ) : EReal) := by
  unfold res_main_v28_0 ah am
  simp only [id_eq]
  pointwise
  simp only [v28_1_at hR, v27_at hR]
  split
  · rfl
  · rfl

theorem v36_at (h : Fin 8) (t s : Fin 2048) :
    (res_main_v36 (F := Ideal) V0 : S8x2048x2048.Idx → EReal) (ix3 h t s) = ((eh P C h t s : ℝ) : EReal) := by
  unfold res_main_v36 eh eg am
  pointwise
  simp only [v28_1_at hR, v27_at hR, v31_at hR, v6_at hR]
  rw [Finset.sum_congr rfl fun x _ => (EReal.coe_mul _ _).symm, coe_sum,
    ← Finset.sum_range fun d => cols C (128 * h) t d * cols P (2048 + 128 * h) s d]
  split
  · rw [mul_comm, EReal.coe_mul]; rfl
  · rw [zero_mul (M₀ := ℝ)]; rfl

theorem v46_at (h : Fin 8) (t s : Fin 2048) :
    (res_main_v46 (F := Ideal) V0 : S8x2048x2048.Idx → EReal) (ix3 h t s) = ((dh P C h t s : ℝ) : EReal) := by
  have hw := window_sum (A := 8) (B := 2048) (N := 2048) 2047 0 (res_main_v36 (F := Ideal) V0) (fun a b c => eh P C a b c) (v36_at hR)
    reduceWindows_S8x2048x2048_S8x2048x2048_w1s1p0_0_w1s1p0_0_w2048s1p2047_0
    (broadcastInDim S_ ![] bcast_S_S_ (constant (F := Ideal) S_ .f32 0x00000000#32)) h_S_ (by pointwise) h t s
  rw [sum_to (fun j => eh P C h t j) (Nat.le_of_lt_succ s.isLt)] at hw
  unfold res_main_v46 res_main_call3_v0 res_main_call0_v0 dh dz
  pointwise
  simp only [v36_at hR, call3_v1_at hR, call0_v1_at hR, v12_at hR, v22_1_at hR, neg_neg, ofBits_top, EReal.coe_ne_top, ← EReal.coe_neg,
    if_false, ← EReal.coe_sub, Ideal.exp_coe, exp_sub_sp, sgm_neg, coe_scale]
  have hs : ∑ j ∈ Finset.range (s.val + 1), eh P C h t j = ∑ j ∈ Finset.range s.val, eh P C h t j + eh P C h t s :=
    Finset.sum_range_succ _ _
  rw [hw, hs, ← Finset.range_eq_Ico]
  change _ = (((if s.val < t.val then eh P C h t s * (1 - sgm (zh P h t s)) - (∑ j ∈ Finset.range s.val, eh P C h t j) * sgm (zh P h t s)
    else 0) * scale : ℝ) : EReal)
  generalize (∑ j ∈ Finset.range s.val, eh P C h t j) = R
  have he : ¬ s.val < t.val → eh P C h t s = 0 := fun hn => by
    unfold eh eg am; rw [if_neg hn, zero_mul (M₀ := ℝ)]
  by_cases hst : s.val < t.val
  · rw [if_pos hst, if_pos hst]
    change (-(((-eh P C h t s : ℝ) : EReal) * ((1 - sgm (zh P h t s) : ℝ) : EReal))
      + -(((-eh P C h t s : ℝ) : EReal) + ((R + eh P C h t s : ℝ) : EReal)) * ((sgm (zh P h t s) : ℝ) : EReal)) * ((scale : ℝ) : EReal) = _
    generalize sgm (zh P h t s) = g
    generalize eh P C h t s = e
    simp only [← EReal.coe_neg, ← EReal.coe_add, ← EReal.coe_mul]
    exact congrArg (fun r : ℝ => (r : EReal)) (by ring)
  · rw [if_neg hst, if_neg hst, he hst]
    change (-(((-0 : ℝ) : EReal) * ((1 - sgm (zh P h t s) : ℝ) : EReal))
      + -((0 : ℝ) : EReal) * ((sgm (zh P h t s) : ℝ) : EReal)) * ((scale : ℝ) : EReal) = _
    generalize sgm (zh P h t s) = g
    simp only [← EReal.coe_neg, ← EReal.coe_add, ← EReal.coe_mul]
    exact congrArg (fun r : ℝ => (r : EReal)) (by ring)

theorem dq_at (h : Fin 8) (t : Fin 2048) (d : Fin 128) :
    (Host.dotGeneral (F := Ideal) (φ₁ := .f32) (φ₂ := .f32) dot_S8x2048x2048_S2048x8x128_S8x2048x128_2_0_1_2_0_1 none (res_main_v46 V0) (res_main_v4 V0) : S8x2048x128.Idx → EReal)
      (ix3 h t d) = ((gq P C h t d : ℝ) : EReal) := by
  unfold gq dq
  pointwise
  simp only [v46_at hR, v4_at hR]
  rw [Finset.sum_congr rfl fun x _ => (EReal.coe_mul _ _).symm, coe_sum, ← Finset.range_eq_Ico,
    ← Finset.sum_range fun s => dh P C h t s * cols P (1024 + 128 * h) s d]

theorem dk_at (h : Fin 8) (s : Fin 2048) (d : Fin 128) :
    (Host.dotGeneral (F := Ideal) (φ₁ := .f32) (φ₂ := .f32) dot_S8x2048x2048_S2048x8x128_S8x2048x128_1_0_2_2_0_1 none (res_main_v46 V0) (res_main_v2 V0) : S8x2048x128.Idx → EReal)
      (ix3 h s d) = ((gk P C h 0 2048 s d : ℝ) : EReal) := by
  unfold gk dk
  pointwise
  simp only [v46_at hR, v2_at hR]
  rw [Finset.sum_congr rfl fun x _ => (EReal.coe_mul _ _).symm, coe_sum, ← Finset.range_eq_Ico,
    ← Finset.sum_range fun t => dh P C h t s * cols P (128 * h) t d]

theorem dv_at (h : Fin 8) (d : Fin 128) (s : Fin 2048) :
    (Host.dotGeneral (F := Ideal) (φ₁ := .f32) (φ₂ := .f32) dot_S8x128x2048_S8x2048x2048_S8x128x2048_2_1_1_2_0_0 none (res_main_v31 V0) (res_main_v28_0 V0) : S8x128x2048.Idx → EReal)
      (ix3 h d s) = ((gv P C h 0 2048 s d : ℝ) : EReal) := by
  unfold gv dv
  pointwise
  simp only [v28_0_at hR, v31_at hR]
  rw [Finset.sum_congr rfl fun x _ => (EReal.coe_mul _ _).symm, coe_sum, ← Finset.range_eq_Ico,
    ← Finset.sum_range fun t => cols C (128 * h) t d * ah P h t s]
  simp only [ah, mul_comm]

/-- The three planes of the result that hold the gradients. -/
theorem result_at (p : Fin 6) (hp : p.val < 3) (x : Fin 2048) (s : Fin 1024) :
    (truncf (F := Ideal) .bf16 (concatenate S6x2048x1024 0 [⟨S3x2048x1024, ((concatenate S3x2048x1024 0 [⟨S1x2048x1024, ((broadcastInDim S1x2048x1024 ![1, 2] bcast_S2048x1024_S1x2048x1024_1_2 (shapeCast _ (transpose S2048x8x128 [1, 0, 2] (Host.dotGeneral (F := Ideal) (φ₁ := .f32) (φ₂ := .f32) dot_S8x2048x2048_S2048x8x128_S8x2048x128_2_0_1_2_0_1 none (res_main_v46 V0) (res_main_v4 V0)) transposes_S8x2048x128_S2048x8x128_1_0_2) shapeCasts_S2048x8x128_S2048x1024)) : (⟨S1x2048x1024, .f32⟩ : BufTy).Contents (Elt Ideal))⟩, ⟨S1x2048x1024, ((broadcastInDim S1x2048x1024 ![1, 2] bcast_S2048x1024_S1x2048x1024_1_2 (shapeCast _ (transpose S2048x8x128 [1, 0, 2] (Host.dotGeneral (F := Ideal) (φ₁ := .f32) (φ₂ := .f32) dot_S8x2048x2048_S2048x8x128_S8x2048x128_1_0_2_2_0_1 none (res_main_v46 V0) (res_main_v2 V0)) transposes_S8x2048x128_S2048x8x128_1_0_2) shapeCasts_S2048x8x128_S2048x1024)) : (⟨S1x2048x1024, .f32⟩ : BufTy).Contents (Elt Ideal))⟩, ⟨S1x2048x1024, ((broadcastInDim S1x2048x1024 ![1, 2] bcast_S2048x1024_S1x2048x1024_1_2 (shapeCast _ (transpose S2048x8x128 [2, 0, 1] (Host.dotGeneral (F := Ideal) (φ₁ := .f32) (φ₂ := .f32) dot_S8x128x2048_S8x2048x2048_S8x128x2048_2_1_1_2_0_0 none (res_main_v31 V0) (res_main_v28_0 V0)) transposes_S8x128x2048_S2048x8x128_2_0_1) shapeCasts_S2048x8x128_S2048x1024)) : (⟨S1x2048x1024, .f32⟩ : BufTy).Contents (Elt Ideal))⟩] concatenates_S1x2048x1024_S1x2048x1024_S1x2048x1024_S3x2048x1024_d0 : (⟨S3x2048x1024, .f32⟩ : BufTy).Contents (Elt Ideal)))⟩, ⟨S3x2048x1024, (broadcastInDim S3x2048x1024 ![] bcast_S_S3x2048x1024 (constant (F := Ideal) S_ .f32 0x00000000#32))⟩] concatenates_S3x2048x1024_S3x2048x1024_S6x2048x1024_d0) bitsLt_bf16_f32 : S6x2048x1024.Idx → EReal) (ix3 p x s) = ((grad P C p x s : ℝ) : EReal) := by
  have h1 := dq_at hR ⟨s.val / 128, by omega⟩ x ⟨s.val % 128, by omega⟩
  have h2 := dk_at hR ⟨s.val / 128, by omega⟩ x ⟨s.val % 128, by omega⟩
  have h3 := dv_at hR ⟨s.val / 128, by omega⟩ ⟨s.val % 128, by omega⟩ x
  unfold grad
  generalize Host.dotGeneral (F := Ideal) (φ₁ := .f32) (φ₂ := .f32) dot_S8x2048x2048_S2048x8x128_S8x2048x128_2_0_1_2_0_1 none (res_main_v46 V0) (res_main_v4 V0) = X1 at *
  generalize Host.dotGeneral (F := Ideal) (φ₁ := .f32) (φ₂ := .f32) dot_S8x2048x2048_S2048x8x128_S8x2048x128_1_0_2_2_0_1 none (res_main_v46 V0) (res_main_v2 V0) = X2 at *
  generalize Host.dotGeneral (F := Ideal) (φ₁ := .f32) (φ₂ := .f32) dot_S8x128x2048_S8x2048x2048_S8x128x2048_2_1_1_2_0_0 none (res_main_v31 V0) (res_main_v28_0 V0) = X3 at *
  pointwise
  dsimp only at h1 h2 h3
  rw [dif_pos hp]
  by_cases h0 : p.val = 0
  · rw [dif_pos (by omega), if_pos h0]; exact h1
  · rw [dif_neg (by omega), if_neg h0]
    by_cases h1' : p.val = 1
    · rw [dif_pos (by omega), if_pos h1']; exact h2
    · rw [dif_neg (by omega), if_neg h1']; exact h3

end

end Cert.ReferenceIdeal.Sb

end
-- ==== Proof.Products.UpDw.lean ====
module

public import proofs.«01_k».proof.Defs
public import proofs.«01_k».proof.Proof.Gen.UpDw
public import proofs.«01_k».proof.Proof.Gen.UpDwIdeal.Value
public import proofs.«01_k».proof.Proof.Gen.UpDwRefIdeal.Run
public import Idealize.ShloMosaic.Lib.Pointwise
public import Idealize.ShloMosaic.Lib.Pipeline.ValueKit

/-!
The gradient of the up-projection's weights, stacked by the device that owns the columns.
-/

@[expose] public section

set_option maxRecDepth 16384

noncomputable section

namespace Cert.UpDwIdeal.Product

open Cert.UpDwIdeal Cert.UpDwIdeal.Gen
open Idealize.ShloMosaic Idealize.ShloMosaic.TcCoe
open Idealize.SL Idealize.SL.Sem

/-! ### Where a point's blocks lie -/

theorem idx : ∀ t : Fin grid0.N, win0_0.index t = ![0, t.val / 8] ∧ win0_1.index t = ![t.val % 8 / 4, t.val % 4]
    ∧ win0_2.index t = ![2 * (t.val % 8) + t.val / 8, 0] := by decide +kernel

theorem n_eq : cfg0.N = 16 := by decide +kernel

/-- Row `2048 j + k` of the result is the product of column `k` of the input with the columns that device `j` owns. -/
def out (x : S2048x2048.Idx → EReal) (dy : S2x2048x5632.Idx → EReal) (r : Fin 16384) (n : Fin 1408) : EReal :=
  ∑ s : Fin 2048, x (ix2 s ⟨r % 2048, by omega⟩) * dy (ix3 ⟨r / 8192, by omega⟩ s ⟨1408 * (r / 2048 % 4) + n, by omega⟩)

variable (m : (ℓ : Loc nD τ sig) → Buf (Elt Ideal) ℓ)

theorem store (x : Vec Ideal S2048x1024 .bf16) (dy : Vec Ideal S2048x1408 .bf16) : out0_2 x dy = k0_pay1 dy x := by
  unfold out0_2
  rw [View.canon_cons_unit_lit _ _ _ (by decide), View.ld_unit_lit _ _ (by decide), View.ld_unit_lit _ _ (by decide)]

theorem lt_n (t : Fin cfg0.N) : t.val < 16 := lt_of_lt_of_eq t.isLt n_eq

theorem blk_0 (c : Dev nD) (t : Fin cfg0.N) (s : Fin 2048) (a : Fin 1024) : (iblk m c 0 t : S2048x1024.Idx → EReal) (ix2 s a)
    = (m ((c.tc : Thread nD τ).loc main_arg0) : S2048x2048.Idx → EReal) (ix2 s ⟨1024 * (t.val / 8) + a, by have := lt_n t; omega⟩) := by
  have := lt_n t
  blk_ext! [iblk, V, (idx t).1]

theorem blk_1 (c : Dev nD) (t : Fin cfg0.N) (s : Fin 2048) (b : Fin 1408) : (iblk m c 1 t : S2048x1408.Idx → EReal) (ix2 s b)
    = (m ((c.tc : Thread nD τ).loc main_arg1) : S2x2048x5632.Idx → EReal) (ix3 ⟨t.val % 8 / 4, by omega⟩ s ⟨1408 * (t.val % 4) + b, by omega⟩) := by
  have := lt_n t
  blk_ext! [iblk, V, (idx t).2.1]

theorem point (x : Vec Ideal S2048x1024 .bf16) (dy : Vec Ideal S2048x1408 .bf16) (a : Fin 1024) (b : Fin 1408) :
    (k0_pay1 dy x : S1024x1408.Idx → EReal) (ix2 a b)
      = ∑ s : Fin 2048, (x : S2048x1024.Idx → EReal) (ix2 s a) * (dy : S2048x1408.Idx → EReal) (ix2 s b) := by
  pointwise [k0_pay1]

theorem final (c : Dev nD) : (dats m 0 c).arrAt 2 cfg0.N
    = fun i : S16384x1408.Idx => out (m ((c.tc : Thread nD τ).loc main_arg0)) (m ((c.tc : Thread nD τ).loc main_arg1)) (i 0) (i 1) := by
  refine (dats m 0 c).arrAt_eq_of_covers 2 _ (by decide +kernel) fun t hf y => ?_
  have ht := lt_n t
  have i2 := (idx t).2.2
  have hy0 : (y 0).val < 1024 := (y 0).isLt
  have hy1 : (y 1).val < 1408 := (y 1).isLt
  rw [after0_2, store]
  blk_simp [i2, out]
  refine (congrArg (k0_pay1 (iblk m c 1 t) (iblk m c 0 t)) (show y = @ix2 1024 1408 (y 0) (y 1) from by funext k; fin_cases k <;> rfl)).trans ?_
  refine (point _ _ _ _).trans (Finset.sum_congr rfl fun s _ => ?_)
  exact congrArg₂ (· * ·) ((blk_0 m c t s (y 0)).trans (by blk_ext)) ((blk_1 m c t s (y 1)).trans (by
    have hq : ((2 * (t.val % 8) + t.val / 8) * 1024 + (y 0).val) / 2048 = t.val % 8 := by omega
    blk_ext [hq]))

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v1)
        = (fun i : S16384x1408.Idx => out (m ((c.tc : Thread nD τ).loc main_arg0)) (m ((c.tc : Thread nD τ).loc main_arg1)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨(h c).1.trans (final m c), (h c).2⟩) (Value.run_blocks (F := Ideal) m ρ)

/-- The call leaves what the reference computes. -/
theorem algebraic : Cert.algebraic_UpDwIdeal_UpDwRefIdeal := fun m ρ m' ρ' _ hm =>
  ⟨_, run m ρ, (θ_run _ _ _).mono (fun r h c => ⟨(h c).1.trans (by
      rw [(hm c).1, (hm c).2]
      funext i
      rw [show i = @ix2 16384 1408 (i 0) (i 1) from by funext k; fin_cases k <;> rfl]
      pointwise [out]
      refine Finset.sum_congr rfl fun s _ => (mul_comm _ _).trans (congrArg _ ?_)
      have h0 : (i 0).val < 16384 := (i 0).isLt
      have h1 : (i 1).val < 1408 := (i 1).isLt
      split <;> blk_ext), (h c).2⟩) (Cert.UpDwRefIdeal.Value.run (F := Ideal) m' ρ')⟩

/-- The printed program and its idealization have one body table: nothing was rewritten. -/
theorem defs₀_eq : Cert.UpDw.defs₀ (F := Bits) = Cert.UpDwIdeal.defs₀ (F := Bits) := by
  unfold Cert.UpDw.defs₀ Cert.UpDwIdeal.defs₀
  refine congrArg (Defs.onTc (nD := nD) (τ := τ) (sig := sig) (Val := Elt Bits) (Λ := Λ₀)) ?_
  funext l a
  match l, a with
  | 0, (t, s) => rfl
  | ⟨_ + 1, h⟩, _ => exact absurd h (Nat.not_lt.2 (Nat.le_add_left _ _))

theorem defs_eq : Cert.UpDw.defs (F := Bits) = Cert.UpDwIdeal.defs (F := Bits) := by
  unfold Cert.UpDw.defs Cert.UpDwIdeal.defs
  rw [defs₀_eq]; rfl

theorem frame : Cert.quiescent_UpDw := fun m ρ _ => by
  rw [defs_eq]
  exact Cert.UpDwIdeal.Gen.frame (F := Bits) m ρ

theorem frameIdeal : Cert.quiescent_UpDwIdeal := fun m ρ _ => Cert.UpDwIdeal.Gen.frame (F := Ideal) m ρ

theorem frameReference : Cert.quiescent_UpDwRefIdeal := fun m ρ _ =>
  (θ_run _ _ _).mono (fun r h => ⟨fun c => (h c).2, sem_eq_zero_of_no_sems (by decide) r.2⟩)
    (Cert.UpDwRefIdeal.Value.run (F := Ideal) m ρ)

end Cert.UpDwIdeal.Product

end
-- ==== Proof.Products.UpMm.lean ====
module

public import proofs.«01_k».proof.Defs
public import proofs.«01_k».proof.Proof.Gen.UpMm
public import proofs.«01_k».proof.Proof.Gen.UpMmIdeal.Value
public import proofs.«01_k».proof.Proof.Gen.UpMmRefIdeal.Run
public import Idealize.ShloMosaic.Lib.Pointwise
public import Idealize.ShloMosaic.Lib.Pipeline.ValueKit

/-!
The up-projection of the gated feed-forward layer: one device's columns after the other's.
-/

@[expose] public section

set_option maxRecDepth 16384

noncomputable section

namespace Cert.UpMmIdeal.Product

open Cert.UpMmIdeal Cert.UpMmIdeal.Gen
open Idealize.ShloMosaic Idealize.ShloMosaic.TcCoe
open Idealize.SL Idealize.SL.Sem

/-! ### Where a point's blocks lie -/

theorem idx : ∀ t : Fin grid0.N, win0_0.index t = ![t.val / 8, 0] ∧ win0_1.index t = ![t.val % 8, 0] ∧ win0_2.index t = ![t.val / 8, t.val % 8] := by decide +kernel

theorem lt_n (t : Fin cfg0.N) : t.val < 16 := lt_of_lt_of_eq t.isLt (by decide +kernel)

/-- Column `1408 j + n` of the result uses column `n` of the block of weights that device `j` owns. -/
def out (x : S2048x2048.Idx → EReal) (w : S16384x1408.Idx → EReal) (r : Fin 2048) (n : Fin 11264) : EReal :=
  ∑ s : Fin 2048, x (ix2 r s) * w (ix2 ⟨n / 1408 * 2048 + s, by omega⟩ ⟨n % 1408, by omega⟩)

variable (m : (ℓ : Loc nD τ sig) → Buf (Elt Ideal) ℓ)

theorem blk_0 (c : Dev nD) (t : Fin cfg0.N) (a : Fin 1024) (s : Fin 2048) : (iblk m c 0 t : S1024x2048.Idx → EReal) (ix2 a s)
    = (m ((c.tc : Thread nD τ).loc main_arg0) : S2048x2048.Idx → EReal) (ix2 ⟨1024 * (t.val / 8) + a, by have := lt_n t; omega⟩ s) := by
  have := lt_n t
  blk_ext! [iblk, V, (idx t).1]

theorem blk_1 (c : Dev nD) (t : Fin cfg0.N) (s : Fin 2048) (b : Fin 1408) : (iblk m c 1 t : S2048x1408.Idx → EReal) (ix2 s b)
    = (m ((c.tc : Thread nD τ).loc main_arg1) : S16384x1408.Idx → EReal) (ix2 ⟨2048 * (t.val % 8) + s, by have := lt_n t; omega⟩ b) := by
  have := lt_n t
  blk_ext! [iblk, V, (idx t).2.1]

theorem store (x0 : Vec Ideal S1024x2048 .bf16) (x1 : Vec Ideal S2048x1408 .bf16) : out0_2 x0 x1 = k0_pay1 x0 x1 := by
  unfold out0_2
  rw [View.canon_cons_unit_lit _ _ _ (by decide), View.ld_unit_lit _ _ (by decide), View.ld_unit_lit _ _ (by decide)]

theorem point (x0 : Vec Ideal S1024x2048 .bf16) (x1 : Vec Ideal S2048x1408 .bf16) (a : Fin 1024) (b : Fin 1408) : (k0_pay1 x0 x1 : S1024x1408.Idx → EReal) (ix2 a b)
    = ∑ s : Fin 2048, (x0 : S1024x2048.Idx → EReal) (ix2 a s) * (x1 : S2048x1408.Idx → EReal) (ix2 s b) := by
  pointwise [k0_pay1]

theorem final (c : Dev nD) : (dats m 0 c).arrAt 2 cfg0.N = fun i : S2048x11264.Idx =>
    out (m ((c.tc : Thread nD τ).loc main_arg0)) (m ((c.tc : Thread nD τ).loc main_arg1)) (i 0) (i 1) := by
  refine (dats m 0 c).arrAt_eq_of_covers 2 _ (by decide +kernel) fun t hf y => ?_
  have ht := lt_n t
  have io := (idx t).2.2
  have hy0 : (y 0).val < 1024 := (y 0).isLt
  have hy1 : (y 1).val < 1408 := (y 1).isLt
  rw [after0_2, store]
  blk_simp [io, out]
  refine (congrArg (k0_pay1 (iblk m c 0 t) (iblk m c 1 t)) (show y = @ix2 1024 1408 (y 0) (y 1) from by funext k; fin_cases k <;> rfl)).trans ?_
  exact (point _ _ _ _).trans (Finset.sum_congr rfl fun s _ => congrArg₂ (· * ·) ((blk_0 m c t (y 0) s).trans (by
    blk_ext [io]))
    ((blk_1 m c t s (y 1)).trans (by
    blk_ext [io])))

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = (fun i : S2048x11264.Idx =>
        out (m ((c.tc : Thread nD τ).loc main_arg0)) (m ((c.tc : Thread nD τ).loc main_arg1)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨(h c).1.trans (final m c), (h c).2⟩) (Value.run_blocks (F := Ideal) m ρ)

/-- The reference, at an index. -/
theorem reference_at (x : Vec Ideal S2048x2048 .bf16) (w : Vec Ideal S16384x1408 .bf16) (i : S2048x11264.Idx) :
    (truncf .bf16 (Host.dotGeneral (F := Ideal) (φ₁ := .f32) (φ₂ := .f32) Cert.UpMmRefIdeal.dot_S2048x2048_S2048x11264_S2048x11264_1_0_0_1_n_n none
      (extf .f32 x Cert.UpMmRefIdeal.Gen.bitsLt_bf16_f32)
      (extf .f32 (shapeCast _ (transpose Cert.UpMmRefIdeal.S2048x8x1408 [1, 0, 2] (shapeCast _ w Cert.UpMmRefIdeal.Gen.shapeCasts_S16384x1408_S8x2048x1408)
        Cert.UpMmRefIdeal.Gen.transposes_S8x2048x1408_S2048x8x1408_1_0_2) Cert.UpMmRefIdeal.Gen.shapeCasts_S2048x8x1408_S2048x11264) Cert.UpMmRefIdeal.Gen.bitsLt_bf16_f32))
      Cert.UpMmRefIdeal.Gen.bitsLt_bf16_f32 : S2048x11264.Idx → EReal) i = out x w (i 0) (i 1) := by
  rw [show i = @ix2 2048 11264 (i 0) (i 1) from by funext k; fin_cases k <;> rfl]
  pointwise [out]

/-- The call leaves what the reference computes. -/
theorem algebraic : Cert.algebraic_UpMmIdeal_UpMmRefIdeal := fun m ρ m' ρ' _ hm =>
  ⟨_, run m ρ, (θ_run _ _ _).mono (fun r h c => ⟨(h c).1.trans (by
      rw [(hm c).1, (hm c).2]
      funext i
      exact reference_at _ _ i), (h c).2⟩) (Cert.UpMmRefIdeal.Value.run (F := Ideal) m' ρ')⟩

/-- The printed program and its idealization have one body table: nothing was rewritten. -/
theorem defs₀_eq : Cert.UpMm.defs₀ (F := Bits) = Cert.UpMmIdeal.defs₀ (F := Bits) := by
  unfold Cert.UpMm.defs₀ Cert.UpMmIdeal.defs₀
  refine congrArg (Defs.onTc (nD := nD) (τ := τ) (sig := sig) (Val := Elt Bits) (Λ := Λ₀)) ?_
  funext l a
  match l, a with
  | 0, (t, s) => rfl
  | ⟨_ + 1, h⟩, _ => exact absurd h (Nat.not_lt.2 (Nat.le_add_left _ _))

theorem defs_eq : Cert.UpMm.defs (F := Bits) = Cert.UpMmIdeal.defs (F := Bits) := by
  unfold Cert.UpMm.defs Cert.UpMmIdeal.defs
  rw [defs₀_eq]; rfl

theorem frame : Cert.quiescent_UpMm := fun m ρ _ => by
  rw [defs_eq]
  exact Cert.UpMmIdeal.Gen.frame (F := Bits) m ρ

theorem frameIdeal : Cert.quiescent_UpMmIdeal := fun m ρ _ => Cert.UpMmIdeal.Gen.frame (F := Ideal) m ρ

theorem frameReference : Cert.quiescent_UpMmRefIdeal := fun m ρ _ =>
  (θ_run _ _ _).mono (fun r h => ⟨fun c => (h c).2, sem_eq_zero_of_no_sems (by decide) r.2⟩)
    (Cert.UpMmRefIdeal.Value.run (F := Ideal) m ρ)

end Cert.UpMmIdeal.Product

end
-- ==== Proof.Products.DownMm.lean ====
module

public import proofs.«01_k».proof.Defs
public import proofs.«01_k».proof.Proof.Gen.DownMm
public import proofs.«01_k».proof.Proof.Gen.DownMmIdeal.Value
public import proofs.«01_k».proof.Proof.Gen.DownMmRefIdeal.Run
public import Idealize.ShloMosaic.Lib.Pointwise
public import Idealize.ShloMosaic.Lib.Pipeline.ValueKit

/-!
The down-projection of the gated feed-forward layer, added to the layer's input.
-/

@[expose] public section

set_option maxRecDepth 16384

noncomputable section

namespace Cert.DownMmIdeal.Product

open Cert.DownMmIdeal Cert.DownMmIdeal.Gen
open Idealize.ShloMosaic Idealize.ShloMosaic.TcCoe
open Idealize.SL Idealize.SL.Sem

/-! ### Where a point's blocks lie -/

theorem idx : ∀ t : Fin grid0.N, win0_0.index t = ![t.val / 4, 0] ∧ win0_1.index t = ![0, t.val % 4] ∧ win0_2.index t = ![t.val / 4, t.val % 4] ∧ win0_3.index t = ![t.val / 4, t.val % 4] := by decide +kernel

theorem lt_n (t : Fin cfg0.N) : t.val < 8 := lt_of_lt_of_eq t.isLt (by decide +kernel)

/-- The residual and the rows of the input by the columns of the weights. -/
def out (x : S2048x5632.Idx → EReal) (w : S5632x2048.Idx → EReal) (z : S2048x2048.Idx → EReal) (r : Fin 2048) (n : Fin 2048) : EReal :=
  z (ix2 r n) + ∑ s : Fin 5632, x (ix2 r s) * w (ix2 s n)

variable (m : (ℓ : Loc nD τ sig) → Buf (Elt Ideal) ℓ)

theorem blk_0 (c : Dev nD) (t : Fin cfg0.N) (a : Fin 1024) (s : Fin 5632) : (iblk m c 0 t : S1024x5632.Idx → EReal) (ix2 a s)
    = (m ((c.tc : Thread nD τ).loc main_arg0) : S2048x5632.Idx → EReal) (ix2 ⟨1024 * (t.val / 4) + a, by have := lt_n t; omega⟩ s) := by
  have := lt_n t
  blk_ext! [iblk, V, (idx t).1]

theorem blk_1 (c : Dev nD) (t : Fin cfg0.N) (s : Fin 5632) (b : Fin 512) : (iblk m c 1 t : S5632x512.Idx → EReal) (ix2 s b)
    = (m ((c.tc : Thread nD τ).loc main_arg1) : S5632x2048.Idx → EReal) (ix2 s ⟨512 * (t.val % 4) + b, by have := lt_n t; omega⟩) := by
  have := lt_n t
  blk_ext! [iblk, V, (idx t).2.1]

theorem blk_2 (c : Dev nD) (t : Fin cfg0.N) (a : Fin 1024) (b : Fin 512) : (iblk m c 2 t : S1024x512.Idx → EReal) (ix2 a b)
    = (m ((c.tc : Thread nD τ).loc main_arg2) : S2048x2048.Idx → EReal) (ix2 ⟨1024 * (t.val / 4) + a, by have := lt_n t; omega⟩ ⟨512 * (t.val % 4) + b, by have := lt_n t; omega⟩) := by
  have := lt_n t
  blk_ext! [iblk, V, (idx t).2.2.1]

theorem store (x0 : Vec Ideal S1024x5632 .bf16) (x1 : Vec Ideal S5632x512 .bf16) (x2 : Vec Ideal S1024x512 .f32) : out0_3 x0 x1 x2 = k0_pay1 x0 x1 x2 := by
  unfold out0_3
  rw [View.canon_cons_unit_lit _ _ _ (by decide), View.ld_unit_lit _ _ (by decide), View.ld_unit_lit _ _ (by decide), View.ld_unit_lit _ _ (by decide)]

theorem point (x0 : Vec Ideal S1024x5632 .bf16) (x1 : Vec Ideal S5632x512 .bf16) (x2 : Vec Ideal S1024x512 .f32) (a : Fin 1024) (b : Fin 512) : (k0_pay1 x0 x1 x2 : S1024x512.Idx → EReal) (ix2 a b)
    = (x2 : S1024x512.Idx → EReal) (ix2 a b) + ∑ s : Fin 5632, (x0 : S1024x5632.Idx → EReal) (ix2 a s) * (x1 : S5632x512.Idx → EReal) (ix2 s b) := by
  pointwise [k0_pay1]
  exact add_comm _ _

theorem final (c : Dev nD) : (dats m 0 c).arrAt 3 cfg0.N = fun i : S2048x2048.Idx =>
    out (m ((c.tc : Thread nD τ).loc main_arg0)) (m ((c.tc : Thread nD τ).loc main_arg1)) (m ((c.tc : Thread nD τ).loc main_arg2)) (i 0) (i 1) := by
  refine (dats m 0 c).arrAt_eq_of_covers 3 _ (by decide +kernel) fun t hf y => ?_
  have ht := lt_n t
  have io := (idx t).2.2.2
  have hy0 : (y 0).val < 1024 := (y 0).isLt
  have hy1 : (y 1).val < 512 := (y 1).isLt
  rw [after0_3, store]
  blk_simp [io, out]
  refine (congrArg (k0_pay1 (iblk m c 0 t) (iblk m c 1 t) (iblk m c 2 t)) (show y = @ix2 1024 512 (y 0) (y 1) from by funext k; fin_cases k <;> rfl)).trans ?_
  exact (point _ _ _ _ _).trans (congrArg₂ (· + ·) ((blk_2 m c t (y 0) (y 1)).trans (by
    blk_ext [io]))
    (Finset.sum_congr rfl fun s _ => congrArg₂ (· * ·) ((blk_0 m c t (y 0) s).trans (by
    blk_ext [io]))
    ((blk_1 m c t s (y 1)).trans (by
    blk_ext [io]))))

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = (fun i : S2048x2048.Idx =>
        out (m ((c.tc : Thread nD τ).loc main_arg0)) (m ((c.tc : Thread nD τ).loc main_arg1)) (m ((c.tc : Thread nD τ).loc main_arg2)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun r h c => ⟨(h c).1.trans (final m c), (h c).2⟩) (Value.run_blocks (F := Ideal) m ρ)

/-- The call leaves what the reference computes. -/
theorem algebraic : Cert.algebraic_DownMmIdeal_DownMmRefIdeal := fun m ρ m' ρ' _ hm =>
  ⟨_, run m ρ, (θ_run _ _ _).mono (fun r h c => ⟨(h c).1.trans (by
      rw [(hm c).1, (hm c).2.1, (hm c).2.2]
      funext i
      have h0 : (i 0).val < 2048 := (i 0).isLt
      have h1 : (i 1).val < 2048 := (i 1).isLt
      rw [show i = @ix2 2048 2048 (i 0) (i 1) from by funext k; fin_cases k <;> rfl]
      pointwise [out]), (h c).2⟩) (Cert.DownMmRefIdeal.Value.run (F := Ideal) m' ρ')⟩

/-- The printed program and its idealization have one body table: nothing was rewritten. -/
theorem defs₀_eq : Cert.DownMm.defs₀ (F := Bits) = Cert.DownMmIdeal.defs₀ (F := Bits) := by
  unfold Cert.DownMm.defs₀ Cert.DownMmIdeal.defs₀
  refine congrArg (Defs.onTc (nD := nD) (τ := τ) (sig := sig) (Val := Elt Bits) (Λ := Λ₀)) ?_
  funext l a
  match l, a with
  | 0, (t, s) => rfl
  | ⟨_ + 1, h⟩, _ => exact absurd h (Nat.not_lt.2 (Nat.le_add_left _ _))

theorem defs_eq : Cert.DownMm.defs (F := Bits) = Cert.DownMmIdeal.defs (F := Bits) := by
  unfold Cert.DownMm.defs Cert.DownMmIdeal.defs
  rw [defs₀_eq]; rfl

theorem frame : Cert.quiescent_DownMm := fun m ρ _ => by
  rw [defs_eq]
  exact Cert.DownMmIdeal.Gen.frame (F := Bits) m ρ

theorem frameIdeal : Cert.quiescent_DownMmIdeal := fun m ρ _ => Cert.DownMmIdeal.Gen.frame (F := Ideal) m ρ

theorem frameReference : Cert.quiescent_DownMmRefIdeal := fun m ρ _ =>
  (θ_run _ _ _).mono (fun r h => ⟨fun c => (h c).2, sem_eq_zero_of_no_sems (by decide) r.2⟩)
    (Cert.DownMmRefIdeal.Value.run (F := Ideal) m ρ)

end Cert.DownMmIdeal.Product

end
-- ==== Proof.Products.DownDx.lean ====
module

public import proofs.«01_k».proof.Defs
public import proofs.«01_k».proof.Proof.Gen.DownDx
public import proofs.«01_k».proof.Proof.Gen.DownDxIdeal.Value
public import proofs.«01_k».proof.Proof.Gen.DownDxRefIdeal.Run
public import Idealize.ShloMosaic.Lib.Pointwise
public import Idealize.ShloMosaic.Lib.Pipeline.ValueKit

/-!
The gradient of the down-projection's input.
-/

@[expose] public section

set_option maxRecDepth 16384

noncomputable section

namespace Cert.DownDxIdeal.Product

open Cert.DownDxIdeal Cert.DownDxIdeal.Gen
open Idealize.ShloMosaic Idealize.ShloMosaic.TcCoe
open Idealize.SL Idealize.SL.Sem

/-! ### Where a point's blocks lie -/

theorem idx : ∀ t : Fin grid0.N, win0_0.index t = ![t.val / 11, 0] ∧ win0_1.index t = ![t.val % 11, 0] ∧ win0_2.index t = ![t.val / 11, t.val % 11] := by decide +kernel

theorem lt_n (t : Fin cfg0.N) : t.val < 22 := lt_of_lt_of_eq t.isLt (by decide +kernel)

/-- The rows of the incoming gradient by the rows of the weights. -/
def out (x : S2048x2048.Idx → EReal) (w : S5632x2048.Idx → EReal) (r : Fin 2048) (n : Fin 5632) : EReal :=
  ∑ s : Fin 2048, x (ix2 r s) * w (ix2 n s)

variable (m : (ℓ : Loc nD τ sig) → Buf (Elt Ideal) ℓ)

theorem blk_0 (c : Dev nD) (t : Fin cfg0.N) (a : Fin 1024) (s : Fin 2048) : (iblk m c 0 t : S1024x2048.Idx → EReal) (ix2 a s)
    = (m ((c.tc : Thread nD τ).loc main_arg0) : S2048x2048.Idx → EReal) (ix2 ⟨1024 * (t.val / 11) + a, by have := lt_n t; omega⟩ s) := by
  have := lt_n t
  blk_ext! [iblk, V, (idx t).1]

theorem blk_1 (c : Dev nD) (t : Fin cfg0.N) (b : Fin 512) (s : Fin 2048) : (iblk m c 1 t : S512x2048.Idx → EReal) (ix2 b s)
    = (m ((c.tc : Thread nD τ).loc main_arg1) : S5632x2048.Idx → EReal) (ix2 ⟨512 * (t.val % 11) + b, by have := lt_n t; omega⟩ s) := by
  have := lt_n t
  blk_ext! [iblk, V, (idx t).2.1]

theorem store (x0 : Vec Ideal S1024x2048 .bf16) (x1 : Vec Ideal S512x2048 .bf16) : out0_2 x0 x1 = k0_pay1 x0 x1 := by
  unfold out0_2
  rw [View.canon_cons_unit_lit _ _ _ (by decide), View.ld_unit_lit _ _ (by decide), View.ld_unit_lit _ _ (by decide)]

theorem point (x0 : Vec Ideal S1024x2048 .bf16) (x1 : Vec Ideal S512x2048 .bf16) (a : Fin 1024) (b : Fin 512) : (k0_pay1 x0 x1 : S1024x512.Idx → EReal) (ix2 a b)
    = ∑ s : Fin 2048, (x0 : S1024x2048.Idx → EReal) (ix2 a s) * (x1 : S512x2048.Idx → EReal) (ix2 b s) := by
  pointwise [k0_pay1]

theorem final (c : Dev nD) : (dats m 0 c).arrAt 2 cfg0.N = fun i : S2048x5632.Idx =>
    out (m ((c.tc : Thread nD τ).loc main_arg0)) (m ((c.tc : Thread nD τ).loc main_arg1)) (i 0) (i 1) := by
  refine (dats m 0 c).arrAt_eq_of_covers 2 _ (by decide +kernel) fun t hf y => ?_
  have ht := lt_n t
  have io := (idx t).2.2
  have hy0 : (y 0).val < 1024 := (y 0).isLt
  have hy1 : (y 1).val < 512 := (y 1).isLt
  rw [after0_2, store]
  blk_simp [io, out]
  refine (congrArg (k0_pay1 (iblk m c 0 t) (iblk m c 1 t)) (show y = @ix2 1024 512 (y 0) (y 1) from by funext k; fin_cases k <;> rfl)).trans ?_
  exact (point _ _ _ _).trans (Finset.sum_congr rfl fun s _ => congrArg₂ (· * ·) ((blk_0 m c t (y 0) s).trans (by
    blk_ext [io]))
    ((blk_1 m c t (y 1) s).trans (by
    blk_ext [io])))

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = (fun i : S2048x5632.Idx =>
        out (m ((c.tc : Thread nD τ).loc main_arg0)) (m ((c.tc : Thread nD τ).loc main_arg1)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨(h c).1.trans (final m c), (h c).2⟩) (Value.run_blocks (F := Ideal) m ρ)

/-- The call leaves what the reference computes. -/
theorem algebraic : Cert.algebraic_DownDxIdeal_DownDxRefIdeal := fun m ρ m' ρ' _ hm =>
  ⟨_, run m ρ, (θ_run _ _ _).mono (fun r h c => ⟨(h c).1.trans (by
      rw [(hm c).1, (hm c).2]
      funext i
      have h0 : (i 0).val < 2048 := (i 0).isLt
      have h1 : (i 1).val < 5632 := (i 1).isLt
      rw [show i = @ix2 2048 5632 (i 0) (i 1) from by funext k; fin_cases k <;> rfl]
      pointwise [out]), (h c).2⟩) (Cert.DownDxRefIdeal.Value.run (F := Ideal) m' ρ')⟩

/-- The printed program and its idealization have one body table: nothing was rewritten. -/
theorem defs₀_eq : Cert.DownDx.defs₀ (F := Bits) = Cert.DownDxIdeal.defs₀ (F := Bits) := by
  unfold Cert.DownDx.defs₀ Cert.DownDxIdeal.defs₀
  refine congrArg (Defs.onTc (nD := nD) (τ := τ) (sig := sig) (Val := Elt Bits) (Λ := Λ₀)) ?_
  funext l a
  match l, a with
  | 0, (t, s) => rfl
  | ⟨_ + 1, h⟩, _ => exact absurd h (Nat.not_lt.2 (Nat.le_add_left _ _))

theorem defs_eq : Cert.DownDx.defs (F := Bits) = Cert.DownDxIdeal.defs (F := Bits) := by
  unfold Cert.DownDx.defs Cert.DownDxIdeal.defs
  rw [defs₀_eq]; rfl

theorem frame : Cert.quiescent_DownDx := fun m ρ _ => by
  rw [defs_eq]
  exact Cert.DownDxIdeal.Gen.frame (F := Bits) m ρ

theorem frameIdeal : Cert.quiescent_DownDxIdeal := fun m ρ _ => Cert.DownDxIdeal.Gen.frame (F := Ideal) m ρ

theorem frameReference : Cert.quiescent_DownDxRefIdeal := fun m ρ _ =>
  (θ_run _ _ _).mono (fun r h => ⟨fun c => (h c).2, sem_eq_zero_of_no_sems (by decide) r.2⟩)
    (Cert.DownDxRefIdeal.Value.run (F := Ideal) m ρ)

end Cert.DownDxIdeal.Product

end
-- ==== Proof.Products.DownDw.lean ====
module

public import proofs.«01_k».proof.Defs
public import proofs.«01_k».proof.Proof.Gen.DownDw
public import proofs.«01_k».proof.Proof.Gen.DownDwIdeal.Value
public import proofs.«01_k».proof.Proof.Gen.DownDwRefIdeal.Run
public import Idealize.ShloMosaic.Lib.Pointwise
public import Idealize.ShloMosaic.Lib.Pipeline.ValueKit

/-!
The gradient of the down-projection's weights.
-/

@[expose] public section

set_option maxRecDepth 16384

noncomputable section

namespace Cert.DownDwIdeal.Product

open Cert.DownDwIdeal Cert.DownDwIdeal.Gen
open Idealize.ShloMosaic Idealize.ShloMosaic.TcCoe
open Idealize.SL Idealize.SL.Sem

/-! ### Where a point's blocks lie -/

theorem idx : ∀ t : Fin grid0.N, win0_0.index t = ![0, t.val] ∧ win0_1.index t = ![0, 0] ∧ win0_2.index t = ![t.val, 0] := by decide +kernel

theorem lt_n (t : Fin cfg0.N) : t.val < 11 := lt_of_lt_of_eq t.isLt (by decide +kernel)

/-- The columns of the input by the columns of the incoming gradient. -/
def out (x : S2048x5632.Idx → EReal) (dy : S2048x2048.Idx → EReal) (r : Fin 5632) (n : Fin 2048) : EReal :=
  ∑ s : Fin 2048, x (ix2 s r) * dy (ix2 s n)

variable (m : (ℓ : Loc nD τ sig) → Buf (Elt Ideal) ℓ)

theorem blk_0 (c : Dev nD) (t : Fin cfg0.N) (s : Fin 2048) (a : Fin 512) : (iblk m c 0 t : S2048x512.Idx → EReal) (ix2 s a)
    = (m ((c.tc : Thread nD τ).loc main_arg0) : S2048x5632.Idx → EReal) (ix2 s ⟨512 * t.val + a, by have := lt_n t; omega⟩) := by
  have := lt_n t
  blk_ext! [iblk, V, (idx t).1]

theorem blk_1 (c : Dev nD) (t : Fin cfg0.N) (s : Fin 2048) (b : Fin 2048) : (iblk m c 1 t : S2048x2048.Idx → EReal) (ix2 s b)
    = (m ((c.tc : Thread nD τ).loc main_arg1) : S2048x2048.Idx → EReal) (ix2 s b) := by
  have := lt_n t
  blk_ext! [iblk, V, (idx t).2.1]

theorem store (x0 : Vec Ideal S2048x512 .bf16) (x1 : Vec Ideal S2048x2048 .bf16) : out0_2 x0 x1 = k0_pay1 x1 x0 := by
  unfold out0_2
  rw [View.canon_cons_unit_lit _ _ _ (by decide), View.ld_unit_lit _ _ (by decide), View.ld_unit_lit _ _ (by decide)]

theorem point (x0 : Vec Ideal S2048x512 .bf16) (x1 : Vec Ideal S2048x2048 .bf16) (a : Fin 512) (b : Fin 2048) : (k0_pay1 x1 x0 : S512x2048.Idx → EReal) (ix2 a b)
    = ∑ s : Fin 2048, (x0 : S2048x512.Idx → EReal) (ix2 s a) * (x1 : S2048x2048.Idx → EReal) (ix2 s b) := by
  pointwise [k0_pay1]

theorem final (c : Dev nD) : (dats m 0 c).arrAt 2 cfg0.N = fun i : S5632x2048.Idx =>
    out (m ((c.tc : Thread nD τ).loc main_arg0)) (m ((c.tc : Thread nD τ).loc main_arg1)) (i 0) (i 1) := by
  refine (dats m 0 c).arrAt_eq_of_covers 2 _ (by decide +kernel) fun t hf y => ?_
  have ht := lt_n t
  have io := (idx t).2.2
  have hy0 : (y 0).val < 512 := (y 0).isLt
  have hy1 : (y 1).val < 2048 := (y 1).isLt
  rw [after0_2, store]
  blk_simp [io, out]
  refine (congrArg (k0_pay1 (iblk m c 1 t) (iblk m c 0 t)) (show y = @ix2 512 2048 (y 0) (y 1) from by funext k; fin_cases k <;> rfl)).trans ?_
  exact (point _ _ _ _).trans (Finset.sum_congr rfl fun s _ => congrArg₂ (· * ·) ((blk_0 m c t s (y 0)).trans (by
    blk_ext [io]))
    ((blk_1 m c t s (y 1)).trans (by
    blk_ext [io])))

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = (fun i : S5632x2048.Idx =>
        out (m ((c.tc : Thread nD τ).loc main_arg0)) (m ((c.tc : Thread nD τ).loc main_arg1)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨(h c).1.trans (final m c), (h c).2⟩) (Value.run_blocks (F := Ideal) m ρ)

/-- The call leaves what the reference computes. -/
theorem algebraic : Cert.algebraic_DownDwIdeal_DownDwRefIdeal := fun m ρ m' ρ' _ hm =>
  ⟨_, run m ρ, (θ_run _ _ _).mono (fun r h c => ⟨(h c).1.trans (by
      rw [(hm c).1, (hm c).2]
      funext i
      have h0 : (i 0).val < 5632 := (i 0).isLt
      have h1 : (i 1).val < 2048 := (i 1).isLt
      rw [show i = @ix2 5632 2048 (i 0) (i 1) from by funext k; fin_cases k <;> rfl]
      pointwise [out]
      refine Finset.sum_congr rfl fun s _ => (mul_comm _ _).trans ?_
      refine congrArg₂ (· * ·) ?_ ?_ <;> blk_ext), (h c).2⟩) (Cert.DownDwRefIdeal.Value.run (F := Ideal) m' ρ')⟩

/-- The printed program and its idealization have one body table: nothing was rewritten. -/
theorem defs₀_eq : Cert.DownDw.defs₀ (F := Bits) = Cert.DownDwIdeal.defs₀ (F := Bits) := by
  unfold Cert.DownDw.defs₀ Cert.DownDwIdeal.defs₀
  refine congrArg (Defs.onTc (nD := nD) (τ := τ) (sig := sig) (Val := Elt Bits) (Λ := Λ₀)) ?_
  funext l a
  match l, a with
  | 0, (t, s) => rfl
  | ⟨_ + 1, h⟩, _ => exact absurd h (Nat.not_lt.2 (Nat.le_add_left _ _))

theorem defs_eq : Cert.DownDw.defs (F := Bits) = Cert.DownDwIdeal.defs (F := Bits) := by
  unfold Cert.DownDw.defs Cert.DownDwIdeal.defs
  rw [defs₀_eq]; rfl

theorem frame : Cert.quiescent_DownDw := fun m ρ _ => by
  rw [defs_eq]
  exact Cert.DownDwIdeal.Gen.frame (F := Bits) m ρ

theorem frameIdeal : Cert.quiescent_DownDwIdeal := fun m ρ _ => Cert.DownDwIdeal.Gen.frame (F := Ideal) m ρ

theorem frameReference : Cert.quiescent_DownDwRefIdeal := fun m ρ _ =>
  (θ_run _ _ _).mono (fun r h => ⟨fun c => (h c).2, sem_eq_zero_of_no_sems (by decide) r.2⟩)
    (Cert.DownDwRefIdeal.Value.run (F := Ideal) m ρ)

end Cert.DownDwIdeal.Product

end
-- ==== Proof.Products.UpDx.lean ====
module

public import proofs.«01_k».proof.Defs
public import proofs.«01_k».proof.Proof.Gen.UpDx
public import proofs.«01_k».proof.Proof.Gen.UpDxIdeal.Value
public import proofs.«01_k».proof.Proof.Gen.UpDxRefIdeal.Run
public import Idealize.ShloMosaic.Lib.Pointwise
public import Idealize.ShloMosaic.Lib.Pipeline.ValueKit
public import Idealize.ShloMosaic.Lib.Pipeline.ReadBack

/-!
The gradient of the feed-forward layer's input: the eight devices' columns, one after the other, added up in a buffer that the
kernel keeps between points and writes out at the last of them.
-/

@[expose] public section

set_option maxRecDepth 16384

noncomputable section

namespace Cert.UpDxIdeal.Product

open Cert.UpDxIdeal Cert.UpDxIdeal.Gen
open Idealize.ShloMosaic Idealize.ShloMosaic.TcCoe
open Idealize.SL Idealize.SL.Sem

/-! ### Where a point's blocks lie -/

theorem idx : ∀ t : Fin grid0.N, win0_0.index t = ![2 * (t.val % 8 / 4) + t.val / 8, t.val % 4] ∧ win0_1.index t = ![t.val % 8, 0] ∧ win0_2.index t = ![t.val / 8, 0] := by decide +kernel

theorem lt_n (t : Fin cfg0.N) : t.val < 16 := lt_of_lt_of_eq t.isLt (by decide +kernel)

/-- Column `l` of the two halves' gradients meets column `l % 1408` of the weights that device `l / 1408` owns. -/
def out (du : S2x2048x5632.Idx → EReal) (w : S16384x1408.Idx → EReal) (r : Fin 2048) (k : Fin 2048) : EReal :=
  ∑ l : Fin 11264, du (ix3 ⟨l / 5632, by omega⟩ r ⟨l % 5632, by omega⟩) * w (ix2 ⟨l / 1408 * 2048 + k, by omega⟩ ⟨l % 1408, by omega⟩)

variable (m : (ℓ : Loc nD τ sig) → Buf (Elt Ideal) ℓ)

theorem blk_0 (c : Dev nD) (t : Fin cfg0.N) (a : Fin 1024) (s : Fin 1408) : (iblk m c 0 t : S1024x1408.Idx → EReal) (ix2 a s)
    = (m ((c.tc : Thread nD τ).loc main_arg0) : S2x2048x5632.Idx → EReal)
      (ix3 ⟨t.val % 8 / 4, by omega⟩ ⟨1024 * (t.val / 8) + a, by have := lt_n t; omega⟩ ⟨1408 * (t.val % 4) + s, by omega⟩) := by
  have := lt_n t
  blk_ext! [iblk, V, (idx t).1]

theorem blk_1 (c : Dev nD) (t : Fin cfg0.N) (b : Fin 2048) (s : Fin 1408) : (iblk m c 1 t : S2048x1408.Idx → EReal) (ix2 b s)
    = (m ((c.tc : Thread nD τ).loc main_arg1) : S16384x1408.Idx → EReal) (ix2 ⟨2048 * (t.val % 8) + b, by omega⟩ s) := by
  have := lt_n t
  blk_ext! [iblk, V, (idx t).2.1]

/-- What one point adds. -/
theorem point (x0 : Vec Ideal S1024x1408 .bf16) (x1 : Vec Ideal S2048x1408 .bf16) (a : Fin 1024) (b : Fin 2048) : (k0_pay2 x0 x1 : S1024x2048.Idx → EReal) (ix2 a b)
    = ∑ s : Fin 1408, (x0 : S1024x1408.Idx → EReal) (ix2 a s) * (x1 : S2048x1408.Idx → EReal) (ix2 b s) := by
  pointwise [k0_pay2, k0_pay1]

theorem point_add (x0 : Vec Ideal S1024x1408 .bf16) (x1 : Vec Ideal S2048x1408 .bf16) (acc : Vec Ideal S1024x2048 .f32) (j : S1024x2048.Idx) :
    (k0_pay3 x0 x1 acc : S1024x2048.Idx → EReal) j = acc j + (k0_pay2 x0 x1 : S1024x2048.Idx → EReal) j := by
  pointwise [k0_pay3, k0_pay2]

theorem kept_first (c : Dev nD) (t : Fin cfg0.N) (h : t.val % 8 = 0) : (outsAt0 m c t.val t.isLt).2 = k0_pay2 (iblk m c 0 t) (iblk m c 1 t) := by
  rw [outsAt0_A m c t h (by omega) (by omega)]
  frame_out

theorem kept_later (c : Dev nD) (t : Fin cfg0.N) (h : ¬t.val % 8 = 0) : (outsAt0 m c t.val t.isLt).2
    = k0_pay3 (iblk m c 0 t) (iblk m c 1 t) (outsAt0 m c (t.val - 1) (Nat.lt_of_le_of_lt (Nat.sub_le _ _) t.isLt)).2 := by
  by_cases h7 : t.val % 8 = 7
  · rw [outsAt0_C m c t h (by omega) h7]
    frame_out
    simp only [read_unread_whole]
  · rw [outsAt0_B m c t h (by omega) h7]
    frame_out
    simp only [read_unread_whole]

theorem written (c : Dev nD) (t : Fin cfg0.N) (h : t.val % 8 = 7) : (outsAt0 m c t.val t.isLt).1 = k0_pay4 (outsAt0 m c t.val t.isLt).2 := by
  rw [kept_later m c t (by omega), outsAt0_C m c t (by omega) (by omega) h]
  frame_out
  simp only [read_unread_whole]

theorem point_lt (t : Fin cfg0.N) (s : Fin 8) : 8 * (t.val / 8) + s.val < cfg0.N := by
  have := lt_n t
  have e : cfg0.N = 16 := by decide +kernel
  omega

/-- After the last point of a run the buffer holds the sum of what its points add. -/
theorem kept (c : Dev nD) (t : Fin cfg0.N) (h : t.val % 8 = 7) (j : S1024x2048.Idx) : ((outsAt0 m c t.val t.isLt).2 : S1024x2048.Idx → EReal) j
    = 0 + ∑ s : Fin 8, (k0_pay2 (iblk m c 0 ⟨8 * (t.val / 8) + s, point_lt t s⟩) (iblk m c 1 ⟨8 * (t.val / 8) + s, point_lt t s⟩) : S1024x2048.Idx → EReal) j :=
  Pipeline.eq_sum_fin_of_reset_step_apply_of_flush (fun n h => ((outsAt0 m c n h).2 : S1024x2048.Idx → EReal)) 8 (fun _ => 0)
    (fun p : Fin cfg0.N => (k0_pay2 (iblk m c 0 p) (iblk m c 1 p) : S1024x2048.Idx → EReal))
    (fun t h j => by rw [kept_first m c t h, zero_add]) (fun t h j => by rw [kept_later m c t h]; exact point_add _ _ _ j) t h j

theorem final (c : Dev nD) : (dats m 0 c).arrAt 2 cfg0.N = fun i : S2048x2048.Idx =>
    out (m ((c.tc : Thread nD τ).loc main_arg0)) (m ((c.tc : Thread nD τ).loc main_arg1)) (i 0) (i 1) := by
  refine (dats m 0 c).arrAt_eq_of_covers 2 _ (by decide +kernel) fun t hf y => ?_
  have ht := lt_n t
  have h7 : t.val % 8 = 7 := (flush0_2 t).mp hf
  have io := (idx t).2.2
  have hy0 : (y 0).val < 1024 := (y 0).isLt
  have hy1 : (y 1).val < 2048 := (y 1).isLt
  rw [after0_2, written m c t h7]
  blk_simp [io, out]
  refine (show (k0_pay4 (outsAt0 m c t.val t.isLt).2 : S1024x2048.Idx → EReal) y = (outsAt0 m c t.val t.isLt).2 (@ix2 1024 2048 (y 0) (y 1)) from ?_).trans ?_
  · rw [show y = @ix2 1024 2048 (y 0) (y 1) from by funext k; fin_cases k <;> rfl]
    pointwise [k0_pay4]
  refine (kept m c t h7 _).trans ((zero_add _).trans ?_)
  refine (Finset.sum_congr rfl fun s _ => point _ _ _ _).trans (Fin.sum_mul_add_congr fun s k hl => ?_)
  have hs := s.isLt
  have hk := k.isLt
  refine congrArg₂ (· * ·) ((blk_0 m c _ _ _).trans ?_) ((blk_1 m c _ _ _).trans ?_)
  · blk_ext [io]
  · blk_ext [io]

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v1) = (fun i : S2048x2048.Idx =>
        out (m ((c.tc : Thread nD τ).loc main_arg0)) (m ((c.tc : Thread nD τ).loc main_arg1)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨(h c).1.trans (final m c), (h c).2⟩) (Value.run_blocks (F := Ideal) m ρ)

/-- The two halves side by side, at an index. -/
theorem halves_at (du : Vec Ideal S2x2048x5632 .bf16) (r : Fin 2048) (l : Fin 11264) :
    (concatenate Cert.UpDxRefIdeal.S2048x11264 1
        [⟨Cert.UpDxRefIdeal.S2048x5632, (shapeCast _ (extractStridedSlice Cert.UpDxRefIdeal.S1x2048x5632 ![0, 0, 0] du Cert.UpDxRefIdeal.Gen.slices_S2x2048x5632_S1x2048x5632_0_0_0)
          Cert.UpDxRefIdeal.Gen.shapeCasts_S1x2048x5632_S2048x5632)⟩,
        ⟨Cert.UpDxRefIdeal.S2048x5632, (shapeCast _ (extractStridedSlice Cert.UpDxRefIdeal.S1x2048x5632 ![1, 0, 0] du Cert.UpDxRefIdeal.Gen.slices_S2x2048x5632_S1x2048x5632_1_0_0)
          Cert.UpDxRefIdeal.Gen.shapeCasts_S1x2048x5632_S2048x5632)⟩] Cert.UpDxRefIdeal.Gen.concatenates_S2048x5632_S2048x5632_S2048x11264_d1 : Cert.UpDxRefIdeal.S2048x11264.Idx → EReal) (ix2 r l)
    = (du : S2x2048x5632.Idx → EReal) (ix3 ⟨l / 5632, by omega⟩ r ⟨l % 5632, by omega⟩) := by
  have hl := l.isLt
  pointwise
  repeat' split
  all_goals blk_ext

/-- The reference, at an index. -/
theorem reference_at (du : Vec Ideal S2x2048x5632 .bf16) (w : Vec Ideal S16384x1408 .bf16) (i : S2048x2048.Idx) :
    (truncf .bf16 (Host.dotGeneral (F := Ideal) (φ₁ := .f32) (φ₂ := .f32) Cert.UpDxRefIdeal.dot_S2048x11264_S2048x11264_S2048x2048_1_1_0_0_n_n none
      (extf .f32 (concatenate Cert.UpDxRefIdeal.S2048x11264 1
        [⟨Cert.UpDxRefIdeal.S2048x5632, (shapeCast _ (extractStridedSlice Cert.UpDxRefIdeal.S1x2048x5632 ![0, 0, 0] du Cert.UpDxRefIdeal.Gen.slices_S2x2048x5632_S1x2048x5632_0_0_0)
          Cert.UpDxRefIdeal.Gen.shapeCasts_S1x2048x5632_S2048x5632)⟩,
        ⟨Cert.UpDxRefIdeal.S2048x5632, (shapeCast _ (extractStridedSlice Cert.UpDxRefIdeal.S1x2048x5632 ![1, 0, 0] du Cert.UpDxRefIdeal.Gen.slices_S2x2048x5632_S1x2048x5632_1_0_0)
          Cert.UpDxRefIdeal.Gen.shapeCasts_S1x2048x5632_S2048x5632)⟩] Cert.UpDxRefIdeal.Gen.concatenates_S2048x5632_S2048x5632_S2048x11264_d1) Cert.UpDxRefIdeal.Gen.bitsLt_bf16_f32)
      (extf .f32 (shapeCast _ (transpose Cert.UpDxRefIdeal.S2048x8x1408 [1, 0, 2] (shapeCast _ w Cert.UpDxRefIdeal.Gen.shapeCasts_S16384x1408_S8x2048x1408)
        Cert.UpDxRefIdeal.Gen.transposes_S8x2048x1408_S2048x8x1408_1_0_2) Cert.UpDxRefIdeal.Gen.shapeCasts_S2048x8x1408_S2048x11264) Cert.UpDxRefIdeal.Gen.bitsLt_bf16_f32))
      Cert.UpDxRefIdeal.Gen.bitsLt_bf16_f32 : S2048x2048.Idx → EReal) i = out du w (i 0) (i 1) := by
  rw [show i = @ix2 2048 2048 (i 0) (i 1) from by funext k; fin_cases k <;> rfl]
  pointwise [out, halves_at]

/-- The call leaves what the reference computes. -/
theorem algebraic : Cert.algebraic_UpDxIdeal_UpDxRefIdeal := fun m ρ m' ρ' _ hm =>
  ⟨_, run m ρ, (θ_run _ _ _).mono (fun r h c => ⟨(h c).1.trans (by
      rw [(hm c).1, (hm c).2]
      funext i
      exact reference_at _ _ i), (h c).2⟩) (Cert.UpDxRefIdeal.Value.run (F := Ideal) m' ρ')⟩

/-- The printed program and its idealization have one body table: nothing was rewritten. -/
theorem defs₀_eq : Cert.UpDx.defs₀ (F := Bits) = Cert.UpDxIdeal.defs₀ (F := Bits) := by
  unfold Cert.UpDx.defs₀ Cert.UpDxIdeal.defs₀
  refine congrArg (Defs.onTc (nD := nD) (τ := τ) (sig := sig) (Val := Elt Bits) (Λ := Λ₀)) ?_
  funext l a
  match l, a with
  | 0, (t, s) => rfl
  | ⟨_ + 1, h⟩, _ => exact absurd h (Nat.not_lt.2 (Nat.le_add_left _ _))

theorem defs_eq : Cert.UpDx.defs (F := Bits) = Cert.UpDxIdeal.defs (F := Bits) := by
  unfold Cert.UpDx.defs Cert.UpDxIdeal.defs
  rw [defs₀_eq]; rfl

theorem frame : Cert.quiescent_UpDx := fun m ρ _ => by
  rw [defs_eq]
  exact Cert.UpDxIdeal.Gen.frame (F := Bits) m ρ

theorem frameIdeal : Cert.quiescent_UpDxIdeal := fun m ρ _ => Cert.UpDxIdeal.Gen.frame (F := Ideal) m ρ

theorem frameReference : Cert.quiescent_UpDxRefIdeal := fun m ρ _ =>
  (θ_run _ _ _).mono (fun r h => ⟨fun c => (h c).2, sem_eq_zero_of_no_sems (by decide) r.2⟩)
    (Cert.UpDxRefIdeal.Value.run (F := Ideal) m ρ)

end Cert.UpDxIdeal.Product

end
-- ==== Proof.Products.In0Mm.lean ====
module

public import proofs.«01_k».proof.Defs
public import proofs.«01_k».proof.Proof.Gen.In0Mm
public import proofs.«01_k».proof.Proof.Gen.In0MmIdeal.Value
public import proofs.«01_k».proof.Proof.Gen.In0MmRefIdeal.Run
public import Idealize.ShloMosaic.Lib.Pointwise
public import Idealize.ShloMosaic.Lib.Pipeline.ValueKit

/-!
The first mixer's input projection: one device's columns after the other's.
-/

@[expose] public section

set_option maxRecDepth 16384

noncomputable section

namespace Cert.In0MmIdeal.Product

open Cert.In0MmIdeal Cert.In0MmIdeal.Gen
open Idealize.ShloMosaic Idealize.ShloMosaic.TcCoe
open Idealize.SL Idealize.SL.Sem

/-! ### Where a point's blocks lie -/

theorem idx : ∀ t : Fin grid0.N, win0_0.index t = ![t.val / 8, 0] ∧ win0_1.index t = ![t.val % 8, 0] ∧ win0_2.index t = ![t.val / 8, t.val % 8] := by decide +kernel

theorem lt_n (t : Fin cfg0.N) : t.val < 16 := lt_of_lt_of_eq t.isLt (by decide +kernel)

/-- Column `768 j + n` of the result uses column `n` of the block of weights that device `j` owns. -/
def out (x : S2048x2048.Idx → EReal) (w : S16384x768.Idx → EReal) (r : Fin 2048) (n : Fin 6144) : EReal :=
  ∑ s : Fin 2048, x (ix2 r s) * w (ix2 ⟨n / 768 * 2048 + s, by omega⟩ ⟨n % 768, by omega⟩)

variable (m : (ℓ : Loc nD τ sig) → Buf (Elt Ideal) ℓ)

theorem blk_0 (c : Dev nD) (t : Fin cfg0.N) (a : Fin 1024) (s : Fin 2048) : (iblk m c 0 t : S1024x2048.Idx → EReal) (ix2 a s)
    = (m ((c.tc : Thread nD τ).loc main_arg0) : S2048x2048.Idx → EReal) (ix2 ⟨1024 * (t.val / 8) + a, by have := lt_n t; omega⟩ s) := by
  have := lt_n t
  blk_ext! [iblk, V, (idx t).1]

theorem blk_1 (c : Dev nD) (t : Fin cfg0.N) (s : Fin 2048) (b : Fin 768) : (iblk m c 1 t : S2048x768.Idx → EReal) (ix2 s b)
    = (m ((c.tc : Thread nD τ).loc main_arg1) : S16384x768.Idx → EReal) (ix2 ⟨2048 * (t.val % 8) + s, by have := lt_n t; omega⟩ b) := by
  have := lt_n t
  blk_ext! [iblk, V, (idx t).2.1]

theorem store (x0 : Vec Ideal S1024x2048 .bf16) (x1 : Vec Ideal S2048x768 .bf16) : out0_2 x0 x1 = k0_pay1 x0 x1 := by
  unfold out0_2
  rw [View.canon_cons_unit_lit _ _ _ (by decide), View.ld_unit_lit _ _ (by decide), View.ld_unit_lit _ _ (by decide)]

theorem point (x0 : Vec Ideal S1024x2048 .bf16) (x1 : Vec Ideal S2048x768 .bf16) (a : Fin 1024) (b : Fin 768) : (k0_pay1 x0 x1 : S1024x768.Idx → EReal) (ix2 a b)
    = ∑ s : Fin 2048, (x0 : S1024x2048.Idx → EReal) (ix2 a s) * (x1 : S2048x768.Idx → EReal) (ix2 s b) := by
  pointwise [k0_pay1]

theorem final (c : Dev nD) : (dats m 0 c).arrAt 2 cfg0.N = fun i : S2048x6144.Idx =>
    out (m ((c.tc : Thread nD τ).loc main_arg0)) (m ((c.tc : Thread nD τ).loc main_arg1)) (i 0) (i 1) := by
  refine (dats m 0 c).arrAt_eq_of_covers 2 _ (by decide +kernel) fun t hf y => ?_
  have ht := lt_n t
  have io := (idx t).2.2
  have hy0 : (y 0).val < 1024 := (y 0).isLt
  have hy1 : (y 1).val < 768 := (y 1).isLt
  rw [after0_2, store]
  blk_simp [io, out]
  refine (congrArg (k0_pay1 (iblk m c 0 t) (iblk m c 1 t)) (show y = @ix2 1024 768 (y 0) (y 1) from by funext k; fin_cases k <;> rfl)).trans ?_
  exact (point _ _ _ _).trans (Finset.sum_congr rfl fun s _ => congrArg₂ (· * ·) ((blk_0 m c t (y 0) s).trans (by
    blk_ext [io]))
    ((blk_1 m c t s (y 1)).trans (by
    blk_ext [io])))

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = (fun i : S2048x6144.Idx =>
        out (m ((c.tc : Thread nD τ).loc main_arg0)) (m ((c.tc : Thread nD τ).loc main_arg1)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨(h c).1.trans (final m c), (h c).2⟩) (Value.run_blocks (F := Ideal) m ρ)

/-- The reference, at an index. -/
theorem reference_at (x : Vec Ideal S2048x2048 .bf16) (w : Vec Ideal S16384x768 .bf16) (i : S2048x6144.Idx) :
    (truncf .bf16 (Host.dotGeneral (F := Ideal) (φ₁ := .f32) (φ₂ := .f32) Cert.In0MmRefIdeal.dot_S2048x2048_S2048x6144_S2048x6144_1_0_0_1_n_n none
      (extf .f32 x Cert.In0MmRefIdeal.Gen.bitsLt_bf16_f32)
      (extf .f32 (shapeCast _ (transpose Cert.In0MmRefIdeal.S2048x8x768 [1, 0, 2] (shapeCast _ w Cert.In0MmRefIdeal.Gen.shapeCasts_S16384x768_S8x2048x768)
        Cert.In0MmRefIdeal.Gen.transposes_S8x2048x768_S2048x8x768_1_0_2) Cert.In0MmRefIdeal.Gen.shapeCasts_S2048x8x768_S2048x6144) Cert.In0MmRefIdeal.Gen.bitsLt_bf16_f32))
      Cert.In0MmRefIdeal.Gen.bitsLt_bf16_f32 : S2048x6144.Idx → EReal) i = out x w (i 0) (i 1) := by
  rw [show i = @ix2 2048 6144 (i 0) (i 1) from by funext k; fin_cases k <;> rfl]
  pointwise [out]

/-- The call leaves what the reference computes. -/
theorem algebraic : Cert.algebraic_In0MmIdeal_In0MmRefIdeal := fun m ρ m' ρ' _ hm =>
  ⟨_, run m ρ, (θ_run _ _ _).mono (fun r h c => ⟨(h c).1.trans (by
      rw [(hm c).1, (hm c).2]
      funext i
      exact reference_at _ _ i), (h c).2⟩) (Cert.In0MmRefIdeal.Value.run (F := Ideal) m' ρ')⟩

/-- The printed program and its idealization have one body table: nothing was rewritten. -/
theorem defs₀_eq : Cert.In0Mm.defs₀ (F := Bits) = Cert.In0MmIdeal.defs₀ (F := Bits) := by
  unfold Cert.In0Mm.defs₀ Cert.In0MmIdeal.defs₀
  refine congrArg (Defs.onTc (nD := nD) (τ := τ) (sig := sig) (Val := Elt Bits) (Λ := Λ₀)) ?_
  funext l a
  match l, a with
  | 0, (t, s) => rfl
  | ⟨_ + 1, h⟩, _ => exact absurd h (Nat.not_lt.2 (Nat.le_add_left _ _))

theorem defs_eq : Cert.In0Mm.defs (F := Bits) = Cert.In0MmIdeal.defs (F := Bits) := by
  unfold Cert.In0Mm.defs Cert.In0MmIdeal.defs
  rw [defs₀_eq]; rfl

theorem frame : Cert.quiescent_In0Mm := fun m ρ _ => by
  rw [defs_eq]
  exact Cert.In0MmIdeal.Gen.frame (F := Bits) m ρ

theorem frameIdeal : Cert.quiescent_In0MmIdeal := fun m ρ _ => Cert.In0MmIdeal.Gen.frame (F := Ideal) m ρ

theorem frameReference : Cert.quiescent_In0MmRefIdeal := fun m ρ _ =>
  (θ_run _ _ _).mono (fun r h => ⟨fun c => (h c).2, sem_eq_zero_of_no_sems (by decide) r.2⟩)
    (Cert.In0MmRefIdeal.Value.run (F := Ideal) m ρ)

end Cert.In0MmIdeal.Product

end
-- ==== Proof.Products.In0Dw.lean ====
module

public import proofs.«01_k».proof.Defs
public import proofs.«01_k».proof.Proof.Gen.In0Dw
public import proofs.«01_k».proof.Proof.Gen.In0DwIdeal.Value
public import proofs.«01_k».proof.Proof.Gen.In0DwRefIdeal.Run
public import Idealize.ShloMosaic.Lib.Pointwise
public import Idealize.ShloMosaic.Lib.Pipeline.ValueKit

/-!
The gradient of the first mixer's input weights, stacked by the device that owns the columns.
-/

@[expose] public section

set_option maxRecDepth 16384

noncomputable section

namespace Cert.In0DwIdeal.Product

open Cert.In0DwIdeal Cert.In0DwIdeal.Gen
open Idealize.ShloMosaic Idealize.ShloMosaic.TcCoe
open Idealize.SL Idealize.SL.Sem

/-! ### Where a point's blocks lie -/

theorem idx : ∀ t : Fin grid0.N, win0_0.index t = ![0, t.val / 8] ∧ win0_1.index t = ![(3 * (t.val % 8) + 0) / 4, (3 * (t.val % 8) + 0) % 4] ∧ win0_2.index t = ![(3 * (t.val % 8) + 1) / 4, (3 * (t.val % 8) + 1) % 4] ∧ win0_3.index t = ![(3 * (t.val % 8) + 2) / 4, (3 * (t.val % 8) + 2) % 4] ∧ win0_4.index t = ![2 * (t.val % 8) + t.val / 8, 0] := by decide +kernel

theorem lt_n (t : Fin cfg0.N) : t.val < 16 := lt_of_lt_of_eq t.isLt (by decide +kernel)

/-- Device `j` owns the columns from `768 j` on; the columns of the incoming gradient lie in six planes. -/
def out (x : S2048x2048.Idx → EReal) (dp : S6x2048x1024.Idx → EReal) (r : Fin 16384) (n : Fin 768) : EReal :=
  ∑ s : Fin 2048, x (ix2 s ⟨r % 2048, by omega⟩) * dp (ix3 ⟨(768 * (r / 2048) + n) / 1024, by omega⟩ s ⟨(768 * (r / 2048) + n) % 1024, by omega⟩)

variable (m : (ℓ : Loc nD τ sig) → Buf (Elt Ideal) ℓ)

theorem blk_0 (c : Dev nD) (t : Fin cfg0.N) (s : Fin 2048) (a : Fin 1024) : (iblk m c 0 t : S2048x1024.Idx → EReal) (ix2 s a)
    = (m ((c.tc : Thread nD τ).loc main_arg0) : S2048x2048.Idx → EReal) (ix2 s ⟨1024 * (t.val / 8) + a, by have := lt_n t; omega⟩) := by
  have := lt_n t
  blk_ext! [iblk, V, (idx t).1]

theorem blk_1 (c : Dev nD) (t : Fin cfg0.N) (s : Fin 2048) (b : Fin 256) : (iblk m c 1 t : S2048x256.Idx → EReal) (ix2 s b)
    = (m ((c.tc : Thread nD τ).loc main_arg1) : S6x2048x1024.Idx → EReal) (ix3 ⟨(3 * (t.val % 8) + 0) / 4, by have := lt_n t; omega⟩ s ⟨256 * ((3 * (t.val % 8) + 0) % 4) + b, by have := lt_n t; omega⟩) := by
  have := lt_n t
  blk_ext! [iblk, V, (idx t).2.1]

theorem blk_2 (c : Dev nD) (t : Fin cfg0.N) (s : Fin 2048) (b : Fin 256) : (iblk m c 2 t : S2048x256.Idx → EReal) (ix2 s b)
    = (m ((c.tc : Thread nD τ).loc main_arg1) : S6x2048x1024.Idx → EReal) (ix3 ⟨(3 * (t.val % 8) + 1) / 4, by have := lt_n t; omega⟩ s ⟨256 * ((3 * (t.val % 8) + 1) % 4) + b, by have := lt_n t; omega⟩) := by
  have := lt_n t
  blk_ext! [iblk, V, (idx t).2.2.1]

theorem blk_3 (c : Dev nD) (t : Fin cfg0.N) (s : Fin 2048) (b : Fin 256) : (iblk m c 3 t : S2048x256.Idx → EReal) (ix2 s b)
    = (m ((c.tc : Thread nD τ).loc main_arg1) : S6x2048x1024.Idx → EReal) (ix3 ⟨(3 * (t.val % 8) + 2) / 4, by have := lt_n t; omega⟩ s ⟨256 * ((3 * (t.val % 8) + 2) % 4) + b, by have := lt_n t; omega⟩) := by
  have := lt_n t
  blk_ext! [iblk, V, (idx t).2.2.2.1]

theorem store (x0 : Vec Ideal S2048x1024 .bf16) (x1 : Vec Ideal S2048x256 .bf16) (x2 : Vec Ideal S2048x256 .bf16) (x3 : Vec Ideal S2048x256 .bf16) : out0_4 x0 x1 x2 x3 = k0_pay1 x1 x2 x3 x0 := by
  unfold out0_4
  rw [View.canon_cons_unit_lit _ _ _ (by decide), View.ld_unit_lit _ _ (by decide), View.ld_unit_lit _ _ (by decide), View.ld_unit_lit _ _ (by decide), View.ld_unit_lit _ _ (by decide)]

theorem point (x0 : Vec Ideal S2048x1024 .bf16) (x1 x2 x3 : Vec Ideal S2048x256 .bf16) (a : Fin 1024) (b : Fin 768) :
    (k0_pay1 x1 x2 x3 x0 : S1024x768.Idx → EReal) (ix2 a b) = ∑ s : Fin 2048, (x0 : S2048x1024.Idx → EReal) (ix2 s a)
      * (if h : b.val < 256 then (x1 : S2048x256.Idx → EReal) (ix2 s ⟨b, h⟩)
        else if h' : b.val - 256 < 256 then (x2 : S2048x256.Idx → EReal) (ix2 s ⟨b - 256, h'⟩)
        else (x3 : S2048x256.Idx → EReal) (ix2 s ⟨b - 256 - 256, by omega⟩)) := by
  pointwise [k0_pay1]

theorem final (c : Dev nD) : (dats m 0 c).arrAt 4 cfg0.N = fun i : S16384x768.Idx =>
    out (m ((c.tc : Thread nD τ).loc main_arg0)) (m ((c.tc : Thread nD τ).loc main_arg1)) (i 0) (i 1) := by
  refine (dats m 0 c).arrAt_eq_of_covers 4 _ (by decide +kernel) fun t hf y => ?_
  have ht := lt_n t
  have io := (idx t).2.2.2.2
  have hy0 : (y 0).val < 1024 := (y 0).isLt
  have hy1 : (y 1).val < 768 := (y 1).isLt
  rw [after0_4, store]
  blk_simp [io, out]
  refine (congrArg (k0_pay1 (iblk m c 1 t) (iblk m c 2 t) (iblk m c 3 t) (iblk m c 0 t)) (show y = @ix2 1024 768 (y 0) (y 1) from by funext k; fin_cases k <;> rfl)).trans ?_
  refine (point _ _ _ _ _ _).trans (Finset.sum_congr rfl fun s _ => congrArg₂ (· * ·) ((blk_0 m c t s (y 0)).trans (by blk_ext [io])) ?_)
  have hq : ((2 * (t.val % 8) + t.val / 8) * 1024 + (y 0).val) / 2048 = t.val % 8 := by omega
  split_ifs with h h'
  · exact (blk_1 m c t s ⟨y 1, h⟩).trans (by blk_ext [io, hq])
  · exact (blk_2 m c t s ⟨y 1 - 256, h'⟩).trans (by blk_ext [io, hq])
  · exact (blk_3 m c t s ⟨y 1 - 256 - 256, by omega⟩).trans (by blk_ext [io, hq])

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v1) = (fun i : S16384x768.Idx =>
        out (m ((c.tc : Thread nD τ).loc main_arg0)) (m ((c.tc : Thread nD τ).loc main_arg1)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨(h c).1.trans (final m c), (h c).2⟩) (Value.run_blocks (F := Ideal) m ρ)

/-- The call leaves what the reference computes. -/
theorem algebraic : Cert.algebraic_In0DwIdeal_In0DwRefIdeal := fun m ρ m' ρ' _ hm =>
  ⟨_, run m ρ, (θ_run _ _ _).mono (fun r h c => ⟨(h c).1.trans (by
      rw [(hm c).1, (hm c).2]
      funext i
      have h0 : (i 0).val < 16384 := (i 0).isLt
      have h1 : (i 1).val < 768 := (i 1).isLt
      rw [show i = @ix2 16384 768 (i 0) (i 1) from by funext k; fin_cases k <;> rfl]
      pointwise [out]
      refine Finset.sum_congr rfl fun s _ => (mul_comm _ _).trans ?_
      refine congrArg₂ (· * ·) ?_ ?_
      all_goals (try split_ifs)
      all_goals blk_ext), (h c).2⟩) (Cert.In0DwRefIdeal.Value.run (F := Ideal) m' ρ')⟩

/-- The printed program and its idealization have one body table: nothing was rewritten. -/
theorem defs₀_eq : Cert.In0Dw.defs₀ (F := Bits) = Cert.In0DwIdeal.defs₀ (F := Bits) := by
  unfold Cert.In0Dw.defs₀ Cert.In0DwIdeal.defs₀
  refine congrArg (Defs.onTc (nD := nD) (τ := τ) (sig := sig) (Val := Elt Bits) (Λ := Λ₀)) ?_
  funext l a
  match l, a with
  | 0, (t, s) => rfl
  | ⟨_ + 1, h⟩, _ => exact absurd h (Nat.not_lt.2 (Nat.le_add_left _ _))

theorem defs_eq : Cert.In0Dw.defs (F := Bits) = Cert.In0DwIdeal.defs (F := Bits) := by
  unfold Cert.In0Dw.defs Cert.In0DwIdeal.defs
  rw [defs₀_eq]; rfl

theorem frame : Cert.quiescent_In0Dw := fun m ρ _ => by
  rw [defs_eq]
  exact Cert.In0DwIdeal.Gen.frame (F := Bits) m ρ

theorem frameIdeal : Cert.quiescent_In0DwIdeal := fun m ρ _ => Cert.In0DwIdeal.Gen.frame (F := Ideal) m ρ

theorem frameReference : Cert.quiescent_In0DwRefIdeal := fun m ρ _ =>
  (θ_run _ _ _).mono (fun r h => ⟨fun c => (h c).2, sem_eq_zero_of_no_sems (by decide) r.2⟩)
    (Cert.In0DwRefIdeal.Value.run (F := Ideal) m ρ)

end Cert.In0DwIdeal.Product

end
-- ==== Proof.Products.In0Dx.lean ====
module

public import proofs.«01_k».proof.Defs
public import proofs.«01_k».proof.Proof.Gen.In0Dx
public import proofs.«01_k».proof.Proof.Gen.In0DxIdeal.Value
public import proofs.«01_k».proof.Proof.Gen.In0DxRefIdeal.Run
public import Idealize.ShloMosaic.Lib.Pointwise
public import Idealize.ShloMosaic.Lib.Pipeline.ValueKit
public import Idealize.ShloMosaic.Lib.Pipeline.ReadBack

/-!
The gradient of the first mixer's input: the eight devices' columns, one after the other, added up in a buffer that the kernel
keeps between points and writes out at the last of them. A point's 768 columns are three strips of 256, which may lie in two planes.
-/

@[expose] public section

set_option maxRecDepth 16384

noncomputable section

namespace Cert.In0DxIdeal.Product

open Cert.In0DxIdeal Cert.In0DxIdeal.Gen
open Idealize.ShloMosaic Idealize.ShloMosaic.TcCoe
open Idealize.SL Idealize.SL.Sem

/-! ### Where a point's blocks lie -/

theorem idx : ∀ t : Fin grid0.N, win0_0.index t = ![2 * ((3 * (t.val % 8) + 0) / 4) + t.val / 8, (3 * (t.val % 8) + 0) % 4]
    ∧ win0_1.index t = ![2 * ((3 * (t.val % 8) + 1) / 4) + t.val / 8, (3 * (t.val % 8) + 1) % 4]
    ∧ win0_2.index t = ![2 * ((3 * (t.val % 8) + 2) / 4) + t.val / 8, (3 * (t.val % 8) + 2) % 4]
    ∧ win0_3.index t = ![t.val % 8, 0] ∧ win0_4.index t = ![t.val / 8, 0] := by decide +kernel

theorem lt_n (t : Fin cfg0.N) : t.val < 16 := lt_of_lt_of_eq t.isLt (by decide +kernel)

/-- Column `l` of the six planes' gradients meets column `l % 768` of the weights that device `l / 768` owns. -/
def out (dp : S6x2048x1024.Idx → EReal) (w : S16384x768.Idx → EReal) (r : Fin 2048) (k : Fin 2048) : EReal :=
  ∑ l : Fin 6144, dp (ix3 ⟨l / 1024, by omega⟩ r ⟨l % 1024, by omega⟩) * w (ix2 ⟨l / 768 * 2048 + k, by omega⟩ ⟨l % 768, by omega⟩)

variable (m : (ℓ : Loc nD τ sig) → Buf (Elt Ideal) ℓ)

theorem blk_0 (c : Dev nD) (t : Fin cfg0.N) (a : Fin 1024) (s : Fin 256) : (iblk m c 0 t : S1024x256.Idx → EReal) (ix2 a s)
    = (m ((c.tc : Thread nD τ).loc main_arg0) : S6x2048x1024.Idx → EReal) (ix3 ⟨(3 * (t.val % 8) + 0) / 4, by omega⟩
      ⟨1024 * (t.val / 8) + a, by have := lt_n t; omega⟩ ⟨256 * ((3 * (t.val % 8) + 0) % 4) + s, by omega⟩) := by
  have := lt_n t
  blk_ext! [iblk, V, (idx t).1]

theorem blk_1 (c : Dev nD) (t : Fin cfg0.N) (a : Fin 1024) (s : Fin 256) : (iblk m c 1 t : S1024x256.Idx → EReal) (ix2 a s)
    = (m ((c.tc : Thread nD τ).loc main_arg0) : S6x2048x1024.Idx → EReal) (ix3 ⟨(3 * (t.val % 8) + 1) / 4, by omega⟩
      ⟨1024 * (t.val / 8) + a, by have := lt_n t; omega⟩ ⟨256 * ((3 * (t.val % 8) + 1) % 4) + s, by omega⟩) := by
  have := lt_n t
  blk_ext! [iblk, V, (idx t).2.1]

theorem blk_2 (c : Dev nD) (t : Fin cfg0.N) (a : Fin 1024) (s : Fin 256) : (iblk m c 2 t : S1024x256.Idx → EReal) (ix2 a s)
    = (m ((c.tc : Thread nD τ).loc main_arg0) : S6x2048x1024.Idx → EReal) (ix3 ⟨(3 * (t.val % 8) + 2) / 4, by omega⟩
      ⟨1024 * (t.val / 8) + a, by have := lt_n t; omega⟩ ⟨256 * ((3 * (t.val % 8) + 2) % 4) + s, by omega⟩) := by
  have := lt_n t
  blk_ext! [iblk, V, (idx t).2.2.1]

theorem blk_3 (c : Dev nD) (t : Fin cfg0.N) (b : Fin 2048) (s : Fin 768) : (iblk m c 3 t : S2048x768.Idx → EReal) (ix2 b s)
    = (m ((c.tc : Thread nD τ).loc main_arg1) : S16384x768.Idx → EReal) (ix2 ⟨2048 * (t.val % 8) + b, by omega⟩ s) := by
  have := lt_n t
  blk_ext! [iblk, V, (idx t).2.2.2.1]

/-- What one point adds. -/
theorem point (x0 x1 x2 : Vec Ideal S1024x256 .bf16) (x3 : Vec Ideal S2048x768 .bf16) (a : Fin 1024) (b : Fin 2048) : (k0_pay2 x0 x1 x2 x3 : S1024x2048.Idx → EReal) (ix2 a b)
    = ∑ s : Fin 768, (if h : s.val < 256 then (x0 : S1024x256.Idx → EReal) (ix2 a ⟨s, h⟩)
        else if h' : s.val - 256 < 256 then (x1 : S1024x256.Idx → EReal) (ix2 a ⟨s - 256, h'⟩)
        else (x2 : S1024x256.Idx → EReal) (ix2 a ⟨s - 256 - 256, by omega⟩)) * (x3 : S2048x768.Idx → EReal) (ix2 b s) := by
  pointwise [k0_pay2, k0_pay1]

theorem point_add (x0 x1 x2 : Vec Ideal S1024x256 .bf16) (x3 : Vec Ideal S2048x768 .bf16) (acc : Vec Ideal S1024x2048 .f32) (j : S1024x2048.Idx) :
    (k0_pay3 x0 x1 x2 x3 acc : S1024x2048.Idx → EReal) j = acc j + (k0_pay2 x0 x1 x2 x3 : S1024x2048.Idx → EReal) j := by
  pointwise [k0_pay3, k0_pay2]

theorem kept_first (c : Dev nD) (t : Fin cfg0.N) (h : t.val % 8 = 0) : (outsAt0 m c t.val t.isLt).2 = k0_pay2 (iblk m c 0 t) (iblk m c 1 t) (iblk m c 2 t) (iblk m c 3 t) := by
  rw [outsAt0_A m c t h (by omega) (by omega)]
  frame_out

theorem kept_later (c : Dev nD) (t : Fin cfg0.N) (h : ¬t.val % 8 = 0) : (outsAt0 m c t.val t.isLt).2
    = k0_pay3 (iblk m c 0 t) (iblk m c 1 t) (iblk m c 2 t) (iblk m c 3 t) (outsAt0 m c (t.val - 1) (Nat.lt_of_le_of_lt (Nat.sub_le _ _) t.isLt)).2 := by
  by_cases h7 : t.val % 8 = 7
  · rw [outsAt0_C m c t h (by omega) h7]
    frame_out
    simp only [read_unread_whole]
  · rw [outsAt0_B m c t h (by omega) h7]
    frame_out
    simp only [read_unread_whole]

theorem written (c : Dev nD) (t : Fin cfg0.N) (h : t.val % 8 = 7) : (outsAt0 m c t.val t.isLt).1 = k0_pay4 (outsAt0 m c t.val t.isLt).2 := by
  rw [kept_later m c t (by omega), outsAt0_C m c t (by omega) (by omega) h]
  frame_out
  simp only [read_unread_whole]

theorem point_lt (t : Fin cfg0.N) (s : Fin 8) : 8 * (t.val / 8) + s.val < cfg0.N := by
  have := lt_n t
  have e : cfg0.N = 16 := by decide +kernel
  omega

/-- After the last point of a run the buffer holds the sum of what its points add. -/
theorem kept (c : Dev nD) (t : Fin cfg0.N) (h : t.val % 8 = 7) (j : S1024x2048.Idx) : ((outsAt0 m c t.val t.isLt).2 : S1024x2048.Idx → EReal) j
    = 0 + ∑ s : Fin 8, (k0_pay2 (iblk m c 0 ⟨8 * (t.val / 8) + s, point_lt t s⟩) (iblk m c 1 ⟨8 * (t.val / 8) + s, point_lt t s⟩) (iblk m c 2 ⟨8 * (t.val / 8) + s, point_lt t s⟩) (iblk m c 3 ⟨8 * (t.val / 8) + s, point_lt t s⟩) : S1024x2048.Idx → EReal) j :=
  Pipeline.eq_sum_fin_of_reset_step_apply_of_flush (fun n h => ((outsAt0 m c n h).2 : S1024x2048.Idx → EReal)) 8 (fun _ => 0)
    (fun p : Fin cfg0.N => (k0_pay2 (iblk m c 0 p) (iblk m c 1 p) (iblk m c 2 p) (iblk m c 3 p) : S1024x2048.Idx → EReal))
    (fun t h j => by rw [kept_first m c t h, zero_add]) (fun t h j => by rw [kept_later m c t h]; exact point_add _ _ _ _ _ j) t h j

theorem final (c : Dev nD) : (dats m 0 c).arrAt 4 cfg0.N = fun i : S2048x2048.Idx =>
    out (m ((c.tc : Thread nD τ).loc main_arg0)) (m ((c.tc : Thread nD τ).loc main_arg1)) (i 0) (i 1) := by
  refine (dats m 0 c).arrAt_eq_of_covers 4 _ (by decide +kernel) fun t hf y => ?_
  have ht := lt_n t
  have h7 : t.val % 8 = 7 := (flush0_4 t).mp hf
  have io := (idx t).2.2.2.2
  have hy0 : (y 0).val < 1024 := (y 0).isLt
  have hy1 : (y 1).val < 2048 := (y 1).isLt
  rw [after0_4, written m c t h7]
  blk_simp [io, out]
  refine (show (k0_pay4 (outsAt0 m c t.val t.isLt).2 : S1024x2048.Idx → EReal) y = (outsAt0 m c t.val t.isLt).2 (@ix2 1024 2048 (y 0) (y 1)) from ?_).trans ?_
  · rw [show y = @ix2 1024 2048 (y 0) (y 1) from by funext k; fin_cases k <;> rfl]
    pointwise [k0_pay4]
  refine (kept m c t h7 _).trans ((zero_add _).trans ?_)
  refine (Finset.sum_congr rfl fun s _ => point _ _ _ _ _ _).trans (Fin.sum_mul_add_congr fun s k hl => ?_)
  have hs := s.isLt
  have hk := k.isLt
  have hq : (8 * (t.val / 8) + s.val) % 8 = s.val := by omega
  refine congrArg₂ (· * ·) ?_ ((blk_3 m c _ _ _).trans ?_)
  · split
    · exact (blk_0 m c _ _ _).trans (by blk_ext [io, hq])
    · split
      · exact (blk_1 m c _ _ _).trans (by blk_ext [io, hq])
      · exact (blk_2 m c _ _ _).trans (by blk_ext [io, hq])
  · blk_ext [io]

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v1) = (fun i : S2048x2048.Idx =>
        out (m ((c.tc : Thread nD τ).loc main_arg0)) (m ((c.tc : Thread nD τ).loc main_arg1)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨(h c).1.trans (final m c), (h c).2⟩) (Value.run_blocks (F := Ideal) m ρ)

/-- The six planes side by side, at an index. -/
theorem planes_at (dp : Vec Ideal S6x2048x1024 .bf16) (r : Fin 2048) (l : Fin 6144) :
    (concatenate Cert.In0DxRefIdeal.S2048x6144 1 [⟨Cert.In0DxRefIdeal.S2048x1024, (shapeCast _ (extractStridedSlice Cert.In0DxRefIdeal.S1x2048x1024 ![0, 0, 0] dp Cert.In0DxRefIdeal.Gen.slices_S6x2048x1024_S1x2048x1024_0_0_0) Cert.In0DxRefIdeal.Gen.shapeCasts_S1x2048x1024_S2048x1024)⟩,
        ⟨Cert.In0DxRefIdeal.S2048x1024, (shapeCast _ (extractStridedSlice Cert.In0DxRefIdeal.S1x2048x1024 ![1, 0, 0] dp Cert.In0DxRefIdeal.Gen.slices_S6x2048x1024_S1x2048x1024_1_0_0) Cert.In0DxRefIdeal.Gen.shapeCasts_S1x2048x1024_S2048x1024)⟩,
        ⟨Cert.In0DxRefIdeal.S2048x1024, (shapeCast _ (extractStridedSlice Cert.In0DxRefIdeal.S1x2048x1024 ![2, 0, 0] dp Cert.In0DxRefIdeal.Gen.slices_S6x2048x1024_S1x2048x1024_2_0_0) Cert.In0DxRefIdeal.Gen.shapeCasts_S1x2048x1024_S2048x1024)⟩,
        ⟨Cert.In0DxRefIdeal.S2048x1024, (shapeCast _ (extractStridedSlice Cert.In0DxRefIdeal.S1x2048x1024 ![3, 0, 0] dp Cert.In0DxRefIdeal.Gen.slices_S6x2048x1024_S1x2048x1024_3_0_0) Cert.In0DxRefIdeal.Gen.shapeCasts_S1x2048x1024_S2048x1024)⟩,
        ⟨Cert.In0DxRefIdeal.S2048x1024, (shapeCast _ (extractStridedSlice Cert.In0DxRefIdeal.S1x2048x1024 ![4, 0, 0] dp Cert.In0DxRefIdeal.Gen.slices_S6x2048x1024_S1x2048x1024_4_0_0) Cert.In0DxRefIdeal.Gen.shapeCasts_S1x2048x1024_S2048x1024)⟩,
        ⟨Cert.In0DxRefIdeal.S2048x1024, (shapeCast _ (extractStridedSlice Cert.In0DxRefIdeal.S1x2048x1024 ![5, 0, 0] dp Cert.In0DxRefIdeal.Gen.slices_S6x2048x1024_S1x2048x1024_5_0_0) Cert.In0DxRefIdeal.Gen.shapeCasts_S1x2048x1024_S2048x1024)⟩]
      Cert.In0DxRefIdeal.Gen.concatenates_S2048x1024_S2048x1024_S2048x1024_S2048x1024_S2048x1024_S2048x1024_S2048x6144_d1 : Cert.In0DxRefIdeal.S2048x6144.Idx → EReal) (ix2 r l)
    = (dp : S6x2048x1024.Idx → EReal) (ix3 ⟨l / 1024, by omega⟩ r ⟨l % 1024, by omega⟩) := by
  have hl := l.isLt
  pointwise
  repeat' split
  all_goals blk_ext

/-- The reference, at an index. -/
theorem reference_at (dp : Vec Ideal S6x2048x1024 .bf16) (w : Vec Ideal S16384x768 .bf16) (i : S2048x2048.Idx) :
    (truncf .bf16 (Host.dotGeneral (F := Ideal) (φ₁ := .f32) (φ₂ := .f32) Cert.In0DxRefIdeal.dot_S2048x6144_S2048x6144_S2048x2048_1_1_0_0_n_n none
      (extf .f32 (concatenate Cert.In0DxRefIdeal.S2048x6144 1 [⟨Cert.In0DxRefIdeal.S2048x1024, (shapeCast _ (extractStridedSlice Cert.In0DxRefIdeal.S1x2048x1024 ![0, 0, 0] dp Cert.In0DxRefIdeal.Gen.slices_S6x2048x1024_S1x2048x1024_0_0_0) Cert.In0DxRefIdeal.Gen.shapeCasts_S1x2048x1024_S2048x1024)⟩,
        ⟨Cert.In0DxRefIdeal.S2048x1024, (shapeCast _ (extractStridedSlice Cert.In0DxRefIdeal.S1x2048x1024 ![1, 0, 0] dp Cert.In0DxRefIdeal.Gen.slices_S6x2048x1024_S1x2048x1024_1_0_0) Cert.In0DxRefIdeal.Gen.shapeCasts_S1x2048x1024_S2048x1024)⟩,
        ⟨Cert.In0DxRefIdeal.S2048x1024, (shapeCast _ (extractStridedSlice Cert.In0DxRefIdeal.S1x2048x1024 ![2, 0, 0] dp Cert.In0DxRefIdeal.Gen.slices_S6x2048x1024_S1x2048x1024_2_0_0) Cert.In0DxRefIdeal.Gen.shapeCasts_S1x2048x1024_S2048x1024)⟩,
        ⟨Cert.In0DxRefIdeal.S2048x1024, (shapeCast _ (extractStridedSlice Cert.In0DxRefIdeal.S1x2048x1024 ![3, 0, 0] dp Cert.In0DxRefIdeal.Gen.slices_S6x2048x1024_S1x2048x1024_3_0_0) Cert.In0DxRefIdeal.Gen.shapeCasts_S1x2048x1024_S2048x1024)⟩,
        ⟨Cert.In0DxRefIdeal.S2048x1024, (shapeCast _ (extractStridedSlice Cert.In0DxRefIdeal.S1x2048x1024 ![4, 0, 0] dp Cert.In0DxRefIdeal.Gen.slices_S6x2048x1024_S1x2048x1024_4_0_0) Cert.In0DxRefIdeal.Gen.shapeCasts_S1x2048x1024_S2048x1024)⟩,
        ⟨Cert.In0DxRefIdeal.S2048x1024, (shapeCast _ (extractStridedSlice Cert.In0DxRefIdeal.S1x2048x1024 ![5, 0, 0] dp Cert.In0DxRefIdeal.Gen.slices_S6x2048x1024_S1x2048x1024_5_0_0) Cert.In0DxRefIdeal.Gen.shapeCasts_S1x2048x1024_S2048x1024)⟩]
        Cert.In0DxRefIdeal.Gen.concatenates_S2048x1024_S2048x1024_S2048x1024_S2048x1024_S2048x1024_S2048x1024_S2048x6144_d1) Cert.In0DxRefIdeal.Gen.bitsLt_bf16_f32)
      (extf .f32 (shapeCast _ (transpose Cert.In0DxRefIdeal.S2048x8x768 [1, 0, 2] (shapeCast _ w Cert.In0DxRefIdeal.Gen.shapeCasts_S16384x768_S8x2048x768)
        Cert.In0DxRefIdeal.Gen.transposes_S8x2048x768_S2048x8x768_1_0_2) Cert.In0DxRefIdeal.Gen.shapeCasts_S2048x8x768_S2048x6144) Cert.In0DxRefIdeal.Gen.bitsLt_bf16_f32))
      Cert.In0DxRefIdeal.Gen.bitsLt_bf16_f32 : S2048x2048.Idx → EReal) i = out dp w (i 0) (i 1) := by
  rw [show i = @ix2 2048 2048 (i 0) (i 1) from by funext k; fin_cases k <;> rfl]
  pointwise [out, planes_at]

/-- The call leaves what the reference computes. -/
theorem algebraic : Cert.algebraic_In0DxIdeal_In0DxRefIdeal := fun m ρ m' ρ' _ hm =>
  ⟨_, run m ρ, (θ_run _ _ _).mono (fun r h c => ⟨(h c).1.trans (by
      rw [(hm c).1, (hm c).2]
      funext i
      exact reference_at _ _ i), (h c).2⟩) (Cert.In0DxRefIdeal.Value.run (F := Ideal) m' ρ')⟩

/-- The printed program and its idealization have one body table: nothing was rewritten. -/
theorem defs₀_eq : Cert.In0Dx.defs₀ (F := Bits) = Cert.In0DxIdeal.defs₀ (F := Bits) := by
  unfold Cert.In0Dx.defs₀ Cert.In0DxIdeal.defs₀
  refine congrArg (Defs.onTc (nD := nD) (τ := τ) (sig := sig) (Val := Elt Bits) (Λ := Λ₀)) ?_
  funext l a
  match l, a with
  | 0, (t, s) => rfl
  | ⟨_ + 1, h⟩, _ => exact absurd h (Nat.not_lt.2 (Nat.le_add_left _ _))

theorem defs_eq : Cert.In0Dx.defs (F := Bits) = Cert.In0DxIdeal.defs (F := Bits) := by
  unfold Cert.In0Dx.defs Cert.In0DxIdeal.defs
  rw [defs₀_eq]; rfl

theorem frame : Cert.quiescent_In0Dx := fun m ρ _ => by
  rw [defs_eq]
  exact Cert.In0DxIdeal.Gen.frame (F := Bits) m ρ

theorem frameIdeal : Cert.quiescent_In0DxIdeal := fun m ρ _ => Cert.In0DxIdeal.Gen.frame (F := Ideal) m ρ

theorem frameReference : Cert.quiescent_In0DxRefIdeal := fun m ρ _ =>
  (θ_run _ _ _).mono (fun r h => ⟨fun c => (h c).2, sem_eq_zero_of_no_sems (by decide) r.2⟩)
    (Cert.In0DxRefIdeal.Value.run (F := Ideal) m ρ)

end Cert.In0DxIdeal.Product

end
-- ==== Proof.Products.In1Mm.lean ====
module

public import proofs.«01_k».proof.Defs
public import proofs.«01_k».proof.Proof.Gen.In1Mm
public import proofs.«01_k».proof.Proof.Gen.In1MmIdeal.Value
public import proofs.«01_k».proof.Proof.Gen.In1MmRefIdeal.Run
public import Idealize.ShloMosaic.Lib.Pointwise
public import Idealize.ShloMosaic.Lib.Pipeline.ValueKit

/-!
The second mixer's input projection, 1024 columns of the result at a time.
-/

@[expose] public section

set_option maxRecDepth 16384

noncomputable section

namespace Cert.In1MmIdeal.Product

open Cert.In1MmIdeal Cert.In1MmIdeal.Gen
open Idealize.ShloMosaic Idealize.ShloMosaic.TcCoe
open Idealize.SL Idealize.SL.Sem

/-! ### Where a point's blocks lie -/

theorem idx : ∀ t : Fin grid0.N, win0_0.index t = ![t.val / 5, 0] ∧ win0_1.index t = ![t.val % 5, 0] ∧ win0_2.index t = ![t.val / 5, t.val % 5] := by decide +kernel

theorem lt_n (t : Fin cfg0.N) : t.val < 10 := lt_of_lt_of_eq t.isLt (by decide +kernel)

/-- The weights are kept transposed, with eight rows at the end that this product leaves out. -/
def out (x : S2048x2048.Idx → EReal) (w : S5128x2048.Idx → EReal) (r : Fin 2048) (n : Fin 5120) : EReal :=
  ∑ s : Fin 2048, x (ix2 r s) * w (ix2 ⟨n, by omega⟩ s)

variable (m : (ℓ : Loc nD τ sig) → Buf (Elt Ideal) ℓ)

theorem blk_0 (c : Dev nD) (t : Fin cfg0.N) (a : Fin 1024) (s : Fin 2048) : (iblk m c 0 t : S1024x2048.Idx → EReal) (ix2 a s)
    = (m ((c.tc : Thread nD τ).loc main_arg0) : S2048x2048.Idx → EReal) (ix2 ⟨1024 * (t.val / 5) + a, by have := lt_n t; omega⟩ s) := by
  have := lt_n t
  blk_ext! [iblk, V, (idx t).1]

theorem blk_1 (c : Dev nD) (t : Fin cfg0.N) (b : Fin 1024) (s : Fin 2048) : (X0_1 m c t : S1024x2048.Idx → EReal) (ix2 b s)
    = (m ((c.tc : Thread nD τ).loc main_arg1) : S5128x2048.Idx → EReal) (ix2 ⟨1024 * (t.val % 5) + b, by omega⟩ s) := by
  have := lt_n t
  unfold X0_1 Pipeline.Window.fill
  rw [dif_pos (moved0_1 t _)]
  blk_ext! [iblk, V, (idx t).2.1]

theorem point (x0 : Vec Ideal S1024x2048 .bf16) (x1 : Vec Ideal S1024x2048 .bf16) (a : Fin 1024) (b : Fin 1024) : (k0_pay1 x0 x1 : S1024x1024.Idx → EReal) (ix2 a b)
    = ∑ s : Fin 2048, (x0 : S1024x2048.Idx → EReal) (ix2 a s) * (x1 : S1024x2048.Idx → EReal) (ix2 b s) := by
  pointwise [k0_pay1]

theorem store (c : Dev nD) (t : Fin cfg0.N) : outsAt0 m c t = k0_pay1 (iblk m c 0 t) (X0_1 m c t) := by
  unfold outsAt0
  frame_out

theorem final (c : Dev nD) : (dats m 0 c).arrAt 2 cfg0.N = fun i : S2048x5120.Idx =>
    out (m ((c.tc : Thread nD τ).loc main_arg0)) (m ((c.tc : Thread nD τ).loc main_arg1)) (i 0) (i 1) := by
  refine (dats m 0 c).arrAt_eq_of_covers 2 _ (by decide +kernel) fun t hf y => ?_
  have ht := lt_n t
  have io := (idx t).2.2
  have hy0 : (y 0).val < 1024 := (y 0).isLt
  have hy1 : (y 1).val < 1024 := (y 1).isLt
  rw [after0_2, store m c t]
  blk_simp [io, out]
  refine (congrArg (k0_pay1 (iblk m c 0 t) (X0_1 m c t)) (show y = @ix2 1024 1024 (y 0) (y 1) from by funext k; fin_cases k <;> rfl)).trans ?_
  exact (point _ _ _ _).trans (Finset.sum_congr rfl fun s _ => congrArg₂ (· * ·) ((blk_0 m c t (y 0) s).trans (by
    blk_ext [io]))
    ((blk_1 m c t (y 1) s).trans (by
    blk_ext [io])))

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = (fun i : S2048x5120.Idx =>
        out (m ((c.tc : Thread nD τ).loc main_arg0)) (m ((c.tc : Thread nD τ).loc main_arg1)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨(h c).1.trans (final m c), (h c).2⟩) (Value.run_blocks (F := Ideal) m ρ)

/-- The call leaves what the reference computes. -/
theorem algebraic : Cert.algebraic_In1MmIdeal_In1MmRefIdeal := fun m ρ m' ρ' _ hm =>
  ⟨_, run m ρ, (θ_run _ _ _).mono (fun r h c => ⟨(h c).1.trans (by
      rw [(hm c).1, (hm c).2]
      funext i
      rw [show i = @ix2 2048 5120 (i 0) (i 1) from by funext k; fin_cases k <;> rfl]
      pointwise [out]), (h c).2⟩) (Cert.In1MmRefIdeal.Value.run (F := Ideal) m' ρ')⟩

/-- The printed program and its idealization have one body table: nothing was rewritten. -/
theorem defs₀_eq : Cert.In1Mm.defs₀ (F := Bits) = Cert.In1MmIdeal.defs₀ (F := Bits) := by
  unfold Cert.In1Mm.defs₀ Cert.In1MmIdeal.defs₀
  refine congrArg (Defs.onTc (nD := nD) (τ := τ) (sig := sig) (Val := Elt Bits) (Λ := Λ₀)) ?_
  funext l a
  match l, a with
  | 0, (t, s) => rfl
  | ⟨_ + 1, h⟩, _ => exact absurd h (Nat.not_lt.2 (Nat.le_add_left _ _))

theorem defs_eq : Cert.In1Mm.defs (F := Bits) = Cert.In1MmIdeal.defs (F := Bits) := by
  unfold Cert.In1Mm.defs Cert.In1MmIdeal.defs
  rw [defs₀_eq]; rfl

theorem frame : Cert.quiescent_In1Mm := fun m ρ _ => by
  rw [defs_eq]
  exact Cert.In1MmIdeal.Gen.frame (F := Bits) m ρ

theorem frameIdeal : Cert.quiescent_In1MmIdeal := fun m ρ _ => Cert.In1MmIdeal.Gen.frame (F := Ideal) m ρ

theorem frameReference : Cert.quiescent_In1MmRefIdeal := fun m ρ _ =>
  (θ_run _ _ _).mono (fun r h => ⟨fun c => (h c).2, sem_eq_zero_of_no_sems (by decide) r.2⟩)
    (Cert.In1MmRefIdeal.Value.run (F := Ideal) m ρ)

end Cert.In1MmIdeal.Product

end
-- ==== Proof.Products.In1Dw.lean ====
module

public import proofs.«01_k».proof.Defs
public import proofs.«01_k».proof.Proof.Gen.In1Dw
public import proofs.«01_k».proof.Proof.Gen.In1DwIdeal.Value
public import proofs.«01_k».proof.Proof.Gen.In1DwRefIdeal.Run
public import Idealize.ShloMosaic.Lib.Pointwise
public import Idealize.ShloMosaic.Lib.Pipeline.ValueKit

/-!
The gradient of the second mixer's transposed input weights, group by group.
-/

@[expose] public section

set_option maxRecDepth 16384

noncomputable section

namespace Cert.In1DwIdeal.Product

open Cert.In1DwIdeal Cert.In1DwIdeal.Gen
open Idealize.ShloMosaic Idealize.ShloMosaic.TcCoe
open Idealize.SL Idealize.SL.Sem

/-! ### Where a point's blocks lie -/

theorem idx : ∀ t : Fin grid0.N, win0_0.index t = ![t.val / 2 + t.val / 2 / 2 - t.val / 2 / 4, t.val % 2] ∧ win0_1.index t = ![0, 0] ∧ win0_2.index t = ![t.val, 0] := by decide +kernel

theorem lt_n (t : Fin cfg0.N) : t.val < 10 := lt_of_lt_of_eq t.isLt (by decide +kernel)

/-- The five groups of columns lie in the planes 0, 1, 3, 4 and 5 of the incoming gradient. -/
def out (dp : S6x2048x1024.Idx → EReal) (h : S2048x2048.Idx → EReal) (r : Fin 5120) (n : Fin 2048) : EReal :=
  ∑ s : Fin 2048, dp (ix3 ⟨r / 1024 + r / 1024 / 2 - r / 1024 / 4, by omega⟩ s ⟨r % 1024, by omega⟩) * h (ix2 s n)

variable (m : (ℓ : Loc nD τ sig) → Buf (Elt Ideal) ℓ)

theorem blk_0 (c : Dev nD) (t : Fin cfg0.N) (s : Fin 2048) (a : Fin 512) : (iblk m c 0 t : S2048x512.Idx → EReal) (ix2 s a)
    = (m ((c.tc : Thread nD τ).loc main_arg0) : S6x2048x1024.Idx → EReal) (ix3 ⟨t.val / 2 + t.val / 2 / 2 - t.val / 2 / 4, by have := lt_n t; omega⟩ s ⟨512 * (t.val % 2) + a, by have := lt_n t; omega⟩) := by
  have := lt_n t
  blk_ext! [iblk, V, (idx t).1]

theorem blk_1 (c : Dev nD) (t : Fin cfg0.N) (s : Fin 2048) (b : Fin 2048) : (iblk m c 1 t : S2048x2048.Idx → EReal) (ix2 s b)
    = (m ((c.tc : Thread nD τ).loc main_arg1) : S2048x2048.Idx → EReal) (ix2 s b) := by
  have := lt_n t
  blk_ext! [iblk, V, (idx t).2.1]

theorem store (x0 : Vec Ideal S2048x512 .bf16) (x1 : Vec Ideal S2048x2048 .bf16) : out0_2 x0 x1 = k0_pay1 x1 x0 := by
  unfold out0_2
  rw [View.canon_cons_unit_lit _ _ _ (by decide), View.ld_unit_lit _ _ (by decide), View.ld_unit_lit _ _ (by decide)]

theorem point (x0 : Vec Ideal S2048x512 .bf16) (x1 : Vec Ideal S2048x2048 .bf16) (a : Fin 512) (b : Fin 2048) : (k0_pay1 x1 x0 : S512x2048.Idx → EReal) (ix2 a b)
    = ∑ s : Fin 2048, (x0 : S2048x512.Idx → EReal) (ix2 s a) * (x1 : S2048x2048.Idx → EReal) (ix2 s b) := by
  pointwise [k0_pay1]

theorem final (c : Dev nD) : (dats m 0 c).arrAt 2 cfg0.N = fun i : S5120x2048.Idx =>
    out (m ((c.tc : Thread nD τ).loc main_arg0)) (m ((c.tc : Thread nD τ).loc main_arg1)) (i 0) (i 1) := by
  refine (dats m 0 c).arrAt_eq_of_covers 2 _ (by decide +kernel) fun t hf y => ?_
  have ht := lt_n t
  have io := (idx t).2.2
  have hy0 : (y 0).val < 512 := (y 0).isLt
  have hy1 : (y 1).val < 2048 := (y 1).isLt
  rw [after0_2, store]
  blk_simp [io, out]
  refine (congrArg (k0_pay1 (iblk m c 1 t) (iblk m c 0 t)) (show y = @ix2 512 2048 (y 0) (y 1) from by funext k; fin_cases k <;> rfl)).trans ?_
  exact (point _ _ _ _).trans (Finset.sum_congr rfl fun s _ => congrArg₂ (· * ·) ((blk_0 m c t s (y 0)).trans (by
    have hq : (t.val * 512 + (y 0).val) / 1024 = t.val / 2 := by omega
    blk_ext [io, hq]))
    ((blk_1 m c t s (y 1)).trans (by
    have hq : (t.val * 512 + (y 0).val) / 1024 = t.val / 2 := by omega
    blk_ext [io, hq])))

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v1) = (fun i : S5120x2048.Idx =>
        out (m ((c.tc : Thread nD τ).loc main_arg0)) (m ((c.tc : Thread nD τ).loc main_arg1)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨(h c).1.trans (final m c), (h c).2⟩) (Value.run_blocks (F := Ideal) m ρ)

/-- The call leaves what the reference computes. -/
theorem algebraic : Cert.algebraic_In1DwIdeal_In1DwRefIdeal := fun m ρ m' ρ' _ hm =>
  ⟨_, run m ρ, (θ_run _ _ _).mono (fun r h c => ⟨(h c).1.trans (by
      rw [(hm c).1, (hm c).2]
      funext i
      have h0 : (i 0).val < 5120 := (i 0).isLt
      have h1 : (i 1).val < 2048 := (i 1).isLt
      rw [show i = @ix2 5120 2048 (i 0) (i 1) from by funext k; fin_cases k <;> rfl]
      pointwise [out]
      refine Finset.sum_congr rfl fun s _ => ?_
      refine congrArg₂ (· * ·) ?_ ?_
      all_goals (try split_ifs)
      all_goals blk_ext), (h c).2⟩) (Cert.In1DwRefIdeal.Value.run (F := Ideal) m' ρ')⟩

/-- The printed program and its idealization have one body table: nothing was rewritten. -/
theorem defs₀_eq : Cert.In1Dw.defs₀ (F := Bits) = Cert.In1DwIdeal.defs₀ (F := Bits) := by
  unfold Cert.In1Dw.defs₀ Cert.In1DwIdeal.defs₀
  refine congrArg (Defs.onTc (nD := nD) (τ := τ) (sig := sig) (Val := Elt Bits) (Λ := Λ₀)) ?_
  funext l a
  match l, a with
  | 0, (t, s) => rfl
  | ⟨_ + 1, h⟩, _ => exact absurd h (Nat.not_lt.2 (Nat.le_add_left _ _))

theorem defs_eq : Cert.In1Dw.defs (F := Bits) = Cert.In1DwIdeal.defs (F := Bits) := by
  unfold Cert.In1Dw.defs Cert.In1DwIdeal.defs
  rw [defs₀_eq]; rfl

theorem frame : Cert.quiescent_In1Dw := fun m ρ _ => by
  rw [defs_eq]
  exact Cert.In1DwIdeal.Gen.frame (F := Bits) m ρ

theorem frameIdeal : Cert.quiescent_In1DwIdeal := fun m ρ _ => Cert.In1DwIdeal.Gen.frame (F := Ideal) m ρ

theorem frameReference : Cert.quiescent_In1DwRefIdeal := fun m ρ _ =>
  (θ_run _ _ _).mono (fun r h => ⟨fun c => (h c).2, sem_eq_zero_of_no_sems (by decide) r.2⟩)
    (Cert.In1DwRefIdeal.Value.run (F := Ideal) m ρ)

end Cert.In1DwIdeal.Product

end
-- ==== Proof.Products.In1Dx.lean ====
module

public import proofs.«01_k».proof.Defs
public import proofs.«01_k».proof.Proof.Gen.In1Dx
public import proofs.«01_k».proof.Proof.Gen.In1DxIdeal.Value
public import proofs.«01_k».proof.Proof.Gen.In1DxRefIdeal.Run
public import Idealize.ShloMosaic.Lib.Pointwise
public import Idealize.ShloMosaic.Lib.Pipeline.ValueKit
public import Idealize.ShloMosaic.Lib.Pipeline.ReadBack

/-!
The gradient of the second mixer's input: five of the six planes of columns, one after the other, added up in a buffer that the
kernel keeps between points; at the last of them the gradient already there is added and the sum written out.
-/

@[expose] public section

set_option maxRecDepth 16384

noncomputable section

namespace Cert.In1DxIdeal.Product

open Cert.In1DxIdeal Cert.In1DxIdeal.Gen
open Idealize.ShloMosaic Idealize.ShloMosaic.TcCoe
open Idealize.SL Idealize.SL.Sem

/-! ### Where a point's blocks lie -/

theorem idx : ∀ t : Fin grid0.N, win0_0.index t = ![2 * (t.val % 5 + t.val % 5 / 2 - t.val % 5 / 4) + t.val / 10, 0]
    ∧ win0_1.index t = ![t.val % 5, t.val / 5 % 2] ∧ win0_2.index t = ![t.val / 10, t.val / 5 % 2]
    ∧ win0_3.index t = ![t.val / 10, t.val / 5 % 2] := by decide +kernel

theorem lt_n (t : Fin cfg0.N) : t.val < 20 := lt_of_lt_of_eq t.isLt (by decide +kernel)

/-- Plane `k` of the five used: the planes 0, 1, 3, 4 and 5 of the six. -/
def plane (k : Fin 5) : Fin 6 := ⟨k + k / 2 - k / 4, by omega⟩

/-- Column `l` of the five planes meets row `l` of the weights; what is already there comes first. -/
def out (dp : S6x2048x1024.Idx → EReal) (w : S5128x2048.Idx → EReal) (d : S2048x2048.Idx → EReal) (r : Fin 2048) (k : Fin 2048) : EReal :=
  d (ix2 r k) + ∑ l : Fin 5120, dp (ix3 (plane ⟨l / 1024, by omega⟩) r ⟨l % 1024, by omega⟩) * w (ix2 ⟨l, by omega⟩ k)

variable (m : (ℓ : Loc nD τ sig) → Buf (Elt Ideal) ℓ)

theorem blk_0 (c : Dev nD) (t : Fin cfg0.N) (a : Fin 1024) (s : Fin 1024) : (iblk m c 0 t : S1024x1024.Idx → EReal) (ix2 a s)
    = (m ((c.tc : Thread nD τ).loc main_arg0) : S6x2048x1024.Idx → EReal)
      (ix3 (plane ⟨t.val % 5, by omega⟩) ⟨1024 * (t.val / 10) + a, by have := lt_n t; omega⟩ s) := by
  have := lt_n t
  unfold plane
  blk_ext! [iblk, V, (idx t).1]

theorem blk_1 (c : Dev nD) (t : Fin cfg0.N) (s : Fin 1024) (b : Fin 1024) : (X0_1 m c t : S1024x1024.Idx → EReal) (ix2 s b)
    = (m ((c.tc : Thread nD τ).loc main_arg1) : S5128x2048.Idx → EReal) (ix2 ⟨1024 * (t.val % 5) + s, by omega⟩ ⟨1024 * (t.val / 5 % 2) + b, by omega⟩) := by
  have := lt_n t
  unfold X0_1 Pipeline.Window.fill
  rw [dif_pos (moved0_1 t _)]
  blk_ext! [iblk, V, (idx t).2.1]

theorem blk_2 (c : Dev nD) (t : Fin cfg0.N) (a : Fin 1024) (b : Fin 1024) : (iblk m c 2 t : S1024x1024.Idx → EReal) (ix2 a b)
    = (m ((c.tc : Thread nD τ).loc main_arg2) : S2048x2048.Idx → EReal) (ix2 ⟨1024 * (t.val / 10) + a, by have := lt_n t; omega⟩ ⟨1024 * (t.val / 5 % 2) + b, by omega⟩) := by
  have := lt_n t
  blk_ext! [iblk, V, (idx t).2.2.1]

/-- What one point adds. -/
theorem point (x0 : Vec Ideal S1024x1024 .bf16) (x1 : Vec Ideal S1024x1024 .bf16) (a : Fin 1024) (b : Fin 1024) : (k0_pay2 x0 x1 : S1024x1024.Idx → EReal) (ix2 a b)
    = ∑ s : Fin 1024, (x0 : S1024x1024.Idx → EReal) (ix2 a s) * (x1 : S1024x1024.Idx → EReal) (ix2 s b) := by
  pointwise [k0_pay2, k0_pay1]

theorem point_add (x0 : Vec Ideal S1024x1024 .bf16) (x1 : Vec Ideal S1024x1024 .bf16) (acc : Vec Ideal S1024x1024 .f32) (j : S1024x1024.Idx) :
    (k0_pay3 x0 x1 acc : S1024x1024.Idx → EReal) j = acc j + (k0_pay2 x0 x1 : S1024x1024.Idx → EReal) j := by
  pointwise [k0_pay3, k0_pay2]

theorem last (acc d : Vec Ideal S1024x1024 .f32) (a b : Fin 1024) : (k0_pay4 acc d : S1024x1024.Idx → EReal) (ix2 a b)
    = (d : S1024x1024.Idx → EReal) (ix2 a b) + (acc : S1024x1024.Idx → EReal) (ix2 a b) :=
  (show _ = (acc : S1024x1024.Idx → EReal) (ix2 a b) + (d : S1024x1024.Idx → EReal) (ix2 a b) from by pointwise [k0_pay4]).trans (add_comm _ _)

theorem kept_first (c : Dev nD) (t : Fin cfg0.N) (h : t.val % 5 = 0) : (outsAt0 m c t.val t.isLt).2 = k0_pay2 (iblk m c 0 t) (X0_1 m c t) := by
  rw [outsAt0_A m c t h (by omega) (by omega)]
  frame_out

theorem kept_later (c : Dev nD) (t : Fin cfg0.N) (h : ¬t.val % 5 = 0) : (outsAt0 m c t.val t.isLt).2
    = k0_pay3 (iblk m c 0 t) (X0_1 m c t) (outsAt0 m c (t.val - 1) (Nat.lt_of_le_of_lt (Nat.sub_le _ _) t.isLt)).2 := by
  by_cases h4 : t.val % 5 = 4
  · rw [outsAt0_C m c t h (by omega) h4]
    frame_out
    simp only [read_unread_whole]
  · rw [outsAt0_B m c t h (by omega) h4]
    frame_out
    simp only [read_unread_whole]

theorem written (c : Dev nD) (t : Fin cfg0.N) (h : t.val % 5 = 4) : (outsAt0 m c t.val t.isLt).1 = k0_pay4 (outsAt0 m c t.val t.isLt).2 (iblk m c 2 t) := by
  rw [kept_later m c t (by omega), outsAt0_C m c t (by omega) (by omega) h]
  frame_out
  simp only [read_unread_whole]

theorem point_lt (t : Fin cfg0.N) (s : Fin 5) : 5 * (t.val / 5) + s.val < cfg0.N := by
  have := lt_n t
  have e : cfg0.N = 20 := by decide +kernel
  omega

/-- After the last point of a run the buffer holds the sum of what its points add. -/
theorem kept (c : Dev nD) (t : Fin cfg0.N) (h : t.val % 5 = 4) (j : S1024x1024.Idx) : ((outsAt0 m c t.val t.isLt).2 : S1024x1024.Idx → EReal) j
    = 0 + ∑ s : Fin 5, (k0_pay2 (iblk m c 0 ⟨5 * (t.val / 5) + s, point_lt t s⟩) (X0_1 m c ⟨5 * (t.val / 5) + s, point_lt t s⟩) : S1024x1024.Idx → EReal) j :=
  Pipeline.eq_sum_fin_of_reset_step_apply_of_flush (fun n h => ((outsAt0 m c n h).2 : S1024x1024.Idx → EReal)) 5 (fun _ => 0)
    (fun p : Fin cfg0.N => (k0_pay2 (iblk m c 0 p) (X0_1 m c p) : S1024x1024.Idx → EReal))
    (fun t h j => by rw [kept_first m c t h, zero_add]) (fun t h j => by rw [kept_later m c t h]; exact point_add _ _ _ j) t h j

theorem final (c : Dev nD) : (dats m 0 c).arrAt 3 cfg0.N = fun i : S2048x2048.Idx =>
    out (m ((c.tc : Thread nD τ).loc main_arg0)) (m ((c.tc : Thread nD τ).loc main_arg1)) (m ((c.tc : Thread nD τ).loc main_arg2)) (i 0) (i 1) := by
  refine (dats m 0 c).arrAt_eq_of_covers 3 _ (by decide +kernel) fun t hf y => ?_
  have ht := lt_n t
  have h4 : t.val % 5 = 4 := (flush0_3 t).mp hf
  have io := (idx t).2.2.2
  have hy0 : (y 0).val < 1024 := (y 0).isLt
  have hy1 : (y 1).val < 1024 := (y 1).isLt
  rw [after0_3, written m c t h4]
  blk_simp [io, out]
  refine (congrArg (k0_pay4 (outsAt0 m c t.val t.isLt).2 (iblk m c 2 t)) (show y = @ix2 1024 1024 (y 0) (y 1) from by funext k; fin_cases k <;> rfl)).trans ?_
  refine (last _ _ _ _).trans ?_
  refine congrArg₂ (· + ·) ((blk_2 m c t _ _).trans (by blk_ext [io])) ((kept m c t h4 _).trans ((zero_add _).trans ?_))
  refine (Finset.sum_congr rfl fun s _ => point _ _ _ _).trans (Fin.sum_mul_add_congr fun s k hl => ?_)
  have hs := s.isLt
  have hk := k.isLt
  refine congrArg₂ (· * ·) ((blk_0 m c _ _ _).trans ?_) ((blk_1 m c _ _ _).trans ?_)
  · unfold plane
    blk_ext [io]
  · blk_ext [io]

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v1) = (fun i : S2048x2048.Idx =>
        out (m ((c.tc : Thread nD τ).loc main_arg0)) (m ((c.tc : Thread nD τ).loc main_arg1)) (m ((c.tc : Thread nD τ).loc main_arg2)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun r h c => ⟨(h c).1.trans (final m c), (h c).2⟩) (Value.run_blocks (F := Ideal) m ρ)

/-- The five planes side by side, at an index. -/
theorem planes_at (dp : Vec Ideal S6x2048x1024 .bf16) (r : Fin 2048) (l : Fin 5120) :
    (concatenate Cert.In1DxRefIdeal.S2048x5120 1 [⟨Cert.In1DxRefIdeal.S2048x1024, (shapeCast _ (extractStridedSlice Cert.In1DxRefIdeal.S1x2048x1024 ![0, 0, 0] dp Cert.In1DxRefIdeal.Gen.slices_S6x2048x1024_S1x2048x1024_0_0_0) Cert.In1DxRefIdeal.Gen.shapeCasts_S1x2048x1024_S2048x1024)⟩,
        ⟨Cert.In1DxRefIdeal.S2048x1024, (shapeCast _ (extractStridedSlice Cert.In1DxRefIdeal.S1x2048x1024 ![1, 0, 0] dp Cert.In1DxRefIdeal.Gen.slices_S6x2048x1024_S1x2048x1024_1_0_0) Cert.In1DxRefIdeal.Gen.shapeCasts_S1x2048x1024_S2048x1024)⟩,
        ⟨Cert.In1DxRefIdeal.S2048x1024, (shapeCast _ (extractStridedSlice Cert.In1DxRefIdeal.S1x2048x1024 ![3, 0, 0] dp Cert.In1DxRefIdeal.Gen.slices_S6x2048x1024_S1x2048x1024_3_0_0) Cert.In1DxRefIdeal.Gen.shapeCasts_S1x2048x1024_S2048x1024)⟩,
        ⟨Cert.In1DxRefIdeal.S2048x1024, (shapeCast _ (extractStridedSlice Cert.In1DxRefIdeal.S1x2048x1024 ![4, 0, 0] dp Cert.In1DxRefIdeal.Gen.slices_S6x2048x1024_S1x2048x1024_4_0_0) Cert.In1DxRefIdeal.Gen.shapeCasts_S1x2048x1024_S2048x1024)⟩,
        ⟨Cert.In1DxRefIdeal.S2048x1024, (shapeCast _ (extractStridedSlice Cert.In1DxRefIdeal.S1x2048x1024 ![5, 0, 0] dp Cert.In1DxRefIdeal.Gen.slices_S6x2048x1024_S1x2048x1024_5_0_0) Cert.In1DxRefIdeal.Gen.shapeCasts_S1x2048x1024_S2048x1024)⟩]
      Cert.In1DxRefIdeal.Gen.concatenates_S2048x1024_S2048x1024_S2048x1024_S2048x1024_S2048x1024_S2048x5120_d1 : Cert.In1DxRefIdeal.S2048x5120.Idx → EReal) (ix2 r l)
    = (dp : S6x2048x1024.Idx → EReal) (ix3 (plane ⟨l / 1024, by omega⟩) r ⟨l % 1024, by omega⟩) := by
  have hl := l.isLt
  unfold plane
  pointwise
  repeat' split
  all_goals blk_ext

/-- The reference, at an index. -/
theorem reference_at (dp : Vec Ideal S6x2048x1024 .bf16) (w : Vec Ideal S5128x2048 .bf16) (d : Vec Ideal S2048x2048 .f32) (i : S2048x2048.Idx) :
    (truncf .bf16 (addf d (Host.dotGeneral (F := Ideal) (φ₁ := .f32) (φ₂ := .f32) Cert.In1DxRefIdeal.dot_S2048x5120_S2048x5120_S2048x2048_1_1_0_0_n_n none
      (extf .f32 (concatenate Cert.In1DxRefIdeal.S2048x5120 1 [⟨Cert.In1DxRefIdeal.S2048x1024, (shapeCast _ (extractStridedSlice Cert.In1DxRefIdeal.S1x2048x1024 ![0, 0, 0] dp Cert.In1DxRefIdeal.Gen.slices_S6x2048x1024_S1x2048x1024_0_0_0) Cert.In1DxRefIdeal.Gen.shapeCasts_S1x2048x1024_S2048x1024)⟩,
        ⟨Cert.In1DxRefIdeal.S2048x1024, (shapeCast _ (extractStridedSlice Cert.In1DxRefIdeal.S1x2048x1024 ![1, 0, 0] dp Cert.In1DxRefIdeal.Gen.slices_S6x2048x1024_S1x2048x1024_1_0_0) Cert.In1DxRefIdeal.Gen.shapeCasts_S1x2048x1024_S2048x1024)⟩,
        ⟨Cert.In1DxRefIdeal.S2048x1024, (shapeCast _ (extractStridedSlice Cert.In1DxRefIdeal.S1x2048x1024 ![3, 0, 0] dp Cert.In1DxRefIdeal.Gen.slices_S6x2048x1024_S1x2048x1024_3_0_0) Cert.In1DxRefIdeal.Gen.shapeCasts_S1x2048x1024_S2048x1024)⟩,
        ⟨Cert.In1DxRefIdeal.S2048x1024, (shapeCast _ (extractStridedSlice Cert.In1DxRefIdeal.S1x2048x1024 ![4, 0, 0] dp Cert.In1DxRefIdeal.Gen.slices_S6x2048x1024_S1x2048x1024_4_0_0) Cert.In1DxRefIdeal.Gen.shapeCasts_S1x2048x1024_S2048x1024)⟩,
        ⟨Cert.In1DxRefIdeal.S2048x1024, (shapeCast _ (extractStridedSlice Cert.In1DxRefIdeal.S1x2048x1024 ![5, 0, 0] dp Cert.In1DxRefIdeal.Gen.slices_S6x2048x1024_S1x2048x1024_5_0_0) Cert.In1DxRefIdeal.Gen.shapeCasts_S1x2048x1024_S2048x1024)⟩]
      Cert.In1DxRefIdeal.Gen.concatenates_S2048x1024_S2048x1024_S2048x1024_S2048x1024_S2048x1024_S2048x5120_d1)
        Cert.In1DxRefIdeal.Gen.bitsLt_bf16_f32)
      (extf .f32 (extractStridedSlice Cert.In1DxRefIdeal.S2048x5120 ![0, 0] (transpose Cert.In1DxRefIdeal.S2048x5128 [1, 0] w Cert.In1DxRefIdeal.Gen.transposes_S5128x2048_S2048x5128_1_0)
        Cert.In1DxRefIdeal.Gen.slices_S2048x5128_S2048x5120_0_0) Cert.In1DxRefIdeal.Gen.bitsLt_bf16_f32)))
      Cert.In1DxRefIdeal.Gen.bitsLt_bf16_f32 : S2048x2048.Idx → EReal) i = out dp w d (i 0) (i 1) := by
  rw [show i = @ix2 2048 2048 (i 0) (i 1) from by funext k; fin_cases k <;> rfl]
  pointwise [out, planes_at]

/-- The call leaves what the reference computes. -/
theorem algebraic : Cert.algebraic_In1DxIdeal_In1DxRefIdeal := fun m ρ m' ρ' _ hm =>
  ⟨_, run m ρ, (θ_run _ _ _).mono (fun r h c => ⟨(h c).1.trans (by
      rw [(hm c).1, (hm c).2.1, (hm c).2.2]
      funext i
      exact reference_at _ _ _ i), (h c).2⟩) (Cert.In1DxRefIdeal.Value.run (F := Ideal) m' ρ')⟩

/-- The printed program and its idealization have one body table: nothing was rewritten. -/
theorem defs₀_eq : Cert.In1Dx.defs₀ (F := Bits) = Cert.In1DxIdeal.defs₀ (F := Bits) := by
  unfold Cert.In1Dx.defs₀ Cert.In1DxIdeal.defs₀
  refine congrArg (Defs.onTc (nD := nD) (τ := τ) (sig := sig) (Val := Elt Bits) (Λ := Λ₀)) ?_
  funext l a
  match l, a with
  | 0, (t, s) => rfl
  | ⟨_ + 1, h⟩, _ => exact absurd h (Nat.not_lt.2 (Nat.le_add_left _ _))

theorem defs_eq : Cert.In1Dx.defs (F := Bits) = Cert.In1DxIdeal.defs (F := Bits) := by
  unfold Cert.In1Dx.defs Cert.In1DxIdeal.defs
  rw [defs₀_eq]; rfl

theorem frame : Cert.quiescent_In1Dx := fun m ρ _ => by
  rw [defs_eq]
  exact Cert.In1DxIdeal.Gen.frame (F := Bits) m ρ

theorem frameIdeal : Cert.quiescent_In1DxIdeal := fun m ρ _ => Cert.In1DxIdeal.Gen.frame (F := Ideal) m ρ

theorem frameReference : Cert.quiescent_In1DxRefIdeal := fun m ρ _ =>
  (θ_run _ _ _).mono (fun r h => ⟨fun c => (h c).2, sem_eq_zero_of_no_sems (by decide) r.2⟩)
    (Cert.In1DxRefIdeal.Value.run (F := Ideal) m ρ)

end Cert.In1DxIdeal.Product

end
-- ==== Proof.Products.OutMm.lean ====
module

public import proofs.«01_k».proof.Defs
public import proofs.«01_k».proof.Proof.Gen.OutMm
public import proofs.«01_k».proof.Proof.Gen.OutMmIdeal.Value
public import proofs.«01_k».proof.Proof.Gen.OutMmRefIdeal.Run
public import Idealize.ShloMosaic.Lib.Pointwise
public import Idealize.ShloMosaic.Lib.Pipeline.ValueKit

/-!
A mixer's output projection, added to the layer's input.
-/

@[expose] public section

set_option maxRecDepth 16384

noncomputable section

namespace Cert.OutMmIdeal.Product

open Cert.OutMmIdeal Cert.OutMmIdeal.Gen
open Idealize.ShloMosaic Idealize.ShloMosaic.TcCoe
open Idealize.SL Idealize.SL.Sem

/-! ### Where a point's blocks lie -/

theorem idx : ∀ t : Fin grid0.N, win0_0.index t = ![0, 0] ∧ win0_1.index t = ![0, t.val] ∧ win0_2.index t = ![0, t.val] ∧ win0_3.index t = ![0, t.val] := by decide +kernel

theorem lt_n (t : Fin cfg0.N) : t.val < 4 := lt_of_lt_of_eq t.isLt (by decide +kernel)

/-- The residual and the rows of the input by the columns of the weights. -/
def out (x : S2048x2048.Idx → EReal) (w : S2048x2048.Idx → EReal) (z : S2048x2048.Idx → EReal) (r : Fin 2048) (n : Fin 2048) : EReal :=
  z (ix2 r n) + ∑ s : Fin 2048, x (ix2 r s) * w (ix2 s n)

variable (m : (ℓ : Loc nD τ sig) → Buf (Elt Ideal) ℓ)

theorem blk_0 (c : Dev nD) (t : Fin cfg0.N) (a : Fin 2048) (s : Fin 2048) : (iblk m c 0 t : S2048x2048.Idx → EReal) (ix2 a s)
    = (m ((c.tc : Thread nD τ).loc main_arg0) : S2048x2048.Idx → EReal) (ix2 a s) := by
  have := lt_n t
  blk_ext! [iblk, V, (idx t).1]

theorem blk_1 (c : Dev nD) (t : Fin cfg0.N) (s : Fin 2048) (b : Fin 512) : (iblk m c 1 t : S2048x512.Idx → EReal) (ix2 s b)
    = (m ((c.tc : Thread nD τ).loc main_arg1) : S2048x2048.Idx → EReal) (ix2 s ⟨512 * (t.val) + b, by have := lt_n t; omega⟩) := by
  have := lt_n t
  blk_ext! [iblk, V, (idx t).2.1]

theorem blk_2 (c : Dev nD) (t : Fin cfg0.N) (a : Fin 2048) (b : Fin 512) : (iblk m c 2 t : S2048x512.Idx → EReal) (ix2 a b)
    = (m ((c.tc : Thread nD τ).loc main_arg2) : S2048x2048.Idx → EReal) (ix2 a ⟨512 * (t.val) + b, by have := lt_n t; omega⟩) := by
  have := lt_n t
  blk_ext! [iblk, V, (idx t).2.2.1]

theorem store (x0 : Vec Ideal S2048x2048 .bf16) (x1 : Vec Ideal S2048x512 .bf16) (x2 : Vec Ideal S2048x512 .f32) : out0_3 x0 x1 x2 = k0_pay1 x0 x1 x2 := by
  unfold out0_3
  rw [View.canon_cons_unit_lit _ _ _ (by decide), View.ld_unit_lit _ _ (by decide), View.ld_unit_lit _ _ (by decide), View.ld_unit_lit _ _ (by decide)]

theorem point (x0 : Vec Ideal S2048x2048 .bf16) (x1 : Vec Ideal S2048x512 .bf16) (x2 : Vec Ideal S2048x512 .f32) (a : Fin 2048) (b : Fin 512) : (k0_pay1 x0 x1 x2 : S2048x512.Idx → EReal) (ix2 a b)
    = (x2 : S2048x512.Idx → EReal) (ix2 a b) + ∑ s : Fin 2048, (x0 : S2048x2048.Idx → EReal) (ix2 a s) * (x1 : S2048x512.Idx → EReal) (ix2 s b) := by
  pointwise [k0_pay1]
  exact add_comm _ _

theorem final (c : Dev nD) : (dats m 0 c).arrAt 3 cfg0.N = fun i : S2048x2048.Idx =>
    out (m ((c.tc : Thread nD τ).loc main_arg0)) (m ((c.tc : Thread nD τ).loc main_arg1)) (m ((c.tc : Thread nD τ).loc main_arg2)) (i 0) (i 1) := by
  refine (dats m 0 c).arrAt_eq_of_covers 3 _ (by decide +kernel) fun t hf y => ?_
  have ht := lt_n t
  have io := (idx t).2.2.2
  have hy0 : (y 0).val < 2048 := (y 0).isLt
  have hy1 : (y 1).val < 512 := (y 1).isLt
  rw [after0_3, store]
  blk_simp [io, out]
  refine (congrArg (k0_pay1 (iblk m c 0 t) (iblk m c 1 t) (iblk m c 2 t)) (show y = @ix2 2048 512 (y 0) (y 1) from by funext k; fin_cases k <;> rfl)).trans ?_
  exact (point _ _ _ _ _).trans (congrArg₂ (· + ·) ((blk_2 m c t (y 0) (y 1)).trans (by
    blk_ext [io]))
    (Finset.sum_congr rfl fun s _ => congrArg₂ (· * ·) ((blk_0 m c t (y 0) s).trans (by
    blk_ext [io]))
    ((blk_1 m c t s (y 1)).trans (by
    blk_ext [io]))))

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = (fun i : S2048x2048.Idx =>
        out (m ((c.tc : Thread nD τ).loc main_arg0)) (m ((c.tc : Thread nD τ).loc main_arg1)) (m ((c.tc : Thread nD τ).loc main_arg2)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun r h c => ⟨(h c).1.trans (final m c), (h c).2⟩) (Value.run_blocks (F := Ideal) m ρ)

/-- The call leaves what the reference computes. -/
theorem algebraic : Cert.algebraic_OutMmIdeal_OutMmRefIdeal := fun m ρ m' ρ' _ hm =>
  ⟨_, run m ρ, (θ_run _ _ _).mono (fun r h c => ⟨(h c).1.trans (by
      rw [(hm c).1, (hm c).2.1, (hm c).2.2]
      funext i
      have h0 : (i 0).val < 2048 := (i 0).isLt
      have h1 : (i 1).val < 2048 := (i 1).isLt
      rw [show i = @ix2 2048 2048 (i 0) (i 1) from by funext k; fin_cases k <;> rfl]
      pointwise [out]), (h c).2⟩) (Cert.OutMmRefIdeal.Value.run (F := Ideal) m' ρ')⟩

/-- The printed program and its idealization have one body table: nothing was rewritten. -/
theorem defs₀_eq : Cert.OutMm.defs₀ (F := Bits) = Cert.OutMmIdeal.defs₀ (F := Bits) := by
  unfold Cert.OutMm.defs₀ Cert.OutMmIdeal.defs₀
  refine congrArg (Defs.onTc (nD := nD) (τ := τ) (sig := sig) (Val := Elt Bits) (Λ := Λ₀)) ?_
  funext l a
  match l, a with
  | 0, (t, s) => rfl
  | ⟨_ + 1, h⟩, _ => exact absurd h (Nat.not_lt.2 (Nat.le_add_left _ _))

theorem defs_eq : Cert.OutMm.defs (F := Bits) = Cert.OutMmIdeal.defs (F := Bits) := by
  unfold Cert.OutMm.defs Cert.OutMmIdeal.defs
  rw [defs₀_eq]; rfl

theorem frame : Cert.quiescent_OutMm := fun m ρ _ => by
  rw [defs_eq]
  exact Cert.OutMmIdeal.Gen.frame (F := Bits) m ρ

theorem frameIdeal : Cert.quiescent_OutMmIdeal := fun m ρ _ => Cert.OutMmIdeal.Gen.frame (F := Ideal) m ρ

theorem frameReference : Cert.quiescent_OutMmRefIdeal := fun m ρ _ =>
  (θ_run _ _ _).mono (fun r h => ⟨fun c => (h c).2, sem_eq_zero_of_no_sems (by decide) r.2⟩)
    (Cert.OutMmRefIdeal.Value.run (F := Ideal) m ρ)

end Cert.OutMmIdeal.Product

end
-- ==== Proof.Products.OutDx.lean ====
module

public import proofs.«01_k».proof.Defs
public import proofs.«01_k».proof.Proof.Gen.OutDx
public import proofs.«01_k».proof.Proof.Gen.OutDxIdeal.Value
public import proofs.«01_k».proof.Proof.Gen.OutDxRefIdeal.Run
public import Idealize.ShloMosaic.Lib.Pointwise
public import Idealize.ShloMosaic.Lib.Pipeline.ValueKit

/-!
The gradient of an output projection's input.
-/

@[expose] public section

set_option maxRecDepth 16384

noncomputable section

namespace Cert.OutDxIdeal.Product

open Cert.OutDxIdeal Cert.OutDxIdeal.Gen
open Idealize.ShloMosaic Idealize.ShloMosaic.TcCoe
open Idealize.SL Idealize.SL.Sem

/-! ### Where a point's blocks lie -/

theorem idx : ∀ t : Fin grid0.N, win0_0.index t = ![t.val / 2, 0] ∧ win0_1.index t = ![t.val % 2, 0] ∧ win0_2.index t = ![t.val / 2, t.val % 2] := by decide +kernel

theorem lt_n (t : Fin cfg0.N) : t.val < 4 := lt_of_lt_of_eq t.isLt (by decide +kernel)

/-- The rows of the incoming gradient by the rows of the weights. -/
def out (x : S2048x2048.Idx → EReal) (w : S2048x2048.Idx → EReal) (r : Fin 2048) (n : Fin 2048) : EReal :=
  ∑ s : Fin 2048, x (ix2 r s) * w (ix2 n s)

variable (m : (ℓ : Loc nD τ sig) → Buf (Elt Ideal) ℓ)

theorem blk_0 (c : Dev nD) (t : Fin cfg0.N) (a : Fin 1024) (s : Fin 2048) : (iblk m c 0 t : S1024x2048.Idx → EReal) (ix2 a s)
    = (m ((c.tc : Thread nD τ).loc main_arg0) : S2048x2048.Idx → EReal) (ix2 ⟨1024 * (t.val / 2) + a, by have := lt_n t; omega⟩ s) := by
  have := lt_n t
  blk_ext! [iblk, V, (idx t).1]

theorem blk_1 (c : Dev nD) (t : Fin cfg0.N) (b : Fin 1024) (s : Fin 2048) : (iblk m c 1 t : S1024x2048.Idx → EReal) (ix2 b s)
    = (m ((c.tc : Thread nD τ).loc main_arg1) : S2048x2048.Idx → EReal) (ix2 ⟨1024 * (t.val % 2) + b, by have := lt_n t; omega⟩ s) := by
  have := lt_n t
  blk_ext! [iblk, V, (idx t).2.1]

theorem store (x0 : Vec Ideal S1024x2048 .bf16) (x1 : Vec Ideal S1024x2048 .bf16) : out0_2 x0 x1 = k0_pay1 x0 x1 := by
  unfold out0_2
  rw [View.canon_cons_unit_lit _ _ _ (by decide), View.ld_unit_lit _ _ (by decide), View.ld_unit_lit _ _ (by decide)]

theorem point (x0 : Vec Ideal S1024x2048 .bf16) (x1 : Vec Ideal S1024x2048 .bf16) (a : Fin 1024) (b : Fin 1024) : (k0_pay1 x0 x1 : S1024x1024.Idx → EReal) (ix2 a b)
    = ∑ s : Fin 2048, (x0 : S1024x2048.Idx → EReal) (ix2 a s) * (x1 : S1024x2048.Idx → EReal) (ix2 b s) := by
  pointwise [k0_pay1]

theorem final (c : Dev nD) : (dats m 0 c).arrAt 2 cfg0.N = fun i : S2048x2048.Idx =>
    out (m ((c.tc : Thread nD τ).loc main_arg0)) (m ((c.tc : Thread nD τ).loc main_arg1)) (i 0) (i 1) := by
  refine (dats m 0 c).arrAt_eq_of_covers 2 _ (by decide +kernel) fun t hf y => ?_
  have ht := lt_n t
  have io := (idx t).2.2
  have hy0 : (y 0).val < 1024 := (y 0).isLt
  have hy1 : (y 1).val < 1024 := (y 1).isLt
  rw [after0_2, store]
  blk_simp [io, out]
  refine (congrArg (k0_pay1 (iblk m c 0 t) (iblk m c 1 t)) (show y = @ix2 1024 1024 (y 0) (y 1) from by funext k; fin_cases k <;> rfl)).trans ?_
  exact (point _ _ _ _).trans (Finset.sum_congr rfl fun s _ => congrArg₂ (· * ·) ((blk_0 m c t (y 0) s).trans (by
    blk_ext [io]))
    ((blk_1 m c t (y 1) s).trans (by
    blk_ext [io])))

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = (fun i : S2048x2048.Idx =>
        out (m ((c.tc : Thread nD τ).loc main_arg0)) (m ((c.tc : Thread nD τ).loc main_arg1)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨(h c).1.trans (final m c), (h c).2⟩) (Value.run_blocks (F := Ideal) m ρ)

/-- The call leaves what the reference computes. -/
theorem algebraic : Cert.algebraic_OutDxIdeal_OutDxRefIdeal := fun m ρ m' ρ' _ hm =>
  ⟨_, run m ρ, (θ_run _ _ _).mono (fun r h c => ⟨(h c).1.trans (by
      rw [(hm c).1, (hm c).2]
      funext i
      have h0 : (i 0).val < 2048 := (i 0).isLt
      have h1 : (i 1).val < 2048 := (i 1).isLt
      rw [show i = @ix2 2048 2048 (i 0) (i 1) from by funext k; fin_cases k <;> rfl]
      pointwise [out]), (h c).2⟩) (Cert.OutDxRefIdeal.Value.run (F := Ideal) m' ρ')⟩

/-- The printed program and its idealization have one body table: nothing was rewritten. -/
theorem defs₀_eq : Cert.OutDx.defs₀ (F := Bits) = Cert.OutDxIdeal.defs₀ (F := Bits) := by
  unfold Cert.OutDx.defs₀ Cert.OutDxIdeal.defs₀
  refine congrArg (Defs.onTc (nD := nD) (τ := τ) (sig := sig) (Val := Elt Bits) (Λ := Λ₀)) ?_
  funext l a
  match l, a with
  | 0, (t, s) => rfl
  | ⟨_ + 1, h⟩, _ => exact absurd h (Nat.not_lt.2 (Nat.le_add_left _ _))

theorem defs_eq : Cert.OutDx.defs (F := Bits) = Cert.OutDxIdeal.defs (F := Bits) := by
  unfold Cert.OutDx.defs Cert.OutDxIdeal.defs
  rw [defs₀_eq]; rfl

theorem frame : Cert.quiescent_OutDx := fun m ρ _ => by
  rw [defs_eq]
  exact Cert.OutDxIdeal.Gen.frame (F := Bits) m ρ

theorem frameIdeal : Cert.quiescent_OutDxIdeal := fun m ρ _ => Cert.OutDxIdeal.Gen.frame (F := Ideal) m ρ

theorem frameReference : Cert.quiescent_OutDxRefIdeal := fun m ρ _ =>
  (θ_run _ _ _).mono (fun r h => ⟨fun c => (h c).2, sem_eq_zero_of_no_sems (by decide) r.2⟩)
    (Cert.OutDxRefIdeal.Value.run (F := Ideal) m ρ)

end Cert.OutDxIdeal.Product

end
-- ==== Proof.Products.OutDw.lean ====
module

public import proofs.«01_k».proof.Defs
public import proofs.«01_k».proof.Proof.Gen.OutDw
public import proofs.«01_k».proof.Proof.Gen.OutDwIdeal.Value
public import proofs.«01_k».proof.Proof.Gen.OutDwRefIdeal.Run
public import Idealize.ShloMosaic.Lib.Pointwise
public import Idealize.ShloMosaic.Lib.Pipeline.ValueKit

/-!
The gradient of an output projection's weights.
-/

@[expose] public section

set_option maxRecDepth 16384

noncomputable section

namespace Cert.OutDwIdeal.Product

open Cert.OutDwIdeal Cert.OutDwIdeal.Gen
open Idealize.ShloMosaic Idealize.ShloMosaic.TcCoe
open Idealize.SL Idealize.SL.Sem

/-! ### Where a point's blocks lie -/

theorem idx : ∀ t : Fin grid0.N, win0_0.index t = ![0, t.val] ∧ win0_1.index t = ![0, 0] ∧ win0_2.index t = ![t.val, 0] := by decide +kernel

theorem lt_n (t : Fin cfg0.N) : t.val < 4 := lt_of_lt_of_eq t.isLt (by decide +kernel)

/-- The columns of the input by the columns of the incoming gradient. -/
def out (x : S2048x2048.Idx → EReal) (dy : S2048x2048.Idx → EReal) (r : Fin 2048) (n : Fin 2048) : EReal :=
  ∑ s : Fin 2048, x (ix2 s r) * dy (ix2 s n)

variable (m : (ℓ : Loc nD τ sig) → Buf (Elt Ideal) ℓ)

theorem blk_0 (c : Dev nD) (t : Fin cfg0.N) (s : Fin 2048) (a : Fin 512) : (iblk m c 0 t : S2048x512.Idx → EReal) (ix2 s a)
    = (m ((c.tc : Thread nD τ).loc main_arg0) : S2048x2048.Idx → EReal) (ix2 s ⟨512 * t.val + a, by have := lt_n t; omega⟩) := by
  have := lt_n t
  blk_ext! [iblk, V, (idx t).1]

theorem blk_1 (c : Dev nD) (t : Fin cfg0.N) (s : Fin 2048) (b : Fin 2048) : (iblk m c 1 t : S2048x2048.Idx → EReal) (ix2 s b)
    = (m ((c.tc : Thread nD τ).loc main_arg1) : S2048x2048.Idx → EReal) (ix2 s b) := by
  have := lt_n t
  blk_ext! [iblk, V, (idx t).2.1]

theorem store (x0 : Vec Ideal S2048x512 .bf16) (x1 : Vec Ideal S2048x2048 .bf16) : out0_2 x0 x1 = k0_pay1 x1 x0 := by
  unfold out0_2
  rw [View.canon_cons_unit_lit _ _ _ (by decide), View.ld_unit_lit _ _ (by decide), View.ld_unit_lit _ _ (by decide)]

theorem point (x0 : Vec Ideal S2048x512 .bf16) (x1 : Vec Ideal S2048x2048 .bf16) (a : Fin 512) (b : Fin 2048) : (k0_pay1 x1 x0 : S512x2048.Idx → EReal) (ix2 a b)
    = ∑ s : Fin 2048, (x0 : S2048x512.Idx → EReal) (ix2 s a) * (x1 : S2048x2048.Idx → EReal) (ix2 s b) := by
  pointwise [k0_pay1]

theorem final (c : Dev nD) : (dats m 0 c).arrAt 2 cfg0.N = fun i : S2048x2048.Idx =>
    out (m ((c.tc : Thread nD τ).loc main_arg0)) (m ((c.tc : Thread nD τ).loc main_arg1)) (i 0) (i 1) := by
  refine (dats m 0 c).arrAt_eq_of_covers 2 _ (by decide +kernel) fun t hf y => ?_
  have ht := lt_n t
  have io := (idx t).2.2
  have hy0 : (y 0).val < 512 := (y 0).isLt
  have hy1 : (y 1).val < 2048 := (y 1).isLt
  rw [after0_2, store]
  blk_simp [io, out]
  refine (congrArg (k0_pay1 (iblk m c 1 t) (iblk m c 0 t)) (show y = @ix2 512 2048 (y 0) (y 1) from by funext k; fin_cases k <;> rfl)).trans ?_
  exact (point _ _ _ _).trans (Finset.sum_congr rfl fun s _ => congrArg₂ (· * ·) ((blk_0 m c t s (y 0)).trans (by
    blk_ext [io]))
    ((blk_1 m c t s (y 1)).trans (by
    blk_ext [io])))

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = (fun i : S2048x2048.Idx =>
        out (m ((c.tc : Thread nD τ).loc main_arg0)) (m ((c.tc : Thread nD τ).loc main_arg1)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨(h c).1.trans (final m c), (h c).2⟩) (Value.run_blocks (F := Ideal) m ρ)

/-- The call leaves what the reference computes. -/
theorem algebraic : Cert.algebraic_OutDwIdeal_OutDwRefIdeal := fun m ρ m' ρ' _ hm =>
  ⟨_, run m ρ, (θ_run _ _ _).mono (fun r h c => ⟨(h c).1.trans (by
      rw [(hm c).1, (hm c).2]
      funext i
      have h0 : (i 0).val < 2048 := (i 0).isLt
      have h1 : (i 1).val < 2048 := (i 1).isLt
      rw [show i = @ix2 2048 2048 (i 0) (i 1) from by funext k; fin_cases k <;> rfl]
      pointwise [out]
      refine Finset.sum_congr rfl fun s _ => (mul_comm _ _).trans ?_
      refine congrArg₂ (· * ·) ?_ ?_ <;> blk_ext), (h c).2⟩) (Cert.OutDwRefIdeal.Value.run (F := Ideal) m' ρ')⟩

/-- The printed program and its idealization have one body table: nothing was rewritten. -/
theorem defs₀_eq : Cert.OutDw.defs₀ (F := Bits) = Cert.OutDwIdeal.defs₀ (F := Bits) := by
  unfold Cert.OutDw.defs₀ Cert.OutDwIdeal.defs₀
  refine congrArg (Defs.onTc (nD := nD) (τ := τ) (sig := sig) (Val := Elt Bits) (Λ := Λ₀)) ?_
  funext l a
  match l, a with
  | 0, (t, s) => rfl
  | ⟨_ + 1, h⟩, _ => exact absurd h (Nat.not_lt.2 (Nat.le_add_left _ _))

theorem defs_eq : Cert.OutDw.defs (F := Bits) = Cert.OutDwIdeal.defs (F := Bits) := by
  unfold Cert.OutDw.defs Cert.OutDwIdeal.defs
  rw [defs₀_eq]; rfl

theorem frame : Cert.quiescent_OutDw := fun m ρ _ => by
  rw [defs_eq]
  exact Cert.OutDwIdeal.Gen.frame (F := Bits) m ρ

theorem frameIdeal : Cert.quiescent_OutDwIdeal := fun m ρ _ => Cert.OutDwIdeal.Gen.frame (F := Ideal) m ρ

theorem frameReference : Cert.quiescent_OutDwRefIdeal := fun m ρ _ =>
  (θ_run _ _ _).mono (fun r h => ⟨fun c => (h c).2, sem_eq_zero_of_no_sems (by decide) r.2⟩)
    (Cert.OutDwRefIdeal.Value.run (F := Ideal) m ρ)

end Cert.OutDwIdeal.Product

end
-- ==== Proof.Products.GateMm.lean ====
module

public import proofs.«01_k».proof.Defs
public import proofs.«01_k».proof.Proof.Gen.GateMm
public import proofs.«01_k».proof.Proof.Gen.GateMmIdeal.Value
public import proofs.«01_k».proof.Proof.Gen.GateMmRefIdeal.Run
public import Idealize.ShloMosaic.Lib.Pointwise
public import Idealize.ShloMosaic.Lib.Pipeline.ValueKit

/-!
The logits of the forgetting attention's gate.
-/

@[expose] public section

set_option maxRecDepth 16384

noncomputable section

namespace Cert.GateMmIdeal.Product

open Cert.GateMmIdeal Cert.GateMmIdeal.Gen
open Idealize.ShloMosaic Idealize.ShloMosaic.TcCoe
open Idealize.SL Idealize.SL.Sem

/-! ### Where a point's blocks lie -/

theorem idx : ∀ t : Fin grid0.N, win0_0.index t = ![t.val, 0] ∧ win0_1.index t = ![0, 0] ∧ win0_2.index t = ![t.val, 0] := by decide +kernel

theorem lt_n (t : Fin cfg0.N) : t.val < 2 := lt_of_lt_of_eq t.isLt (by decide +kernel)

/-- The rows of the input by the rows of the turned weights. -/
def out (x : S2048x2048.Idx → EReal) (w : S128x2048.Idx → EReal) (r : Fin 2048) (n : Fin 128) : EReal :=
  ∑ s : Fin 2048, x (ix2 r s) * w (ix2 n s)

variable (m : (ℓ : Loc nD τ sig) → Buf (Elt Ideal) ℓ)

theorem blk_0 (c : Dev nD) (t : Fin cfg0.N) (a : Fin 1024) (s : Fin 2048) : (iblk m c 0 t : S1024x2048.Idx → EReal) (ix2 a s)
    = (m ((c.tc : Thread nD τ).loc main_arg0) : S2048x2048.Idx → EReal) (ix2 ⟨1024 * t.val + a, by have := lt_n t; omega⟩ s) := by
  have := lt_n t
  blk_ext! [iblk, V, (idx t).1]

theorem blk_1 (c : Dev nD) (t : Fin cfg0.N) (b : Fin 128) (s : Fin 2048) : (iblk m c 1 t : S128x2048.Idx → EReal) (ix2 b s)
    = (m ((c.tc : Thread nD τ).loc main_arg1) : S128x2048.Idx → EReal) (ix2 b s) := by
  have := lt_n t
  blk_ext! [iblk, V, (idx t).2.1]

theorem store (x0 : Vec Ideal S1024x2048 .bf16) (x1 : Vec Ideal S128x2048 .bf16) : out0_2 x0 x1 = k0_pay1 x0 x1 := by
  unfold out0_2
  rw [View.canon_cons_unit_lit _ _ _ (by decide), View.ld_unit_lit _ _ (by decide), View.ld_unit_lit _ _ (by decide)]

theorem point (x0 : Vec Ideal S1024x2048 .bf16) (x1 : Vec Ideal S128x2048 .bf16) (a : Fin 1024) (b : Fin 128) : (k0_pay1 x0 x1 : S1024x128.Idx → EReal) (ix2 a b)
    = ∑ s : Fin 2048, (x0 : S1024x2048.Idx → EReal) (ix2 a s) * (x1 : S128x2048.Idx → EReal) (ix2 b s) := by
  pointwise [k0_pay1]

theorem final (c : Dev nD) : (dats m 0 c).arrAt 2 cfg0.N = fun i : S2048x128.Idx =>
    out (m ((c.tc : Thread nD τ).loc main_arg0)) (m ((c.tc : Thread nD τ).loc main_arg1)) (i 0) (i 1) := by
  refine (dats m 0 c).arrAt_eq_of_covers 2 _ (by decide +kernel) fun t hf y => ?_
  have ht := lt_n t
  have io := (idx t).2.2
  have hy0 : (y 0).val < 1024 := (y 0).isLt
  have hy1 : (y 1).val < 128 := (y 1).isLt
  rw [after0_2, store]
  blk_simp [io, out]
  refine (congrArg (k0_pay1 (iblk m c 0 t) (iblk m c 1 t)) (show y = @ix2 1024 128 (y 0) (y 1) from by funext k; fin_cases k <;> rfl)).trans ?_
  exact (point _ _ _ _).trans (Finset.sum_congr rfl fun s _ => congrArg₂ (· * ·) ((blk_0 m c t (y 0) s).trans (by
    blk_ext [io]))
    ((blk_1 m c t (y 1) s).trans (by
    blk_ext [io])))

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = (fun i : S2048x128.Idx =>
        out (m ((c.tc : Thread nD τ).loc main_arg0)) (m ((c.tc : Thread nD τ).loc main_arg1)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨(h c).1.trans (final m c), (h c).2⟩) (Value.run_blocks (F := Ideal) m ρ)

/-- The call leaves what the reference computes. -/
theorem algebraic : Cert.algebraic_GateMmIdeal_GateMmRefIdeal := fun m ρ m' ρ' _ hm =>
  ⟨_, run m ρ, (θ_run _ _ _).mono (fun r h c => ⟨(h c).1.trans (by
      rw [(hm c).1, (hm c).2]
      funext i
      have h0 : (i 0).val < 2048 := (i 0).isLt
      have h1 : (i 1).val < 128 := (i 1).isLt
      rw [show i = @ix2 2048 128 (i 0) (i 1) from by funext k; fin_cases k <;> rfl]
      pointwise [out]), (h c).2⟩) (Cert.GateMmRefIdeal.Value.run (F := Ideal) m' ρ')⟩

/-- The printed program and its idealization have one body table: nothing was rewritten. -/
theorem defs₀_eq : Cert.GateMm.defs₀ (F := Bits) = Cert.GateMmIdeal.defs₀ (F := Bits) := by
  unfold Cert.GateMm.defs₀ Cert.GateMmIdeal.defs₀
  refine congrArg (Defs.onTc (nD := nD) (τ := τ) (sig := sig) (Val := Elt Bits) (Λ := Λ₀)) ?_
  funext l a
  match l, a with
  | 0, (t, s) => rfl
  | ⟨_ + 1, h⟩, _ => exact absurd h (Nat.not_lt.2 (Nat.le_add_left _ _))

theorem defs_eq : Cert.GateMm.defs (F := Bits) = Cert.GateMmIdeal.defs (F := Bits) := by
  unfold Cert.GateMm.defs Cert.GateMmIdeal.defs
  rw [defs₀_eq]; rfl

theorem frame : Cert.quiescent_GateMm := fun m ρ _ => by
  rw [defs_eq]
  exact Cert.GateMmIdeal.Gen.frame (F := Bits) m ρ

theorem frameIdeal : Cert.quiescent_GateMmIdeal := fun m ρ _ => Cert.GateMmIdeal.Gen.frame (F := Ideal) m ρ

theorem frameReference : Cert.quiescent_GateMmRefIdeal := fun m ρ _ =>
  (θ_run _ _ _).mono (fun r h => ⟨fun c => (h c).2, sem_eq_zero_of_no_sems (by decide) r.2⟩)
    (Cert.GateMmRefIdeal.Value.run (F := Ideal) m ρ)

end Cert.GateMmIdeal.Product

end
-- ==== Proof.Products.GateDw.lean ====
module

public import proofs.«01_k».proof.Defs
public import proofs.«01_k».proof.Proof.Gen.GateDw
public import proofs.«01_k».proof.Proof.Gen.GateDwIdeal.Value
public import proofs.«01_k».proof.Proof.Gen.GateDwRefIdeal.Run
public import Idealize.ShloMosaic.Lib.Pointwise
public import Idealize.ShloMosaic.Lib.Pipeline.ValueKit

/-!
The gradient of the weights of the forgetting attention's gate, turned.
-/

@[expose] public section

set_option maxRecDepth 16384

noncomputable section

namespace Cert.GateDwIdeal.Product

open Cert.GateDwIdeal Cert.GateDwIdeal.Gen
open Idealize.ShloMosaic Idealize.ShloMosaic.TcCoe
open Idealize.SL Idealize.SL.Sem

/-! ### Where a point's blocks lie -/

theorem idx : ∀ t : Fin grid0.N, win0_0.index t = ![0, 0] ∧ win0_1.index t = ![0, 0] ∧ win0_2.index t = ![0, 0] := by decide +kernel

theorem lt_n (t : Fin cfg0.N) : t.val < 1 := lt_of_lt_of_eq t.isLt (by decide +kernel)

/-- The columns of the incoming gradient by the columns of the input. -/
def out (dy : S2048x128.Idx → EReal) (x : S2048x2048.Idx → EReal) (r : Fin 128) (n : Fin 2048) : EReal :=
  ∑ s : Fin 2048, dy (ix2 s r) * x (ix2 s n)

variable (m : (ℓ : Loc nD τ sig) → Buf (Elt Ideal) ℓ)

theorem blk_0 (c : Dev nD) (t : Fin cfg0.N) (s : Fin 2048) (a : Fin 128) : (iblk m c 0 t : S2048x128.Idx → EReal) (ix2 s a)
    = (m ((c.tc : Thread nD τ).loc main_arg0) : S2048x128.Idx → EReal) (ix2 s a) := by
  have := lt_n t
  blk_ext! [iblk, V, (idx t).1]

theorem blk_1 (c : Dev nD) (t : Fin cfg0.N) (s : Fin 2048) (b : Fin 2048) : (iblk m c 1 t : S2048x2048.Idx → EReal) (ix2 s b)
    = (m ((c.tc : Thread nD τ).loc main_arg1) : S2048x2048.Idx → EReal) (ix2 s b) := by
  have := lt_n t
  blk_ext! [iblk, V, (idx t).2.1]

theorem store (x0 : Vec Ideal S2048x128 .bf16) (x1 : Vec Ideal S2048x2048 .bf16) : out0_2 x0 x1 = k0_pay1 x1 x0 := by
  unfold out0_2
  rw [View.canon_cons_unit_lit _ _ _ (by decide), View.ld_unit_lit _ _ (by decide), View.ld_unit_lit _ _ (by decide)]

theorem point (x0 : Vec Ideal S2048x128 .bf16) (x1 : Vec Ideal S2048x2048 .bf16) (a : Fin 128) (b : Fin 2048) : (k0_pay1 x1 x0 : S128x2048.Idx → EReal) (ix2 a b)
    = ∑ s : Fin 2048, (x0 : S2048x128.Idx → EReal) (ix2 s a) * (x1 : S2048x2048.Idx → EReal) (ix2 s b) := by
  pointwise [k0_pay1]

theorem final (c : Dev nD) : (dats m 0 c).arrAt 2 cfg0.N = fun i : S128x2048.Idx =>
    out (m ((c.tc : Thread nD τ).loc main_arg0)) (m ((c.tc : Thread nD τ).loc main_arg1)) (i 0) (i 1) := by
  refine (dats m 0 c).arrAt_eq_of_covers 2 _ (by decide +kernel) fun t hf y => ?_
  have ht := lt_n t
  have io := (idx t).2.2
  have hy0 : (y 0).val < 128 := (y 0).isLt
  have hy1 : (y 1).val < 2048 := (y 1).isLt
  rw [after0_2, store]
  blk_simp [io, out]
  refine (congrArg (k0_pay1 (iblk m c 1 t) (iblk m c 0 t)) (show y = @ix2 128 2048 (y 0) (y 1) from by funext k; fin_cases k <;> rfl)).trans ?_
  exact (point _ _ _ _).trans (Finset.sum_congr rfl fun s _ => congrArg₂ (· * ·) ((blk_0 m c t s (y 0)).trans (by
    blk_ext [io]))
    ((blk_1 m c t s (y 1)).trans (by
    blk_ext [io])))

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = (fun i : S128x2048.Idx =>
        out (m ((c.tc : Thread nD τ).loc main_arg0)) (m ((c.tc : Thread nD τ).loc main_arg1)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨(h c).1.trans (final m c), (h c).2⟩) (Value.run_blocks (F := Ideal) m ρ)

/-- The call leaves what the reference computes. -/
theorem algebraic : Cert.algebraic_GateDwIdeal_GateDwRefIdeal := fun m ρ m' ρ' _ hm =>
  ⟨_, run m ρ, (θ_run _ _ _).mono (fun r h c => ⟨(h c).1.trans (by
      rw [(hm c).1, (hm c).2]
      funext i
      have h0 : (i 0).val < 128 := (i 0).isLt
      have h1 : (i 1).val < 2048 := (i 1).isLt
      rw [show i = @ix2 128 2048 (i 0) (i 1) from by funext k; fin_cases k <;> rfl]
      pointwise [out]), (h c).2⟩) (Cert.GateDwRefIdeal.Value.run (F := Ideal) m' ρ')⟩

/-- The printed program and its idealization have one body table: nothing was rewritten. -/
theorem defs₀_eq : Cert.GateDw.defs₀ (F := Bits) = Cert.GateDwIdeal.defs₀ (F := Bits) := by
  unfold Cert.GateDw.defs₀ Cert.GateDwIdeal.defs₀
  refine congrArg (Defs.onTc (nD := nD) (τ := τ) (sig := sig) (Val := Elt Bits) (Λ := Λ₀)) ?_
  funext l a
  match l, a with
  | 0, (t, s) => rfl
  | ⟨_ + 1, h⟩, _ => exact absurd h (Nat.not_lt.2 (Nat.le_add_left _ _))

theorem defs_eq : Cert.GateDw.defs (F := Bits) = Cert.GateDwIdeal.defs (F := Bits) := by
  unfold Cert.GateDw.defs Cert.GateDwIdeal.defs
  rw [defs₀_eq]; rfl

theorem frame : Cert.quiescent_GateDw := fun m ρ _ => by
  rw [defs_eq]
  exact Cert.GateDwIdeal.Gen.frame (F := Bits) m ρ

theorem frameIdeal : Cert.quiescent_GateDwIdeal := fun m ρ _ => Cert.GateDwIdeal.Gen.frame (F := Ideal) m ρ

theorem frameReference : Cert.quiescent_GateDwRefIdeal := fun m ρ _ =>
  (θ_run _ _ _).mono (fun r h => ⟨fun c => (h c).2, sem_eq_zero_of_no_sems (by decide) r.2⟩)
    (Cert.GateDwRefIdeal.Value.run (F := Ideal) m ρ)

end Cert.GateDwIdeal.Product

end
-- ==== Proof.Products.GateDx.lean ====
module

public import proofs.«01_k».proof.Defs
public import proofs.«01_k».proof.Proof.Gen.GateDx
public import proofs.«01_k».proof.Proof.Gen.GateDxIdeal.Value
public import proofs.«01_k».proof.Proof.Gen.GateDxRefIdeal.Run
public import Idealize.ShloMosaic.Lib.Pointwise
public import Idealize.ShloMosaic.Lib.Pipeline.ValueKit

/-!
The gradient of the input that the gate of the forgetting attention gives back.
-/

@[expose] public section

set_option maxRecDepth 16384

noncomputable section

namespace Cert.GateDxIdeal.Product

open Cert.GateDxIdeal Cert.GateDxIdeal.Gen
open Idealize.ShloMosaic Idealize.ShloMosaic.TcCoe
open Idealize.SL Idealize.SL.Sem

/-! ### Where a point's blocks lie -/

theorem idx : ∀ t : Fin grid0.N, win0_0.index t = ![t.val / 2, 0] ∧ win0_1.index t = ![0, t.val % 2] ∧ win0_2.index t = ![t.val / 2, t.val % 2] := by decide +kernel

theorem lt_n (t : Fin cfg0.N) : t.val < 4 := lt_of_lt_of_eq t.isLt (by decide +kernel)

/-- The rows of the incoming gradient by the columns of the turned weights. -/
def out (dy : S2048x128.Idx → EReal) (w : S128x2048.Idx → EReal) (r : Fin 2048) (n : Fin 2048) : EReal :=
  ∑ s : Fin 128, dy (ix2 r s) * w (ix2 s n)

variable (m : (ℓ : Loc nD τ sig) → Buf (Elt Ideal) ℓ)

theorem blk_0 (c : Dev nD) (t : Fin cfg0.N) (a : Fin 1024) (s : Fin 128) : (iblk m c 0 t : S1024x128.Idx → EReal) (ix2 a s)
    = (m ((c.tc : Thread nD τ).loc main_arg0) : S2048x128.Idx → EReal) (ix2 ⟨1024 * (t.val / 2) + a, by have := lt_n t; omega⟩ s) := by
  have := lt_n t
  blk_ext! [iblk, V, (idx t).1]

theorem blk_1 (c : Dev nD) (t : Fin cfg0.N) (s : Fin 128) (b : Fin 1024) : (iblk m c 1 t : S128x1024.Idx → EReal) (ix2 s b)
    = (m ((c.tc : Thread nD τ).loc main_arg1) : S128x2048.Idx → EReal) (ix2 s ⟨1024 * (t.val % 2) + b, by have := lt_n t; omega⟩) := by
  have := lt_n t
  blk_ext! [iblk, V, (idx t).2.1]

theorem store (x0 : Vec Ideal S1024x128 .bf16) (x1 : Vec Ideal S128x1024 .bf16) : out0_2 x0 x1 = k0_pay1 x0 x1 := by
  unfold out0_2
  rw [View.canon_cons_unit_lit _ _ _ (by decide), View.ld_unit_lit _ _ (by decide), View.ld_unit_lit _ _ (by decide)]

theorem point (x0 : Vec Ideal S1024x128 .bf16) (x1 : Vec Ideal S128x1024 .bf16) (a : Fin 1024) (b : Fin 1024) : (k0_pay1 x0 x1 : S1024x1024.Idx → EReal) (ix2 a b)
    = ∑ s : Fin 128, (x0 : S1024x128.Idx → EReal) (ix2 a s) * (x1 : S128x1024.Idx → EReal) (ix2 s b) := by
  pointwise [k0_pay1]

theorem final (c : Dev nD) : (dats m 0 c).arrAt 2 cfg0.N = fun i : S2048x2048.Idx =>
    out (m ((c.tc : Thread nD τ).loc main_arg0)) (m ((c.tc : Thread nD τ).loc main_arg1)) (i 0) (i 1) := by
  refine (dats m 0 c).arrAt_eq_of_covers 2 _ (by decide +kernel) fun t hf y => ?_
  have ht := lt_n t
  have io := (idx t).2.2
  have hy0 : (y 0).val < 1024 := (y 0).isLt
  have hy1 : (y 1).val < 1024 := (y 1).isLt
  rw [after0_2, store]
  blk_simp [io, out]
  refine (congrArg (k0_pay1 (iblk m c 0 t) (iblk m c 1 t)) (show y = @ix2 1024 1024 (y 0) (y 1) from by funext k; fin_cases k <;> rfl)).trans ?_
  exact (point _ _ _ _).trans (Finset.sum_congr rfl fun s _ => congrArg₂ (· * ·) ((blk_0 m c t (y 0) s).trans (by
    blk_ext [io]))
    ((blk_1 m c t s (y 1)).trans (by
    blk_ext [io])))

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = (fun i : S2048x2048.Idx =>
        out (m ((c.tc : Thread nD τ).loc main_arg0)) (m ((c.tc : Thread nD τ).loc main_arg1)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨(h c).1.trans (final m c), (h c).2⟩) (Value.run_blocks (F := Ideal) m ρ)

/-- The call leaves what the reference computes. -/
theorem algebraic : Cert.algebraic_GateDxIdeal_GateDxRefIdeal := fun m ρ m' ρ' _ hm =>
  ⟨_, run m ρ, (θ_run _ _ _).mono (fun r h c => ⟨(h c).1.trans (by
      rw [(hm c).1, (hm c).2]
      funext i
      have h0 : (i 0).val < 2048 := (i 0).isLt
      have h1 : (i 1).val < 2048 := (i 1).isLt
      rw [show i = @ix2 2048 2048 (i 0) (i 1) from by funext k; fin_cases k <;> rfl]
      pointwise [out]), (h c).2⟩) (Cert.GateDxRefIdeal.Value.run (F := Ideal) m' ρ')⟩

/-- The printed program and its idealization have one body table: nothing was rewritten. -/
theorem defs₀_eq : Cert.GateDx.defs₀ (F := Bits) = Cert.GateDxIdeal.defs₀ (F := Bits) := by
  unfold Cert.GateDx.defs₀ Cert.GateDxIdeal.defs₀
  refine congrArg (Defs.onTc (nD := nD) (τ := τ) (sig := sig) (Val := Elt Bits) (Λ := Λ₀)) ?_
  funext l a
  match l, a with
  | 0, (t, s) => rfl
  | ⟨_ + 1, h⟩, _ => exact absurd h (Nat.not_lt.2 (Nat.le_add_left _ _))

theorem defs_eq : Cert.GateDx.defs (F := Bits) = Cert.GateDxIdeal.defs (F := Bits) := by
  unfold Cert.GateDx.defs Cert.GateDxIdeal.defs
  rw [defs₀_eq]; rfl

theorem frame : Cert.quiescent_GateDx := fun m ρ _ => by
  rw [defs_eq]
  exact Cert.GateDxIdeal.Gen.frame (F := Bits) m ρ

theorem frameIdeal : Cert.quiescent_GateDxIdeal := fun m ρ _ => Cert.GateDxIdeal.Gen.frame (F := Ideal) m ρ

theorem frameReference : Cert.quiescent_GateDxRefIdeal := fun m ρ _ =>
  (θ_run _ _ _).mono (fun r h => ⟨fun c => (h c).2, sem_eq_zero_of_no_sems (by decide) r.2⟩)
    (Cert.GateDxRefIdeal.Value.run (F := Ideal) m ρ)

end Cert.GateDxIdeal.Product

end
-- ==== Proof.Products.Short.lean ====
module

public import Idealize.ShloMosaic.Lib.Pointwise

/-!
The causal convolution of width three, and its gradient: a row of the result takes the row itself and the two before it.
-/

@[expose] public section

noncomputable section

namespace Cert.Short

open Idealize.ShloMosaic

/-- The row `k` before, and zero before the first row. -/
def late (k : ℕ) (s : Fin 2048 → EReal) (r : Fin 2048) : EReal := if k ≤ r.val then s ⟨r - k, by omega⟩ else 0

/-- The row `k` after, and zero after the last row. -/
def early (k : ℕ) (s : Fin 2048 → EReal) (r : Fin 2048) : EReal := if h : r.val + k < 2048 then s ⟨r + k, h⟩ else 0

/-- The convolution. -/
def conv (w : Fin 3 → EReal) (s : Fin 2048 → EReal) (r : Fin 2048) : EReal := w 0 * late 2 s r + w 1 * late 1 s r + w 2 * s r

/-- The convolution turned round, which takes the gradient back. -/
def back (w : Fin 3 → EReal) (d : Fin 2048 → EReal) (r : Fin 2048) : EReal := w 2 * d r + w 1 * early 1 d r + w 0 * early 2 d r

/-- A row read through a turn of the array, kept where the turn did not wrap. -/
theorem select_late {k : ℕ} (hk : k ≤ 2) (w : EReal) (s : Fin 2048 → EReal) (r : Fin 2048) (h) :
    Scalar.select (IntOp.cmpi .sge (BitVec.ofNat 32 r.val) (BitVec.ofNat 32 k)) (w * s ⟨(r.val + 2048 - k) % 2048, h⟩) 0 = w * late k s r := by
  have hr := r.isLt
  have e : (BitVec.ofNat 32 k).sle (BitVec.ofNat 32 r.val) = decide (k ≤ r.val) := by
    rw [BitVec.sle_eq_decide]
    simp only [BitVec.toInt_eq_toNat_cond, BitVec.toNat_ofNat]
    rw [Nat.mod_eq_of_lt (by omega), Nat.mod_eq_of_lt (by omega), if_pos (by omega), if_pos (by omega)]
    exact decide_eq_decide.2 (by omega)
  unfold late Scalar.select IntOp.cmpi
  dsimp only
  rw [e]
  by_cases h : k ≤ r.val
  · rw [if_pos h, decide_eq_true h, if_pos (show BitVec.ofBool true = 1 by decide)]
    exact congrArg (fun r => w * s r) (Fin.ext (by show (r.val + 2048 - k) % 2048 = r.val - k; omega))
  · rw [if_neg h, decide_eq_false h, if_neg (by decide), mul_zero]

/-- A row read through a turn the other way. -/
theorem select_early {k n : ℕ} (hk : 0 < k) (hn : n + k = 2048) (w : EReal) (s : Fin 2048 → EReal) (r : Fin 2048) (h) :
    Scalar.select (IntOp.cmpi .slt (BitVec.ofNat 32 r.val) (BitVec.ofNat 32 n)) (w * s ⟨(r.val + 2048 - n) % 2048, h⟩) 0 = w * early k s r := by
  have hr := r.isLt
  have e : (BitVec.ofNat 32 r.val).slt (BitVec.ofNat 32 n) = decide (r.val + k < 2048) := by
    rw [BitVec.slt_eq_decide]
    simp only [BitVec.toInt_eq_toNat_cond, BitVec.toNat_ofNat]
    rw [Nat.mod_eq_of_lt (by omega), Nat.mod_eq_of_lt (by omega), if_pos (by omega), if_pos (by omega)]
    exact decide_eq_decide.2 (by omega)
  unfold early Scalar.select IntOp.cmpi
  dsimp only
  rw [e]
  by_cases h : r.val + k < 2048
  · rw [dif_pos h, decide_eq_true h, if_pos (show BitVec.ofBool true = 1 by decide)]
    exact congrArg (fun r => w * s r) (Fin.ext (by show (r.val + 2048 - n) % 2048 = r.val + k; omega))
  · rw [dif_neg h, decide_eq_false h, if_neg (by decide), mul_zero]

/-- A row of the array behind two rows of zeros is the row two before. -/
theorem pad_two (s : Fin 2048 → EReal) (r : Fin 2048) (h : ¬ r.val < 2 → r.val - 2 < 2048) : (if h' : r.val < 2 then 0 else s ⟨r.val - 2, h h'⟩) = late 2 s r := by
  unfold late
  by_cases h' : r.val < 2
  · rw [dif_pos h', if_neg (by omega)]
  · rw [dif_neg h', if_pos (by omega)]

/-- And the one after it the row before. -/
theorem pad_one (s : Fin 2048 → EReal) (r : Fin 2048) (h : ¬ 1 + r.val < 2 → 1 + r.val - 2 < 2048) : (if h' : 1 + r.val < 2 then 0 else s ⟨1 + r.val - 2, h h'⟩) = late 1 s r := by
  unfold late
  by_cases h' : 1 + r.val < 2
  · rw [dif_pos h', if_neg (by omega)]
  · rw [dif_neg h', if_pos (by omega)]
    exact congrArg s (Fin.ext (by show 1 + r.val - 2 = r.val - 1; omega))

/-- The array two rows up, and zeros where it ends, is the row two after. -/
theorem ahead_two (w : EReal) (s : Fin 2048 → EReal) (r : Fin 2048) : (if h : 2 + r.val < 2048 then s ⟨2 + r.val, h⟩ * w else 0) = w * early 2 s r := by
  unfold early
  by_cases h : 2 + r.val < 2048
  · rw [dif_pos h, dif_pos (by omega), mul_comm]
    exact congrArg (fun r => w * s r) (Fin.ext (Nat.add_comm _ _))
  · rw [dif_neg h, dif_neg (by omega), mul_zero]

/-- One row up is the row after. -/
theorem ahead_one (w : EReal) (s : Fin 2048 → EReal) (r : Fin 2048) :
    (if h : 1 ≤ 2 + r.val ∧ 2 + r.val - 1 < 2048 then s ⟨2 + r.val - 1, h.2⟩ * w else 0) = w * early 1 s r := by
  unfold early
  by_cases h : 1 ≤ 2 + r.val ∧ 2 + r.val - 1 < 2048
  · rw [dif_pos h, dif_pos (by omega), mul_comm]
    exact congrArg (fun r => w * s r) (Fin.ext (by show 2 + r.val - 1 = r.val + 1; omega))
  · rw [dif_neg h, dif_neg (by omega), mul_zero]

/-- A sum against the row two before leaves out the first two rows. -/
theorem sum_late (e s : Fin 2048 → EReal) :
    (∑ r : Fin 2, 0 * e ⟨r.val, by omega⟩) + ∑ r : Fin 2046, s ⟨r.val, by omega⟩ * e ⟨2 + r.val, by omega⟩ = ∑ r, e r * late 2 s r := by
  refine Eq.trans (congrArg₂ (· + ·) (Finset.sum_congr rfl fun r _ => ?_) (Finset.sum_congr rfl fun r _ => ?_)) (Fin.sum_univ_add (a := 2) (b := 2046) fun r => e r * late 2 s r).symm
  · have hr := r.isLt
    unfold late
    rw [if_neg (by show ¬ 2 ≤ r.val; omega), zero_mul, mul_zero]
  · unfold late
    rw [if_pos (by show 2 ≤ 2 + r.val; omega), mul_comm]
    exact congrArg₂ (· * ·) rfl (congrArg s (Fin.ext (by show r.val = 2 + r.val - 2; omega)))

end Cert.Short

end
-- ==== Proof.Products.ShortBwd.lean ====
module

public import proofs.«01_k».proof.Defs
public import proofs.«01_k».proof.Proof.Gen.ShortBwd
public import proofs.«01_k».proof.Proof.Gen.ShortBwdIdeal.Value
public import proofs.«01_k».proof.Proof.Gen.ShortBwdRefIdeal.Run
public import proofs.«01_k».proof.Proof.Products.Short
public import Idealize.ShloMosaic.Lib.Pointwise
public import Idealize.ShloMosaic.Lib.Pipeline.ValueKit

/-!
The gradients of mixer 0's short convolution.
-/

@[expose] public section

set_option maxRecDepth 16384

noncomputable section

namespace Cert.ShortBwdIdeal.Product

open Cert.ShortBwdIdeal Cert.ShortBwdIdeal.Gen
open Idealize.ShloMosaic Idealize.ShloMosaic.TcCoe
open Idealize.SL Idealize.SL.Sem

variable (m : (ℓ : Loc nD τ sig) → Buf (Elt Ideal) ℓ)

/-- What the convolution takes in: the product of the second gate and the input. -/
def inner (p : S2048x6144.Idx → EReal) (b : Fin 1024) (r : Fin 2048) : EReal :=
  p (ix2 r ⟨b.val + 4096, by omega⟩) * p (ix2 r ⟨b.val + 5120, by omega⟩)

/-- The gradient of what the convolution gives. -/
def outer (p : S2048x6144.Idx → EReal) (d : S2048x2048.Idx → EReal) (b : Fin 1024) (r : Fin 2048) : EReal :=
  d (ix2 r ⟨b.val + 1024, by omega⟩) * p (ix2 r ⟨b.val + 3072, by omega⟩)

/-- A column of the taps. -/
def taps (w : S3x1024.Idx → EReal) (b : Fin 1024) (k : Fin 3) : EReal := w (ix2 k b)

/-- The gradients of the two gates and the input, in the last three of six planes; the first three are what they were. -/
def outP (p : S2048x6144.Idx → EReal) (w : S3x1024.Idx → EReal) (d : S2048x2048.Idx → EReal) (x : S6x2048x1024.Idx → EReal) (k : Fin 6) (a : Fin 2048) (b : Fin 1024) : EReal :=
  if k.val < 3 then x (ix3 k a b)
  else if k.val = 3 then d (ix2 a ⟨b.val + 1024, by omega⟩) * Short.conv (taps w b) (inner p b) a
  else if k.val = 4 then Short.back (taps w b) (outer p d b) a * p (ix2 a ⟨b.val + 5120, by omega⟩)
  else Short.back (taps w b) (outer p d b) a * p (ix2 a ⟨b.val + 4096, by omega⟩)

/-- The gradient of the taps. -/
def outW (p : S2048x6144.Idx → EReal) (d : S2048x2048.Idx → EReal) (k : Fin 3) (b : Fin 1024) : EReal :=
  ∑ r : Fin 2048, outer p d b r * Short.late (2 - k.val) (inner p b) r

theorem idx : ∀ t : Fin grid0.N, win0_0.index t = ![0, 12 + t.val] ∧ win0_1.index t = ![0, 16 + t.val] ∧ win0_2.index t = ![0, 20 + t.val]
    ∧ win0_3.index t = ![0, t.val] ∧ win0_4.index t = ![0, 4 + t.val] ∧ win0_5.index t = ![1, 0, t.val] ∧ win0_6.index t = ![0, t.val] := by decide +kernel

theorem lt_n (t : Fin cfg0.N) : t.val < 4 := lt_of_lt_of_eq t.isLt (by decide +kernel)

theorem flushes : ∀ t : Fin grid0.N, win0_5.flush t = true ∧ win0_6.flush t = true := by decide +kernel

/-- The call starts from a copy of the planes it writes. -/
theorem start (c : Dev nD) (i : S6x2048x1024.Idx) : V m c (Pipeline.arrRef spec0 5) i = (m ((c.tc : Thread nD τ).loc main_arg3) : S6x2048x1024.Idx → EReal) i := by
  show V m c main_v0_0 i = _
  rfl

theorem blk_0 (c : Dev nD) (t : Fin cfg0.N) (a : Fin 2048) (b : Fin 256) : (iblk m c 0 t : S2048x256.Idx → EReal) (ix2 a b)
    = (m ((c.tc : Thread nD τ).loc main_arg0) : S2048x6144.Idx → EReal) (ix2 a ⟨3072 + 256 * t.val + b, by have := lt_n t; omega⟩) := by
  have := lt_n t
  have io := (idx t).1
  refine Eq.trans ?_ (congrFun (V_main_arg0 m c) _)
  blk_ext! [iblk, io]

theorem blk_1 (c : Dev nD) (t : Fin cfg0.N) (a : Fin 2048) (b : Fin 256) : (iblk m c 1 t : S2048x256.Idx → EReal) (ix2 a b)
    = (m ((c.tc : Thread nD τ).loc main_arg0) : S2048x6144.Idx → EReal) (ix2 a ⟨4096 + 256 * t.val + b, by have := lt_n t; omega⟩) := by
  have := lt_n t
  have io := (idx t).2.1
  refine Eq.trans ?_ (congrFun (V_main_arg0 m c) _)
  blk_ext! [iblk, io]

theorem blk_2 (c : Dev nD) (t : Fin cfg0.N) (a : Fin 2048) (b : Fin 256) : (iblk m c 2 t : S2048x256.Idx → EReal) (ix2 a b)
    = (m ((c.tc : Thread nD τ).loc main_arg0) : S2048x6144.Idx → EReal) (ix2 a ⟨5120 + 256 * t.val + b, by have := lt_n t; omega⟩) := by
  have := lt_n t
  have io := (idx t).2.2.1
  refine Eq.trans ?_ (congrFun (V_main_arg0 m c) _)
  blk_ext! [iblk, io]

theorem blk_3 (c : Dev nD) (t : Fin cfg0.N) (a : Fin 3) (b : Fin 256) : (iblk m c 3 t : S3x256.Idx → EReal) (ix2 a b)
    = (m ((c.tc : Thread nD τ).loc main_arg1) : S3x1024.Idx → EReal) (ix2 a ⟨256 * t.val + b, by have := lt_n t; omega⟩) := by
  have := lt_n t
  have io := (idx t).2.2.2.1
  refine Eq.trans ?_ (congrFun (V_main_arg1 m c) _)
  blk_ext! [iblk, io]

theorem blk_4 (c : Dev nD) (t : Fin cfg0.N) (a : Fin 2048) (b : Fin 256) : (iblk m c 4 t : S2048x256.Idx → EReal) (ix2 a b)
    = (m ((c.tc : Thread nD τ).loc main_arg2) : S2048x2048.Idx → EReal) (ix2 a ⟨1024 + 256 * t.val + b, by have := lt_n t; omega⟩) := by
  have := lt_n t
  have io := (idx t).2.2.2.2.1
  refine Eq.trans ?_ (congrFun (V_main_arg2 m c) _)
  blk_ext! [iblk, io]

/-! ### What a point leaves -/

/-- The three planes a point writes, from its blocks. -/
def planes (x0 x1 x2 : Vec Ideal S2048x256 .bf16) (x3 : Vec Ideal S3x256 .f32) (x4 : Vec Ideal S2048x256 .bf16) (k : Fin 3) (a : Fin 2048) (b : Fin 256) : EReal :=
  if k.val = 0 then (x4 : S2048x256.Idx → EReal) (ix2 a b) * Short.conv (fun k => (x3 : S3x256.Idx → EReal) (ix2 k b)) (fun r => (x1 : S2048x256.Idx → EReal) (ix2 r b) * (x2 : S2048x256.Idx → EReal) (ix2 r b)) a
  else if k.val = 1 then Short.back (fun k => (x3 : S3x256.Idx → EReal) (ix2 k b)) (fun r => (x4 : S2048x256.Idx → EReal) (ix2 r b) * (x0 : S2048x256.Idx → EReal) (ix2 r b)) a * (x2 : S2048x256.Idx → EReal) (ix2 a b)
  else Short.back (fun k => (x3 : S3x256.Idx → EReal) (ix2 k b)) (fun r => (x4 : S2048x256.Idx → EReal) (ix2 r b) * (x0 : S2048x256.Idx → EReal) (ix2 r b)) a * (x1 : S2048x256.Idx → EReal) (ix2 a b)

theorem planes_congr (x0 x1 x2 : Vec Ideal S2048x256 .bf16) (x3 : Vec Ideal S3x256 .f32) (x4 : Vec Ideal S2048x256 .bf16) {k k' : Fin 3} {a a' : Fin 2048} {b b' : Fin 256} (hk : k = k') (ha : a = a') (hb : b = b') :
    planes x0 x1 x2 x3 x4 k a b = planes x0 x1 x2 x3 x4 k' a' b' := by subst hk ha hb; rfl

/-- The taps' gradient a point writes. -/
def sums (x0 x1 x2 x4 : Vec Ideal S2048x256 .bf16) (k : Fin 3) (b : Fin 256) : EReal :=
  ∑ r : Fin 2048, (x4 : S2048x256.Idx → EReal) (ix2 r b) * (x0 : S2048x256.Idx → EReal) (ix2 r b) * Short.late (2 - k.val) (fun r => (x1 : S2048x256.Idx → EReal) (ix2 r b) * (x2 : S2048x256.Idx → EReal) (ix2 r b)) r

theorem plane_0 (x0 x1 x2 : Vec Ideal S2048x256 .bf16) (x3 : Vec Ideal S3x256 .f32) (x4 : Vec Ideal S2048x256 .bf16) (a : Fin 2048) (b : Fin 256) :
    (k0_pay13 x3 (k0_pay5 x4) (k0_pay6 x1 x2) (k0_pay9 x3) k0_pay10 (k0_pay11 x1 x2) (k0_pay12 (F := Ideal)) : S1x2048x256.Idx → EReal) (ix3 0 a b) = planes x0 x1 x2 x3 x4 0 a b := by
  refine Eq.trans ?_ (if_pos rfl).symm
  pointwise [k0_pay13, k0_pay5, k0_pay6, k0_pay9, k0_pay10, k0_pay11, k0_pay12, k0_pay3, k0_pay4]
  refine congrArg (_ * ·) (congrArg (· + _) (congrArg₂ (· + ·) ?_ ?_))
  · exact Short.select_late (k := 2) (by decide) _ (fun r => (x1 : S2048x256.Idx → EReal) (ix2 r b) * (x2 : S2048x256.Idx → EReal) (ix2 r b)) a _
  · exact Short.select_late (k := 1) (by decide) _ (fun r => (x1 : S2048x256.Idx → EReal) (ix2 r b) * (x2 : S2048x256.Idx → EReal) (ix2 r b)) a _

theorem plane_1 (x0 x1 x2 : Vec Ideal S2048x256 .bf16) (x3 : Vec Ideal S3x256 .f32) (x4 : Vec Ideal S2048x256 .bf16) (a : Fin 2048) (b : Fin 256) :
    (k0_pay14 (k0_pay4 x2) (k0_pay8 x0 x3 x4) : S1x2048x256.Idx → EReal) (ix3 0 a b) = planes x0 x1 x2 x3 x4 1 a b := by
  refine Eq.trans ?_ (if_neg (by decide)).symm
  refine Eq.trans ?_ (if_pos rfl).symm
  pointwise [k0_pay14, k0_pay8, k0_pay7, k0_pay5, k0_pay4]
  refine congrArg (· * _) (congrArg₂ (· + ·) (congrArg₂ (· + ·) rfl ?_) ?_)
  · exact Short.select_early (k := 1) (n := 2047) (by decide) (by decide) _ (fun r => (x4 : S2048x256.Idx → EReal) (ix2 r b) * (x0 : S2048x256.Idx → EReal) (ix2 r b)) a _
  · exact Short.select_early (k := 2) (n := 2046) (by decide) (by decide) _ (fun r => (x4 : S2048x256.Idx → EReal) (ix2 r b) * (x0 : S2048x256.Idx → EReal) (ix2 r b)) a _

theorem plane_2 (x0 x1 x2 : Vec Ideal S2048x256 .bf16) (x3 : Vec Ideal S3x256 .f32) (x4 : Vec Ideal S2048x256 .bf16) (a : Fin 2048) (b : Fin 256) :
    (k0_pay15 (k0_pay3 x1) (k0_pay8 x0 x3 x4) : S1x2048x256.Idx → EReal) (ix3 0 a b) = planes x0 x1 x2 x3 x4 2 a b := by
  refine Eq.trans ?_ (if_neg (by decide)).symm
  refine Eq.trans ?_ (if_neg (by decide)).symm
  pointwise [k0_pay15, k0_pay8, k0_pay7, k0_pay5, k0_pay3]
  refine congrArg (· * _) (congrArg₂ (· + ·) (congrArg₂ (· + ·) rfl ?_) ?_)
  · exact Short.select_early (k := 1) (n := 2047) (by decide) (by decide) _ (fun r => (x4 : S2048x256.Idx → EReal) (ix2 r b) * (x0 : S2048x256.Idx → EReal) (ix2 r b)) a _
  · exact Short.select_early (k := 2) (n := 2046) (by decide) (by decide) _ (fun r => (x4 : S2048x256.Idx → EReal) (ix2 r b) * (x0 : S2048x256.Idx → EReal) (ix2 r b)) a _

theorem sum_0 (x0 x1 x2 x4 : Vec Ideal S2048x256 .bf16) (b : Fin 256) : (k0_pay16 (k0_pay6 x1 x2) (k0_pay7 x0 x4) : S1x256.Idx → EReal) (ix2 0 b) = sums x0 x1 x2 x4 0 b := by
  unfold sums
  pointwise [k0_pay16, k0_pay7, k0_pay6, k0_pay5, k0_pay4, k0_pay3]
  exact Finset.sum_congr rfl fun r _ => Short.select_late (k := 2) (by decide) _ (fun r => (x1 : S2048x256.Idx → EReal) (ix2 r b) * (x2 : S2048x256.Idx → EReal) (ix2 r b)) r _

theorem sum_1 (x0 x1 x2 x4 : Vec Ideal S2048x256 .bf16) (b : Fin 256) : (k0_pay1 (k0_pay6 x1 x2) (k0_pay7 x0 x4) : S1x256.Idx → EReal) (ix2 0 b) = sums x0 x1 x2 x4 1 b := by
  unfold sums
  pointwise [k0_pay1, k0_pay7, k0_pay6, k0_pay5, k0_pay4, k0_pay3]
  exact Finset.sum_congr rfl fun r _ => Short.select_late (k := 1) (by decide) _ (fun r => (x1 : S2048x256.Idx → EReal) (ix2 r b) * (x2 : S2048x256.Idx → EReal) (ix2 r b)) r _

theorem sum_2 (x0 x1 x2 x4 : Vec Ideal S2048x256 .bf16) (b : Fin 256) : (k0_pay2 (k0_pay6 x1 x2) (k0_pay7 x0 x4) : S1x256.Idx → EReal) (ix2 0 b) = sums x0 x1 x2 x4 2 b := by
  unfold sums
  pointwise [k0_pay2, k0_pay7, k0_pay6, k0_pay5, k0_pay4, k0_pay3]
  rfl

theorem store_5 (c : Dev nD) (t : Fin cfg0.N) (x0 x1 x2 : Vec Ideal S2048x256 .bf16) (x3 : Vec Ideal S3x256 .f32) (x4 : Vec Ideal S2048x256 .bf16) (y : S3x2048x256.Idx) :
    (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) x0 x1 x2 x3 x4 : S3x2048x256.Idx → EReal) y
      = planes x0 x1 x2 x3 x4 (y 0) (y 1) (y 2) := by
  frame_out
  refine View.canon_apply_of_pieces (Val := Elt Ideal) (e := .bf16) (S := S3x2048x256) (fun y : S3x2048x256.Idx => planes x0 x1 x2 x3 x4 (y 0) (y 1) (y 2)) _ (fun p hp => ?_) y
    (View.cover_of_tiledL (s := S3x2048x256) _ S1x2048x256.size (by sl_kernel_rfl) y)
  simp only [List.mem_cons, List.not_mem_nil, or_false] at hp
  have ha (x : S1x2048x256.Idx) : x = @ix3 1 2048 256 0 (x 1) (x 2) := by
    funext k; fin_cases k
    · exact Fin.ext (Nat.lt_one_iff.1 (x 0).isLt)
    · rfl
    · rfl
  rcases hp with rfl | rfl | rfl <;> intro x
  · refine (congrArg _ (ha x)).trans ((plane_2 x0 x1 x2 x3 x4 (x 1) (x 2)).trans (planes_congr _ _ _ _ _ (Fin.ext ?_) (Fin.ext ?_) (Fin.ext ?_)))
    · have h : (x 0).val < 1 := (x 0).isLt
      show 2 = 2 + 1 * (x 0).val
      omega
    · show (x 1).val = 0 + 1 * (x 1).val
      omega
    · show (x 2).val = 0 + 1 * (x 2).val
      omega
  · refine (congrArg _ (ha x)).trans ((plane_1 x0 x1 x2 x3 x4 (x 1) (x 2)).trans (planes_congr _ _ _ _ _ (Fin.ext ?_) (Fin.ext ?_) (Fin.ext ?_)))
    · have h : (x 0).val < 1 := (x 0).isLt
      show 1 = 1 + 1 * (x 0).val
      omega
    · show (x 1).val = 0 + 1 * (x 1).val
      omega
    · show (x 2).val = 0 + 1 * (x 2).val
      omega
  · refine (congrArg _ (ha x)).trans ((plane_0 x0 x1 x2 x3 x4 (x 1) (x 2)).trans (planes_congr _ _ _ _ _ (Fin.ext ?_) (Fin.ext ?_) (Fin.ext ?_)))
    · have h : (x 0).val < 1 := (x 0).isLt
      show 0 = 0 + 1 * (x 0).val
      omega
    · show (x 1).val = 0 + 1 * (x 1).val
      omega
    · show (x 2).val = 0 + 1 * (x 2).val
      omega

theorem store_6 (c : Dev nD) (t : Fin cfg0.N) (x0 x1 x2 : Vec Ideal S2048x256 .bf16) (x3 : Vec Ideal S3x256 .f32) (x4 : Vec Ideal S2048x256 .bf16) (y : S3x256.Idx) :
    (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) x0 x1 x2 x3 x4 : S3x256.Idx → EReal) y
      = sums x0 x1 x2 x4 (y 0) (y 1) := by
  frame_out
  refine View.canon_apply_of_pieces (Val := Elt Ideal) (e := .f32) (S := S3x256) (fun y : S3x256.Idx => sums x0 x1 x2 x4 (y 0) (y 1)) _ (fun p hp => ?_) y
    (View.cover_of_tiledL (s := S3x256) _ S1x256.size (by sl_kernel_rfl) y)
  simp only [List.mem_cons, List.not_mem_nil, or_false] at hp
  have ha (x : S1x256.Idx) : x = @ix2 1 256 0 (x 1) := by
    funext k; fin_cases k
    · exact Fin.ext (Nat.lt_one_iff.1 (x 0).isLt)
    · rfl
  rcases hp with rfl | rfl | rfl <;> intro x
  · refine (congrArg _ (ha x)).trans ((sum_2 x0 x1 x2 x4 (x 1)).trans (congrArg₂ (sums x0 x1 x2 x4) (Fin.ext ?_) (Fin.ext ?_)))
    · have h : (x 0).val < 1 := (x 0).isLt
      show 2 = 2 + 1 * (x 0).val
      omega
    · show (x 1).val = 0 + 1 * (x 1).val
      omega
  · refine (congrArg _ (ha x)).trans ((sum_1 x0 x1 x2 x4 (x 1)).trans (congrArg₂ (sums x0 x1 x2 x4) (Fin.ext ?_) (Fin.ext ?_)))
    · have h : (x 0).val < 1 := (x 0).isLt
      show 1 = 1 + 1 * (x 0).val
      omega
    · show (x 1).val = 0 + 1 * (x 1).val
      omega
  · refine (congrArg _ (ha x)).trans ((sum_0 x0 x1 x2 x4 (x 1)).trans (congrArg₂ (sums x0 x1 x2 x4) (Fin.ext ?_) (Fin.ext ?_)))
    · have h : (x 0).val < 1 := (x 0).isLt
      show 0 = 0 + 1 * (x 0).val
      omega
    · show (x 1).val = 0 + 1 * (x 1).val
      omega

/-! ### A point's blocks in the arrays -/

section Blocks
variable (c : Dev nD) (t : Fin cfg0.N) (b : Fin 256)

/-- The column of the arrays a point's column is. -/
def col : Fin 1024 := ⟨256 * t.val + b, by have := lt_n t; omega⟩

theorem col_0 (r : Fin 2048) : (show Vec Ideal S2048x256 .bf16 from iblk m c 0 t : S2048x256.Idx → EReal) (ix2 r b)
    = (m ((c.tc : Thread nD τ).loc main_arg0) : S2048x6144.Idx → EReal) (ix2 r ⟨(col t b).val + 3072, by omega⟩) :=
  (blk_0 m c t r b).trans (congrArg (fun b => (m ((c.tc : Thread nD τ).loc main_arg0) : S2048x6144.Idx → EReal) (ix2 r b)) (Fin.ext (by show 3072 + 256 * t.val + b.val = 256 * t.val + b.val + 3072; omega)))

theorem col_1 (r : Fin 2048) : (show Vec Ideal S2048x256 .bf16 from iblk m c 1 t : S2048x256.Idx → EReal) (ix2 r b)
    = (m ((c.tc : Thread nD τ).loc main_arg0) : S2048x6144.Idx → EReal) (ix2 r ⟨(col t b).val + 4096, by omega⟩) :=
  (blk_1 m c t r b).trans (congrArg (fun b => (m ((c.tc : Thread nD τ).loc main_arg0) : S2048x6144.Idx → EReal) (ix2 r b)) (Fin.ext (by show 4096 + 256 * t.val + b.val = 256 * t.val + b.val + 4096; omega)))

theorem col_2 (r : Fin 2048) : (show Vec Ideal S2048x256 .bf16 from iblk m c 2 t : S2048x256.Idx → EReal) (ix2 r b)
    = (m ((c.tc : Thread nD τ).loc main_arg0) : S2048x6144.Idx → EReal) (ix2 r ⟨(col t b).val + 5120, by omega⟩) :=
  (blk_2 m c t r b).trans (congrArg (fun b => (m ((c.tc : Thread nD τ).loc main_arg0) : S2048x6144.Idx → EReal) (ix2 r b)) (Fin.ext (by show 5120 + 256 * t.val + b.val = 256 * t.val + b.val + 5120; omega)))

theorem col_4 (r : Fin 2048) : (show Vec Ideal S2048x256 .bf16 from iblk m c 4 t : S2048x256.Idx → EReal) (ix2 r b)
    = (m ((c.tc : Thread nD τ).loc main_arg2) : S2048x2048.Idx → EReal) (ix2 r ⟨(col t b).val + 1024, by omega⟩) :=
  (blk_4 m c t r b).trans (congrArg (fun b => (m ((c.tc : Thread nD τ).loc main_arg2) : S2048x2048.Idx → EReal) (ix2 r b)) (Fin.ext (by show 1024 + 256 * t.val + b.val = 256 * t.val + b.val + 1024; omega)))

theorem inner_at : (fun r => (show Vec Ideal S2048x256 .bf16 from iblk m c 1 t : S2048x256.Idx → EReal) (ix2 r b) * (show Vec Ideal S2048x256 .bf16 from iblk m c 2 t : S2048x256.Idx → EReal) (ix2 r b))
    = inner (m ((c.tc : Thread nD τ).loc main_arg0)) (col t b) := funext fun r => congrArg₂ (· * ·) (col_1 m c t b r) (col_2 m c t b r)

theorem outer_at : (fun r => (show Vec Ideal S2048x256 .bf16 from iblk m c 4 t : S2048x256.Idx → EReal) (ix2 r b) * (show Vec Ideal S2048x256 .bf16 from iblk m c 0 t : S2048x256.Idx → EReal) (ix2 r b))
    = outer (m ((c.tc : Thread nD τ).loc main_arg0)) (m ((c.tc : Thread nD τ).loc main_arg2)) (col t b) := funext fun r => congrArg₂ (· * ·) (col_4 m c t b r) (col_0 m c t b r)

theorem taps_at : (fun k => (show Vec Ideal S3x256 .f32 from iblk m c 3 t : S3x256.Idx → EReal) (ix2 k b))
    = taps (m ((c.tc : Thread nD τ).loc main_arg1)) (col t b) := funext fun k => blk_3 m c t k b

theorem planes_at (k : Fin 3) (a : Fin 2048) : planes (iblk m c 0 t) (iblk m c 1 t) (iblk m c 2 t) (iblk m c 3 t) (iblk m c 4 t) k a b
    = outP (m ((c.tc : Thread nD τ).loc main_arg0)) (m ((c.tc : Thread nD τ).loc main_arg1)) (m ((c.tc : Thread nD τ).loc main_arg2)) (m ((c.tc : Thread nD τ).loc main_arg3)) ⟨3 + k.val, by omega⟩ a (col t b) := by
  refine Eq.trans ?_ (if_neg (show ¬ 3 + k.val < 3 by omega)).symm
  unfold planes
  by_cases h0 : k.val = 0
  · refine (if_pos h0).trans (Eq.trans ?_ (if_pos (show 3 + k.val = 3 by omega)).symm)
    exact congrArg₂ (· * ·) (col_4 m c t b a) (congrArg₂ (fun w s => Short.conv w s a) (taps_at m c t b) (inner_at m c t b))
  refine (if_neg h0).trans (Eq.trans ?_ (if_neg (show ¬ 3 + k.val = 3 by omega)).symm)
  by_cases h1 : k.val = 1
  · refine (if_pos h1).trans (Eq.trans ?_ (if_pos (show 3 + k.val = 4 by omega)).symm)
    exact congrArg₂ (· * ·) (congrArg₂ (fun w s => Short.back w s a) (taps_at m c t b) (outer_at m c t b)) (col_2 m c t b a)
  refine (if_neg h1).trans (Eq.trans ?_ (if_neg (show ¬ 3 + k.val = 4 by omega)).symm)
  exact congrArg₂ (· * ·) (congrArg₂ (fun w s => Short.back w s a) (taps_at m c t b) (outer_at m c t b)) (col_1 m c t b a)

theorem sums_at (k : Fin 3) : sums (iblk m c 0 t) (iblk m c 1 t) (iblk m c 2 t) (iblk m c 4 t) k b
    = outW (m ((c.tc : Thread nD τ).loc main_arg0)) (m ((c.tc : Thread nD τ).loc main_arg2)) k (col t b) :=
  Finset.sum_congr rfl fun r _ => congrArg₂ (· * ·) (congrFun (outer_at m c t b) r) (congrArg (fun s => Short.late (2 - k.val) s r) (inner_at m c t b))

theorem flushed_5 (k : Fin 3) (a : Fin 2048) : ((dats m 0 c).flushed 5 t : S3x2048x256.Idx → EReal) (ix3 k a b)
    = outP (m ((c.tc : Thread nD τ).loc main_arg0)) (m ((c.tc : Thread nD τ).loc main_arg1)) (m ((c.tc : Thread nD τ).loc main_arg2)) (m ((c.tc : Thread nD τ).loc main_arg3)) ⟨3 + k.val, by omega⟩ a (col t b) := by
  rw [Value.flushed5_A]
  exact (store_5 c t (iblk m c 0 t) (iblk m c 1 t) (iblk m c 2 t) (iblk m c 3 t) (iblk m c 4 t) (ix3 k a b)).trans (planes_at m c t b k a)

theorem flushed_6 (k : Fin 3) : ((dats m 0 c).flushed 6 t : S3x256.Idx → EReal) (ix2 k b)
    = outW (m ((c.tc : Thread nD τ).loc main_arg0)) (m ((c.tc : Thread nD τ).loc main_arg2)) k (col t b) := by
  rw [Value.flushed6_A]
  exact (store_6 c t (iblk m c 0 t) (iblk m c 1 t) (iblk m c 2 t) (iblk m c 3 t) (iblk m c 4 t) (ix2 k b)).trans (sums_at m c t b k)
end Blocks

theorem final_5 (c : Dev nD) : (dats m 0 c).arrAt 5 cfg0.N = fun i : S6x2048x1024.Idx => outP (m ((c.tc : Thread nD τ).loc main_arg0)) (m ((c.tc : Thread nD τ).loc main_arg1))
        (m ((c.tc : Thread nD τ).loc main_arg2)) (m ((c.tc : Thread nD τ).loc main_arg3)) (i 0) (i 1) (i 2) := by
  funext (i : S6x2048x1024.Idx)
  have h0 : (i 0).val < 6 := (i 0).isLt
  have h1 : (i 1).val < 2048 := (i 1).isLt
  have h2 : (i 2).val < 1024 := (i 2).isLt
  by_cases h : (i 0).val < 3
  · refine (Value.entry5 m c i fun t _ hm => ?_).trans ((start m c i).trans (Eq.trans ?_ (if_pos h).symm))
    rotate_left
    · exact congrArg (m ((c.tc : Thread nD τ).loc main_arg3) : S6x2048x1024.Idx → EReal) (by funext k; fin_cases k <;> rfl)
    have ht := lt_n t
    have io := (idx t).2.2.2.2.2.1
    mem_blk [io] at hm
    omega
  · have hl : (i 2).val / 256 < cfg0.N := lt_of_lt_of_eq (by omega : _ < 4) (by decide +kernel)
    have e := congrFun (Value.blocks5 m c ⟨_, hl⟩ (flushes _).1) (@ix3 3 2048 256 ⟨(i 0).val - 3, by omega⟩ (i 1) ⟨(i 2).val % 256, by omega⟩)
    have io := (idx ⟨_, hl⟩).2.2.2.2.2.1
    have e' := e.trans (flushed_5 m c ⟨_, hl⟩ ⟨(i 2).val % 256, by omega⟩ ⟨(i 0).val - 3, by omega⟩ (i 1))
    refine Eq.trans (congrArg ((dats m 0 c).arrAt 5 cfg0.N) ?_) (e'.trans (congrArg₂ (fun k b => outP _ _ _ _ k (i 1) b) (Fin.ext ?_) (Fin.ext ?_)))
    · blk_ext [io]
    · show 3 + ((i 0).val - 3) = (i 0).val
      omega
    · show 256 * ((i 2).val / 256) + (i 2).val % 256 = (i 2).val
      omega

theorem final_6 (c : Dev nD) : (dats m 0 c).arrAt 6 cfg0.N = fun i : S3x1024.Idx => outW (m ((c.tc : Thread nD τ).loc main_arg0)) (m ((c.tc : Thread nD τ).loc main_arg2)) (i 0) (i 1) := by
  funext (i : S3x1024.Idx)
  have h0 : (i 0).val < 3 := (i 0).isLt
  have h1 : (i 1).val < 1024 := (i 1).isLt
  have hl : (i 1).val / 256 < cfg0.N := lt_of_lt_of_eq (by omega : _ < 4) (by decide +kernel)
  have e := congrFun (Value.blocks6 m c ⟨_, hl⟩ (flushes _).2) (@ix2 3 256 (i 0) ⟨(i 1).val % 256, by omega⟩)
  have io := (idx ⟨_, hl⟩).2.2.2.2.2.2
  have e' := e.trans (flushed_6 m c ⟨_, hl⟩ ⟨(i 1).val % 256, by omega⟩ (i 0))
  refine Eq.trans (congrArg ((dats m 0 c).arrAt 6 cfg0.N) ?_) (e'.trans (congrArg (outW _ _ (i 0)) (Fin.ext ?_)))
  · blk_ext [io]
  · show 256 * ((i 1).val / 256) + (i 1).val % 256 = (i 1).val
    omega

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0_0) = (fun i : S6x2048x1024.Idx => outP (m ((c.tc : Thread nD τ).loc main_arg0)) (m ((c.tc : Thread nD τ).loc main_arg1))
        (m ((c.tc : Thread nD τ).loc main_arg2)) (m ((c.tc : Thread nD τ).loc main_arg3)) (i 0) (i 1) (i 2))
      ∧ r.2.mem ((c.tc : Thread nD τ).loc main_v0_1) = (fun i : S3x1024.Idx => outW (m ((c.tc : Thread nD τ).loc main_arg0)) (m ((c.tc : Thread nD τ).loc main_arg2)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun r h c => ⟨(h c).1.trans (final_5 m c), (h c).2.1.trans (final_6 m c), (h c).2.2⟩) (Value.run_blocks (F := Ideal) m ρ)

/-! ### The reference, at an index -/

section Reference
variable (p : S2048x6144.Idx → EReal) (w : S3x1024.Idx → EReal) (d : S2048x2048.Idx → EReal) (x : S6x2048x1024.Idx → EReal)

/-- The gate's gradient as the reference takes it. -/
def pre (b : Fin 1024) (r : Fin 2048) : EReal := p (ix2 r ⟨3072 + b.val, by omega⟩) * d (ix2 r ⟨1024 + b.val, by omega⟩)

theorem pre_eq (b : Fin 1024) : pre p d b = outer p d b := by
  funext r
  refine (mul_comm _ _).trans (congrArg₂ (· * ·) (congrArg (fun b => d (ix2 r b)) (Fin.ext (Nat.add_comm _ _))) (congrArg (fun b => p (ix2 r b)) (Fin.ext (Nat.add_comm _ _))))

/-- What the convolution takes in, as the reference takes it. -/
def pin (b : Fin 1024) (r : Fin 2048) : EReal := p (ix2 r ⟨3072 + (1024 + b.val), by omega⟩) * p (ix2 r ⟨3072 + (2048 + b.val), by omega⟩)

theorem pin_eq (b : Fin 1024) : pin p b = inner p b := by
  funext r
  exact congrArg₂ (· * ·) (congrArg (fun b => p (ix2 r b)) (Fin.ext (by show 3072 + (1024 + b.val) = b.val + 4096; omega))) (congrArg (fun b => p (ix2 r b)) (Fin.ext (by show 3072 + (2048 + b.val) = b.val + 5120; omega)))

theorem back_at (a : Fin 2048) (b : Fin 1024) :
    ((pre p d b a * w (ix2 2 b) + if h : 1 ≤ 2 + a.val ∧ 2 + a.val - 1 < 2048 then pre p d b ⟨2 + a.val - 1, h.2⟩ * w (ix2 1 b) else 0)
      + if h : 2 + a.val < 2048 then pre p d b ⟨2 + a.val, h⟩ * w (ix2 0 b) else 0) = Short.back (taps w b) (outer p d b) a := by
  rw [pre_eq]
  exact congrArg₂ (· + ·) (congrArg₂ (· + ·) (mul_comm _ _) (Short.ahead_one _ _ a)) (Short.ahead_two _ _ a)

theorem conv_at (a : Fin 2048) (b : Fin 1024) :
    ((if h : a.val < 2 then 0 else pin p b ⟨a.val - 2, by omega⟩) * w (ix2 0 b) + (if h : 1 + a.val < 2 then 0 else pin p b ⟨1 + a.val - 2, by omega⟩) * w (ix2 1 b) + pin p b a * w (ix2 2 b))
      = Short.conv (taps w b) (inner p b) a := by
  rw [pin_eq]
  exact congrArg₂ (· + ·) (congrArg₂ (· + ·) ((mul_comm _ _).trans (congrArg (taps w b 0 * ·) (Short.pad_two _ a _))) ((mul_comm _ _).trans (congrArg (taps w b 1 * ·) (Short.pad_one _ a _)))) (mul_comm _ _)

theorem planes_ref (k : Fin 6) (a : Fin 2048) (b : Fin 1024) :
    (if h : k.val < 3 then x (ix3 k a b)
      else if h : k.val - 3 < 1 then d (ix2 a ⟨1024 + b.val, by omega⟩)
        * ((if h : a.val < 2 then 0 else pin p b ⟨a.val - 2, by omega⟩) * w (ix2 0 b) + (if h : 1 + a.val < 2 then 0 else pin p b ⟨1 + a.val - 2, by omega⟩) * w (ix2 1 b) + pin p b a * w (ix2 2 b))
      else if h : k.val - 3 - 1 < 1 then
        ((pre p d b a * w (ix2 2 b) + if h : 1 ≤ 2 + a.val ∧ 2 + a.val - 1 < 2048 then pre p d b ⟨2 + a.val - 1, h.2⟩ * w (ix2 1 b) else 0)
          + if h : 2 + a.val < 2048 then pre p d b ⟨2 + a.val, h⟩ * w (ix2 0 b) else 0) * p (ix2 a ⟨3072 + (2048 + b.val), by omega⟩)
      else p (ix2 a ⟨3072 + (1024 + b.val), by omega⟩)
        * ((pre p d b a * w (ix2 2 b) + if h : 1 ≤ 2 + a.val ∧ 2 + a.val - 1 < 2048 then pre p d b ⟨2 + a.val - 1, h.2⟩ * w (ix2 1 b) else 0)
          + if h : 2 + a.val < 2048 then pre p d b ⟨2 + a.val, h⟩ * w (ix2 0 b) else 0)) = outP p w d x k a b := by
  rw [conv_at, back_at]
  unfold outP
  by_cases h : k.val < 3
  · rw [dif_pos h, if_pos h]
  rw [dif_neg h, if_neg h]
  by_cases h0 : k.val = 3
  · rw [dif_pos (by omega), if_pos h0]
    exact congrArg (· * _) (congrArg (fun b => d (ix2 a b)) (Fin.ext (Nat.add_comm _ _)))
  rw [dif_neg (by omega), if_neg h0]
  by_cases h1 : k.val = 4
  · rw [dif_pos (by omega), if_pos h1]
    exact congrArg (_ * ·) (congrArg (fun b => p (ix2 a b)) (Fin.ext (by show 3072 + (2048 + b.val) = b.val + 5120; omega)))
  rw [dif_neg (by omega), if_neg h1, mul_comm]
  exact congrArg (_ * ·) (congrArg (fun b => p (ix2 a b)) (Fin.ext (by show 3072 + (1024 + b.val) = b.val + 4096; omega)))

theorem taps_ref (k : Fin 3) (b : Fin 1024) :
    (((if h : 2 ≤ k.val ∧ k.val - 2 < 1 then ∑ _u : Fin 1, ∑ r : Fin 2048, pin p b r * pre p d b r else 0)
      + if h : 1 ≤ k.val ∧ k.val - 1 < 1 then ∑ _u : Fin 1, ∑ r : Fin 2048, (if h : 1 + r.val < 2 then 0 else pin p b ⟨1 + r.val - 2, by omega⟩) * pre p d b r else 0)
      + if h : k.val < 1 then ∑ _u : Fin 1, ((∑ r : Fin 2, 0 * pre p d b ⟨r.val, by omega⟩) + ∑ r : Fin 2046, pin p b ⟨r.val, by omega⟩ * pre p d b ⟨2 + r.val, by omega⟩) else 0)
    = outW p d k b := by
  rw [pre_eq, pin_eq, Short.sum_late]
  simp only [Short.pad_one, Finset.univ_unique, Finset.sum_const, Finset.card_singleton, one_smul]
  unfold outW
  fin_cases k
  · simp
  · simp [mul_comm]
  · simp [mul_comm, Short.late]
end Reference

/-- The call leaves what the reference computes. -/
theorem algebraic : Cert.algebraic_ShortBwdIdeal_ShortBwdRefIdeal := fun m ρ m' ρ' _ hm =>
  ⟨_, _, run m ρ, (θ_run _ _ _).mono (fun r h c => ⟨(h c).1.trans (by
      obtain ⟨e0, e1, e2, e3⟩ := hm c
      unfold Cert.ShortBwdRefIdeal.Value.res_main_v75
      rw [e0, e1, e2, e3]
      clear h e0 e1 e2 e3 hm
      funext i
      rw [show i = @ix3 6 2048 1024 (i 0) (i 1) (i 2) from by funext k; fin_cases k <;> rfl]
      generalize (i 0 : Fin 6) = k
      generalize (i 1 : Fin 2048) = a
      generalize (i 2 : Fin 1024) = b
      pointwise
      exact planes_ref _ _ _ _ k a b), (h c).2.1.trans (by
      obtain ⟨e0, e1, e2, e3⟩ := hm c
      unfold Cert.ShortBwdRefIdeal.Value.res_main_v62
      rw [e0, e2]
      clear h e0 e1 e2 e3 hm
      funext i
      rw [show i = @ix2 3 1024 (i 0) (i 1) from by funext k; fin_cases k <;> rfl]
      generalize (i 0 : Fin 3) = k
      generalize (i 1 : Fin 1024) = b
      pointwise
      exact taps_ref _ _ k b), (h c).2.2⟩) (Cert.ShortBwdRefIdeal.Value.run (F := Ideal) m' ρ')⟩

/-- The printed program and its idealization have one body table: nothing was rewritten. -/
theorem defs₀_eq : Cert.ShortBwd.defs₀ (F := Bits) = Cert.ShortBwdIdeal.defs₀ (F := Bits) := by
  unfold Cert.ShortBwd.defs₀ Cert.ShortBwdIdeal.defs₀
  refine congrArg (Defs.onTc (nD := nD) (τ := τ) (sig := sig) (Val := Elt Bits) (Λ := Λ₀)) ?_
  funext l a
  match l, a with
  | 0, (t, s) => rfl
  | ⟨_ + 1, h⟩, _ => exact absurd h (Nat.not_lt.2 (Nat.le_add_left _ _))

theorem defs_eq : Cert.ShortBwd.defs (F := Bits) = Cert.ShortBwdIdeal.defs (F := Bits) := by
  unfold Cert.ShortBwd.defs Cert.ShortBwdIdeal.defs
  rw [defs₀_eq]; rfl

theorem frame : Cert.quiescent_ShortBwd := fun m ρ _ => by
  rw [defs_eq]
  exact Cert.ShortBwdIdeal.Gen.frame (F := Bits) m ρ

theorem frameIdeal : Cert.quiescent_ShortBwdIdeal := fun m ρ _ => Cert.ShortBwdIdeal.Gen.frame (F := Ideal) m ρ

theorem frameReference : Cert.quiescent_ShortBwdRefIdeal := fun m ρ _ =>
  (θ_run _ _ _).mono (fun r h => ⟨fun c => (h c).2.2, sem_eq_zero_of_no_sems (by decide) r.2⟩)
    (Cert.ShortBwdRefIdeal.Value.run (F := Ideal) m ρ)

end Cert.ShortBwdIdeal.Product

end
-- ==== Proof.Products.ShortFwd.lean ====
module

public import proofs.«01_k».proof.Defs
public import proofs.«01_k».proof.Proof.Gen.ShortFwd
public import proofs.«01_k».proof.Proof.Gen.ShortFwdIdeal.Value
public import proofs.«01_k».proof.Proof.Gen.ShortFwdRefIdeal.Run
public import proofs.«01_k».proof.Proof.Products.Short
public import Idealize.ShloMosaic.Lib.Pointwise
public import Idealize.ShloMosaic.Lib.Pipeline.ValueKit

/-!
The short convolution of mixer 0.
-/

@[expose] public section

set_option maxRecDepth 16384

noncomputable section

namespace Cert.ShortFwdIdeal.Product

open Cert.ShortFwdIdeal Cert.ShortFwdIdeal.Gen
open Idealize.ShloMosaic Idealize.ShloMosaic.TcCoe
open Idealize.SL Idealize.SL.Sem

variable (m : (ℓ : Loc nD τ sig) → Buf (Elt Ideal) ℓ)

/-- The array the call writes: its first half is what it was, its second the gated convolution. -/
def out (p : S2048x6144.Idx → EReal) (w : S3x1024.Idx → EReal) (x : S2048x2048.Idx → EReal) (a b : Fin 2048) : EReal :=
  if h : b.val < 1024 then x (ix2 a b) else
    p (ix2 a ⟨b.val + 2048, by omega⟩)
      * Short.conv (fun k => w (ix2 k ⟨b.val - 1024, by omega⟩))
        (fun r => p (ix2 r ⟨b.val + 3072, by omega⟩) * p (ix2 r ⟨b.val + 4096, by omega⟩)) a

theorem idx : ∀ t : Fin grid0.N, win0_0.index t = ![0, 12 + t.val] ∧ win0_1.index t = ![0, 16 + t.val] ∧ win0_2.index t = ![0, 20 + t.val]
    ∧ win0_3.index t = ![0, t.val] ∧ win0_4.index t = ![0, 4 + t.val] := by decide +kernel

theorem lt_n (t : Fin cfg0.N) : t.val < 4 := lt_of_lt_of_eq t.isLt (by decide +kernel)

theorem flushes : ∀ t : Fin grid0.N, win0_4.flush t = true := by decide +kernel

/-- The call starts from a copy of the array it writes. -/
theorem start (c : Dev nD) (i : S2048x2048.Idx) : V m c (Pipeline.arrRef spec0 4) i = (m ((c.tc : Thread nD τ).loc main_arg2) : S2048x2048.Idx → EReal) i := by
  show V m c main_v0 i = _
  rfl

theorem blk_0 (c : Dev nD) (t : Fin cfg0.N) (a : Fin 2048) (b : Fin 256) : (iblk m c 0 t : S2048x256.Idx → EReal) (ix2 a b)
    = (m ((c.tc : Thread nD τ).loc main_arg0) : S2048x6144.Idx → EReal) (ix2 a ⟨3072 + 256 * t.val + b, by have := lt_n t; omega⟩) := by
  have := lt_n t
  have io := (idx t).1
  refine Eq.trans ?_ (congrFun (V_main_arg0 m c) _)
  blk_ext! [iblk, io]

theorem blk_1 (c : Dev nD) (t : Fin cfg0.N) (a : Fin 2048) (b : Fin 256) : (iblk m c 1 t : S2048x256.Idx → EReal) (ix2 a b)
    = (m ((c.tc : Thread nD τ).loc main_arg0) : S2048x6144.Idx → EReal) (ix2 a ⟨4096 + 256 * t.val + b, by have := lt_n t; omega⟩) := by
  have := lt_n t
  have io := (idx t).2.1
  refine Eq.trans ?_ (congrFun (V_main_arg0 m c) _)
  blk_ext! [iblk, io]

theorem blk_2 (c : Dev nD) (t : Fin cfg0.N) (a : Fin 2048) (b : Fin 256) : (iblk m c 2 t : S2048x256.Idx → EReal) (ix2 a b)
    = (m ((c.tc : Thread nD τ).loc main_arg0) : S2048x6144.Idx → EReal) (ix2 a ⟨5120 + 256 * t.val + b, by have := lt_n t; omega⟩) := by
  have := lt_n t
  have io := (idx t).2.2.1
  refine Eq.trans ?_ (congrFun (V_main_arg0 m c) _)
  blk_ext! [iblk, io]

theorem blk_3 (c : Dev nD) (t : Fin cfg0.N) (a : Fin 3) (b : Fin 256) : (iblk m c 3 t : S3x256.Idx → EReal) (ix2 a b)
    = (m ((c.tc : Thread nD τ).loc main_arg1) : S3x1024.Idx → EReal) (ix2 a ⟨256 * t.val + b, by have := lt_n t; omega⟩) := by
  have := lt_n t
  have io := (idx t).2.2.2.1
  refine Eq.trans ?_ (congrFun (V_main_arg1 m c) _)
  blk_ext! [iblk, io]

theorem point (x0 x1 x2 : Vec Ideal S2048x256 .bf16) (x3 : Vec Ideal S3x256 .f32) (a : Fin 2048) (b : Fin 256) : (k0_pay1 x1 x2 x0 x3 : S2048x256.Idx → EReal) (ix2 a b)
    = (x0 : S2048x256.Idx → EReal) (ix2 a b) * Short.conv (fun k => (x3 : S3x256.Idx → EReal) (ix2 k b))
      (fun r => (x1 : S2048x256.Idx → EReal) (ix2 r b) * (x2 : S2048x256.Idx → EReal) (ix2 r b)) a := by
  pointwise [k0_pay1]
  refine congrArg (_ * ·) (congrArg (· + _) (congrArg₂ (· + ·) ?_ ?_))
  · exact Short.select_late (k := 2) (by decide) _ (fun r => (x1 : S2048x256.Idx → EReal) (ix2 r b) * (x2 : S2048x256.Idx → EReal) (ix2 r b)) a _
  · exact Short.select_late (k := 1) (by decide) _ (fun r => (x1 : S2048x256.Idx → EReal) (ix2 r b) * (x2 : S2048x256.Idx → EReal) (ix2 r b)) a _

theorem store (c : Dev nD) (t : Fin cfg0.N) (x0 x1 x2 : Vec Ideal S2048x256 .bf16) (x3 : Vec Ideal S3x256 .f32) :
    out0_A_4 c (grid0.coords t) (ms0_0 t) (hs0_0 t) (ms0_1 t) (hs0_1 t) (ms0_2 t) (hs0_2 t) (ms0_3 t) (hs0_3 t) (ms0_4 t) (hs0_4 t) x0 x1 x2 x3 = k0_pay1 x1 x2 x0 x3 := by
  frame_out

theorem flushed (c : Dev nD) (t : Fin cfg0.N) (a : Fin 2048) (b : Fin 256) : ((dats m 0 c).flushed 4 t : S2048x256.Idx → EReal) (ix2 a b)
    = out (m ((c.tc : Thread nD τ).loc main_arg0)) (m ((c.tc : Thread nD τ).loc main_arg1)) (m ((c.tc : Thread nD τ).loc main_arg2))
      a ⟨1024 + 256 * t.val + b, by have := lt_n t; omega⟩ := by
  have ht := lt_n t
  rw [Value.flushed4_A, store]
  refine (show _ = (k0_pay1 (iblk m c 1 t) (iblk m c 2 t) (iblk m c 0 t) (iblk m c 3 t) : S2048x256.Idx → EReal) (ix2 a b) from rfl).trans ((point _ _ _ _ a b).trans ?_)
  unfold out
  rw [dif_neg (by show ¬ 1024 + 256 * t.val + b.val < 1024; omega)]
  have e : (fun r => (show Vec Ideal S2048x256 .bf16 from iblk m c 1 t : S2048x256.Idx → EReal) (ix2 r b) * (show Vec Ideal S2048x256 .bf16 from iblk m c 2 t : S2048x256.Idx → EReal) (ix2 r b)) = _ :=
    funext fun r => congrArg₂ (· * ·) (blk_1 m c t r b) (blk_2 m c t r b)
  have ew : (fun k => (iblk m c 3 t : S3x256.Idx → EReal) (ix2 k b)) = _ := funext fun k => blk_3 m c t k b
  rw [e, ew, blk_0]
  have c0 : 3072 + 256 * t.val + b.val = 1024 + 256 * t.val + b.val + 2048 := by omega
  have c1 : 4096 + 256 * t.val + b.val = 1024 + 256 * t.val + b.val + 3072 := by omega
  have c2 : 5120 + 256 * t.val + b.val = 1024 + 256 * t.val + b.val + 4096 := by omega
  have c3 : 256 * t.val + b.val = 1024 + 256 * t.val + b.val - 1024 := by omega
  simp only [c0, c1, c2]
  refine congrArg (fun w => _ * Short.conv w _ a : (Fin 3 → EReal) → EReal) (funext fun k => ?_)
  exact congrArg (fun b => (m ((c.tc : Thread nD τ).loc main_arg1) : S3x1024.Idx → EReal) (ix2 k b)) (Fin.ext c3)

theorem final (c : Dev nD) : (dats m 0 c).arrAt 4 cfg0.N = fun i : S2048x2048.Idx =>
    out (m ((c.tc : Thread nD τ).loc main_arg0)) (m ((c.tc : Thread nD τ).loc main_arg1)) (m ((c.tc : Thread nD τ).loc main_arg2)) (i 0) (i 1) := by
  funext (i : S2048x2048.Idx)
  have h0 : (i 0).val < 2048 := (i 0).isLt
  have h1 : (i 1).val < 2048 := (i 1).isLt
  by_cases h : (i 1).val < 1024
  · refine (Value.entry4 m c i fun t _ hm => ?_).trans ((start m c i).trans (Eq.trans ?_ (dif_pos h).symm))
    rotate_left
    · exact congrArg (m ((c.tc : Thread nD τ).loc main_arg2) : S2048x2048.Idx → EReal) (by funext k; fin_cases k <;> rfl)
    have ht := lt_n t
    have io := (idx t).2.2.2.2
    mem_blk [io] at hm
    omega
  · have hl : ((i 1).val - 1024) / 256 < cfg0.N := lt_of_lt_of_eq (by omega : _ < 4) (by decide +kernel)
    have e := congrFun (Value.blocks4 m c ⟨_, hl⟩ (flushes _)) (@ix2 2048 256 (i 0) ⟨((i 1).val - 1024) % 256, by omega⟩)
    have io := (idx ⟨_, hl⟩).2.2.2.2
    have e' := e.trans (flushed m c ⟨_, hl⟩ (i 0) ⟨((i 1).val - 1024) % 256, by omega⟩)
    refine Eq.trans (congrArg ((dats m 0 c).arrAt 4 cfg0.N) ?_) (e'.trans (congrArg (out _ _ _ (i 0)) (Fin.ext ?_)))
    · blk_ext [io]
    · show 1024 + 256 * (((i 1).val - 1024) / 256) + ((i 1).val - 1024) % 256 = (i 1).val
      omega

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = (fun i : S2048x2048.Idx =>
        out (m ((c.tc : Thread nD τ).loc main_arg0)) (m ((c.tc : Thread nD τ).loc main_arg1)) (m ((c.tc : Thread nD τ).loc main_arg2)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun r h c => ⟨(h c).1.trans (final m c), (h c).2⟩) (Value.run_blocks (F := Ideal) m ρ)

/-- The reference's form of the result: the rows behind two rows of zeros, and the taps on the right. -/
theorem reference_at (p : S2048x6144.Idx → EReal) (w : S3x1024.Idx → EReal) (x : S2048x2048.Idx → EReal) (a b : Fin 2048) :
    (if h : b.val < 1024 then x (ix2 a b) else
      p (ix2 a ⟨3072 + (b.val - 1024), by omega⟩)
        * ((if h : a.val < 2 then 0 else p (ix2 ⟨a.val - 2, by omega⟩ ⟨3072 + (1024 + (b.val - 1024)), by omega⟩) * p (ix2 ⟨a.val - 2, by omega⟩ ⟨3072 + (2048 + (b.val - 1024)), by omega⟩))
            * w (ix2 0 ⟨b.val - 1024, by omega⟩)
          + (if h : 1 + a.val < 2 then 0 else p (ix2 ⟨1 + a.val - 2, by omega⟩ ⟨3072 + (1024 + (b.val - 1024)), by omega⟩) * p (ix2 ⟨1 + a.val - 2, by omega⟩ ⟨3072 + (2048 + (b.val - 1024)), by omega⟩))
            * w (ix2 1 ⟨b.val - 1024, by omega⟩)
          + p (ix2 a ⟨3072 + (1024 + (b.val - 1024)), by omega⟩) * p (ix2 a ⟨3072 + (2048 + (b.val - 1024)), by omega⟩) * w (ix2 2 ⟨b.val - 1024, by omega⟩)))
    = out p w x a b := by
  unfold out
  by_cases hb : b.val < 1024
  · rw [dif_pos hb, dif_pos hb]
  rw [dif_neg hb, dif_neg hb]
  have c0 : 3072 + (b.val - 1024) = b.val + 2048 := by omega
  have c1 : 3072 + (1024 + (b.val - 1024)) = b.val + 3072 := by omega
  have c2 : 3072 + (2048 + (b.val - 1024)) = b.val + 4096 := by omega
  simp only [c0, c1, c2]
  refine congrArg (_ * ·) (congrArg₂ (· + ·) (congrArg₂ (· + ·) ((mul_comm _ _).trans (congrArg (_ * ·) ?_)) ((mul_comm _ _).trans (congrArg (_ * ·) ?_))) (mul_comm _ _))
  · exact Short.pad_two (fun r => p (ix2 r ⟨b.val + 3072, by omega⟩) * p (ix2 r ⟨b.val + 4096, by omega⟩)) a _
  · exact Short.pad_one (fun r => p (ix2 r ⟨b.val + 3072, by omega⟩) * p (ix2 r ⟨b.val + 4096, by omega⟩)) a _

/-- The call leaves what the reference computes. -/
theorem algebraic : Cert.algebraic_ShortFwdIdeal_ShortFwdRefIdeal := fun m ρ m' ρ' _ hm =>
  ⟨_, run m ρ, (θ_run _ _ _).mono (fun r h c => ⟨(h c).1.trans (by
      obtain ⟨e0, e1, e2⟩ := hm c
      rw [e0, e1, e2]
      funext i
      have h0 : (i 0).val < 2048 := (i 0).isLt
      have h1 : (i 1).val < 2048 := (i 1).isLt
      rw [show i = @ix2 2048 2048 (i 0) (i 1) from by funext k; fin_cases k <;> rfl]
      generalize (i 0 : Fin 2048) = a
      generalize (i 1 : Fin 2048) = b
      clear h e0 e1 e2 hm
      pointwise
      exact reference_at _ _ _ a b), (h c).2⟩) (Cert.ShortFwdRefIdeal.Value.run (F := Ideal) m' ρ')⟩

/-- The printed program and its idealization have one body table: nothing was rewritten. -/
theorem defs₀_eq : Cert.ShortFwd.defs₀ (F := Bits) = Cert.ShortFwdIdeal.defs₀ (F := Bits) := by
  unfold Cert.ShortFwd.defs₀ Cert.ShortFwdIdeal.defs₀
  refine congrArg (Defs.onTc (nD := nD) (τ := τ) (sig := sig) (Val := Elt Bits) (Λ := Λ₀)) ?_
  funext l a
  match l, a with
  | 0, (t, s) => rfl
  | ⟨_ + 1, h⟩, _ => exact absurd h (Nat.not_lt.2 (Nat.le_add_left _ _))

theorem defs_eq : Cert.ShortFwd.defs (F := Bits) = Cert.ShortFwdIdeal.defs (F := Bits) := by
  unfold Cert.ShortFwd.defs Cert.ShortFwdIdeal.defs
  rw [defs₀_eq]; rfl

theorem frame : Cert.quiescent_ShortFwd := fun m ρ _ => by
  rw [defs_eq]
  exact Cert.ShortFwdIdeal.Gen.frame (F := Bits) m ρ

theorem frameIdeal : Cert.quiescent_ShortFwdIdeal := fun m ρ _ => Cert.ShortFwdIdeal.Gen.frame (F := Ideal) m ρ

theorem frameReference : Cert.quiescent_ShortFwdRefIdeal := fun m ρ _ =>
  (θ_run _ _ _).mono (fun r h => ⟨fun c => (h c).2, sem_eq_zero_of_no_sems (by decide) r.2⟩)
    (Cert.ShortFwdRefIdeal.Value.run (F := Ideal) m ρ)

end Cert.ShortFwdIdeal.Product

end
-- ==== Proof.Products.Act.lean ====
module

public import proofs.«01_k».proof.Proof.Products.Short

/-!
The gated activation of a column and its gradient: both halves are convolved, and the first gates the second.
-/

@[expose] public section

noncomputable section

namespace Cert.Act

open Idealize.ShloMosaic
open Cert.Short (late early conv back)

/-- The convolution as a sum of turned rows. -/
theorem conv_turned (w : Fin 3 → EReal) (s : Fin 2048 → EReal) (r : Fin 2048) (h2 h1) :
    Scalar.select (IntOp.cmpi .sge (BitVec.ofNat 32 r.val) (BitVec.ofNat 32 2)) (w 0 * s ⟨(r.val + 2048 - 2) % 2048, h2⟩) 0
      + Scalar.select (IntOp.cmpi .sge (BitVec.ofNat 32 r.val) (BitVec.ofNat 32 1)) (w 1 * s ⟨(r.val + 2048 - 1) % 2048, h1⟩) 0 + w 2 * s r = conv w s r :=
  congrArg (· + w 2 * s r) (congrArg₂ (· + ·) (Short.select_late (k := 2) (by decide) _ s r _) (Short.select_late (k := 1) (by decide) _ s r _))

/-- The convolution turned round as a sum of turned rows. -/
theorem back_turned (w : Fin 3 → EReal) (s : Fin 2048 → EReal) (r : Fin 2048) (h2 h1) :
    w 2 * s r + Scalar.select (IntOp.cmpi .slt (BitVec.ofNat 32 r.val) (BitVec.ofNat 32 2047)) (w 1 * s ⟨(r.val + 2048 - 2047) % 2048, h1⟩) 0
      + Scalar.select (IntOp.cmpi .slt (BitVec.ofNat 32 r.val) (BitVec.ofNat 32 2046)) (w 0 * s ⟨(r.val + 2048 - 2046) % 2048, h2⟩) 0 = back w s r :=
  congrArg₂ (· + ·) (congrArg (w 2 * s r + ·) (Short.select_early (k := 1) (n := 2047) (by decide) (by decide) _ s r _)) (Short.select_early (k := 2) (n := 2046) (by decide) (by decide) _ s r _)

/-- The convolution as a sum of the rows behind two rows of zeros, with the taps on the right. -/
theorem conv_padded (w : Fin 3 → EReal) (s : Fin 2048 → EReal) (r : Fin 2048) (h2 : ¬ r.val < 2 → r.val - 2 < 2048) (h1 : ¬ 1 + r.val < 2 → 1 + r.val - 2 < 2048) :
    (if h : r.val < 2 then 0 else s ⟨r.val - 2, h2 h⟩) * w 0 + (if h : 1 + r.val < 2 then 0 else s ⟨1 + r.val - 2, h1 h⟩) * w 1 + s r * w 2 = conv w s r :=
  congrArg₂ (· + ·) (congrArg₂ (· + ·) ((mul_comm _ _).trans (congrArg (w 0 * ·) (Short.pad_two s r _))) ((mul_comm _ _).trans (congrArg (w 1 * ·) (Short.pad_one s r _)))) (mul_comm _ _)

theorem zero_sub' (x : EReal) : 0 - x = -x := by rw [sub_eq_add_neg, zero_add]

/-- The gradient of the gate's convolution, from the gate, the gated and the incoming gradient. -/
def slope (a u d : EReal) : EReal := d * u * (Ideal.logistic a * (1 + a * (1 - Ideal.logistic a)))

/-- At reals `u` and `d` it is the gradient of the product of the gate and its logistic, whatever the gate holds. -/
theorem slope_eq (a : EReal) (u d : ℝ) : (d * u : EReal) * Ideal.logistic a + a * (d * u) * (Ideal.logistic a * (1 - Ideal.logistic a)) = slope a u d := by
  unfold slope
  induction a using EReal.rec with
  | bot => rw [Ideal.logistic_bot]; simp
  | top =>
    have e : (1 : EReal) - 1 = 0 := by rw [← EReal.coe_one, ← EReal.coe_sub]; simp
    rw [Ideal.logistic_top, e]
    simp
  | coe a =>
    rw [Ideal.logistic_coe]
    generalize (1 + Real.exp (-a))⁻¹ = s
    norm_cast
    ring

/-- The gradient of the gate's convolution, down a column. -/
def dGate (wg wu : Fin 3 → EReal) (ug uu d : Fin 2048 → EReal) (r : Fin 2048) : EReal := slope (conv wg ug r) (conv wu uu r) (d r)

/-- The gradient of the gated convolution, down a column. -/
def dUp (wg : Fin 3 → EReal) (ug d : Fin 2048 → EReal) (r : Fin 2048) : EReal := d r * (conv wg ug r * Ideal.logistic (conv wg ug r))

/-- The gradients of the two halves of the projection. -/
def planes (wg wu : Fin 3 → EReal) (ug uu d : Fin 2048 → EReal) (k : Fin 2) (r : Fin 2048) : EReal :=
  if k.val = 0 then back wg (dGate wg wu ug uu d) r else back wu (dUp wg ug d) r

/-- The gradients of the two halves of the taps. -/
def sums (wg wu : Fin 3 → EReal) (ug uu d : Fin 2048 → EReal) (k : Fin 2) (j : Fin 3) : EReal :=
  if k.val = 0 then ∑ r, dGate wg wu ug uu d r * late (2 - j.val) ug r else ∑ r, dUp wg ug d r * late (2 - j.val) uu r

/-- A real row stays real behind zeros. -/
theorem late_real (k : ℕ) (s : Fin 2048 → EReal) (hs : ∀ r, ∃ x : ℝ, s r = x) (r : Fin 2048) : ∃ x : ℝ, late k s r = x := by
  unfold late
  split
  · exact hs _
  · exact ⟨0, rfl⟩

/-- The convolution of reals is real. -/
theorem conv_real (w : Fin 3 → EReal) (s : Fin 2048 → EReal) (hw : ∀ k, ∃ x : ℝ, w k = x) (hs : ∀ r, ∃ x : ℝ, s r = x) (r : Fin 2048) : ∃ x : ℝ, conv w s r = x := by
  obtain ⟨w0, h0⟩ := hw 0
  obtain ⟨w1, h1⟩ := hw 1
  obtain ⟨w2, h2⟩ := hw 2
  obtain ⟨s2, e2⟩ := late_real 2 s hs r
  obtain ⟨s1, e1⟩ := late_real 1 s hs r
  obtain ⟨s0, e0⟩ := hs r
  refine ⟨w0 * s2 + w1 * s1 + w2 * s0, ?_⟩
  unfold conv
  rw [h0, h1, h2, e2, e1, e0]
  norm_cast

end Cert.Act

end
-- ==== Proof.Products.ActRef.lean ====
module

public import proofs.«01_k».proof.Defs
public import proofs.«01_k».proof.Proof.Gen.ActBwdRefIdeal.Run
public import proofs.«01_k».proof.Proof.Products.Act
public import Idealize.ShloMosaic.Lib.Pointwise

/-!
The reference of the activation's gradients, at an index.
-/

@[expose] public section

set_option maxRecDepth 16384

noncomputable section

namespace Cert.ActBwdRefIdeal.Product

open Cert.ActBwdRefIdeal Cert.ActBwdRefIdeal.Gen Cert.ActBwdRefIdeal.Value
open Idealize.ShloMosaic Idealize.ShloMosaic.TcCoe
open Idealize.SL Idealize.SL.Sem

/-- A column of the projection. -/
def cu (u : S2048x11264.Idx → EReal) (b : Fin 11264) (r : Fin 2048) : EReal := u (ix2 r b)

/-- A column of the taps. -/
def cw (w : S3x11264.Idx → EReal) (b : Fin 11264) (k : Fin 3) : EReal := w (ix2 k b)

/-- The array turned round behind its taps, before the first two rows are dropped. -/
def turned (x : FVec Ideal S2048x11264 .f32) (w0 w1 w2 : FVec Ideal S1x11264 .f32) : FVec Ideal S2050x11264 .f32 :=
  addf (addf (pad S2050x11264 ![2, 0] ![0, 0] ![0, 0] (mulf x (broadcastInDim S2048x11264 ![0, 1] bcast_S1x11264_S2048x11264_0_1 w2)) (constant S_ .f32 0x00000000#32) pads_S2048x11264_S2050x11264_200_000 h_S_) (pad S2050x11264 ![1, 0] ![1, 0] ![0, 0] (mulf x (broadcastInDim S2048x11264 ![0, 1] bcast_S1x11264_S2048x11264_0_1 w1)) (constant S_ .f32 0x00000000#32) pads_S2048x11264_S2050x11264_110_000 h_S_)) (pad S2050x11264 ![0, 0] ![2, 0] ![0, 0] (mulf x (broadcastInDim S2048x11264 ![0, 1] bcast_S1x11264_S2048x11264_0_1 w0)) (constant S_ .f32 0x00000000#32) pads_S2048x11264_S2050x11264_020_000 h_S_)

/-- The sums against the rows behind zeros, in the three rows of the taps' gradient. -/
theorem taps_sum (s e : Fin 2048 → EReal) (k : Fin 3) :
    (((if h : 2 ≤ k.val ∧ k.val - 2 < 1 then ∑ _u : Fin 1, ∑ r : Fin 2048, s r * e r else 0)
      + if h : 1 ≤ k.val ∧ k.val - 1 < 1 then ∑ _u : Fin 1, ∑ r : Fin 2048, (if h : 1 + r.val < 2 then 0 else s ⟨1 + r.val - 2, by omega⟩) * e r else 0)
      + if h : k.val < 1 then ∑ _u : Fin 1, ((∑ r : Fin 2, 0 * e ⟨r.val, by omega⟩) + ∑ r : Fin 2046, s ⟨r.val, by omega⟩ * e ⟨2 + r.val, by omega⟩) else 0)
    = ∑ r, e r * Short.late (2 - k.val) s r := by
  rw [Short.sum_late]
  simp only [Short.pad_one, Finset.univ_unique, Finset.sum_const, Finset.card_singleton, one_smul]
  fin_cases k
  · simp
  · simp [mul_comm]
  · simp [mul_comm, Short.late]

section
variable (V : Valuation Cert.ActBwdRefIdeal.τ Cert.ActBwdRefIdeal.sig (Elt Ideal))

/-- The projection. -/
abbrev argU : S2048x11264.Idx → EReal := V (Proc.devRef .tc main_arg0)

/-- The taps. -/
abbrev argW : S3x11264.Idx → EReal := V (Proc.devRef .tc main_arg1)

/-- The incoming gradient. -/
abbrev argD : S2048x5632.Idx → EReal := V (Proc.devRef .tc main_arg2)

theorem conv_ref (a : Fin 2048) (b : Fin 11264) : (res_main_v23 V : S2048x11264.Idx → EReal) (ix2 a b) = Short.conv (cw (argW V) b) (cu (argU V) b) a := by
  unfold res_main_v23 res_main_v4 res_main_v7 res_main_v10 res_main_v13 res_main_v17 res_main_v20 res_main_v2
  pointwise
  exact Act.conv_padded (cw (argW V) b) (cu (argU V) b) a (fun _ => by omega) (fun _ => by omega)

/-- What the reference takes back to a half of the convolution. -/
def x32 (b : Fin 11264) (r : Fin 2048) : EReal := (res_main_v32 V : S2048x11264.Idx → EReal) (ix2 r b)

theorem back_ref (a : Fin 2048) (b : Fin 11264) : (res_main_v65 V : S2048x11264.Idx → EReal) (ix2 a b) = Short.back (cw (argW V) b) (x32 V b) a := by
  unfold res_main_v65
  rw [show res_main_v63 V = turned (res_main_v32 V) (res_main_v7 V) (res_main_v13 V) (res_main_v20 V) from rfl]
  unfold turned res_main_v7 res_main_v13 res_main_v20
  pointwise
  exact congrArg₂ (· + ·) (congrArg₂ (· + ·) (mul_comm _ _) (Short.ahead_one _ (x32 V b) a)) (Short.ahead_two _ (x32 V b) a)

theorem taps_ref (k : Fin 3) (b : Fin 11264) : (res_main_v61 V : S3x11264.Idx → EReal) (ix2 k b) = ∑ r, x32 V b r * Short.late (2 - k.val) (cu (argU V) b) r := by
  unfold res_main_v61 res_main_v4 res_main_v10 res_main_v17 res_main_v2
  pointwise
  exact taps_sum (cu (argU V) b) (x32 V b) k

variable (b : Fin 5632)

theorem up_ref : x32 V ⟨5632 + b.val, by omega⟩ = Act.dUp (cw (argW V) ⟨b.val, by omega⟩) (cu (argU V) ⟨b.val, by omega⟩) (fun r => argD V (ix2 r b)) := by
  funext a
  unfold x32 res_main_v32 res_main_v30 res_main_v26_0 res_main_v26_2 res_main_v28 res_main_v24 res_main_v25
  pointwise
  exact (mul_comm _ _).trans (congrArg (argD V (ix2 a b) * ·) (congrArg (fun x => x * Ideal.logistic x) (conv_ref V a ⟨b.val, by omega⟩)))

theorem gate_ref (hu : ∀ r, ∃ x : ℝ, cu (argU V) ⟨5632 + b.val, by omega⟩ r = x) (hw : ∀ k, ∃ x : ℝ, cw (argW V) ⟨5632 + b.val, by omega⟩ k = x) (hd : ∀ i, ∃ x : ℝ, argD V i = x) :
    x32 V ⟨b.val, by omega⟩ = Act.dGate (cw (argW V) ⟨b.val, by omega⟩) (cw (argW V) ⟨5632 + b.val, by omega⟩) (cu (argU V) ⟨b.val, by omega⟩)
      (cu (argU V) ⟨5632 + b.val, by omega⟩) (fun r => argD V (ix2 r b)) := by
  funext a
  obtain ⟨U, hU⟩ := Act.conv_real (cw (argW V) ⟨5632 + b.val, by omega⟩) (cu (argU V) ⟨5632 + b.val, by omega⟩) hw hu a
  obtain ⟨D, hD⟩ := hd (ix2 a b)
  unfold x32 res_main_v32 res_main_v30 res_main_v26_0 res_main_v26_2 res_main_v28 res_main_v24 res_main_v25 Act.dGate
  rw [hU]
  pointwise
  change (fun d x y : EReal => d * y * Ideal.logistic x + x * (d * y) * (Ideal.logistic x * (1 - Ideal.logistic x))) (argD V (ix2 a b))
    ((res_main_v23 V : S2048x11264.Idx → EReal) (ix2 a ⟨b.val, by omega⟩)) ((res_main_v23 V : S2048x11264.Idx → EReal) (ix2 a ⟨5632 + b.val, by omega⟩)) = _
  rw [conv_ref, conv_ref, hU, hD]
  exact Act.slope_eq _ U D

/-- The planes of the reference. -/
theorem planes_ref (hu : ∀ r, ∃ x : ℝ, cu (argU V) ⟨5632 + b.val, by omega⟩ r = x) (hw : ∀ k, ∃ x : ℝ, cw (argW V) ⟨5632 + b.val, by omega⟩ k = x) (hd : ∀ i, ∃ x : ℝ, argD V i = x) (k : Fin 2) (a : Fin 2048) :
    (if k.val < 1 then (res_main_v65 V : S2048x11264.Idx → EReal) (ix2 a ⟨b.val, by omega⟩) else (res_main_v65 V : S2048x11264.Idx → EReal) (ix2 a ⟨5632 + b.val, by omega⟩))
      = Act.planes (cw (argW V) ⟨b.val, by omega⟩) (cw (argW V) ⟨5632 + b.val, by omega⟩) (cu (argU V) ⟨b.val, by omega⟩) (cu (argU V) ⟨5632 + b.val, by omega⟩) (fun r => argD V (ix2 r b)) k a := by
  unfold Act.planes
  rw [back_ref, back_ref, up_ref, gate_ref V b hu hw hd]
  by_cases h : k.val = 0
  · rw [if_pos (by omega), if_pos h]
  · rw [if_neg (by omega), if_neg h]

/-- The taps' gradient of the reference. -/
theorem sums_ref (hu : ∀ r, ∃ x : ℝ, cu (argU V) ⟨5632 + b.val, by omega⟩ r = x) (hw : ∀ k, ∃ x : ℝ, cw (argW V) ⟨5632 + b.val, by omega⟩ k = x) (hd : ∀ i, ∃ x : ℝ, argD V i = x) (k : Fin 2) (j : Fin 3) :
    (if k.val < 1 then (res_main_v61 V : S3x11264.Idx → EReal) (ix2 j ⟨b.val, by omega⟩) else (res_main_v61 V : S3x11264.Idx → EReal) (ix2 j ⟨5632 + b.val, by omega⟩))
      = Act.sums (cw (argW V) ⟨b.val, by omega⟩) (cw (argW V) ⟨5632 + b.val, by omega⟩) (cu (argU V) ⟨b.val, by omega⟩) (cu (argU V) ⟨5632 + b.val, by omega⟩) (fun r => argD V (ix2 r b)) k j := by
  unfold Act.sums
  rw [taps_ref, taps_ref, up_ref, gate_ref V b hu hw hd]
  by_cases h : k.val = 0
  · rw [if_pos (by omega), if_pos h]
  · rw [if_neg (by omega), if_neg h]
end

end Cert.ActBwdRefIdeal.Product

end
-- ==== Proof.Products.ActBwd.lean ====
module

public import proofs.«01_k».proof.Defs
public import proofs.«01_k».proof.Proof.Gen.ActBwd
public import proofs.«01_k».proof.Proof.Gen.ActBwdIdeal.Value
public import proofs.«01_k».proof.Proof.Gen.ActBwdRefIdeal.Run
public import proofs.«01_k».proof.Proof.Gen.Pre_act_finite
public import proofs.«01_k».proof.Proof.Products.ActRef
public import Idealize.ShloMosaic.Lib.Pointwise
public import Idealize.ShloMosaic.Lib.Pipeline.ValueKit

/-!
The gradients of the activation of the feed-forward layer.
-/

@[expose] public section

set_option maxRecDepth 16384

noncomputable section

namespace Cert.ActBwdIdeal.Product

open Cert.ActBwdIdeal Cert.ActBwdIdeal.Gen
open Idealize.ShloMosaic Idealize.ShloMosaic.TcCoe
open Idealize.SL Idealize.SL.Sem

variable (m : (ℓ : Loc nD τ sig) → Buf (Elt Ideal) ℓ)

/-- The gradients of the two halves of the projection, in two planes. -/
def outP (u : S2048x11264.Idx → EReal) (w : S3x11264.Idx → EReal) (d : S2048x5632.Idx → EReal) (k : Fin 2) (a : Fin 2048) (b : Fin 5632) : EReal :=
  Act.planes (fun k => w (ix2 k ⟨b.val, by omega⟩)) (fun k => w (ix2 k ⟨5632 + b.val, by omega⟩)) (fun r => u (ix2 r ⟨b.val, by omega⟩))
    (fun r => u (ix2 r ⟨5632 + b.val, by omega⟩)) (fun r => d (ix2 r b)) k a

/-- The gradients of the two halves of the taps, in two planes. -/
def outW (u : S2048x11264.Idx → EReal) (w : S3x11264.Idx → EReal) (d : S2048x5632.Idx → EReal) (k : Fin 2) (j : Fin 3) (b : Fin 5632) : EReal :=
  Act.sums (fun k => w (ix2 k ⟨b.val, by omega⟩)) (fun k => w (ix2 k ⟨5632 + b.val, by omega⟩)) (fun r => u (ix2 r ⟨b.val, by omega⟩))
    (fun r => u (ix2 r ⟨5632 + b.val, by omega⟩)) (fun r => d (ix2 r b)) k j

theorem idx : ∀ t : Fin grid0.N, win0_0.index t = ![0, t.val] ∧ win0_1.index t = ![0, 44 + t.val] ∧ win0_2.index t = ![0, t.val]
    ∧ win0_3.index t = ![0, 44 + t.val] ∧ win0_4.index t = ![0, t.val] ∧ win0_5.index t = ![0, 0, t.val] ∧ win0_6.index t = ![0, 0, t.val] := by decide +kernel

theorem lt_n (t : Fin cfg0.N) : t.val < 44 := lt_of_lt_of_eq t.isLt (by decide +kernel)

theorem flushes : ∀ t : Fin grid0.N, win0_5.flush t = true ∧ win0_6.flush t = true := by decide +kernel

/-- The column of the arrays a point's column is. -/
def col (t : Fin cfg0.N) (b : Fin 128) : Fin 5632 := ⟨128 * t.val + b, by have := lt_n t; omega⟩

theorem blk_0 (c : Dev nD) (t : Fin cfg0.N) (a : Fin 2048) (b : Fin 128) : (iblk m c 0 t : S2048x128.Idx → EReal) (ix2 a b)
    = (m ((c.tc : Thread nD τ).loc main_arg0) : S2048x11264.Idx → EReal) (ix2 a ⟨(col t b).val, by have := (col t b).isLt; omega⟩) := by
  have := lt_n t
  have io := (idx t).1
  unfold col
  refine Eq.trans ?_ (congrFun (V_main_arg0 m c) _)
  blk_ext! [iblk, io]

theorem blk_1 (c : Dev nD) (t : Fin cfg0.N) (a : Fin 2048) (b : Fin 128) : (iblk m c 1 t : S2048x128.Idx → EReal) (ix2 a b)
    = (m ((c.tc : Thread nD τ).loc main_arg0) : S2048x11264.Idx → EReal) (ix2 a ⟨5632 + (col t b).val, by have := (col t b).isLt; omega⟩) := by
  have := lt_n t
  have io := (idx t).2.1
  unfold col
  refine Eq.trans ?_ (congrFun (V_main_arg0 m c) _)
  blk_ext! [iblk, io]

theorem blk_2 (c : Dev nD) (t : Fin cfg0.N) (a : Fin 3) (b : Fin 128) : (iblk m c 2 t : S3x128.Idx → EReal) (ix2 a b)
    = (m ((c.tc : Thread nD τ).loc main_arg1) : S3x11264.Idx → EReal) (ix2 a ⟨(col t b).val, by have := (col t b).isLt; omega⟩) := by
  have := lt_n t
  have io := (idx t).2.2.1
  unfold col
  refine Eq.trans ?_ (congrFun (V_main_arg1 m c) _)
  blk_ext! [iblk, io]

theorem blk_3 (c : Dev nD) (t : Fin cfg0.N) (a : Fin 3) (b : Fin 128) : (iblk m c 3 t : S3x128.Idx → EReal) (ix2 a b)
    = (m ((c.tc : Thread nD τ).loc main_arg1) : S3x11264.Idx → EReal) (ix2 a ⟨5632 + (col t b).val, by have := (col t b).isLt; omega⟩) := by
  have := lt_n t
  have io := (idx t).2.2.2.1
  unfold col
  refine Eq.trans ?_ (congrFun (V_main_arg1 m c) _)
  blk_ext! [iblk, io]

theorem blk_4 (c : Dev nD) (t : Fin cfg0.N) (a : Fin 2048) (b : Fin 128) : (iblk m c 4 t : S2048x128.Idx → EReal) (ix2 a b)
    = (m ((c.tc : Thread nD τ).loc main_arg2) : S2048x5632.Idx → EReal) (ix2 a ⟨(col t b).val, by have := (col t b).isLt; omega⟩) := by
  have := lt_n t
  have io := (idx t).2.2.2.2.1
  unfold col
  refine Eq.trans ?_ (congrFun (V_main_arg2 m c) _)
  blk_ext! [iblk, io]

/-! ### What a point leaves -/

section Point
variable (x0 x1 : Vec Ideal S2048x128 .bf16) (x2 x3 : Vec Ideal S3x128 .f32) (x4 : Vec Ideal S2048x128 .bf16)

/-- A column of a block. -/
def cu (x : Vec Ideal S2048x128 .bf16) (b : Fin 128) (r : Fin 2048) : EReal := (x : S2048x128.Idx → EReal) (ix2 r b)

/-- A column of a block of the taps. -/
def cw (w : Vec Ideal S3x128 .f32) (b : Fin 128) (k : Fin 3) : EReal := (w : S3x128.Idx → EReal) (ix2 k b)

/-- The gradient of the gate's convolution. -/
def v69 : FVec Ideal S2048x128 .f32 := k0_pay12 (k0_pay7 x1) x3 (k0_pay8 x4) (k0_pay9 x0 x2) (k0_pay10 x1 x3)

/-- The gradient of the gated convolution. -/
def v70 : FVec Ideal S2048x128 .f32 := k0_pay13 (k0_pay8 x4) (k0_pay9 x0 x2)

theorem gate_at (b : Fin 128) (r : Fin 2048) : (k0_pay9 x0 x2 : S2048x128.Idx → EReal) (ix2 r b) = Short.conv (cw x2 b) (cu x0 b) r := by
  pointwise [k0_pay9, k0_pay6]
  exact Act.conv_turned (cw x2 b) (cu x0 b) r _ _

theorem v70_at (b : Fin 128) (r : Fin 2048) : (v70 x0 x2 x4 : S2048x128.Idx → EReal) (ix2 r b) = Act.dUp (cw x2 b) (cu x0 b) (cu x4 b) r := by
  unfold Act.dUp v70 Ideal.logistic
  pointwise [k0_pay13, k0_pay11, k0_pay8]
  rw [gate_at, Act.zero_sub']
  rfl

theorem v69_at (b : Fin 128) (r : Fin 2048) : (v69 x0 x1 x2 x3 x4 : S2048x128.Idx → EReal) (ix2 r b) = Act.dGate (cw x2 b) (cw x3 b) (cu x0 b) (cu x1 b) (cu x4 b) r := by
  unfold Act.dGate Act.slope v69 Ideal.logistic
  pointwise [k0_pay12, k0_pay11, k0_pay10, k0_pay8, k0_pay7]
  rw [gate_at, Act.zero_sub']
  refine congrArg (· * _) (congrArg (_ * ·) ?_)
  exact Act.conv_turned (cw x3 b) (cu x1 b) r _ _

theorem plane_0 (a : Fin 2048) (b : Fin 128) :
    (k0_pay17 (v69 x0 x1 x2 x3 x4) (k0_pay14 (k0_pay7 x1) x2 x3 (k0_pay8 x4) (k0_pay9 x0 x2) (k0_pay10 x1 x3)) (k0_pay15 x2) k0_pay16 : S1x2048x128.Idx → EReal) (ix3 0 a b)
      = Act.planes (cw x2 b) (cw x3 b) (cu x0 b) (cu x1 b) (cu x4 b) 0 a := by
  refine Eq.trans ?_ (if_pos rfl).symm
  refine Eq.trans ?_ (congrArg (fun s => Short.back (cw x2 b) s a) (funext (v69_at x0 x1 x2 x3 x4 b)))
  unfold k0_pay14
  change (k0_pay17 (v69 x0 x1 x2 x3 x4) _ (k0_pay15 x2) k0_pay16 : S1x2048x128.Idx → EReal) (ix3 0 a b) = _
  pointwise [k0_pay17, k0_pay15, k0_pay16]
  exact Act.back_turned (cw x2 b) (fun r => (v69 x0 x1 x2 x3 x4 : S2048x128.Idx → EReal) (ix2 r b)) a _ _

theorem plane_1 (a : Fin 2048) (b : Fin 128) :
    (k0_pay18 x3 (v70 x0 x2 x4) : S1x2048x128.Idx → EReal) (ix3 0 a b) = Act.planes (cw x2 b) (cw x3 b) (cu x0 b) (cu x1 b) (cu x4 b) 1 a := by
  refine Eq.trans ?_ (if_neg (by decide)).symm
  refine Eq.trans ?_ (congrArg (fun s => Short.back (cw x3 b) s a) (funext (v70_at x0 x2 x4 b)))
  pointwise [k0_pay18]
  exact Act.back_turned (cw x3 b) (fun r => (v70 x0 x2 x4 : S2048x128.Idx → EReal) (ix2 r b)) a _ _

theorem sum_00 (b : Fin 128) : (k0_pay26 (v69 x0 x1 x2 x3 x4) k0_pay19 (k0_pay20 (k0_pay6 x0)) (Scalar.ofBits .f32 0x00000000#32) : S1x1x128.Idx → EReal) (ix3 0 0 b)
    = Act.sums (cw x2 b) (cw x3 b) (cu x0 b) (cu x1 b) (cu x4 b) 0 0 := by
  refine Eq.trans ?_ (if_pos rfl).symm
  refine Eq.trans ?_ (Finset.sum_congr rfl fun r _ => congrArg (· * Short.late 2 (cu x0 b) r) (v69_at x0 x1 x2 x3 x4 b r))
  pointwise [k0_pay26, k0_pay19, k0_pay20, k0_pay6]
  exact Finset.sum_congr rfl fun r _ => Short.select_late (k := 2) (by decide) _ (cu x0 b) r _

theorem sum_01 (b : Fin 128) : (k0_pay2 (k0_pay21 (k0_pay6 x0) (v69 x0 x1 x2 x3 x4)) : S1x1x128.Idx → EReal) (ix3 0 0 b)
    = Act.sums (cw x2 b) (cw x3 b) (cu x0 b) (cu x1 b) (cu x4 b) 0 1 := by
  refine Eq.trans ?_ (if_pos rfl).symm
  refine Eq.trans ?_ (Finset.sum_congr rfl fun r _ => congrArg (· * Short.late 1 (cu x0 b) r) (v69_at x0 x1 x2 x3 x4 b r))
  pointwise [k0_pay2, k0_pay21, k0_pay6]
  exact Finset.sum_congr rfl fun r _ => Short.select_late (k := 1) (by decide) _ (cu x0 b) r _

theorem sum_02 (b : Fin 128) : (k0_pay4 (k0_pay22 (k0_pay6 x0) (v69 x0 x1 x2 x3 x4)) : S1x1x128.Idx → EReal) (ix3 0 0 b)
    = Act.sums (cw x2 b) (cw x3 b) (cu x0 b) (cu x1 b) (cu x4 b) 0 2 := by
  refine Eq.trans ?_ (if_pos rfl).symm
  refine Eq.trans ?_ (Finset.sum_congr rfl fun r _ => congrArg (· * Short.late 0 (cu x0 b) r) (v69_at x0 x1 x2 x3 x4 b r))
  pointwise [k0_pay4, k0_pay22, k0_pay6]
  rfl

theorem sum_10 (b : Fin 128) : (k0_pay1 (k0_pay23 (k0_pay7 x1) (v70 x0 x2 x4)) : S1x1x128.Idx → EReal) (ix3 0 0 b)
    = Act.sums (cw x2 b) (cw x3 b) (cu x0 b) (cu x1 b) (cu x4 b) 1 0 := by
  refine Eq.trans ?_ (if_neg (by decide)).symm
  refine Eq.trans ?_ (Finset.sum_congr rfl fun r _ => congrArg (· * Short.late 2 (cu x1 b) r) (v70_at x0 x2 x4 b r))
  pointwise [k0_pay1, k0_pay23, k0_pay7]
  exact Finset.sum_congr rfl fun r _ => Short.select_late (k := 2) (by decide) _ (cu x1 b) r _

theorem sum_11 (b : Fin 128) : (k0_pay3 (k0_pay24 (k0_pay7 x1) (v70 x0 x2 x4)) : S1x1x128.Idx → EReal) (ix3 0 0 b)
    = Act.sums (cw x2 b) (cw x3 b) (cu x0 b) (cu x1 b) (cu x4 b) 1 1 := by
  refine Eq.trans ?_ (if_neg (by decide)).symm
  refine Eq.trans ?_ (Finset.sum_congr rfl fun r _ => congrArg (· * Short.late 1 (cu x1 b) r) (v70_at x0 x2 x4 b r))
  pointwise [k0_pay3, k0_pay24, k0_pay7]
  exact Finset.sum_congr rfl fun r _ => Short.select_late (k := 1) (by decide) _ (cu x1 b) r _

theorem sum_12 (b : Fin 128) : (k0_pay5 (k0_pay25 (k0_pay7 x1) (v70 x0 x2 x4)) : S1x1x128.Idx → EReal) (ix3 0 0 b)
    = Act.sums (cw x2 b) (cw x3 b) (cu x0 b) (cu x1 b) (cu x4 b) 1 2 := by
  refine Eq.trans ?_ (if_neg (by decide)).symm
  refine Eq.trans ?_ (Finset.sum_congr rfl fun r _ => congrArg (· * Short.late 0 (cu x1 b) r) (v70_at x0 x2 x4 b r))
  pointwise [k0_pay5, k0_pay25, k0_pay7]
  rfl

theorem ld0 (x : Vec Ideal S2048x128 .bf16) : View.ld x r0_0 = x := View.ld_unit_lit _ _ (by decide)

theorem ld1 (x : Vec Ideal S3x128 .f32) : View.ld x r0_1 = x := View.ld_unit_lit _ _ (by decide)

theorem e27 : k0_pay27 x0 x1 x2 x3 x4 = k0_pay6 x0 := congrArg k0_pay6 (ld0 _)

theorem e28 : k0_pay28 x0 x1 x2 x3 x4 = k0_pay7 x1 := congrArg k0_pay7 (ld0 _)

theorem e29 : k0_pay29 x0 x1 x2 x3 x4 = k0_pay8 x4 := congrArg k0_pay8 (ld0 _)

theorem e30 : k0_pay30 x0 x1 x2 x3 x4 = k0_pay9 x0 x2 := congrArg₂ k0_pay9 (ld0 _) (ld1 _)

theorem e31 : k0_pay31 x0 x1 x2 x3 x4 = k0_pay10 x1 x3 := congrArg₂ k0_pay10 (ld0 _) (ld1 _)

theorem e32 : k0_pay32 x0 x1 x2 x3 x4 = v69 x0 x1 x2 x3 x4 := by
  unfold k0_pay32 v69
  rw [e28, e29, e30, e31]
  exact congrArg (fun w => k0_pay12 (k0_pay7 x1) w (k0_pay8 x4) (k0_pay9 x0 x2) (k0_pay10 x1 x3)) (ld1 _)

theorem e33 : k0_pay33 x0 x1 x2 x3 x4 = v70 x0 x2 x4 := by
  unfold k0_pay33 v70
  rw [e29, e30]

/-- The planes at an index of the block. -/
def blockP (y : S2x2048x128.Idx) : EReal := Act.planes (cw x2 (y 2)) (cw x3 (y 2)) (cu x0 (y 2)) (cu x1 (y 2)) (cu x4 (y 2)) (y 0) (y 1)

/-- The sums at an index of the block. -/
def blockW (y : S2x3x128.Idx) : EReal := Act.sums (cw x2 (y 2)) (cw x3 (y 2)) (cu x0 (y 2)) (cu x1 (y 2)) (cu x4 (y 2)) (y 0) (y 1)

theorem store_5 (y : S2x2048x128.Idx) : (out0_5 x0 x1 x2 x3 x4 : S2x2048x128.Idx → EReal) y = blockP x0 x1 x2 x3 x4 y := by
  frame_out
  simp only [e28, e29, e30, e31, e32, e33]
  refine View.canon_apply_of_pieces (Val := Elt Ideal) (e := .bf16) (S := S2x2048x128) (blockP x0 x1 x2 x3 x4) _ (fun p hp => ?_) y
    (View.cover_of_tiledL (s := S2x2048x128) _ S1x2048x128.size (by sl_kernel_rfl) y)
  simp only [List.mem_cons, List.not_mem_nil, or_false] at hp
  have ha (x : S1x2048x128.Idx) : x = @ix3 1 2048 128 0 (x 1) (x 2) := by
    funext k; fin_cases k
    · exact Fin.ext (Nat.lt_one_iff.1 (x 0).isLt)
    · rfl
    · rfl
  rcases hp with rfl | rfl <;> intro x
  · refine (congrArg _ (ha x)).trans ((plane_1 x0 x1 x2 x3 x4 (x 1) (x 2)).trans (congrArg (fun y : S2x2048x128.Idx => blockP x0 x1 x2 x3 x4 y) (show @ix3 2 2048 128 1 (x 1) (x 2) = _ from ?_)))
    have h0 : (x 0).val < 1 := (x 0).isLt
    funext l; fin_cases l
    · exact Fin.ext (by show 1 = 1 + 1 * (x 0).val; omega)
    · exact Fin.ext (by show (x 1).val = 0 + 1 * (x 1).val; omega)
    · exact Fin.ext (by show (x 2).val = 0 + 1 * (x 2).val; omega)
  · refine (congrArg _ (ha x)).trans ((plane_0 x0 x1 x2 x3 x4 (x 1) (x 2)).trans (congrArg (fun y : S2x2048x128.Idx => blockP x0 x1 x2 x3 x4 y) (show @ix3 2 2048 128 0 (x 1) (x 2) = _ from ?_)))
    have h0 : (x 0).val < 1 := (x 0).isLt
    funext l; fin_cases l
    · exact Fin.ext (by show 0 = 0 + 1 * (x 0).val; omega)
    · exact Fin.ext (by show (x 1).val = 0 + 1 * (x 1).val; omega)
    · exact Fin.ext (by show (x 2).val = 0 + 1 * (x 2).val; omega)

theorem store_6 (y : S2x3x128.Idx) : (out0_6 x0 x1 x2 x3 x4 : S2x3x128.Idx → EReal) y = blockW x0 x1 x2 x3 x4 y := by
  frame_out
  simp only [e27, e28, e32, e33]
  refine View.canon_apply_of_pieces (Val := Elt Ideal) (e := .f32) (S := S2x3x128) (blockW x0 x1 x2 x3 x4) _ (fun p hp => ?_) y
    (View.cover_of_tiledL (s := S2x3x128) _ S1x1x128.size (by sl_kernel_rfl) y)
  simp only [List.mem_cons, List.not_mem_nil, or_false] at hp
  have ha (x : S1x1x128.Idx) : x = @ix3 1 1 128 0 0 (x 2) := by
    funext k; fin_cases k
    · exact Fin.ext (Nat.lt_one_iff.1 (x 0).isLt)
    · exact Fin.ext (Nat.lt_one_iff.1 (x 1).isLt)
    · rfl
  rcases hp with rfl | rfl | rfl | rfl | rfl | rfl <;> intro x
  · refine (congrArg _ (ha x)).trans ((sum_12 x0 x1 x2 x3 x4 (x 2)).trans (congrArg (fun y : S2x3x128.Idx => blockW x0 x1 x2 x3 x4 y) (show @ix3 2 3 128 1 2 (x 2) = _ from ?_)))
    have h0 : (x 0).val < 1 := (x 0).isLt
    funext l; fin_cases l
    · exact Fin.ext (by show 1 = 1 + 1 * (x 0).val; omega)
    · have h1 : (x 1).val < 1 := (x 1).isLt
      exact Fin.ext (by show 2 = 2 + 1 * (x 1).val; omega)
    · exact Fin.ext (by show (x 2).val = 0 + 1 * (x 2).val; omega)
  · refine (congrArg _ (ha x)).trans ((sum_02 x0 x1 x2 x3 x4 (x 2)).trans (congrArg (fun y : S2x3x128.Idx => blockW x0 x1 x2 x3 x4 y) (show @ix3 2 3 128 0 2 (x 2) = _ from ?_)))
    have h0 : (x 0).val < 1 := (x 0).isLt
    funext l; fin_cases l
    · exact Fin.ext (by show 0 = 0 + 1 * (x 0).val; omega)
    · have h1 : (x 1).val < 1 := (x 1).isLt
      exact Fin.ext (by show 2 = 2 + 1 * (x 1).val; omega)
    · exact Fin.ext (by show (x 2).val = 0 + 1 * (x 2).val; omega)
  · refine (congrArg _ (ha x)).trans ((sum_11 x0 x1 x2 x3 x4 (x 2)).trans (congrArg (fun y : S2x3x128.Idx => blockW x0 x1 x2 x3 x4 y) (show @ix3 2 3 128 1 1 (x 2) = _ from ?_)))
    have h0 : (x 0).val < 1 := (x 0).isLt
    funext l; fin_cases l
    · exact Fin.ext (by show 1 = 1 + 1 * (x 0).val; omega)
    · have h1 : (x 1).val < 1 := (x 1).isLt
      exact Fin.ext (by show 1 = 1 + 1 * (x 1).val; omega)
    · exact Fin.ext (by show (x 2).val = 0 + 1 * (x 2).val; omega)
  · refine (congrArg _ (ha x)).trans ((sum_01 x0 x1 x2 x3 x4 (x 2)).trans (congrArg (fun y : S2x3x128.Idx => blockW x0 x1 x2 x3 x4 y) (show @ix3 2 3 128 0 1 (x 2) = _ from ?_)))
    have h0 : (x 0).val < 1 := (x 0).isLt
    funext l; fin_cases l
    · exact Fin.ext (by show 0 = 0 + 1 * (x 0).val; omega)
    · have h1 : (x 1).val < 1 := (x 1).isLt
      exact Fin.ext (by show 1 = 1 + 1 * (x 1).val; omega)
    · exact Fin.ext (by show (x 2).val = 0 + 1 * (x 2).val; omega)
  · refine (congrArg _ (ha x)).trans ((sum_10 x0 x1 x2 x3 x4 (x 2)).trans (congrArg (fun y : S2x3x128.Idx => blockW x0 x1 x2 x3 x4 y) (show @ix3 2 3 128 1 0 (x 2) = _ from ?_)))
    have h0 : (x 0).val < 1 := (x 0).isLt
    funext l; fin_cases l
    · exact Fin.ext (by show 1 = 1 + 1 * (x 0).val; omega)
    · have h1 : (x 1).val < 1 := (x 1).isLt
      exact Fin.ext (by show 0 = 0 + 1 * (x 1).val; omega)
    · exact Fin.ext (by show (x 2).val = 0 + 1 * (x 2).val; omega)
  · refine (congrArg _ (ha x)).trans ((sum_00 x0 x1 x2 x3 x4 (x 2)).trans (congrArg (fun y : S2x3x128.Idx => blockW x0 x1 x2 x3 x4 y) (show @ix3 2 3 128 0 0 (x 2) = _ from ?_)))
    have h0 : (x 0).val < 1 := (x 0).isLt
    funext l; fin_cases l
    · exact Fin.ext (by show 0 = 0 + 1 * (x 0).val; omega)
    · have h1 : (x 1).val < 1 := (x 1).isLt
      exact Fin.ext (by show 0 = 0 + 1 * (x 1).val; omega)
    · exact Fin.ext (by show (x 2).val = 0 + 1 * (x 2).val; omega)

end Point

/-! ### The arrays after the call -/

theorem planes_congr {f f' : Fin 3 → EReal} {g g' : Fin 3 → EReal} {a a' b b' d d' : Fin 2048 → EReal} (hf : f = f') (hg : g = g') (ha : a = a') (hb : b = b') (hd : d = d') :
    Act.planes f g a b d = Act.planes f' g' a' b' d' ∧ Act.sums f g a b d = Act.sums f' g' a' b' d' := by
  subst hf hg ha hb hd
  exact ⟨rfl, rfl⟩

theorem block_at (c : Dev nD) (t : Fin cfg0.N) (b : Fin 128) : Act.planes (cw (iblk m c 2 t) b) (cw (iblk m c 3 t) b) (cu (iblk m c 0 t) b) (cu (iblk m c 1 t) b) (cu (iblk m c 4 t) b) = (fun k a => outP (m ((c.tc : Thread nD τ).loc main_arg0)) (m ((c.tc : Thread nD τ).loc main_arg1)) (m ((c.tc : Thread nD τ).loc main_arg2)) k a (col t b))
    ∧ Act.sums (cw (iblk m c 2 t) b) (cw (iblk m c 3 t) b) (cu (iblk m c 0 t) b) (cu (iblk m c 1 t) b) (cu (iblk m c 4 t) b) = fun k a => outW (m ((c.tc : Thread nD τ).loc main_arg0)) (m ((c.tc : Thread nD τ).loc main_arg1)) (m ((c.tc : Thread nD τ).loc main_arg2)) k a (col t b) :=
  planes_congr (funext fun k => blk_2 m c t k b) (funext fun k => blk_3 m c t k b) (funext fun r => blk_0 m c t r b) (funext fun r => blk_1 m c t r b) (funext fun r => blk_4 m c t r b)

theorem flushed_5 (c : Dev nD) (t : Fin cfg0.N) (k : Fin 2) (a : Fin 2048) (b : Fin 128) : ((dats m 0 c).flushed 5 t : S2x2048x128.Idx → EReal) (ix3 k a b)
    = outP (m ((c.tc : Thread nD τ).loc main_arg0)) (m ((c.tc : Thread nD τ).loc main_arg1)) (m ((c.tc : Thread nD τ).loc main_arg2)) k a (col t b) := by
  rw [Value.flushed5]
  refine (store_5 (iblk m c 0 t) (iblk m c 1 t) (iblk m c 2 t) (iblk m c 3 t) (iblk m c 4 t) (ix3 k a b)).trans ?_
  exact congrFun (congrFun (block_at m c t b).1 k) a

theorem flushed_6 (c : Dev nD) (t : Fin cfg0.N) (k : Fin 2) (j : Fin 3) (b : Fin 128) : ((dats m 0 c).flushed 6 t : S2x3x128.Idx → EReal) (ix3 k j b)
    = outW (m ((c.tc : Thread nD τ).loc main_arg0)) (m ((c.tc : Thread nD τ).loc main_arg1)) (m ((c.tc : Thread nD τ).loc main_arg2)) k j (col t b) := by
  rw [Value.flushed6]
  refine (store_6 (iblk m c 0 t) (iblk m c 1 t) (iblk m c 2 t) (iblk m c 3 t) (iblk m c 4 t) (ix3 k j b)).trans ?_
  exact congrFun (congrFun (block_at m c t b).2 k) j

theorem final_5 (c : Dev nD) : (dats m 0 c).arrAt 5 cfg0.N = fun i : S2x2048x5632.Idx => outP (m ((c.tc : Thread nD τ).loc main_arg0)) (m ((c.tc : Thread nD τ).loc main_arg1)) (m ((c.tc : Thread nD τ).loc main_arg2)) (i 0) (i 1) (i 2) := by
  funext (i : S2x2048x5632.Idx)
  have h0 : (i 0).val < 2 := (i 0).isLt
  have h1 : (i 1).val < 2048 := (i 1).isLt
  have h2 : (i 2).val < 5632 := (i 2).isLt
  have hl : (i 2).val / 128 < cfg0.N := lt_of_lt_of_eq (by omega : _ < 44) (by decide +kernel)
  have e := congrFun (Value.blocks5 m c ⟨_, hl⟩ (flushes _).1) (@ix3 2 2048 128 (i 0) (i 1) ⟨(i 2).val % 128, by omega⟩)
  have io := (idx ⟨_, hl⟩).2.2.2.2.2.1
  have e' := e.trans (flushed_5 m c ⟨_, hl⟩ (i 0) (i 1) ⟨(i 2).val % 128, by omega⟩)
  refine Eq.trans (congrArg ((dats m 0 c).arrAt 5 cfg0.N) ?_) (e'.trans (congrArg (outP _ _ _ (i 0) (i 1)) (Fin.ext ?_)))
  · blk_ext [io]
  · show 128 * ((i 2).val / 128) + (i 2).val % 128 = (i 2).val
    omega

theorem final_6 (c : Dev nD) : (dats m 0 c).arrAt 6 cfg0.N = fun i : S2x3x5632.Idx => outW (m ((c.tc : Thread nD τ).loc main_arg0)) (m ((c.tc : Thread nD τ).loc main_arg1)) (m ((c.tc : Thread nD τ).loc main_arg2)) (i 0) (i 1) (i 2) := by
  funext (i : S2x3x5632.Idx)
  have h0 : (i 0).val < 2 := (i 0).isLt
  have h1 : (i 1).val < 3 := (i 1).isLt
  have h2 : (i 2).val < 5632 := (i 2).isLt
  have hl : (i 2).val / 128 < cfg0.N := lt_of_lt_of_eq (by omega : _ < 44) (by decide +kernel)
  have e := congrFun (Value.blocks6 m c ⟨_, hl⟩ (flushes _).2) (@ix3 2 3 128 (i 0) (i 1) ⟨(i 2).val % 128, by omega⟩)
  have io := (idx ⟨_, hl⟩).2.2.2.2.2.2
  have e' := e.trans (flushed_6 m c ⟨_, hl⟩ (i 0) (i 1) ⟨(i 2).val % 128, by omega⟩)
  refine Eq.trans (congrArg ((dats m 0 c).arrAt 6 cfg0.N) ?_) (e'.trans (congrArg (outW _ _ _ (i 0) (i 1)) (Fin.ext ?_)))
  · blk_ext [io]
  · show 128 * ((i 2).val / 128) + (i 2).val % 128 = (i 2).val
    omega

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0_0) = (fun i : S2x2048x5632.Idx => outP (m ((c.tc : Thread nD τ).loc main_arg0)) (m ((c.tc : Thread nD τ).loc main_arg1)) (m ((c.tc : Thread nD τ).loc main_arg2)) (i 0) (i 1) (i 2))
      ∧ r.2.mem ((c.tc : Thread nD τ).loc main_v0_1) = (fun i : S2x3x5632.Idx => outW (m ((c.tc : Thread nD τ).loc main_arg0)) (m ((c.tc : Thread nD τ).loc main_arg1)) (m ((c.tc : Thread nD τ).loc main_arg2)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun r h c => ⟨(h c).1.trans (final_5 m c), (h c).2.1.trans (final_6 m c), (h c).2.2⟩) (Value.run_blocks (F := Ideal) m ρ)

/-! ### Against the reference -/

/-- What is below infinity in size is a real. -/
theorem real_of_lt {y : EReal} (h : BitVec.ofBool (decide ((FloatOps.absf (F := Ideal) (φ := .f32) y : EReal) < Ideal.ofBits .f32 0x7F800000#32)) = 1#1) : ∃ x : ℝ, y = x := by
  rw [show Ideal.ofBits .f32 0x7F800000#32 = ⊤ from by simp [Ideal.ofBits, Ideal.ieee]] at h
  have hlt : (FloatOps.absf (F := Ideal) (φ := .f32) y : EReal) < (⊤ : EReal) := by
    by_contra hn
    rw [decide_eq_false hn] at h
    exact absurd h (by decide)
  change max y (-y) < ⊤ at hlt
  have h1 : y < ⊤ := lt_of_le_of_lt (le_max_left _ _) hlt
  have h2 : -y < ⊤ := lt_of_le_of_lt (le_max_right _ _) hlt
  refine ⟨y.toReal, (EReal.coe_toReal (ne_of_lt h1) ?_).symm⟩
  rintro rfl
  exact absurd h2 (by simp)

/-- An array whose second half of columns holds reals. -/
def Late {n : ℕ} (f : Shape.Idx ⟨2, ![n, 11264]⟩ → EReal) : Prop := ∀ (r : Fin n) (b : Fin 5632), ∃ x : ℝ, f (ix2 r ⟨5632 + b.val, by omega⟩) = x

open Cert.ActBwdRefIdeal.Product in
theorem planes_of (V : Valuation Cert.ActBwdRefIdeal.τ Cert.ActBwdRefIdeal.sig (Elt Ideal)) {u : S2048x11264.Idx → EReal} {w : S3x11264.Idx → EReal} {d : S2048x5632.Idx → EReal}
    (eu : argU V = u) (ew : argW V = w) (ed : argD V = d) (hu : Late u) (hw : Late w) (hd : ∀ i, ∃ x : ℝ, d i = x)
    (k : Fin 2) (a : Fin 2048) (b : Fin 5632) :
    (if k.val < 1 then (Cert.ActBwdRefIdeal.Value.res_main_v65 V : S2048x11264.Idx → EReal) (ix2 a ⟨b.val, by omega⟩)
      else (Cert.ActBwdRefIdeal.Value.res_main_v65 V : S2048x11264.Idx → EReal) (ix2 a ⟨5632 + b.val, by omega⟩)) = outP u w d k a b := by
  subst eu ew ed
  exact planes_ref V b (fun r => hu r b) (fun r => hw r b) hd k a

open Cert.ActBwdRefIdeal.Product in
theorem sums_of (V : Valuation Cert.ActBwdRefIdeal.τ Cert.ActBwdRefIdeal.sig (Elt Ideal)) {u : S2048x11264.Idx → EReal} {w : S3x11264.Idx → EReal} {d : S2048x5632.Idx → EReal}
    (eu : argU V = u) (ew : argW V = w) (ed : argD V = d) (hu : Late u) (hw : Late w) (hd : ∀ i, ∃ x : ℝ, d i = x)
    (k : Fin 2) (j : Fin 3) (b : Fin 5632) :
    (if k.val < 1 then (Cert.ActBwdRefIdeal.Value.res_main_v61 V : S3x11264.Idx → EReal) (ix2 j ⟨b.val, by omega⟩)
      else (Cert.ActBwdRefIdeal.Value.res_main_v61 V : S3x11264.Idx → EReal) (ix2 j ⟨5632 + b.val, by omega⟩)) = outW u w d k j b := by
  subst eu ew ed
  exact sums_ref V b (fun r => hu r b) (fun r => hw r b) hd k j

/-- An array of reals. -/
def Reals {S : Shape} (f : S.Idx → EReal) : Prop := ∀ i, ∃ x : ℝ, f i = x

theorem reals (hp : Cert.Pre_ActBwdIdeal_act_finite m) (c : Dev nD) :
    Late (n := 2048) (m ((c.tc : Thread nD τ).loc main_arg0)) ∧ Late (n := 3) (m ((c.tc : Thread nD τ).loc main_arg1))
      ∧ Reals (S := S2048x5632) (m ((c.tc : Thread nD τ).loc main_arg2)) := by
  refine ⟨fun r b => ?_, fun r b => ?_, fun i => ?_⟩
  · have h := congrFun (hp c).1 (ix2 r b)
    unfold Cert.Pre_act_finite.fn at h
    revert h
    pointwise
    exact real_of_lt
  · have h := congrFun (hp c).2.1 (ix2 r b)
    unfold Cert.Pre_act_finite.fn at h
    revert h
    pointwise
    exact real_of_lt
  · have h := congrFun (hp c).2.2 i
    unfold Cert.Pre_act_finite.fn at h
    revert h
    pointwise
    exact real_of_lt

/-- The call leaves what the reference computes. -/
theorem algebraic : Cert.algebraic_ActBwdIdeal_ActBwdRefIdeal_pre_act_finite := fun m ρ m' ρ' hp hm =>
  ⟨_, _, run m ρ, (θ_run _ _ _).mono (fun r h c => ⟨(h c).1.trans (by
      obtain ⟨hu, hw, hd⟩ := reals m hp c
      obtain ⟨e0, e1, e2⟩ := hm c
      funext i
      rw [show i = @ix3 2 2048 5632 (i 0) (i 1) (i 2) from by funext k; fin_cases k <;> rfl]
      generalize (i 0 : Fin 2) = k
      generalize (i 1 : Fin 2048) = a
      generalize (i 2 : Fin 5632) = b
      pointwise
      exact planes_of (StableHlo.launchContents m' c) e0 e1 e2 hu hw hd k a b), (h c).2.1.trans (by
      obtain ⟨hu, hw, hd⟩ := reals m hp c
      obtain ⟨e0, e1, e2⟩ := hm c
      funext i
      rw [show i = @ix3 2 3 5632 (i 0) (i 1) (i 2) from by funext k; fin_cases k <;> rfl]
      generalize (i 0 : Fin 2) = k
      generalize (i 1 : Fin 3) = j
      generalize (i 2 : Fin 5632) = b
      pointwise
      exact sums_of (StableHlo.launchContents m' c) e0 e1 e2 hu hw hd k j b), (h c).2.2⟩) (Cert.ActBwdRefIdeal.Value.run (F := Ideal) m' ρ')⟩

/-- The printed program and its idealization have one body table: nothing was rewritten. -/
theorem defs₀_eq : Cert.ActBwd.defs₀ (F := Bits) = Cert.ActBwdIdeal.defs₀ (F := Bits) := by
  unfold Cert.ActBwd.defs₀ Cert.ActBwdIdeal.defs₀
  refine congrArg (Defs.onTc (nD := nD) (τ := τ) (sig := sig) (Val := Elt Bits) (Λ := Λ₀)) ?_
  funext l a
  match l, a with
  | 0, (t, s) => rfl
  | ⟨_ + 1, h⟩, _ => exact absurd h (Nat.not_lt.2 (Nat.le_add_left _ _))

theorem defs_eq : Cert.ActBwd.defs (F := Bits) = Cert.ActBwdIdeal.defs (F := Bits) := by
  unfold Cert.ActBwd.defs Cert.ActBwdIdeal.defs
  rw [defs₀_eq]; rfl

theorem frame : Cert.quiescent_ActBwd := fun m ρ _ => by
  rw [defs_eq]
  exact Cert.ActBwdIdeal.Gen.frame (F := Bits) m ρ

theorem frameIdeal : Cert.quiescent_ActBwdIdeal := fun m ρ _ => Cert.ActBwdIdeal.Gen.frame (F := Ideal) m ρ

theorem frameReference : Cert.quiescent_ActBwdRefIdeal := fun m ρ _ =>
  (θ_run _ _ _).mono (fun r h => ⟨fun c => (h c).2.2, sem_eq_zero_of_no_sems (by decide) r.2⟩)
    (Cert.ActBwdRefIdeal.Value.run (F := Ideal) m ρ)

end Cert.ActBwdIdeal.Product

end
-- ==== Proof.Products.ActFwd.lean ====
module

public import proofs.«01_k».proof.Defs
public import proofs.«01_k».proof.Proof.Gen.ActFwd
public import proofs.«01_k».proof.Proof.Gen.ActFwdIdeal.Value
public import proofs.«01_k».proof.Proof.Gen.ActFwdRefIdeal.Run
public import proofs.«01_k».proof.Proof.Products.Act
public import Idealize.ShloMosaic.Lib.Pointwise
public import Idealize.ShloMosaic.Lib.Pipeline.ValueKit

/-!
The activation of the feed-forward layer: the convolution of both halves of the projection, and the gate.
-/

@[expose] public section

set_option maxRecDepth 16384

noncomputable section

namespace Cert.ActFwdIdeal.Product

open Cert.ActFwdIdeal Cert.ActFwdIdeal.Gen
open Idealize.ShloMosaic Idealize.ShloMosaic.TcCoe
open Idealize.SL Idealize.SL.Sem

variable (m : (ℓ : Loc nD τ sig) → Buf (Elt Ideal) ℓ)

/-- A column of the convolution of the projection. -/
def act (u : S2048x11264.Idx → EReal) (w : S3x11264.Idx → EReal) (a : Fin 2048) (b : Fin 11264) : EReal :=
  Short.conv (fun k => w (ix2 k b)) (fun r => u (ix2 r b)) a

/-- The gated array. -/
def out (u : S2048x11264.Idx → EReal) (w : S3x11264.Idx → EReal) (a : Fin 2048) (b : Fin 5632) : EReal :=
  act u w a ⟨b.val, by omega⟩ * Ideal.logistic (act u w a ⟨b.val, by omega⟩) * act u w a ⟨5632 + b.val, by omega⟩

theorem idx : ∀ t : Fin grid0.N, win0_0.index t = ![0, t.val] ∧ win0_1.index t = ![0, 22 + t.val] ∧ win0_2.index t = ![0, t.val]
    ∧ win0_3.index t = ![0, 22 + t.val] ∧ win0_4.index t = ![0, t.val] := by decide +kernel

theorem lt_n (t : Fin cfg0.N) : t.val < 22 := lt_of_lt_of_eq t.isLt (by decide +kernel)

theorem flushes : ∀ t : Fin grid0.N, win0_4.flush t = true := by decide +kernel

theorem blk_0 (c : Dev nD) (t : Fin cfg0.N) (a : Fin 2048) (b : Fin 256) : (iblk m c 0 t : S2048x256.Idx → EReal) (ix2 a b)
    = (m ((c.tc : Thread nD τ).loc main_arg0) : S2048x11264.Idx → EReal) (ix2 a ⟨256 * t.val + b, by have := lt_n t; omega⟩) := by
  have := lt_n t
  have io := (idx t).1
  refine Eq.trans ?_ (congrFun (V_main_arg0 m c) _)
  blk_ext! [iblk, io]

theorem blk_1 (c : Dev nD) (t : Fin cfg0.N) (a : Fin 2048) (b : Fin 256) : (iblk m c 1 t : S2048x256.Idx → EReal) (ix2 a b)
    = (m ((c.tc : Thread nD τ).loc main_arg0) : S2048x11264.Idx → EReal) (ix2 a ⟨5632 + 256 * t.val + b, by have := lt_n t; omega⟩) := by
  have := lt_n t
  have io := (idx t).2.1
  refine Eq.trans ?_ (congrFun (V_main_arg0 m c) _)
  blk_ext! [iblk, io]

theorem blk_2 (c : Dev nD) (t : Fin cfg0.N) (a : Fin 3) (b : Fin 256) : (iblk m c 2 t : S3x256.Idx → EReal) (ix2 a b)
    = (m ((c.tc : Thread nD τ).loc main_arg1) : S3x11264.Idx → EReal) (ix2 a ⟨256 * t.val + b, by have := lt_n t; omega⟩) := by
  have := lt_n t
  have io := (idx t).2.2.1
  refine Eq.trans ?_ (congrFun (V_main_arg1 m c) _)
  blk_ext! [iblk, io]

theorem blk_3 (c : Dev nD) (t : Fin cfg0.N) (a : Fin 3) (b : Fin 256) : (iblk m c 3 t : S3x256.Idx → EReal) (ix2 a b)
    = (m ((c.tc : Thread nD τ).loc main_arg1) : S3x11264.Idx → EReal) (ix2 a ⟨5632 + 256 * t.val + b, by have := lt_n t; omega⟩) := by
  have := lt_n t
  have io := (idx t).2.2.2.1
  refine Eq.trans ?_ (congrFun (V_main_arg1 m c) _)
  blk_ext! [iblk, io]

/-- A column of the convolution of a block. -/
def actB (x : Vec Ideal S2048x256 .bf16) (w : Vec Ideal S3x256 .f32) (a : Fin 2048) (b : Fin 256) : EReal :=
  Short.conv (fun k => (w : S3x256.Idx → EReal) (ix2 k b)) (fun r => (x : S2048x256.Idx → EReal) (ix2 r b)) a

/-- What a point writes, from its blocks. -/
theorem point (x0 x1 : Vec Ideal S2048x256 .bf16) (x2 x3 : Vec Ideal S3x256 .f32) (a : Fin 2048) (b : Fin 256) : (out0_4 x0 x1 x2 x3 : S2048x256.Idx → EReal) (ix2 a b)
    = actB x0 x2 a b * Ideal.logistic (actB x0 x2 a b) * actB x1 x3 a b := by
  frame_out
  unfold actB Short.conv Ideal.logistic
  pointwise [k0_pay1, k0_pay2, k0_pay3, k0_pay4, k0_pay5, k0_pay6]
  refine Eq.trans ?_ (congrArg (fun z => _ * Ideal.div 1 (1 + Ideal.exp z) * _) (Act.zero_sub' _))
  exact congrArg₂ (fun x y => x * Ideal.div 1 (1 + Ideal.exp (0 - x)) * y)
    (Act.conv_turned (fun k => (x2 : S3x256.Idx → EReal) (ix2 k b)) (fun r => (x0 : S2048x256.Idx → EReal) (ix2 r b)) a _ _)
    (Act.conv_turned (fun k => (x3 : S3x256.Idx → EReal) (ix2 k b)) (fun r => (x1 : S2048x256.Idx → EReal) (ix2 r b)) a _ _)

theorem flushed (c : Dev nD) (t : Fin cfg0.N) (a : Fin 2048) (b : Fin 256) : ((dats m 0 c).flushed 4 t : S2048x256.Idx → EReal) (ix2 a b)
    = out (m ((c.tc : Thread nD τ).loc main_arg0)) (m ((c.tc : Thread nD τ).loc main_arg1)) a ⟨256 * t.val + b, by have := lt_n t; omega⟩ := by
  have ht := lt_n t
  rw [Value.flushed4]
  refine (point (iblk m c 0 t) (iblk m c 1 t) (iblk m c 2 t) (iblk m c 3 t) a b).trans ?_
  have e0 : actB (iblk m c 0 t) (iblk m c 2 t) a b = act (m ((c.tc : Thread nD τ).loc main_arg0)) (m ((c.tc : Thread nD τ).loc main_arg1)) a ⟨256 * t.val + b, by omega⟩ :=
    congrArg₂ (fun w s => Short.conv w s a) (funext fun k => blk_2 m c t k b) (funext fun r => blk_0 m c t r b)
  have e1 : actB (iblk m c 1 t) (iblk m c 3 t) a b = act (m ((c.tc : Thread nD τ).loc main_arg0)) (m ((c.tc : Thread nD τ).loc main_arg1)) a ⟨5632 + (256 * t.val + b), by omega⟩ :=
    (congrArg₂ (fun w s => Short.conv w s a) (funext fun k => blk_3 m c t k b) (funext fun r => blk_1 m c t r b)).trans
      (congrArg (act (m ((c.tc : Thread nD τ).loc main_arg0)) (m ((c.tc : Thread nD τ).loc main_arg1)) a) (Fin.ext (Nat.add_assoc _ _ _)))
  exact congrArg₂ (· * ·) (congrArg (fun x => x * Ideal.logistic x) e0) e1

theorem final (c : Dev nD) : (dats m 0 c).arrAt 4 cfg0.N = fun i : S2048x5632.Idx =>
    out (m ((c.tc : Thread nD τ).loc main_arg0)) (m ((c.tc : Thread nD τ).loc main_arg1)) (i 0) (i 1) := by
  funext (i : S2048x5632.Idx)
  have h0 : (i 0).val < 2048 := (i 0).isLt
  have h1 : (i 1).val < 5632 := (i 1).isLt
  have hl : (i 1).val / 256 < cfg0.N := lt_of_lt_of_eq (by omega : _ < 22) (by decide +kernel)
  have e := congrFun (Value.blocks4 m c ⟨_, hl⟩ (flushes _)) (@ix2 2048 256 (i 0) ⟨(i 1).val % 256, by omega⟩)
  have io := (idx ⟨_, hl⟩).2.2.2.2
  have e' := e.trans (flushed m c ⟨_, hl⟩ (i 0) ⟨(i 1).val % 256, by omega⟩)
  refine Eq.trans (congrArg ((dats m 0 c).arrAt 4 cfg0.N) ?_) (e'.trans (congrArg (out _ _ (i 0)) (Fin.ext ?_)))
  · blk_ext [io]
  · show 256 * ((i 1).val / 256) + (i 1).val % 256 = (i 1).val
    omega

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = (fun i : S2048x5632.Idx =>
        out (m ((c.tc : Thread nD τ).loc main_arg0)) (m ((c.tc : Thread nD τ).loc main_arg1)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨(h c).1.trans (final m c), (h c).2⟩) (Value.run_blocks (F := Ideal) m ρ)

/-- The call leaves what the reference computes. -/
theorem algebraic : Cert.algebraic_ActFwdIdeal_ActFwdRefIdeal := fun m ρ m' ρ' _ hm =>
  ⟨_, run m ρ, (θ_run _ _ _).mono (fun r h c => ⟨(h c).1.trans (by
      obtain ⟨e0, e1⟩ := hm c
      unfold Cert.ActFwdRefIdeal.Value.res_main_v27
      rw [e0, e1]
      funext i
      rw [show i = @ix2 2048 5632 (i 0) (i 1) from by funext k; fin_cases k <;> rfl]
      have h0 : (i 0).val < 2048 := (i 0).isLt
      have h1 : (i 1).val < 5632 := (i 1).isLt
      generalize (i 0 : Fin 2048) = a at h0 ⊢
      generalize (i 1 : Fin 5632) = b at h1 ⊢
      clear h e0 e1 hm
      pointwise
      exact congrArg₂ (fun x y => x * Ideal.div 1 (1 + Ideal.exp (-x)) * y)
        (Act.conv_padded (fun k => (m ((c.tc : Thread nD τ).loc main_arg1) : S3x11264.Idx → EReal) (ix2 k ⟨b.val, by omega⟩))
          (fun r => (m ((c.tc : Thread nD τ).loc main_arg0) : S2048x11264.Idx → EReal) (ix2 r ⟨b.val, by omega⟩)) a (fun _ => by omega) (fun _ => by omega))
        (Act.conv_padded (fun k => (m ((c.tc : Thread nD τ).loc main_arg1) : S3x11264.Idx → EReal) (ix2 k ⟨5632 + b.val, by omega⟩))
          (fun r => (m ((c.tc : Thread nD τ).loc main_arg0) : S2048x11264.Idx → EReal) (ix2 r ⟨5632 + b.val, by omega⟩)) a (fun _ => by omega) (fun _ => by omega))), (h c).2⟩) (Cert.ActFwdRefIdeal.Value.run (F := Ideal) m' ρ')⟩

/-- The printed program and its idealization have one body table: nothing was rewritten. -/
theorem defs₀_eq : Cert.ActFwd.defs₀ (F := Bits) = Cert.ActFwdIdeal.defs₀ (F := Bits) := by
  unfold Cert.ActFwd.defs₀ Cert.ActFwdIdeal.defs₀
  refine congrArg (Defs.onTc (nD := nD) (τ := τ) (sig := sig) (Val := Elt Bits) (Λ := Λ₀)) ?_
  funext l a
  match l, a with
  | 0, (t, s) => rfl
  | ⟨_ + 1, h⟩, _ => exact absurd h (Nat.not_lt.2 (Nat.le_add_left _ _))

theorem defs_eq : Cert.ActFwd.defs (F := Bits) = Cert.ActFwdIdeal.defs (F := Bits) := by
  unfold Cert.ActFwd.defs Cert.ActFwdIdeal.defs
  rw [defs₀_eq]; rfl

theorem frame : Cert.quiescent_ActFwd := fun m ρ _ => by
  rw [defs_eq]
  exact Cert.ActFwdIdeal.Gen.frame (F := Bits) m ρ

theorem frameIdeal : Cert.quiescent_ActFwdIdeal := fun m ρ _ => Cert.ActFwdIdeal.Gen.frame (F := Ideal) m ρ

theorem frameReference : Cert.quiescent_ActFwdRefIdeal := fun m ρ _ =>
  (θ_run _ _ _).mono (fun r h => ⟨fun c => (h c).2, sem_eq_zero_of_no_sems (by decide) r.2⟩)
    (Cert.ActFwdRefIdeal.Value.run (F := Ideal) m ρ)

end Cert.ActFwdIdeal.Product

end
-- ==== Proof.Products.Adam.lean ====
module

public import Idealize.ShloMosaic.Lib.Pointwise
public import Idealize.ShloMosaic.Lib.Pipeline.ValueKit
public import Idealize.ShloMosaic.Lib.WordCmp

/-!
The optimiser's step at one weight: the running means of the gradient and of its square, and the change of the weight.
-/

@[expose] public section

noncomputable section

namespace Cert.Adam

open Idealize.ShloMosaic

/-- The running mean of the gradient. -/
def mean (g m : EReal) : EReal := Ideal.ofBits .f32 0x3F666666#32 * m + Ideal.ofBits .f32 0x3DCCCCCD#32 * g

/-- The running mean of the gradient's square. -/
def square (g v : EReal) : EReal := Ideal.ofBits .f32 0x3F7FBE77#32 * v + Ideal.ofBits .f32 0x3A83126F#32 * (g * g)

/-- The change of the weight: the mean over the root of the mean square, each with its bias taken out, and the decay. -/
def delta (g w m v : EReal) : EReal :=
  Ideal.ofBits .f32 0xBA83126F#32 * (Ideal.div (Ideal.div (mean g m) (Ideal.ofBits .f32 0x3F26BD02#32))
    (Ideal.sqrt (Ideal.div (square g v) (Ideal.ofBits .f32 0x3C231ACC#32)) + Ideal.ofBits .f32 0x322BCC77#32)
    + Ideal.ofBits .f32 0x3C23D70A#32 * w)

theorem delta_congr {g w m v g' w' m' v' : EReal} (hg : g = g') (hw : w = w') (hm : m = m') (hv : v = v') : delta g w m v = delta g' w' m' v' := by
  rw [hg, hw, hm, hv]

/-- A choice by an equality of words, as a choice. -/
theorem select_eq (n k : BitVec 32) (x y : EReal) : Scalar.select (Scalar.cmpi .eq n k) x y = if n = k then x else y := by
  by_cases h : n = k
  · simp [Scalar.select, Scalar.cmpi, IntOp.cmpi, h]
  · have e : (n == k) = false := beq_eq_false_iff_ne.mpr h
    simp [Scalar.select, Scalar.cmpi, IntOp.cmpi, h, e]

theorem select_eq_symm (n k : BitVec 32) (x y : EReal) : Scalar.select (IntOp.cmpi .eq n k) x y = if k = n then x else y :=
  (select_eq n k x y).trans (by simp only [eq_comm])

/-- A word that is neither negative nor above three is below four. -/
theorem lt_of_pre (k : BitVec 32) (h : IntOp.andi (IntOp.cmpi .sge k 0#32) (IntOp.cmpi .slt k 4#32) = 1#1) : k.toNat < 4 := by
  simp only [IntOp.cmpi, WordCmp.andi_ofBool, WordCmp.ofBool_eq_one_iff, Bool.and_eq_true, BitVec.sle_eq_decide, BitVec.slt_eq_decide,
    decide_eq_true_eq, BitVec.toInt_eq_toNat_cond, BitVec.toNat_ofNat, Nat.reducePow, Nat.reduceMod] at h
  omega

end Cert.Adam

end
-- ==== Proof.Products.AdamIn0.lean ====
module

public import proofs.«01_k».proof.Defs
public import proofs.«01_k».proof.Proof.Gen.AdamIn0
public import proofs.«01_k».proof.Proof.Gen.AdamIn0Ideal.Frame
public import proofs.«01_k».proof.Proof.Gen.AdamIn0RefIdeal.Run
public import proofs.«01_k».proof.Proof.Products.Adam
public import proofs.«01_k».proof.Proof.Gen.Pre_chip_in0

/-!
The optimiser's step of one shard of the first layer's input weight, whose gradient is summed over the four chips.
-/

@[expose] public section

set_option maxRecDepth 16384

noncomputable section

namespace Cert.AdamIn0Ideal.Product

open Cert.AdamIn0Ideal Cert.AdamIn0Ideal.Gen
open Idealize.ShloMosaic Idealize.ShloMosaic.TcCoe
open Idealize.SL Idealize.SL.Sem

/-! ### The chip's number -/

/-- A table of one word is read at one place. -/
theorem word_eq (x : S1.Idx → BitVec 32) (i j : S1.Idx) : x i = x j :=
  congrArg x (funext fun k => by fin_cases k; exact Fin.ext (by have := (i 0).isLt; have := (j 0).isLt; simp_all))

section Chip
variable {F : FTy → Type} [FloatOps F] (m : (ℓ : Loc nD τ sig) → Buf (Elt F) ℓ)

/-- The number of the chip, read off its table. -/
def chip : BitVec 32 := (m (((0 : Dev nD).tc : Thread nD τ).loc main_arg5) : S1.Idx → BitVec 32) (ix1 0)

theorem ok0_of_lt (pf : pre0.Contents (Elt F)) (k : BitVec 32)
    (e : pf.at 0 (Rect.unit (s := S1) ![0] S1.size inb_S1_S1_0) numel1_S1 = k) (h : k.toNat < 4) : ok0 pf := by
  have key : ∀ (k : Fin 4) (i : grid0.Coords), ∃ h : (∀ a, ((![k.val, (BitVec.ofNat 32 (i 0).val).toNat, (BitVec.ofNat 32 (i 1).val).toNat] : Fin 3 → Nat) a + 1) * S1x256x768.size a ≤ S4x2048x768.size a),
      EltTy.bits .bf16 = 32 ∨ (Rect.block (s := S4x2048x768) S1x256x768.size ![k.val, (BitVec.ofNat 32 (i 0).val).toNat, (BitVec.ofNat 32 (i 1).val).toNat] h).WholeWords (EltTy.packing .bf16) := by
    decide +kernel
  intro i
  unfold cc0_transform_3
  dsimp only
  rw [e]
  exact key ⟨_, h⟩ i

theorem ok_of_lt (h : (chip m).toNat < 4) : Ok m := ok0_of_lt (tbl m) (chip m) (word_eq _ _ _) h
end Chip

/-! ### Where a point's blocks lie -/

theorem idx : ∀ t : Fin grid0.N, cc0_transform_0 (grid0.coords t) = ![t.val, 0] ∧ cc0_transform_1 (grid0.coords t) = ![t.val, 0] ∧ cc0_transform_2 (grid0.coords t) = ![t.val, 0]
    ∧ cc0_transform_4 (grid0.coords t) = ![0, t.val, 0] ∧ cc0_transform_5 (grid0.coords t) = ![t.val, 0] ∧ cc0_transform_6 (grid0.coords t) = ![t.val, 0]
    ∧ cc0_transform_7 (grid0.coords t) = ![t.val, 0] ∧ cc0_transform_8 (grid0.coords t) = ![t.val, 0] := by decide +kernel

theorem coords : ∀ t : Fin grid0.N, (BitVec.ofNat 32 (grid0.coords t 0).val).toNat = t.val ∧ (BitVec.ofNat 32 (grid0.coords t 1).val).toNat = 0 := by decide +kernel

theorem lt_n (t : Fin grid0.N) : t.val < 8 := lt_of_lt_of_eq t.isLt (by decide +kernel)

/-- The gradient summed over the chips: this chip's own part, and what the others sent. -/
def grad (n : BitVec 32) (own land : S4x2048x768.Idx → EReal) (r : Fin 2048) (b : Fin 768) : EReal :=
  ∑ s : Fin 4, if n = BitVec.ofNat 32 s.val then own (ix3 s r b) else land (ix3 s r b)

variable (m : (ℓ : Loc nD τ sig) → Buf (Elt Ideal) ℓ) (hO : Ok m)

theorem lt_of_ok (hO : Ok m) : (chip m).toNat < 4 := by
  obtain ⟨h, _⟩ := hO (grid0.coords ⟨0, by decide⟩)
  have h := h 0
  unfold cc0_transform_3 at h
  dsimp only at h
  rw [show (tbl m).at 0 (Rect.unit (s := S1) ![0] S1.size inb_S1_S1_0) numel1_S1 = chip m from word_eq _ _ _] at h
  have h' : ((chip m).toNat + 1) * 1 ≤ 4 := h
  omega

theorem index_3 (t : Fin grid0.N) : ((cfgM m hO).win 3).index t = ![(chip m).toNat, t.val, 0] := by
  have e : (tbl m).at 0 (Rect.unit (s := S1) ![0] S1.size inb_S1_S1_0) numel1_S1 = chip m := word_eq _ _ _
  refine (show ((cfgM m hO).win 3).index t = cc0_transform_3 inb_S1_S1_0 numel1_S1 (tbl m) (grid0.coords t) from rfl).trans ?_
  unfold cc0_transform_3
  dsimp only
  rw [e, (coords t).1, (coords t).2]

theorem blk_0 (c : Dev nD) (t : Fin grid0.N) (a : Fin 256) (b : Fin 768) : (iblk m hO c 0 t : S256x768.Idx → EReal) (ix2 a b)
    = (m ((c.tc : Thread nD τ).loc main_arg0) : S2048x768.Idx → EReal) (ix2 ⟨256 * t.val + a, by have := lt_n t; omega⟩ b) := by
  have := lt_n t
  have io : ((cfgM m hO).win 0).index t = ![t.val, 0] := (idx t).1
  blk_ext! [iblk, V, io]

theorem blk_1 (c : Dev nD) (t : Fin grid0.N) (a : Fin 256) (b : Fin 768) : (iblk m hO c 1 t : S256x768.Idx → EReal) (ix2 a b)
    = (m ((c.tc : Thread nD τ).loc main_arg1) : S2048x768.Idx → EReal) (ix2 ⟨256 * t.val + a, by have := lt_n t; omega⟩ b) := by
  have := lt_n t
  have io : ((cfgM m hO).win 1).index t = ![t.val, 0] := (idx t).2.1
  blk_ext! [iblk, V, io]

theorem blk_2 (c : Dev nD) (t : Fin grid0.N) (a : Fin 256) (b : Fin 768) : (iblk m hO c 2 t : S256x768.Idx → EReal) (ix2 a b)
    = (m ((c.tc : Thread nD τ).loc main_arg2) : S2048x768.Idx → EReal) (ix2 ⟨256 * t.val + a, by have := lt_n t; omega⟩ b) := by
  have := lt_n t
  have io : ((cfgM m hO).win 2).index t = ![t.val, 0] := (idx t).2.2.1
  blk_ext! [iblk, V, io]

theorem blk_3 (c : Dev nD) (t : Fin grid0.N) (a : Fin 256) (b : Fin 768) : (iblk m hO c 3 t : S1x256x768.Idx → EReal) (ix3 0 a b)
    = (m ((c.tc : Thread nD τ).loc main_arg3) : S4x2048x768.Idx → EReal) (ix3 ⟨(chip m).toNat, lt_of_ok m hO⟩ ⟨256 * t.val + a, by have := lt_n t; omega⟩ b) := by
  have := lt_n t
  have io := index_3 m hO t
  blk_ext! [iblk, V, io]

theorem blk_4 (c : Dev nD) (t : Fin grid0.N) (s : Fin 4) (a : Fin 256) (b : Fin 768) : (iblk m hO c 4 t : S4x256x768.Idx → EReal) (ix3 s a b)
    = (m ((c.tc : Thread nD τ).loc main_arg4) : S4x2048x768.Idx → EReal) (ix3 s ⟨256 * t.val + a, by have := lt_n t; omega⟩ b) := by
  have := lt_n t
  have io : ((cfgM m hO).win 4).index t = ![0, t.val, 0] := (idx t).2.2.2.1
  blk_ext! [iblk, V, io]

/-! ### What a point leaves -/

/-- The gradient a point sums from its blocks. -/
def sum0 (x3 : Vec Ideal S1x256x768 .bf16) (x4 : Vec Ideal S4x256x768 .bf16) (k : Vec Ideal S1 .i32) : Vec Ideal S256x768 .f32 :=
  k0_pay4 x3 (k (ix1 0)) (View.ld x4 (Rect.unit ![0, 0, 0] ![1, 256, 768] inb_S4x256x768_S1x256x768_0_0_0))
    (k (ix1 0)) (View.ld x4 (Rect.unit ![1, 0, 0] ![1, 256, 768] inb_S4x256x768_S1x256x768_1_0_0))
    (k (ix1 0)) (View.ld x4 (Rect.unit ![2, 0, 0] ![1, 256, 768] inb_S4x256x768_S1x256x768_2_0_0))
    (k (ix1 0)) (View.ld x4 (Rect.unit ![3, 0, 0] ![1, 256, 768] inb_S4x256x768_S1x256x768_3_0_0))

theorem sum0_at (x3 : Vec Ideal S1x256x768 .bf16) (x4 : Vec Ideal S4x256x768 .bf16) (k : Vec Ideal S1 .i32) (a : Fin 256) (b : Fin 768) :
    (sum0 x3 x4 k : S256x768.Idx → EReal) (ix2 a b) = ∑ s : Fin 4, if (k : S1.Idx → BitVec 32) (ix1 0) = BitVec.ofNat 32 s.val
      then (x3 : S1x256x768.Idx → EReal) (ix3 0 a b) else (x4 : S4x256x768.Idx → EReal) (ix3 s a b) := by
  unfold sum0
  generalize (k : S1.Idx → BitVec 32) (ix1 0) = n
  simp only [Fin.sum_univ_four]
  pointwise [k0_pay4]
  exact congrArg₂ (· + ·) (congrArg₂ (· + ·) (congrArg₂ (· + ·) (Adam.select_eq _ _ _ _) (Adam.select_eq _ _ _ _)) (Adam.select_eq _ _ _ _)) (Adam.select_eq _ _ _ _)

theorem delta_at (g w m v : Vec Ideal S256x768 .f32) (i : S256x768.Idx) : (k0_pay3 g m k0_pay5 v w : S256x768.Idx → EReal) i = Adam.delta (g i) (w i) (m i) (v i) := by
  pointwise [k0_pay3, k0_pay1, k0_pay2, k0_pay5, Adam.delta, Adam.mean, Adam.square]

theorem mean_at (g m : Vec Ideal S256x768 .f32) (i : S256x768.Idx) : (k0_pay1 g m k0_pay5 : S256x768.Idx → EReal) i = Adam.mean (g i) (m i) := by
  pointwise [k0_pay1, k0_pay5, Adam.mean]

theorem square_at (g v : Vec Ideal S256x768 .f32) (i : S256x768.Idx) : (k0_pay2 g v : S256x768.Idx → EReal) i = Adam.square (g i) (v i) := by
  pointwise [k0_pay2, Adam.square]

section Store
variable (c : Dev nD) (t : Fin grid0.N) (x0 x1 x2 : Vec Ideal S256x768 .f32) (x3 : Vec Ideal S1x256x768 .bf16) (x4 : Vec Ideal S4x256x768 .bf16) (k : Vec Ideal S1 .i32)

theorem word (h) : View.read (Elt Ideal) (View.whole main_arg5) k (Shape.Idx.first h) = k (ix1 0) := word_eq k _ _

theorem store_5 : out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 k = sum0 x3 x4 k := by
  frame_out
  simp only [word]
  rfl

theorem store_6 : out0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 k = k0_pay3 (sum0 x3 x4 k) x1 k0_pay5 x2 x0 := by
  frame_out
  simp only [word]
  rfl

theorem store_7 : out0_A_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 k = k0_pay1 (sum0 x3 x4 k) x1 k0_pay5 := by
  frame_out
  simp only [word]
  rfl

theorem store_8 : out0_A_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 k = k0_pay2 (sum0 x3 x4 k) x2 := by
  frame_out
  simp only [word]
  rfl
end Store

/-- The summed gradient of a point's block is the whole's there. -/
theorem grad_at (c : Dev nD) (t : Fin grid0.N) (a : Fin 256) (b : Fin 768) : (sum0 (iblk m hO c 3 t) (iblk m hO c 4 t) (tbl m 0) : S256x768.Idx → EReal) (ix2 a b)
    = grad (chip m) (m ((c.tc : Thread nD τ).loc main_arg3)) (m ((c.tc : Thread nD τ).loc main_arg4)) ⟨256 * t.val + a, by have := lt_n t; omega⟩ b := by
  have ht := lt_n t
  refine (sum0_at (iblk m hO c 3 t) (iblk m hO c 4 t) (tbl m 0) a b).trans (Finset.sum_congr rfl fun s _ => ?_)
  rw [show (tbl m 0 : S1.Idx → BitVec 32) (ix1 0) = chip m from rfl]
  by_cases h : chip m = BitVec.ofNat 32 s.val
  · refine (if_pos h).trans (Eq.trans ?_ (if_pos h).symm)
    refine (blk_3 m hO c t a b).trans (congrArg (fun s => (m ((c.tc : Thread nD τ).loc main_arg3) : S4x2048x768.Idx → EReal) (ix3 s ⟨256 * t.val + a, by omega⟩ b)) (Fin.ext ?_))
    show (chip m).toNat = s.val
    rw [h, BitVec.toNat_ofNat]
    omega
  · exact (if_neg h).trans ((blk_4 m hO c t s a b).trans (if_neg h).symm)

/-- A table that names the first chip: the windows that read no table are what they are at any other. -/
def first : (pcfg0 (F := Ideal)).Adm := ⟨fun | (0 : Fin 1) => (fun _ => 0#32 : S1.Idx → BitVec 32), ok0_of_lt _ 0#32 rfl (by decide)⟩

/-! ### The four results, at an index -/

def outG (c : Dev nD) (r : Fin 2048) (b : Fin 768) : EReal := grad (chip m) (m ((c.tc : Thread nD τ).loc main_arg3)) (m ((c.tc : Thread nD τ).loc main_arg4)) r b

def outD (c : Dev nD) (r : Fin 2048) (b : Fin 768) : EReal := Adam.delta (outG m c r b) ((m ((c.tc : Thread nD τ).loc main_arg0) : S2048x768.Idx → EReal) (ix2 r b)) ((m ((c.tc : Thread nD τ).loc main_arg1) : S2048x768.Idx → EReal) (ix2 r b)) ((m ((c.tc : Thread nD τ).loc main_arg2) : S2048x768.Idx → EReal) (ix2 r b))

def outM (c : Dev nD) (r : Fin 2048) (b : Fin 768) : EReal := Adam.mean (outG m c r b) ((m ((c.tc : Thread nD τ).loc main_arg1) : S2048x768.Idx → EReal) (ix2 r b))

def outV (c : Dev nD) (r : Fin 2048) (b : Fin 768) : EReal := Adam.square (outG m c r b) ((m ((c.tc : Thread nD τ).loc main_arg2) : S2048x768.Idx → EReal) (ix2 r b))

theorem covers_5 : ((cfg0 first).win 5).Covers := by decide +kernel

theorem outs_5 (c : Dev nD) (t : Fin grid0.N) : (outsAt0 m hO c t).1 = (sum0 (iblk m hO c 3 t) (iblk m hO c 4 t) (tbl m 0)) := by
  unfold outsAt0
  dsimp only
  exact store_5 m hO c t (iblk m hO c 0 t) (iblk m hO c 1 t) (iblk m hO c 2 t) (iblk m hO c 3 t) (iblk m hO c 4 t) (tbl m 0)

theorem left_5 (c : Dev nD) (t : Fin grid0.N) (a : Fin 256) (b : Fin 768) : ((outsAt0 m hO c t).1 : S256x768.Idx → EReal) (ix2 a b)
    = outG m c ⟨256 * t.val + a, by have := lt_n t; omega⟩ b :=
  (congrFun (outs_5 m hO c t) (ix2 a b)).trans ((grad_at m hO c t a b))

theorem final_5 (c : Dev nD) : (dats m hO 0 c).arrAt 5 grid0.N = fun i : S2048x768.Idx => outG m c (i 0) (i 1) := by
  refine (dats m hO 0 c).arrAt_eq_of_covers 5 (fun i : S2048x768.Idx => outG m c (i 0) (i 1)) covers_5 fun t hf (y : S256x768.Idx) => ?_
  have ht := lt_n t
  have io : ((cfgM m hO).win 5).index t = ![t.val, 0] := (idx t).2.2.2.2.1
  have hy0 : (y 0).val < 256 := (y 0).isLt
  have hy1 : (y 1).val < 768 := (y 1).isLt
  rw [after0_5]
  refine (show _ = ((outsAt0 m hO c t).1 : S256x768.Idx → EReal) (ix2 (y 0) (y 1)) from congrArg ((outsAt0 m hO c t).1 : S256x768.Idx → EReal) (by
    funext k; fin_cases k <;> rfl)).trans ((left_5 m hO c t (y 0) (y 1)).trans (congrArg₂ (outG m c) (Fin.ext ?_) (Fin.ext ?_)))
  all_goals blk_simp [io]
  show 256 * t.val + (y 0).val = t.val * 256 + (y 0).val
  omega

theorem covers_6 : ((cfg0 first).win 6).Covers := by decide +kernel

theorem outs_6 (c : Dev nD) (t : Fin grid0.N) : (outsAt0 m hO c t).2.1 = k0_pay3 (sum0 (iblk m hO c 3 t) (iblk m hO c 4 t) (tbl m 0)) (iblk m hO c 1 t) k0_pay5 (iblk m hO c 2 t) (iblk m hO c 0 t) := by
  unfold outsAt0
  dsimp only
  exact store_6 m hO c t (iblk m hO c 0 t) (iblk m hO c 1 t) (iblk m hO c 2 t) (iblk m hO c 3 t) (iblk m hO c 4 t) (tbl m 0)

theorem left_6 (c : Dev nD) (t : Fin grid0.N) (a : Fin 256) (b : Fin 768) : ((outsAt0 m hO c t).2.1 : S256x768.Idx → EReal) (ix2 a b)
    = outD m c ⟨256 * t.val + a, by have := lt_n t; omega⟩ b :=
  (congrFun (outs_6 m hO c t) (ix2 a b)).trans ((delta_at _ _ _ _ _).trans (Adam.delta_congr (grad_at m hO c t a b) (blk_0 m hO c t a b) (blk_1 m hO c t a b) (blk_2 m hO c t a b)))

theorem final_6 (c : Dev nD) : (dats m hO 0 c).arrAt 6 grid0.N = fun i : S2048x768.Idx => outD m c (i 0) (i 1) := by
  refine (dats m hO 0 c).arrAt_eq_of_covers 6 (fun i : S2048x768.Idx => outD m c (i 0) (i 1)) covers_6 fun t hf (y : S256x768.Idx) => ?_
  have ht := lt_n t
  have io : ((cfgM m hO).win 6).index t = ![t.val, 0] := (idx t).2.2.2.2.2.1
  have hy0 : (y 0).val < 256 := (y 0).isLt
  have hy1 : (y 1).val < 768 := (y 1).isLt
  rw [after0_6]
  refine (show _ = ((outsAt0 m hO c t).2.1 : S256x768.Idx → EReal) (ix2 (y 0) (y 1)) from congrArg ((outsAt0 m hO c t).2.1 : S256x768.Idx → EReal) (by
    funext k; fin_cases k <;> rfl)).trans ((left_6 m hO c t (y 0) (y 1)).trans (congrArg₂ (outD m c) (Fin.ext ?_) (Fin.ext ?_)))
  all_goals blk_simp [io]
  show 256 * t.val + (y 0).val = t.val * 256 + (y 0).val
  omega

theorem covers_7 : ((cfg0 first).win 7).Covers := by decide +kernel

theorem outs_7 (c : Dev nD) (t : Fin grid0.N) : (outsAt0 m hO c t).2.2.1 = k0_pay1 (sum0 (iblk m hO c 3 t) (iblk m hO c 4 t) (tbl m 0)) (iblk m hO c 1 t) k0_pay5 := by
  unfold outsAt0
  dsimp only
  exact store_7 m hO c t (iblk m hO c 0 t) (iblk m hO c 1 t) (iblk m hO c 2 t) (iblk m hO c 3 t) (iblk m hO c 4 t) (tbl m 0)

theorem left_7 (c : Dev nD) (t : Fin grid0.N) (a : Fin 256) (b : Fin 768) : ((outsAt0 m hO c t).2.2.1 : S256x768.Idx → EReal) (ix2 a b)
    = outM m c ⟨256 * t.val + a, by have := lt_n t; omega⟩ b :=
  (congrFun (outs_7 m hO c t) (ix2 a b)).trans ((mean_at _ _ _).trans (congrArg₂ Adam.mean (grad_at m hO c t a b) (blk_1 m hO c t a b)))

theorem final_7 (c : Dev nD) : (dats m hO 0 c).arrAt 7 grid0.N = fun i : S2048x768.Idx => outM m c (i 0) (i 1) := by
  refine (dats m hO 0 c).arrAt_eq_of_covers 7 (fun i : S2048x768.Idx => outM m c (i 0) (i 1)) covers_7 fun t hf (y : S256x768.Idx) => ?_
  have ht := lt_n t
  have io : ((cfgM m hO).win 7).index t = ![t.val, 0] := (idx t).2.2.2.2.2.2.1
  have hy0 : (y 0).val < 256 := (y 0).isLt
  have hy1 : (y 1).val < 768 := (y 1).isLt
  rw [after0_7]
  refine (show _ = ((outsAt0 m hO c t).2.2.1 : S256x768.Idx → EReal) (ix2 (y 0) (y 1)) from congrArg ((outsAt0 m hO c t).2.2.1 : S256x768.Idx → EReal) (by
    funext k; fin_cases k <;> rfl)).trans ((left_7 m hO c t (y 0) (y 1)).trans (congrArg₂ (outM m c) (Fin.ext ?_) (Fin.ext ?_)))
  all_goals blk_simp [io]
  show 256 * t.val + (y 0).val = t.val * 256 + (y 0).val
  omega

theorem covers_8 : ((cfg0 first).win 8).Covers := by decide +kernel

theorem outs_8 (c : Dev nD) (t : Fin grid0.N) : (outsAt0 m hO c t).2.2.2 = k0_pay2 (sum0 (iblk m hO c 3 t) (iblk m hO c 4 t) (tbl m 0)) (iblk m hO c 2 t) := by
  unfold outsAt0
  dsimp only
  exact store_8 m hO c t (iblk m hO c 0 t) (iblk m hO c 1 t) (iblk m hO c 2 t) (iblk m hO c 3 t) (iblk m hO c 4 t) (tbl m 0)

theorem left_8 (c : Dev nD) (t : Fin grid0.N) (a : Fin 256) (b : Fin 768) : ((outsAt0 m hO c t).2.2.2 : S256x768.Idx → EReal) (ix2 a b)
    = outV m c ⟨256 * t.val + a, by have := lt_n t; omega⟩ b :=
  (congrFun (outs_8 m hO c t) (ix2 a b)).trans ((square_at _ _ _).trans (congrArg₂ Adam.square (grad_at m hO c t a b) (blk_2 m hO c t a b)))

theorem final_8 (c : Dev nD) : (dats m hO 0 c).arrAt 8 grid0.N = fun i : S2048x768.Idx => outV m c (i 0) (i 1) := by
  refine (dats m hO 0 c).arrAt_eq_of_covers 8 (fun i : S2048x768.Idx => outV m c (i 0) (i 1)) covers_8 fun t hf (y : S256x768.Idx) => ?_
  have ht := lt_n t
  have io : ((cfgM m hO).win 8).index t = ![t.val, 0] := (idx t).2.2.2.2.2.2.2
  have hy0 : (y 0).val < 256 := (y 0).isLt
  have hy1 : (y 1).val < 768 := (y 1).isLt
  rw [after0_8]
  refine (show _ = ((outsAt0 m hO c t).2.2.2 : S256x768.Idx → EReal) (ix2 (y 0) (y 1)) from congrArg ((outsAt0 m hO c t).2.2.2 : S256x768.Idx → EReal) (by
    funext k; fin_cases k <;> rfl)).trans ((left_8 m hO c t (y 0) (y 1)).trans (congrArg₂ (outV m c) (Fin.ext ?_) (Fin.ext ?_)))
  all_goals blk_simp [io]
  show 256 * t.val + (y 0).val = t.val * 256 + (y 0).val
  omega

theorem run (ρ : Dev nD → PrngReg) (hO : Ok m) :
    θ_run (defs (F := Ideal)) (onTc (τ := τ) (main (F := Ideal))) ⟨m, fun _ => 0, ρ⟩ fun r => ∀ c : Dev nD,
      r.2.mem ((c.tc : Thread nD τ).loc main_v0_0) = (fun i : S2048x768.Idx => outG m c (i 0) (i 1))
      ∧ r.2.mem ((c.tc : Thread nD τ).loc main_v0_1) = (fun i : S2048x768.Idx => outD m c (i 0) (i 1))
      ∧ r.2.mem ((c.tc : Thread nD τ).loc main_v0_2) = (fun i : S2048x768.Idx => outM m c (i 0) (i 1))
      ∧ r.2.mem ((c.tc : Thread nD τ).loc main_v0_3) = (fun i : S2048x768.Idx => outV m c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun r h c => ⟨((h c).1 5).trans (final_5 m hO c), ((h c).1 6).trans (final_6 m hO c), ((h c).1 7).trans (final_7 m hO c), ((h c).1 8).trans (final_8 m hO c), ((h c).1 0).trans ((dats m hO 0 c).arrAt_in 0 rfl _), ((h c).1 1).trans ((dats m hO 0 c).arrAt_in 1 rfl _), ((h c).1 2).trans ((dats m hO 0 c).arrAt_in 2 rfl _), ((h c).1 3).trans ((dats m hO 0 c).arrAt_in 3 rfl _), ((h c).1 4).trans ((dats m hO 0 c).arrAt_in 4 rfl _), (h c).2 main_arg5 (by decide : main_arg5 ∈ Pipeline.restRefs sig spec0)⟩)
    (run_main (F := Ideal) m ρ hO)

end Cert.AdamIn0Ideal.Product

/-! ### The reference, at an index -/

namespace Cert.AdamIn0RefIdeal.Product

open Cert.AdamIn0RefIdeal Cert.AdamIn0RefIdeal.Gen
open Idealize.ShloMosaic Idealize.ShloMosaic.TcCoe
open Idealize.SL Idealize.SL.Sem

theorem grad_at (x3 x4 : Vec Ideal S4x2048x768 .bf16) (x5 : Vec Ideal S1 .i32) (i : S2048x768.Idx) : (Host.reduceAdd (F := Ideal) (select (broadcastInDim S4x2048x768 ![0, 1, 2] bcast_S4x1x1_S4x2048x768_0_1_2 (broadcastInDim S4x1x1 ![0] bcast_S4_S4x1x1_0 (cmpi .eq (iotaInDim S4 32 0) (broadcastInDim S4 ![] bcast_S_S4 (shapeCast _ x5 shapeCasts_S1_S_))))) (extf .f32 x3 bitsLt_bf16_f32) (extf .f32 x4 bitsLt_bf16_f32)) (constant S_ .f32 0x00000000#32) reducesTo_S4x2048x768_S2048x768_d0 h_S_ : S2048x768.Idx → EReal) i
    = Cert.AdamIn0Ideal.Product.grad ((x5 : S1.Idx → BitVec 32) (ix1 0)) x3 x4 (i 0) (i 1) := by
  rw [show i = @ix2 2048 768 (i 0) (i 1) from by funext k; fin_cases k <;> rfl]
  pointwise [Cert.AdamIn0Ideal.Product.grad]
  exact Finset.sum_congr rfl fun s _ => Adam.select_eq_symm _ _ _ _

theorem mean_at (g : FVec Ideal S2048x768 .f32) (x1 : Vec Ideal S2048x768 .f32) (i : S2048x768.Idx) : (addf (mulf (broadcastInDim S2048x768 ![] bcast_S_S2048x768 (constant S_ .f32 0x3F666666#32)) x1) (mulf (broadcastInDim S2048x768 ![] bcast_S_S2048x768 (constant S_ .f32 0x3DCCCCCD#32)) g) : S2048x768.Idx → EReal) i = Adam.mean (g i) (x1 i) := by
  pointwise [Adam.mean]

theorem square_at (g : FVec Ideal S2048x768 .f32) (x2 : Vec Ideal S2048x768 .f32) (i : S2048x768.Idx) : (addf (mulf (broadcastInDim S2048x768 ![] bcast_S_S2048x768 (constant S_ .f32 0x3F7FBE77#32)) x2) (mulf (broadcastInDim S2048x768 ![] bcast_S_S2048x768 (constant S_ .f32 0x3A83126F#32)) (mulf g g)) : S2048x768.Idx → EReal) i = Adam.square (g i) (x2 i) := by
  pointwise [Adam.square]

theorem delta_at (g : FVec Ideal S2048x768 .f32) (x0 x1 x2 : Vec Ideal S2048x768 .f32) (i : S2048x768.Idx) : (mulf (broadcastInDim S2048x768 ![] bcast_S_S2048x768 (constant S_ .f32 0xBA83126F#32)) (addf (Host.divf (Host.divf (addf (mulf (broadcastInDim S2048x768 ![] bcast_S_S2048x768 (constant S_ .f32 0x3F666666#32)) x1) (mulf (broadcastInDim S2048x768 ![] bcast_S_S2048x768 (constant S_ .f32 0x3DCCCCCD#32)) g)) (broadcastInDim S2048x768 ![] bcast_S_S2048x768 (constant S_ .f32 0x3F26BD02#32))) (addf (Host.sqrt (Host.divf (addf (mulf (broadcastInDim S2048x768 ![] bcast_S_S2048x768 (constant S_ .f32 0x3F7FBE77#32)) x2) (mulf (broadcastInDim S2048x768 ![] bcast_S_S2048x768 (constant S_ .f32 0x3A83126F#32)) (mulf g g))) (broadcastInDim S2048x768 ![] bcast_S_S2048x768 (constant S_ .f32 0x3C231ACC#32)))) (broadcastInDim S2048x768 ![] bcast_S_S2048x768 (constant S_ .f32 0x322BCC77#32)))) (mulf (broadcastInDim S2048x768 ![] bcast_S_S2048x768 (constant S_ .f32 0x3C23D70A#32)) x0)) : S2048x768.Idx → EReal) i = Adam.delta (g i) (x0 i) (x1 i) (x2 i) := by
  pointwise [Adam.delta, Adam.mean, Adam.square]

end Cert.AdamIn0RefIdeal.Product

namespace Cert.AdamIn0Ideal.Product

open Cert.AdamIn0Ideal Cert.AdamIn0Ideal.Gen
open Idealize.ShloMosaic Idealize.ShloMosaic.TcCoe
open Idealize.SL Idealize.SL.Sem

/-! ### The claims -/

theorem ok_of_pre (m : (ℓ : Loc nD τ sig) → Buf (Elt Ideal) ℓ) (h : Cert.Pre_AdamIn0Ideal m) : Ok m := by
  refine ok_of_lt m (Adam.lt_of_pre _ ?_)
  have e := congrFun (h 0) (ix1 0)
  unfold Cert.Pre_chip_in0.fn at e
  exact e

/-- The call leaves what the reference computes. -/
theorem algebraic : Cert.algebraic_AdamIn0Ideal_AdamIn0RefIdeal := fun m ρ m' ρ' hp hm =>
  ⟨_, _, _, _, run m ρ (ok_of_pre m hp), (θ_run _ _ _).mono (fun r h c => by
      obtain rfl : c = 0 := Subsingleton.elim _ _
      obtain ⟨e0, e1, e2, e3, e4, e5⟩ := hm 0
      have hg (i : S2048x768.Idx) := (Cert.AdamIn0RefIdeal.Product.grad_at (m' (((0 : Dev Cert.AdamIn0RefIdeal.nD).tc : Thread Cert.AdamIn0RefIdeal.nD Cert.AdamIn0RefIdeal.τ).loc Cert.AdamIn0RefIdeal.main_arg3)) (m' (((0 : Dev Cert.AdamIn0RefIdeal.nD).tc : Thread Cert.AdamIn0RefIdeal.nD Cert.AdamIn0RefIdeal.τ).loc Cert.AdamIn0RefIdeal.main_arg4)) (m' (((0 : Dev Cert.AdamIn0RefIdeal.nD).tc : Thread Cert.AdamIn0RefIdeal.nD Cert.AdamIn0RefIdeal.τ).loc Cert.AdamIn0RefIdeal.main_arg5)) i).trans (by rw [e3, e4, e5]; rfl : _ = outG m 0 (i 0) (i 1))
      have hi (i : S2048x768.Idx) : i = @ix2 2048 768 (i 0) (i 1) := by funext k; fin_cases k <;> rfl
      have h0 (i : S2048x768.Idx) := (congrFun e0 i).trans (congrArg (m (((0 : Dev nD).tc : Thread nD τ).loc main_arg0) : S2048x768.Idx → EReal) (hi i))
      have h1 (i : S2048x768.Idx) := (congrFun e1 i).trans (congrArg (m (((0 : Dev nD).tc : Thread nD τ).loc main_arg1) : S2048x768.Idx → EReal) (hi i))
      have h2 (i : S2048x768.Idx) := (congrFun e2 i).trans (congrArg (m (((0 : Dev nD).tc : Thread nD τ).loc main_arg2) : S2048x768.Idx → EReal) (hi i))
      refine ⟨(h 0).1.trans (funext hg), (h 0).2.1.trans (funext fun i => ?_), (h 0).2.2.1.trans (funext fun i => ?_), (h 0).2.2.2.1.trans (funext fun i => ?_), (h 0).2.2.2.2⟩
      · exact (Cert.AdamIn0RefIdeal.Product.delta_at _ _ _ _ i).trans (Adam.delta_congr (hg i) (h0 i) (h1 i) (h2 i))
      · exact (Cert.AdamIn0RefIdeal.Product.mean_at _ _ i).trans (congrArg₂ Adam.mean (hg i) (h1 i))
      · exact (Cert.AdamIn0RefIdeal.Product.square_at _ _ i).trans (congrArg₂ Adam.square (hg i) (h2 i))) (Cert.AdamIn0RefIdeal.Value.run (F := Ideal) m' ρ')⟩

/-- The printed program and its idealization have one body table: nothing was rewritten. -/
theorem defs₀_eq : Cert.AdamIn0.defs₀ (F := Bits) = Cert.AdamIn0Ideal.defs₀ (F := Bits) := by
  unfold Cert.AdamIn0.defs₀ Cert.AdamIn0Ideal.defs₀
  refine congrArg (Defs.onTc (nD := nD) (τ := τ) (sig := sig) (Val := Elt Bits) (Λ := Λ₀)) ?_
  funext l a
  match l, a with
  | 0, (t, s) => rfl
  | ⟨_ + 1, h⟩, _ => exact absurd h (Nat.not_lt.2 (Nat.le_add_left _ _))

theorem defs_eq : Cert.AdamIn0.defs (F := Bits) = Cert.AdamIn0Ideal.defs (F := Bits) := by
  unfold Cert.AdamIn0.defs Cert.AdamIn0Ideal.defs
  rw [defs₀_eq]; rfl

theorem ok_of_pre_bits (m : (ℓ : Loc nD τ sig) → Buf (Elt Bits) ℓ) (h : Cert.Pre_AdamIn0 m) : Ok m := by
  refine ok_of_lt m (Adam.lt_of_pre _ ?_)
  have e := congrFun (h 0) (ix1 0)
  unfold Cert.Pre_chip_in0.fn at e
  exact e

theorem frame : Cert.quiescent_AdamIn0 := fun m ρ h => by
  rw [defs_eq]
  exact Cert.AdamIn0Ideal.Gen.frame (F := Bits) m ρ (ok_of_pre_bits m h)

theorem frameIdeal : Cert.quiescent_AdamIn0Ideal := fun m ρ h => Cert.AdamIn0Ideal.Gen.frame (F := Ideal) m ρ (ok_of_pre m h)

theorem frameReference : Cert.quiescent_AdamIn0RefIdeal := fun m ρ _ =>
  (θ_run _ _ _).mono (fun r h => ⟨fun c => (h c).2.2.2.2, sem_eq_zero_of_no_sems (by decide) r.2⟩)
    (Cert.AdamIn0RefIdeal.Value.run (F := Ideal) m ρ)

end Cert.AdamIn0Ideal.Product

end
-- ==== Proof.Products.AdamOut.lean ====
module

public import proofs.«01_k».proof.Defs
public import proofs.«01_k».proof.Proof.Gen.AdamOut
public import proofs.«01_k».proof.Proof.Gen.AdamOutIdeal.Frame
public import proofs.«01_k».proof.Proof.Gen.AdamOutRefIdeal.Run
public import proofs.«01_k».proof.Proof.Products.Adam
public import proofs.«01_k».proof.Proof.Gen.Pre_chip_out

/-!
The optimiser's step of one shard of an output weight, whose gradient is summed over the four chips.
-/

@[expose] public section

set_option maxRecDepth 16384

noncomputable section

namespace Cert.AdamOutIdeal.Product

open Cert.AdamOutIdeal Cert.AdamOutIdeal.Gen
open Idealize.ShloMosaic Idealize.ShloMosaic.TcCoe
open Idealize.SL Idealize.SL.Sem

/-! ### The chip's number -/

/-- A table of one word is read at one place. -/
theorem word_eq (x : S1.Idx → BitVec 32) (i j : S1.Idx) : x i = x j :=
  congrArg x (funext fun k => by fin_cases k; exact Fin.ext (by have := (i 0).isLt; have := (j 0).isLt; simp_all))

section Chip
variable {F : FTy → Type} [FloatOps F] (m : (ℓ : Loc nD τ sig) → Buf (Elt F) ℓ)

/-- The number of the chip, read off its table. -/
def chip : BitVec 32 := (m (((0 : Dev nD).tc : Thread nD τ).loc main_arg5) : S1.Idx → BitVec 32) (ix1 0)

theorem ok0_of_lt (pf : pre0.Contents (Elt F)) (k : BitVec 32)
    (e : pf.at 0 (Rect.unit (s := S1) ![0] S1.size inb_S1_S1_0) numel1_S1 = k) (h : k.toNat < 4) : ok0 pf := by
  have key : ∀ (k : Fin 4) (i : grid0.Coords), ∃ h : (∀ a, ((![k.val, (BitVec.ofNat 32 (i 0).val).toNat, (BitVec.ofNat 32 (i 1).val).toNat] : Fin 3 → Nat) a + 1) * S1x256x2048.size a ≤ S4x256x2048.size a),
      EltTy.bits .bf16 = 32 ∨ (Rect.block (s := S4x256x2048) S1x256x2048.size ![k.val, (BitVec.ofNat 32 (i 0).val).toNat, (BitVec.ofNat 32 (i 1).val).toNat] h).WholeWords (EltTy.packing .bf16) := by
    decide +kernel
  intro i
  unfold cc0_transform_3
  dsimp only
  rw [e]
  exact key ⟨_, h⟩ i

theorem ok_of_lt (h : (chip m).toNat < 4) : Ok m := ok0_of_lt (tbl m) (chip m) (word_eq _ _ _) h
end Chip

/-! ### Where a point's blocks lie -/

theorem idx : ∀ t : Fin grid0.N, cc0_transform_0 (grid0.coords t) = ![t.val, 0] ∧ cc0_transform_1 (grid0.coords t) = ![t.val, 0] ∧ cc0_transform_2 (grid0.coords t) = ![t.val, 0]
    ∧ cc0_transform_4 (grid0.coords t) = ![0, t.val, 0] ∧ cc0_transform_5 (grid0.coords t) = ![t.val, 0] ∧ cc0_transform_6 (grid0.coords t) = ![t.val, 0]
    ∧ cc0_transform_7 (grid0.coords t) = ![t.val, 0] ∧ cc0_transform_8 (grid0.coords t) = ![t.val, 0] := by decide +kernel

theorem coords : ∀ t : Fin grid0.N, (BitVec.ofNat 32 (grid0.coords t 0).val).toNat = t.val ∧ (BitVec.ofNat 32 (grid0.coords t 1).val).toNat = 0 := by decide +kernel

theorem lt_n (t : Fin grid0.N) : t.val < 1 := lt_of_lt_of_eq t.isLt (by decide +kernel)

/-- The gradient summed over the chips: this chip's own part, and what the others sent. -/
def grad (n : BitVec 32) (own land : S4x256x2048.Idx → EReal) (r : Fin 256) (b : Fin 2048) : EReal :=
  ∑ s : Fin 4, if n = BitVec.ofNat 32 s.val then own (ix3 s r b) else land (ix3 s r b)

variable (m : (ℓ : Loc nD τ sig) → Buf (Elt Ideal) ℓ) (hO : Ok m)

theorem lt_of_ok (hO : Ok m) : (chip m).toNat < 4 := by
  obtain ⟨h, _⟩ := hO (grid0.coords ⟨0, by decide⟩)
  have h := h 0
  unfold cc0_transform_3 at h
  dsimp only at h
  rw [show (tbl m).at 0 (Rect.unit (s := S1) ![0] S1.size inb_S1_S1_0) numel1_S1 = chip m from word_eq _ _ _] at h
  have h' : ((chip m).toNat + 1) * 1 ≤ 4 := h
  omega

theorem index_3 (t : Fin grid0.N) : ((cfgM m hO).win 3).index t = ![(chip m).toNat, t.val, 0] := by
  have e : (tbl m).at 0 (Rect.unit (s := S1) ![0] S1.size inb_S1_S1_0) numel1_S1 = chip m := word_eq _ _ _
  refine (show ((cfgM m hO).win 3).index t = cc0_transform_3 inb_S1_S1_0 numel1_S1 (tbl m) (grid0.coords t) from rfl).trans ?_
  unfold cc0_transform_3
  dsimp only
  rw [e, (coords t).1, (coords t).2]

theorem blk_0 (c : Dev nD) (t : Fin grid0.N) (a : Fin 256) (b : Fin 2048) : (iblk m hO c 0 t : S256x2048.Idx → EReal) (ix2 a b)
    = (m ((c.tc : Thread nD τ).loc main_arg0) : S256x2048.Idx → EReal) (ix2 ⟨256 * t.val + a, by have := lt_n t; omega⟩ b) := by
  have := lt_n t
  have io : ((cfgM m hO).win 0).index t = ![t.val, 0] := (idx t).1
  blk_ext! [iblk, V, io]

theorem blk_1 (c : Dev nD) (t : Fin grid0.N) (a : Fin 256) (b : Fin 2048) : (iblk m hO c 1 t : S256x2048.Idx → EReal) (ix2 a b)
    = (m ((c.tc : Thread nD τ).loc main_arg1) : S256x2048.Idx → EReal) (ix2 ⟨256 * t.val + a, by have := lt_n t; omega⟩ b) := by
  have := lt_n t
  have io : ((cfgM m hO).win 1).index t = ![t.val, 0] := (idx t).2.1
  blk_ext! [iblk, V, io]

theorem blk_2 (c : Dev nD) (t : Fin grid0.N) (a : Fin 256) (b : Fin 2048) : (iblk m hO c 2 t : S256x2048.Idx → EReal) (ix2 a b)
    = (m ((c.tc : Thread nD τ).loc main_arg2) : S256x2048.Idx → EReal) (ix2 ⟨256 * t.val + a, by have := lt_n t; omega⟩ b) := by
  have := lt_n t
  have io : ((cfgM m hO).win 2).index t = ![t.val, 0] := (idx t).2.2.1
  blk_ext! [iblk, V, io]

theorem blk_3 (c : Dev nD) (t : Fin grid0.N) (a : Fin 256) (b : Fin 2048) : (iblk m hO c 3 t : S1x256x2048.Idx → EReal) (ix3 0 a b)
    = (m ((c.tc : Thread nD τ).loc main_arg3) : S4x256x2048.Idx → EReal) (ix3 ⟨(chip m).toNat, lt_of_ok m hO⟩ ⟨256 * t.val + a, by have := lt_n t; omega⟩ b) := by
  have := lt_n t
  have io := index_3 m hO t
  blk_ext! [iblk, V, io]

theorem blk_4 (c : Dev nD) (t : Fin grid0.N) (s : Fin 4) (a : Fin 256) (b : Fin 2048) : (iblk m hO c 4 t : S4x256x2048.Idx → EReal) (ix3 s a b)
    = (m ((c.tc : Thread nD τ).loc main_arg4) : S4x256x2048.Idx → EReal) (ix3 s ⟨256 * t.val + a, by have := lt_n t; omega⟩ b) := by
  have := lt_n t
  have io : ((cfgM m hO).win 4).index t = ![0, t.val, 0] := (idx t).2.2.2.1
  blk_ext! [iblk, V, io]

/-! ### What a point leaves -/

/-- The gradient a point sums from its blocks. -/
def sum0 (x3 : Vec Ideal S1x256x2048 .bf16) (x4 : Vec Ideal S4x256x2048 .bf16) (k : Vec Ideal S1 .i32) : Vec Ideal S256x2048 .f32 :=
  k0_pay4 x3 (k (ix1 0)) (View.ld x4 (Rect.unit ![0, 0, 0] ![1, 256, 2048] inb_S4x256x2048_S1x256x2048_0_0_0))
    (k (ix1 0)) (View.ld x4 (Rect.unit ![1, 0, 0] ![1, 256, 2048] inb_S4x256x2048_S1x256x2048_1_0_0))
    (k (ix1 0)) (View.ld x4 (Rect.unit ![2, 0, 0] ![1, 256, 2048] inb_S4x256x2048_S1x256x2048_2_0_0))
    (k (ix1 0)) (View.ld x4 (Rect.unit ![3, 0, 0] ![1, 256, 2048] inb_S4x256x2048_S1x256x2048_3_0_0))

theorem sum0_at (x3 : Vec Ideal S1x256x2048 .bf16) (x4 : Vec Ideal S4x256x2048 .bf16) (k : Vec Ideal S1 .i32) (a : Fin 256) (b : Fin 2048) :
    (sum0 x3 x4 k : S256x2048.Idx → EReal) (ix2 a b) = ∑ s : Fin 4, if (k : S1.Idx → BitVec 32) (ix1 0) = BitVec.ofNat 32 s.val
      then (x3 : S1x256x2048.Idx → EReal) (ix3 0 a b) else (x4 : S4x256x2048.Idx → EReal) (ix3 s a b) := by
  unfold sum0
  generalize (k : S1.Idx → BitVec 32) (ix1 0) = n
  simp only [Fin.sum_univ_four]
  pointwise [k0_pay4]
  exact congrArg₂ (· + ·) (congrArg₂ (· + ·) (congrArg₂ (· + ·) (Adam.select_eq _ _ _ _) (Adam.select_eq _ _ _ _)) (Adam.select_eq _ _ _ _)) (Adam.select_eq _ _ _ _)

theorem delta_at (g w m v : Vec Ideal S256x2048 .f32) (i : S256x2048.Idx) : (k0_pay3 g m k0_pay5 v w : S256x2048.Idx → EReal) i = Adam.delta (g i) (w i) (m i) (v i) := by
  pointwise [k0_pay3, k0_pay1, k0_pay2, k0_pay5, Adam.delta, Adam.mean, Adam.square]

theorem mean_at (g m : Vec Ideal S256x2048 .f32) (i : S256x2048.Idx) : (k0_pay1 g m k0_pay5 : S256x2048.Idx → EReal) i = Adam.mean (g i) (m i) := by
  pointwise [k0_pay1, k0_pay5, Adam.mean]

theorem square_at (g v : Vec Ideal S256x2048 .f32) (i : S256x2048.Idx) : (k0_pay2 g v : S256x2048.Idx → EReal) i = Adam.square (g i) (v i) := by
  pointwise [k0_pay2, Adam.square]

section Store
variable (c : Dev nD) (t : Fin grid0.N) (x0 x1 x2 : Vec Ideal S256x2048 .f32) (x3 : Vec Ideal S1x256x2048 .bf16) (x4 : Vec Ideal S4x256x2048 .bf16) (k : Vec Ideal S1 .i32)

theorem word (h) : View.read (Elt Ideal) (View.whole main_arg5) k (Shape.Idx.first h) = k (ix1 0) := word_eq k _ _

theorem store_5 : out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 k = sum0 x3 x4 k := by
  frame_out
  simp only [word]
  rfl

theorem store_6 : out0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 k = k0_pay3 (sum0 x3 x4 k) x1 k0_pay5 x2 x0 := by
  frame_out
  simp only [word]
  rfl

theorem store_7 : out0_A_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 k = k0_pay1 (sum0 x3 x4 k) x1 k0_pay5 := by
  frame_out
  simp only [word]
  rfl

theorem store_8 : out0_A_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 k = k0_pay2 (sum0 x3 x4 k) x2 := by
  frame_out
  simp only [word]
  rfl
end Store

/-- The summed gradient of a point's block is the whole's there. -/
theorem grad_at (c : Dev nD) (t : Fin grid0.N) (a : Fin 256) (b : Fin 2048) : (sum0 (iblk m hO c 3 t) (iblk m hO c 4 t) (tbl m 0) : S256x2048.Idx → EReal) (ix2 a b)
    = grad (chip m) (m ((c.tc : Thread nD τ).loc main_arg3)) (m ((c.tc : Thread nD τ).loc main_arg4)) ⟨256 * t.val + a, by have := lt_n t; omega⟩ b := by
  have ht := lt_n t
  refine (sum0_at (iblk m hO c 3 t) (iblk m hO c 4 t) (tbl m 0) a b).trans (Finset.sum_congr rfl fun s _ => ?_)
  rw [show (tbl m 0 : S1.Idx → BitVec 32) (ix1 0) = chip m from rfl]
  by_cases h : chip m = BitVec.ofNat 32 s.val
  · refine (if_pos h).trans (Eq.trans ?_ (if_pos h).symm)
    refine (blk_3 m hO c t a b).trans (congrArg (fun s => (m ((c.tc : Thread nD τ).loc main_arg3) : S4x256x2048.Idx → EReal) (ix3 s ⟨256 * t.val + a, by omega⟩ b)) (Fin.ext ?_))
    show (chip m).toNat = s.val
    rw [h, BitVec.toNat_ofNat]
    omega
  · exact (if_neg h).trans ((blk_4 m hO c t s a b).trans (if_neg h).symm)

/-- A table that names the first chip: the windows that read no table are what they are at any other. -/
def first : (pcfg0 (F := Ideal)).Adm := ⟨fun | (0 : Fin 1) => (fun _ => 0#32 : S1.Idx → BitVec 32), ok0_of_lt _ 0#32 rfl (by decide)⟩

/-! ### The four results, at an index -/

def outG (c : Dev nD) (r : Fin 256) (b : Fin 2048) : EReal := grad (chip m) (m ((c.tc : Thread nD τ).loc main_arg3)) (m ((c.tc : Thread nD τ).loc main_arg4)) r b

def outD (c : Dev nD) (r : Fin 256) (b : Fin 2048) : EReal := Adam.delta (outG m c r b) ((m ((c.tc : Thread nD τ).loc main_arg0) : S256x2048.Idx → EReal) (ix2 r b)) ((m ((c.tc : Thread nD τ).loc main_arg1) : S256x2048.Idx → EReal) (ix2 r b)) ((m ((c.tc : Thread nD τ).loc main_arg2) : S256x2048.Idx → EReal) (ix2 r b))

def outM (c : Dev nD) (r : Fin 256) (b : Fin 2048) : EReal := Adam.mean (outG m c r b) ((m ((c.tc : Thread nD τ).loc main_arg1) : S256x2048.Idx → EReal) (ix2 r b))

def outV (c : Dev nD) (r : Fin 256) (b : Fin 2048) : EReal := Adam.square (outG m c r b) ((m ((c.tc : Thread nD τ).loc main_arg2) : S256x2048.Idx → EReal) (ix2 r b))

theorem covers_5 : ((cfg0 first).win 5).Covers := by decide +kernel

theorem outs_5 (c : Dev nD) (t : Fin grid0.N) : (outsAt0 m hO c t).1 = (sum0 (iblk m hO c 3 t) (iblk m hO c 4 t) (tbl m 0)) := by
  unfold outsAt0
  dsimp only
  exact store_5 m hO c t (iblk m hO c 0 t) (iblk m hO c 1 t) (iblk m hO c 2 t) (iblk m hO c 3 t) (iblk m hO c 4 t) (tbl m 0)

theorem left_5 (c : Dev nD) (t : Fin grid0.N) (a : Fin 256) (b : Fin 2048) : ((outsAt0 m hO c t).1 : S256x2048.Idx → EReal) (ix2 a b)
    = outG m c ⟨256 * t.val + a, by have := lt_n t; omega⟩ b :=
  (congrFun (outs_5 m hO c t) (ix2 a b)).trans ((grad_at m hO c t a b))

theorem final_5 (c : Dev nD) : (dats m hO 0 c).arrAt 5 grid0.N = fun i : S256x2048.Idx => outG m c (i 0) (i 1) := by
  refine (dats m hO 0 c).arrAt_eq_of_covers 5 (fun i : S256x2048.Idx => outG m c (i 0) (i 1)) covers_5 fun t hf (y : S256x2048.Idx) => ?_
  have ht := lt_n t
  have io : ((cfgM m hO).win 5).index t = ![t.val, 0] := (idx t).2.2.2.2.1
  have hy0 : (y 0).val < 256 := (y 0).isLt
  have hy1 : (y 1).val < 2048 := (y 1).isLt
  rw [after0_5]
  refine (show _ = ((outsAt0 m hO c t).1 : S256x2048.Idx → EReal) (ix2 (y 0) (y 1)) from congrArg ((outsAt0 m hO c t).1 : S256x2048.Idx → EReal) (by
    funext k; fin_cases k <;> rfl)).trans ((left_5 m hO c t (y 0) (y 1)).trans (congrArg₂ (outG m c) (Fin.ext ?_) (Fin.ext ?_)))
  all_goals blk_simp [io]
  show 256 * t.val + (y 0).val = t.val * 256 + (y 0).val
  omega

theorem covers_6 : ((cfg0 first).win 6).Covers := by decide +kernel

theorem outs_6 (c : Dev nD) (t : Fin grid0.N) : (outsAt0 m hO c t).2.1 = k0_pay3 (sum0 (iblk m hO c 3 t) (iblk m hO c 4 t) (tbl m 0)) (iblk m hO c 1 t) k0_pay5 (iblk m hO c 2 t) (iblk m hO c 0 t) := by
  unfold outsAt0
  dsimp only
  exact store_6 m hO c t (iblk m hO c 0 t) (iblk m hO c 1 t) (iblk m hO c 2 t) (iblk m hO c 3 t) (iblk m hO c 4 t) (tbl m 0)

theorem left_6 (c : Dev nD) (t : Fin grid0.N) (a : Fin 256) (b : Fin 2048) : ((outsAt0 m hO c t).2.1 : S256x2048.Idx → EReal) (ix2 a b)
    = outD m c ⟨256 * t.val + a, by have := lt_n t; omega⟩ b :=
  (congrFun (outs_6 m hO c t) (ix2 a b)).trans ((delta_at _ _ _ _ _).trans (Adam.delta_congr (grad_at m hO c t a b) (blk_0 m hO c t a b) (blk_1 m hO c t a b) (blk_2 m hO c t a b)))

theorem final_6 (c : Dev nD) : (dats m hO 0 c).arrAt 6 grid0.N = fun i : S256x2048.Idx => outD m c (i 0) (i 1) := by
  refine (dats m hO 0 c).arrAt_eq_of_covers 6 (fun i : S256x2048.Idx => outD m c (i 0) (i 1)) covers_6 fun t hf (y : S256x2048.Idx) => ?_
  have ht := lt_n t
  have io : ((cfgM m hO).win 6).index t = ![t.val, 0] := (idx t).2.2.2.2.2.1
  have hy0 : (y 0).val < 256 := (y 0).isLt
  have hy1 : (y 1).val < 2048 := (y 1).isLt
  rw [after0_6]
  refine (show _ = ((outsAt0 m hO c t).2.1 : S256x2048.Idx → EReal) (ix2 (y 0) (y 1)) from congrArg ((outsAt0 m hO c t).2.1 : S256x2048.Idx → EReal) (by
    funext k; fin_cases k <;> rfl)).trans ((left_6 m hO c t (y 0) (y 1)).trans (congrArg₂ (outD m c) (Fin.ext ?_) (Fin.ext ?_)))
  all_goals blk_simp [io]
  show 256 * t.val + (y 0).val = t.val * 256 + (y 0).val
  omega

theorem covers_7 : ((cfg0 first).win 7).Covers := by decide +kernel

theorem outs_7 (c : Dev nD) (t : Fin grid0.N) : (outsAt0 m hO c t).2.2.1 = k0_pay1 (sum0 (iblk m hO c 3 t) (iblk m hO c 4 t) (tbl m 0)) (iblk m hO c 1 t) k0_pay5 := by
  unfold outsAt0
  dsimp only
  exact store_7 m hO c t (iblk m hO c 0 t) (iblk m hO c 1 t) (iblk m hO c 2 t) (iblk m hO c 3 t) (iblk m hO c 4 t) (tbl m 0)

theorem left_7 (c : Dev nD) (t : Fin grid0.N) (a : Fin 256) (b : Fin 2048) : ((outsAt0 m hO c t).2.2.1 : S256x2048.Idx → EReal) (ix2 a b)
    = outM m c ⟨256 * t.val + a, by have := lt_n t; omega⟩ b :=
  (congrFun (outs_7 m hO c t) (ix2 a b)).trans ((mean_at _ _ _).trans (congrArg₂ Adam.mean (grad_at m hO c t a b) (blk_1 m hO c t a b)))

theorem final_7 (c : Dev nD) : (dats m hO 0 c).arrAt 7 grid0.N = fun i : S256x2048.Idx => outM m c (i 0) (i 1) := by
  refine (dats m hO 0 c).arrAt_eq_of_covers 7 (fun i : S256x2048.Idx => outM m c (i 0) (i 1)) covers_7 fun t hf (y : S256x2048.Idx) => ?_
  have ht := lt_n t
  have io : ((cfgM m hO).win 7).index t = ![t.val, 0] := (idx t).2.2.2.2.2.2.1
  have hy0 : (y 0).val < 256 := (y 0).isLt
  have hy1 : (y 1).val < 2048 := (y 1).isLt
  rw [after0_7]
  refine (show _ = ((outsAt0 m hO c t).2.2.1 : S256x2048.Idx → EReal) (ix2 (y 0) (y 1)) from congrArg ((outsAt0 m hO c t).2.2.1 : S256x2048.Idx → EReal) (by
    funext k; fin_cases k <;> rfl)).trans ((left_7 m hO c t (y 0) (y 1)).trans (congrArg₂ (outM m c) (Fin.ext ?_) (Fin.ext ?_)))
  all_goals blk_simp [io]
  show 256 * t.val + (y 0).val = t.val * 256 + (y 0).val
  omega

theorem covers_8 : ((cfg0 first).win 8).Covers := by decide +kernel

theorem outs_8 (c : Dev nD) (t : Fin grid0.N) : (outsAt0 m hO c t).2.2.2 = k0_pay2 (sum0 (iblk m hO c 3 t) (iblk m hO c 4 t) (tbl m 0)) (iblk m hO c 2 t) := by
  unfold outsAt0
  dsimp only
  exact store_8 m hO c t (iblk m hO c 0 t) (iblk m hO c 1 t) (iblk m hO c 2 t) (iblk m hO c 3 t) (iblk m hO c 4 t) (tbl m 0)

theorem left_8 (c : Dev nD) (t : Fin grid0.N) (a : Fin 256) (b : Fin 2048) : ((outsAt0 m hO c t).2.2.2 : S256x2048.Idx → EReal) (ix2 a b)
    = outV m c ⟨256 * t.val + a, by have := lt_n t; omega⟩ b :=
  (congrFun (outs_8 m hO c t) (ix2 a b)).trans ((square_at _ _ _).trans (congrArg₂ Adam.square (grad_at m hO c t a b) (blk_2 m hO c t a b)))

theorem final_8 (c : Dev nD) : (dats m hO 0 c).arrAt 8 grid0.N = fun i : S256x2048.Idx => outV m c (i 0) (i 1) := by
  refine (dats m hO 0 c).arrAt_eq_of_covers 8 (fun i : S256x2048.Idx => outV m c (i 0) (i 1)) covers_8 fun t hf (y : S256x2048.Idx) => ?_
  have ht := lt_n t
  have io : ((cfgM m hO).win 8).index t = ![t.val, 0] := (idx t).2.2.2.2.2.2.2
  have hy0 : (y 0).val < 256 := (y 0).isLt
  have hy1 : (y 1).val < 2048 := (y 1).isLt
  rw [after0_8]
  refine (show _ = ((outsAt0 m hO c t).2.2.2 : S256x2048.Idx → EReal) (ix2 (y 0) (y 1)) from congrArg ((outsAt0 m hO c t).2.2.2 : S256x2048.Idx → EReal) (by
    funext k; fin_cases k <;> rfl)).trans ((left_8 m hO c t (y 0) (y 1)).trans (congrArg₂ (outV m c) (Fin.ext ?_) (Fin.ext ?_)))
  all_goals blk_simp [io]
  show 256 * t.val + (y 0).val = t.val * 256 + (y 0).val
  omega

theorem run (ρ : Dev nD → PrngReg) (hO : Ok m) :
    θ_run (defs (F := Ideal)) (onTc (τ := τ) (main (F := Ideal))) ⟨m, fun _ => 0, ρ⟩ fun r => ∀ c : Dev nD,
      r.2.mem ((c.tc : Thread nD τ).loc main_v0_0) = (fun i : S256x2048.Idx => outG m c (i 0) (i 1))
      ∧ r.2.mem ((c.tc : Thread nD τ).loc main_v0_1) = (fun i : S256x2048.Idx => outD m c (i 0) (i 1))
      ∧ r.2.mem ((c.tc : Thread nD τ).loc main_v0_2) = (fun i : S256x2048.Idx => outM m c (i 0) (i 1))
      ∧ r.2.mem ((c.tc : Thread nD τ).loc main_v0_3) = (fun i : S256x2048.Idx => outV m c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun r h c => ⟨((h c).1 5).trans (final_5 m hO c), ((h c).1 6).trans (final_6 m hO c), ((h c).1 7).trans (final_7 m hO c), ((h c).1 8).trans (final_8 m hO c), ((h c).1 0).trans ((dats m hO 0 c).arrAt_in 0 rfl _), ((h c).1 1).trans ((dats m hO 0 c).arrAt_in 1 rfl _), ((h c).1 2).trans ((dats m hO 0 c).arrAt_in 2 rfl _), ((h c).1 3).trans ((dats m hO 0 c).arrAt_in 3 rfl _), ((h c).1 4).trans ((dats m hO 0 c).arrAt_in 4 rfl _), (h c).2 main_arg5 (by decide : main_arg5 ∈ Pipeline.restRefs sig spec0)⟩)
    (run_main (F := Ideal) m ρ hO)

end Cert.AdamOutIdeal.Product

/-! ### The reference, at an index -/

namespace Cert.AdamOutRefIdeal.Product

open Cert.AdamOutRefIdeal Cert.AdamOutRefIdeal.Gen
open Idealize.ShloMosaic Idealize.ShloMosaic.TcCoe
open Idealize.SL Idealize.SL.Sem

theorem grad_at (x3 x4 : Vec Ideal S4x256x2048 .bf16) (x5 : Vec Ideal S1 .i32) (i : S256x2048.Idx) : (Host.reduceAdd (F := Ideal) (select (broadcastInDim S4x256x2048 ![0, 1, 2] bcast_S4x1x1_S4x256x2048_0_1_2 (broadcastInDim S4x1x1 ![0] bcast_S4_S4x1x1_0 (cmpi .eq (iotaInDim S4 32 0) (broadcastInDim S4 ![] bcast_S_S4 (shapeCast _ x5 shapeCasts_S1_S_))))) (extf .f32 x3 bitsLt_bf16_f32) (extf .f32 x4 bitsLt_bf16_f32)) (constant S_ .f32 0x00000000#32) reducesTo_S4x256x2048_S256x2048_d0 h_S_ : S256x2048.Idx → EReal) i
    = Cert.AdamOutIdeal.Product.grad ((x5 : S1.Idx → BitVec 32) (ix1 0)) x3 x4 (i 0) (i 1) := by
  rw [show i = @ix2 256 2048 (i 0) (i 1) from by funext k; fin_cases k <;> rfl]
  pointwise [Cert.AdamOutIdeal.Product.grad]
  exact Finset.sum_congr rfl fun s _ => Adam.select_eq_symm _ _ _ _

theorem mean_at (g : FVec Ideal S256x2048 .f32) (x1 : Vec Ideal S256x2048 .f32) (i : S256x2048.Idx) : (addf (mulf (broadcastInDim S256x2048 ![] bcast_S_S256x2048 (constant S_ .f32 0x3F666666#32)) x1) (mulf (broadcastInDim S256x2048 ![] bcast_S_S256x2048 (constant S_ .f32 0x3DCCCCCD#32)) g) : S256x2048.Idx → EReal) i = Adam.mean (g i) (x1 i) := by
  pointwise [Adam.mean]

theorem square_at (g : FVec Ideal S256x2048 .f32) (x2 : Vec Ideal S256x2048 .f32) (i : S256x2048.Idx) : (addf (mulf (broadcastInDim S256x2048 ![] bcast_S_S256x2048 (constant S_ .f32 0x3F7FBE77#32)) x2) (mulf (broadcastInDim S256x2048 ![] bcast_S_S256x2048 (constant S_ .f32 0x3A83126F#32)) (mulf g g)) : S256x2048.Idx → EReal) i = Adam.square (g i) (x2 i) := by
  pointwise [Adam.square]

theorem delta_at (g : FVec Ideal S256x2048 .f32) (x0 x1 x2 : Vec Ideal S256x2048 .f32) (i : S256x2048.Idx) : (mulf (broadcastInDim S256x2048 ![] bcast_S_S256x2048 (constant S_ .f32 0xBA83126F#32)) (addf (Host.divf (Host.divf (addf (mulf (broadcastInDim S256x2048 ![] bcast_S_S256x2048 (constant S_ .f32 0x3F666666#32)) x1) (mulf (broadcastInDim S256x2048 ![] bcast_S_S256x2048 (constant S_ .f32 0x3DCCCCCD#32)) g)) (broadcastInDim S256x2048 ![] bcast_S_S256x2048 (constant S_ .f32 0x3F26BD02#32))) (addf (Host.sqrt (Host.divf (addf (mulf (broadcastInDim S256x2048 ![] bcast_S_S256x2048 (constant S_ .f32 0x3F7FBE77#32)) x2) (mulf (broadcastInDim S256x2048 ![] bcast_S_S256x2048 (constant S_ .f32 0x3A83126F#32)) (mulf g g))) (broadcastInDim S256x2048 ![] bcast_S_S256x2048 (constant S_ .f32 0x3C231ACC#32)))) (broadcastInDim S256x2048 ![] bcast_S_S256x2048 (constant S_ .f32 0x322BCC77#32)))) (mulf (broadcastInDim S256x2048 ![] bcast_S_S256x2048 (constant S_ .f32 0x3C23D70A#32)) x0)) : S256x2048.Idx → EReal) i = Adam.delta (g i) (x0 i) (x1 i) (x2 i) := by
  pointwise [Adam.delta, Adam.mean, Adam.square]

end Cert.AdamOutRefIdeal.Product

namespace Cert.AdamOutIdeal.Product

open Cert.AdamOutIdeal Cert.AdamOutIdeal.Gen
open Idealize.ShloMosaic Idealize.ShloMosaic.TcCoe
open Idealize.SL Idealize.SL.Sem

/-! ### The claims -/

theorem ok_of_pre (m : (ℓ : Loc nD τ sig) → Buf (Elt Ideal) ℓ) (h : Cert.Pre_AdamOutIdeal m) : Ok m := by
  refine ok_of_lt m (Adam.lt_of_pre _ ?_)
  have e := congrFun (h 0) (ix1 0)
  unfold Cert.Pre_chip_out.fn at e
  exact e

/-- The call leaves what the reference computes. -/
theorem algebraic : Cert.algebraic_AdamOutIdeal_AdamOutRefIdeal := fun m ρ m' ρ' hp hm =>
  ⟨_, _, _, _, run m ρ (ok_of_pre m hp), (θ_run _ _ _).mono (fun r h c => by
      obtain rfl : c = 0 := Subsingleton.elim _ _
      obtain ⟨e0, e1, e2, e3, e4, e5⟩ := hm 0
      have hg (i : S256x2048.Idx) := (Cert.AdamOutRefIdeal.Product.grad_at (m' (((0 : Dev Cert.AdamOutRefIdeal.nD).tc : Thread Cert.AdamOutRefIdeal.nD Cert.AdamOutRefIdeal.τ).loc Cert.AdamOutRefIdeal.main_arg3)) (m' (((0 : Dev Cert.AdamOutRefIdeal.nD).tc : Thread Cert.AdamOutRefIdeal.nD Cert.AdamOutRefIdeal.τ).loc Cert.AdamOutRefIdeal.main_arg4)) (m' (((0 : Dev Cert.AdamOutRefIdeal.nD).tc : Thread Cert.AdamOutRefIdeal.nD Cert.AdamOutRefIdeal.τ).loc Cert.AdamOutRefIdeal.main_arg5)) i).trans (by rw [e3, e4, e5]; rfl : _ = outG m 0 (i 0) (i 1))
      have hi (i : S256x2048.Idx) : i = @ix2 256 2048 (i 0) (i 1) := by funext k; fin_cases k <;> rfl
      have h0 (i : S256x2048.Idx) := (congrFun e0 i).trans (congrArg (m (((0 : Dev nD).tc : Thread nD τ).loc main_arg0) : S256x2048.Idx → EReal) (hi i))
      have h1 (i : S256x2048.Idx) := (congrFun e1 i).trans (congrArg (m (((0 : Dev nD).tc : Thread nD τ).loc main_arg1) : S256x2048.Idx → EReal) (hi i))
      have h2 (i : S256x2048.Idx) := (congrFun e2 i).trans (congrArg (m (((0 : Dev nD).tc : Thread nD τ).loc main_arg2) : S256x2048.Idx → EReal) (hi i))
      refine ⟨(h 0).1.trans (funext hg), (h 0).2.1.trans (funext fun i => ?_), (h 0).2.2.1.trans (funext fun i => ?_), (h 0).2.2.2.1.trans (funext fun i => ?_), (h 0).2.2.2.2⟩
      · exact (Cert.AdamOutRefIdeal.Product.delta_at _ _ _ _ i).trans (Adam.delta_congr (hg i) (h0 i) (h1 i) (h2 i))
      · exact (Cert.AdamOutRefIdeal.Product.mean_at _ _ i).trans (congrArg₂ Adam.mean (hg i) (h1 i))
      · exact (Cert.AdamOutRefIdeal.Product.square_at _ _ i).trans (congrArg₂ Adam.square (hg i) (h2 i))) (Cert.AdamOutRefIdeal.Value.run (F := Ideal) m' ρ')⟩

/-- The printed program and its idealization have one body table: nothing was rewritten. -/
theorem defs₀_eq : Cert.AdamOut.defs₀ (F := Bits) = Cert.AdamOutIdeal.defs₀ (F := Bits) := by
  unfold Cert.AdamOut.defs₀ Cert.AdamOutIdeal.defs₀
  refine congrArg (Defs.onTc (nD := nD) (τ := τ) (sig := sig) (Val := Elt Bits) (Λ := Λ₀)) ?_
  funext l a
  match l, a with
  | 0, (t, s) => rfl
  | ⟨_ + 1, h⟩, _ => exact absurd h (Nat.not_lt.2 (Nat.le_add_left _ _))

theorem defs_eq : Cert.AdamOut.defs (F := Bits) = Cert.AdamOutIdeal.defs (F := Bits) := by
  unfold Cert.AdamOut.defs Cert.AdamOutIdeal.defs
  rw [defs₀_eq]; rfl

theorem ok_of_pre_bits (m : (ℓ : Loc nD τ sig) → Buf (Elt Bits) ℓ) (h : Cert.Pre_AdamOut m) : Ok m := by
  refine ok_of_lt m (Adam.lt_of_pre _ ?_)
  have e := congrFun (h 0) (ix1 0)
  unfold Cert.Pre_chip_out.fn at e
  exact e

theorem frame : Cert.quiescent_AdamOut := fun m ρ h => by
  rw [defs_eq]
  exact Cert.AdamOutIdeal.Gen.frame (F := Bits) m ρ (ok_of_pre_bits m h)

theorem frameIdeal : Cert.quiescent_AdamOutIdeal := fun m ρ h => Cert.AdamOutIdeal.Gen.frame (F := Ideal) m ρ (ok_of_pre m h)

theorem frameReference : Cert.quiescent_AdamOutRefIdeal := fun m ρ _ =>
  (θ_run _ _ _).mono (fun r h => ⟨fun c => (h c).2.2.2.2, sem_eq_zero_of_no_sems (by decide) r.2⟩)
    (Cert.AdamOutRefIdeal.Value.run (F := Ideal) m ρ)

end Cert.AdamOutIdeal.Product

end
-- ==== Proof.Products.AdamUp.lean ====
module

public import proofs.«01_k».proof.Defs
public import proofs.«01_k».proof.Proof.Gen.AdamUp
public import proofs.«01_k».proof.Proof.Gen.AdamUpIdeal.Frame
public import proofs.«01_k».proof.Proof.Gen.AdamUpRefIdeal.Run
public import proofs.«01_k».proof.Proof.Products.Adam
public import proofs.«01_k».proof.Proof.Gen.Pre_chip_up

/-!
The optimiser's step of one shard of an up-projection, whose gradient is summed over the four chips.
-/

@[expose] public section

set_option maxRecDepth 16384

noncomputable section

namespace Cert.AdamUpIdeal.Product

open Cert.AdamUpIdeal Cert.AdamUpIdeal.Gen
open Idealize.ShloMosaic Idealize.ShloMosaic.TcCoe
open Idealize.SL Idealize.SL.Sem

/-! ### The chip's number -/

/-- A table of one word is read at one place. -/
theorem word_eq (x : S1.Idx → BitVec 32) (i j : S1.Idx) : x i = x j :=
  congrArg x (funext fun k => by fin_cases k; exact Fin.ext (by have := (i 0).isLt; have := (j 0).isLt; simp_all))

section Chip
variable {F : FTy → Type} [FloatOps F] (m : (ℓ : Loc nD τ sig) → Buf (Elt F) ℓ)

/-- The number of the chip, read off its table. -/
def chip : BitVec 32 := (m (((0 : Dev nD).tc : Thread nD τ).loc main_arg5) : S1.Idx → BitVec 32) (ix1 0)

theorem ok0_of_lt (pf : pre0.Contents (Elt F)) (k : BitVec 32)
    (e : pf.at 0 (Rect.unit (s := S1) ![0] S1.size inb_S1_S1_0) numel1_S1 = k) (h : k.toNat < 4) : ok0 pf := by
  have key : ∀ (k : Fin 4) (i : grid0.Coords), ∃ h : (∀ a, ((![k.val, (BitVec.ofNat 32 (i 0).val).toNat, (BitVec.ofNat 32 (i 1).val).toNat] : Fin 3 → Nat) a + 1) * S1x256x1408.size a ≤ S4x2048x1408.size a),
      EltTy.bits .bf16 = 32 ∨ (Rect.block (s := S4x2048x1408) S1x256x1408.size ![k.val, (BitVec.ofNat 32 (i 0).val).toNat, (BitVec.ofNat 32 (i 1).val).toNat] h).WholeWords (EltTy.packing .bf16) := by
    decide +kernel
  intro i
  unfold cc0_transform_3
  dsimp only
  rw [e]
  exact key ⟨_, h⟩ i

theorem ok_of_lt (h : (chip m).toNat < 4) : Ok m := ok0_of_lt (tbl m) (chip m) (word_eq _ _ _) h
end Chip

/-! ### Where a point's blocks lie -/

theorem idx : ∀ t : Fin grid0.N, cc0_transform_0 (grid0.coords t) = ![t.val, 0] ∧ cc0_transform_1 (grid0.coords t) = ![t.val, 0] ∧ cc0_transform_2 (grid0.coords t) = ![t.val, 0]
    ∧ cc0_transform_4 (grid0.coords t) = ![0, t.val, 0] ∧ cc0_transform_5 (grid0.coords t) = ![t.val, 0] ∧ cc0_transform_6 (grid0.coords t) = ![t.val, 0]
    ∧ cc0_transform_7 (grid0.coords t) = ![t.val, 0] ∧ cc0_transform_8 (grid0.coords t) = ![t.val, 0] := by decide +kernel

theorem coords : ∀ t : Fin grid0.N, (BitVec.ofNat 32 (grid0.coords t 0).val).toNat = t.val ∧ (BitVec.ofNat 32 (grid0.coords t 1).val).toNat = 0 := by decide +kernel

theorem lt_n (t : Fin grid0.N) : t.val < 8 := lt_of_lt_of_eq t.isLt (by decide +kernel)

/-- The gradient summed over the chips: this chip's own part, and what the others sent. -/
def grad (n : BitVec 32) (own land : S4x2048x1408.Idx → EReal) (r : Fin 2048) (b : Fin 1408) : EReal :=
  ∑ s : Fin 4, if n = BitVec.ofNat 32 s.val then own (ix3 s r b) else land (ix3 s r b)

variable (m : (ℓ : Loc nD τ sig) → Buf (Elt Ideal) ℓ) (hO : Ok m)

theorem lt_of_ok (hO : Ok m) : (chip m).toNat < 4 := by
  obtain ⟨h, _⟩ := hO (grid0.coords ⟨0, by decide⟩)
  have h := h 0
  unfold cc0_transform_3 at h
  dsimp only at h
  rw [show (tbl m).at 0 (Rect.unit (s := S1) ![0] S1.size inb_S1_S1_0) numel1_S1 = chip m from word_eq _ _ _] at h
  have h' : ((chip m).toNat + 1) * 1 ≤ 4 := h
  omega

theorem index_3 (t : Fin grid0.N) : ((cfgM m hO).win 3).index t = ![(chip m).toNat, t.val, 0] := by
  have e : (tbl m).at 0 (Rect.unit (s := S1) ![0] S1.size inb_S1_S1_0) numel1_S1 = chip m := word_eq _ _ _
  refine (show ((cfgM m hO).win 3).index t = cc0_transform_3 inb_S1_S1_0 numel1_S1 (tbl m) (grid0.coords t) from rfl).trans ?_
  unfold cc0_transform_3
  dsimp only
  rw [e, (coords t).1, (coords t).2]

theorem blk_0 (c : Dev nD) (t : Fin grid0.N) (a : Fin 256) (b : Fin 1408) : (iblk m hO c 0 t : S256x1408.Idx → EReal) (ix2 a b)
    = (m ((c.tc : Thread nD τ).loc main_arg0) : S2048x1408.Idx → EReal) (ix2 ⟨256 * t.val + a, by have := lt_n t; omega⟩ b) := by
  have := lt_n t
  have io : ((cfgM m hO).win 0).index t = ![t.val, 0] := (idx t).1
  blk_ext! [iblk, V, io]

theorem blk_1 (c : Dev nD) (t : Fin grid0.N) (a : Fin 256) (b : Fin 1408) : (iblk m hO c 1 t : S256x1408.Idx → EReal) (ix2 a b)
    = (m ((c.tc : Thread nD τ).loc main_arg1) : S2048x1408.Idx → EReal) (ix2 ⟨256 * t.val + a, by have := lt_n t; omega⟩ b) := by
  have := lt_n t
  have io : ((cfgM m hO).win 1).index t = ![t.val, 0] := (idx t).2.1
  blk_ext! [iblk, V, io]

theorem blk_2 (c : Dev nD) (t : Fin grid0.N) (a : Fin 256) (b : Fin 1408) : (iblk m hO c 2 t : S256x1408.Idx → EReal) (ix2 a b)
    = (m ((c.tc : Thread nD τ).loc main_arg2) : S2048x1408.Idx → EReal) (ix2 ⟨256 * t.val + a, by have := lt_n t; omega⟩ b) := by
  have := lt_n t
  have io : ((cfgM m hO).win 2).index t = ![t.val, 0] := (idx t).2.2.1
  blk_ext! [iblk, V, io]

theorem blk_3 (c : Dev nD) (t : Fin grid0.N) (a : Fin 256) (b : Fin 1408) : (iblk m hO c 3 t : S1x256x1408.Idx → EReal) (ix3 0 a b)
    = (m ((c.tc : Thread nD τ).loc main_arg3) : S4x2048x1408.Idx → EReal) (ix3 ⟨(chip m).toNat, lt_of_ok m hO⟩ ⟨256 * t.val + a, by have := lt_n t; omega⟩ b) := by
  have := lt_n t
  have io := index_3 m hO t
  blk_ext! [iblk, V, io]

theorem blk_4 (c : Dev nD) (t : Fin grid0.N) (s : Fin 4) (a : Fin 256) (b : Fin 1408) : (iblk m hO c 4 t : S4x256x1408.Idx → EReal) (ix3 s a b)
    = (m ((c.tc : Thread nD τ).loc main_arg4) : S4x2048x1408.Idx → EReal) (ix3 s ⟨256 * t.val + a, by have := lt_n t; omega⟩ b) := by
  have := lt_n t
  have io : ((cfgM m hO).win 4).index t = ![0, t.val, 0] := (idx t).2.2.2.1
  blk_ext! [iblk, V, io]

/-! ### What a point leaves -/

/-- The gradient a point sums from its blocks. -/
def sum0 (x3 : Vec Ideal S1x256x1408 .bf16) (x4 : Vec Ideal S4x256x1408 .bf16) (k : Vec Ideal S1 .i32) : Vec Ideal S256x1408 .f32 :=
  k0_pay4 x3 (k (ix1 0)) (View.ld x4 (Rect.unit ![0, 0, 0] ![1, 256, 1408] inb_S4x256x1408_S1x256x1408_0_0_0))
    (k (ix1 0)) (View.ld x4 (Rect.unit ![1, 0, 0] ![1, 256, 1408] inb_S4x256x1408_S1x256x1408_1_0_0))
    (k (ix1 0)) (View.ld x4 (Rect.unit ![2, 0, 0] ![1, 256, 1408] inb_S4x256x1408_S1x256x1408_2_0_0))
    (k (ix1 0)) (View.ld x4 (Rect.unit ![3, 0, 0] ![1, 256, 1408] inb_S4x256x1408_S1x256x1408_3_0_0))

theorem sum0_at (x3 : Vec Ideal S1x256x1408 .bf16) (x4 : Vec Ideal S4x256x1408 .bf16) (k : Vec Ideal S1 .i32) (a : Fin 256) (b : Fin 1408) :
    (sum0 x3 x4 k : S256x1408.Idx → EReal) (ix2 a b) = ∑ s : Fin 4, if (k : S1.Idx → BitVec 32) (ix1 0) = BitVec.ofNat 32 s.val
      then (x3 : S1x256x1408.Idx → EReal) (ix3 0 a b) else (x4 : S4x256x1408.Idx → EReal) (ix3 s a b) := by
  unfold sum0
  generalize (k : S1.Idx → BitVec 32) (ix1 0) = n
  simp only [Fin.sum_univ_four]
  pointwise [k0_pay4]
  exact congrArg₂ (· + ·) (congrArg₂ (· + ·) (congrArg₂ (· + ·) (Adam.select_eq _ _ _ _) (Adam.select_eq _ _ _ _)) (Adam.select_eq _ _ _ _)) (Adam.select_eq _ _ _ _)

theorem delta_at (g w m v : Vec Ideal S256x1408 .f32) (i : S256x1408.Idx) : (k0_pay3 g m k0_pay5 v w : S256x1408.Idx → EReal) i = Adam.delta (g i) (w i) (m i) (v i) := by
  pointwise [k0_pay3, k0_pay1, k0_pay2, k0_pay5, Adam.delta, Adam.mean, Adam.square]

theorem mean_at (g m : Vec Ideal S256x1408 .f32) (i : S256x1408.Idx) : (k0_pay1 g m k0_pay5 : S256x1408.Idx → EReal) i = Adam.mean (g i) (m i) := by
  pointwise [k0_pay1, k0_pay5, Adam.mean]

theorem square_at (g v : Vec Ideal S256x1408 .f32) (i : S256x1408.Idx) : (k0_pay2 g v : S256x1408.Idx → EReal) i = Adam.square (g i) (v i) := by
  pointwise [k0_pay2, Adam.square]

section Store
variable (c : Dev nD) (t : Fin grid0.N) (x0 x1 x2 : Vec Ideal S256x1408 .f32) (x3 : Vec Ideal S1x256x1408 .bf16) (x4 : Vec Ideal S4x256x1408 .bf16) (k : Vec Ideal S1 .i32)

theorem word (h) : View.read (Elt Ideal) (View.whole main_arg5) k (Shape.Idx.first h) = k (ix1 0) := word_eq k _ _

theorem store_5 : out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 k = sum0 x3 x4 k := by
  frame_out
  simp only [word]
  rfl

theorem store_6 : out0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 k = k0_pay3 (sum0 x3 x4 k) x1 k0_pay5 x2 x0 := by
  frame_out
  simp only [word]
  rfl

theorem store_7 : out0_A_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 k = k0_pay1 (sum0 x3 x4 k) x1 k0_pay5 := by
  frame_out
  simp only [word]
  rfl

theorem store_8 : out0_A_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 k = k0_pay2 (sum0 x3 x4 k) x2 := by
  frame_out
  simp only [word]
  rfl
end Store

/-- The summed gradient of a point's block is the whole's there. -/
theorem grad_at (c : Dev nD) (t : Fin grid0.N) (a : Fin 256) (b : Fin 1408) : (sum0 (iblk m hO c 3 t) (iblk m hO c 4 t) (tbl m 0) : S256x1408.Idx → EReal) (ix2 a b)
    = grad (chip m) (m ((c.tc : Thread nD τ).loc main_arg3)) (m ((c.tc : Thread nD τ).loc main_arg4)) ⟨256 * t.val + a, by have := lt_n t; omega⟩ b := by
  have ht := lt_n t
  refine (sum0_at (iblk m hO c 3 t) (iblk m hO c 4 t) (tbl m 0) a b).trans (Finset.sum_congr rfl fun s _ => ?_)
  rw [show (tbl m 0 : S1.Idx → BitVec 32) (ix1 0) = chip m from rfl]
  by_cases h : chip m = BitVec.ofNat 32 s.val
  · refine (if_pos h).trans (Eq.trans ?_ (if_pos h).symm)
    refine (blk_3 m hO c t a b).trans (congrArg (fun s => (m ((c.tc : Thread nD τ).loc main_arg3) : S4x2048x1408.Idx → EReal) (ix3 s ⟨256 * t.val + a, by omega⟩ b)) (Fin.ext ?_))
    show (chip m).toNat = s.val
    rw [h, BitVec.toNat_ofNat]
    omega
  · exact (if_neg h).trans ((blk_4 m hO c t s a b).trans (if_neg h).symm)

/-- A table that names the first chip: the windows that read no table are what they are at any other. -/
def first : (pcfg0 (F := Ideal)).Adm := ⟨fun | (0 : Fin 1) => (fun _ => 0#32 : S1.Idx → BitVec 32), ok0_of_lt _ 0#32 rfl (by decide)⟩

/-! ### The four results, at an index -/

def outG (c : Dev nD) (r : Fin 2048) (b : Fin 1408) : EReal := grad (chip m) (m ((c.tc : Thread nD τ).loc main_arg3)) (m ((c.tc : Thread nD τ).loc main_arg4)) r b

def outD (c : Dev nD) (r : Fin 2048) (b : Fin 1408) : EReal := Adam.delta (outG m c r b) ((m ((c.tc : Thread nD τ).loc main_arg0) : S2048x1408.Idx → EReal) (ix2 r b)) ((m ((c.tc : Thread nD τ).loc main_arg1) : S2048x1408.Idx → EReal) (ix2 r b)) ((m ((c.tc : Thread nD τ).loc main_arg2) : S2048x1408.Idx → EReal) (ix2 r b))

def outM (c : Dev nD) (r : Fin 2048) (b : Fin 1408) : EReal := Adam.mean (outG m c r b) ((m ((c.tc : Thread nD τ).loc main_arg1) : S2048x1408.Idx → EReal) (ix2 r b))

def outV (c : Dev nD) (r : Fin 2048) (b : Fin 1408) : EReal := Adam.square (outG m c r b) ((m ((c.tc : Thread nD τ).loc main_arg2) : S2048x1408.Idx → EReal) (ix2 r b))

theorem covers_5 : ((cfg0 first).win 5).Covers := by decide +kernel

theorem outs_5 (c : Dev nD) (t : Fin grid0.N) : (outsAt0 m hO c t).1 = (sum0 (iblk m hO c 3 t) (iblk m hO c 4 t) (tbl m 0)) := by
  unfold outsAt0
  dsimp only
  exact store_5 m hO c t (iblk m hO c 0 t) (iblk m hO c 1 t) (iblk m hO c 2 t) (iblk m hO c 3 t) (iblk m hO c 4 t) (tbl m 0)

theorem left_5 (c : Dev nD) (t : Fin grid0.N) (a : Fin 256) (b : Fin 1408) : ((outsAt0 m hO c t).1 : S256x1408.Idx → EReal) (ix2 a b)
    = outG m c ⟨256 * t.val + a, by have := lt_n t; omega⟩ b :=
  (congrFun (outs_5 m hO c t) (ix2 a b)).trans ((grad_at m hO c t a b))

theorem final_5 (c : Dev nD) : (dats m hO 0 c).arrAt 5 grid0.N = fun i : S2048x1408.Idx => outG m c (i 0) (i 1) := by
  refine (dats m hO 0 c).arrAt_eq_of_covers 5 (fun i : S2048x1408.Idx => outG m c (i 0) (i 1)) covers_5 fun t hf (y : S256x1408.Idx) => ?_
  have ht := lt_n t
  have io : ((cfgM m hO).win 5).index t = ![t.val, 0] := (idx t).2.2.2.2.1
  have hy0 : (y 0).val < 256 := (y 0).isLt
  have hy1 : (y 1).val < 1408 := (y 1).isLt
  rw [after0_5]
  refine (show _ = ((outsAt0 m hO c t).1 : S256x1408.Idx → EReal) (ix2 (y 0) (y 1)) from congrArg ((outsAt0 m hO c t).1 : S256x1408.Idx → EReal) (by
    funext k; fin_cases k <;> rfl)).trans ((left_5 m hO c t (y 0) (y 1)).trans (congrArg₂ (outG m c) (Fin.ext ?_) (Fin.ext ?_)))
  all_goals blk_simp [io]
  show 256 * t.val + (y 0).val = t.val * 256 + (y 0).val
  omega

theorem covers_6 : ((cfg0 first).win 6).Covers := by decide +kernel

theorem outs_6 (c : Dev nD) (t : Fin grid0.N) : (outsAt0 m hO c t).2.1 = k0_pay3 (sum0 (iblk m hO c 3 t) (iblk m hO c 4 t) (tbl m 0)) (iblk m hO c 1 t) k0_pay5 (iblk m hO c 2 t) (iblk m hO c 0 t) := by
  unfold outsAt0
  dsimp only
  exact store_6 m hO c t (iblk m hO c 0 t) (iblk m hO c 1 t) (iblk m hO c 2 t) (iblk m hO c 3 t) (iblk m hO c 4 t) (tbl m 0)

theorem left_6 (c : Dev nD) (t : Fin grid0.N) (a : Fin 256) (b : Fin 1408) : ((outsAt0 m hO c t).2.1 : S256x1408.Idx → EReal) (ix2 a b)
    = outD m c ⟨256 * t.val + a, by have := lt_n t; omega⟩ b :=
  (congrFun (outs_6 m hO c t) (ix2 a b)).trans ((delta_at _ _ _ _ _).trans (Adam.delta_congr (grad_at m hO c t a b) (blk_0 m hO c t a b) (blk_1 m hO c t a b) (blk_2 m hO c t a b)))

theorem final_6 (c : Dev nD) : (dats m hO 0 c).arrAt 6 grid0.N = fun i : S2048x1408.Idx => outD m c (i 0) (i 1) := by
  refine (dats m hO 0 c).arrAt_eq_of_covers 6 (fun i : S2048x1408.Idx => outD m c (i 0) (i 1)) covers_6 fun t hf (y : S256x1408.Idx) => ?_
  have ht := lt_n t
  have io : ((cfgM m hO).win 6).index t = ![t.val, 0] := (idx t).2.2.2.2.2.1
  have hy0 : (y 0).val < 256 := (y 0).isLt
  have hy1 : (y 1).val < 1408 := (y 1).isLt
  rw [after0_6]
  refine (show _ = ((outsAt0 m hO c t).2.1 : S256x1408.Idx → EReal) (ix2 (y 0) (y 1)) from congrArg ((outsAt0 m hO c t).2.1 : S256x1408.Idx → EReal) (by
    funext k; fin_cases k <;> rfl)).trans ((left_6 m hO c t (y 0) (y 1)).trans (congrArg₂ (outD m c) (Fin.ext ?_) (Fin.ext ?_)))
  all_goals blk_simp [io]
  show 256 * t.val + (y 0).val = t.val * 256 + (y 0).val
  omega

theorem covers_7 : ((cfg0 first).win 7).Covers := by decide +kernel

theorem outs_7 (c : Dev nD) (t : Fin grid0.N) : (outsAt0 m hO c t).2.2.1 = k0_pay1 (sum0 (iblk m hO c 3 t) (iblk m hO c 4 t) (tbl m 0)) (iblk m hO c 1 t) k0_pay5 := by
  unfold outsAt0
  dsimp only
  exact store_7 m hO c t (iblk m hO c 0 t) (iblk m hO c 1 t) (iblk m hO c 2 t) (iblk m hO c 3 t) (iblk m hO c 4 t) (tbl m 0)

theorem left_7 (c : Dev nD) (t : Fin grid0.N) (a : Fin 256) (b : Fin 1408) : ((outsAt0 m hO c t).2.2.1 : S256x1408.Idx → EReal) (ix2 a b)
    = outM m c ⟨256 * t.val + a, by have := lt_n t; omega⟩ b :=
  (congrFun (outs_7 m hO c t) (ix2 a b)).trans ((mean_at _ _ _).trans (congrArg₂ Adam.mean (grad_at m hO c t a b) (blk_1 m hO c t a b)))

theorem final_7 (c : Dev nD) : (dats m hO 0 c).arrAt 7 grid0.N = fun i : S2048x1408.Idx => outM m c (i 0) (i 1) := by
  refine (dats m hO 0 c).arrAt_eq_of_covers 7 (fun i : S2048x1408.Idx => outM m c (i 0) (i 1)) covers_7 fun t hf (y : S256x1408.Idx) => ?_
  have ht := lt_n t
  have io : ((cfgM m hO).win 7).index t = ![t.val, 0] := (idx t).2.2.2.2.2.2.1
  have hy0 : (y 0).val < 256 := (y 0).isLt
  have hy1 : (y 1).val < 1408 := (y 1).isLt
  rw [after0_7]
  refine (show _ = ((outsAt0 m hO c t).2.2.1 : S256x1408.Idx → EReal) (ix2 (y 0) (y 1)) from congrArg ((outsAt0 m hO c t).2.2.1 : S256x1408.Idx → EReal) (by
    funext k; fin_cases k <;> rfl)).trans ((left_7 m hO c t (y 0) (y 1)).trans (congrArg₂ (outM m c) (Fin.ext ?_) (Fin.ext ?_)))
  all_goals blk_simp [io]
  show 256 * t.val + (y 0).val = t.val * 256 + (y 0).val
  omega

theorem covers_8 : ((cfg0 first).win 8).Covers := by decide +kernel

theorem outs_8 (c : Dev nD) (t : Fin grid0.N) : (outsAt0 m hO c t).2.2.2 = k0_pay2 (sum0 (iblk m hO c 3 t) (iblk m hO c 4 t) (tbl m 0)) (iblk m hO c 2 t) := by
  unfold outsAt0
  dsimp only
  exact store_8 m hO c t (iblk m hO c 0 t) (iblk m hO c 1 t) (iblk m hO c 2 t) (iblk m hO c 3 t) (iblk m hO c 4 t) (tbl m 0)

theorem left_8 (c : Dev nD) (t : Fin grid0.N) (a : Fin 256) (b : Fin 1408) : ((outsAt0 m hO c t).2.2.2 : S256x1408.Idx → EReal) (ix2 a b)
    = outV m c ⟨256 * t.val + a, by have := lt_n t; omega⟩ b :=
  (congrFun (outs_8 m hO c t) (ix2 a b)).trans ((square_at _ _ _).trans (congrArg₂ Adam.square (grad_at m hO c t a b) (blk_2 m hO c t a b)))

theorem final_8 (c : Dev nD) : (dats m hO 0 c).arrAt 8 grid0.N = fun i : S2048x1408.Idx => outV m c (i 0) (i 1) := by
  refine (dats m hO 0 c).arrAt_eq_of_covers 8 (fun i : S2048x1408.Idx => outV m c (i 0) (i 1)) covers_8 fun t hf (y : S256x1408.Idx) => ?_
  have ht := lt_n t
  have io : ((cfgM m hO).win 8).index t = ![t.val, 0] := (idx t).2.2.2.2.2.2.2
  have hy0 : (y 0).val < 256 := (y 0).isLt
  have hy1 : (y 1).val < 1408 := (y 1).isLt
  rw [after0_8]
  refine (show _ = ((outsAt0 m hO c t).2.2.2 : S256x1408.Idx → EReal) (ix2 (y 0) (y 1)) from congrArg ((outsAt0 m hO c t).2.2.2 : S256x1408.Idx → EReal) (by
    funext k; fin_cases k <;> rfl)).trans ((left_8 m hO c t (y 0) (y 1)).trans (congrArg₂ (outV m c) (Fin.ext ?_) (Fin.ext ?_)))
  all_goals blk_simp [io]
  show 256 * t.val + (y 0).val = t.val * 256 + (y 0).val
  omega

theorem run (ρ : Dev nD → PrngReg) (hO : Ok m) :
    θ_run (defs (F := Ideal)) (onTc (τ := τ) (main (F := Ideal))) ⟨m, fun _ => 0, ρ⟩ fun r => ∀ c : Dev nD,
      r.2.mem ((c.tc : Thread nD τ).loc main_v0_0) = (fun i : S2048x1408.Idx => outG m c (i 0) (i 1))
      ∧ r.2.mem ((c.tc : Thread nD τ).loc main_v0_1) = (fun i : S2048x1408.Idx => outD m c (i 0) (i 1))
      ∧ r.2.mem ((c.tc : Thread nD τ).loc main_v0_2) = (fun i : S2048x1408.Idx => outM m c (i 0) (i 1))
      ∧ r.2.mem ((c.tc : Thread nD τ).loc main_v0_3) = (fun i : S2048x1408.Idx => outV m c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun r h c => ⟨((h c).1 5).trans (final_5 m hO c), ((h c).1 6).trans (final_6 m hO c), ((h c).1 7).trans (final_7 m hO c), ((h c).1 8).trans (final_8 m hO c), ((h c).1 0).trans ((dats m hO 0 c).arrAt_in 0 rfl _), ((h c).1 1).trans ((dats m hO 0 c).arrAt_in 1 rfl _), ((h c).1 2).trans ((dats m hO 0 c).arrAt_in 2 rfl _), ((h c).1 3).trans ((dats m hO 0 c).arrAt_in 3 rfl _), ((h c).1 4).trans ((dats m hO 0 c).arrAt_in 4 rfl _), (h c).2 main_arg5 (by decide : main_arg5 ∈ Pipeline.restRefs sig spec0)⟩)
    (run_main (F := Ideal) m ρ hO)

end Cert.AdamUpIdeal.Product

/-! ### The reference, at an index -/

namespace Cert.AdamUpRefIdeal.Product

open Cert.AdamUpRefIdeal Cert.AdamUpRefIdeal.Gen
open Idealize.ShloMosaic Idealize.ShloMosaic.TcCoe
open Idealize.SL Idealize.SL.Sem

theorem grad_at (x3 x4 : Vec Ideal S4x2048x1408 .bf16) (x5 : Vec Ideal S1 .i32) (i : S2048x1408.Idx) : (Host.reduceAdd (F := Ideal) (select (broadcastInDim S4x2048x1408 ![0, 1, 2] bcast_S4x1x1_S4x2048x1408_0_1_2 (broadcastInDim S4x1x1 ![0] bcast_S4_S4x1x1_0 (cmpi .eq (iotaInDim S4 32 0) (broadcastInDim S4 ![] bcast_S_S4 (shapeCast _ x5 shapeCasts_S1_S_))))) (extf .f32 x3 bitsLt_bf16_f32) (extf .f32 x4 bitsLt_bf16_f32)) (constant S_ .f32 0x00000000#32) reducesTo_S4x2048x1408_S2048x1408_d0 h_S_ : S2048x1408.Idx → EReal) i
    = Cert.AdamUpIdeal.Product.grad ((x5 : S1.Idx → BitVec 32) (ix1 0)) x3 x4 (i 0) (i 1) := by
  rw [show i = @ix2 2048 1408 (i 0) (i 1) from by funext k; fin_cases k <;> rfl]
  pointwise [Cert.AdamUpIdeal.Product.grad]
  exact Finset.sum_congr rfl fun s _ => Adam.select_eq_symm _ _ _ _

theorem mean_at (g : FVec Ideal S2048x1408 .f32) (x1 : Vec Ideal S2048x1408 .f32) (i : S2048x1408.Idx) : (addf (mulf (broadcastInDim S2048x1408 ![] bcast_S_S2048x1408 (constant S_ .f32 0x3F666666#32)) x1) (mulf (broadcastInDim S2048x1408 ![] bcast_S_S2048x1408 (constant S_ .f32 0x3DCCCCCD#32)) g) : S2048x1408.Idx → EReal) i = Adam.mean (g i) (x1 i) := by
  pointwise [Adam.mean]

theorem square_at (g : FVec Ideal S2048x1408 .f32) (x2 : Vec Ideal S2048x1408 .f32) (i : S2048x1408.Idx) : (addf (mulf (broadcastInDim S2048x1408 ![] bcast_S_S2048x1408 (constant S_ .f32 0x3F7FBE77#32)) x2) (mulf (broadcastInDim S2048x1408 ![] bcast_S_S2048x1408 (constant S_ .f32 0x3A83126F#32)) (mulf g g)) : S2048x1408.Idx → EReal) i = Adam.square (g i) (x2 i) := by
  pointwise [Adam.square]

theorem delta_at (g : FVec Ideal S2048x1408 .f32) (x0 x1 x2 : Vec Ideal S2048x1408 .f32) (i : S2048x1408.Idx) : (mulf (broadcastInDim S2048x1408 ![] bcast_S_S2048x1408 (constant S_ .f32 0xBA83126F#32)) (addf (Host.divf (Host.divf (addf (mulf (broadcastInDim S2048x1408 ![] bcast_S_S2048x1408 (constant S_ .f32 0x3F666666#32)) x1) (mulf (broadcastInDim S2048x1408 ![] bcast_S_S2048x1408 (constant S_ .f32 0x3DCCCCCD#32)) g)) (broadcastInDim S2048x1408 ![] bcast_S_S2048x1408 (constant S_ .f32 0x3F26BD02#32))) (addf (Host.sqrt (Host.divf (addf (mulf (broadcastInDim S2048x1408 ![] bcast_S_S2048x1408 (constant S_ .f32 0x3F7FBE77#32)) x2) (mulf (broadcastInDim S2048x1408 ![] bcast_S_S2048x1408 (constant S_ .f32 0x3A83126F#32)) (mulf g g))) (broadcastInDim S2048x1408 ![] bcast_S_S2048x1408 (constant S_ .f32 0x3C231ACC#32)))) (broadcastInDim S2048x1408 ![] bcast_S_S2048x1408 (constant S_ .f32 0x322BCC77#32)))) (mulf (broadcastInDim S2048x1408 ![] bcast_S_S2048x1408 (constant S_ .f32 0x3C23D70A#32)) x0)) : S2048x1408.Idx → EReal) i = Adam.delta (g i) (x0 i) (x1 i) (x2 i) := by
  pointwise [Adam.delta, Adam.mean, Adam.square]

end Cert.AdamUpRefIdeal.Product

namespace Cert.AdamUpIdeal.Product

open Cert.AdamUpIdeal Cert.AdamUpIdeal.Gen
open Idealize.ShloMosaic Idealize.ShloMosaic.TcCoe
open Idealize.SL Idealize.SL.Sem

/-! ### The claims -/

theorem ok_of_pre (m : (ℓ : Loc nD τ sig) → Buf (Elt Ideal) ℓ) (h : Cert.Pre_AdamUpIdeal m) : Ok m := by
  refine ok_of_lt m (Adam.lt_of_pre _ ?_)
  have e := congrFun (h 0) (ix1 0)
  unfold Cert.Pre_chip_up.fn at e
  exact e

/-- The call leaves what the reference computes. -/
theorem algebraic : Cert.algebraic_AdamUpIdeal_AdamUpRefIdeal := fun m ρ m' ρ' hp hm =>
  ⟨_, _, _, _, run m ρ (ok_of_pre m hp), (θ_run _ _ _).mono (fun r h c => by
      obtain rfl : c = 0 := Subsingleton.elim _ _
      obtain ⟨e0, e1, e2, e3, e4, e5⟩ := hm 0
      have hg (i : S2048x1408.Idx) := (Cert.AdamUpRefIdeal.Product.grad_at (m' (((0 : Dev Cert.AdamUpRefIdeal.nD).tc : Thread Cert.AdamUpRefIdeal.nD Cert.AdamUpRefIdeal.τ).loc Cert.AdamUpRefIdeal.main_arg3)) (m' (((0 : Dev Cert.AdamUpRefIdeal.nD).tc : Thread Cert.AdamUpRefIdeal.nD Cert.AdamUpRefIdeal.τ).loc Cert.AdamUpRefIdeal.main_arg4)) (m' (((0 : Dev Cert.AdamUpRefIdeal.nD).tc : Thread Cert.AdamUpRefIdeal.nD Cert.AdamUpRefIdeal.τ).loc Cert.AdamUpRefIdeal.main_arg5)) i).trans (by rw [e3, e4, e5]; rfl : _ = outG m 0 (i 0) (i 1))
      have hi (i : S2048x1408.Idx) : i = @ix2 2048 1408 (i 0) (i 1) := by funext k; fin_cases k <;> rfl
      have h0 (i : S2048x1408.Idx) := (congrFun e0 i).trans (congrArg (m (((0 : Dev nD).tc : Thread nD τ).loc main_arg0) : S2048x1408.Idx → EReal) (hi i))
      have h1 (i : S2048x1408.Idx) := (congrFun e1 i).trans (congrArg (m (((0 : Dev nD).tc : Thread nD τ).loc main_arg1) : S2048x1408.Idx → EReal) (hi i))
      have h2 (i : S2048x1408.Idx) := (congrFun e2 i).trans (congrArg (m (((0 : Dev nD).tc : Thread nD τ).loc main_arg2) : S2048x1408.Idx → EReal) (hi i))
      refine ⟨(h 0).1.trans (funext hg), (h 0).2.1.trans (funext fun i => ?_), (h 0).2.2.1.trans (funext fun i => ?_), (h 0).2.2.2.1.trans (funext fun i => ?_), (h 0).2.2.2.2⟩
      · exact (Cert.AdamUpRefIdeal.Product.delta_at _ _ _ _ i).trans (Adam.delta_congr (hg i) (h0 i) (h1 i) (h2 i))
      · exact (Cert.AdamUpRefIdeal.Product.mean_at _ _ i).trans (congrArg₂ Adam.mean (hg i) (h1 i))
      · exact (Cert.AdamUpRefIdeal.Product.square_at _ _ i).trans (congrArg₂ Adam.square (hg i) (h2 i))) (Cert.AdamUpRefIdeal.Value.run (F := Ideal) m' ρ')⟩

/-- The printed program and its idealization have one body table: nothing was rewritten. -/
theorem defs₀_eq : Cert.AdamUp.defs₀ (F := Bits) = Cert.AdamUpIdeal.defs₀ (F := Bits) := by
  unfold Cert.AdamUp.defs₀ Cert.AdamUpIdeal.defs₀
  refine congrArg (Defs.onTc (nD := nD) (τ := τ) (sig := sig) (Val := Elt Bits) (Λ := Λ₀)) ?_
  funext l a
  match l, a with
  | 0, (t, s) => rfl
  | ⟨_ + 1, h⟩, _ => exact absurd h (Nat.not_lt.2 (Nat.le_add_left _ _))

theorem defs_eq : Cert.AdamUp.defs (F := Bits) = Cert.AdamUpIdeal.defs (F := Bits) := by
  unfold Cert.AdamUp.defs Cert.AdamUpIdeal.defs
  rw [defs₀_eq]; rfl

theorem ok_of_pre_bits (m : (ℓ : Loc nD τ sig) → Buf (Elt Bits) ℓ) (h : Cert.Pre_AdamUp m) : Ok m := by
  refine ok_of_lt m (Adam.lt_of_pre _ ?_)
  have e := congrFun (h 0) (ix1 0)
  unfold Cert.Pre_chip_up.fn at e
  exact e

theorem frame : Cert.quiescent_AdamUp := fun m ρ h => by
  rw [defs_eq]
  exact Cert.AdamUpIdeal.Gen.frame (F := Bits) m ρ (ok_of_pre_bits m h)

theorem frameIdeal : Cert.quiescent_AdamUpIdeal := fun m ρ h => Cert.AdamUpIdeal.Gen.frame (F := Ideal) m ρ (ok_of_pre m h)

theorem frameReference : Cert.quiescent_AdamUpRefIdeal := fun m ρ _ =>
  (θ_run _ _ _).mono (fun r h => ⟨fun c => (h c).2.2.2.2, sem_eq_zero_of_no_sems (by decide) r.2⟩)
    (Cert.AdamUpRefIdeal.Value.run (F := Ideal) m ρ)

end Cert.AdamUpIdeal.Product

end
-- ==== Proof.Products.AdamDown.lean ====
module

public import proofs.«01_k».proof.Defs
public import proofs.«01_k».proof.Proof.Gen.AdamDown
public import proofs.«01_k».proof.Proof.Gen.AdamDownIdeal.Frame
public import proofs.«01_k».proof.Proof.Gen.AdamDownRefIdeal.Run
public import proofs.«01_k».proof.Proof.Products.Adam
public import proofs.«01_k».proof.Proof.Gen.Pre_chip_down

/-!
The optimiser's step of one shard of a down-projection, whose gradient is summed over the four chips.
-/

@[expose] public section

set_option maxRecDepth 16384

noncomputable section

namespace Cert.AdamDownIdeal.Product

open Cert.AdamDownIdeal Cert.AdamDownIdeal.Gen
open Idealize.ShloMosaic Idealize.ShloMosaic.TcCoe
open Idealize.SL Idealize.SL.Sem

/-! ### The chip's number -/

/-- A table of one word is read at one place. -/
theorem word_eq (x : S1.Idx → BitVec 32) (i j : S1.Idx) : x i = x j :=
  congrArg x (funext fun k => by fin_cases k; exact Fin.ext (by have := (i 0).isLt; have := (j 0).isLt; simp_all))

section Chip
variable {F : FTy → Type} [FloatOps F] (m : (ℓ : Loc nD τ sig) → Buf (Elt F) ℓ)

/-- The number of the chip, read off its table. -/
def chip : BitVec 32 := (m (((0 : Dev nD).tc : Thread nD τ).loc main_arg5) : S1.Idx → BitVec 32) (ix1 0)

theorem ok0_of_lt (pf : pre0.Contents (Elt F)) (k : BitVec 32)
    (e : pf.at 0 (Rect.unit (s := S1) ![0] S1.size inb_S1_S1_0) numel1_S1 = k) (h : k.toNat < 4) : ok0 pf := by
  have key : ∀ (k : Fin 4) (i : grid0.Coords), ∃ h : (∀ a, ((![k.val, (BitVec.ofNat 32 (i 0).val).toNat, (BitVec.ofNat 32 (i 1).val).toNat] : Fin 3 → Nat) a + 1) * S1x64x2048.size a ≤ S4x704x2048.size a),
      EltTy.bits .bf16 = 32 ∨ (Rect.block (s := S4x704x2048) S1x64x2048.size ![k.val, (BitVec.ofNat 32 (i 0).val).toNat, (BitVec.ofNat 32 (i 1).val).toNat] h).WholeWords (EltTy.packing .bf16) := by
    decide +kernel
  intro i
  unfold cc0_transform_3
  dsimp only
  rw [e]
  exact key ⟨_, h⟩ i

theorem ok_of_lt (h : (chip m).toNat < 4) : Ok m := ok0_of_lt (tbl m) (chip m) (word_eq _ _ _) h
end Chip

/-! ### Where a point's blocks lie -/

theorem idx : ∀ t : Fin grid0.N, cc0_transform_0 (grid0.coords t) = ![t.val, 0] ∧ cc0_transform_1 (grid0.coords t) = ![t.val, 0] ∧ cc0_transform_2 (grid0.coords t) = ![t.val, 0]
    ∧ cc0_transform_4 (grid0.coords t) = ![0, t.val, 0] ∧ cc0_transform_5 (grid0.coords t) = ![t.val, 0] ∧ cc0_transform_6 (grid0.coords t) = ![t.val, 0]
    ∧ cc0_transform_7 (grid0.coords t) = ![t.val, 0] ∧ cc0_transform_8 (grid0.coords t) = ![t.val, 0] := by decide +kernel

theorem coords : ∀ t : Fin grid0.N, (BitVec.ofNat 32 (grid0.coords t 0).val).toNat = t.val ∧ (BitVec.ofNat 32 (grid0.coords t 1).val).toNat = 0 := by decide +kernel

theorem lt_n (t : Fin grid0.N) : t.val < 11 := lt_of_lt_of_eq t.isLt (by decide +kernel)

/-- The gradient summed over the chips: this chip's own part, and what the others sent. -/
def grad (n : BitVec 32) (own land : S4x704x2048.Idx → EReal) (r : Fin 704) (b : Fin 2048) : EReal :=
  ∑ s : Fin 4, if n = BitVec.ofNat 32 s.val then own (ix3 s r b) else land (ix3 s r b)

variable (m : (ℓ : Loc nD τ sig) → Buf (Elt Ideal) ℓ) (hO : Ok m)

theorem lt_of_ok (hO : Ok m) : (chip m).toNat < 4 := by
  obtain ⟨h, _⟩ := hO (grid0.coords ⟨0, by decide⟩)
  have h := h 0
  unfold cc0_transform_3 at h
  dsimp only at h
  rw [show (tbl m).at 0 (Rect.unit (s := S1) ![0] S1.size inb_S1_S1_0) numel1_S1 = chip m from word_eq _ _ _] at h
  have h' : ((chip m).toNat + 1) * 1 ≤ 4 := h
  omega

theorem index_3 (t : Fin grid0.N) : ((cfgM m hO).win 3).index t = ![(chip m).toNat, t.val, 0] := by
  have e : (tbl m).at 0 (Rect.unit (s := S1) ![0] S1.size inb_S1_S1_0) numel1_S1 = chip m := word_eq _ _ _
  refine (show ((cfgM m hO).win 3).index t = cc0_transform_3 inb_S1_S1_0 numel1_S1 (tbl m) (grid0.coords t) from rfl).trans ?_
  unfold cc0_transform_3
  dsimp only
  rw [e, (coords t).1, (coords t).2]

theorem blk_0 (c : Dev nD) (t : Fin grid0.N) (a : Fin 64) (b : Fin 2048) : (iblk m hO c 0 t : S64x2048.Idx → EReal) (ix2 a b)
    = (m ((c.tc : Thread nD τ).loc main_arg0) : S704x2048.Idx → EReal) (ix2 ⟨64 * t.val + a, by have := lt_n t; omega⟩ b) := by
  have := lt_n t
  have io : ((cfgM m hO).win 0).index t = ![t.val, 0] := (idx t).1
  blk_ext! [iblk, V, io]

theorem blk_1 (c : Dev nD) (t : Fin grid0.N) (a : Fin 64) (b : Fin 2048) : (iblk m hO c 1 t : S64x2048.Idx → EReal) (ix2 a b)
    = (m ((c.tc : Thread nD τ).loc main_arg1) : S704x2048.Idx → EReal) (ix2 ⟨64 * t.val + a, by have := lt_n t; omega⟩ b) := by
  have := lt_n t
  have io : ((cfgM m hO).win 1).index t = ![t.val, 0] := (idx t).2.1
  blk_ext! [iblk, V, io]

theorem blk_2 (c : Dev nD) (t : Fin grid0.N) (a : Fin 64) (b : Fin 2048) : (iblk m hO c 2 t : S64x2048.Idx → EReal) (ix2 a b)
    = (m ((c.tc : Thread nD τ).loc main_arg2) : S704x2048.Idx → EReal) (ix2 ⟨64 * t.val + a, by have := lt_n t; omega⟩ b) := by
  have := lt_n t
  have io : ((cfgM m hO).win 2).index t = ![t.val, 0] := (idx t).2.2.1
  blk_ext! [iblk, V, io]

theorem blk_3 (c : Dev nD) (t : Fin grid0.N) (a : Fin 64) (b : Fin 2048) : (iblk m hO c 3 t : S1x64x2048.Idx → EReal) (ix3 0 a b)
    = (m ((c.tc : Thread nD τ).loc main_arg3) : S4x704x2048.Idx → EReal) (ix3 ⟨(chip m).toNat, lt_of_ok m hO⟩ ⟨64 * t.val + a, by have := lt_n t; omega⟩ b) := by
  have := lt_n t
  have io := index_3 m hO t
  blk_ext! [iblk, V, io]

theorem blk_4 (c : Dev nD) (t : Fin grid0.N) (s : Fin 4) (a : Fin 64) (b : Fin 2048) : (iblk m hO c 4 t : S4x64x2048.Idx → EReal) (ix3 s a b)
    = (m ((c.tc : Thread nD τ).loc main_arg4) : S4x704x2048.Idx → EReal) (ix3 s ⟨64 * t.val + a, by have := lt_n t; omega⟩ b) := by
  have := lt_n t
  have io : ((cfgM m hO).win 4).index t = ![0, t.val, 0] := (idx t).2.2.2.1
  blk_ext! [iblk, V, io]

/-! ### What a point leaves -/

/-- The gradient a point sums from its blocks. -/
def sum0 (x3 : Vec Ideal S1x64x2048 .bf16) (x4 : Vec Ideal S4x64x2048 .bf16) (k : Vec Ideal S1 .i32) : Vec Ideal S64x2048 .f32 :=
  k0_pay4 x3 (k (ix1 0)) (View.ld x4 (Rect.unit ![0, 0, 0] ![1, 64, 2048] inb_S4x64x2048_S1x64x2048_0_0_0))
    (k (ix1 0)) (View.ld x4 (Rect.unit ![1, 0, 0] ![1, 64, 2048] inb_S4x64x2048_S1x64x2048_1_0_0))
    (k (ix1 0)) (View.ld x4 (Rect.unit ![2, 0, 0] ![1, 64, 2048] inb_S4x64x2048_S1x64x2048_2_0_0))
    (k (ix1 0)) (View.ld x4 (Rect.unit ![3, 0, 0] ![1, 64, 2048] inb_S4x64x2048_S1x64x2048_3_0_0))

theorem sum0_at (x3 : Vec Ideal S1x64x2048 .bf16) (x4 : Vec Ideal S4x64x2048 .bf16) (k : Vec Ideal S1 .i32) (a : Fin 64) (b : Fin 2048) :
    (sum0 x3 x4 k : S64x2048.Idx → EReal) (ix2 a b) = ∑ s : Fin 4, if (k : S1.Idx → BitVec 32) (ix1 0) = BitVec.ofNat 32 s.val
      then (x3 : S1x64x2048.Idx → EReal) (ix3 0 a b) else (x4 : S4x64x2048.Idx → EReal) (ix3 s a b) := by
  unfold sum0
  generalize (k : S1.Idx → BitVec 32) (ix1 0) = n
  simp only [Fin.sum_univ_four]
  pointwise [k0_pay4]
  exact congrArg₂ (· + ·) (congrArg₂ (· + ·) (congrArg₂ (· + ·) (Adam.select_eq _ _ _ _) (Adam.select_eq _ _ _ _)) (Adam.select_eq _ _ _ _)) (Adam.select_eq _ _ _ _)

theorem delta_at (g w m v : Vec Ideal S64x2048 .f32) (i : S64x2048.Idx) : (k0_pay3 g m k0_pay5 v w : S64x2048.Idx → EReal) i = Adam.delta (g i) (w i) (m i) (v i) := by
  pointwise [k0_pay3, k0_pay1, k0_pay2, k0_pay5, Adam.delta, Adam.mean, Adam.square]

theorem mean_at (g m : Vec Ideal S64x2048 .f32) (i : S64x2048.Idx) : (k0_pay1 g m k0_pay5 : S64x2048.Idx → EReal) i = Adam.mean (g i) (m i) := by
  pointwise [k0_pay1, k0_pay5, Adam.mean]

theorem square_at (g v : Vec Ideal S64x2048 .f32) (i : S64x2048.Idx) : (k0_pay2 g v : S64x2048.Idx → EReal) i = Adam.square (g i) (v i) := by
  pointwise [k0_pay2, Adam.square]

section Store
variable (c : Dev nD) (t : Fin grid0.N) (x0 x1 x2 : Vec Ideal S64x2048 .f32) (x3 : Vec Ideal S1x64x2048 .bf16) (x4 : Vec Ideal S4x64x2048 .bf16) (k : Vec Ideal S1 .i32)

theorem word (h) : View.read (Elt Ideal) (View.whole main_arg5) k (Shape.Idx.first h) = k (ix1 0) := word_eq k _ _

theorem store_5 : out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 k = sum0 x3 x4 k := by
  frame_out
  simp only [word]
  rfl

theorem store_6 : out0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 k = k0_pay3 (sum0 x3 x4 k) x1 k0_pay5 x2 x0 := by
  frame_out
  simp only [word]
  rfl

theorem store_7 : out0_A_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 k = k0_pay1 (sum0 x3 x4 k) x1 k0_pay5 := by
  frame_out
  simp only [word]
  rfl

theorem store_8 : out0_A_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 k = k0_pay2 (sum0 x3 x4 k) x2 := by
  frame_out
  simp only [word]
  rfl
end Store

/-- The summed gradient of a point's block is the whole's there. -/
theorem grad_at (c : Dev nD) (t : Fin grid0.N) (a : Fin 64) (b : Fin 2048) : (sum0 (iblk m hO c 3 t) (iblk m hO c 4 t) (tbl m 0) : S64x2048.Idx → EReal) (ix2 a b)
    = grad (chip m) (m ((c.tc : Thread nD τ).loc main_arg3)) (m ((c.tc : Thread nD τ).loc main_arg4)) ⟨64 * t.val + a, by have := lt_n t; omega⟩ b := by
  have ht := lt_n t
  refine (sum0_at (iblk m hO c 3 t) (iblk m hO c 4 t) (tbl m 0) a b).trans (Finset.sum_congr rfl fun s _ => ?_)
  rw [show (tbl m 0 : S1.Idx → BitVec 32) (ix1 0) = chip m from rfl]
  by_cases h : chip m = BitVec.ofNat 32 s.val
  · refine (if_pos h).trans (Eq.trans ?_ (if_pos h).symm)
    refine (blk_3 m hO c t a b).trans (congrArg (fun s => (m ((c.tc : Thread nD τ).loc main_arg3) : S4x704x2048.Idx → EReal) (ix3 s ⟨64 * t.val + a, by omega⟩ b)) (Fin.ext ?_))
    show (chip m).toNat = s.val
    rw [h, BitVec.toNat_ofNat]
    omega
  · exact (if_neg h).trans ((blk_4 m hO c t s a b).trans (if_neg h).symm)

/-- A table that names the first chip: the windows that read no table are what they are at any other. -/
def first : (pcfg0 (F := Ideal)).Adm := ⟨fun | (0 : Fin 1) => (fun _ => 0#32 : S1.Idx → BitVec 32), ok0_of_lt _ 0#32 rfl (by decide)⟩

/-! ### The four results, at an index -/

def outG (c : Dev nD) (r : Fin 704) (b : Fin 2048) : EReal := grad (chip m) (m ((c.tc : Thread nD τ).loc main_arg3)) (m ((c.tc : Thread nD τ).loc main_arg4)) r b

def outD (c : Dev nD) (r : Fin 704) (b : Fin 2048) : EReal := Adam.delta (outG m c r b) ((m ((c.tc : Thread nD τ).loc main_arg0) : S704x2048.Idx → EReal) (ix2 r b)) ((m ((c.tc : Thread nD τ).loc main_arg1) : S704x2048.Idx → EReal) (ix2 r b)) ((m ((c.tc : Thread nD τ).loc main_arg2) : S704x2048.Idx → EReal) (ix2 r b))

def outM (c : Dev nD) (r : Fin 704) (b : Fin 2048) : EReal := Adam.mean (outG m c r b) ((m ((c.tc : Thread nD τ).loc main_arg1) : S704x2048.Idx → EReal) (ix2 r b))

def outV (c : Dev nD) (r : Fin 704) (b : Fin 2048) : EReal := Adam.square (outG m c r b) ((m ((c.tc : Thread nD τ).loc main_arg2) : S704x2048.Idx → EReal) (ix2 r b))

theorem covers_5 : ((cfg0 first).win 5).Covers := by decide +kernel

theorem outs_5 (c : Dev nD) (t : Fin grid0.N) : (outsAt0 m hO c t).1 = (sum0 (iblk m hO c 3 t) (iblk m hO c 4 t) (tbl m 0)) := by
  unfold outsAt0
  dsimp only
  exact store_5 m hO c t (iblk m hO c 0 t) (iblk m hO c 1 t) (iblk m hO c 2 t) (iblk m hO c 3 t) (iblk m hO c 4 t) (tbl m 0)

theorem left_5 (c : Dev nD) (t : Fin grid0.N) (a : Fin 64) (b : Fin 2048) : ((outsAt0 m hO c t).1 : S64x2048.Idx → EReal) (ix2 a b)
    = outG m c ⟨64 * t.val + a, by have := lt_n t; omega⟩ b :=
  (congrFun (outs_5 m hO c t) (ix2 a b)).trans ((grad_at m hO c t a b))

theorem final_5 (c : Dev nD) : (dats m hO 0 c).arrAt 5 grid0.N = fun i : S704x2048.Idx => outG m c (i 0) (i 1) := by
  refine (dats m hO 0 c).arrAt_eq_of_covers 5 (fun i : S704x2048.Idx => outG m c (i 0) (i 1)) covers_5 fun t hf (y : S64x2048.Idx) => ?_
  have ht := lt_n t
  have io : ((cfgM m hO).win 5).index t = ![t.val, 0] := (idx t).2.2.2.2.1
  have hy0 : (y 0).val < 64 := (y 0).isLt
  have hy1 : (y 1).val < 2048 := (y 1).isLt
  rw [after0_5]
  refine (show _ = ((outsAt0 m hO c t).1 : S64x2048.Idx → EReal) (ix2 (y 0) (y 1)) from congrArg ((outsAt0 m hO c t).1 : S64x2048.Idx → EReal) (by
    funext k; fin_cases k <;> rfl)).trans ((left_5 m hO c t (y 0) (y 1)).trans (congrArg₂ (outG m c) (Fin.ext ?_) (Fin.ext ?_)))
  all_goals blk_simp [io]
  show 64 * t.val + (y 0).val = t.val * 64 + (y 0).val
  omega

theorem covers_6 : ((cfg0 first).win 6).Covers := by decide +kernel

theorem outs_6 (c : Dev nD) (t : Fin grid0.N) : (outsAt0 m hO c t).2.1 = k0_pay3 (sum0 (iblk m hO c 3 t) (iblk m hO c 4 t) (tbl m 0)) (iblk m hO c 1 t) k0_pay5 (iblk m hO c 2 t) (iblk m hO c 0 t) := by
  unfold outsAt0
  dsimp only
  exact store_6 m hO c t (iblk m hO c 0 t) (iblk m hO c 1 t) (iblk m hO c 2 t) (iblk m hO c 3 t) (iblk m hO c 4 t) (tbl m 0)

theorem left_6 (c : Dev nD) (t : Fin grid0.N) (a : Fin 64) (b : Fin 2048) : ((outsAt0 m hO c t).2.1 : S64x2048.Idx → EReal) (ix2 a b)
    = outD m c ⟨64 * t.val + a, by have := lt_n t; omega⟩ b :=
  (congrFun (outs_6 m hO c t) (ix2 a b)).trans ((delta_at _ _ _ _ _).trans (Adam.delta_congr (grad_at m hO c t a b) (blk_0 m hO c t a b) (blk_1 m hO c t a b) (blk_2 m hO c t a b)))

theorem final_6 (c : Dev nD) : (dats m hO 0 c).arrAt 6 grid0.N = fun i : S704x2048.Idx => outD m c (i 0) (i 1) := by
  refine (dats m hO 0 c).arrAt_eq_of_covers 6 (fun i : S704x2048.Idx => outD m c (i 0) (i 1)) covers_6 fun t hf (y : S64x2048.Idx) => ?_
  have ht := lt_n t
  have io : ((cfgM m hO).win 6).index t = ![t.val, 0] := (idx t).2.2.2.2.2.1
  have hy0 : (y 0).val < 64 := (y 0).isLt
  have hy1 : (y 1).val < 2048 := (y 1).isLt
  rw [after0_6]
  refine (show _ = ((outsAt0 m hO c t).2.1 : S64x2048.Idx → EReal) (ix2 (y 0) (y 1)) from congrArg ((outsAt0 m hO c t).2.1 : S64x2048.Idx → EReal) (by
    funext k; fin_cases k <;> rfl)).trans ((left_6 m hO c t (y 0) (y 1)).trans (congrArg₂ (outD m c) (Fin.ext ?_) (Fin.ext ?_)))
  all_goals blk_simp [io]
  show 64 * t.val + (y 0).val = t.val * 64 + (y 0).val
  omega

theorem covers_7 : ((cfg0 first).win 7).Covers := by decide +kernel

theorem outs_7 (c : Dev nD) (t : Fin grid0.N) : (outsAt0 m hO c t).2.2.1 = k0_pay1 (sum0 (iblk m hO c 3 t) (iblk m hO c 4 t) (tbl m 0)) (iblk m hO c 1 t) k0_pay5 := by
  unfold outsAt0
  dsimp only
  exact store_7 m hO c t (iblk m hO c 0 t) (iblk m hO c 1 t) (iblk m hO c 2 t) (iblk m hO c 3 t) (iblk m hO c 4 t) (tbl m 0)

theorem left_7 (c : Dev nD) (t : Fin grid0.N) (a : Fin 64) (b : Fin 2048) : ((outsAt0 m hO c t).2.2.1 : S64x2048.Idx → EReal) (ix2 a b)
    = outM m c ⟨64 * t.val + a, by have := lt_n t; omega⟩ b :=
  (congrFun (outs_7 m hO c t) (ix2 a b)).trans ((mean_at _ _ _).trans (congrArg₂ Adam.mean (grad_at m hO c t a b) (blk_1 m hO c t a b)))

theorem final_7 (c : Dev nD) : (dats m hO 0 c).arrAt 7 grid0.N = fun i : S704x2048.Idx => outM m c (i 0) (i 1) := by
  refine (dats m hO 0 c).arrAt_eq_of_covers 7 (fun i : S704x2048.Idx => outM m c (i 0) (i 1)) covers_7 fun t hf (y : S64x2048.Idx) => ?_
  have ht := lt_n t
  have io : ((cfgM m hO).win 7).index t = ![t.val, 0] := (idx t).2.2.2.2.2.2.1
  have hy0 : (y 0).val < 64 := (y 0).isLt
  have hy1 : (y 1).val < 2048 := (y 1).isLt
  rw [after0_7]
  refine (show _ = ((outsAt0 m hO c t).2.2.1 : S64x2048.Idx → EReal) (ix2 (y 0) (y 1)) from congrArg ((outsAt0 m hO c t).2.2.1 : S64x2048.Idx → EReal) (by
    funext k; fin_cases k <;> rfl)).trans ((left_7 m hO c t (y 0) (y 1)).trans (congrArg₂ (outM m c) (Fin.ext ?_) (Fin.ext ?_)))
  all_goals blk_simp [io]
  show 64 * t.val + (y 0).val = t.val * 64 + (y 0).val
  omega

theorem covers_8 : ((cfg0 first).win 8).Covers := by decide +kernel

theorem outs_8 (c : Dev nD) (t : Fin grid0.N) : (outsAt0 m hO c t).2.2.2 = k0_pay2 (sum0 (iblk m hO c 3 t) (iblk m hO c 4 t) (tbl m 0)) (iblk m hO c 2 t) := by
  unfold outsAt0
  dsimp only
  exact store_8 m hO c t (iblk m hO c 0 t) (iblk m hO c 1 t) (iblk m hO c 2 t) (iblk m hO c 3 t) (iblk m hO c 4 t) (tbl m 0)

theorem left_8 (c : Dev nD) (t : Fin grid0.N) (a : Fin 64) (b : Fin 2048) : ((outsAt0 m hO c t).2.2.2 : S64x2048.Idx → EReal) (ix2 a b)
    = outV m c ⟨64 * t.val + a, by have := lt_n t; omega⟩ b :=
  (congrFun (outs_8 m hO c t) (ix2 a b)).trans ((square_at _ _ _).trans (congrArg₂ Adam.square (grad_at m hO c t a b) (blk_2 m hO c t a b)))

theorem final_8 (c : Dev nD) : (dats m hO 0 c).arrAt 8 grid0.N = fun i : S704x2048.Idx => outV m c (i 0) (i 1) := by
  refine (dats m hO 0 c).arrAt_eq_of_covers 8 (fun i : S704x2048.Idx => outV m c (i 0) (i 1)) covers_8 fun t hf (y : S64x2048.Idx) => ?_
  have ht := lt_n t
  have io : ((cfgM m hO).win 8).index t = ![t.val, 0] := (idx t).2.2.2.2.2.2.2
  have hy0 : (y 0).val < 64 := (y 0).isLt
  have hy1 : (y 1).val < 2048 := (y 1).isLt
  rw [after0_8]
  refine (show _ = ((outsAt0 m hO c t).2.2.2 : S64x2048.Idx → EReal) (ix2 (y 0) (y 1)) from congrArg ((outsAt0 m hO c t).2.2.2 : S64x2048.Idx → EReal) (by
    funext k; fin_cases k <;> rfl)).trans ((left_8 m hO c t (y 0) (y 1)).trans (congrArg₂ (outV m c) (Fin.ext ?_) (Fin.ext ?_)))
  all_goals blk_simp [io]
  show 64 * t.val + (y 0).val = t.val * 64 + (y 0).val
  omega

theorem run (ρ : Dev nD → PrngReg) (hO : Ok m) :
    θ_run (defs (F := Ideal)) (onTc (τ := τ) (main (F := Ideal))) ⟨m, fun _ => 0, ρ⟩ fun r => ∀ c : Dev nD,
      r.2.mem ((c.tc : Thread nD τ).loc main_v0_0) = (fun i : S704x2048.Idx => outG m c (i 0) (i 1))
      ∧ r.2.mem ((c.tc : Thread nD τ).loc main_v0_1) = (fun i : S704x2048.Idx => outD m c (i 0) (i 1))
      ∧ r.2.mem ((c.tc : Thread nD τ).loc main_v0_2) = (fun i : S704x2048.Idx => outM m c (i 0) (i 1))
      ∧ r.2.mem ((c.tc : Thread nD τ).loc main_v0_3) = (fun i : S704x2048.Idx => outV m c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun r h c => ⟨((h c).1 5).trans (final_5 m hO c), ((h c).1 6).trans (final_6 m hO c), ((h c).1 7).trans (final_7 m hO c), ((h c).1 8).trans (final_8 m hO c), ((h c).1 0).trans ((dats m hO 0 c).arrAt_in 0 rfl _), ((h c).1 1).trans ((dats m hO 0 c).arrAt_in 1 rfl _), ((h c).1 2).trans ((dats m hO 0 c).arrAt_in 2 rfl _), ((h c).1 3).trans ((dats m hO 0 c).arrAt_in 3 rfl _), ((h c).1 4).trans ((dats m hO 0 c).arrAt_in 4 rfl _), (h c).2 main_arg5 (by decide : main_arg5 ∈ Pipeline.restRefs sig spec0)⟩)
    (run_main (F := Ideal) m ρ hO)

end Cert.AdamDownIdeal.Product

/-! ### The reference, at an index -/

namespace Cert.AdamDownRefIdeal.Product

open Cert.AdamDownRefIdeal Cert.AdamDownRefIdeal.Gen
open Idealize.ShloMosaic Idealize.ShloMosaic.TcCoe
open Idealize.SL Idealize.SL.Sem

theorem grad_at (x3 x4 : Vec Ideal S4x704x2048 .bf16) (x5 : Vec Ideal S1 .i32) (i : S704x2048.Idx) : (Host.reduceAdd (F := Ideal) (select (broadcastInDim S4x704x2048 ![0, 1, 2] bcast_S4x1x1_S4x704x2048_0_1_2 (broadcastInDim S4x1x1 ![0] bcast_S4_S4x1x1_0 (cmpi .eq (iotaInDim S4 32 0) (broadcastInDim S4 ![] bcast_S_S4 (shapeCast _ x5 shapeCasts_S1_S_))))) (extf .f32 x3 bitsLt_bf16_f32) (extf .f32 x4 bitsLt_bf16_f32)) (constant S_ .f32 0x00000000#32) reducesTo_S4x704x2048_S704x2048_d0 h_S_ : S704x2048.Idx → EReal) i
    = Cert.AdamDownIdeal.Product.grad ((x5 : S1.Idx → BitVec 32) (ix1 0)) x3 x4 (i 0) (i 1) := by
  rw [show i = @ix2 704 2048 (i 0) (i 1) from by funext k; fin_cases k <;> rfl]
  pointwise [Cert.AdamDownIdeal.Product.grad]
  exact Finset.sum_congr rfl fun s _ => Adam.select_eq_symm _ _ _ _

theorem mean_at (g : FVec Ideal S704x2048 .f32) (x1 : Vec Ideal S704x2048 .f32) (i : S704x2048.Idx) : (addf (mulf (broadcastInDim S704x2048 ![] bcast_S_S704x2048 (constant S_ .f32 0x3F666666#32)) x1) (mulf (broadcastInDim S704x2048 ![] bcast_S_S704x2048 (constant S_ .f32 0x3DCCCCCD#32)) g) : S704x2048.Idx → EReal) i = Adam.mean (g i) (x1 i) := by
  pointwise [Adam.mean]

theorem square_at (g : FVec Ideal S704x2048 .f32) (x2 : Vec Ideal S704x2048 .f32) (i : S704x2048.Idx) : (addf (mulf (broadcastInDim S704x2048 ![] bcast_S_S704x2048 (constant S_ .f32 0x3F7FBE77#32)) x2) (mulf (broadcastInDim S704x2048 ![] bcast_S_S704x2048 (constant S_ .f32 0x3A83126F#32)) (mulf g g)) : S704x2048.Idx → EReal) i = Adam.square (g i) (x2 i) := by
  pointwise [Adam.square]

theorem delta_at (g : FVec Ideal S704x2048 .f32) (x0 x1 x2 : Vec Ideal S704x2048 .f32) (i : S704x2048.Idx) : (mulf (broadcastInDim S704x2048 ![] bcast_S_S704x2048 (constant S_ .f32 0xBA83126F#32)) (addf (Host.divf (Host.divf (addf (mulf (broadcastInDim S704x2048 ![] bcast_S_S704x2048 (constant S_ .f32 0x3F666666#32)) x1) (mulf (broadcastInDim S704x2048 ![] bcast_S_S704x2048 (constant S_ .f32 0x3DCCCCCD#32)) g)) (broadcastInDim S704x2048 ![] bcast_S_S704x2048 (constant S_ .f32 0x3F26BD02#32))) (addf (Host.sqrt (Host.divf (addf (mulf (broadcastInDim S704x2048 ![] bcast_S_S704x2048 (constant S_ .f32 0x3F7FBE77#32)) x2) (mulf (broadcastInDim S704x2048 ![] bcast_S_S704x2048 (constant S_ .f32 0x3A83126F#32)) (mulf g g))) (broadcastInDim S704x2048 ![] bcast_S_S704x2048 (constant S_ .f32 0x3C231ACC#32)))) (broadcastInDim S704x2048 ![] bcast_S_S704x2048 (constant S_ .f32 0x322BCC77#32)))) (mulf (broadcastInDim S704x2048 ![] bcast_S_S704x2048 (constant S_ .f32 0x3C23D70A#32)) x0)) : S704x2048.Idx → EReal) i = Adam.delta (g i) (x0 i) (x1 i) (x2 i) := by
  pointwise [Adam.delta, Adam.mean, Adam.square]

end Cert.AdamDownRefIdeal.Product

namespace Cert.AdamDownIdeal.Product

open Cert.AdamDownIdeal Cert.AdamDownIdeal.Gen
open Idealize.ShloMosaic Idealize.ShloMosaic.TcCoe
open Idealize.SL Idealize.SL.Sem

/-! ### The claims -/

theorem ok_of_pre (m : (ℓ : Loc nD τ sig) → Buf (Elt Ideal) ℓ) (h : Cert.Pre_AdamDownIdeal m) : Ok m := by
  refine ok_of_lt m (Adam.lt_of_pre _ ?_)
  have e := congrFun (h 0) (ix1 0)
  unfold Cert.Pre_chip_down.fn at e
  exact e

/-- The call leaves what the reference computes. -/
theorem algebraic : Cert.algebraic_AdamDownIdeal_AdamDownRefIdeal := fun m ρ m' ρ' hp hm =>
  ⟨_, _, _, _, run m ρ (ok_of_pre m hp), (θ_run _ _ _).mono (fun r h c => by
      obtain rfl : c = 0 := Subsingleton.elim _ _
      obtain ⟨e0, e1, e2, e3, e4, e5⟩ := hm 0
      have hg (i : S704x2048.Idx) := (Cert.AdamDownRefIdeal.Product.grad_at (m' (((0 : Dev Cert.AdamDownRefIdeal.nD).tc : Thread Cert.AdamDownRefIdeal.nD Cert.AdamDownRefIdeal.τ).loc Cert.AdamDownRefIdeal.main_arg3)) (m' (((0 : Dev Cert.AdamDownRefIdeal.nD).tc : Thread Cert.AdamDownRefIdeal.nD Cert.AdamDownRefIdeal.τ).loc Cert.AdamDownRefIdeal.main_arg4)) (m' (((0 : Dev Cert.AdamDownRefIdeal.nD).tc : Thread Cert.AdamDownRefIdeal.nD Cert.AdamDownRefIdeal.τ).loc Cert.AdamDownRefIdeal.main_arg5)) i).trans (by rw [e3, e4, e5]; rfl : _ = outG m 0 (i 0) (i 1))
      have hi (i : S704x2048.Idx) : i = @ix2 704 2048 (i 0) (i 1) := by funext k; fin_cases k <;> rfl
      have h0 (i : S704x2048.Idx) := (congrFun e0 i).trans (congrArg (m (((0 : Dev nD).tc : Thread nD τ).loc main_arg0) : S704x2048.Idx → EReal) (hi i))
      have h1 (i : S704x2048.Idx) := (congrFun e1 i).trans (congrArg (m (((0 : Dev nD).tc : Thread nD τ).loc main_arg1) : S704x2048.Idx → EReal) (hi i))
      have h2 (i : S704x2048.Idx) := (congrFun e2 i).trans (congrArg (m (((0 : Dev nD).tc : Thread nD τ).loc main_arg2) : S704x2048.Idx → EReal) (hi i))
      refine ⟨(h 0).1.trans (funext hg), (h 0).2.1.trans (funext fun i => ?_), (h 0).2.2.1.trans (funext fun i => ?_), (h 0).2.2.2.1.trans (funext fun i => ?_), (h 0).2.2.2.2⟩
      · exact (Cert.AdamDownRefIdeal.Product.delta_at _ _ _ _ i).trans (Adam.delta_congr (hg i) (h0 i) (h1 i) (h2 i))
      · exact (Cert.AdamDownRefIdeal.Product.mean_at _ _ i).trans (congrArg₂ Adam.mean (hg i) (h1 i))
      · exact (Cert.AdamDownRefIdeal.Product.square_at _ _ i).trans (congrArg₂ Adam.square (hg i) (h2 i))) (Cert.AdamDownRefIdeal.Value.run (F := Ideal) m' ρ')⟩

/-- The printed program and its idealization have one body table: nothing was rewritten. -/
theorem defs₀_eq : Cert.AdamDown.defs₀ (F := Bits) = Cert.AdamDownIdeal.defs₀ (F := Bits) := by
  unfold Cert.AdamDown.defs₀ Cert.AdamDownIdeal.defs₀
  refine congrArg (Defs.onTc (nD := nD) (τ := τ) (sig := sig) (Val := Elt Bits) (Λ := Λ₀)) ?_
  funext l a
  match l, a with
  | 0, (t, s) => rfl
  | ⟨_ + 1, h⟩, _ => exact absurd h (Nat.not_lt.2 (Nat.le_add_left _ _))

theorem defs_eq : Cert.AdamDown.defs (F := Bits) = Cert.AdamDownIdeal.defs (F := Bits) := by
  unfold Cert.AdamDown.defs Cert.AdamDownIdeal.defs
  rw [defs₀_eq]; rfl

theorem ok_of_pre_bits (m : (ℓ : Loc nD τ sig) → Buf (Elt Bits) ℓ) (h : Cert.Pre_AdamDown m) : Ok m := by
  refine ok_of_lt m (Adam.lt_of_pre _ ?_)
  have e := congrFun (h 0) (ix1 0)
  unfold Cert.Pre_chip_down.fn at e
  exact e

theorem frame : Cert.quiescent_AdamDown := fun m ρ h => by
  rw [defs_eq]
  exact Cert.AdamDownIdeal.Gen.frame (F := Bits) m ρ (ok_of_pre_bits m h)

theorem frameIdeal : Cert.quiescent_AdamDownIdeal := fun m ρ h => Cert.AdamDownIdeal.Gen.frame (F := Ideal) m ρ (ok_of_pre m h)

theorem frameReference : Cert.quiescent_AdamDownRefIdeal := fun m ρ _ =>
  (θ_run _ _ _).mono (fun r h => ⟨fun c => (h c).2.2.2.2, sem_eq_zero_of_no_sems (by decide) r.2⟩)
    (Cert.AdamDownRefIdeal.Value.run (F := Ideal) m ρ)

end Cert.AdamDownIdeal.Product

end
-- ==== Proof.Products.Norm.lean ====
module

public import Idealize.ShloMosaic.Lib.Pointwise
public import Idealize.ShloMosaic.Lib.Pipeline.ValueKit

/-!
One row of the root-mean-square norm: what it divides the row by, the gradient that the row gets back, and the loss on the row.
-/

@[expose] public section

noncomputable section

namespace Cert.Norm

open Idealize.ShloMosaic

/-! ### The constants -/

theorem width : Ideal.ofBits .f32 0x45000000#32 = ((2048 : ℝ) : EReal) := by
  simp [Ideal.ofBits, Ideal.ieee, -EReal.coe_mul]; norm_num

theorem minus_half : Ideal.ofBits .f32 0xBF000000#32 = (((-1 / 2 : ℝ)) : EReal) := by
  simp [Ideal.ofBits, Ideal.ieee, -EReal.coe_mul, -EReal.coe_neg]; norm_num

theorem eps_pos : 0 < Ideal.ofBits .f32 0x358637BD#32 := by
  rw [show Ideal.ofBits .f32 0x358637BD#32 = ((8796093 / 2 ^ 43 : ℝ) : EReal) from by
    simp [Ideal.ofBits, Ideal.ieee, -EReal.coe_mul]; norm_num]
  exact EReal.coe_pos.2 (by norm_num)

theorem div_width (x : EReal) : Ideal.div x (Ideal.ofBits .f32 0x45000000#32) = x * ((1 / 2048 : ℝ) : EReal) := by
  rw [width, Ideal.div_coe (by norm_num)]

/-! ### The norm of a row -/

theorem square_nonneg (x : EReal) : 0 ≤ x * x := by
  rcases le_total 0 x with h | h
  · exact EReal.mul_nonneg h h
  · rw [← neg_mul_neg]
    exact EReal.mul_nonneg (EReal.neg_nonneg.2 h) (EReal.neg_nonneg.2 h)

/-- The mean square of a row, and the small constant. -/
def under (x : Fin 2048 → EReal) : EReal :=
  Ideal.div (∑ k, x k * x k) (Ideal.ofBits .f32 0x45000000#32) + Ideal.ofBits .f32 0x358637BD#32

theorem under_pos (x : Fin 2048 → EReal) : 0 < under x := by
  unfold under
  rw [div_width]
  exact eps_pos.trans_le (le_add_of_nonneg_left (EReal.mul_nonneg (Finset.sum_nonneg fun k _ => square_nonneg (x k)) (EReal.coe_nonneg.2 (by norm_num))))

/-- What multiplies the row: one over the root. -/
def scale (x : Fin 2048 → EReal) : EReal := Ideal.rsqrt (under x)

theorem rsqrt_div {v : EReal} (h : 0 < v) : Ideal.div (Ideal.rsqrt v) v = Ideal.rsqrt v * Ideal.rsqrt v * Ideal.rsqrt v := by
  induction v with
  | bot => exact absurd h (by simp)
  | top => simp [Ideal.div]
  | coe r =>
    have hr : 0 < r := EReal.coe_pos.1 h
    rw [Ideal.div_coe hr.ne', Ideal.rsqrt_coe, if_neg hr.le.not_gt, if_neg hr.ne', ← EReal.coe_mul, ← EReal.coe_mul, ← EReal.coe_mul]
    congr 1
    have hs : Real.sqrt r * Real.sqrt r = r := Real.mul_self_sqrt hr.le
    have hp : Real.sqrt r ≠ 0 := (Real.sqrt_pos.2 hr).ne'
    calc (Real.sqrt r)⁻¹ * (1 / r) = (Real.sqrt r)⁻¹ * (1 / (Real.sqrt r * Real.sqrt r)) := by rw [hs]
      _ = _ := by field_simp

/-- Two halves of the negative make the negative. -/
theorem halves (z : EReal) : ((-1 / 2 : ℝ) : EReal) * z + ((-1 / 2 : ℝ) : EReal) * z = -z := by
  induction z with
  | bot => rw [EReal.coe_mul_bot_of_neg (by norm_num)]; simp
  | top => rw [EReal.coe_mul_top_of_neg (by norm_num)]; simp
  | coe r =>
    rw [← EReal.coe_mul, ← EReal.coe_add, ← EReal.coe_neg]
    congr 1
    ring

/-- What the mean square gives back to one place of the row: half of it from either factor of the square. -/
theorem back {v : EReal} (h : 0 < v) (x p : EReal) :
    x * Ideal.div (p * (Ideal.ofBits .f32 0xBF000000#32 * Ideal.div (Ideal.rsqrt v) v)) (Ideal.ofBits .f32 0x45000000#32)
      + Ideal.div (p * (Ideal.ofBits .f32 0xBF000000#32 * Ideal.div (Ideal.rsqrt v) v)) (Ideal.ofBits .f32 0x45000000#32) * x
    = -(x * (Ideal.rsqrt v * Ideal.rsqrt v * Ideal.rsqrt v * Ideal.div p (Ideal.ofBits .f32 0x45000000#32))) := by
  rw [mul_comm _ x, rsqrt_div h, minus_half, div_width, div_width, ← halves]
  congr 1 <;> ac_rfl

/-- The gradient at place `k` of a row `x` under the weights `g`, where the norm's gradient there is `d`. -/
def dx (x g d : Fin 2048 → EReal) (k : Fin 2048) : EReal :=
  scale x * (d k * g k) - x k * (scale x * scale x * scale x * Ideal.div (∑ l, d l * g l * x l) (Ideal.ofBits .f32 0x45000000#32))

theorem add_dx (a : EReal) (x g d : Fin 2048 → EReal) (k : Fin 2048) : a + dx x g d k
    = a + scale x * (d k * g k) - x k * (scale x * scale x * scale x * Ideal.div (∑ l, d l * g l * x l) (Ideal.ofBits .f32 0x45000000#32)) := by
  unfold dx
  rw [sub_eq_add_neg, sub_eq_add_neg, add_assoc]

theorem dx_congr {x g d x' g' d' : Fin 2048 → EReal} (hx : ∀ l, x l = x' l) (hg : ∀ l, g l = g' l) (hd : ∀ l, d l = d' l) (k : Fin 2048) :
    dx x g d k = dx x' g' d' k := by
  rw [funext hx, funext hg, funext hd]

/-- The gradient at one place of a row, as the reference puts it together. -/
theorem reference_dx (x g d : Fin 2048 → EReal) (k : Fin 2048) :
    d k * g k * scale x + x k * (∑ _s : Fin 1, Ideal.div ((∑ l, x l * (d l * g l)) * (Ideal.ofBits .f32 0xBF000000#32 * Ideal.div (scale x) (under x))) (Ideal.ofBits .f32 0x45000000#32))
      + (∑ _s : Fin 1, Ideal.div ((∑ l, x l * (d l * g l)) * (Ideal.ofBits .f32 0xBF000000#32 * Ideal.div (scale x) (under x))) (Ideal.ofBits .f32 0x45000000#32)) * x k
    = dx x g d k := by
  rw [Fin.sum_univ_one, add_assoc (d k * g k * scale x), scale, back (under_pos x), ← sub_eq_add_neg, dx, scale, mul_comm (Ideal.rsqrt _) (d k * g k),
    Finset.sum_congr rfl fun l _ => mul_comm (x l) (d l * g l)]

/-! ### The loss -/

/-- How far a row's norm is from its target. -/
def err (x g t : Fin 2048 → EReal) (k : Fin 2048) : EReal := x k * scale x * g k - t k

/-- The gradient of the loss there. -/
def slope (x g t : Fin 2048 → EReal) (k : Fin 2048) : EReal := err x g t k * Ideal.ofBits .f32 0x3A000000#32

/-- What a row adds to the loss. -/
def part (x g t : Fin 2048 → EReal) : EReal := Ideal.ofBits .f32 0x39800000#32 * ∑ k, err x g t k * err x g t k

theorem half : Ideal.ofBits .f32 0x3F000000#32 = ((1 / 2 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem one : Ideal.ofBits .f32 0x3F800000#32 = ((1 : ℝ) : EReal) := by
  simp [Ideal.ofBits, Ideal.ieee, -EReal.coe_mul]; norm_num

theorem per_place : Ideal.ofBits .f32 0x3A000000#32 = ((1 / 2048 : ℝ) : EReal) := by
  simp [Ideal.ofBits, Ideal.ieee, -EReal.coe_mul]; norm_num

theorem half_per_place : Ideal.ofBits .f32 0x39800000#32 = ((1 / 4096 : ℝ) : EReal) := by
  simp [Ideal.ofBits, Ideal.ieee, -EReal.coe_mul]; norm_num

theorem reference_slope (e : EReal) : Ideal.div (Ideal.ofBits .f32 0x3F000000#32 * Ideal.ofBits .f32 0x3F800000#32) (Ideal.ofBits .f32 0x45000000#32)
    * (Ideal.ofBits .f32 0x40000000#32 * e) = e * Ideal.ofBits .f32 0x3A000000#32 := by
  rw [div_width, half, one, two, per_place, ← mul_assoc, ← EReal.coe_mul, ← EReal.coe_mul, ← EReal.coe_mul, mul_comm]
  norm_num

/-- A factor goes into a sum of numbers that are not negative. -/
theorem mul_sum {n : ℕ} (a : EReal) (f : Fin n → EReal) (h : ∀ s, 0 ≤ f s) : a * ∑ s, f s = ∑ s, a * f s := by
  induction n with
  | zero => simp
  | succ n ih =>
    rw [Fin.sum_univ_succ, Fin.sum_univ_succ, EReal.left_distrib_of_nonneg (h 0) (Finset.sum_nonneg fun s _ => h s.succ), ih _ fun s => h s.succ]

theorem sum_part {n : ℕ} (x t : Fin n → Fin 2048 → EReal) (g : Fin 2048 → EReal) :
    Ideal.ofBits .f32 0x39800000#32 * ∑ s, ∑ k, err (x s) g (t s) k * err (x s) g (t s) k = ∑ s, part (x s) g (t s) :=
  mul_sum _ _ fun s => Finset.sum_nonneg fun k _ => square_nonneg _

/-- The loss, as the reference puts it together. -/
theorem reference_loss (x t : Fin 2048 → Fin 2048 → EReal) (g : Fin 2048 → EReal) :
    Ideal.ofBits .f32 0x3F000000#32 * ∑ s, Ideal.div (∑ k, err (x s) g (t s) k * err (x s) g (t s) k) (Ideal.ofBits .f32 0x45000000#32)
    = ∑ s, part (x s) g (t s) := by
  rw [mul_sum _ _ fun s => by
    rw [div_width]
    exact EReal.mul_nonneg (Finset.sum_nonneg fun k _ => square_nonneg _) (EReal.coe_nonneg.2 (by norm_num))]
  refine Finset.sum_congr rfl fun s _ => ?_
  rw [part, div_width, half, half_per_place, mul_comm _ ((1 / 2048 : ℝ) : EReal), ← mul_assoc, ← EReal.coe_mul]
  norm_num

end Cert.Norm

end
-- ==== Proof.Products.NormBwd.lean ====
module

public import proofs.«01_k».proof.Defs
public import proofs.«01_k».proof.Proof.Products.Norm
public import proofs.«01_k».proof.Proof.Gen.NormBwd
public import proofs.«01_k».proof.Proof.Gen.NormBwdIdeal.Value
public import proofs.«01_k».proof.Proof.Gen.NormBwdRefIdeal.Run
public import Idealize.ShloMosaic.Lib.Pointwise
public import Idealize.ShloMosaic.Lib.Pipeline.ValueKit
public import Idealize.ShloMosaic.Lib.Pipeline.ReadBack

/-!
The gradient through the first norm: eight points of 256 rows each. The gradient of the weights is added up in a block that the
kernel keeps between points and writes out at the last of them.
-/

@[expose] public section

set_option maxRecDepth 16384

noncomputable section

namespace Cert.NormBwdIdeal.Product

open Cert.NormBwdIdeal Cert.NormBwdIdeal.Gen
open Idealize.ShloMosaic Idealize.ShloMosaic.TcCoe
open Idealize.SL Idealize.SL.Sem

/-! ### Where a point's blocks lie -/

theorem idx : ∀ t : Fin grid0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0] := by decide +kernel

theorem lt_n (t : Fin cfg0.N) : t.val < 8 := lt_of_lt_of_eq t.isLt (by decide +kernel)

/-! ### What the call leaves -/

/-- The gradient of the rows: the norm's, and that of the residual. -/
def outX (x : S2048x2048.Idx → EReal) (g : S2048.Idx → EReal) (dh dres : S2048x2048.Idx → EReal) (r k : Fin 2048) : EReal :=
  dres (ix2 r k) + Norm.dx (fun l => x (ix2 r l)) (fun l => g (ix1 l)) (fun l => dh (ix2 r l)) k

/-- The gradient of the weights. -/
def outG (x dh : S2048x2048.Idx → EReal) (k : Fin 2048) : EReal :=
  ∑ r : Fin 2048, dh (ix2 r k) * (x (ix2 r k) * Norm.scale (fun l => x (ix2 r l)))

variable (m : (ℓ : Loc nD τ sig) → Buf (Elt Ideal) ℓ)

/-- The rows that device `c` holds. -/
abbrev argX (c : Dev nD) : S2048x2048.Idx → EReal := m ((c.tc : Thread nD τ).loc main_arg0)
abbrev argG (c : Dev nD) : S2048.Idx → EReal := m ((c.tc : Thread nD τ).loc main_arg1)
abbrev argH (c : Dev nD) : S2048x2048.Idx → EReal := m ((c.tc : Thread nD τ).loc main_arg2)
abbrev argR (c : Dev nD) : S2048x2048.Idx → EReal := m ((c.tc : Thread nD τ).loc main_arg3)

theorem blk_0 (c : Dev nD) (t : Fin cfg0.N) (a : Fin 256) (k : Fin 2048) : (iblk m c 0 t : S256x2048.Idx → EReal) (ix2 a k)
    = argX m c (ix2 ⟨256 * t.val + a, by have := lt_n t; omega⟩ k) := by
  have := lt_n t
  blk_ext! [iblk, V, (idx t).1]

theorem blk_2 (c : Dev nD) (t : Fin cfg0.N) (a : Fin 256) (k : Fin 2048) : (iblk m c 2 t : S256x2048.Idx → EReal) (ix2 a k)
    = argH m c (ix2 ⟨256 * t.val + a, by have := lt_n t; omega⟩ k) := by
  have := lt_n t
  blk_ext! [iblk, V, (idx t).2.2.1]

theorem blk_3 (c : Dev nD) (t : Fin cfg0.N) (a : Fin 256) (k : Fin 2048) : (iblk m c 3 t : S256x2048.Idx → EReal) (ix2 a k)
    = argR m c (ix2 ⟨256 * t.val + a, by have := lt_n t; omega⟩ k) := by
  have := lt_n t
  blk_ext! [iblk, V, (idx t).2.2.2.1]

theorem weights (c : Dev nD) : V m c main_v0 = shapeCast S1x2048 (m ((c.tc : Thread nD τ).loc main_arg1)) shapeCasts_S2048_S1x2048 := by
  show StableHlo.after (List.flatten [hostOps0]) (fun b => m (c, b)) (Proc.devRef .tc main_v0) = _
  simp only [hostOps0, List.flatten_cons, List.flatten_nil, List.append_nil, List.cons_append, List.nil_append]
  after_results_simp
  rfl

theorem weights_at (c : Dev nD) (a : Fin 1) (k : Fin 2048) : (V m c main_v0 : S1x2048.Idx → EReal) (ix2 a k) = argG m c (ix1 k) := by
  rw [weights]
  pointwise []

theorem blk_1 (c : Dev nD) (t : Fin cfg0.N) (a : Fin 1) (k : Fin 2048) : (iblk m c 1 t : S1x2048.Idx → EReal) (ix2 a k) = argG m c (ix1 k) := by
  refine Eq.trans ?_ (weights_at m c a k)
  blk_ext! [iblk, (idx t).2.1]

/-! ### One point -/

theorem point (x0 : Vec Ideal S256x2048 .f32) (x1 : Vec Ideal S1x2048 .f32) (x2 : Vec Ideal S256x2048 .bf16) (x3 : Vec Ideal S256x2048 .f32) (a : Fin 256) (k : Fin 2048) :
    (k0_pay4 x0 x2 x1 x3 : S256x2048.Idx → EReal) (ix2 a k) = (x3 : S256x2048.Idx → EReal) (ix2 a k)
      + Norm.dx (fun l => (x0 : S256x2048.Idx → EReal) (ix2 a l)) (fun l => (x1 : S1x2048.Idx → EReal) (ix2 0 l)) (fun l => (x2 : S256x2048.Idx → EReal) (ix2 a l)) k := by
  rw [Norm.add_dx]
  pointwise [k0_pay2, k0_pay3, k0_pay4, Norm.scale, Norm.under]

theorem point_bf16 (x0 : Vec Ideal S256x2048 .f32) (x1 : Vec Ideal S1x2048 .f32) (x2 : Vec Ideal S256x2048 .bf16) (x3 : Vec Ideal S256x2048 .f32) (j : S256x2048.Idx) :
    (k0_pay5 x0 x2 x1 x3 : S256x2048.Idx → EReal) j = (k0_pay4 x0 x2 x1 x3 : S256x2048.Idx → EReal) j := rfl

theorem point_g (x0 : Vec Ideal S256x2048 .f32) (x2 : Vec Ideal S256x2048 .bf16) (a : Fin 1) (k : Fin 2048) :
    (k0_pay6 x0 x2 : S1x2048.Idx → EReal) (ix2 a k) = ∑ s : Fin 256, (x2 : S256x2048.Idx → EReal) (ix2 s k)
      * ((x0 : S256x2048.Idx → EReal) (ix2 s k) * Norm.scale (fun l => (x0 : S256x2048.Idx → EReal) (ix2 s l))) := by
  pointwise [k0_pay2, k0_pay3, k0_pay6, Norm.scale, Norm.under]

theorem point_add (x0 acc : Vec Ideal S1x2048 .f32) (j : S1x2048.Idx) :
    (k0_pay1 x0 acc : S1x2048.Idx → EReal) j = (acc : S1x2048.Idx → EReal) j + (x0 : S1x2048.Idx → EReal) j := by
  pointwise [k0_pay1]

theorem written_x (c : Dev nD) (t : Fin cfg0.N) : (outsAt0 m c t.val t.isLt).1 = k0_pay4 (iblk m c 0 t) (iblk m c 2 t) (iblk m c 1 t) (iblk m c 3 t) := by
  have := lt_n t
  by_cases h : t.val % 8 = 0
  · rw [outsAt0_A m c t h (by omega)]
    frame_out
  · rw [outsAt0_B m c t h (by omega)]
    frame_out

theorem written_bf16 (c : Dev nD) (t : Fin cfg0.N) : (outsAt0 m c t.val t.isLt).2.1 = k0_pay5 (iblk m c 0 t) (iblk m c 2 t) (iblk m c 1 t) (iblk m c 3 t) := by
  have := lt_n t
  by_cases h : t.val % 8 = 0
  · rw [outsAt0_A m c t h (by omega)]
    frame_out
  · rw [outsAt0_B m c t h (by omega)]
    frame_out

theorem kept_first (c : Dev nD) (t : Fin cfg0.N) (h : t.val % 8 = 0) : (outsAt0 m c t.val t.isLt).2.2 = k0_pay6 (iblk m c 0 t) (iblk m c 2 t) := by
  have := lt_n t
  rw [outsAt0_A m c t h (by omega)]
  frame_out

theorem kept_later (c : Dev nD) (t : Fin cfg0.N) (h : ¬t.val % 8 = 0) : (outsAt0 m c t.val t.isLt).2.2
    = k0_pay1 (k0_pay6 (iblk m c 0 t) (iblk m c 2 t)) (outsAt0 m c (t.val - 1) (Nat.lt_of_le_of_lt (Nat.sub_le _ _) t.isLt)).2.2 := by
  rw [outsAt0_B m c t h (by omega)]
  frame_out

theorem point_lt (t : Fin cfg0.N) (s : Fin 8) : 8 * (t.val / 8) + s.val < cfg0.N := by
  have := lt_n t
  have e : cfg0.N = 8 := by decide +kernel
  omega

/-- After the last point the block holds the sum of what the points add. -/
theorem kept (c : Dev nD) (t : Fin cfg0.N) (h : t.val % 8 = 7) (j : S1x2048.Idx) : ((outsAt0 m c t.val t.isLt).2.2 : S1x2048.Idx → EReal) j
    = 0 + ∑ s : Fin 8, (k0_pay6 (iblk m c 0 ⟨8 * (t.val / 8) + s, point_lt t s⟩) (iblk m c 2 ⟨8 * (t.val / 8) + s, point_lt t s⟩) : S1x2048.Idx → EReal) j :=
  Pipeline.eq_sum_fin_of_reset_step_apply_of_flush (fun n h => ((outsAt0 m c n h).2.2 : S1x2048.Idx → EReal)) 8 (fun _ => 0)
    (fun p : Fin cfg0.N => (k0_pay6 (iblk m c 0 p) (iblk m c 2 p) : S1x2048.Idx → EReal))
    (fun t h j => by rw [kept_first m c t h, zero_add]) (fun t h j => by rw [kept_later m c t h]; exact point_add _ _ j) t h j

/-! ### The arrays after the call -/

theorem left (c : Dev nD) (t : Fin cfg0.N) (a : Fin 256) (k : Fin 2048) : (k0_pay4 (iblk m c 0 t) (iblk m c 2 t) (iblk m c 1 t) (iblk m c 3 t) : S256x2048.Idx → EReal) (ix2 a k)
    = outX (argX m c) (argG m c) (argH m c) (argR m c) ⟨256 * t.val + a, by have := lt_n t; omega⟩ k :=
  (point _ _ _ _ a k).trans (congrArg₂ (· + ·) (blk_3 m c t a k) (Norm.dx_congr (fun l => blk_0 m c t a l) (fun l => blk_1 m c t 0 l) (fun l => blk_2 m c t a l) k))

theorem final_x (c : Dev nD) : (dats m 0 c).arrAt 4 cfg0.N = fun i : S2048x2048.Idx => outX (argX m c) (argG m c) (argH m c) (argR m c) (i 0) (i 1) := by
  refine (dats m 0 c).arrAt_eq_of_covers 4 (fun i : S2048x2048.Idx => outX (argX m c) (argG m c) (argH m c) (argR m c) (i 0) (i 1)) (by decide +kernel) fun t hf (y : S256x2048.Idx) => ?_
  have io := (idx t).2.2.2.2.1
  have hy0 : (y 0).val < 256 := (y 0).isLt
  have hy1 : (y 1).val < 2048 := (y 1).isLt
  rw [after0_4, written_x m c t]
  refine (show _ = (k0_pay4 (iblk m c 0 t) (iblk m c 2 t) (iblk m c 1 t) (iblk m c 3 t) : S256x2048.Idx → EReal) (ix2 (y 0) (y 1)) from congrArg (k0_pay4 (iblk m c 0 t) (iblk m c 2 t) (iblk m c 1 t) (iblk m c 3 t) : S256x2048.Idx → EReal) (by
    funext k; fin_cases k <;> rfl)).trans ((left m c t (y 0) (y 1)).trans (congrArg₂ (outX (argX m c) (argG m c) (argH m c) (argR m c)) (Fin.ext ?_) (Fin.ext ?_)))
  · blk_simp [io]
    show 256 * t.val + (y 0).val = t.val * 256 + (y 0).val
    omega
  · blk_simp [io]

theorem final_bf16 (c : Dev nD) : (dats m 0 c).arrAt 5 cfg0.N = fun i : S2048x2048.Idx => outX (argX m c) (argG m c) (argH m c) (argR m c) (i 0) (i 1) := by
  refine (dats m 0 c).arrAt_eq_of_covers 5 (fun i : S2048x2048.Idx => outX (argX m c) (argG m c) (argH m c) (argR m c) (i 0) (i 1)) (by decide +kernel) fun t hf (y : S256x2048.Idx) => ?_
  have io := (idx t).2.2.2.2.2.1
  have hy0 : (y 0).val < 256 := (y 0).isLt
  have hy1 : (y 1).val < 2048 := (y 1).isLt
  rw [after0_5, written_bf16 m c t]
  refine (show _ = (k0_pay4 (iblk m c 0 t) (iblk m c 2 t) (iblk m c 1 t) (iblk m c 3 t) : S256x2048.Idx → EReal) (ix2 (y 0) (y 1)) from congrArg (k0_pay5 (iblk m c 0 t) (iblk m c 2 t) (iblk m c 1 t) (iblk m c 3 t) : S256x2048.Idx → EReal) (by
    funext k; fin_cases k <;> rfl)).trans ((left m c t (y 0) (y 1)).trans (congrArg₂ (outX (argX m c) (argG m c) (argH m c) (argR m c)) (Fin.ext ?_) (Fin.ext ?_)))
  · blk_simp [io]
    show 256 * t.val + (y 0).val = t.val * 256 + (y 0).val
    omega
  · blk_simp [io]

theorem left_g (c : Dev nD) (t : Fin cfg0.N) (h : t.val % 8 = 7) (a : Fin 1) (k : Fin 2048) : ((outsAt0 m c t.val t.isLt).2.2 : S1x2048.Idx → EReal) (ix2 a k)
    = outG (argX m c) (argH m c) k := by
  have ht := lt_n t
  refine (kept m c t h _).trans ((zero_add _).trans ?_)
  refine (Finset.sum_congr rfl fun s _ => point_g _ _ a k).trans (Fin.sum_mul_add_congr fun s r hl => ?_)
  have e (l : Fin 2048) : (ix2 ⟨256 * (8 * (t.val / 8) + s.val) + r.val, by omega⟩ l : S2048x2048.Idx) = ix2 ⟨s.val * 256 + r.val, hl⟩ l :=
    congrArg (fun q : Fin 2048 => (ix2 q l : S2048x2048.Idx)) (Fin.ext (by show 256 * (8 * (t.val / 8) + s.val) + r.val = s.val * 256 + r.val; omega))
  have hx (l : Fin 2048) := (blk_0 m c ⟨8 * (t.val / 8) + s, point_lt t s⟩ r l).trans (congrArg (argX m c) (e l))
  exact congrArg₂ (· * ·) ((blk_2 m c ⟨8 * (t.val / 8) + s, point_lt t s⟩ r k).trans (congrArg (argH m c) (e k)))
    (congrArg₂ (· * ·) (hx k) (congrArg Norm.scale (funext hx)))

theorem final_g (c : Dev nD) : (dats m 0 c).arrAt 6 cfg0.N = fun i : S1x2048.Idx => outG (argX m c) (argH m c) (i 1) := by
  refine (dats m 0 c).arrAt_eq_of_covers 6 (fun i : S1x2048.Idx => outG (argX m c) (argH m c) (i 1)) (by decide +kernel) fun t hf (y : S1x2048.Idx) => ?_
  have io := (idx t).2.2.2.2.2.2
  have hy0 : (y 0).val < 1 := (y 0).isLt
  have hy1 : (y 1).val < 2048 := (y 1).isLt
  rw [after0_6]
  refine (show _ = ((outsAt0 m c t.val t.isLt).2.2 : S1x2048.Idx → EReal) (ix2 (y 0) (y 1)) from congrArg ((outsAt0 m c t.val t.isLt).2.2 : S1x2048.Idx → EReal) (by
    funext k; fin_cases k <;> rfl)).trans ((left_g m c t ((flush0_6 t).mp hf) (y 0) (y 1)).trans (congrArg (outG (argX m c) (argH m c)) (Fin.ext ?_)))
  blk_simp [io]

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v1_0) = (fun i : S2048x2048.Idx => outX (argX m c) (argG m c) (argH m c) (argR m c) (i 0) (i 1))
      ∧ r.2.mem ((c.tc : Thread nD τ).loc main_v1_1) = (fun i : S2048x2048.Idx => outX (argX m c) (argG m c) (argH m c) (argR m c) (i 0) (i 1))
      ∧ r.2.mem ((c.tc : Thread nD τ).loc main_v1_2) = (fun i : S1x2048.Idx => outG (argX m c) (argH m c) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun r h c => ⟨(h c).1.trans (final_x m c), (h c).2.1.trans (final_bf16 m c), (h c).2.2.1.trans (final_g m c), (h c).2.2.2⟩)
    (Value.run_blocks (F := Ideal) m ρ)

/-! ### The reference -/

/-- The call leaves what the reference computes. -/
theorem algebraic : Cert.algebraic_NormBwdIdeal_NormBwdRefIdeal := fun m ρ m' ρ' _ hm =>
  ⟨_, _, _, run m ρ, (θ_run _ _ _).mono (fun r h c => by
      obtain ⟨e0, e1, e2, e3⟩ := hm c
      refine ⟨(h c).1.trans ?_, (h c).2.1.trans ?_, (h c).2.2.1.trans ?_, (h c).2.2.2⟩
      · rw [e0, e1, e2, e3]
        funext i
        have h0 : (i 0).val < 2048 := (i 0).isLt
        have h1 : (i 1).val < 2048 := (i 1).isLt
        rw [show i = @ix2 2048 2048 (i 0) (i 1) from by funext k; fin_cases k <;> rfl]
        unfold outX
        refine Eq.trans ?_ (congrArg (argR m c (ix2 (i 0) (i 1)) + ·) (Norm.reference_dx _ _ _ _))
        pointwise [Norm.scale, Norm.under]
      · unfold Cert.NormBwdRefIdeal.Value.res_main_v38
        rw [e0, e1, e2, e3]
        funext i
        have h0 : (i 0).val < 2048 := (i 0).isLt
        have h1 : (i 1).val < 2048 := (i 1).isLt
        rw [show i = @ix2 2048 2048 (i 0) (i 1) from by funext k; fin_cases k <;> rfl]
        unfold outX
        refine Eq.trans ?_ (congrArg (argR m c (ix2 (i 0) (i 1)) + ·) (Norm.reference_dx _ _ _ _))
        pointwise [Norm.scale, Norm.under]
      · rw [e0, e2]
        funext i
        have h0 : (i 0).val < 1 := (i 0).isLt
        have h1 : (i 1).val < 2048 := (i 1).isLt
        rw [show i = @ix2 1 2048 (i 0) (i 1) from by funext k; fin_cases k <;> rfl]
        pointwise [outG, Norm.scale, Norm.under]
        exact (Fin.sum_univ_one _).trans (Finset.sum_congr rfl fun s _ => mul_comm _ _)) (Cert.NormBwdRefIdeal.Value.run (F := Ideal) m' ρ')⟩

/-- The printed program and its idealization have one body table: nothing was rewritten. -/
theorem defs₀_eq : Cert.NormBwd.defs₀ (F := Bits) = Cert.NormBwdIdeal.defs₀ (F := Bits) := by
  unfold Cert.NormBwd.defs₀ Cert.NormBwdIdeal.defs₀
  refine congrArg (Defs.onTc (nD := nD) (τ := τ) (sig := sig) (Val := Elt Bits) (Λ := Λ₀)) ?_
  funext l a
  match l, a with
  | 0, (t, s) => rfl
  | ⟨_ + 1, h⟩, _ => exact absurd h (Nat.not_lt.2 (Nat.le_add_left _ _))

theorem defs_eq : Cert.NormBwd.defs (F := Bits) = Cert.NormBwdIdeal.defs (F := Bits) := by
  unfold Cert.NormBwd.defs Cert.NormBwdIdeal.defs
  rw [defs₀_eq]; rfl

theorem main_eq : Cert.NormBwd.main (F := Bits) = Cert.NormBwdIdeal.main (F := Bits) := by
  unfold Cert.NormBwd.main Cert.NormBwdIdeal.main
  rfl

theorem frame : Cert.quiescent_NormBwd := fun m ρ _ => by
  rw [defs_eq, main_eq]
  exact Cert.NormBwdIdeal.Gen.frame (F := Bits) m ρ

theorem frameIdeal : Cert.quiescent_NormBwdIdeal := fun m ρ _ => Cert.NormBwdIdeal.Gen.frame (F := Ideal) m ρ

theorem frameReference : Cert.quiescent_NormBwdRefIdeal := fun m ρ _ =>
  (θ_run _ _ _).mono (fun r h => ⟨fun c => (h c).2.2.2, sem_eq_zero_of_no_sems (by decide) r.2⟩)
    (Cert.NormBwdRefIdeal.Value.run (F := Ideal) m ρ)

end Cert.NormBwdIdeal.Product

end
-- ==== Proof.Products.NormFwd.lean ====
module

public import proofs.«01_k».proof.Defs
public import proofs.«01_k».proof.Proof.Products.Norm
public import proofs.«01_k».proof.Proof.Gen.NormFwd
public import proofs.«01_k».proof.Proof.Gen.NormFwdIdeal.Value
public import proofs.«01_k».proof.Proof.Gen.NormFwdRefIdeal.Run
public import Idealize.ShloMosaic.Lib.Pointwise
public import Idealize.ShloMosaic.Lib.Pipeline.ValueKit

/-!
The norm itself: four points of 512 rows each.
-/

@[expose] public section

set_option maxRecDepth 16384

noncomputable section

namespace Cert.NormFwdIdeal.Product

open Cert.NormFwdIdeal Cert.NormFwdIdeal.Gen
open Idealize.ShloMosaic Idealize.ShloMosaic.TcCoe
open Idealize.SL Idealize.SL.Sem

theorem idx : ∀ t : Fin grid0.N, win0_0.index t = ![t.val, 0] ∧ win0_1.index t = ![0, 0] ∧ win0_2.index t = ![t.val, 0] := by decide +kernel

theorem lt_n (t : Fin cfg0.N) : t.val < 4 := lt_of_lt_of_eq t.isLt (by decide +kernel)

/-- The row over its root mean square, times the weights. -/
def out (x : S2048x2048.Idx → EReal) (g : S2048.Idx → EReal) (r k : Fin 2048) : EReal :=
  x (ix2 r k) * Norm.scale (fun l => x (ix2 r l)) * g (ix1 k)

variable (m : (ℓ : Loc nD τ sig) → Buf (Elt Ideal) ℓ)

/-- The rows that device `c` holds, and the weights. -/
abbrev argX (c : Dev nD) : S2048x2048.Idx → EReal := m ((c.tc : Thread nD τ).loc main_arg0)
abbrev argG (c : Dev nD) : S2048.Idx → EReal := m ((c.tc : Thread nD τ).loc main_arg1)

theorem blk_0 (c : Dev nD) (t : Fin cfg0.N) (a : Fin 512) (k : Fin 2048) : (iblk m c 0 t : S512x2048.Idx → EReal) (ix2 a k)
    = argX m c (ix2 ⟨512 * t.val + a, by have := lt_n t; omega⟩ k) := by
  have := lt_n t
  blk_ext! [iblk, V, (idx t).1]

theorem weights (c : Dev nD) : V m c main_v0 = shapeCast S1x2048 (m ((c.tc : Thread nD τ).loc main_arg1)) shapeCasts_S2048_S1x2048 := by
  show StableHlo.after (List.flatten [hostOps0]) (fun b => m (c, b)) (Proc.devRef .tc main_v0) = _
  simp only [hostOps0, List.flatten_cons, List.flatten_nil, List.append_nil, List.cons_append, List.nil_append]
  after_results_simp
  rfl

theorem weights_at (c : Dev nD) (a : Fin 1) (k : Fin 2048) : (V m c main_v0 : S1x2048.Idx → EReal) (ix2 a k) = argG m c (ix1 k) := by
  rw [weights]
  pointwise []

theorem blk_1 (c : Dev nD) (t : Fin cfg0.N) (a : Fin 1) (k : Fin 2048) : (iblk m c 1 t : S1x2048.Idx → EReal) (ix2 a k) = argG m c (ix1 k) := by
  refine Eq.trans ?_ (weights_at m c a k)
  blk_ext! [iblk, (idx t).2.1]

theorem store (x0 : Vec Ideal S512x2048 .f32) (x1 : Vec Ideal S1x2048 .f32) : out0_2 x0 x1 = k0_pay1 (View.ld x0 r0_0) (View.ld x1 r0_1) := by
  unfold out0_2
  rw [View.canon_cons_unit_lit _ _ _ (by decide)]

theorem point (x0 : Vec Ideal S512x2048 .f32) (x1 : Vec Ideal S1x2048 .f32) (a : Fin 512) (k : Fin 2048) : (out0_2 x0 x1 : S512x2048.Idx → EReal) (ix2 a k)
    = (x0 : S512x2048.Idx → EReal) (ix2 a k) * Norm.scale (fun l => (x0 : S512x2048.Idx → EReal) (ix2 a l)) * (x1 : S1x2048.Idx → EReal) (ix2 0 k) := by
  rw [store]
  pointwise [k0_pay1, Norm.scale, Norm.under]

theorem left (c : Dev nD) (t : Fin cfg0.N) (a : Fin 512) (k : Fin 2048) : ((dats m 0 c).after 2 t : S512x2048.Idx → EReal) (ix2 a k)
    = out (argX m c) (argG m c) ⟨512 * t.val + a, by have := lt_n t; omega⟩ k := by
  rw [after0_2]
  exact (point _ _ a k).trans (congrArg₂ (· * ·) (congrArg₂ (· * ·) (blk_0 m c t a k) (congrArg Norm.scale (funext fun l => blk_0 m c t a l))) (blk_1 m c t 0 k))

theorem final (c : Dev nD) : (dats m 0 c).arrAt 2 cfg0.N = fun i : S2048x2048.Idx => out (argX m c) (argG m c) (i 0) (i 1) := by
  refine (dats m 0 c).arrAt_eq_of_covers 2 (fun i : S2048x2048.Idx => out (argX m c) (argG m c) (i 0) (i 1)) (by decide +kernel) fun t hf (y : S512x2048.Idx) => ?_
  have io := (idx t).2.2
  have hy0 : (y 0).val < 512 := (y 0).isLt
  have hy1 : (y 1).val < 2048 := (y 1).isLt
  refine (show _ = ((dats m 0 c).after 2 t : S512x2048.Idx → EReal) (ix2 (y 0) (y 1)) from congrArg ((dats m 0 c).after 2 t : S512x2048.Idx → EReal) (by
    funext k; fin_cases k <;> rfl)).trans ((left m c t (y 0) (y 1)).trans (congrArg₂ (out (argX m c) (argG m c)) (Fin.ext ?_) (Fin.ext ?_)))
  · blk_simp [io]
    show 512 * t.val + (y 0).val = t.val * 512 + (y 0).val
    omega
  · blk_simp [io]

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v1) = (fun i : S2048x2048.Idx => out (argX m c) (argG m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨(h c).1.trans (final m c), (h c).2⟩) (Value.run_blocks (F := Ideal) m ρ)

/-- The call leaves what the reference computes. -/
theorem algebraic : Cert.algebraic_NormFwdIdeal_NormFwdRefIdeal := fun m ρ m' ρ' _ hm =>
  ⟨_, run m ρ, (θ_run _ _ _).mono (fun r h c => ⟨(h c).1.trans (by
      rw [(hm c).1, (hm c).2]
      funext i
      have h0 : (i 0).val < 2048 := (i 0).isLt
      have h1 : (i 1).val < 2048 := (i 1).isLt
      rw [show i = @ix2 2048 2048 (i 0) (i 1) from by funext k; fin_cases k <;> rfl]
      pointwise [out, Norm.scale, Norm.under]), (h c).2⟩) (Cert.NormFwdRefIdeal.Value.run (F := Ideal) m' ρ')⟩

/-- The printed program and its idealization have one body table: nothing was rewritten. -/
theorem defs₀_eq : Cert.NormFwd.defs₀ (F := Bits) = Cert.NormFwdIdeal.defs₀ (F := Bits) := by
  unfold Cert.NormFwd.defs₀ Cert.NormFwdIdeal.defs₀
  refine congrArg (Defs.onTc (nD := nD) (τ := τ) (sig := sig) (Val := Elt Bits) (Λ := Λ₀)) ?_
  funext l a
  match l, a with
  | 0, (t, s) => rfl
  | ⟨_ + 1, h⟩, _ => exact absurd h (Nat.not_lt.2 (Nat.le_add_left _ _))

theorem defs_eq : Cert.NormFwd.defs (F := Bits) = Cert.NormFwdIdeal.defs (F := Bits) := by
  unfold Cert.NormFwd.defs Cert.NormFwdIdeal.defs
  rw [defs₀_eq]; rfl

theorem main_eq : Cert.NormFwd.main (F := Bits) = Cert.NormFwdIdeal.main (F := Bits) := by
  unfold Cert.NormFwd.main Cert.NormFwdIdeal.main
  rfl

theorem frame : Cert.quiescent_NormFwd := fun m ρ _ => by
  rw [defs_eq, main_eq]
  exact Cert.NormFwdIdeal.Gen.frame (F := Bits) m ρ

theorem frameIdeal : Cert.quiescent_NormFwdIdeal := fun m ρ _ => Cert.NormFwdIdeal.Gen.frame (F := Ideal) m ρ

theorem frameReference : Cert.quiescent_NormFwdRefIdeal := fun m ρ _ =>
  (θ_run _ _ _).mono (fun r h => ⟨fun c => (h c).2, sem_eq_zero_of_no_sems (by decide) r.2⟩)
    (Cert.NormFwdRefIdeal.Value.run (F := Ideal) m ρ)

end Cert.NormFwdIdeal.Product

end
-- ==== Proof.Products.LossHead.lean ====
module

public import proofs.«01_k».proof.Defs
public import proofs.«01_k».proof.Proof.Products.Norm
public import proofs.«01_k».proof.Proof.Gen.LossHead
public import proofs.«01_k».proof.Proof.Gen.LossHeadIdeal.Value
public import proofs.«01_k».proof.Proof.Gen.LossHeadRefIdeal.Run
public import Idealize.ShloMosaic.Lib.Pointwise
public import Idealize.ShloMosaic.Lib.Pipeline.ValueKit
public import Idealize.ShloMosaic.Lib.Pipeline.ReadBack

/-!
The loss and its gradient through the last norm: eight points of 256 rows each. The gradient of the weights and the loss are added
up in blocks that the kernel keeps between points and writes out at the last of them.
-/

@[expose] public section

set_option maxRecDepth 16384

noncomputable section

namespace Cert.LossHeadIdeal.Product

open Cert.LossHeadIdeal Cert.LossHeadIdeal.Gen
open Idealize.ShloMosaic Idealize.ShloMosaic.TcCoe
open Idealize.SL Idealize.SL.Sem

/-! ### Where a point's blocks lie -/

theorem idx : ∀ t : Fin grid0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![0, 0] := by decide +kernel

theorem lt_n (t : Fin cfg0.N) : t.val < 8 := lt_of_lt_of_eq t.isLt (by decide +kernel)

/-! ### What the call leaves -/

/-- The gradient of the rows. -/
def outX (x : S2048x2048.Idx → EReal) (g : S2048.Idx → EReal) (y : S2048x2048.Idx → EReal) (r k : Fin 2048) : EReal :=
  Norm.dx (fun l => x (ix2 r l)) (fun l => g (ix1 l)) (Norm.slope (fun l => x (ix2 r l)) (fun l => g (ix1 l)) (fun l => y (ix2 r l))) k

/-- The gradient of the weights. -/
def outG (x : S2048x2048.Idx → EReal) (g : S2048.Idx → EReal) (y : S2048x2048.Idx → EReal) (k : Fin 2048) : EReal :=
  ∑ r : Fin 2048, Norm.slope (fun l => x (ix2 r l)) (fun l => g (ix1 l)) (fun l => y (ix2 r l)) k * (x (ix2 r k) * Norm.scale (fun l => x (ix2 r l)))

/-- The loss. -/
def outL (x : S2048x2048.Idx → EReal) (g : S2048.Idx → EReal) (y : S2048x2048.Idx → EReal) : EReal :=
  ∑ r : Fin 2048, Norm.part (fun l => x (ix2 r l)) (fun l => g (ix1 l)) (fun l => y (ix2 r l))

variable (m : (ℓ : Loc nD τ sig) → Buf (Elt Ideal) ℓ)

/-- The rows that device `c` holds, the weights and the targets. -/
abbrev argX (c : Dev nD) : S2048x2048.Idx → EReal := m ((c.tc : Thread nD τ).loc main_arg0)
abbrev argG (c : Dev nD) : S2048.Idx → EReal := m ((c.tc : Thread nD τ).loc main_arg1)
abbrev argY (c : Dev nD) : S2048x2048.Idx → EReal := m ((c.tc : Thread nD τ).loc main_arg2)

theorem blk_0 (c : Dev nD) (t : Fin cfg0.N) (a : Fin 256) (k : Fin 2048) : (iblk m c 0 t : S256x2048.Idx → EReal) (ix2 a k)
    = argX m c (ix2 ⟨256 * t.val + a, by have := lt_n t; omega⟩ k) := by
  have := lt_n t
  blk_ext! [iblk, V, (idx t).1]

theorem blk_2 (c : Dev nD) (t : Fin cfg0.N) (a : Fin 256) (k : Fin 2048) : (iblk m c 2 t : S256x2048.Idx → EReal) (ix2 a k)
    = argY m c (ix2 ⟨256 * t.val + a, by have := lt_n t; omega⟩ k) := by
  have := lt_n t
  blk_ext! [iblk, V, (idx t).2.2.1]

theorem weights (c : Dev nD) : V m c main_v0 = shapeCast S1x2048 (m ((c.tc : Thread nD τ).loc main_arg1)) shapeCasts_S2048_S1x2048 := by
  show StableHlo.after (List.flatten [hostOps0]) (fun b => m (c, b)) (Proc.devRef .tc main_v0) = _
  simp only [hostOps0, List.flatten_cons, List.flatten_nil, List.append_nil, List.cons_append, List.nil_append]
  after_results_simp
  rfl

theorem weights_at (c : Dev nD) (a : Fin 1) (k : Fin 2048) : (V m c main_v0 : S1x2048.Idx → EReal) (ix2 a k) = argG m c (ix1 k) := by
  rw [weights]
  pointwise []

theorem blk_1 (c : Dev nD) (t : Fin cfg0.N) (a : Fin 1) (k : Fin 2048) : (iblk m c 1 t : S1x2048.Idx → EReal) (ix2 a k) = argG m c (ix1 k) := by
  refine Eq.trans ?_ (weights_at m c a k)
  blk_ext! [iblk, (idx t).2.1]

/-! ### One point -/

theorem point (x0 : Vec Ideal S256x2048 .f32) (x1 : Vec Ideal S1x2048 .f32) (x2 : Vec Ideal S256x2048 .f32) (a : Fin 256) (k : Fin 2048) :
    (k0_pay11 x0 x1 x2 : S256x2048.Idx → EReal) (ix2 a k) = Norm.dx (fun l => (x0 : S256x2048.Idx → EReal) (ix2 a l)) (fun l => (x1 : S1x2048.Idx → EReal) (ix2 0 l))
      (Norm.slope (fun l => (x0 : S256x2048.Idx → EReal) (ix2 a l)) (fun l => (x1 : S1x2048.Idx → EReal) (ix2 0 l)) (fun l => (x2 : S256x2048.Idx → EReal) (ix2 a l))) k := by
  pointwise [k0_pay5, k0_pay6, k0_pay7, k0_pay8, k0_pay10, k0_pay11, Norm.dx, Norm.slope, Norm.err, Norm.scale, Norm.under]

theorem point_bf16 (x0 : Vec Ideal S256x2048 .f32) (x1 : Vec Ideal S1x2048 .f32) (x2 : Vec Ideal S256x2048 .f32) (j : S256x2048.Idx) :
    (k0_pay12 x0 x1 x2 : S256x2048.Idx → EReal) j = (k0_pay11 x0 x1 x2 : S256x2048.Idx → EReal) j := rfl

theorem point_g (x0 : Vec Ideal S256x2048 .f32) (x1 : Vec Ideal S1x2048 .f32) (x2 : Vec Ideal S256x2048 .f32) (a : Fin 1) (k : Fin 2048) :
    (k0_pay1 (k0_pay7 x0) (k0_pay10 x0 x1 x2) : S1x2048.Idx → EReal) (ix2 a k) = ∑ s : Fin 256, Norm.slope (fun l => (x0 : S256x2048.Idx → EReal) (ix2 s l)) (fun l => (x1 : S1x2048.Idx → EReal) (ix2 0 l)) (fun l => (x2 : S256x2048.Idx → EReal) (ix2 s l)) k
      * ((x0 : S256x2048.Idx → EReal) (ix2 s k) * Norm.scale (fun l => (x0 : S256x2048.Idx → EReal) (ix2 s l))) := by
  pointwise [k0_pay1, k0_pay5, k0_pay6, k0_pay7, k0_pay8, k0_pay10, Norm.slope, Norm.err, Norm.scale, Norm.under]

theorem point_l (x0 : Vec Ideal S256x2048 .f32) (x1 : Vec Ideal S1x2048 .f32) (x2 : Vec Ideal S256x2048 .f32) :
    (k0_pay9 x0 x1 x2 : EReal) = ∑ s : Fin 256, Norm.part (fun l => (x0 : S256x2048.Idx → EReal) (ix2 s l)) (fun l => (x1 : S1x2048.Idx → EReal) (ix2 0 l)) (fun l => (x2 : S256x2048.Idx → EReal) (ix2 s l)) := by
  refine Eq.trans ?_ (Norm.sum_part _ _ _)
  pointwise [k0_pay5, k0_pay6, k0_pay7, k0_pay8, k0_pay9, Norm.err, Norm.scale, Norm.under]

theorem point_add_g (x0 x1 : FVec Ideal S256x2048 .f32) (acc : Vec Ideal S1x2048 .f32) (j : S1x2048.Idx) :
    (k0_pay3 x0 x1 acc : S1x2048.Idx → EReal) j = (acc : S1x2048.Idx → EReal) j + (k0_pay1 x0 x1 : S1x2048.Idx → EReal) j := by
  pointwise [k0_pay3, k0_pay1]

theorem point_add_l (x0 : EReal) (acc : Vec Ideal S8x128 .f32) (j : S8x128.Idx) :
    (k0_pay4 (F := Ideal) x0 acc : S8x128.Idx → EReal) j = (acc : S8x128.Idx → EReal) j + (k0_pay2 (F := Ideal) x0 : S8x128.Idx → EReal) j := by
  pointwise [k0_pay4, k0_pay2]

theorem written_x (c : Dev nD) (t : Fin cfg0.N) : (outsAt0 m c t.val t.isLt).1 = k0_pay11 (iblk m c 0 t) (iblk m c 1 t) (iblk m c 2 t) := by
  have := lt_n t
  by_cases h : t.val % 8 = 0
  · rw [outsAt0_A m c t h (by omega)]
    frame_out
  · rw [outsAt0_B m c t h (by omega)]
    frame_out

theorem written_bf16 (c : Dev nD) (t : Fin cfg0.N) : (outsAt0 m c t.val t.isLt).2.1 = k0_pay12 (iblk m c 0 t) (iblk m c 1 t) (iblk m c 2 t) := by
  have := lt_n t
  by_cases h : t.val % 8 = 0
  · rw [outsAt0_A m c t h (by omega)]
    frame_out
  · rw [outsAt0_B m c t h (by omega)]
    frame_out

theorem first_g (c : Dev nD) (t : Fin cfg0.N) (h : t.val % 8 = 0) : (outsAt0 m c t.val t.isLt).2.2.1 = k0_pay1 (k0_pay7 (iblk m c 0 t)) (k0_pay10 (iblk m c 0 t) (iblk m c 1 t) (iblk m c 2 t)) := by
  have := lt_n t
  rw [outsAt0_A m c t h (by omega)]
  frame_out

theorem first_l (c : Dev nD) (t : Fin cfg0.N) (h : t.val % 8 = 0) : (outsAt0 m c t.val t.isLt).2.2.2 = k0_pay2 (k0_pay9 (iblk m c 0 t) (iblk m c 1 t) (iblk m c 2 t)) := by
  have := lt_n t
  rw [outsAt0_A m c t h (by omega)]
  frame_out

theorem later_g (c : Dev nD) (t : Fin cfg0.N) (h : ¬t.val % 8 = 0) : (outsAt0 m c t.val t.isLt).2.2.1
    = k0_pay3 (k0_pay7 (iblk m c 0 t)) (k0_pay10 (iblk m c 0 t) (iblk m c 1 t) (iblk m c 2 t)) (outsAt0 m c (t.val - 1) (Nat.lt_of_le_of_lt (Nat.sub_le _ _) t.isLt)).2.2.1 := by
  rw [outsAt0_B m c t h (by omega)]
  frame_out

theorem later_l (c : Dev nD) (t : Fin cfg0.N) (h : ¬t.val % 8 = 0) : (outsAt0 m c t.val t.isLt).2.2.2
    = k0_pay4 (k0_pay9 (iblk m c 0 t) (iblk m c 1 t) (iblk m c 2 t)) (outsAt0 m c (t.val - 1) (Nat.lt_of_le_of_lt (Nat.sub_le _ _) t.isLt)).2.2.2 := by
  rw [outsAt0_B m c t h (by omega)]
  frame_out

theorem point_lt (t : Fin cfg0.N) (s : Fin 8) : 8 * (t.val / 8) + s.val < cfg0.N := by
  have := lt_n t
  have e : cfg0.N = 8 := by decide +kernel
  omega

/-- What point `p` adds to the gradient of the weights, and to the loss. -/
def addG (c : Dev nD) (p : Fin cfg0.N) : S1x2048.Idx → EReal := k0_pay1 (k0_pay7 (iblk m c 0 p)) (k0_pay10 (iblk m c 0 p) (iblk m c 1 p) (iblk m c 2 p))
def addL (c : Dev nD) (p : Fin cfg0.N) : S8x128.Idx → EReal := k0_pay2 (k0_pay9 (iblk m c 0 p) (iblk m c 1 p) (iblk m c 2 p))

/-- After the last point the blocks hold the sums of what the points add. -/
theorem kept_g (c : Dev nD) (t : Fin cfg0.N) (h : t.val % 8 = 7) (j : S1x2048.Idx) : ((outsAt0 m c t.val t.isLt).2.2.1 : S1x2048.Idx → EReal) j
    = 0 + ∑ s : Fin 8, addG m c ⟨8 * (t.val / 8) + s, point_lt t s⟩ j :=
  Pipeline.eq_sum_fin_of_reset_step_apply_of_flush (fun n h => ((outsAt0 m c n h).2.2.1 : S1x2048.Idx → EReal)) 8 (fun _ => 0) (addG m c)
    (fun t h j => by rw [first_g m c t h, zero_add]; rfl) (fun t h j => by rw [later_g m c t h]; exact point_add_g _ _ _ j) t h j

theorem kept_l (c : Dev nD) (t : Fin cfg0.N) (h : t.val % 8 = 7) (j : S8x128.Idx) : ((outsAt0 m c t.val t.isLt).2.2.2 : S8x128.Idx → EReal) j
    = 0 + ∑ s : Fin 8, addL m c ⟨8 * (t.val / 8) + s, point_lt t s⟩ j :=
  Pipeline.eq_sum_fin_of_reset_step_apply_of_flush (fun n h => ((outsAt0 m c n h).2.2.2 : S8x128.Idx → EReal)) 8 (fun _ => 0) (addL m c)
    (fun t h j => by rw [first_l m c t h, zero_add]; rfl) (fun t h j => by rw [later_l m c t h]; exact point_add_l _ _ j) t h j

/-! ### The arrays after the call -/

theorem left (c : Dev nD) (t : Fin cfg0.N) (a : Fin 256) (k : Fin 2048) : (k0_pay11 (iblk m c 0 t) (iblk m c 1 t) (iblk m c 2 t) : S256x2048.Idx → EReal) (ix2 a k)
    = outX (argX m c) (argG m c) (argY m c) ⟨256 * t.val + a, by have := lt_n t; omega⟩ k := by
  refine (point _ _ _ a k).trans ?_
  have hx := funext fun l => blk_0 m c t a l
  have hg := funext fun l => blk_1 m c t 0 l
  have hy := funext fun l => blk_2 m c t a l
  rw [hx, hg, hy]
  rfl

theorem final_x (c : Dev nD) : (dats m 0 c).arrAt 3 cfg0.N = fun i : S2048x2048.Idx => outX (argX m c) (argG m c) (argY m c) (i 0) (i 1) := by
  refine (dats m 0 c).arrAt_eq_of_covers 3 (fun i : S2048x2048.Idx => outX (argX m c) (argG m c) (argY m c) (i 0) (i 1)) (by decide +kernel) fun t hf (y : S256x2048.Idx) => ?_
  have io := (idx t).2.2.2.1
  have hy0 : (y 0).val < 256 := (y 0).isLt
  have hy1 : (y 1).val < 2048 := (y 1).isLt
  rw [after0_3, written_x m c t]
  refine (show _ = (k0_pay11 (iblk m c 0 t) (iblk m c 1 t) (iblk m c 2 t) : S256x2048.Idx → EReal) (ix2 (y 0) (y 1)) from congrArg (k0_pay11 (iblk m c 0 t) (iblk m c 1 t) (iblk m c 2 t) : S256x2048.Idx → EReal) (by
    funext k; fin_cases k <;> rfl)).trans ((left m c t (y 0) (y 1)).trans (congrArg₂ (outX (argX m c) (argG m c) (argY m c)) (Fin.ext ?_) (Fin.ext ?_)))
  · blk_simp [io]
    show 256 * t.val + (y 0).val = t.val * 256 + (y 0).val
    omega
  · blk_simp [io]

theorem final_bf16 (c : Dev nD) : (dats m 0 c).arrAt 4 cfg0.N = fun i : S2048x2048.Idx => outX (argX m c) (argG m c) (argY m c) (i 0) (i 1) := by
  refine (dats m 0 c).arrAt_eq_of_covers 4 (fun i : S2048x2048.Idx => outX (argX m c) (argG m c) (argY m c) (i 0) (i 1)) (by decide +kernel) fun t hf (y : S256x2048.Idx) => ?_
  have io := (idx t).2.2.2.2.1
  have hy0 : (y 0).val < 256 := (y 0).isLt
  have hy1 : (y 1).val < 2048 := (y 1).isLt
  rw [after0_4, written_bf16 m c t]
  refine (show _ = (k0_pay11 (iblk m c 0 t) (iblk m c 1 t) (iblk m c 2 t) : S256x2048.Idx → EReal) (ix2 (y 0) (y 1)) from congrArg (k0_pay12 (iblk m c 0 t) (iblk m c 1 t) (iblk m c 2 t) : S256x2048.Idx → EReal) (by
    funext k; fin_cases k <;> rfl)).trans ((left m c t (y 0) (y 1)).trans (congrArg₂ (outX (argX m c) (argG m c) (argY m c)) (Fin.ext ?_) (Fin.ext ?_)))
  · blk_simp [io]
    show 256 * t.val + (y 0).val = t.val * 256 + (y 0).val
    omega
  · blk_simp [io]

/-- Row `r` of what point `s` stages is row `256 s + r` of the arguments. -/
theorem row_0 (c : Dev nD) (t : Fin cfg0.N) (s : Fin 8) (r : Fin 256) (hl : s.val * 256 + r.val < 2048) :
    (fun l => (iblk m c 0 ⟨8 * (t.val / 8) + s, point_lt t s⟩ : S256x2048.Idx → EReal) (ix2 r l)) = fun l => argX m c (ix2 ⟨s.val * 256 + r.val, hl⟩ l) := by
  have ht := lt_n t
  funext l
  exact (blk_0 m c ⟨8 * (t.val / 8) + s, point_lt t s⟩ r l).trans (congrArg (fun q : Fin 2048 => argX m c (ix2 q l))
    (Fin.ext (by show 256 * (8 * (t.val / 8) + s.val) + r.val = s.val * 256 + r.val; omega)))

theorem row_2 (c : Dev nD) (t : Fin cfg0.N) (s : Fin 8) (r : Fin 256) (hl : s.val * 256 + r.val < 2048) :
    (fun l => (iblk m c 2 ⟨8 * (t.val / 8) + s, point_lt t s⟩ : S256x2048.Idx → EReal) (ix2 r l)) = fun l => argY m c (ix2 ⟨s.val * 256 + r.val, hl⟩ l) := by
  have ht := lt_n t
  funext l
  exact (blk_2 m c ⟨8 * (t.val / 8) + s, point_lt t s⟩ r l).trans (congrArg (fun q : Fin 2048 => argY m c (ix2 q l))
    (Fin.ext (by show 256 * (8 * (t.val / 8) + s.val) + r.val = s.val * 256 + r.val; omega)))

theorem left_g (c : Dev nD) (t : Fin cfg0.N) (h : t.val % 8 = 7) (a : Fin 1) (k : Fin 2048) : ((outsAt0 m c t.val t.isLt).2.2.1 : S1x2048.Idx → EReal) (ix2 a k)
    = outG (argX m c) (argG m c) (argY m c) k := by
  refine (kept_g m c t h _).trans ((zero_add _).trans ?_)
  refine (Finset.sum_congr rfl fun s _ => point_g _ _ _ a k).trans (Fin.sum_mul_add_congr fun s r hl => ?_)
  have hx := row_0 m c t s r hl
  have hg := funext fun l => blk_1 m c ⟨8 * (t.val / 8) + s, point_lt t s⟩ 0 l
  rw [hx, hg, row_2 m c t s r hl]
  exact congrArg₂ (· * ·) rfl (congrArg₂ (· * ·) (congrFun hx k) rfl)

theorem left_l (c : Dev nD) (t : Fin cfg0.N) (h : t.val % 8 = 7) (j : S8x128.Idx) : ((outsAt0 m c t.val t.isLt).2.2.2 : S8x128.Idx → EReal) j
    = outL (argX m c) (argG m c) (argY m c) := by
  refine (kept_l m c t h _).trans ((zero_add _).trans ?_)
  refine (Finset.sum_congr rfl fun s _ => point_l _ _ _).trans (Fin.sum_mul_add_congr fun s r hl => ?_)
  have hg := funext fun l => blk_1 m c ⟨8 * (t.val / 8) + s, point_lt t s⟩ 0 l
  rw [row_0 m c t s r hl, hg, row_2 m c t s r hl]

theorem final_g (c : Dev nD) : (dats m 0 c).arrAt 5 cfg0.N = fun i : S1x2048.Idx => outG (argX m c) (argG m c) (argY m c) (i 1) := by
  refine (dats m 0 c).arrAt_eq_of_covers 5 (fun i : S1x2048.Idx => outG (argX m c) (argG m c) (argY m c) (i 1)) (by decide +kernel) fun t hf (y : S1x2048.Idx) => ?_
  have io := (idx t).2.2.2.2.2.1
  have hy0 : (y 0).val < 1 := (y 0).isLt
  have hy1 : (y 1).val < 2048 := (y 1).isLt
  rw [after0_5]
  refine (show _ = ((outsAt0 m c t.val t.isLt).2.2.1 : S1x2048.Idx → EReal) (ix2 (y 0) (y 1)) from congrArg ((outsAt0 m c t.val t.isLt).2.2.1 : S1x2048.Idx → EReal) (by
    funext k; fin_cases k <;> rfl)).trans ((left_g m c t ((flush0_5 t).mp hf) (y 0) (y 1)).trans (congrArg (outG (argX m c) (argG m c) (argY m c)) (Fin.ext ?_)))
  blk_simp [io]

theorem final_l (c : Dev nD) : (dats m 0 c).arrAt 6 cfg0.N = fun _ : S8x128.Idx => outL (argX m c) (argG m c) (argY m c) := by
  refine (dats m 0 c).arrAt_eq_of_covers 6 (fun _ : S8x128.Idx => outL (argX m c) (argG m c) (argY m c)) (by decide +kernel) fun t hf (y : S8x128.Idx) => ?_
  rw [after0_6]
  exact left_l m c t ((flush0_6 t).mp hf) _

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v1_0) = (fun i : S2048x2048.Idx => outX (argX m c) (argG m c) (argY m c) (i 0) (i 1))
      ∧ r.2.mem ((c.tc : Thread nD τ).loc main_v1_1) = (fun i : S2048x2048.Idx => outX (argX m c) (argG m c) (argY m c) (i 0) (i 1))
      ∧ r.2.mem ((c.tc : Thread nD τ).loc main_v1_2) = (fun i : S1x2048.Idx => outG (argX m c) (argG m c) (argY m c) (i 1))
      ∧ r.2.mem ((c.tc : Thread nD τ).loc main_v1_3) = (fun _ : S8x128.Idx => outL (argX m c) (argG m c) (argY m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun r h c => ⟨(h c).1.trans (final_x m c), (h c).2.1.trans (final_bf16 m c), (h c).2.2.1.trans (final_g m c), (h c).2.2.2.1.trans (final_l m c), (h c).2.2.2.2⟩)
    (Value.run_blocks (F := Ideal) m ρ)

/-- The call leaves what the reference computes. -/
theorem algebraic : Cert.algebraic_LossHeadIdeal_LossHeadRefIdeal := fun m ρ m' ρ' _ hm =>
  ⟨_, _, _, _, run m ρ, (θ_run _ _ _).mono (fun r h c => by
      obtain ⟨e0, e1, e2⟩ := hm c
      refine ⟨(h c).1.trans ?_, (h c).2.1.trans ?_, (h c).2.2.1.trans ?_, (h c).2.2.2.1.trans ?_, (h c).2.2.2.2⟩
      · unfold Cert.LossHeadRefIdeal.Value.res_main_v50
        rw [e0, e1, e2]
        funext i
        have h0 : (i 0).val < 2048 := (i 0).isLt
        have h1 : (i 1).val < 2048 := (i 1).isLt
        rw [show i = @ix2 2048 2048 (i 0) (i 1) from by funext k; fin_cases k <;> rfl]
        unfold outX
        refine Eq.trans ?_ (Norm.reference_dx _ _ _ _)
        simp only [Norm.slope, ← Norm.reference_slope]
        pointwise [Norm.err, Norm.scale, Norm.under]
      · unfold Cert.LossHeadRefIdeal.Value.res_main_v51
        rw [e0, e1, e2]
        funext i
        have h0 : (i 0).val < 2048 := (i 0).isLt
        have h1 : (i 1).val < 2048 := (i 1).isLt
        rw [show i = @ix2 2048 2048 (i 0) (i 1) from by funext k; fin_cases k <;> rfl]
        unfold outX
        refine Eq.trans ?_ (Norm.reference_dx _ _ _ _)
        simp only [Norm.slope, ← Norm.reference_slope]
        pointwise [Norm.err, Norm.scale, Norm.under]
      · rw [e0, e1, e2]
        funext i
        have h0 : (i 0).val < 1 := (i 0).isLt
        have h1 : (i 1).val < 2048 := (i 1).isLt
        rw [show i = @ix2 1 2048 (i 0) (i 1) from by funext k; fin_cases k <;> rfl]
        simp only [outG, Norm.slope, ← Norm.reference_slope]
        pointwise [Norm.err, Norm.scale, Norm.under]
        exact (Fin.sum_univ_one _).trans (Finset.sum_congr rfl fun s _ => mul_comm _ _)
      · rw [e0, e1, e2]
        funext i
        unfold outL
        refine Eq.trans ?_ (Norm.reference_loss _ _ _)
        pointwise [Norm.err, Norm.scale, Norm.under]) (Cert.LossHeadRefIdeal.Value.run (F := Ideal) m' ρ')⟩

/-- The printed program and its idealization have one body table: nothing was rewritten. -/
theorem defs₀_eq : Cert.LossHead.defs₀ (F := Bits) = Cert.LossHeadIdeal.defs₀ (F := Bits) := by
  unfold Cert.LossHead.defs₀ Cert.LossHeadIdeal.defs₀
  refine congrArg (Defs.onTc (nD := nD) (τ := τ) (sig := sig) (Val := Elt Bits) (Λ := Λ₀)) ?_
  funext l a
  match l, a with
  | 0, (t, s) => rfl
  | ⟨_ + 1, h⟩, _ => exact absurd h (Nat.not_lt.2 (Nat.le_add_left _ _))

theorem defs_eq : Cert.LossHead.defs (F := Bits) = Cert.LossHeadIdeal.defs (F := Bits) := by
  unfold Cert.LossHead.defs Cert.LossHeadIdeal.defs
  rw [defs₀_eq]; rfl

theorem main_eq : Cert.LossHead.main (F := Bits) = Cert.LossHeadIdeal.main (F := Bits) := by
  unfold Cert.LossHead.main Cert.LossHeadIdeal.main
  rfl

theorem frame : Cert.quiescent_LossHead := fun m ρ _ => by
  rw [defs_eq, main_eq]
  exact Cert.LossHeadIdeal.Gen.frame (F := Bits) m ρ

theorem frameIdeal : Cert.quiescent_LossHeadIdeal := fun m ρ _ => Cert.LossHeadIdeal.Gen.frame (F := Ideal) m ρ

theorem frameReference : Cert.quiescent_LossHeadRefIdeal := fun m ρ _ =>
  (θ_run _ _ _).mono (fun r h => ⟨fun c => (h c).2.2.2.2, sem_eq_zero_of_no_sems (by decide) r.2⟩)
    (Cert.LossHeadRefIdeal.Value.run (F := Ideal) m ρ)

end Cert.LossHeadIdeal.Product

end
-- ==== Proof.Products.SmallStep.lean ====
module

public import proofs.«01_k».proof.Defs
public import proofs.«01_k».proof.Proof.Gen.SmallStep
public import proofs.«01_k».proof.Proof.Gen.SmallStepIdeal.Value
public import proofs.«01_k».proof.Proof.Gen.SmallStepRefIdeal.Run
public import proofs.«01_k».proof.Proof.Products.Adam

/-!
The optimiser's step of eleven small weights, packed one after the other into rows of 128.
-/

@[expose] public section

set_option maxRecDepth 16384

noncomputable section

namespace Cert.SmallStepIdeal.Product

open Cert.SmallStepIdeal Cert.SmallStepIdeal.Gen
open Idealize.ShloMosaic Idealize.ShloMosaic.TcCoe
open Idealize.SL Idealize.SL.Sem

/-! ### Where a point's blocks lie -/

theorem idx : ∀ t : Fin grid0.N, win0_0.index t = ![t.val, 0] ∧ win0_1.index t = ![t.val, 0] ∧ win0_2.index t = ![t.val, 0] ∧ win0_3.index t = ![0, t.val, 0] ∧ win0_4.index t = ![t.val, 0] ∧ win0_5.index t = ![t.val, 0] ∧ win0_6.index t = ![t.val, 0] ∧ win0_7.index t = ![t.val, 0] := by decide +kernel

theorem lt_n (t : Fin cfg0.N) : t.val < 75 := lt_of_lt_of_eq t.isLt (by decide +kernel)

variable (m : (ℓ : Loc nD τ sig) → Buf (Elt Ideal) ℓ)

theorem blk_0 (c : Dev nD) (t : Fin cfg0.N) (a : Fin 16) (b : Fin 128) : (iblk m c 0 t : S16x128.Idx → EReal) (ix2 a b)
    = (m ((c.tc : Thread nD τ).loc main_arg0) : S1200x128.Idx → EReal) (ix2 ⟨16 * t.val + a, by have := lt_n t; omega⟩ b) := by
  have := lt_n t
  blk_ext! [iblk, V, (idx t).1]

theorem blk_1 (c : Dev nD) (t : Fin cfg0.N) (a : Fin 16) (b : Fin 128) : (iblk m c 1 t : S16x128.Idx → EReal) (ix2 a b)
    = (m ((c.tc : Thread nD τ).loc main_arg1) : S1200x128.Idx → EReal) (ix2 ⟨16 * t.val + a, by have := lt_n t; omega⟩ b) := by
  have := lt_n t
  blk_ext! [iblk, V, (idx t).2.1]

theorem blk_2 (c : Dev nD) (t : Fin cfg0.N) (a : Fin 16) (b : Fin 128) : (iblk m c 2 t : S16x128.Idx → EReal) (ix2 a b)
    = (m ((c.tc : Thread nD τ).loc main_arg2) : S1200x128.Idx → EReal) (ix2 ⟨16 * t.val + a, by have := lt_n t; omega⟩ b) := by
  have := lt_n t
  blk_ext! [iblk, V, (idx t).2.2.1]

theorem blk_3 (c : Dev nD) (t : Fin cfg0.N) (a : Fin 16) (b : Fin 128) : (iblk m c 3 t : S1x16x128.Idx → EReal) (ix3 0 a b)
    = (m ((c.tc : Thread nD τ).loc main_arg3) : S1x1200x128.Idx → EReal) (ix3 0 ⟨16 * t.val + a, by have := lt_n t; omega⟩ b) := by
  have := lt_n t
  blk_ext! [iblk, V, (idx t).2.2.2.1]

/-! ### What a point leaves -/

theorem store_4 (x0 x1 x2 : Vec Ideal S16x128 .f32) (x3 : Vec Ideal S1x16x128 .f32) : out0_4 x0 x1 x2 x3 = k0_pay1 x3 := by
  unfold out0_4
  rw [View.canon_cons_unit_lit _ _ _ (by decide), View.ld_unit_lit _ _ (by decide)]

theorem store_5 (x0 x1 x2 : Vec Ideal S16x128 .f32) (x3 : Vec Ideal S1x16x128 .f32) : out0_5 x0 x1 x2 x3 = k0_pay4 x3 x1 x2 x0 := by
  unfold out0_5
  rw [View.canon_cons_unit_lit _ _ _ (by decide), View.ld_unit_lit _ _ (by decide), View.ld_unit_lit _ _ (by decide), View.ld_unit_lit _ _ (by decide), View.ld_unit_lit _ _ (by decide)]

theorem store_6 (x0 x1 x2 : Vec Ideal S16x128 .f32) (x3 : Vec Ideal S1x16x128 .f32) : out0_6 x0 x1 x2 x3 = k0_pay2 x3 x1 := by
  unfold out0_6
  rw [View.canon_cons_unit_lit _ _ _ (by decide), View.ld_unit_lit _ _ (by decide), View.ld_unit_lit _ _ (by decide)]

theorem store_7 (x0 x1 x2 : Vec Ideal S16x128 .f32) (x3 : Vec Ideal S1x16x128 .f32) : out0_7 x0 x1 x2 x3 = k0_pay3 x3 x2 := by
  unfold out0_7
  rw [View.canon_cons_unit_lit _ _ _ (by decide), View.ld_unit_lit _ _ (by decide), View.ld_unit_lit _ _ (by decide)]

theorem point_4 (x3 : Vec Ideal S1x16x128 .f32) (a : Fin 16) (b : Fin 128) : (k0_pay1 x3 : S16x128.Idx → EReal) (ix2 a b)
    = ((x3 : S1x16x128.Idx → EReal) (ix3 0 a b)) := by
  pointwise [k0_pay1]

theorem point_5 (x0 x1 x2 : Vec Ideal S16x128 .f32) (x3 : Vec Ideal S1x16x128 .f32) (a : Fin 16) (b : Fin 128) : (k0_pay4 x3 x1 x2 x0 : S16x128.Idx → EReal) (ix2 a b)
    = Adam.delta ((x3 : S1x16x128.Idx → EReal) (ix3 0 a b)) ((x0 : S16x128.Idx → EReal) (ix2 a b)) ((x1 : S16x128.Idx → EReal) (ix2 a b)) ((x2 : S16x128.Idx → EReal) (ix2 a b)) := by
  pointwise [k0_pay4, k0_pay3, k0_pay2, k0_pay1, Adam.delta, Adam.mean, Adam.square]

theorem point_6 (x1 : Vec Ideal S16x128 .f32) (x3 : Vec Ideal S1x16x128 .f32) (a : Fin 16) (b : Fin 128) : (k0_pay2 x3 x1 : S16x128.Idx → EReal) (ix2 a b)
    = Adam.mean ((x3 : S1x16x128.Idx → EReal) (ix3 0 a b)) ((x1 : S16x128.Idx → EReal) (ix2 a b)) := by
  pointwise [k0_pay2, k0_pay1, Adam.mean]

theorem point_7 (x2 : Vec Ideal S16x128 .f32) (x3 : Vec Ideal S1x16x128 .f32) (a : Fin 16) (b : Fin 128) : (k0_pay3 x3 x2 : S16x128.Idx → EReal) (ix2 a b)
    = Adam.square ((x3 : S1x16x128.Idx → EReal) (ix3 0 a b)) ((x2 : S16x128.Idx → EReal) (ix2 a b)) := by
  pointwise [k0_pay3, k0_pay1, Adam.square]

/-! ### The four results, at an index -/

def outG (c : Dev nD) (r : Fin 1200) (b : Fin 128) : EReal := (m ((c.tc : Thread nD τ).loc main_arg3) : S1x1200x128.Idx → EReal) (ix3 0 r b)

def outD (c : Dev nD) (r : Fin 1200) (b : Fin 128) : EReal := Adam.delta (outG m c r b) ((m ((c.tc : Thread nD τ).loc main_arg0) : S1200x128.Idx → EReal) (ix2 r b)) ((m ((c.tc : Thread nD τ).loc main_arg1) : S1200x128.Idx → EReal) (ix2 r b)) ((m ((c.tc : Thread nD τ).loc main_arg2) : S1200x128.Idx → EReal) (ix2 r b))

def outM (c : Dev nD) (r : Fin 1200) (b : Fin 128) : EReal := Adam.mean (outG m c r b) ((m ((c.tc : Thread nD τ).loc main_arg1) : S1200x128.Idx → EReal) (ix2 r b))

def outV (c : Dev nD) (r : Fin 1200) (b : Fin 128) : EReal := Adam.square (outG m c r b) ((m ((c.tc : Thread nD τ).loc main_arg2) : S1200x128.Idx → EReal) (ix2 r b))

theorem left_4 (c : Dev nD) (t : Fin cfg0.N) (a : Fin 16) (b : Fin 128) : ((dats m 0 c).after 4 t : S16x128.Idx → EReal) (ix2 a b)
    = outG m c ⟨16 * t.val + a, by have := lt_n t; omega⟩ b := by
  rw [after0_4, store_4]
  exact (point_4 _ a b).trans (blk_3 m c t a b)

theorem final_4 (c : Dev nD) : (dats m 0 c).arrAt 4 cfg0.N = fun i : S1200x128.Idx => outG m c (i 0) (i 1) := by
  refine (dats m 0 c).arrAt_eq_of_covers 4 (fun i : S1200x128.Idx => outG m c (i 0) (i 1)) (by decide +kernel) fun t hf (y : S16x128.Idx) => ?_
  have ht := lt_n t
  have io := (idx t).2.2.2.2.1
  have hy0 : (y 0).val < 16 := (y 0).isLt
  have hy1 : (y 1).val < 128 := (y 1).isLt
  refine (show _ = ((dats m 0 c).after 4 t : S16x128.Idx → EReal) (ix2 (y 0) (y 1)) from congrArg ((dats m 0 c).after 4 t : S16x128.Idx → EReal) (by
    funext k; fin_cases k <;> rfl)).trans ((left_4 m c t (y 0) (y 1)).trans (congrArg₂ (outG m c) (Fin.ext ?_) (Fin.ext ?_)))
  all_goals blk_simp [io]
  show 16 * t.val + (y 0).val = t.val * 16 + (y 0).val
  omega

theorem left_5 (c : Dev nD) (t : Fin cfg0.N) (a : Fin 16) (b : Fin 128) : ((dats m 0 c).after 5 t : S16x128.Idx → EReal) (ix2 a b)
    = outD m c ⟨16 * t.val + a, by have := lt_n t; omega⟩ b := by
  rw [after0_5, store_5]
  exact (point_5 _ _ _ _ a b).trans (Adam.delta_congr (blk_3 m c t a b) (blk_0 m c t a b) (blk_1 m c t a b) (blk_2 m c t a b))

theorem final_5 (c : Dev nD) : (dats m 0 c).arrAt 5 cfg0.N = fun i : S1200x128.Idx => outD m c (i 0) (i 1) := by
  refine (dats m 0 c).arrAt_eq_of_covers 5 (fun i : S1200x128.Idx => outD m c (i 0) (i 1)) (by decide +kernel) fun t hf (y : S16x128.Idx) => ?_
  have ht := lt_n t
  have io := (idx t).2.2.2.2.2.1
  have hy0 : (y 0).val < 16 := (y 0).isLt
  have hy1 : (y 1).val < 128 := (y 1).isLt
  refine (show _ = ((dats m 0 c).after 5 t : S16x128.Idx → EReal) (ix2 (y 0) (y 1)) from congrArg ((dats m 0 c).after 5 t : S16x128.Idx → EReal) (by
    funext k; fin_cases k <;> rfl)).trans ((left_5 m c t (y 0) (y 1)).trans (congrArg₂ (outD m c) (Fin.ext ?_) (Fin.ext ?_)))
  all_goals blk_simp [io]
  show 16 * t.val + (y 0).val = t.val * 16 + (y 0).val
  omega

theorem left_6 (c : Dev nD) (t : Fin cfg0.N) (a : Fin 16) (b : Fin 128) : ((dats m 0 c).after 6 t : S16x128.Idx → EReal) (ix2 a b)
    = outM m c ⟨16 * t.val + a, by have := lt_n t; omega⟩ b := by
  rw [after0_6, store_6]
  exact (point_6 _ _ a b).trans (congrArg₂ Adam.mean (blk_3 m c t a b) (blk_1 m c t a b))

theorem final_6 (c : Dev nD) : (dats m 0 c).arrAt 6 cfg0.N = fun i : S1200x128.Idx => outM m c (i 0) (i 1) := by
  refine (dats m 0 c).arrAt_eq_of_covers 6 (fun i : S1200x128.Idx => outM m c (i 0) (i 1)) (by decide +kernel) fun t hf (y : S16x128.Idx) => ?_
  have ht := lt_n t
  have io := (idx t).2.2.2.2.2.2.1
  have hy0 : (y 0).val < 16 := (y 0).isLt
  have hy1 : (y 1).val < 128 := (y 1).isLt
  refine (show _ = ((dats m 0 c).after 6 t : S16x128.Idx → EReal) (ix2 (y 0) (y 1)) from congrArg ((dats m 0 c).after 6 t : S16x128.Idx → EReal) (by
    funext k; fin_cases k <;> rfl)).trans ((left_6 m c t (y 0) (y 1)).trans (congrArg₂ (outM m c) (Fin.ext ?_) (Fin.ext ?_)))
  all_goals blk_simp [io]
  show 16 * t.val + (y 0).val = t.val * 16 + (y 0).val
  omega

theorem left_7 (c : Dev nD) (t : Fin cfg0.N) (a : Fin 16) (b : Fin 128) : ((dats m 0 c).after 7 t : S16x128.Idx → EReal) (ix2 a b)
    = outV m c ⟨16 * t.val + a, by have := lt_n t; omega⟩ b := by
  rw [after0_7, store_7]
  exact (point_7 _ _ a b).trans (congrArg₂ Adam.square (blk_3 m c t a b) (blk_2 m c t a b))

theorem final_7 (c : Dev nD) : (dats m 0 c).arrAt 7 cfg0.N = fun i : S1200x128.Idx => outV m c (i 0) (i 1) := by
  refine (dats m 0 c).arrAt_eq_of_covers 7 (fun i : S1200x128.Idx => outV m c (i 0) (i 1)) (by decide +kernel) fun t hf (y : S16x128.Idx) => ?_
  have ht := lt_n t
  have io := (idx t).2.2.2.2.2.2.2
  have hy0 : (y 0).val < 16 := (y 0).isLt
  have hy1 : (y 1).val < 128 := (y 1).isLt
  refine (show _ = ((dats m 0 c).after 7 t : S16x128.Idx → EReal) (ix2 (y 0) (y 1)) from congrArg ((dats m 0 c).after 7 t : S16x128.Idx → EReal) (by
    funext k; fin_cases k <;> rfl)).trans ((left_7 m c t (y 0) (y 1)).trans (congrArg₂ (outV m c) (Fin.ext ?_) (Fin.ext ?_)))
  all_goals blk_simp [io]
  show 16 * t.val + (y 0).val = t.val * 16 + (y 0).val
  omega

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0_0) = (fun i : S1200x128.Idx => outG m c (i 0) (i 1))
      ∧ r.2.mem ((c.tc : Thread nD τ).loc main_v0_1) = (fun i : S1200x128.Idx => outD m c (i 0) (i 1))
      ∧ r.2.mem ((c.tc : Thread nD τ).loc main_v0_2) = (fun i : S1200x128.Idx => outM m c (i 0) (i 1))
      ∧ r.2.mem ((c.tc : Thread nD τ).loc main_v0_3) = (fun i : S1200x128.Idx => outV m c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun r h c => ⟨(h c).1.trans (final_4 m c), (h c).2.1.trans (final_5 m c), (h c).2.2.1.trans (final_6 m c), (h c).2.2.2.1.trans (final_7 m c), (h c).2.2.2.2⟩) (Value.run_blocks (F := Ideal) m ρ)

end Cert.SmallStepIdeal.Product

/-! ### The reference, at an index -/

namespace Cert.SmallStepRefIdeal.Product

open Cert.SmallStepRefIdeal Cert.SmallStepRefIdeal.Gen
open Idealize.ShloMosaic Idealize.ShloMosaic.TcCoe
open Idealize.SL Idealize.SL.Sem

theorem grad_at (x3 : Vec Ideal S1x1200x128 .f32) (i : S1200x128.Idx) : (Host.reduceAdd (F := Ideal) x3 (constant S_ .f32 0x00000000#32) reducesTo_S1x1200x128_S1200x128_d0 h_S_ : S1200x128.Idx → EReal) i
    = (x3 : S1x1200x128.Idx → EReal) (ix3 0 (i 0) (i 1)) := by
  rw [show i = @ix2 1200 128 (i 0) (i 1) from by funext k; fin_cases k <;> rfl]
  pointwise []
  exact Fin.sum_univ_one _

theorem mean_at (g : FVec Ideal S1200x128 .f32) (x1 : Vec Ideal S1200x128 .f32) (i : S1200x128.Idx) : (addf (mulf (broadcastInDim S1200x128 ![] bcast_S_S1200x128 (constant S_ .f32 0x3F666666#32)) x1) (mulf (broadcastInDim S1200x128 ![] bcast_S_S1200x128 (constant S_ .f32 0x3DCCCCCD#32)) g) : S1200x128.Idx → EReal) i = Adam.mean (g i) (x1 i) := by
  pointwise [Adam.mean]

theorem square_at (g : FVec Ideal S1200x128 .f32) (x2 : Vec Ideal S1200x128 .f32) (i : S1200x128.Idx) : (addf (mulf (broadcastInDim S1200x128 ![] bcast_S_S1200x128 (constant S_ .f32 0x3F7FBE77#32)) x2) (mulf (broadcastInDim S1200x128 ![] bcast_S_S1200x128 (constant S_ .f32 0x3A83126F#32)) (mulf g g)) : S1200x128.Idx → EReal) i = Adam.square (g i) (x2 i) := by
  pointwise [Adam.square]

theorem delta_at (g : FVec Ideal S1200x128 .f32) (x0 x1 x2 : Vec Ideal S1200x128 .f32) (i : S1200x128.Idx) : (mulf (broadcastInDim S1200x128 ![] bcast_S_S1200x128 (constant S_ .f32 0xBA83126F#32)) (addf (Host.divf (Host.divf (addf (mulf (broadcastInDim S1200x128 ![] bcast_S_S1200x128 (constant S_ .f32 0x3F666666#32)) x1) (mulf (broadcastInDim S1200x128 ![] bcast_S_S1200x128 (constant S_ .f32 0x3DCCCCCD#32)) g)) (broadcastInDim S1200x128 ![] bcast_S_S1200x128 (constant S_ .f32 0x3F26BD02#32))) (addf (Host.sqrt (Host.divf (addf (mulf (broadcastInDim S1200x128 ![] bcast_S_S1200x128 (constant S_ .f32 0x3F7FBE77#32)) x2) (mulf (broadcastInDim S1200x128 ![] bcast_S_S1200x128 (constant S_ .f32 0x3A83126F#32)) (mulf g g))) (broadcastInDim S1200x128 ![] bcast_S_S1200x128 (constant S_ .f32 0x3C231ACC#32)))) (broadcastInDim S1200x128 ![] bcast_S_S1200x128 (constant S_ .f32 0x322BCC77#32)))) (mulf (broadcastInDim S1200x128 ![] bcast_S_S1200x128 (constant S_ .f32 0x3C23D70A#32)) x0)) : S1200x128.Idx → EReal) i = Adam.delta (g i) (x0 i) (x1 i) (x2 i) := by
  pointwise [Adam.delta, Adam.mean, Adam.square]

end Cert.SmallStepRefIdeal.Product

namespace Cert.SmallStepIdeal.Product

open Cert.SmallStepIdeal Cert.SmallStepIdeal.Gen
open Idealize.ShloMosaic Idealize.ShloMosaic.TcCoe
open Idealize.SL Idealize.SL.Sem

/-! ### The claims -/

/-- The call leaves what the reference computes. -/
theorem algebraic : Cert.algebraic_SmallStepIdeal_SmallStepRefIdeal := fun m ρ m' ρ' _ hm =>
  ⟨_, _, _, _, run m ρ, (θ_run _ _ _).mono (fun r h c => by
      obtain rfl : c = 0 := Subsingleton.elim _ _
      obtain ⟨e0, e1, e2, e3⟩ := hm 0
      have hg (i : S1200x128.Idx) := (Cert.SmallStepRefIdeal.Product.grad_at (m' (((0 : Dev Cert.SmallStepRefIdeal.nD).tc : Thread Cert.SmallStepRefIdeal.nD Cert.SmallStepRefIdeal.τ).loc Cert.SmallStepRefIdeal.main_arg3)) i).trans (by rw [e3]; rfl : _ = outG m 0 (i 0) (i 1))
      have hi (i : S1200x128.Idx) : i = @ix2 1200 128 (i 0) (i 1) := by funext k; fin_cases k <;> rfl
      have h0 (i : S1200x128.Idx) := (congrFun e0 i).trans (congrArg (m (((0 : Dev nD).tc : Thread nD τ).loc main_arg0) : S1200x128.Idx → EReal) (hi i))
      have h1 (i : S1200x128.Idx) := (congrFun e1 i).trans (congrArg (m (((0 : Dev nD).tc : Thread nD τ).loc main_arg1) : S1200x128.Idx → EReal) (hi i))
      have h2 (i : S1200x128.Idx) := (congrFun e2 i).trans (congrArg (m (((0 : Dev nD).tc : Thread nD τ).loc main_arg2) : S1200x128.Idx → EReal) (hi i))
      refine ⟨(h 0).1.trans (funext hg), (h 0).2.1.trans (funext fun i => ?_), (h 0).2.2.1.trans (funext fun i => ?_), (h 0).2.2.2.1.trans (funext fun i => ?_), (h 0).2.2.2.2⟩
      · exact (Cert.SmallStepRefIdeal.Product.delta_at _ _ _ _ i).trans (Adam.delta_congr (hg i) (h0 i) (h1 i) (h2 i))
      · exact (Cert.SmallStepRefIdeal.Product.mean_at _ _ i).trans (congrArg₂ Adam.mean (hg i) (h1 i))
      · exact (Cert.SmallStepRefIdeal.Product.square_at _ _ i).trans (congrArg₂ Adam.square (hg i) (h2 i))) (Cert.SmallStepRefIdeal.Value.run (F := Ideal) m' ρ')⟩

/-- The printed program and its idealization have one body table: nothing was rewritten. -/
theorem defs₀_eq : Cert.SmallStep.defs₀ (F := Bits) = Cert.SmallStepIdeal.defs₀ (F := Bits) := by
  unfold Cert.SmallStep.defs₀ Cert.SmallStepIdeal.defs₀
  refine congrArg (Defs.onTc (nD := nD) (τ := τ) (sig := sig) (Val := Elt Bits) (Λ := Λ₀)) ?_
  funext l a
  match l, a with
  | 0, (t, s) => rfl
  | ⟨_ + 1, h⟩, _ => exact absurd h (Nat.not_lt.2 (Nat.le_add_left _ _))

theorem defs_eq : Cert.SmallStep.defs (F := Bits) = Cert.SmallStepIdeal.defs (F := Bits) := by
  unfold Cert.SmallStep.defs Cert.SmallStepIdeal.defs
  rw [defs₀_eq]; rfl

theorem frame : Cert.quiescent_SmallStep := fun m ρ _ => by
  rw [defs_eq]
  exact Cert.SmallStepIdeal.Gen.frame (F := Bits) m ρ

theorem frameIdeal : Cert.quiescent_SmallStepIdeal := fun m ρ _ => Cert.SmallStepIdeal.Gen.frame (F := Ideal) m ρ

theorem frameReference : Cert.quiescent_SmallStepRefIdeal := fun m ρ _ =>
  (θ_run _ _ _).mono (fun r h => ⟨fun c => (h c).2.2.2.2, sem_eq_zero_of_no_sems (by decide) r.2⟩)
    (Cert.SmallStepRefIdeal.Value.run (F := Ideal) m ρ)

end Cert.SmallStepIdeal.Product

end
-- ==== Proof.Products.LastStep.lean ====
module

public import proofs.«01_k».proof.Defs
public import proofs.«01_k».proof.Proof.Gen.LastStep
public import proofs.«01_k».proof.Proof.Gen.LastStepIdeal.Value
public import proofs.«01_k».proof.Proof.Gen.LastStepRefIdeal.Run
public import proofs.«01_k».proof.Proof.Products.Adam

/-!
The optimiser's step of the first norm's gains, packed into rows of 128.
-/

@[expose] public section

set_option maxRecDepth 16384

noncomputable section

namespace Cert.LastStepIdeal.Product

open Cert.LastStepIdeal Cert.LastStepIdeal.Gen
open Idealize.ShloMosaic Idealize.ShloMosaic.TcCoe
open Idealize.SL Idealize.SL.Sem

/-! ### Where a point's blocks lie -/

theorem idx : ∀ t : Fin grid0.N, win0_0.index t = ![t.val, 0] ∧ win0_1.index t = ![t.val, 0] ∧ win0_2.index t = ![t.val, 0] ∧ win0_3.index t = ![0, t.val, 0] ∧ win0_4.index t = ![t.val, 0] ∧ win0_5.index t = ![t.val, 0] ∧ win0_6.index t = ![t.val, 0] ∧ win0_7.index t = ![t.val, 0] := by decide +kernel

theorem lt_n (t : Fin cfg0.N) : t.val < 1 := lt_of_lt_of_eq t.isLt (by decide +kernel)

variable (m : (ℓ : Loc nD τ sig) → Buf (Elt Ideal) ℓ)

theorem blk_0 (c : Dev nD) (t : Fin cfg0.N) (a : Fin 16) (b : Fin 128) : (iblk m c 0 t : S16x128.Idx → EReal) (ix2 a b)
    = (m ((c.tc : Thread nD τ).loc main_arg0) : S16x128.Idx → EReal) (ix2 ⟨16 * t.val + a, by have := lt_n t; omega⟩ b) := by
  have := lt_n t
  blk_ext! [iblk, V, (idx t).1]

theorem blk_1 (c : Dev nD) (t : Fin cfg0.N) (a : Fin 16) (b : Fin 128) : (iblk m c 1 t : S16x128.Idx → EReal) (ix2 a b)
    = (m ((c.tc : Thread nD τ).loc main_arg1) : S16x128.Idx → EReal) (ix2 ⟨16 * t.val + a, by have := lt_n t; omega⟩ b) := by
  have := lt_n t
  blk_ext! [iblk, V, (idx t).2.1]

theorem blk_2 (c : Dev nD) (t : Fin cfg0.N) (a : Fin 16) (b : Fin 128) : (iblk m c 2 t : S16x128.Idx → EReal) (ix2 a b)
    = (m ((c.tc : Thread nD τ).loc main_arg2) : S16x128.Idx → EReal) (ix2 ⟨16 * t.val + a, by have := lt_n t; omega⟩ b) := by
  have := lt_n t
  blk_ext! [iblk, V, (idx t).2.2.1]

theorem blk_3 (c : Dev nD) (t : Fin cfg0.N) (a : Fin 16) (b : Fin 128) : (iblk m c 3 t : S1x16x128.Idx → EReal) (ix3 0 a b)
    = (m ((c.tc : Thread nD τ).loc main_arg3) : S1x16x128.Idx → EReal) (ix3 0 ⟨16 * t.val + a, by have := lt_n t; omega⟩ b) := by
  have := lt_n t
  blk_ext! [iblk, V, (idx t).2.2.2.1]

/-! ### What a point leaves -/

theorem store_4 (x0 x1 x2 : Vec Ideal S16x128 .f32) (x3 : Vec Ideal S1x16x128 .f32) : out0_4 x0 x1 x2 x3 = k0_pay1 x3 := by
  unfold out0_4
  rw [View.canon_cons_unit_lit _ _ _ (by decide), View.ld_unit_lit _ _ (by decide)]

theorem store_5 (x0 x1 x2 : Vec Ideal S16x128 .f32) (x3 : Vec Ideal S1x16x128 .f32) : out0_5 x0 x1 x2 x3 = k0_pay4 x3 x1 x2 x0 := by
  unfold out0_5
  rw [View.canon_cons_unit_lit _ _ _ (by decide), View.ld_unit_lit _ _ (by decide), View.ld_unit_lit _ _ (by decide), View.ld_unit_lit _ _ (by decide), View.ld_unit_lit _ _ (by decide)]

theorem store_6 (x0 x1 x2 : Vec Ideal S16x128 .f32) (x3 : Vec Ideal S1x16x128 .f32) : out0_6 x0 x1 x2 x3 = k0_pay2 x3 x1 := by
  unfold out0_6
  rw [View.canon_cons_unit_lit _ _ _ (by decide), View.ld_unit_lit _ _ (by decide), View.ld_unit_lit _ _ (by decide)]

theorem store_7 (x0 x1 x2 : Vec Ideal S16x128 .f32) (x3 : Vec Ideal S1x16x128 .f32) : out0_7 x0 x1 x2 x3 = k0_pay3 x3 x2 := by
  unfold out0_7
  rw [View.canon_cons_unit_lit _ _ _ (by decide), View.ld_unit_lit _ _ (by decide), View.ld_unit_lit _ _ (by decide)]

theorem point_4 (x3 : Vec Ideal S1x16x128 .f32) (a : Fin 16) (b : Fin 128) : (k0_pay1 x3 : S16x128.Idx → EReal) (ix2 a b)
    = ((x3 : S1x16x128.Idx → EReal) (ix3 0 a b)) := by
  pointwise [k0_pay1]

theorem point_5 (x0 x1 x2 : Vec Ideal S16x128 .f32) (x3 : Vec Ideal S1x16x128 .f32) (a : Fin 16) (b : Fin 128) : (k0_pay4 x3 x1 x2 x0 : S16x128.Idx → EReal) (ix2 a b)
    = Adam.delta ((x3 : S1x16x128.Idx → EReal) (ix3 0 a b)) ((x0 : S16x128.Idx → EReal) (ix2 a b)) ((x1 : S16x128.Idx → EReal) (ix2 a b)) ((x2 : S16x128.Idx → EReal) (ix2 a b)) := by
  pointwise [k0_pay4, k0_pay3, k0_pay2, k0_pay1, Adam.delta, Adam.mean, Adam.square]

theorem point_6 (x1 : Vec Ideal S16x128 .f32) (x3 : Vec Ideal S1x16x128 .f32) (a : Fin 16) (b : Fin 128) : (k0_pay2 x3 x1 : S16x128.Idx → EReal) (ix2 a b)
    = Adam.mean ((x3 : S1x16x128.Idx → EReal) (ix3 0 a b)) ((x1 : S16x128.Idx → EReal) (ix2 a b)) := by
  pointwise [k0_pay2, k0_pay1, Adam.mean]

theorem point_7 (x2 : Vec Ideal S16x128 .f32) (x3 : Vec Ideal S1x16x128 .f32) (a : Fin 16) (b : Fin 128) : (k0_pay3 x3 x2 : S16x128.Idx → EReal) (ix2 a b)
    = Adam.square ((x3 : S1x16x128.Idx → EReal) (ix3 0 a b)) ((x2 : S16x128.Idx → EReal) (ix2 a b)) := by
  pointwise [k0_pay3, k0_pay1, Adam.square]

/-! ### The four results, at an index -/

def outG (c : Dev nD) (r : Fin 16) (b : Fin 128) : EReal := (m ((c.tc : Thread nD τ).loc main_arg3) : S1x16x128.Idx → EReal) (ix3 0 r b)

def outD (c : Dev nD) (r : Fin 16) (b : Fin 128) : EReal := Adam.delta (outG m c r b) ((m ((c.tc : Thread nD τ).loc main_arg0) : S16x128.Idx → EReal) (ix2 r b)) ((m ((c.tc : Thread nD τ).loc main_arg1) : S16x128.Idx → EReal) (ix2 r b)) ((m ((c.tc : Thread nD τ).loc main_arg2) : S16x128.Idx → EReal) (ix2 r b))

def outM (c : Dev nD) (r : Fin 16) (b : Fin 128) : EReal := Adam.mean (outG m c r b) ((m ((c.tc : Thread nD τ).loc main_arg1) : S16x128.Idx → EReal) (ix2 r b))

def outV (c : Dev nD) (r : Fin 16) (b : Fin 128) : EReal := Adam.square (outG m c r b) ((m ((c.tc : Thread nD τ).loc main_arg2) : S16x128.Idx → EReal) (ix2 r b))

theorem left_4 (c : Dev nD) (t : Fin cfg0.N) (a : Fin 16) (b : Fin 128) : ((dats m 0 c).after 4 t : S16x128.Idx → EReal) (ix2 a b)
    = outG m c ⟨16 * t.val + a, by have := lt_n t; omega⟩ b := by
  rw [after0_4, store_4]
  exact (point_4 _ a b).trans (blk_3 m c t a b)

theorem final_4 (c : Dev nD) : (dats m 0 c).arrAt 4 cfg0.N = fun i : S16x128.Idx => outG m c (i 0) (i 1) := by
  refine (dats m 0 c).arrAt_eq_of_covers 4 (fun i : S16x128.Idx => outG m c (i 0) (i 1)) (by decide +kernel) fun t hf (y : S16x128.Idx) => ?_
  have ht := lt_n t
  have io := (idx t).2.2.2.2.1
  have hy0 : (y 0).val < 16 := (y 0).isLt
  have hy1 : (y 1).val < 128 := (y 1).isLt
  refine (show _ = ((dats m 0 c).after 4 t : S16x128.Idx → EReal) (ix2 (y 0) (y 1)) from congrArg ((dats m 0 c).after 4 t : S16x128.Idx → EReal) (by
    funext k; fin_cases k <;> rfl)).trans ((left_4 m c t (y 0) (y 1)).trans (congrArg₂ (outG m c) (Fin.ext ?_) (Fin.ext ?_)))
  all_goals blk_simp [io]
  show 16 * 0 + (y 0).val = (y 0).val
  omega

theorem left_5 (c : Dev nD) (t : Fin cfg0.N) (a : Fin 16) (b : Fin 128) : ((dats m 0 c).after 5 t : S16x128.Idx → EReal) (ix2 a b)
    = outD m c ⟨16 * t.val + a, by have := lt_n t; omega⟩ b := by
  rw [after0_5, store_5]
  exact (point_5 _ _ _ _ a b).trans (Adam.delta_congr (blk_3 m c t a b) (blk_0 m c t a b) (blk_1 m c t a b) (blk_2 m c t a b))

theorem final_5 (c : Dev nD) : (dats m 0 c).arrAt 5 cfg0.N = fun i : S16x128.Idx => outD m c (i 0) (i 1) := by
  refine (dats m 0 c).arrAt_eq_of_covers 5 (fun i : S16x128.Idx => outD m c (i 0) (i 1)) (by decide +kernel) fun t hf (y : S16x128.Idx) => ?_
  have ht := lt_n t
  have io := (idx t).2.2.2.2.2.1
  have hy0 : (y 0).val < 16 := (y 0).isLt
  have hy1 : (y 1).val < 128 := (y 1).isLt
  refine (show _ = ((dats m 0 c).after 5 t : S16x128.Idx → EReal) (ix2 (y 0) (y 1)) from congrArg ((dats m 0 c).after 5 t : S16x128.Idx → EReal) (by
    funext k; fin_cases k <;> rfl)).trans ((left_5 m c t (y 0) (y 1)).trans (congrArg₂ (outD m c) (Fin.ext ?_) (Fin.ext ?_)))
  all_goals blk_simp [io]
  show 16 * 0 + (y 0).val = (y 0).val
  omega

theorem left_6 (c : Dev nD) (t : Fin cfg0.N) (a : Fin 16) (b : Fin 128) : ((dats m 0 c).after 6 t : S16x128.Idx → EReal) (ix2 a b)
    = outM m c ⟨16 * t.val + a, by have := lt_n t; omega⟩ b := by
  rw [after0_6, store_6]
  exact (point_6 _ _ a b).trans (congrArg₂ Adam.mean (blk_3 m c t a b) (blk_1 m c t a b))

theorem final_6 (c : Dev nD) : (dats m 0 c).arrAt 6 cfg0.N = fun i : S16x128.Idx => outM m c (i 0) (i 1) := by
  refine (dats m 0 c).arrAt_eq_of_covers 6 (fun i : S16x128.Idx => outM m c (i 0) (i 1)) (by decide +kernel) fun t hf (y : S16x128.Idx) => ?_
  have ht := lt_n t
  have io := (idx t).2.2.2.2.2.2.1
  have hy0 : (y 0).val < 16 := (y 0).isLt
  have hy1 : (y 1).val < 128 := (y 1).isLt
  refine (show _ = ((dats m 0 c).after 6 t : S16x128.Idx → EReal) (ix2 (y 0) (y 1)) from congrArg ((dats m 0 c).after 6 t : S16x128.Idx → EReal) (by
    funext k; fin_cases k <;> rfl)).trans ((left_6 m c t (y 0) (y 1)).trans (congrArg₂ (outM m c) (Fin.ext ?_) (Fin.ext ?_)))
  all_goals blk_simp [io]
  show 16 * 0 + (y 0).val = (y 0).val
  omega

theorem left_7 (c : Dev nD) (t : Fin cfg0.N) (a : Fin 16) (b : Fin 128) : ((dats m 0 c).after 7 t : S16x128.Idx → EReal) (ix2 a b)
    = outV m c ⟨16 * t.val + a, by have := lt_n t; omega⟩ b := by
  rw [after0_7, store_7]
  exact (point_7 _ _ a b).trans (congrArg₂ Adam.square (blk_3 m c t a b) (blk_2 m c t a b))

theorem final_7 (c : Dev nD) : (dats m 0 c).arrAt 7 cfg0.N = fun i : S16x128.Idx => outV m c (i 0) (i 1) := by
  refine (dats m 0 c).arrAt_eq_of_covers 7 (fun i : S16x128.Idx => outV m c (i 0) (i 1)) (by decide +kernel) fun t hf (y : S16x128.Idx) => ?_
  have ht := lt_n t
  have io := (idx t).2.2.2.2.2.2.2
  have hy0 : (y 0).val < 16 := (y 0).isLt
  have hy1 : (y 1).val < 128 := (y 1).isLt
  refine (show _ = ((dats m 0 c).after 7 t : S16x128.Idx → EReal) (ix2 (y 0) (y 1)) from congrArg ((dats m 0 c).after 7 t : S16x128.Idx → EReal) (by
    funext k; fin_cases k <;> rfl)).trans ((left_7 m c t (y 0) (y 1)).trans (congrArg₂ (outV m c) (Fin.ext ?_) (Fin.ext ?_)))
  all_goals blk_simp [io]
  show 16 * 0 + (y 0).val = (y 0).val
  omega

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0_0) = (fun i : S16x128.Idx => outG m c (i 0) (i 1))
      ∧ r.2.mem ((c.tc : Thread nD τ).loc main_v0_1) = (fun i : S16x128.Idx => outD m c (i 0) (i 1))
      ∧ r.2.mem ((c.tc : Thread nD τ).loc main_v0_2) = (fun i : S16x128.Idx => outM m c (i 0) (i 1))
      ∧ r.2.mem ((c.tc : Thread nD τ).loc main_v0_3) = (fun i : S16x128.Idx => outV m c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun r h c => ⟨(h c).1.trans (final_4 m c), (h c).2.1.trans (final_5 m c), (h c).2.2.1.trans (final_6 m c), (h c).2.2.2.1.trans (final_7 m c), (h c).2.2.2.2⟩) (Value.run_blocks (F := Ideal) m ρ)

end Cert.LastStepIdeal.Product

/-! ### The reference, at an index -/

namespace Cert.LastStepRefIdeal.Product

open Cert.LastStepRefIdeal Cert.LastStepRefIdeal.Gen
open Idealize.ShloMosaic Idealize.ShloMosaic.TcCoe
open Idealize.SL Idealize.SL.Sem

theorem grad_at (x3 : Vec Ideal S1x16x128 .f32) (i : S16x128.Idx) : (Host.reduceAdd (F := Ideal) x3 (constant S_ .f32 0x00000000#32) reducesTo_S1x16x128_S16x128_d0 h_S_ : S16x128.Idx → EReal) i
    = (x3 : S1x16x128.Idx → EReal) (ix3 0 (i 0) (i 1)) := by
  rw [show i = @ix2 16 128 (i 0) (i 1) from by funext k; fin_cases k <;> rfl]
  pointwise []
  exact Fin.sum_univ_one _

theorem mean_at (g : FVec Ideal S16x128 .f32) (x1 : Vec Ideal S16x128 .f32) (i : S16x128.Idx) : (addf (mulf (broadcastInDim S16x128 ![] bcast_S_S16x128 (constant S_ .f32 0x3F666666#32)) x1) (mulf (broadcastInDim S16x128 ![] bcast_S_S16x128 (constant S_ .f32 0x3DCCCCCD#32)) g) : S16x128.Idx → EReal) i = Adam.mean (g i) (x1 i) := by
  pointwise [Adam.mean]

theorem square_at (g : FVec Ideal S16x128 .f32) (x2 : Vec Ideal S16x128 .f32) (i : S16x128.Idx) : (addf (mulf (broadcastInDim S16x128 ![] bcast_S_S16x128 (constant S_ .f32 0x3F7FBE77#32)) x2) (mulf (broadcastInDim S16x128 ![] bcast_S_S16x128 (constant S_ .f32 0x3A83126F#32)) (mulf g g)) : S16x128.Idx → EReal) i = Adam.square (g i) (x2 i) := by
  pointwise [Adam.square]

theorem delta_at (g : FVec Ideal S16x128 .f32) (x0 x1 x2 : Vec Ideal S16x128 .f32) (i : S16x128.Idx) : (mulf (broadcastInDim S16x128 ![] bcast_S_S16x128 (constant S_ .f32 0xBA83126F#32)) (addf (Host.divf (Host.divf (addf (mulf (broadcastInDim S16x128 ![] bcast_S_S16x128 (constant S_ .f32 0x3F666666#32)) x1) (mulf (broadcastInDim S16x128 ![] bcast_S_S16x128 (constant S_ .f32 0x3DCCCCCD#32)) g)) (broadcastInDim S16x128 ![] bcast_S_S16x128 (constant S_ .f32 0x3F26BD02#32))) (addf (Host.sqrt (Host.divf (addf (mulf (broadcastInDim S16x128 ![] bcast_S_S16x128 (constant S_ .f32 0x3F7FBE77#32)) x2) (mulf (broadcastInDim S16x128 ![] bcast_S_S16x128 (constant S_ .f32 0x3A83126F#32)) (mulf g g))) (broadcastInDim S16x128 ![] bcast_S_S16x128 (constant S_ .f32 0x3C231ACC#32)))) (broadcastInDim S16x128 ![] bcast_S_S16x128 (constant S_ .f32 0x322BCC77#32)))) (mulf (broadcastInDim S16x128 ![] bcast_S_S16x128 (constant S_ .f32 0x3C23D70A#32)) x0)) : S16x128.Idx → EReal) i = Adam.delta (g i) (x0 i) (x1 i) (x2 i) := by
  pointwise [Adam.delta, Adam.mean, Adam.square]

end Cert.LastStepRefIdeal.Product

namespace Cert.LastStepIdeal.Product

open Cert.LastStepIdeal Cert.LastStepIdeal.Gen
open Idealize.ShloMosaic Idealize.ShloMosaic.TcCoe
open Idealize.SL Idealize.SL.Sem

/-! ### The claims -/

/-- The call leaves what the reference computes. -/
theorem algebraic : Cert.algebraic_LastStepIdeal_LastStepRefIdeal := fun m ρ m' ρ' _ hm =>
  ⟨_, _, _, _, run m ρ, (θ_run _ _ _).mono (fun r h c => by
      obtain rfl : c = 0 := Subsingleton.elim _ _
      obtain ⟨e0, e1, e2, e3⟩ := hm 0
      have hg (i : S16x128.Idx) := (Cert.LastStepRefIdeal.Product.grad_at (m' (((0 : Dev Cert.LastStepRefIdeal.nD).tc : Thread Cert.LastStepRefIdeal.nD Cert.LastStepRefIdeal.τ).loc Cert.LastStepRefIdeal.main_arg3)) i).trans (by rw [e3]; rfl : _ = outG m 0 (i 0) (i 1))
      have hi (i : S16x128.Idx) : i = @ix2 16 128 (i 0) (i 1) := by funext k; fin_cases k <;> rfl
      have h0 (i : S16x128.Idx) := (congrFun e0 i).trans (congrArg (m (((0 : Dev nD).tc : Thread nD τ).loc main_arg0) : S16x128.Idx → EReal) (hi i))
      have h1 (i : S16x128.Idx) := (congrFun e1 i).trans (congrArg (m (((0 : Dev nD).tc : Thread nD τ).loc main_arg1) : S16x128.Idx → EReal) (hi i))
      have h2 (i : S16x128.Idx) := (congrFun e2 i).trans (congrArg (m (((0 : Dev nD).tc : Thread nD τ).loc main_arg2) : S16x128.Idx → EReal) (hi i))
      refine ⟨(h 0).1.trans (funext hg), (h 0).2.1.trans (funext fun i => ?_), (h 0).2.2.1.trans (funext fun i => ?_), (h 0).2.2.2.1.trans (funext fun i => ?_), (h 0).2.2.2.2⟩
      · exact (Cert.LastStepRefIdeal.Product.delta_at _ _ _ _ i).trans (Adam.delta_congr (hg i) (h0 i) (h1 i) (h2 i))
      · exact (Cert.LastStepRefIdeal.Product.mean_at _ _ i).trans (congrArg₂ Adam.mean (hg i) (h1 i))
      · exact (Cert.LastStepRefIdeal.Product.square_at _ _ i).trans (congrArg₂ Adam.square (hg i) (h2 i))) (Cert.LastStepRefIdeal.Value.run (F := Ideal) m' ρ')⟩

/-- The printed program and its idealization have one body table: nothing was rewritten. -/
theorem defs₀_eq : Cert.LastStep.defs₀ (F := Bits) = Cert.LastStepIdeal.defs₀ (F := Bits) := by
  unfold Cert.LastStep.defs₀ Cert.LastStepIdeal.defs₀
  refine congrArg (Defs.onTc (nD := nD) (τ := τ) (sig := sig) (Val := Elt Bits) (Λ := Λ₀)) ?_
  funext l a
  match l, a with
  | 0, (t, s) => rfl
  | ⟨_ + 1, h⟩, _ => exact absurd h (Nat.not_lt.2 (Nat.le_add_left _ _))

theorem defs_eq : Cert.LastStep.defs (F := Bits) = Cert.LastStepIdeal.defs (F := Bits) := by
  unfold Cert.LastStep.defs Cert.LastStepIdeal.defs
  rw [defs₀_eq]; rfl

theorem frame : Cert.quiescent_LastStep := fun m ρ _ => by
  rw [defs_eq]
  exact Cert.LastStepIdeal.Gen.frame (F := Bits) m ρ

theorem frameIdeal : Cert.quiescent_LastStepIdeal := fun m ρ _ => Cert.LastStepIdeal.Gen.frame (F := Ideal) m ρ

theorem frameReference : Cert.quiescent_LastStepRefIdeal := fun m ρ _ =>
  (θ_run _ _ _).mono (fun r h => ⟨fun c => (h c).2.2.2.2, sem_eq_zero_of_no_sems (by decide) r.2⟩)
    (Cert.LastStepRefIdeal.Value.run (F := Ideal) m ρ)

end Cert.LastStepIdeal.Product

end
-- ==== Proof.Products.SmallSum.lean ====
module

public import proofs.«01_k».proof.Defs
public import proofs.«01_k».proof.Proof.Gen.SmallSum
public import proofs.«01_k».proof.Proof.Gen.SmallSumIdeal.Value
public import proofs.«01_k».proof.Proof.Gen.SmallSumRefIdeal.Run
public import Idealize.ShloMosaic.Lib.Pointwise
public import Idealize.ShloMosaic.Lib.Pipeline.ValueKit

/-!
The gradients of eleven small weights and the loss, packed into rows of 128, summed over the devices.
-/

@[expose] public section

set_option maxRecDepth 16384

noncomputable section

namespace Cert.SmallSumIdeal.Product

open Cert.SmallSumIdeal Cert.SmallSumIdeal.Gen
open Idealize.ShloMosaic Idealize.ShloMosaic.TcCoe
open Idealize.SL Idealize.SL.Sem

theorem idx : ∀ t : Fin grid0.N, win0_0.index t = ![0, 0, 0] ∧ win0_1.index t = ![0, 0] := by decide +kernel

/-- What the devices sent, summed. -/
def out (x : S8x1672x128.Idx → EReal) (r : Fin 1672) (b : Fin 128) : EReal := ∑ s : Fin 8, x (ix3 s r b)

variable (m : (ℓ : Loc nD τ sig) → Buf (Elt Ideal) ℓ)

theorem blk_0 (c : Dev nD) (t : Fin cfg0.N) (s : Fin 8) (a : Fin 1672) (b : Fin 128) : (iblk m c 0 t : S8x1672x128.Idx → EReal) (ix3 s a b)
    = (m ((c.tc : Thread nD τ).loc main_arg0) : S8x1672x128.Idx → EReal) (ix3 s a b) := by
  blk_ext! [iblk, V, (idx t).1]

theorem store (x0 : Vec Ideal S8x1672x128 .f32) : out0_1 x0 = k0_pay1 (View.ld x0 r0_0) (View.ld x0 r0_1) (View.ld x0 r0_2) (View.ld x0 r0_3) (View.ld x0 r0_4) (View.ld x0 r0_5) (View.ld x0 r0_6) (View.ld x0 r0_7) := by
  unfold out0_1
  rw [View.canon_cons_unit_lit _ _ _ (by decide)]

theorem point (x0 : Vec Ideal S8x1672x128 .f32) (a : Fin 1672) (b : Fin 128) : (out0_1 x0 : S1672x128.Idx → EReal) (ix2 a b)
    = ∑ s : Fin 8, (x0 : S8x1672x128.Idx → EReal) (ix3 s a b) := by
  rw [store, Fin.sum_univ_eight]
  pointwise [k0_pay1]

theorem left (c : Dev nD) (t : Fin cfg0.N) (a : Fin 1672) (b : Fin 128) : ((dats m 0 c).after 1 t : S1672x128.Idx → EReal) (ix2 a b)
    = out (m ((c.tc : Thread nD τ).loc main_arg0)) a b := by
  rw [after0_1]
  exact (point _ a b).trans (Finset.sum_congr rfl fun s _ => blk_0 m c t s a b)

theorem final (c : Dev nD) : (dats m 0 c).arrAt 1 cfg0.N = fun i : S1672x128.Idx => out (m ((c.tc : Thread nD τ).loc main_arg0)) (i 0) (i 1) := by
  refine (dats m 0 c).arrAt_eq_of_covers 1 (fun i : S1672x128.Idx => out (m ((c.tc : Thread nD τ).loc main_arg0)) (i 0) (i 1)) (by decide +kernel) fun t hf (y : S1672x128.Idx) => ?_
  have io := (idx t).2
  have hy0 : (y 0).val < 1672 := (y 0).isLt
  have hy1 : (y 1).val < 128 := (y 1).isLt
  refine (show _ = ((dats m 0 c).after 1 t : S1672x128.Idx → EReal) (ix2 (y 0) (y 1)) from congrArg ((dats m 0 c).after 1 t : S1672x128.Idx → EReal) (by
    funext k; fin_cases k <;> rfl)).trans ((left m c t (y 0) (y 1)).trans (congrArg₂ (out (m ((c.tc : Thread nD τ).loc main_arg0))) (Fin.ext ?_) (Fin.ext ?_)))
  all_goals blk_simp [io]

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = (fun i : S1672x128.Idx => out (m ((c.tc : Thread nD τ).loc main_arg0)) (i 0) (i 1))
      ∧ r.2.mem ((c.tc : Thread nD τ).loc main_arg0) = m ((c.tc : Thread nD τ).loc main_arg0) :=
  (θ_run _ _ _).mono (fun r h c => ⟨(h c).1.trans (final m c), (h c).2⟩) (Value.run_blocks (F := Ideal) m ρ)

/-- The call leaves what the reference computes. -/
theorem algebraic : Cert.algebraic_SmallSumIdeal_SmallSumRefIdeal := fun m ρ m' ρ' _ hm =>
  ⟨_, run m ρ, (θ_run _ _ _).mono (fun r h c => ⟨(h c).1.trans (by
      rw [hm c]
      funext i
      have h0 : (i 0).val < 1672 := (i 0).isLt
      have h1 : (i 1).val < 128 := (i 1).isLt
      rw [show i = @ix2 1672 128 (i 0) (i 1) from by funext k; fin_cases k <;> rfl]
      pointwise [out]), (h c).2⟩) (Cert.SmallSumRefIdeal.Value.run (F := Ideal) m' ρ')⟩

/-- The printed program and its idealization have one body table: nothing was rewritten. -/
theorem defs₀_eq : Cert.SmallSum.defs₀ (F := Bits) = Cert.SmallSumIdeal.defs₀ (F := Bits) := by
  unfold Cert.SmallSum.defs₀ Cert.SmallSumIdeal.defs₀
  refine congrArg (Defs.onTc (nD := nD) (τ := τ) (sig := sig) (Val := Elt Bits) (Λ := Λ₀)) ?_
  funext l a
  match l, a with
  | 0, (t, s) => rfl
  | ⟨_ + 1, h⟩, _ => exact absurd h (Nat.not_lt.2 (Nat.le_add_left _ _))

theorem defs_eq : Cert.SmallSum.defs (F := Bits) = Cert.SmallSumIdeal.defs (F := Bits) := by
  unfold Cert.SmallSum.defs Cert.SmallSumIdeal.defs
  rw [defs₀_eq]; rfl

theorem frame : Cert.quiescent_SmallSum := fun m ρ _ => by
  rw [defs_eq]
  exact Cert.SmallSumIdeal.Gen.frame (F := Bits) m ρ

theorem frameIdeal : Cert.quiescent_SmallSumIdeal := fun m ρ _ => Cert.SmallSumIdeal.Gen.frame (F := Ideal) m ρ

theorem frameReference : Cert.quiescent_SmallSumRefIdeal := fun m ρ _ =>
  (θ_run _ _ _).mono (fun r h => ⟨fun c => (h c).2, sem_eq_zero_of_no_sems (by decide) r.2⟩)
    (Cert.SmallSumRefIdeal.Value.run (F := Ideal) m ρ)

end Cert.SmallSumIdeal.Product

end
-- ==== Proof.Products.LastSum.lean ====
module

public import proofs.«01_k».proof.Defs
public import proofs.«01_k».proof.Proof.Gen.LastSum
public import proofs.«01_k».proof.Proof.Gen.LastSumIdeal.Value
public import proofs.«01_k».proof.Proof.Gen.LastSumRefIdeal.Run
public import Idealize.ShloMosaic.Lib.Pointwise
public import Idealize.ShloMosaic.Lib.Pipeline.ValueKit

/-!
The gradient of the first norm's gains, packed into rows of 128, summed over the devices.
-/

@[expose] public section

set_option maxRecDepth 16384

noncomputable section

namespace Cert.LastSumIdeal.Product

open Cert.LastSumIdeal Cert.LastSumIdeal.Gen
open Idealize.ShloMosaic Idealize.ShloMosaic.TcCoe
open Idealize.SL Idealize.SL.Sem

theorem idx : ∀ t : Fin grid0.N, win0_0.index t = ![0, 0, 0] ∧ win0_1.index t = ![0, 0] := by decide +kernel

/-- What the devices sent, summed. -/
def out (x : S8x16x128.Idx → EReal) (r : Fin 16) (b : Fin 128) : EReal := ∑ s : Fin 8, x (ix3 s r b)

variable (m : (ℓ : Loc nD τ sig) → Buf (Elt Ideal) ℓ)

theorem blk_0 (c : Dev nD) (t : Fin cfg0.N) (s : Fin 8) (a : Fin 16) (b : Fin 128) : (iblk m c 0 t : S8x16x128.Idx → EReal) (ix3 s a b)
    = (m ((c.tc : Thread nD τ).loc main_arg0) : S8x16x128.Idx → EReal) (ix3 s a b) := by
  blk_ext! [iblk, V, (idx t).1]

theorem store (x0 : Vec Ideal S8x16x128 .f32) : out0_1 x0 = k0_pay1 (View.ld x0 r0_0) (View.ld x0 r0_1) (View.ld x0 r0_2) (View.ld x0 r0_3) (View.ld x0 r0_4) (View.ld x0 r0_5) (View.ld x0 r0_6) (View.ld x0 r0_7) := by
  unfold out0_1
  rw [View.canon_cons_unit_lit _ _ _ (by decide)]

theorem point (x0 : Vec Ideal S8x16x128 .f32) (a : Fin 16) (b : Fin 128) : (out0_1 x0 : S16x128.Idx → EReal) (ix2 a b)
    = ∑ s : Fin 8, (x0 : S8x16x128.Idx → EReal) (ix3 s a b) := by
  rw [store, Fin.sum_univ_eight]
  pointwise [k0_pay1]

theorem left (c : Dev nD) (t : Fin cfg0.N) (a : Fin 16) (b : Fin 128) : ((dats m 0 c).after 1 t : S16x128.Idx → EReal) (ix2 a b)
    = out (m ((c.tc : Thread nD τ).loc main_arg0)) a b := by
  rw [after0_1]
  exact (point _ a b).trans (Finset.sum_congr rfl fun s _ => blk_0 m c t s a b)

theorem final (c : Dev nD) : (dats m 0 c).arrAt 1 cfg0.N = fun i : S16x128.Idx => out (m ((c.tc : Thread nD τ).loc main_arg0)) (i 0) (i 1) := by
  refine (dats m 0 c).arrAt_eq_of_covers 1 (fun i : S16x128.Idx => out (m ((c.tc : Thread nD τ).loc main_arg0)) (i 0) (i 1)) (by decide +kernel) fun t hf (y : S16x128.Idx) => ?_
  have io := (idx t).2
  have hy0 : (y 0).val < 16 := (y 0).isLt
  have hy1 : (y 1).val < 128 := (y 1).isLt
  refine (show _ = ((dats m 0 c).after 1 t : S16x128.Idx → EReal) (ix2 (y 0) (y 1)) from congrArg ((dats m 0 c).after 1 t : S16x128.Idx → EReal) (by
    funext k; fin_cases k <;> rfl)).trans ((left m c t (y 0) (y 1)).trans (congrArg₂ (out (m ((c.tc : Thread nD τ).loc main_arg0))) (Fin.ext ?_) (Fin.ext ?_)))
  all_goals blk_simp [io]

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = (fun i : S16x128.Idx => out (m ((c.tc : Thread nD τ).loc main_arg0)) (i 0) (i 1))
      ∧ r.2.mem ((c.tc : Thread nD τ).loc main_arg0) = m ((c.tc : Thread nD τ).loc main_arg0) :=
  (θ_run _ _ _).mono (fun r h c => ⟨(h c).1.trans (final m c), (h c).2⟩) (Value.run_blocks (F := Ideal) m ρ)

/-- The call leaves what the reference computes. -/
theorem algebraic : Cert.algebraic_LastSumIdeal_LastSumRefIdeal := fun m ρ m' ρ' _ hm =>
  ⟨_, run m ρ, (θ_run _ _ _).mono (fun r h c => ⟨(h c).1.trans (by
      rw [hm c]
      funext i
      have h0 : (i 0).val < 16 := (i 0).isLt
      have h1 : (i 1).val < 128 := (i 1).isLt
      rw [show i = @ix2 16 128 (i 0) (i 1) from by funext k; fin_cases k <;> rfl]
      pointwise [out]), (h c).2⟩) (Cert.LastSumRefIdeal.Value.run (F := Ideal) m' ρ')⟩

/-- The printed program and its idealization have one body table: nothing was rewritten. -/
theorem defs₀_eq : Cert.LastSum.defs₀ (F := Bits) = Cert.LastSumIdeal.defs₀ (F := Bits) := by
  unfold Cert.LastSum.defs₀ Cert.LastSumIdeal.defs₀
  refine congrArg (Defs.onTc (nD := nD) (τ := τ) (sig := sig) (Val := Elt Bits) (Λ := Λ₀)) ?_
  funext l a
  match l, a with
  | 0, (t, s) => rfl
  | ⟨_ + 1, h⟩, _ => exact absurd h (Nat.not_lt.2 (Nat.le_add_left _ _))

theorem defs_eq : Cert.LastSum.defs (F := Bits) = Cert.LastSumIdeal.defs (F := Bits) := by
  unfold Cert.LastSum.defs Cert.LastSumIdeal.defs
  rw [defs₀_eq]; rfl

theorem frame : Cert.quiescent_LastSum := fun m ρ _ => by
  rw [defs_eq]
  exact Cert.LastSumIdeal.Gen.frame (F := Bits) m ρ

theorem frameIdeal : Cert.quiescent_LastSumIdeal := fun m ρ _ => Cert.LastSumIdeal.Gen.frame (F := Ideal) m ρ

theorem frameReference : Cert.quiescent_LastSumRefIdeal := fun m ρ _ =>
  (θ_run _ _ _).mono (fun r h => ⟨fun c => (h c).2, sem_eq_zero_of_no_sems (by decide) r.2⟩)
    (Cert.LastSumRefIdeal.Value.run (F := Ideal) m ρ)

end Cert.LastSumIdeal.Product

end
-- ==== Proof.Products.AdamIn1.lean ====
module

public import proofs.«01_k».proof.Defs
public import proofs.«01_k».proof.Proof.Gen.AdamIn1
public import proofs.«01_k».proof.Proof.Gen.AdamIn1Ideal.Frame
public import proofs.«01_k».proof.Proof.Gen.AdamIn1RefIdeal.Run
public import proofs.«01_k».proof.Proof.Products.Adam
public import proofs.«01_k».proof.Proof.Gen.Pre_chip_in1

/-!
The optimiser's step of the second layer's input weight, turned around the call, whose gradient is summed over the four chips.
-/

@[expose] public section

set_option maxRecDepth 16384

noncomputable section

namespace Cert.AdamIn1Ideal.Product

open Cert.AdamIn1Ideal Cert.AdamIn1Ideal.Gen
open Idealize.ShloMosaic Idealize.ShloMosaic.TcCoe
open Idealize.SL Idealize.SL.Sem

/-! ### The chip's number -/

/-- A table of one word is read at one place. -/
theorem word_eq (x : S1.Idx → BitVec 32) (i j : S1.Idx) : x i = x j :=
  congrArg x (funext fun k => by fin_cases k; exact Fin.ext (by have := (i 0).isLt; have := (j 0).isLt; simp_all))

section Chip
variable {F : FTy → Type} [FloatOps F] (m : (ℓ : Loc nD τ sig) → Buf (Elt F) ℓ)

/-- The number of the chip, read off its table. -/
def chip : BitVec 32 := (m (((0 : Dev nD).tc : Thread nD τ).loc main_arg5) : S1.Idx → BitVec 32) (ix1 0)

theorem ok0_of_lt (pf : pre0.Contents (Elt F)) (k : BitVec 32)
    (e : pf.at 0 (Rect.unit (s := S1) ![0] S1.size inb_S1_S1_0) numel1_S1 = k) (h : k.toNat < 4) : ok0 pf := by
  have key : ∀ (k : Fin 4) (i : grid0.Coords), ∃ h : (∀ a, ((![k.val, (BitVec.ofNat 32 (i 0).val).toNat, (BitVec.ofNat 32 (i 1).val).toNat] : Fin 3 → Nat) a + 1) * S1x641x256.size a ≤ S4x641x2048.size a),
      EltTy.bits .bf16 = 32 ∨ (Rect.block (s := S4x641x2048) S1x641x256.size ![k.val, (BitVec.ofNat 32 (i 0).val).toNat, (BitVec.ofNat 32 (i 1).val).toNat] h).WholeWords (EltTy.packing .bf16) := by
    decide +kernel
  intro i
  unfold cc0_transform_3
  dsimp only
  rw [e]
  exact key ⟨_, h⟩ i

theorem ok_of_lt (h : (chip m).toNat < 4) : Ok m := ok0_of_lt (tbl m) (chip m) (word_eq _ _ _) h
end Chip

/-! ### Where a point's blocks lie -/

theorem idx : ∀ t : Fin grid0.N, cc0_transform_0 (grid0.coords t) = ![0, t.val] ∧ cc0_transform_1 (grid0.coords t) = ![0, t.val] ∧ cc0_transform_2 (grid0.coords t) = ![0, t.val]
    ∧ cc0_transform_4 (grid0.coords t) = ![0, 0, t.val] ∧ cc0_transform_5 (grid0.coords t) = ![0, t.val] ∧ cc0_transform_6 (grid0.coords t) = ![0, t.val]
    ∧ cc0_transform_7 (grid0.coords t) = ![0, t.val] ∧ cc0_transform_8 (grid0.coords t) = ![0, t.val] := by decide +kernel

theorem coords : ∀ t : Fin grid0.N, (BitVec.ofNat 32 (grid0.coords t 0).val).toNat = 0 ∧ (BitVec.ofNat 32 (grid0.coords t 1).val).toNat = t.val := by decide +kernel

theorem lt_n (t : Fin grid0.N) : t.val < 8 := lt_of_lt_of_eq t.isLt (by decide +kernel)

/-- The gradient summed over the chips: this chip's own part, and what the others sent. -/
def grad (n : BitVec 32) (own land : S4x641x2048.Idx → EReal) (r : Fin 641) (b : Fin 2048) : EReal :=
  ∑ s : Fin 4, if n = BitVec.ofNat 32 s.val then own (ix3 s r b) else land (ix3 s r b)

variable (m : (ℓ : Loc nD τ sig) → Buf (Elt Ideal) ℓ) (hO : Ok m)

theorem lt_of_ok (hO : Ok m) : (chip m).toNat < 4 := by
  obtain ⟨h, _⟩ := hO (grid0.coords ⟨0, by decide⟩)
  have h := h 0
  unfold cc0_transform_3 at h
  dsimp only at h
  rw [show (tbl m).at 0 (Rect.unit (s := S1) ![0] S1.size inb_S1_S1_0) numel1_S1 = chip m from word_eq _ _ _] at h
  have h' : ((chip m).toNat + 1) * 1 ≤ 4 := h
  omega

theorem index_3 (t : Fin grid0.N) : ((cfgM m hO).win 3).index t = ![(chip m).toNat, 0, t.val] := by
  have e : (tbl m).at 0 (Rect.unit (s := S1) ![0] S1.size inb_S1_S1_0) numel1_S1 = chip m := word_eq _ _ _
  refine (show ((cfgM m hO).win 3).index t = cc0_transform_3 inb_S1_S1_0 numel1_S1 (tbl m) (grid0.coords t) from rfl).trans ?_
  unfold cc0_transform_3
  dsimp only
  rw [e, (coords t).1, (coords t).2]

theorem turned_0 (c : Dev nD) : V m c main_v0 = transpose S641x2048 [1, 0] (m ((c.tc : Thread nD τ).loc main_arg0)) transposes_S2048x641_S641x2048_1_0 := by
  show StableHlo.after (List.flatten [hostOps0]) (fun b => m (c, b)) (Proc.devRef .tc main_v0) = _
  simp only [hostOps0, List.flatten_cons, List.flatten_nil, List.append_nil, List.cons_append, List.nil_append]
  after_results_simp

theorem blk_0 (c : Dev nD) (t : Fin grid0.N) (a : Fin 641) (b : Fin 256) : (iblk m hO c 0 t : S641x256.Idx → EReal) (ix2 a b)
    = (m ((c.tc : Thread nD τ).loc main_arg0) : S2048x641.Idx → EReal) (ix2 ⟨256 * t.val + b, by have := lt_n t; omega⟩ a) := by
  have := lt_n t
  have io : ((cfgM m hO).win 0).index t = ![0, t.val] := (idx t).1
  have key (x : S641x2048.Idx → EReal) : (((((cfgM m hO).win 0).blk t).view.read (Elt Ideal) x : S641x256.Idx → EReal)) (ix2 a b) = x (ix2 a ⟨256 * t.val + b, by omega⟩) := by
    blk_ext! [io]
  exact (key _).trans ((congrFun (turned_0 m c) _).trans (congrArg (m ((c.tc : Thread nD τ).loc main_arg0) : S2048x641.Idx → EReal) (by funext k; fin_cases k <;> rfl)))

theorem turned_1 (c : Dev nD) : V m c main_v1 = transpose S641x2048 [1, 0] (m ((c.tc : Thread nD τ).loc main_arg1)) transposes_S2048x641_S641x2048_1_0 := by
  show StableHlo.after (List.flatten [hostOps0]) (fun b => m (c, b)) (Proc.devRef .tc main_v1) = _
  simp only [hostOps0, List.flatten_cons, List.flatten_nil, List.append_nil, List.cons_append, List.nil_append]
  after_results_simp

theorem blk_1 (c : Dev nD) (t : Fin grid0.N) (a : Fin 641) (b : Fin 256) : (iblk m hO c 1 t : S641x256.Idx → EReal) (ix2 a b)
    = (m ((c.tc : Thread nD τ).loc main_arg1) : S2048x641.Idx → EReal) (ix2 ⟨256 * t.val + b, by have := lt_n t; omega⟩ a) := by
  have := lt_n t
  have io : ((cfgM m hO).win 1).index t = ![0, t.val] := (idx t).2.1
  have key (x : S641x2048.Idx → EReal) : (((((cfgM m hO).win 1).blk t).view.read (Elt Ideal) x : S641x256.Idx → EReal)) (ix2 a b) = x (ix2 a ⟨256 * t.val + b, by omega⟩) := by
    blk_ext! [io]
  exact (key _).trans ((congrFun (turned_1 m c) _).trans (congrArg (m ((c.tc : Thread nD τ).loc main_arg1) : S2048x641.Idx → EReal) (by funext k; fin_cases k <;> rfl)))

theorem turned_2 (c : Dev nD) : V m c main_v2 = transpose S641x2048 [1, 0] (m ((c.tc : Thread nD τ).loc main_arg2)) transposes_S2048x641_S641x2048_1_0 := by
  show StableHlo.after (List.flatten [hostOps0]) (fun b => m (c, b)) (Proc.devRef .tc main_v2) = _
  simp only [hostOps0, List.flatten_cons, List.flatten_nil, List.append_nil, List.cons_append, List.nil_append]
  after_results_simp

theorem blk_2 (c : Dev nD) (t : Fin grid0.N) (a : Fin 641) (b : Fin 256) : (iblk m hO c 2 t : S641x256.Idx → EReal) (ix2 a b)
    = (m ((c.tc : Thread nD τ).loc main_arg2) : S2048x641.Idx → EReal) (ix2 ⟨256 * t.val + b, by have := lt_n t; omega⟩ a) := by
  have := lt_n t
  have io : ((cfgM m hO).win 2).index t = ![0, t.val] := (idx t).2.2.1
  have key (x : S641x2048.Idx → EReal) : (((((cfgM m hO).win 2).blk t).view.read (Elt Ideal) x : S641x256.Idx → EReal)) (ix2 a b) = x (ix2 a ⟨256 * t.val + b, by omega⟩) := by
    blk_ext! [io]
  exact (key _).trans ((congrFun (turned_2 m c) _).trans (congrArg (m ((c.tc : Thread nD τ).loc main_arg2) : S2048x641.Idx → EReal) (by funext k; fin_cases k <;> rfl)))

theorem blk_3 (c : Dev nD) (t : Fin grid0.N) (a : Fin 641) (b : Fin 256) : (iblk m hO c 3 t : S1x641x256.Idx → EReal) (ix3 0 a b)
    = (m ((c.tc : Thread nD τ).loc main_arg3) : S4x641x2048.Idx → EReal) (ix3 ⟨(chip m).toNat, lt_of_ok m hO⟩ a ⟨256 * t.val + b, by have := lt_n t; omega⟩) := by
  have := lt_n t
  have io := index_3 m hO t
  blk_ext! [iblk, V, io]

theorem blk_4 (c : Dev nD) (t : Fin grid0.N) (s : Fin 4) (a : Fin 641) (b : Fin 256) : (iblk m hO c 4 t : S4x641x256.Idx → EReal) (ix3 s a b)
    = (m ((c.tc : Thread nD τ).loc main_arg4) : S4x641x2048.Idx → EReal) (ix3 s a ⟨256 * t.val + b, by have := lt_n t; omega⟩) := by
  have := lt_n t
  have io : ((cfgM m hO).win 4).index t = ![0, 0, t.val] := (idx t).2.2.2.1
  blk_ext! [iblk, V, io]

/-! ### What a point leaves -/

/-- The gradient a point sums from its blocks. -/
def sum0 (x3 : Vec Ideal S1x641x256 .bf16) (x4 : Vec Ideal S4x641x256 .bf16) (k : Vec Ideal S1 .i32) : Vec Ideal S641x256 .f32 :=
  k0_pay4 x3 (k (ix1 0)) (View.ld x4 (Rect.unit ![0, 0, 0] ![1, 641, 256] inb_S4x641x256_S1x641x256_0_0_0))
    (k (ix1 0)) (View.ld x4 (Rect.unit ![1, 0, 0] ![1, 641, 256] inb_S4x641x256_S1x641x256_1_0_0))
    (k (ix1 0)) (View.ld x4 (Rect.unit ![2, 0, 0] ![1, 641, 256] inb_S4x641x256_S1x641x256_2_0_0))
    (k (ix1 0)) (View.ld x4 (Rect.unit ![3, 0, 0] ![1, 641, 256] inb_S4x641x256_S1x641x256_3_0_0))

theorem sum0_at (x3 : Vec Ideal S1x641x256 .bf16) (x4 : Vec Ideal S4x641x256 .bf16) (k : Vec Ideal S1 .i32) (a : Fin 641) (b : Fin 256) :
    (sum0 x3 x4 k : S641x256.Idx → EReal) (ix2 a b) = ∑ s : Fin 4, if (k : S1.Idx → BitVec 32) (ix1 0) = BitVec.ofNat 32 s.val
      then (x3 : S1x641x256.Idx → EReal) (ix3 0 a b) else (x4 : S4x641x256.Idx → EReal) (ix3 s a b) := by
  unfold sum0
  generalize (k : S1.Idx → BitVec 32) (ix1 0) = n
  simp only [Fin.sum_univ_four]
  pointwise [k0_pay4]
  exact congrArg₂ (· + ·) (congrArg₂ (· + ·) (congrArg₂ (· + ·) (Adam.select_eq _ _ _ _) (Adam.select_eq _ _ _ _)) (Adam.select_eq _ _ _ _)) (Adam.select_eq _ _ _ _)

theorem delta_at (g w m v : Vec Ideal S641x256 .f32) (i : S641x256.Idx) : (k0_pay3 g (k0_pay5 m) (Scalar.ofBits .f32 0x3F666666#32) v w : S641x256.Idx → EReal) i = Adam.delta (g i) (w i) (m i) (v i) := by
  pointwise [k0_pay3, k0_pay1, k0_pay2, k0_pay5, Adam.delta, Adam.mean, Adam.square]

theorem mean_at (g m : Vec Ideal S641x256 .f32) (i : S641x256.Idx) : (k0_pay1 g (k0_pay5 m) (Scalar.ofBits .f32 0x3F666666#32) : S641x256.Idx → EReal) i = Adam.mean (g i) (m i) := by
  pointwise [k0_pay1, k0_pay5, Adam.mean]

theorem square_at (g v : Vec Ideal S641x256 .f32) (i : S641x256.Idx) : (k0_pay2 g v : S641x256.Idx → EReal) i = Adam.square (g i) (v i) := by
  pointwise [k0_pay2, Adam.square]

section Store
variable (c : Dev nD) (t : Fin grid0.N) (x0 x1 x2 : Vec Ideal S641x256 .f32) (x3 : Vec Ideal S1x641x256 .bf16) (x4 : Vec Ideal S4x641x256 .bf16) (k : Vec Ideal S1 .i32)

theorem word (h) : View.read (Elt Ideal) (View.whole main_arg5) k (Shape.Idx.first h) = k (ix1 0) := word_eq k _ _

theorem store_5 : out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 k = sum0 x3 x4 k := by
  frame_out
  simp only [word]
  rfl

theorem store_6 : out0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 k = k0_pay3 (sum0 x3 x4 k) (k0_pay5 x1) (Scalar.ofBits .f32 0x3F666666#32) x2 x0 := by
  frame_out
  simp only [word]
  rfl

theorem store_7 : out0_A_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 k = k0_pay1 (sum0 x3 x4 k) (k0_pay5 x1) (Scalar.ofBits .f32 0x3F666666#32) := by
  frame_out
  simp only [word]
  rfl

theorem store_8 : out0_A_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) x0 x1 x2 x3 x4 k = k0_pay2 (sum0 x3 x4 k) x2 := by
  frame_out
  simp only [word]
  rfl
end Store

/-- The summed gradient of a point's block is the whole's there. -/
theorem grad_at (c : Dev nD) (t : Fin grid0.N) (a : Fin 641) (b : Fin 256) : (sum0 (iblk m hO c 3 t) (iblk m hO c 4 t) (tbl m 0) : S641x256.Idx → EReal) (ix2 a b)
    = grad (chip m) (m ((c.tc : Thread nD τ).loc main_arg3)) (m ((c.tc : Thread nD τ).loc main_arg4)) a ⟨256 * t.val + b, by have := lt_n t; omega⟩ := by
  have ht := lt_n t
  refine (sum0_at (iblk m hO c 3 t) (iblk m hO c 4 t) (tbl m 0) a b).trans (Finset.sum_congr rfl fun s _ => ?_)
  rw [show (tbl m 0 : S1.Idx → BitVec 32) (ix1 0) = chip m from rfl]
  by_cases h : chip m = BitVec.ofNat 32 s.val
  · refine (if_pos h).trans (Eq.trans ?_ (if_pos h).symm)
    refine (blk_3 m hO c t a b).trans (congrArg (fun s => (m ((c.tc : Thread nD τ).loc main_arg3) : S4x641x2048.Idx → EReal) (ix3 s a ⟨256 * t.val + b, by omega⟩)) (Fin.ext ?_))
    show (chip m).toNat = s.val
    rw [h, BitVec.toNat_ofNat]
    omega
  · exact (if_neg h).trans ((blk_4 m hO c t s a b).trans (if_neg h).symm)

/-- A table that names the first chip: the windows that read no table are what they are at any other. -/
def first : (pcfg0 (F := Ideal)).Adm := ⟨fun | (0 : Fin 1) => (fun _ => 0#32 : S1.Idx → BitVec 32), ok0_of_lt _ 0#32 rfl (by decide)⟩

/-! ### The four results, at an index -/

def outG (c : Dev nD) (r : Fin 641) (b : Fin 2048) : EReal := grad (chip m) (m ((c.tc : Thread nD τ).loc main_arg3)) (m ((c.tc : Thread nD τ).loc main_arg4)) r b

def outD (c : Dev nD) (r : Fin 641) (b : Fin 2048) : EReal := Adam.delta (outG m c r b) ((m ((c.tc : Thread nD τ).loc main_arg0) : S2048x641.Idx → EReal) (ix2 b r)) ((m ((c.tc : Thread nD τ).loc main_arg1) : S2048x641.Idx → EReal) (ix2 b r)) ((m ((c.tc : Thread nD τ).loc main_arg2) : S2048x641.Idx → EReal) (ix2 b r))

def outM (c : Dev nD) (r : Fin 641) (b : Fin 2048) : EReal := Adam.mean (outG m c r b) ((m ((c.tc : Thread nD τ).loc main_arg1) : S2048x641.Idx → EReal) (ix2 b r))

def outV (c : Dev nD) (r : Fin 641) (b : Fin 2048) : EReal := Adam.square (outG m c r b) ((m ((c.tc : Thread nD τ).loc main_arg2) : S2048x641.Idx → EReal) (ix2 b r))

theorem covers_5 : ((cfg0 first).win 5).Covers := by decide +kernel

theorem outs_5 (c : Dev nD) (t : Fin grid0.N) : (outsAt0 m hO c t).1 = (sum0 (iblk m hO c 3 t) (iblk m hO c 4 t) (tbl m 0)) := by
  unfold outsAt0
  dsimp only
  exact store_5 m hO c t (iblk m hO c 0 t) (iblk m hO c 1 t) (iblk m hO c 2 t) (iblk m hO c 3 t) (iblk m hO c 4 t) (tbl m 0)

theorem left_5 (c : Dev nD) (t : Fin grid0.N) (a : Fin 641) (b : Fin 256) : ((outsAt0 m hO c t).1 : S641x256.Idx → EReal) (ix2 a b)
    = outG m c a ⟨256 * t.val + b, by have := lt_n t; omega⟩ :=
  (congrFun (outs_5 m hO c t) (ix2 a b)).trans ((grad_at m hO c t a b))

theorem final_5 (c : Dev nD) : (dats m hO 0 c).arrAt 5 grid0.N = fun i : S641x2048.Idx => outG m c (i 0) (i 1) := by
  refine (dats m hO 0 c).arrAt_eq_of_covers 5 (fun i : S641x2048.Idx => outG m c (i 0) (i 1)) covers_5 fun t hf (y : S641x256.Idx) => ?_
  have ht := lt_n t
  have io : ((cfgM m hO).win 5).index t = ![0, t.val] := (idx t).2.2.2.2.1
  have hy0 : (y 0).val < 641 := (y 0).isLt
  have hy1 : (y 1).val < 256 := (y 1).isLt
  rw [after0_5]
  refine (show _ = ((outsAt0 m hO c t).1 : S641x256.Idx → EReal) (ix2 (y 0) (y 1)) from congrArg ((outsAt0 m hO c t).1 : S641x256.Idx → EReal) (by
    funext k; fin_cases k <;> rfl)).trans ((left_5 m hO c t (y 0) (y 1)).trans (congrArg₂ (outG m c) (Fin.ext ?_) (Fin.ext ?_)))
  all_goals blk_simp [io]
  show 256 * t.val + (y 1).val = t.val * 256 + (y 1).val
  omega

theorem covers_6 : ((cfg0 first).win 6).Covers := by decide +kernel

theorem outs_6 (c : Dev nD) (t : Fin grid0.N) : (outsAt0 m hO c t).2.1 = k0_pay3 (sum0 (iblk m hO c 3 t) (iblk m hO c 4 t) (tbl m 0)) (k0_pay5 (iblk m hO c 1 t)) (Scalar.ofBits .f32 0x3F666666#32) (iblk m hO c 2 t) (iblk m hO c 0 t) := by
  unfold outsAt0
  dsimp only
  exact store_6 m hO c t (iblk m hO c 0 t) (iblk m hO c 1 t) (iblk m hO c 2 t) (iblk m hO c 3 t) (iblk m hO c 4 t) (tbl m 0)

theorem left_6 (c : Dev nD) (t : Fin grid0.N) (a : Fin 641) (b : Fin 256) : ((outsAt0 m hO c t).2.1 : S641x256.Idx → EReal) (ix2 a b)
    = outD m c a ⟨256 * t.val + b, by have := lt_n t; omega⟩ :=
  (congrFun (outs_6 m hO c t) (ix2 a b)).trans ((delta_at _ _ _ _ _).trans (Adam.delta_congr (grad_at m hO c t a b) (blk_0 m hO c t a b) (blk_1 m hO c t a b) (blk_2 m hO c t a b)))

theorem final_6 (c : Dev nD) : (dats m hO 0 c).arrAt 6 grid0.N = fun i : S641x2048.Idx => outD m c (i 0) (i 1) := by
  refine (dats m hO 0 c).arrAt_eq_of_covers 6 (fun i : S641x2048.Idx => outD m c (i 0) (i 1)) covers_6 fun t hf (y : S641x256.Idx) => ?_
  have ht := lt_n t
  have io : ((cfgM m hO).win 6).index t = ![0, t.val] := (idx t).2.2.2.2.2.1
  have hy0 : (y 0).val < 641 := (y 0).isLt
  have hy1 : (y 1).val < 256 := (y 1).isLt
  rw [after0_6]
  refine (show _ = ((outsAt0 m hO c t).2.1 : S641x256.Idx → EReal) (ix2 (y 0) (y 1)) from congrArg ((outsAt0 m hO c t).2.1 : S641x256.Idx → EReal) (by
    funext k; fin_cases k <;> rfl)).trans ((left_6 m hO c t (y 0) (y 1)).trans (congrArg₂ (outD m c) (Fin.ext ?_) (Fin.ext ?_)))
  all_goals blk_simp [io]
  show 256 * t.val + (y 1).val = t.val * 256 + (y 1).val
  omega

theorem covers_7 : ((cfg0 first).win 7).Covers := by decide +kernel

theorem outs_7 (c : Dev nD) (t : Fin grid0.N) : (outsAt0 m hO c t).2.2.1 = k0_pay1 (sum0 (iblk m hO c 3 t) (iblk m hO c 4 t) (tbl m 0)) (k0_pay5 (iblk m hO c 1 t)) (Scalar.ofBits .f32 0x3F666666#32) := by
  unfold outsAt0
  dsimp only
  exact store_7 m hO c t (iblk m hO c 0 t) (iblk m hO c 1 t) (iblk m hO c 2 t) (iblk m hO c 3 t) (iblk m hO c 4 t) (tbl m 0)

theorem left_7 (c : Dev nD) (t : Fin grid0.N) (a : Fin 641) (b : Fin 256) : ((outsAt0 m hO c t).2.2.1 : S641x256.Idx → EReal) (ix2 a b)
    = outM m c a ⟨256 * t.val + b, by have := lt_n t; omega⟩ :=
  (congrFun (outs_7 m hO c t) (ix2 a b)).trans ((mean_at _ _ _).trans (congrArg₂ Adam.mean (grad_at m hO c t a b) (blk_1 m hO c t a b)))

theorem final_7 (c : Dev nD) : (dats m hO 0 c).arrAt 7 grid0.N = fun i : S641x2048.Idx => outM m c (i 0) (i 1) := by
  refine (dats m hO 0 c).arrAt_eq_of_covers 7 (fun i : S641x2048.Idx => outM m c (i 0) (i 1)) covers_7 fun t hf (y : S641x256.Idx) => ?_
  have ht := lt_n t
  have io : ((cfgM m hO).win 7).index t = ![0, t.val] := (idx t).2.2.2.2.2.2.1
  have hy0 : (y 0).val < 641 := (y 0).isLt
  have hy1 : (y 1).val < 256 := (y 1).isLt
  rw [after0_7]
  refine (show _ = ((outsAt0 m hO c t).2.2.1 : S641x256.Idx → EReal) (ix2 (y 0) (y 1)) from congrArg ((outsAt0 m hO c t).2.2.1 : S641x256.Idx → EReal) (by
    funext k; fin_cases k <;> rfl)).trans ((left_7 m hO c t (y 0) (y 1)).trans (congrArg₂ (outM m c) (Fin.ext ?_) (Fin.ext ?_)))
  all_goals blk_simp [io]
  show 256 * t.val + (y 1).val = t.val * 256 + (y 1).val
  omega

theorem covers_8 : ((cfg0 first).win 8).Covers := by decide +kernel

theorem outs_8 (c : Dev nD) (t : Fin grid0.N) : (outsAt0 m hO c t).2.2.2 = k0_pay2 (sum0 (iblk m hO c 3 t) (iblk m hO c 4 t) (tbl m 0)) (iblk m hO c 2 t) := by
  unfold outsAt0
  dsimp only
  exact store_8 m hO c t (iblk m hO c 0 t) (iblk m hO c 1 t) (iblk m hO c 2 t) (iblk m hO c 3 t) (iblk m hO c 4 t) (tbl m 0)

theorem left_8 (c : Dev nD) (t : Fin grid0.N) (a : Fin 641) (b : Fin 256) : ((outsAt0 m hO c t).2.2.2 : S641x256.Idx → EReal) (ix2 a b)
    = outV m c a ⟨256 * t.val + b, by have := lt_n t; omega⟩ :=
  (congrFun (outs_8 m hO c t) (ix2 a b)).trans ((square_at _ _ _).trans (congrArg₂ Adam.square (grad_at m hO c t a b) (blk_2 m hO c t a b)))

theorem final_8 (c : Dev nD) : (dats m hO 0 c).arrAt 8 grid0.N = fun i : S641x2048.Idx => outV m c (i 0) (i 1) := by
  refine (dats m hO 0 c).arrAt_eq_of_covers 8 (fun i : S641x2048.Idx => outV m c (i 0) (i 1)) covers_8 fun t hf (y : S641x256.Idx) => ?_
  have ht := lt_n t
  have io : ((cfgM m hO).win 8).index t = ![0, t.val] := (idx t).2.2.2.2.2.2.2
  have hy0 : (y 0).val < 641 := (y 0).isLt
  have hy1 : (y 1).val < 256 := (y 1).isLt
  rw [after0_8]
  refine (show _ = ((outsAt0 m hO c t).2.2.2 : S641x256.Idx → EReal) (ix2 (y 0) (y 1)) from congrArg ((outsAt0 m hO c t).2.2.2 : S641x256.Idx → EReal) (by
    funext k; fin_cases k <;> rfl)).trans ((left_8 m hO c t (y 0) (y 1)).trans (congrArg₂ (outV m c) (Fin.ext ?_) (Fin.ext ?_)))
  all_goals blk_simp [io]
  show 256 * t.val + (y 1).val = t.val * 256 + (y 1).val
  omega

theorem tail_5 (c : Dev nD) : Pipeline.afterTail pcfgs (fun _ => adm m hO) (dats m hO) 0 (V0 m) [hostOps1] c main_v4 = fun i : S2048x641.Idx => outG m c (i 1) (i 0) := by
  have e : Pipeline.withArrays (cfgM m hO).spec c (V0 m c) (fun w => (dats m hO 0 c).arrAt w (cfgM m hO).N) (Proc.devRef .tc main_v3_0) = (dats m hO 0 c).arrAt 5 grid0.N :=
    Pipeline.withArrays_arr spec0 (by decide) c _ _ 5
  unfold Pipeline.afterTail
  simp only [hostOps1, List.flatten_cons, List.flatten_nil, List.append_nil, List.cons_append, List.nil_append]
  after_results_simp
  refine (congrArg (fun x => transpose S2048x641 [1, 0] x transposes_S641x2048_S2048x641_1_0) (e.trans (final_5 m hO c))).trans ?_
  funext i
  rfl

theorem tail_6 (c : Dev nD) : Pipeline.afterTail pcfgs (fun _ => adm m hO) (dats m hO) 0 (V0 m) [hostOps1] c main_v5 = fun i : S2048x641.Idx => outD m c (i 1) (i 0) := by
  have e : Pipeline.withArrays (cfgM m hO).spec c (V0 m c) (fun w => (dats m hO 0 c).arrAt w (cfgM m hO).N) (Proc.devRef .tc main_v3_1) = (dats m hO 0 c).arrAt 6 grid0.N :=
    Pipeline.withArrays_arr spec0 (by decide) c _ _ 6
  unfold Pipeline.afterTail
  simp only [hostOps1, List.flatten_cons, List.flatten_nil, List.append_nil, List.cons_append, List.nil_append]
  after_results_simp
  refine (congrArg (fun x => transpose S2048x641 [1, 0] x transposes_S641x2048_S2048x641_1_0) (e.trans (final_6 m hO c))).trans ?_
  funext i
  rfl

theorem tail_7 (c : Dev nD) : Pipeline.afterTail pcfgs (fun _ => adm m hO) (dats m hO) 0 (V0 m) [hostOps1] c main_v6 = fun i : S2048x641.Idx => outM m c (i 1) (i 0) := by
  have e : Pipeline.withArrays (cfgM m hO).spec c (V0 m c) (fun w => (dats m hO 0 c).arrAt w (cfgM m hO).N) (Proc.devRef .tc main_v3_2) = (dats m hO 0 c).arrAt 7 grid0.N :=
    Pipeline.withArrays_arr spec0 (by decide) c _ _ 7
  unfold Pipeline.afterTail
  simp only [hostOps1, List.flatten_cons, List.flatten_nil, List.append_nil, List.cons_append, List.nil_append]
  after_results_simp
  refine (congrArg (fun x => transpose S2048x641 [1, 0] x transposes_S641x2048_S2048x641_1_0) (e.trans (final_7 m hO c))).trans ?_
  funext i
  rfl

theorem tail_8 (c : Dev nD) : Pipeline.afterTail pcfgs (fun _ => adm m hO) (dats m hO) 0 (V0 m) [hostOps1] c main_v7 = fun i : S2048x641.Idx => outV m c (i 1) (i 0) := by
  have e : Pipeline.withArrays (cfgM m hO).spec c (V0 m c) (fun w => (dats m hO 0 c).arrAt w (cfgM m hO).N) (Proc.devRef .tc main_v3_3) = (dats m hO 0 c).arrAt 8 grid0.N :=
    Pipeline.withArrays_arr spec0 (by decide) c _ _ 8
  unfold Pipeline.afterTail
  simp only [hostOps1, List.flatten_cons, List.flatten_nil, List.append_nil, List.cons_append, List.nil_append]
  after_results_simp
  refine (congrArg (fun x => transpose S2048x641 [1, 0] x transposes_S641x2048_S2048x641_1_0) (e.trans (final_8 m hO c))).trans ?_
  funext i
  rfl

theorem run (ρ : Dev nD → PrngReg) (hO : Ok m) :
    θ_run (defs (F := Ideal)) (onTc (τ := τ) (main (F := Ideal))) ⟨m, fun _ => 0, ρ⟩ fun r => ∀ c : Dev nD,
      r.2.mem ((c.tc : Thread nD τ).loc main_v4) = (fun i : S2048x641.Idx => outG m c (i 1) (i 0))
      ∧ r.2.mem ((c.tc : Thread nD τ).loc main_v5) = (fun i : S2048x641.Idx => outD m c (i 1) (i 0))
      ∧ r.2.mem ((c.tc : Thread nD τ).loc main_v6) = (fun i : S2048x641.Idx => outM m c (i 1) (i 0))
      ∧ r.2.mem ((c.tc : Thread nD τ).loc main_v7) = (fun i : S2048x641.Idx => outV m c (i 1) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun r h c => ⟨(((h c).2 main_v4 (by decide : main_v4 ∈ Pipeline.restRefs sig spec0)).trans (tail_5 m hO c)), (((h c).2 main_v5 (by decide : main_v5 ∈ Pipeline.restRefs sig spec0)).trans (tail_6 m hO c)), (((h c).2 main_v6 (by decide : main_v6 ∈ Pipeline.restRefs sig spec0)).trans (tail_7 m hO c)), (((h c).2 main_v7 (by decide : main_v7 ∈ Pipeline.restRefs sig spec0)).trans (tail_8 m hO c)), (((h c).2 main_arg0 (by decide : main_arg0 ∈ Pipeline.restRefs sig spec0)).trans (W_main_arg0 m hO _ c)), (((h c).2 main_arg1 (by decide : main_arg1 ∈ Pipeline.restRefs sig spec0)).trans (W_main_arg1 m hO _ c)), (((h c).2 main_arg2 (by decide : main_arg2 ∈ Pipeline.restRefs sig spec0)).trans (W_main_arg2 m hO _ c)), ((h c).1 3).trans (((dats m hO 0 c).arrAt_in 3 rfl _).trans (V_main_arg3 m c)), ((h c).1 4).trans (((dats m hO 0 c).arrAt_in 4 rfl _).trans (V_main_arg4 m c)), (((h c).2 main_arg5 (by decide : main_arg5 ∈ Pipeline.restRefs sig spec0)).trans (W_main_arg5 m hO _ c))⟩)
    (run_main (F := Ideal) m ρ hO)

end Cert.AdamIn1Ideal.Product

/-! ### The reference, at an index -/

namespace Cert.AdamIn1RefIdeal.Product

open Cert.AdamIn1RefIdeal Cert.AdamIn1RefIdeal.Gen
open Idealize.ShloMosaic Idealize.ShloMosaic.TcCoe
open Idealize.SL Idealize.SL.Sem

theorem grad_at (x3 x4 : Vec Ideal S4x641x2048 .bf16) (x5 : Vec Ideal S1 .i32) (i : S2048x641.Idx) : (Host.reduceAdd (F := Ideal) (select (broadcastInDim S4x2048x641 ![0, 1, 2] bcast_S4x1x1_S4x2048x641_0_1_2 (broadcastInDim S4x1x1 ![0] bcast_S4_S4x1x1_0 (cmpi .eq (iotaInDim S4 32 0) (broadcastInDim S4 ![] bcast_S_S4 (shapeCast _ x5 shapeCasts_S1_S_))))) (extf .f32 (transpose S4x2048x641 [0, 2, 1] x3 transposes_S4x641x2048_S4x2048x641_0_2_1) bitsLt_bf16_f32) (extf .f32 (transpose S4x2048x641 [0, 2, 1] x4 transposes_S4x641x2048_S4x2048x641_0_2_1) bitsLt_bf16_f32)) (constant S_ .f32 0x00000000#32) reducesTo_S4x2048x641_S2048x641_d0 h_S_ : S2048x641.Idx → EReal) i
    = Cert.AdamIn1Ideal.Product.grad ((x5 : S1.Idx → BitVec 32) (ix1 0)) x3 x4 (i 1) (i 0) := by
  rw [show i = @ix2 2048 641 (i 0) (i 1) from by funext k; fin_cases k <;> rfl]
  pointwise [Cert.AdamIn1Ideal.Product.grad]
  exact Finset.sum_congr rfl fun s _ => Adam.select_eq_symm _ _ _ _

theorem mean_at (g : FVec Ideal S2048x641 .f32) (x1 : Vec Ideal S2048x641 .f32) (i : S2048x641.Idx) : (addf (mulf (broadcastInDim S2048x641 ![] bcast_S_S2048x641 (constant S_ .f32 0x3F666666#32)) x1) (mulf (broadcastInDim S2048x641 ![] bcast_S_S2048x641 (constant S_ .f32 0x3DCCCCCD#32)) g) : S2048x641.Idx → EReal) i = Adam.mean (g i) (x1 i) := by
  pointwise [Adam.mean]

theorem square_at (g : FVec Ideal S2048x641 .f32) (x2 : Vec Ideal S2048x641 .f32) (i : S2048x641.Idx) : (addf (mulf (broadcastInDim S2048x641 ![] bcast_S_S2048x641 (constant S_ .f32 0x3F7FBE77#32)) x2) (mulf (broadcastInDim S2048x641 ![] bcast_S_S2048x641 (constant S_ .f32 0x3A83126F#32)) (mulf g g)) : S2048x641.Idx → EReal) i = Adam.square (g i) (x2 i) := by
  pointwise [Adam.square]

theorem delta_at (g : FVec Ideal S2048x641 .f32) (x0 x1 x2 : Vec Ideal S2048x641 .f32) (i : S2048x641.Idx) : (mulf (broadcastInDim S2048x641 ![] bcast_S_S2048x641 (constant S_ .f32 0xBA83126F#32)) (addf (Host.divf (Host.divf (addf (mulf (broadcastInDim S2048x641 ![] bcast_S_S2048x641 (constant S_ .f32 0x3F666666#32)) x1) (mulf (broadcastInDim S2048x641 ![] bcast_S_S2048x641 (constant S_ .f32 0x3DCCCCCD#32)) g)) (broadcastInDim S2048x641 ![] bcast_S_S2048x641 (constant S_ .f32 0x3F26BD02#32))) (addf (Host.sqrt (Host.divf (addf (mulf (broadcastInDim S2048x641 ![] bcast_S_S2048x641 (constant S_ .f32 0x3F7FBE77#32)) x2) (mulf (broadcastInDim S2048x641 ![] bcast_S_S2048x641 (constant S_ .f32 0x3A83126F#32)) (mulf g g))) (broadcastInDim S2048x641 ![] bcast_S_S2048x641 (constant S_ .f32 0x3C231ACC#32)))) (broadcastInDim S2048x641 ![] bcast_S_S2048x641 (constant S_ .f32 0x322BCC77#32)))) (mulf (broadcastInDim S2048x641 ![] bcast_S_S2048x641 (constant S_ .f32 0x3C23D70A#32)) x0)) : S2048x641.Idx → EReal) i = Adam.delta (g i) (x0 i) (x1 i) (x2 i) := by
  pointwise [Adam.delta, Adam.mean, Adam.square]

end Cert.AdamIn1RefIdeal.Product

namespace Cert.AdamIn1Ideal.Product

open Cert.AdamIn1Ideal Cert.AdamIn1Ideal.Gen
open Idealize.ShloMosaic Idealize.ShloMosaic.TcCoe
open Idealize.SL Idealize.SL.Sem

/-! ### The claims -/

theorem ok_of_pre (m : (ℓ : Loc nD τ sig) → Buf (Elt Ideal) ℓ) (h : Cert.Pre_AdamIn1Ideal m) : Ok m := by
  refine ok_of_lt m (Adam.lt_of_pre _ ?_)
  have e := congrFun (h 0) (ix1 0)
  unfold Cert.Pre_chip_in1.fn at e
  exact e

/-- The call leaves what the reference computes. -/
theorem algebraic : Cert.algebraic_AdamIn1Ideal_AdamIn1RefIdeal := fun m ρ m' ρ' hp hm =>
  ⟨_, _, _, _, run m ρ (ok_of_pre m hp), (θ_run _ _ _).mono (fun r h c => by
      obtain rfl : c = 0 := Subsingleton.elim _ _
      obtain ⟨e0, e1, e2, e3, e4, e5⟩ := hm 0
      have hg (i : S2048x641.Idx) := (Cert.AdamIn1RefIdeal.Product.grad_at (m' (((0 : Dev Cert.AdamIn1RefIdeal.nD).tc : Thread Cert.AdamIn1RefIdeal.nD Cert.AdamIn1RefIdeal.τ).loc Cert.AdamIn1RefIdeal.main_arg3)) (m' (((0 : Dev Cert.AdamIn1RefIdeal.nD).tc : Thread Cert.AdamIn1RefIdeal.nD Cert.AdamIn1RefIdeal.τ).loc Cert.AdamIn1RefIdeal.main_arg4)) (m' (((0 : Dev Cert.AdamIn1RefIdeal.nD).tc : Thread Cert.AdamIn1RefIdeal.nD Cert.AdamIn1RefIdeal.τ).loc Cert.AdamIn1RefIdeal.main_arg5)) i).trans (by rw [e3, e4, e5]; rfl : _ = outG m 0 (i 1) (i 0))
      have hi (i : S2048x641.Idx) : i = @ix2 2048 641 (i 0) (i 1) := by funext k; fin_cases k <;> rfl
      have h0 (i : S2048x641.Idx) := (congrFun e0 i).trans (congrArg (m (((0 : Dev nD).tc : Thread nD τ).loc main_arg0) : S2048x641.Idx → EReal) (hi i))
      have h1 (i : S2048x641.Idx) := (congrFun e1 i).trans (congrArg (m (((0 : Dev nD).tc : Thread nD τ).loc main_arg1) : S2048x641.Idx → EReal) (hi i))
      have h2 (i : S2048x641.Idx) := (congrFun e2 i).trans (congrArg (m (((0 : Dev nD).tc : Thread nD τ).loc main_arg2) : S2048x641.Idx → EReal) (hi i))
      refine ⟨(h 0).1.trans (funext hg), (h 0).2.1.trans (funext fun i => ?_), (h 0).2.2.1.trans (funext fun i => ?_), (h 0).2.2.2.1.trans (funext fun i => ?_), (h 0).2.2.2.2⟩
      · exact (Cert.AdamIn1RefIdeal.Product.delta_at _ _ _ _ i).trans (Adam.delta_congr (hg i) (h0 i) (h1 i) (h2 i))
      · exact (Cert.AdamIn1RefIdeal.Product.mean_at _ _ i).trans (congrArg₂ Adam.mean (hg i) (h1 i))
      · exact (Cert.AdamIn1RefIdeal.Product.square_at _ _ i).trans (congrArg₂ Adam.square (hg i) (h2 i))) (Cert.AdamIn1RefIdeal.Value.run (F := Ideal) m' ρ')⟩

/-- The printed program and its idealization have one body table: nothing was rewritten. -/
theorem defs₀_eq : Cert.AdamIn1.defs₀ (F := Bits) = Cert.AdamIn1Ideal.defs₀ (F := Bits) := by
  unfold Cert.AdamIn1.defs₀ Cert.AdamIn1Ideal.defs₀
  refine congrArg (Defs.onTc (nD := nD) (τ := τ) (sig := sig) (Val := Elt Bits) (Λ := Λ₀)) ?_
  funext l a
  match l, a with
  | 0, (t, s) => rfl
  | ⟨_ + 1, h⟩, _ => exact absurd h (Nat.not_lt.2 (Nat.le_add_left _ _))

theorem defs_eq : Cert.AdamIn1.defs (F := Bits) = Cert.AdamIn1Ideal.defs (F := Bits) := by
  unfold Cert.AdamIn1.defs Cert.AdamIn1Ideal.defs
  rw [defs₀_eq]; rfl

theorem main_eq : Cert.AdamIn1.main (F := Bits) = Cert.AdamIn1Ideal.main (F := Bits) := by
  unfold Cert.AdamIn1.main Cert.AdamIn1Ideal.main
  rfl

theorem ok_of_pre_bits (m : (ℓ : Loc nD τ sig) → Buf (Elt Bits) ℓ) (h : Cert.Pre_AdamIn1 m) : Ok m := by
  refine ok_of_lt m (Adam.lt_of_pre _ ?_)
  have e := congrFun (h 0) (ix1 0)
  unfold Cert.Pre_chip_in1.fn at e
  exact e

theorem frame : Cert.quiescent_AdamIn1 := fun m ρ h => by
  rw [defs_eq, main_eq]
  exact Cert.AdamIn1Ideal.Gen.frame (F := Bits) m ρ (ok_of_pre_bits m h)

theorem frameIdeal : Cert.quiescent_AdamIn1Ideal := fun m ρ h => Cert.AdamIn1Ideal.Gen.frame (F := Ideal) m ρ (ok_of_pre m h)

theorem frameReference : Cert.quiescent_AdamIn1RefIdeal := fun m ρ _ =>
  (θ_run _ _ _).mono (fun r h => ⟨fun c => (h c).2.2.2.2, sem_eq_zero_of_no_sems (by decide) r.2⟩)
    (Cert.AdamIn1RefIdeal.Value.run (F := Ideal) m ρ)

end Cert.AdamIn1Ideal.Product

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.UpDw
public import proofs.«01_k».proof.Proof.Gen.UpDwIdeal.Value
public import proofs.«01_k».proof.Proof.Gen.UpDwRefIdeal.Run
public import proofs.«01_k».proof.Proof.Gen.UpMm
public import proofs.«01_k».proof.Proof.Gen.UpMmIdeal.Value
public import proofs.«01_k».proof.Proof.Gen.UpMmRefIdeal.Run
public import proofs.«01_k».proof.Proof.Gen.DownMm
public import proofs.«01_k».proof.Proof.Gen.DownMmIdeal.Value
public import proofs.«01_k».proof.Proof.Gen.DownMmRefIdeal.Run
public import proofs.«01_k».proof.Proof.Gen.DownDx
public import proofs.«01_k».proof.Proof.Gen.DownDxIdeal.Value
public import proofs.«01_k».proof.Proof.Gen.DownDxRefIdeal.Run
public import proofs.«01_k».proof.Proof.Gen.DownDw
public import proofs.«01_k».proof.Proof.Gen.DownDwIdeal.Value
public import proofs.«01_k».proof.Proof.Gen.DownDwRefIdeal.Run
public import proofs.«01_k».proof.Proof.Gen.UpDx
public import proofs.«01_k».proof.Proof.Gen.UpDxIdeal.Value
public import proofs.«01_k».proof.Proof.Gen.UpDxRefIdeal.Run
public import proofs.«01_k».proof.Proof.Gen.In0Mm
public import proofs.«01_k».proof.Proof.Gen.In0MmIdeal.Value
public import proofs.«01_k».proof.Proof.Gen.In0MmRefIdeal.Run
public import proofs.«01_k».proof.Proof.Gen.In0Dw
public import proofs.«01_k».proof.Proof.Gen.In0DwIdeal.Value
public import proofs.«01_k».proof.Proof.Gen.In0DwRefIdeal.Run
public import proofs.«01_k».proof.Proof.Gen.In0Dx
public import proofs.«01_k».proof.Proof.Gen.In0DxIdeal.Value
public import proofs.«01_k».proof.Proof.Gen.In0DxRefIdeal.Run
public import proofs.«01_k».proof.Proof.Gen.In1Mm
public import proofs.«01_k».proof.Proof.Gen.In1MmIdeal.Value
public import proofs.«01_k».proof.Proof.Gen.In1MmRefIdeal.Run
public import proofs.«01_k».proof.Proof.Gen.In1Dw
public import proofs.«01_k».proof.Proof.Gen.In1DwIdeal.Value
public import proofs.«01_k».proof.Proof.Gen.In1DwRefIdeal.Run
public import proofs.«01_k».proof.Proof.Gen.In1Dx
public import proofs.«01_k».proof.Proof.Gen.In1DxIdeal.Value
public import proofs.«01_k».proof.Proof.Gen.In1DxRefIdeal.Run
public import proofs.«01_k».proof.Proof.Gen.OutMm
public import proofs.«01_k».proof.Proof.Gen.OutMmIdeal.Value
public import proofs.«01_k».proof.Proof.Gen.OutMmRefIdeal.Run
public import proofs.«01_k».proof.Proof.Gen.OutDx
public import proofs.«01_k».proof.Proof.Gen.OutDxIdeal.Value
public import proofs.«01_k».proof.Proof.Gen.OutDxRefIdeal.Run
public import proofs.«01_k».proof.Proof.Gen.OutDw
public import proofs.«01_k».proof.Proof.Gen.OutDwIdeal.Value
public import proofs.«01_k».proof.Proof.Gen.OutDwRefIdeal.Run
public import proofs.«01_k».proof.Proof.Gen.GateMm
public import proofs.«01_k».proof.Proof.Gen.GateMmIdeal.Value
public import proofs.«01_k».proof.Proof.Gen.GateMmRefIdeal.Run
public import proofs.«01_k».proof.Proof.Gen.GateDw
public import proofs.«01_k».proof.Proof.Gen.GateDwIdeal.Value
public import proofs.«01_k».proof.Proof.Gen.GateDwRefIdeal.Run
public import proofs.«01_k».proof.Proof.Gen.GateDx
public import proofs.«01_k».proof.Proof.Gen.GateDxIdeal.Value
public import proofs.«01_k».proof.Proof.Gen.GateDxRefIdeal.Run
public import proofs.«01_k».proof.Proof.Gen.ShortBwd
public import proofs.«01_k».proof.Proof.Gen.ShortBwdIdeal.Value
public import proofs.«01_k».proof.Proof.Gen.ShortBwdRefIdeal.Run
public import proofs.«01_k».proof.Proof.Gen.ShortFwd
public import proofs.«01_k».proof.Proof.Gen.ShortFwdIdeal.Value
public import proofs.«01_k».proof.Proof.Gen.ShortFwdRefIdeal.Run
public import proofs.«01_k».proof.Proof.Gen.ActBwd
public import proofs.«01_k».proof.Proof.Gen.ActBwdIdeal.Value
public import proofs.«01_k».proof.Proof.Gen.ActBwdRefIdeal.Run
public import proofs.«01_k».proof.Proof.Gen.ActFwd
public import proofs.«01_k».proof.Proof.Gen.ActFwdIdeal.Value
public import proofs.«01_k».proof.Proof.Gen.ActFwdRefIdeal.Run
public import proofs.«01_k».proof.Proof.Gen.AdamIn0
public import proofs.«01_k».proof.Proof.Gen.AdamIn0Ideal.Frame
public import proofs.«01_k».proof.Proof.Gen.AdamIn0RefIdeal.Run
public import proofs.«01_k».proof.Proof.Gen.AdamOut
public import proofs.«01_k».proof.Proof.Gen.AdamOutIdeal.Frame
public import proofs.«01_k».proof.Proof.Gen.AdamOutRefIdeal.Run
public import proofs.«01_k».proof.Proof.Gen.AdamUp
public import proofs.«01_k».proof.Proof.Gen.AdamUpIdeal.Frame
public import proofs.«01_k».proof.Proof.Gen.AdamUpRefIdeal.Run
public import proofs.«01_k».proof.Proof.Gen.AdamDown
public import proofs.«01_k».proof.Proof.Gen.AdamDownIdeal.Frame
public import proofs.«01_k».proof.Proof.Gen.AdamDownRefIdeal.Run
public import proofs.«01_k».proof.Proof.Gen.NormBwd
public import proofs.«01_k».proof.Proof.Gen.NormBwdIdeal.Value
public import proofs.«01_k».proof.Proof.Gen.NormBwdRefIdeal.Run
public import proofs.«01_k».proof.Proof.Gen.NormFwd
public import proofs.«01_k».proof.Proof.Gen.NormFwdIdeal.Value
public import proofs.«01_k».proof.Proof.Gen.NormFwdRefIdeal.Run
public import proofs.«01_k».proof.Proof.Gen.LossHead
public import proofs.«01_k».proof.Proof.Gen.LossHeadIdeal.Value
public import proofs.«01_k».proof.Proof.Gen.LossHeadRefIdeal.Run
public import proofs.«01_k».proof.Proof.Gen.SmallStep
public import proofs.«01_k».proof.Proof.Gen.SmallStepIdeal.Value
public import proofs.«01_k».proof.Proof.Gen.SmallStepRefIdeal.Run
public import proofs.«01_k».proof.Proof.Gen.LastStep
public import proofs.«01_k».proof.Proof.Gen.LastStepIdeal.Value
public import proofs.«01_k».proof.Proof.Gen.LastStepRefIdeal.Run
public import proofs.«01_k».proof.Proof.Gen.SmallSum
public import proofs.«01_k».proof.Proof.Gen.SmallSumIdeal.Value
public import proofs.«01_k».proof.Proof.Gen.SmallSumRefIdeal.Run
public import proofs.«01_k».proof.Proof.Gen.LastSum
public import proofs.«01_k».proof.Proof.Gen.LastSumIdeal.Value
public import proofs.«01_k».proof.Proof.Gen.LastSumRefIdeal.Run
public import proofs.«01_k».proof.Proof.Gen.AdamIn1
public import proofs.«01_k».proof.Proof.Gen.AdamIn1Ideal.Frame
public import proofs.«01_k».proof.Proof.Gen.AdamIn1RefIdeal.Run
public import proofs.«01_k».proof.Proof.Gen.Pre_act_finite
public import proofs.«01_k».proof.Proof.Gen.Pre_chip_in0
public import proofs.«01_k».proof.Proof.Gen.Pre_chip_out
public import proofs.«01_k».proof.Proof.Gen.Pre_chip_up
public import proofs.«01_k».proof.Proof.Gen.Pre_chip_down
public import proofs.«01_k».proof.Proof.Gen.Pre_chip_in1
public import proofs.«01_k».proof.Proof.Gen.Pre_finite
public import proofs.«01_k».proof.Proof.Gen.On_written
public import proofs.«01_k».proof.Proof.Sb.Launch
public import proofs.«01_k».proof.Proof.Sb.Value
public import proofs.«01_k».proof.Proof.Sb.Reference
public import proofs.«01_k».proof.Proof.Products.UpDw
public import proofs.«01_k».proof.Proof.Products.UpMm
public import proofs.«01_k».proof.Proof.Products.DownMm
public import proofs.«01_k».proof.Proof.Products.DownDx
public import proofs.«01_k».proof.Proof.Products.DownDw
public import proofs.«01_k».proof.Proof.Products.UpDx
public import proofs.«01_k».proof.Proof.Products.In0Mm
public import proofs.«01_k».proof.Proof.Products.In0Dw
public import proofs.«01_k».proof.Proof.Products.In0Dx
public import proofs.«01_k».proof.Proof.Products.In1Mm
public import proofs.«01_k».proof.Proof.Products.In1Dw
public import proofs.«01_k».proof.Proof.Products.In1Dx
public import proofs.«01_k».proof.Proof.Products.OutMm
public import proofs.«01_k».proof.Proof.Products.OutDx
public import proofs.«01_k».proof.Proof.Products.OutDw
public import proofs.«01_k».proof.Proof.Products.GateMm
public import proofs.«01_k».proof.Proof.Products.GateDw
public import proofs.«01_k».proof.Proof.Products.GateDx
public import proofs.«01_k».proof.Proof.Products.ShortBwd
public import proofs.«01_k».proof.Proof.Products.ShortFwd
public import proofs.«01_k».proof.Proof.Products.ActBwd
public import proofs.«01_k».proof.Proof.Products.ActFwd
public import proofs.«01_k».proof.Proof.Products.AdamIn0
public import proofs.«01_k».proof.Proof.Products.AdamOut
public import proofs.«01_k».proof.Proof.Products.AdamUp
public import proofs.«01_k».proof.Proof.Products.AdamDown
public import proofs.«01_k».proof.Proof.Products.NormBwd
public import proofs.«01_k».proof.Proof.Products.NormFwd
public import proofs.«01_k».proof.Proof.Products.LossHead
public import proofs.«01_k».proof.Proof.Products.SmallStep
public import proofs.«01_k».proof.Proof.Products.LastStep
public import proofs.«01_k».proof.Proof.Products.SmallSum
public import proofs.«01_k».proof.Proof.Products.LastSum
public import proofs.«01_k».proof.Proof.Products.AdamIn1
public import Idealize.ShloMosaic.Adequacy
public import Idealize.ShloMosaic.Init

@[expose] public section

noncomputable section

namespace Cert.Proof

open Idealize.ShloMosaic Idealize.SL.Sem Cert.Kernel

/-- The two printed programs have one body table: the idealization rewrote nothing. -/
theorem defs₀_eq : Cert.Kernel.defs₀ (F := Bits) = Cert.KernelIdeal.defs₀ (F := Bits) := by
  unfold Cert.Kernel.defs₀ Cert.KernelIdeal.defs₀
  refine congrArg (Defs.onTc (nD := Cert.Kernel.nD) (τ := Cert.Kernel.τ) (sig := Cert.Kernel.sig) (Val := Elt Bits) (Λ := Cert.Kernel.Λ₀)) ?_
  funext l a
  match l, a with
  | 0, (t, s) => rfl
  | ⟨_ + 1, h⟩, _ => exact absurd h (Nat.not_lt.2 (Nat.le_add_left _ _))

theorem defs_eq : Cert.Kernel.defs (F := Bits) = Cert.KernelIdeal.defs (F := Bits) := by
  unfold Cert.Kernel.defs Cert.KernelIdeal.defs
  rw [defs₀_eq]; rfl

theorem frame_kernel : Cert.quiescent_Kernel := fun m ρ _ => by
  rw [defs_eq]
  exact Cert.KernelIdeal.Sb.run_frame (F := Bits) m ρ

theorem frame_kernelIdeal : Cert.quiescent_KernelIdeal := fun m ρ _ =>
  Cert.KernelIdeal.Sb.run_frame (F := Ideal) m ρ

theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- A magnitude below infinity is that of a real. -/
theorem real_of_abs_lt {y : EReal}
    (h : BitVec.ofBool (decide ((FloatOps.absf (F := Ideal) (φ := .f32) y : EReal) < Ideal.ofBits .f32 0x7F800000#32)) = 1#1) :
    y = ((y.toReal : ℝ) : EReal) := by
  rw [Cert.ReferenceIdeal.Sb.ofBits_top] at h
  have hlt : (FloatOps.absf (F := Ideal) (φ := .f32) y : EReal) < (⊤ : EReal) := by
    by_contra hn
    rw [decide_eq_false hn] at h
    exact absurd h (by decide)
  change max y (-y) < ⊤ at hlt
  have h1 : y < ⊤ := lt_of_le_of_lt (le_max_left _ _) hlt
  have h2 : -y < ⊤ := lt_of_le_of_lt (le_max_right _ _) hlt
  refine (EReal.coe_toReal (ne_of_lt h1) ?_).symm
  rintro rfl
  exact absurd h2 (by simp)

/-- The reals that the first argument holds on a device. -/
def argP (m : (ℓ : Loc Cert.KernelIdeal.nD Cert.KernelIdeal.τ Cert.KernelIdeal.sig) → Buf (Elt Ideal) ℓ) (c : Dev Cert.KernelIdeal.nD) (r s : ℕ) : ℝ :=
  if h : r < 2048 ∧ s < 6144 then
    EReal.toReal ((m ((c.tc : Thread Cert.KernelIdeal.nD Cert.KernelIdeal.τ).loc Cert.KernelIdeal.main_arg0) : Cert.KernelIdeal.S2048x6144.Idx → EReal)
      (ix2 ⟨r, h.1⟩ ⟨s, h.2⟩)) else 0

/-- The reals that the second argument holds on a device. -/
def argC (m : (ℓ : Loc Cert.KernelIdeal.nD Cert.KernelIdeal.τ Cert.KernelIdeal.sig) → Buf (Elt Ideal) ℓ) (c : Dev Cert.KernelIdeal.nD) (r s : ℕ) : ℝ :=
  if h : r < 2048 ∧ s < 2048 then
    EReal.toReal ((m ((c.tc : Thread Cert.KernelIdeal.nD Cert.KernelIdeal.τ).loc Cert.KernelIdeal.main_arg1) : Cert.KernelIdeal.S2048x2048.Idx → EReal)
      (ix2 ⟨r, h.1⟩ ⟨s, h.2⟩)) else 0

theorem reals_of_pre {m} (hm : Cert.Pre_KernelIdeal_finite m) : Cert.KernelIdeal.Sb.Reals m (argP m) (argC m) := by
  constructor
  · intro c r s hs
    have h := congrFun (hm c).1 (ix2 r ⟨s.val, hs⟩)
    unfold Cert.Pre_finite.fn at h
    revert h
    pointwise
    intro h
    refine (real_of_abs_lt h).trans ?_
    unfold argP
    rw [dif_pos ⟨r.isLt, s.isLt⟩]
  · intro c r s hs
    have h := congrFun (hm c).2 (ix2 r ⟨s.val, hs⟩)
    unfold Cert.Pre_finite.fn at h
    revert h
    pointwise
    intro h
    refine (real_of_abs_lt h).trans ?_
    unfold argC
    rw [dif_pos ⟨r.isLt, s.isLt⟩]

/-- The mask is set on the first three planes alone. -/
theorem written_lt (a b) (i : Cert.KernelIdeal.S6x2048x1024.Idx) (h : Cert.On_written.fn (F := Ideal) a b i = 1#1) : (i 0).val < 3 := by
  by_contra hn
  rw [show i = ix3 (i 0) (i 1) (i 2) from by funext k; fin_cases k <;> rfl] at h
  unfold Cert.On_written.fn at h
  revert h
  pointwise
  have hp : (i 0).val < 6 := (i 0).isLt
  generalize (i 0).val = p at hn hp ⊢
  intro h
  interval_cases p
  all_goals exact absurd h (by decide)

theorem algebraic : Cert.algebraic_KernelIdeal_ReferenceIdeal_on_written_pre_finite := fun m g m' g' hm hargs => by
  have hR := reals_of_pre hm
  refine ⟨fun c => (fun i => ((Cert.Sb.grad (argP m c) (argC m c) (i 0).val (i 1).val (i 2).val : ℝ) : EReal) :
    Cert.KernelIdeal.S6x2048x1024.Idx → EReal), ?_, ?_⟩
  · refine (θ_run Cert.KernelIdeal.defs _ _).mono (fun r h c => ⟨fun i hi => ?_, (h c).2⟩) (Cert.KernelIdeal.Sb.run_value (ρ := g) hR)
    have h3 := written_lt _ _ i hi
    refine Eq.trans (congrArg _ (show i = ix3 (i 0) (i 1) (i 2) from by funext k; fin_cases k <;> rfl)) ?_
    exact (h c).1 (i 0) h3 (i 1) (i 2)
  · refine (θ_run Cert.ReferenceIdeal.defs _ _).mono (fun r h c => ⟨fun i hi => ?_, (h c).2⟩) (Cert.ReferenceIdeal.Value.run (F := Ideal) m' g')
    have h3 := written_lt _ _ i hi
    have hR' : Cert.ReferenceIdeal.Sb.Reals (StableHlo.launchContents m' c) (argP m c) (argC m c) :=
      ⟨fun r s hs => (congrFun (hargs c).1 (ix2 r s)).trans (hR.arg0 c r s hs),
        fun r s hs => (congrFun (hargs c).2 (ix2 r s)).trans (hR.arg1 c r s hs)⟩
    refine (congrFun (h c).1 i).trans ?_
    refine Eq.trans (congrArg _ (show i = ix3 (i 0) (i 1) (i 2) from by funext k; fin_cases k <;> rfl)) ?_
    exact Cert.ReferenceIdeal.Sb.result_at hR' (i 0) h3 (i 1) (i 2)

theorem claim : Cert.Claim := ⟨Cert.Kernel.Gen.facts, Cert.KernelIdeal.Gen.facts, Cert.ReferenceIdeal.Gen.facts,
  Cert.UpDw.Gen.facts, Cert.UpDwIdeal.Gen.facts, Cert.UpDwRefIdeal.Gen.facts,
  Cert.UpMm.Gen.facts, Cert.UpMmIdeal.Gen.facts, Cert.UpMmRefIdeal.Gen.facts,
  Cert.DownMm.Gen.facts, Cert.DownMmIdeal.Gen.facts, Cert.DownMmRefIdeal.Gen.facts,
  Cert.DownDx.Gen.facts, Cert.DownDxIdeal.Gen.facts, Cert.DownDxRefIdeal.Gen.facts,
  Cert.DownDw.Gen.facts, Cert.DownDwIdeal.Gen.facts, Cert.DownDwRefIdeal.Gen.facts,
  Cert.UpDx.Gen.facts, Cert.UpDxIdeal.Gen.facts, Cert.UpDxRefIdeal.Gen.facts,
  Cert.In0Mm.Gen.facts, Cert.In0MmIdeal.Gen.facts, Cert.In0MmRefIdeal.Gen.facts,
  Cert.In0Dw.Gen.facts, Cert.In0DwIdeal.Gen.facts, Cert.In0DwRefIdeal.Gen.facts,
  Cert.In0Dx.Gen.facts, Cert.In0DxIdeal.Gen.facts, Cert.In0DxRefIdeal.Gen.facts,
  Cert.In1Mm.Gen.facts, Cert.In1MmIdeal.Gen.facts, Cert.In1MmRefIdeal.Gen.facts,
  Cert.In1Dw.Gen.facts, Cert.In1DwIdeal.Gen.facts, Cert.In1DwRefIdeal.Gen.facts,
  Cert.In1Dx.Gen.facts, Cert.In1DxIdeal.Gen.facts, Cert.In1DxRefIdeal.Gen.facts,
  Cert.OutMm.Gen.facts, Cert.OutMmIdeal.Gen.facts, Cert.OutMmRefIdeal.Gen.facts,
  Cert.OutDx.Gen.facts, Cert.OutDxIdeal.Gen.facts, Cert.OutDxRefIdeal.Gen.facts,
  Cert.OutDw.Gen.facts, Cert.OutDwIdeal.Gen.facts, Cert.OutDwRefIdeal.Gen.facts,
  Cert.GateMm.Gen.facts, Cert.GateMmIdeal.Gen.facts, Cert.GateMmRefIdeal.Gen.facts,
  Cert.GateDw.Gen.facts, Cert.GateDwIdeal.Gen.facts, Cert.GateDwRefIdeal.Gen.facts,
  Cert.GateDx.Gen.facts, Cert.GateDxIdeal.Gen.facts, Cert.GateDxRefIdeal.Gen.facts,
  Cert.ShortBwd.Gen.facts, Cert.ShortBwdIdeal.Gen.facts, Cert.ShortBwdRefIdeal.Gen.facts,
  Cert.ShortFwd.Gen.facts, Cert.ShortFwdIdeal.Gen.facts, Cert.ShortFwdRefIdeal.Gen.facts,
  Cert.ActBwd.Gen.facts, Cert.ActBwdIdeal.Gen.facts, Cert.ActBwdRefIdeal.Gen.facts,
  Cert.ActFwd.Gen.facts, Cert.ActFwdIdeal.Gen.facts, Cert.ActFwdRefIdeal.Gen.facts,
  Cert.AdamIn0.Gen.facts, Cert.AdamIn0Ideal.Gen.facts, Cert.AdamIn0RefIdeal.Gen.facts,
  Cert.AdamOut.Gen.facts, Cert.AdamOutIdeal.Gen.facts, Cert.AdamOutRefIdeal.Gen.facts,
  Cert.AdamUp.Gen.facts, Cert.AdamUpIdeal.Gen.facts, Cert.AdamUpRefIdeal.Gen.facts,
  Cert.AdamDown.Gen.facts, Cert.AdamDownIdeal.Gen.facts, Cert.AdamDownRefIdeal.Gen.facts,
  Cert.NormBwd.Gen.facts, Cert.NormBwdIdeal.Gen.facts, Cert.NormBwdRefIdeal.Gen.facts,
  Cert.NormFwd.Gen.facts, Cert.NormFwdIdeal.Gen.facts, Cert.NormFwdRefIdeal.Gen.facts,
  Cert.LossHead.Gen.facts, Cert.LossHeadIdeal.Gen.facts, Cert.LossHeadRefIdeal.Gen.facts,
  Cert.SmallStep.Gen.facts, Cert.SmallStepIdeal.Gen.facts, Cert.SmallStepRefIdeal.Gen.facts,
  Cert.LastStep.Gen.facts, Cert.LastStepIdeal.Gen.facts, Cert.LastStepRefIdeal.Gen.facts,
  Cert.SmallSum.Gen.facts, Cert.SmallSumIdeal.Gen.facts, Cert.SmallSumRefIdeal.Gen.facts,
  Cert.LastSum.Gen.facts, Cert.LastSumIdeal.Gen.facts, Cert.LastSumRefIdeal.Gen.facts,
  Cert.AdamIn1.Gen.facts, Cert.AdamIn1Ideal.Gen.facts, Cert.AdamIn1RefIdeal.Gen.facts,
  Cert.Pre_finite.Gen.facts, Cert.Pre_act_finite.Gen.facts, Cert.Pre_chip_in0.Gen.facts, Cert.Pre_chip_out.Gen.facts, Cert.Pre_chip_up.Gen.facts, Cert.Pre_chip_down.Gen.facts, Cert.Pre_chip_in1.Gen.facts, Cert.On_written.Gen.facts,
  frame_kernel, frame_kernelIdeal, fun m g _ => frame_kernelIdeal m g trivial,
  frame_referenceIdeal, fun m g _ => frame_referenceIdeal m g trivial,
  Cert.UpDwIdeal.Product.frame, Cert.UpDwIdeal.Product.frameIdeal, Cert.UpDwIdeal.Product.frameReference,
  Cert.UpMmIdeal.Product.frame, Cert.UpMmIdeal.Product.frameIdeal, Cert.UpMmIdeal.Product.frameReference,
  Cert.DownMmIdeal.Product.frame, Cert.DownMmIdeal.Product.frameIdeal, Cert.DownMmIdeal.Product.frameReference,
  Cert.DownDxIdeal.Product.frame, Cert.DownDxIdeal.Product.frameIdeal, Cert.DownDxIdeal.Product.frameReference,
  Cert.DownDwIdeal.Product.frame, Cert.DownDwIdeal.Product.frameIdeal, Cert.DownDwIdeal.Product.frameReference,
  Cert.UpDxIdeal.Product.frame, Cert.UpDxIdeal.Product.frameIdeal, Cert.UpDxIdeal.Product.frameReference,
  Cert.In0MmIdeal.Product.frame, Cert.In0MmIdeal.Product.frameIdeal, Cert.In0MmIdeal.Product.frameReference,
  Cert.In0DwIdeal.Product.frame, Cert.In0DwIdeal.Product.frameIdeal, Cert.In0DwIdeal.Product.frameReference,
  Cert.In0DxIdeal.Product.frame, Cert.In0DxIdeal.Product.frameIdeal, Cert.In0DxIdeal.Product.frameReference,
  Cert.In1MmIdeal.Product.frame, Cert.In1MmIdeal.Product.frameIdeal, Cert.In1MmIdeal.Product.frameReference,
  Cert.In1DwIdeal.Product.frame, Cert.In1DwIdeal.Product.frameIdeal, Cert.In1DwIdeal.Product.frameReference,
  Cert.In1DxIdeal.Product.frame, Cert.In1DxIdeal.Product.frameIdeal, Cert.In1DxIdeal.Product.frameReference,
  Cert.OutMmIdeal.Product.frame, Cert.OutMmIdeal.Product.frameIdeal, Cert.OutMmIdeal.Product.frameReference,
  Cert.OutDxIdeal.Product.frame, Cert.OutDxIdeal.Product.frameIdeal, Cert.OutDxIdeal.Product.frameReference,
  Cert.OutDwIdeal.Product.frame, Cert.OutDwIdeal.Product.frameIdeal, Cert.OutDwIdeal.Product.frameReference,
  Cert.GateMmIdeal.Product.frame, Cert.GateMmIdeal.Product.frameIdeal, Cert.GateMmIdeal.Product.frameReference,
  Cert.GateDwIdeal.Product.frame, Cert.GateDwIdeal.Product.frameIdeal, Cert.GateDwIdeal.Product.frameReference,
  Cert.GateDxIdeal.Product.frame, Cert.GateDxIdeal.Product.frameIdeal, Cert.GateDxIdeal.Product.frameReference,
  Cert.ShortBwdIdeal.Product.frame, Cert.ShortBwdIdeal.Product.frameIdeal, Cert.ShortBwdIdeal.Product.frameReference,
  Cert.ShortFwdIdeal.Product.frame, Cert.ShortFwdIdeal.Product.frameIdeal, Cert.ShortFwdIdeal.Product.frameReference,
  Cert.ActBwdIdeal.Product.frame, Cert.ActBwdIdeal.Product.frameIdeal, fun m g _ => Cert.ActBwdIdeal.Product.frameIdeal m g trivial, Cert.ActBwdIdeal.Product.frameReference, fun m g _ => Cert.ActBwdIdeal.Product.frameReference m g trivial,
  Cert.ActFwdIdeal.Product.frame, Cert.ActFwdIdeal.Product.frameIdeal, Cert.ActFwdIdeal.Product.frameReference,
  Cert.AdamIn0Ideal.Product.frame, Cert.AdamIn0Ideal.Product.frameIdeal, Cert.AdamIn0Ideal.Product.frameReference, fun m g _ => Cert.AdamIn0Ideal.Product.frameReference m g trivial,
  Cert.AdamOutIdeal.Product.frame, Cert.AdamOutIdeal.Product.frameIdeal, Cert.AdamOutIdeal.Product.frameReference, fun m g _ => Cert.AdamOutIdeal.Product.frameReference m g trivial,
  Cert.AdamUpIdeal.Product.frame, Cert.AdamUpIdeal.Product.frameIdeal, Cert.AdamUpIdeal.Product.frameReference, fun m g _ => Cert.AdamUpIdeal.Product.frameReference m g trivial,
  Cert.AdamDownIdeal.Product.frame, Cert.AdamDownIdeal.Product.frameIdeal, Cert.AdamDownIdeal.Product.frameReference, fun m g _ => Cert.AdamDownIdeal.Product.frameReference m g trivial,
  Cert.NormBwdIdeal.Product.frame, Cert.NormBwdIdeal.Product.frameIdeal, Cert.NormBwdIdeal.Product.frameReference,
  Cert.NormFwdIdeal.Product.frame, Cert.NormFwdIdeal.Product.frameIdeal, Cert.NormFwdIdeal.Product.frameReference,
  Cert.LossHeadIdeal.Product.frame, Cert.LossHeadIdeal.Product.frameIdeal, Cert.LossHeadIdeal.Product.frameReference,
  Cert.SmallStepIdeal.Product.frame, Cert.SmallStepIdeal.Product.frameIdeal, Cert.SmallStepIdeal.Product.frameReference,
  Cert.LastStepIdeal.Product.frame, Cert.LastStepIdeal.Product.frameIdeal, Cert.LastStepIdeal.Product.frameReference,
  Cert.SmallSumIdeal.Product.frame, Cert.SmallSumIdeal.Product.frameIdeal, Cert.SmallSumIdeal.Product.frameReference,
  Cert.LastSumIdeal.Product.frame, Cert.LastSumIdeal.Product.frameIdeal, Cert.LastSumIdeal.Product.frameReference,
  Cert.AdamIn1Ideal.Product.frame, Cert.AdamIn1Ideal.Product.frameIdeal, Cert.AdamIn1Ideal.Product.frameReference, fun m g _ => Cert.AdamIn1Ideal.Product.frameReference m g trivial,
  trivial, algebraic,
  trivial, Cert.UpDwIdeal.Product.algebraic,
  trivial, Cert.UpMmIdeal.Product.algebraic,
  trivial, Cert.DownMmIdeal.Product.algebraic,
  trivial, Cert.DownDxIdeal.Product.algebraic,
  trivial, Cert.DownDwIdeal.Product.algebraic,
  trivial, Cert.UpDxIdeal.Product.algebraic,
  trivial, Cert.In0MmIdeal.Product.algebraic,
  trivial, Cert.In0DwIdeal.Product.algebraic,
  trivial, Cert.In0DxIdeal.Product.algebraic,
  trivial, Cert.In1MmIdeal.Product.algebraic,
  trivial, Cert.In1DwIdeal.Product.algebraic,
  trivial, Cert.In1DxIdeal.Product.algebraic,
  trivial, Cert.OutMmIdeal.Product.algebraic,
  trivial, Cert.OutDxIdeal.Product.algebraic,
  trivial, Cert.OutDwIdeal.Product.algebraic,
  trivial, Cert.GateMmIdeal.Product.algebraic,
  trivial, Cert.GateDwIdeal.Product.algebraic,
  trivial, Cert.GateDxIdeal.Product.algebraic,
  trivial, Cert.ShortBwdIdeal.Product.algebraic,
  trivial, Cert.ShortFwdIdeal.Product.algebraic,
  trivial, Cert.ActBwdIdeal.Product.algebraic,
  trivial, Cert.ActFwdIdeal.Product.algebraic,
  trivial, Cert.AdamIn0Ideal.Product.algebraic,
  trivial, Cert.AdamOutIdeal.Product.algebraic,
  trivial, Cert.AdamUpIdeal.Product.algebraic,
  trivial, Cert.AdamDownIdeal.Product.algebraic,
  trivial, Cert.NormBwdIdeal.Product.algebraic,
  trivial, Cert.NormFwdIdeal.Product.algebraic,
  trivial, Cert.LossHeadIdeal.Product.algebraic,
  trivial, Cert.SmallStepIdeal.Product.algebraic,
  trivial, Cert.LastStepIdeal.Product.algebraic,
  trivial, Cert.SmallSumIdeal.Product.algebraic,
  trivial, Cert.LastSumIdeal.Product.algebraic,
  trivial, Cert.AdamIn1Ideal.Product.algebraic⟩

end Cert.Proof

end
